-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Wup (m : (ℓ : Loc Cert.Wup.nD Cert.Wup.τ Cert.Wup.sig) → Buf (Elt Bits) ℓ) : Prop :=
  True

def Pre_WupIdeal (m : (ℓ : Loc Cert.WupIdeal.nD Cert.WupIdeal.τ Cert.WupIdeal.sig) → Buf (Elt Ideal) ℓ) : Prop :=
  True

def Pre_WupRefIdeal (m : (ℓ : Loc Cert.WupRefIdeal.nD Cert.WupRefIdeal.τ Cert.WupRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_out [hPre_finite_out : Cert.Pre_finite_out.Facts] (m : (ℓ : Loc Cert.OutIdeal.nD Cert.OutIdeal.τ Cert.OutIdeal.sig) → Buf (Elt Ideal) ℓ) : Prop :=
  ∀ c : Dev Cert.OutIdeal.nD,
    (Cert.Pre_finite_out.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2))).1 = (fun _ => 1#1)
    ∧ (Cert.Pre_finite_out.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2))).2.1 = (fun _ => 1#1)
    ∧ (Cert.Pre_finite_out.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2))).2.2 = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_out [hPre_finite_out : Cert.Pre_finite_out.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2))).1 = (fun _ => 1#1)
    ∧ (Cert.Pre_finite_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2))).2.1 = (fun _ => 1#1)
    ∧ (Cert.Pre_finite_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.2 = (fun _ => 1#1)

def Pre_Qb (m : (ℓ : Loc Cert.Qb.nD Cert.Qb.τ Cert.Qb.sig) → Buf (Elt Bits) ℓ) : Prop :=
  True

def Pre_QbIdeal (m : (ℓ : Loc Cert.QbIdeal.nD Cert.QbIdeal.τ Cert.QbIdeal.sig) → Buf (Elt Ideal) ℓ) : Prop :=
  True

def Pre_QbIdeal_finite_qb [hPre_finite_qb : Cert.Pre_finite_qb.Facts] (m : (ℓ : Loc Cert.QbIdeal.nD Cert.QbIdeal.τ Cert.QbIdeal.sig) → Buf (Elt Ideal) ℓ) : Prop :=
  ∀ c : Dev Cert.QbIdeal.nD,
    (Cert.Pre_finite_qb.fn (F := Ideal) (m ((c.tc : Thread Cert.QbIdeal.nD Cert.QbIdeal.τ).loc Cert.QbIdeal.main_arg0)) (m ((c.tc : Thread Cert.QbIdeal.nD Cert.QbIdeal.τ).loc Cert.QbIdeal.main_arg1)) (m ((c.tc : Thread Cert.QbIdeal.nD Cert.QbIdeal.τ).loc Cert.QbIdeal.main_arg2)) (m ((c.tc : Thread Cert.QbIdeal.nD Cert.QbIdeal.τ).loc Cert.QbIdeal.main_arg3))).1 = (fun _ => 1#1)
    ∧ (Cert.Pre_finite_qb.fn (F := Ideal) (m ((c.tc : Thread Cert.QbIdeal.nD Cert.QbIdeal.τ).loc Cert.QbIdeal.main_arg0)) (m ((c.tc : Thread Cert.QbIdeal.nD Cert.QbIdeal.τ).loc Cert.QbIdeal.main_arg1)) (m ((c.tc : Thread Cert.QbIdeal.nD Cert.QbIdeal.τ).loc Cert.QbIdeal.main_arg2)) (m ((c.tc : Thread Cert.QbIdeal.nD Cert.QbIdeal.τ).loc Cert.QbIdeal.main_arg3))).2.1 = (fun _ => 1#1)
    ∧ (Cert.Pre_finite_qb.fn (F := Ideal) (m ((c.tc : Thread Cert.QbIdeal.nD Cert.QbIdeal.τ).loc Cert.QbIdeal.main_arg0)) (m ((c.tc : Thread Cert.QbIdeal.nD Cert.QbIdeal.τ).loc Cert.QbIdeal.main_arg1)) (m ((c.tc : Thread Cert.QbIdeal.nD Cert.QbIdeal.τ).loc Cert.QbIdeal.main_arg2)) (m ((c.tc : Thread Cert.QbIdeal.nD Cert.QbIdeal.τ).loc Cert.QbIdeal.main_arg3))).2.2 = (fun _ => 1#1)

def Pre_QbRefIdeal (m : (ℓ : Loc Cert.QbRefIdeal.nD Cert.QbRefIdeal.τ Cert.QbRefIdeal.sig) → Buf (Elt Ideal) ℓ) : Prop :=
  True

def Pre_QbRefIdeal_finite_qb [hPre_finite_qb : Cert.Pre_finite_qb.Facts] (m : (ℓ : Loc Cert.QbRefIdeal.nD Cert.QbRefIdeal.τ Cert.QbRefIdeal.sig) → Buf (Elt Ideal) ℓ) : Prop :=
  ∀ c : Dev Cert.QbRefIdeal.nD,
    (Cert.Pre_finite_qb.fn (F := Ideal) (m ((c.tc : Thread Cert.QbRefIdeal.nD Cert.QbRefIdeal.τ).loc Cert.QbRefIdeal.main_arg0)) (m ((c.tc : Thread Cert.QbRefIdeal.nD Cert.QbRefIdeal.τ).loc Cert.QbRefIdeal.main_arg1)) (m ((c.tc : Thread Cert.QbRefIdeal.nD Cert.QbRefIdeal.τ).loc Cert.QbRefIdeal.main_arg2)) (m ((c.tc : Thread Cert.QbRefIdeal.nD Cert.QbRefIdeal.τ).loc Cert.QbRefIdeal.main_arg3))).1 = (fun _ => 1#1)
    ∧ (Cert.Pre_finite_qb.fn (F := Ideal) (m ((c.tc : Thread Cert.QbRefIdeal.nD Cert.QbRefIdeal.τ).loc Cert.QbRefIdeal.main_arg0)) (m ((c.tc : Thread Cert.QbRefIdeal.nD Cert.QbRefIdeal.τ).loc Cert.QbRefIdeal.main_arg1)) (m ((c.tc : Thread Cert.QbRefIdeal.nD Cert.QbRefIdeal.τ).loc Cert.QbRefIdeal.main_arg2)) (m ((c.tc : Thread Cert.QbRefIdeal.nD Cert.QbRefIdeal.τ).loc Cert.QbRefIdeal.main_arg3))).2.1 = (fun _ => 1#1)
    ∧ (Cert.Pre_finite_qb.fn (F := Ideal) (m ((c.tc : Thread Cert.QbRefIdeal.nD Cert.QbRefIdeal.τ).loc Cert.QbRefIdeal.main_arg0)) (m ((c.tc : Thread Cert.QbRefIdeal.nD Cert.QbRefIdeal.τ).loc Cert.QbRefIdeal.main_arg1)) (m ((c.tc : Thread Cert.QbRefIdeal.nD Cert.QbRefIdeal.τ).loc Cert.QbRefIdeal.main_arg2)) (m ((c.tc : Thread Cert.QbRefIdeal.nD Cert.QbRefIdeal.τ).loc Cert.QbRefIdeal.main_arg3))).2.2 = (fun _ => 1#1)

def Pre_Kb (m : (ℓ : Loc Cert.Kb.nD Cert.Kb.τ Cert.Kb.sig) → Buf (Elt Bits) ℓ) : Prop :=
  True

def Pre_KbIdeal (m : (ℓ : Loc Cert.KbIdeal.nD Cert.KbIdeal.τ Cert.KbIdeal.sig) → Buf (Elt Ideal) ℓ) : Prop :=
  True

def Pre_KbIdeal_finite_kb [hPre_finite_kb : Cert.Pre_finite_kb.Facts] (m : (ℓ : Loc Cert.KbIdeal.nD Cert.KbIdeal.τ Cert.KbIdeal.sig) → Buf (Elt Ideal) ℓ) : Prop :=
  ∀ c : Dev Cert.KbIdeal.nD,
    (Cert.Pre_finite_kb.fn (F := Ideal) (m ((c.tc : Thread Cert.KbIdeal.nD Cert.KbIdeal.τ).loc Cert.KbIdeal.main_arg0)) (m ((c.tc : Thread Cert.KbIdeal.nD Cert.KbIdeal.τ).loc Cert.KbIdeal.main_arg1)) (m ((c.tc : Thread Cert.KbIdeal.nD Cert.KbIdeal.τ).loc Cert.KbIdeal.main_arg2)) (m ((c.tc : Thread Cert.KbIdeal.nD Cert.KbIdeal.τ).loc Cert.KbIdeal.main_arg3))).1 = (fun _ => 1#1)
    ∧ (Cert.Pre_finite_kb.fn (F := Ideal) (m ((c.tc : Thread Cert.KbIdeal.nD Cert.KbIdeal.τ).loc Cert.KbIdeal.main_arg0)) (m ((c.tc : Thread Cert.KbIdeal.nD Cert.KbIdeal.τ).loc Cert.KbIdeal.main_arg1)) (m ((c.tc : Thread Cert.KbIdeal.nD Cert.KbIdeal.τ).loc Cert.KbIdeal.main_arg2)) (m ((c.tc : Thread Cert.KbIdeal.nD Cert.KbIdeal.τ).loc Cert.KbIdeal.main_arg3))).2.1 = (fun _ => 1#1)
    ∧ (Cert.Pre_finite_kb.fn (F := Ideal) (m ((c.tc : Thread Cert.KbIdeal.nD Cert.KbIdeal.τ).loc Cert.KbIdeal.main_arg0)) (m ((c.tc : Thread Cert.KbIdeal.nD Cert.KbIdeal.τ).loc Cert.KbIdeal.main_arg1)) (m ((c.tc : Thread Cert.KbIdeal.nD Cert.KbIdeal.τ).loc Cert.KbIdeal.main_arg2)) (m ((c.tc : Thread Cert.KbIdeal.nD Cert.KbIdeal.τ).loc Cert.KbIdeal.main_arg3))).2.2 = (fun _ => 1#1)

def Pre_KbRefIdeal (m : (ℓ : Loc Cert.KbRefIdeal.nD Cert.KbRefIdeal.τ Cert.KbRefIdeal.sig) → Buf (Elt Ideal) ℓ) : Prop :=
  True

def Pre_KbRefIdeal_finite_kb [hPre_finite_kb : Cert.Pre_finite_kb.Facts] (m : (ℓ : Loc Cert.KbRefIdeal.nD Cert.KbRefIdeal.τ Cert.KbRefIdeal.sig) → Buf (Elt Ideal) ℓ) : Prop :=
  ∀ c : Dev Cert.KbRefIdeal.nD,
    (Cert.Pre_finite_kb.fn (F := Ideal) (m ((c.tc : Thread Cert.KbRefIdeal.nD Cert.KbRefIdeal.τ).loc Cert.KbRefIdeal.main_arg0)) (m ((c.tc : Thread Cert.KbRefIdeal.nD Cert.KbRefIdeal.τ).loc Cert.KbRefIdeal.main_arg1)) (m ((c.tc : Thread Cert.KbRefIdeal.nD Cert.KbRefIdeal.τ).loc Cert.KbRefIdeal.main_arg2)) (m ((c.tc : Thread Cert.KbRefIdeal.nD Cert.KbRefIdeal.τ).loc Cert.KbRefIdeal.main_arg3))).1 = (fun _ => 1#1)
    ∧ (Cert.Pre_finite_kb.fn (F := Ideal) (m ((c.tc : Thread Cert.KbRefIdeal.nD Cert.KbRefIdeal.τ).loc Cert.KbRefIdeal.main_arg0)) (m ((c.tc : Thread Cert.KbRefIdeal.nD Cert.KbRefIdeal.τ).loc Cert.KbRefIdeal.main_arg1)) (m ((c.tc : Thread Cert.KbRefIdeal.nD Cert.KbRefIdeal.τ).loc Cert.KbRefIdeal.main_arg2)) (m ((c.tc : Thread Cert.KbRefIdeal.nD Cert.KbRefIdeal.τ).loc Cert.KbRefIdeal.main_arg3))).2.1 = (fun _ => 1#1)
    ∧ (Cert.Pre_finite_kb.fn (F := Ideal) (m ((c.tc : Thread Cert.KbRefIdeal.nD Cert.KbRefIdeal.τ).loc Cert.KbRefIdeal.main_arg0)) (m ((c.tc : Thread Cert.KbRefIdeal.nD Cert.KbRefIdeal.τ).loc Cert.KbRefIdeal.main_arg1)) (m ((c.tc : Thread Cert.KbRefIdeal.nD Cert.KbRefIdeal.τ).loc Cert.KbRefIdeal.main_arg2)) (m ((c.tc : Thread Cert.KbRefIdeal.nD Cert.KbRefIdeal.τ).loc Cert.KbRefIdeal.main_arg3))).2.2 = (fun _ => 1#1)

def Pre_Vb (m : (ℓ : Loc Cert.Vb.nD Cert.Vb.τ Cert.Vb.sig) → Buf (Elt Bits) ℓ) : Prop :=
  True

def Pre_VbIdeal (m : (ℓ : Loc Cert.VbIdeal.nD Cert.VbIdeal.τ Cert.VbIdeal.sig) → Buf (Elt Ideal) ℓ) : Prop :=
  True

def Pre_VbRefIdeal (m : (ℓ : Loc Cert.VbRefIdeal.nD Cert.VbRefIdeal.τ Cert.VbRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Vec (m : (ℓ : Loc Cert.Vec.nD Cert.Vec.τ Cert.Vec.sig) → Buf (Elt Bits) ℓ) : Prop :=
  True

def Pre_VecIdeal (m : (ℓ : Loc Cert.VecIdeal.nD Cert.VecIdeal.τ Cert.VecIdeal.sig) → Buf (Elt Ideal) ℓ) : Prop :=
  True

def Pre_VecRefIdeal (m : (ℓ : Loc Cert.VecRefIdeal.nD Cert.VecRefIdeal.τ Cert.VecRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def Pre_Steps (m : (ℓ : Loc Cert.Steps.nD Cert.Steps.τ Cert.Steps.sig) → Buf (Elt Bits) ℓ) : Prop :=
  True

def Pre_StepsIdeal (m : (ℓ : Loc Cert.StepsIdeal.nD Cert.StepsIdeal.τ Cert.StepsIdeal.sig) → Buf (Elt Ideal) ℓ) : Prop :=
  True

def Pre_StepsRefIdeal (m : (ℓ : Loc Cert.StepsRefIdeal.nD Cert.StepsRefIdeal.τ Cert.StepsRefIdeal.sig) → Buf (Elt Ideal) ℓ) : Prop :=
  True

def Pre_PartIn (m : (ℓ : Loc Cert.PartIn.nD Cert.PartIn.τ Cert.PartIn.sig) → Buf (Elt Bits) ℓ) : Prop :=
  True

def Pre_PartInIdeal (m : (ℓ : Loc Cert.PartInIdeal.nD Cert.PartInIdeal.τ Cert.PartInIdeal.sig) → Buf (Elt Ideal) ℓ) : Prop :=
  True

def Pre_PartInRefIdeal (m : (ℓ : Loc Cert.PartInRefIdeal.nD Cert.PartInRefIdeal.τ Cert.PartInRefIdeal.sig) → Buf (Elt Ideal) ℓ) : Prop :=
  True

def Pre_PartOut (m : (ℓ : Loc Cert.PartOut.nD Cert.PartOut.τ Cert.PartOut.sig) → Buf (Elt Bits) ℓ) : Prop :=
  True

def Pre_PartOutIdeal (m : (ℓ : Loc Cert.PartOutIdeal.nD Cert.PartOutIdeal.τ Cert.PartOutIdeal.sig) → Buf (Elt Ideal) ℓ) : Prop :=
  True

def Pre_PartOutRefIdeal (m : (ℓ : Loc Cert.PartOutRefIdeal.nD Cert.PartOutRefIdeal.τ Cert.PartOutRefIdeal.sig) → Buf (Elt Ideal) ℓ) : Prop :=
  True

def Pre_PartUp (m : (ℓ : Loc Cert.PartUp.nD Cert.PartUp.τ Cert.PartUp.sig) → Buf (Elt Bits) ℓ) : Prop :=
  True

def Pre_PartUpIdeal (m : (ℓ : Loc Cert.PartUpIdeal.nD Cert.PartUpIdeal.τ Cert.PartUpIdeal.sig) → Buf (Elt Ideal) ℓ) : Prop :=
  True

def Pre_PartUpRefIdeal (m : (ℓ : Loc Cert.PartUpRefIdeal.nD Cert.PartUpRefIdeal.τ Cert.PartUpRefIdeal.sig) → Buf (Elt Ideal) ℓ) : Prop :=
  True

def Pre_PartDown (m : (ℓ : Loc Cert.PartDown.nD Cert.PartDown.τ Cert.PartDown.sig) → Buf (Elt Bits) ℓ) : Prop :=
  True

def Pre_PartDownIdeal (m : (ℓ : Loc Cert.PartDownIdeal.nD Cert.PartDownIdeal.τ Cert.PartDownIdeal.sig) → Buf (Elt Ideal) ℓ) : Prop :=
  True

def Pre_PartDownRefIdeal (m : (ℓ : Loc Cert.PartDownRefIdeal.nD Cert.PartDownRefIdeal.τ Cert.PartDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Wup [hWup : Cert.Wup.Facts] : Prop :=
  ∀ (m : (ℓ : Loc Cert.Wup.nD Cert.Wup.τ Cert.Wup.sig) → Buf (Elt Bits) ℓ) (g : Dev Cert.Wup.nD → PrngReg), Pre_Wup m →
    θ_run (Cert.Wup.defs (F := Bits)) (onTc (τ := Cert.Wup.τ) (Cert.Wup.main (F := Bits))) ⟨m, fun _ => 0, g⟩ (fun r => (∀ c : Dev Cert.Wup.nD,
      r.2.mem ((c.tc : Thread Cert.Wup.nD Cert.Wup.τ).loc Cert.Wup.main_arg0) = m ((c.tc : Thread Cert.Wup.nD Cert.Wup.τ).loc Cert.Wup.main_arg0)
      ∧ r.2.mem ((c.tc : Thread Cert.Wup.nD Cert.Wup.τ).loc Cert.Wup.main_arg1) = m ((c.tc : Thread Cert.Wup.nD Cert.Wup.τ).loc Cert.Wup.main_arg1)
      ∧ r.2.mem ((c.tc : Thread Cert.Wup.nD Cert.Wup.τ).loc Cert.Wup.main_arg2) = m ((c.tc : Thread Cert.Wup.nD Cert.Wup.τ).loc Cert.Wup.main_arg2))
      ∧ r.2.sem = fun _ => 0)

def quiescent_WupIdeal [hWupIdeal : Cert.WupIdeal.Facts] : Prop :=
  ∀ (m : (ℓ : Loc Cert.WupIdeal.nD Cert.WupIdeal.τ Cert.WupIdeal.sig) → Buf (Elt Ideal) ℓ) (g : Dev Cert.WupIdeal.nD → PrngReg), Pre_WupIdeal m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
      ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ r.2.sem = fun _ => 0)

def quiescent_WupRefIdeal [hWupRefIdeal : Cert.WupRefIdeal.Facts] : Prop :=
  ∀ (m : (ℓ : Loc Cert.WupRefIdeal.nD Cert.WupRefIdeal.τ Cert.WupRefIdeal.sig) → Buf (Elt Ideal) ℓ) (g : Dev Cert.WupRefIdeal.nD → PrngReg), Pre_WupRefIdeal m →
    θ_run (Cert.WupRefIdeal.defs (F := Ideal)) (onTc (τ := Cert.WupRefIdeal.τ) (Cert.WupRefIdeal.main (F := Ideal))) ⟨m, fun _ => 0, g⟩ (fun r => (∀ c : Dev Cert.WupRefIdeal.nD,
      r.2.mem ((c.tc : Thread Cert.WupRefIdeal.nD Cert.WupRefIdeal.τ).loc Cert.WupRefIdeal.main_arg0) = m ((c.tc : Thread Cert.WupRefIdeal.nD Cert.WupRefIdeal.τ).loc Cert.WupRefIdeal.main_arg0)
      ∧ r.2.mem ((c.tc : Thread Cert.WupRefIdeal.nD Cert.WupRefIdeal.τ).loc Cert.WupRefIdeal.main_arg1) = m ((c.tc : Thread Cert.WupRefIdeal.nD Cert.WupRefIdeal.τ).loc Cert.WupRefIdeal.main_arg1)
      ∧ r.2.mem ((c.tc : Thread Cert.WupRefIdeal.nD Cert.WupRefIdeal.τ).loc Cert.WupRefIdeal.main_arg2) = m ((c.tc : Thread Cert.WupRefIdeal.nD Cert.WupRefIdeal.τ).loc Cert.WupRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutIdeal_pre_finite_out [hOutIdeal : Cert.OutIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_out m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutRefIdeal_pre_finite_out [hOutRefIdeal : Cert.OutRefIdeal.Facts] [hPre_finite_out : Cert.Pre_finite_out.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_out m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Qb [hQb : Cert.Qb.Facts] : Prop :=
  ∀ (m : (ℓ : Loc Cert.Qb.nD Cert.Qb.τ Cert.Qb.sig) → Buf (Elt Bits) ℓ) (g : Dev Cert.Qb.nD → PrngReg), Pre_Qb m →
    θ_run (Cert.Qb.defs (F := Bits)) (onTc (τ := Cert.Qb.τ) (Cert.Qb.main (F := Bits))) ⟨m, fun _ => 0, g⟩ (fun r => (∀ c : Dev Cert.Qb.nD,
      r.2.mem ((c.tc : Thread Cert.Qb.nD Cert.Qb.τ).loc Cert.Qb.main_arg0) = m ((c.tc : Thread Cert.Qb.nD Cert.Qb.τ).loc Cert.Qb.main_arg0)
      ∧ r.2.mem ((c.tc : Thread Cert.Qb.nD Cert.Qb.τ).loc Cert.Qb.main_arg1) = m ((c.tc : Thread Cert.Qb.nD Cert.Qb.τ).loc Cert.Qb.main_arg1)
      ∧ r.2.mem ((c.tc : Thread Cert.Qb.nD Cert.Qb.τ).loc Cert.Qb.main_arg2) = m ((c.tc : Thread Cert.Qb.nD Cert.Qb.τ).loc Cert.Qb.main_arg2)
      ∧ r.2.mem ((c.tc : Thread Cert.Qb.nD Cert.Qb.τ).loc Cert.Qb.main_arg3) = m ((c.tc : Thread Cert.Qb.nD Cert.Qb.τ).loc Cert.Qb.main_arg3))
      ∧ r.2.sem = fun _ => 0)

def quiescent_QbIdeal [hQbIdeal : Cert.QbIdeal.Facts] : Prop :=
  ∀ (m : (ℓ : Loc Cert.QbIdeal.nD Cert.QbIdeal.τ Cert.QbIdeal.sig) → Buf (Elt Ideal) ℓ) (g : Dev Cert.QbIdeal.nD → PrngReg), Pre_QbIdeal m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1)
      ∧ r.2.mem ((c.tc : Thread Cert.QbIdeal.nD Cert.QbIdeal.τ).loc Cert.QbIdeal.main_arg2) = m ((c.tc : Thread Cert.QbIdeal.nD Cert.QbIdeal.τ).loc Cert.QbIdeal.main_arg2)
      ∧ r.2.mem ((c.tc : Thread Cert.QbIdeal.nD Cert.QbIdeal.τ).loc Cert.QbIdeal.main_arg3) = m ((c.tc : Thread Cert.QbIdeal.nD Cert.QbIdeal.τ).loc Cert.QbIdeal.main_arg3))
      ∧ r.2.sem = fun _ => 0)

def quiescent_QbIdeal_pre_finite_qb [hQbIdeal : Cert.QbIdeal.Facts] [hPre_finite_qb : Cert.Pre_finite_qb.Facts] : Prop :=
  ∀ (m : (ℓ : Loc Cert.QbIdeal.nD Cert.QbIdeal.τ Cert.QbIdeal.sig) → Buf (Elt Ideal) ℓ) (g : Dev Cert.QbIdeal.nD → PrngReg), Pre_QbIdeal_finite_qb m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1)
      ∧ r.2.mem ((c.tc : Thread Cert.QbIdeal.nD Cert.QbIdeal.τ).loc Cert.QbIdeal.main_arg2) = m ((c.tc : Thread Cert.QbIdeal.nD Cert.QbIdeal.τ).loc Cert.QbIdeal.main_arg2)
      ∧ r.2.mem ((c.tc : Thread Cert.QbIdeal.nD Cert.QbIdeal.τ).loc Cert.QbIdeal.main_arg3) = m ((c.tc : Thread Cert.QbIdeal.nD Cert.QbIdeal.τ).loc Cert.QbIdeal.main_arg3))
      ∧ r.2.sem = fun _ => 0)

def quiescent_QbRefIdeal [hQbRefIdeal : Cert.QbRefIdeal.Facts] : Prop :=
  ∀ (m : (ℓ : Loc Cert.QbRefIdeal.nD Cert.QbRefIdeal.τ Cert.QbRefIdeal.sig) → Buf (Elt Ideal) ℓ) (g : Dev Cert.QbRefIdeal.nD → PrngReg), Pre_QbRefIdeal m →
    θ_run (Cert.QbRefIdeal.defs (F := Ideal)) (onTc (τ := Cert.QbRefIdeal.τ) (Cert.QbRefIdeal.main (F := Ideal))) ⟨m, fun _ => 0, g⟩ (fun r => (∀ c : Dev Cert.QbRefIdeal.nD,
      r.2.mem ((c.tc : Thread Cert.QbRefIdeal.nD Cert.QbRefIdeal.τ).loc Cert.QbRefIdeal.main_arg0) = m ((c.tc : Thread Cert.QbRefIdeal.nD Cert.QbRefIdeal.τ).loc Cert.QbRefIdeal.main_arg0)
      ∧ r.2.mem ((c.tc : Thread Cert.QbRefIdeal.nD Cert.QbRefIdeal.τ).loc Cert.QbRefIdeal.main_arg1) = m ((c.tc : Thread Cert.QbRefIdeal.nD Cert.QbRefIdeal.τ).loc Cert.QbRefIdeal.main_arg1)
      ∧ r.2.mem ((c.tc : Thread Cert.QbRefIdeal.nD Cert.QbRefIdeal.τ).loc Cert.QbRefIdeal.main_arg2) = m ((c.tc : Thread Cert.QbRefIdeal.nD Cert.QbRefIdeal.τ).loc Cert.QbRefIdeal.main_arg2)
      ∧ r.2.mem ((c.tc : Thread Cert.QbRefIdeal.nD Cert.QbRefIdeal.τ).loc Cert.QbRefIdeal.main_arg3) = m ((c.tc : Thread Cert.QbRefIdeal.nD Cert.QbRefIdeal.τ).loc Cert.QbRefIdeal.main_arg3))
      ∧ r.2.sem = fun _ => 0)

def quiescent_QbRefIdeal_pre_finite_qb [hQbRefIdeal : Cert.QbRefIdeal.Facts] [hPre_finite_qb : Cert.Pre_finite_qb.Facts] : Prop :=
  ∀ (m : (ℓ : Loc Cert.QbRefIdeal.nD Cert.QbRefIdeal.τ Cert.QbRefIdeal.sig) → Buf (Elt Ideal) ℓ) (g : Dev Cert.QbRefIdeal.nD → PrngReg), Pre_QbRefIdeal_finite_qb m →
    θ_run (Cert.QbRefIdeal.defs (F := Ideal)) (onTc (τ := Cert.QbRefIdeal.τ) (Cert.QbRefIdeal.main (F := Ideal))) ⟨m, fun _ => 0, g⟩ (fun r => (∀ c : Dev Cert.QbRefIdeal.nD,
      r.2.mem ((c.tc : Thread Cert.QbRefIdeal.nD Cert.QbRefIdeal.τ).loc Cert.QbRefIdeal.main_arg0) = m ((c.tc : Thread Cert.QbRefIdeal.nD Cert.QbRefIdeal.τ).loc Cert.QbRefIdeal.main_arg0)
      ∧ r.2.mem ((c.tc : Thread Cert.QbRefIdeal.nD Cert.QbRefIdeal.τ).loc Cert.QbRefIdeal.main_arg1) = m ((c.tc : Thread Cert.QbRefIdeal.nD Cert.QbRefIdeal.τ).loc Cert.QbRefIdeal.main_arg1)
      ∧ r.2.mem ((c.tc : Thread Cert.QbRefIdeal.nD Cert.QbRefIdeal.τ).loc Cert.QbRefIdeal.main_arg2) = m ((c.tc : Thread Cert.QbRefIdeal.nD Cert.QbRefIdeal.τ).loc Cert.QbRefIdeal.main_arg2)
      ∧ r.2.mem ((c.tc : Thread Cert.QbRefIdeal.nD Cert.QbRefIdeal.τ).loc Cert.QbRefIdeal.main_arg3) = m ((c.tc : Thread Cert.QbRefIdeal.nD Cert.QbRefIdeal.τ).loc Cert.QbRefIdeal.main_arg3))
      ∧ r.2.sem = fun _ => 0)

def quiescent_Kb [hKb : Cert.Kb.Facts] : Prop :=
  ∀ (m : (ℓ : Loc Cert.Kb.nD Cert.Kb.τ Cert.Kb.sig) → Buf (Elt Bits) ℓ) (g : Dev Cert.Kb.nD → PrngReg), Pre_Kb m →
    θ_run (Cert.Kb.defs (F := Bits)) (onTc (τ := Cert.Kb.τ) (Cert.Kb.main (F := Bits))) ⟨m, fun _ => 0, g⟩ (fun r => (∀ c : Dev Cert.Kb.nD,
      r.2.mem ((c.tc : Thread Cert.Kb.nD Cert.Kb.τ).loc Cert.Kb.main_arg0) = m ((c.tc : Thread Cert.Kb.nD Cert.Kb.τ).loc Cert.Kb.main_arg0)
      ∧ r.2.mem ((c.tc : Thread Cert.Kb.nD Cert.Kb.τ).loc Cert.Kb.main_arg1) = m ((c.tc : Thread Cert.Kb.nD Cert.Kb.τ).loc Cert.Kb.main_arg1)
      ∧ r.2.mem ((c.tc : Thread Cert.Kb.nD Cert.Kb.τ).loc Cert.Kb.main_arg2) = m ((c.tc : Thread Cert.Kb.nD Cert.Kb.τ).loc Cert.Kb.main_arg2)
      ∧ r.2.mem ((c.tc : Thread Cert.Kb.nD Cert.Kb.τ).loc Cert.Kb.main_arg3) = m ((c.tc : Thread Cert.Kb.nD Cert.Kb.τ).loc Cert.Kb.main_arg3))
      ∧ r.2.sem = fun _ => 0)

def quiescent_KbIdeal [hKbIdeal : Cert.KbIdeal.Facts] : Prop :=
  ∀ (m : (ℓ : Loc Cert.KbIdeal.nD Cert.KbIdeal.τ Cert.KbIdeal.sig) → Buf (Elt Ideal) ℓ) (g : Dev Cert.KbIdeal.nD → PrngReg), Pre_KbIdeal m →
    θ_run (Cert.KbIdeal.defs (F := Ideal)) (onTc (τ := Cert.KbIdeal.τ) (Cert.KbIdeal.main (F := Ideal))) ⟨m, fun _ => 0, g⟩ (fun r => (∀ c : Dev Cert.KbIdeal.nD,
      r.2.mem ((c.tc : Thread Cert.KbIdeal.nD Cert.KbIdeal.τ).loc Cert.KbIdeal.main_arg0) = m ((c.tc : Thread Cert.KbIdeal.nD Cert.KbIdeal.τ).loc Cert.KbIdeal.main_arg0)
      ∧ r.2.mem ((c.tc : Thread Cert.KbIdeal.nD Cert.KbIdeal.τ).loc Cert.KbIdeal.main_arg1) = m ((c.tc : Thread Cert.KbIdeal.nD Cert.KbIdeal.τ).loc Cert.KbIdeal.main_arg1)
      ∧ r.2.mem ((c.tc : Thread Cert.KbIdeal.nD Cert.KbIdeal.τ).loc Cert.KbIdeal.main_arg2) = m ((c.tc : Thread Cert.KbIdeal.nD Cert.KbIdeal.τ).loc Cert.KbIdeal.main_arg2)
      ∧ r.2.mem ((c.tc : Thread Cert.KbIdeal.nD Cert.KbIdeal.τ).loc Cert.KbIdeal.main_arg3) = m ((c.tc : Thread Cert.KbIdeal.nD Cert.KbIdeal.τ).loc Cert.KbIdeal.main_arg3))
      ∧ r.2.sem = fun _ => 0)

def quiescent_KbIdeal_pre_finite_kb [hKbIdeal : Cert.KbIdeal.Facts] [hPre_finite_kb : Cert.Pre_finite_kb.Facts] : Prop :=
  ∀ (m : (ℓ : Loc Cert.KbIdeal.nD Cert.KbIdeal.τ Cert.KbIdeal.sig) → Buf (Elt Ideal) ℓ) (g : Dev Cert.KbIdeal.nD → PrngReg), Pre_KbIdeal_finite_kb m →
    θ_run (Cert.KbIdeal.defs (F := Ideal)) (onTc (τ := Cert.KbIdeal.τ) (Cert.KbIdeal.main (F := Ideal))) ⟨m, fun _ => 0, g⟩ (fun r => (∀ c : Dev Cert.KbIdeal.nD,
      r.2.mem ((c.tc : Thread Cert.KbIdeal.nD Cert.KbIdeal.τ).loc Cert.KbIdeal.main_arg0) = m ((c.tc : Thread Cert.KbIdeal.nD Cert.KbIdeal.τ).loc Cert.KbIdeal.main_arg0)
      ∧ r.2.mem ((c.tc : Thread Cert.KbIdeal.nD Cert.KbIdeal.τ).loc Cert.KbIdeal.main_arg1) = m ((c.tc : Thread Cert.KbIdeal.nD Cert.KbIdeal.τ).loc Cert.KbIdeal.main_arg1)
      ∧ r.2.mem ((c.tc : Thread Cert.KbIdeal.nD Cert.KbIdeal.τ).loc Cert.KbIdeal.main_arg2) = m ((c.tc : Thread Cert.KbIdeal.nD Cert.KbIdeal.τ).loc Cert.KbIdeal.main_arg2)
      ∧ r.2.mem ((c.tc : Thread Cert.KbIdeal.nD Cert.KbIdeal.τ).loc Cert.KbIdeal.main_arg3) = m ((c.tc : Thread Cert.KbIdeal.nD Cert.KbIdeal.τ).loc Cert.KbIdeal.main_arg3))
      ∧ r.2.sem = fun _ => 0)

def quiescent_KbRefIdeal [hKbRefIdeal : Cert.KbRefIdeal.Facts] : Prop :=
  ∀ (m : (ℓ : Loc Cert.KbRefIdeal.nD Cert.KbRefIdeal.τ Cert.KbRefIdeal.sig) → Buf (Elt Ideal) ℓ) (g : Dev Cert.KbRefIdeal.nD → PrngReg), Pre_KbRefIdeal m →
    θ_run (Cert.KbRefIdeal.defs (F := Ideal)) (onTc (τ := Cert.KbRefIdeal.τ) (Cert.KbRefIdeal.main (F := Ideal))) ⟨m, fun _ => 0, g⟩ (fun r => (∀ c : Dev Cert.KbRefIdeal.nD,
      r.2.mem ((c.tc : Thread Cert.KbRefIdeal.nD Cert.KbRefIdeal.τ).loc Cert.KbRefIdeal.main_arg0) = m ((c.tc : Thread Cert.KbRefIdeal.nD Cert.KbRefIdeal.τ).loc Cert.KbRefIdeal.main_arg0)
      ∧ r.2.mem ((c.tc : Thread Cert.KbRefIdeal.nD Cert.KbRefIdeal.τ).loc Cert.KbRefIdeal.main_arg1) = m ((c.tc : Thread Cert.KbRefIdeal.nD Cert.KbRefIdeal.τ).loc Cert.KbRefIdeal.main_arg1)
      ∧ r.2.mem ((c.tc : Thread Cert.KbRefIdeal.nD Cert.KbRefIdeal.τ).loc Cert.KbRefIdeal.main_arg2) = m ((c.tc : Thread Cert.KbRefIdeal.nD Cert.KbRefIdeal.τ).loc Cert.KbRefIdeal.main_arg2)
      ∧ r.2.mem ((c.tc : Thread Cert.KbRefIdeal.nD Cert.KbRefIdeal.τ).loc Cert.KbRefIdeal.main_arg3) = m ((c.tc : Thread Cert.KbRefIdeal.nD Cert.KbRefIdeal.τ).loc Cert.KbRefIdeal.main_arg3))
      ∧ r.2.sem = fun _ => 0)

def quiescent_KbRefIdeal_pre_finite_kb [hKbRefIdeal : Cert.KbRefIdeal.Facts] [hPre_finite_kb : Cert.Pre_finite_kb.Facts] : Prop :=
  ∀ (m : (ℓ : Loc Cert.KbRefIdeal.nD Cert.KbRefIdeal.τ Cert.KbRefIdeal.sig) → Buf (Elt Ideal) ℓ) (g : Dev Cert.KbRefIdeal.nD → PrngReg), Pre_KbRefIdeal_finite_kb m →
    θ_run (Cert.KbRefIdeal.defs (F := Ideal)) (onTc (τ := Cert.KbRefIdeal.τ) (Cert.KbRefIdeal.main (F := Ideal))) ⟨m, fun _ => 0, g⟩ (fun r => (∀ c : Dev Cert.KbRefIdeal.nD,
      r.2.mem ((c.tc : Thread Cert.KbRefIdeal.nD Cert.KbRefIdeal.τ).loc Cert.KbRefIdeal.main_arg0) = m ((c.tc : Thread Cert.KbRefIdeal.nD Cert.KbRefIdeal.τ).loc Cert.KbRefIdeal.main_arg0)
      ∧ r.2.mem ((c.tc : Thread Cert.KbRefIdeal.nD Cert.KbRefIdeal.τ).loc Cert.KbRefIdeal.main_arg1) = m ((c.tc : Thread Cert.KbRefIdeal.nD Cert.KbRefIdeal.τ).loc Cert.KbRefIdeal.main_arg1)
      ∧ r.2.mem ((c.tc : Thread Cert.KbRefIdeal.nD Cert.KbRefIdeal.τ).loc Cert.KbRefIdeal.main_arg2) = m ((c.tc : Thread Cert.KbRefIdeal.nD Cert.KbRefIdeal.τ).loc Cert.KbRefIdeal.main_arg2)
      ∧ r.2.mem ((c.tc : Thread Cert.KbRefIdeal.nD Cert.KbRefIdeal.τ).loc Cert.KbRefIdeal.main_arg3) = m ((c.tc : Thread Cert.KbRefIdeal.nD Cert.KbRefIdeal.τ).loc Cert.KbRefIdeal.main_arg3))
      ∧ r.2.sem = fun _ => 0)

def quiescent_Vb [hVb : Cert.Vb.Facts] : Prop :=
  ∀ (m : (ℓ : Loc Cert.Vb.nD Cert.Vb.τ Cert.Vb.sig) → Buf (Elt Bits) ℓ) (g : Dev Cert.Vb.nD → PrngReg), Pre_Vb m →
    θ_run (Cert.Vb.defs (F := Bits)) (onTc (τ := Cert.Vb.τ) (Cert.Vb.main (F := Bits))) ⟨m, fun _ => 0, g⟩ (fun r => (∀ c : Dev Cert.Vb.nD,
      r.2.mem ((c.tc : Thread Cert.Vb.nD Cert.Vb.τ).loc Cert.Vb.main_arg0) = m ((c.tc : Thread Cert.Vb.nD Cert.Vb.τ).loc Cert.Vb.main_arg0)
      ∧ r.2.mem ((c.tc : Thread Cert.Vb.nD Cert.Vb.τ).loc Cert.Vb.main_arg1) = m ((c.tc : Thread Cert.Vb.nD Cert.Vb.τ).loc Cert.Vb.main_arg1))
      ∧ r.2.sem = fun _ => 0)

def quiescent_VbIdeal [hVbIdeal : Cert.VbIdeal.Facts] : Prop :=
  ∀ (m : (ℓ : Loc Cert.VbIdeal.nD Cert.VbIdeal.τ Cert.VbIdeal.sig) → Buf (Elt Ideal) ℓ) (g : Dev Cert.VbIdeal.nD → PrngReg), Pre_VbIdeal m →
    θ_run (Cert.VbIdeal.defs (F := Ideal)) (onTc (τ := Cert.VbIdeal.τ) (Cert.VbIdeal.main (F := Ideal))) ⟨m, fun _ => 0, g⟩ (fun r => (∀ c : Dev Cert.VbIdeal.nD,
      r.2.mem ((c.tc : Thread Cert.VbIdeal.nD Cert.VbIdeal.τ).loc Cert.VbIdeal.main_arg0) = m ((c.tc : Thread Cert.VbIdeal.nD Cert.VbIdeal.τ).loc Cert.VbIdeal.main_arg0)
      ∧ r.2.mem ((c.tc : Thread Cert.VbIdeal.nD Cert.VbIdeal.τ).loc Cert.VbIdeal.main_arg1) = m ((c.tc : Thread Cert.VbIdeal.nD Cert.VbIdeal.τ).loc Cert.VbIdeal.main_arg1))
      ∧ r.2.sem = fun _ => 0)

def quiescent_VbRefIdeal [hVbRefIdeal : Cert.VbRefIdeal.Facts] : Prop :=
  ∀ (m : (ℓ : Loc Cert.VbRefIdeal.nD Cert.VbRefIdeal.τ Cert.VbRefIdeal.sig) → Buf (Elt Ideal) ℓ) (g : Dev Cert.VbRefIdeal.nD → PrngReg), Pre_VbRefIdeal m →
    θ_run (Cert.VbRefIdeal.defs (F := Ideal)) (onTc (τ := Cert.VbRefIdeal.τ) (Cert.VbRefIdeal.main (F := Ideal))) ⟨m, fun _ => 0, g⟩ (fun r => (∀ c : Dev Cert.VbRefIdeal.nD,
      r.2.mem ((c.tc : Thread Cert.VbRefIdeal.nD Cert.VbRefIdeal.τ).loc Cert.VbRefIdeal.main_arg0) = m ((c.tc : Thread Cert.VbRefIdeal.nD Cert.VbRefIdeal.τ).loc Cert.VbRefIdeal.main_arg0)
      ∧ r.2.mem ((c.tc : Thread Cert.VbRefIdeal.nD Cert.VbRefIdeal.τ).loc Cert.VbRefIdeal.main_arg1) = m ((c.tc : Thread Cert.VbRefIdeal.nD Cert.VbRefIdeal.τ).loc Cert.VbRefIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_Vec [hVec : Cert.Vec.Facts] : Prop :=
  ∀ (m : (ℓ : Loc Cert.Vec.nD Cert.Vec.τ Cert.Vec.sig) → Buf (Elt Bits) ℓ) (g : Dev Cert.Vec.nD → PrngReg), Pre_Vec m →
    θ_run (Cert.Vec.defs (F := Bits)) (onTc (τ := Cert.Vec.τ) (Cert.Vec.main (F := Bits))) ⟨m, fun _ => 0, g⟩ (fun r => (∀ c : Dev Cert.Vec.nD,
      r.2.mem ((c.tc : Thread Cert.Vec.nD Cert.Vec.τ).loc Cert.Vec.main_arg0) = m ((c.tc : Thread Cert.Vec.nD Cert.Vec.τ).loc Cert.Vec.main_arg0))
      ∧ r.2.sem = fun _ => 0)

def quiescent_VecIdeal [hVecIdeal : Cert.VecIdeal.Facts] : Prop :=
  ∀ (m : (ℓ : Loc Cert.VecIdeal.nD Cert.VecIdeal.τ Cert.VecIdeal.sig) → Buf (Elt Ideal) ℓ) (g : Dev Cert.VecIdeal.nD → PrngReg), Pre_VecIdeal m →
    θ_run (Cert.VecIdeal.defs (F := Ideal)) (onTc (τ := Cert.VecIdeal.τ) (Cert.VecIdeal.main (F := Ideal))) ⟨m, fun _ => 0, g⟩ (fun r => (∀ c : Dev Cert.VecIdeal.nD,
      r.2.mem ((c.tc : Thread Cert.VecIdeal.nD Cert.VecIdeal.τ).loc Cert.VecIdeal.main_arg0) = m ((c.tc : Thread Cert.VecIdeal.nD Cert.VecIdeal.τ).loc Cert.VecIdeal.main_arg0))
      ∧ r.2.sem = fun _ => 0)

def quiescent_VecRefIdeal [hVecRefIdeal : Cert.VecRefIdeal.Facts] : Prop :=
  ∀ (m : (ℓ : Loc Cert.VecRefIdeal.nD Cert.VecRefIdeal.τ Cert.VecRefIdeal.sig) → Buf (Elt Ideal) ℓ) (g : Dev Cert.VecRefIdeal.nD → PrngReg), Pre_VecRefIdeal m →
    θ_run (Cert.VecRefIdeal.defs (F := Ideal)) (onTc (τ := Cert.VecRefIdeal.τ) (Cert.VecRefIdeal.main (F := Ideal))) ⟨m, fun _ => 0, g⟩ (fun r => (∀ c : Dev Cert.VecRefIdeal.nD,
      r.2.mem ((c.tc : Thread Cert.VecRefIdeal.nD Cert.VecRefIdeal.τ).loc Cert.VecRefIdeal.main_arg0) = m ((c.tc : Thread Cert.VecRefIdeal.nD Cert.VecRefIdeal.τ).loc Cert.VecRefIdeal.main_arg0))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1)
      ∧ r.2.mem ((c.tc : Thread Cert.Sums.nD Cert.Sums.τ).loc Cert.Sums.main_arg2) = m ((c.tc : Thread Cert.Sums.nD Cert.Sums.τ).loc Cert.Sums.main_arg2)
      ∧ r.2.mem ((c.tc : Thread Cert.Sums.nD Cert.Sums.τ).loc Cert.Sums.main_arg3) = m ((c.tc : Thread Cert.Sums.nD Cert.Sums.τ).loc Cert.Sums.main_arg3)
      ∧ r.2.mem ((c.tc : Thread Cert.Sums.nD Cert.Sums.τ).loc Cert.Sums.main_arg4) = m ((c.tc : Thread Cert.Sums.nD Cert.Sums.τ).loc Cert.Sums.main_arg4)
      ∧ r.2.mem ((c.tc : Thread Cert.Sums.nD Cert.Sums.τ).loc Cert.Sums.main_arg5) = m ((c.tc : Thread Cert.Sums.nD Cert.Sums.τ).loc Cert.Sums.main_arg5)
      ∧ r.2.mem ((c.tc : Thread Cert.Sums.nD Cert.Sums.τ).loc Cert.Sums.main_arg6) = m ((c.tc : Thread Cert.Sums.nD Cert.Sums.τ).loc Cert.Sums.main_arg6)
      ∧ r.2.mem ((c.tc : Thread Cert.Sums.nD Cert.Sums.τ).loc Cert.Sums.main_arg7) = m ((c.tc : Thread Cert.Sums.nD Cert.Sums.τ).loc Cert.Sums.main_arg7)
      ∧ r.2.mem ((c.tc : Thread Cert.Sums.nD Cert.Sums.τ).loc Cert.Sums.main_arg8) = m ((c.tc : Thread Cert.Sums.nD Cert.Sums.τ).loc Cert.Sums.main_arg8)
      ∧ r.2.mem ((c.tc : Thread Cert.Sums.nD Cert.Sums.τ).loc Cert.Sums.main_arg9) = m ((c.tc : Thread Cert.Sums.nD Cert.Sums.τ).loc Cert.Sums.main_arg9)
      ∧ r.2.mem ((c.tc : Thread Cert.Sums.nD Cert.Sums.τ).loc Cert.Sums.main_arg10) = m ((c.tc : Thread Cert.Sums.nD Cert.Sums.τ).loc Cert.Sums.main_arg10))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
      ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
      ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
      ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
      ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
      ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
      ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
      ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9)
      ∧ r.2.mem ((c.tc : Thread Cert.SumsIdeal.nD Cert.SumsIdeal.τ).loc Cert.SumsIdeal.main_arg10) = m ((c.tc : Thread Cert.SumsIdeal.nD Cert.SumsIdeal.τ).loc Cert.SumsIdeal.main_arg10))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0)
      ∧ r.2.mem ((c.tc : Thread Cert.SumsRefIdeal.nD Cert.SumsRefIdeal.τ).loc Cert.SumsRefIdeal.main_arg1) = m ((c.tc : Thread Cert.SumsRefIdeal.nD Cert.SumsRefIdeal.τ).loc Cert.SumsRefIdeal.main_arg1)
      ∧ r.2.mem ((c.tc : Thread Cert.SumsRefIdeal.nD Cert.SumsRefIdeal.τ).loc Cert.SumsRefIdeal.main_arg2) = m ((c.tc : Thread Cert.SumsRefIdeal.nD Cert.SumsRefIdeal.τ).loc Cert.SumsRefIdeal.main_arg2)
      ∧ r.2.mem ((c.tc : Thread Cert.SumsRefIdeal.nD Cert.SumsRefIdeal.τ).loc Cert.SumsRefIdeal.main_arg3) = m ((c.tc : Thread Cert.SumsRefIdeal.nD Cert.SumsRefIdeal.τ).loc Cert.SumsRefIdeal.main_arg3)
      ∧ r.2.mem ((c.tc : Thread Cert.SumsRefIdeal.nD Cert.SumsRefIdeal.τ).loc Cert.SumsRefIdeal.main_arg4) = m ((c.tc : Thread Cert.SumsRefIdeal.nD Cert.SumsRefIdeal.τ).loc Cert.SumsRefIdeal.main_arg4)
      ∧ r.2.mem ((c.tc : Thread Cert.SumsRefIdeal.nD Cert.SumsRefIdeal.τ).loc Cert.SumsRefIdeal.main_arg5) = m ((c.tc : Thread Cert.SumsRefIdeal.nD Cert.SumsRefIdeal.τ).loc Cert.SumsRefIdeal.main_arg5)
      ∧ r.2.mem ((c.tc : Thread Cert.SumsRefIdeal.nD Cert.SumsRefIdeal.τ).loc Cert.SumsRefIdeal.main_arg6) = m ((c.tc : Thread Cert.SumsRefIdeal.nD Cert.SumsRefIdeal.τ).loc Cert.SumsRefIdeal.main_arg6)
      ∧ r.2.mem ((c.tc : Thread Cert.SumsRefIdeal.nD Cert.SumsRefIdeal.τ).loc Cert.SumsRefIdeal.main_arg7) = m ((c.tc : Thread Cert.SumsRefIdeal.nD Cert.SumsRefIdeal.τ).loc Cert.SumsRefIdeal.main_arg7)
      ∧ r.2.mem ((c.tc : Thread Cert.SumsRefIdeal.nD Cert.SumsRefIdeal.τ).loc Cert.SumsRefIdeal.main_arg8) = m ((c.tc : Thread Cert.SumsRefIdeal.nD Cert.SumsRefIdeal.τ).loc Cert.SumsRefIdeal.main_arg8)
      ∧ r.2.mem ((c.tc : Thread Cert.SumsRefIdeal.nD Cert.SumsRefIdeal.τ).loc Cert.SumsRefIdeal.main_arg9) = m ((c.tc : Thread Cert.SumsRefIdeal.nD Cert.SumsRefIdeal.τ).loc Cert.SumsRefIdeal.main_arg9)
      ∧ r.2.mem ((c.tc : Thread Cert.SumsRefIdeal.nD Cert.SumsRefIdeal.τ).loc Cert.SumsRefIdeal.main_arg10) = m ((c.tc : Thread Cert.SumsRefIdeal.nD Cert.SumsRefIdeal.τ).loc Cert.SumsRefIdeal.main_arg10))
      ∧ r.2.sem = fun _ => 0)

def quiescent_Steps [hSteps : Cert.Steps.Facts] : Prop :=
  ∀ (m : (ℓ : Loc Cert.Steps.nD Cert.Steps.τ Cert.Steps.sig) → Buf (Elt Bits) ℓ) (g : Dev Cert.Steps.nD → PrngReg), Pre_Steps m →
    θ_run (Cert.Steps.defs (F := Bits)) (onTc (τ := Cert.Steps.τ) (Cert.Steps.main (F := Bits))) ⟨m, fun _ => 0, g⟩ (fun r => (∀ c : Dev Cert.Steps.nD,
      r.2.mem ((c.tc : Thread Cert.Steps.nD Cert.Steps.τ).loc Cert.Steps.main_arg0) = m ((c.tc : Thread Cert.Steps.nD Cert.Steps.τ).loc Cert.Steps.main_arg0)
      ∧ r.2.mem ((c.tc : Thread Cert.Steps.nD Cert.Steps.τ).loc Cert.Steps.main_arg1) = m ((c.tc : Thread Cert.Steps.nD Cert.Steps.τ).loc Cert.Steps.main_arg1)
      ∧ r.2.mem ((c.tc : Thread Cert.Steps.nD Cert.Steps.τ).loc Cert.Steps.main_arg2) = m ((c.tc : Thread Cert.Steps.nD Cert.Steps.τ).loc Cert.Steps.main_arg2)
      ∧ r.2.mem ((c.tc : Thread Cert.Steps.nD Cert.Steps.τ).loc Cert.Steps.main_arg3) = m ((c.tc : Thread Cert.Steps.nD Cert.Steps.τ).loc Cert.Steps.main_arg3)
      ∧ r.2.mem ((c.tc : Thread Cert.Steps.nD Cert.Steps.τ).loc Cert.Steps.main_arg4) = m ((c.tc : Thread Cert.Steps.nD Cert.Steps.τ).loc Cert.Steps.main_arg4)
      ∧ r.2.mem ((c.tc : Thread Cert.Steps.nD Cert.Steps.τ).loc Cert.Steps.main_arg5) = m ((c.tc : Thread Cert.Steps.nD Cert.Steps.τ).loc Cert.Steps.main_arg5)
      ∧ r.2.mem ((c.tc : Thread Cert.Steps.nD Cert.Steps.τ).loc Cert.Steps.main_arg6) = m ((c.tc : Thread Cert.Steps.nD Cert.Steps.τ).loc Cert.Steps.main_arg6)
      ∧ r.2.mem ((c.tc : Thread Cert.Steps.nD Cert.Steps.τ).loc Cert.Steps.main_arg7) = m ((c.tc : Thread Cert.Steps.nD Cert.Steps.τ).loc Cert.Steps.main_arg7)
      ∧ r.2.mem ((c.tc : Thread Cert.Steps.nD Cert.Steps.τ).loc Cert.Steps.main_arg8) = m ((c.tc : Thread Cert.Steps.nD Cert.Steps.τ).loc Cert.Steps.main_arg8)
      ∧ r.2.mem ((c.tc : Thread Cert.Steps.nD Cert.Steps.τ).loc Cert.Steps.main_arg9) = m ((c.tc : Thread Cert.Steps.nD Cert.Steps.τ).loc Cert.Steps.main_arg9)
      ∧ r.2.mem ((c.tc : Thread Cert.Steps.nD Cert.Steps.τ).loc Cert.Steps.main_arg10) = m ((c.tc : Thread Cert.Steps.nD Cert.Steps.τ).loc Cert.Steps.main_arg10)
      ∧ r.2.mem ((c.tc : Thread Cert.Steps.nD Cert.Steps.τ).loc Cert.Steps.main_arg11) = m ((c.tc : Thread Cert.Steps.nD Cert.Steps.τ).loc Cert.Steps.main_arg11)
      ∧ r.2.mem ((c.tc : Thread Cert.Steps.nD Cert.Steps.τ).loc Cert.Steps.main_arg12) = m ((c.tc : Thread Cert.Steps.nD Cert.Steps.τ).loc Cert.Steps.main_arg12)
      ∧ r.2.mem ((c.tc : Thread Cert.Steps.nD Cert.Steps.τ).loc Cert.Steps.main_arg13) = m ((c.tc : Thread Cert.Steps.nD Cert.Steps.τ).loc Cert.Steps.main_arg13)
      ∧ r.2.mem ((c.tc : Thread Cert.Steps.nD Cert.Steps.τ).loc Cert.Steps.main_arg14) = m ((c.tc : Thread Cert.Steps.nD Cert.Steps.τ).loc Cert.Steps.main_arg14)
      ∧ r.2.mem ((c.tc : Thread Cert.Steps.nD Cert.Steps.τ).loc Cert.Steps.main_arg15) = m ((c.tc : Thread Cert.Steps.nD Cert.Steps.τ).loc Cert.Steps.main_arg15)
      ∧ r.2.mem ((c.tc : Thread Cert.Steps.nD Cert.Steps.τ).loc Cert.Steps.main_arg16) = m ((c.tc : Thread Cert.Steps.nD Cert.Steps.τ).loc Cert.Steps.main_arg16)
      ∧ r.2.mem ((c.tc : Thread Cert.Steps.nD Cert.Steps.τ).loc Cert.Steps.main_arg17) = m ((c.tc : Thread Cert.Steps.nD Cert.Steps.τ).loc Cert.Steps.main_arg17)
      ∧ r.2.mem ((c.tc : Thread Cert.Steps.nD Cert.Steps.τ).loc Cert.Steps.main_arg18) = m ((c.tc : Thread Cert.Steps.nD Cert.Steps.τ).loc Cert.Steps.main_arg18)
      ∧ r.2.mem ((c.tc : Thread Cert.Steps.nD Cert.Steps.τ).loc Cert.Steps.main_arg19) = m ((c.tc : Thread Cert.Steps.nD Cert.Steps.τ).loc Cert.Steps.main_arg19)
      ∧ r.2.mem ((c.tc : Thread Cert.Steps.nD Cert.Steps.τ).loc Cert.Steps.main_arg20) = m ((c.tc : Thread Cert.Steps.nD Cert.Steps.τ).loc Cert.Steps.main_arg20)
      ∧ r.2.mem ((c.tc : Thread Cert.Steps.nD Cert.Steps.τ).loc Cert.Steps.main_arg21) = m ((c.tc : Thread Cert.Steps.nD Cert.Steps.τ).loc Cert.Steps.main_arg21)
      ∧ r.2.mem ((c.tc : Thread Cert.Steps.nD Cert.Steps.τ).loc Cert.Steps.main_arg22) = m ((c.tc : Thread Cert.Steps.nD Cert.Steps.τ).loc Cert.Steps.main_arg22)
      ∧ r.2.mem ((c.tc : Thread Cert.Steps.nD Cert.Steps.τ).loc Cert.Steps.main_arg23) = m ((c.tc : Thread Cert.Steps.nD Cert.Steps.τ).loc Cert.Steps.main_arg23)
      ∧ r.2.mem ((c.tc : Thread Cert.Steps.nD Cert.Steps.τ).loc Cert.Steps.main_arg24) = m ((c.tc : Thread Cert.Steps.nD Cert.Steps.τ).loc Cert.Steps.main_arg24)
      ∧ r.2.mem ((c.tc : Thread Cert.Steps.nD Cert.Steps.τ).loc Cert.Steps.main_arg25) = m ((c.tc : Thread Cert.Steps.nD Cert.Steps.τ).loc Cert.Steps.main_arg25)
      ∧ r.2.mem ((c.tc : Thread Cert.Steps.nD Cert.Steps.τ).loc Cert.Steps.main_arg26) = m ((c.tc : Thread Cert.Steps.nD Cert.Steps.τ).loc Cert.Steps.main_arg26)
      ∧ r.2.mem ((c.tc : Thread Cert.Steps.nD Cert.Steps.τ).loc Cert.Steps.main_arg27) = m ((c.tc : Thread Cert.Steps.nD Cert.Steps.τ).loc Cert.Steps.main_arg27)
      ∧ r.2.mem ((c.tc : Thread Cert.Steps.nD Cert.Steps.τ).loc Cert.Steps.main_arg28) = m ((c.tc : Thread Cert.Steps.nD Cert.Steps.τ).loc Cert.Steps.main_arg28)
      ∧ r.2.mem ((c.tc : Thread Cert.Steps.nD Cert.Steps.τ).loc Cert.Steps.main_arg29) = m ((c.tc : Thread Cert.Steps.nD Cert.Steps.τ).loc Cert.Steps.main_arg29)
      ∧ r.2.mem ((c.tc : Thread Cert.Steps.nD Cert.Steps.τ).loc Cert.Steps.main_arg30) = m ((c.tc : Thread Cert.Steps.nD Cert.Steps.τ).loc Cert.Steps.main_arg30)
      ∧ r.2.mem ((c.tc : Thread Cert.Steps.nD Cert.Steps.τ).loc Cert.Steps.main_arg31) = m ((c.tc : Thread Cert.Steps.nD Cert.Steps.τ).loc Cert.Steps.main_arg31)
      ∧ r.2.mem ((c.tc : Thread Cert.Steps.nD Cert.Steps.τ).loc Cert.Steps.main_arg32) = m ((c.tc : Thread Cert.Steps.nD Cert.Steps.τ).loc Cert.Steps.main_arg32)
      ∧ r.2.mem ((c.tc : Thread Cert.Steps.nD Cert.Steps.τ).loc Cert.Steps.main_arg33) = m ((c.tc : Thread Cert.Steps.nD Cert.Steps.τ).loc Cert.Steps.main_arg33)
      ∧ r.2.mem ((c.tc : Thread Cert.Steps.nD Cert.Steps.τ).loc Cert.Steps.main_arg34) = m ((c.tc : Thread Cert.Steps.nD Cert.Steps.τ).loc Cert.Steps.main_arg34)
      ∧ r.2.mem ((c.tc : Thread Cert.Steps.nD Cert.Steps.τ).loc Cert.Steps.main_arg35) = m ((c.tc : Thread Cert.Steps.nD Cert.Steps.τ).loc Cert.Steps.main_arg35)
      ∧ r.2.mem ((c.tc : Thread Cert.Steps.nD Cert.Steps.τ).loc Cert.Steps.main_arg36) = m ((c.tc : Thread Cert.Steps.nD Cert.Steps.τ).loc Cert.Steps.main_arg36)
      ∧ r.2.mem ((c.tc : Thread Cert.Steps.nD Cert.Steps.τ).loc Cert.Steps.main_arg37) = m ((c.tc : Thread Cert.Steps.nD Cert.Steps.τ).loc Cert.Steps.main_arg37)
      ∧ r.2.mem ((c.tc : Thread Cert.Steps.nD Cert.Steps.τ).loc Cert.Steps.main_arg38) = m ((c.tc : Thread Cert.Steps.nD Cert.Steps.τ).loc Cert.Steps.main_arg38)
      ∧ r.2.mem ((c.tc : Thread Cert.Steps.nD Cert.Steps.τ).loc Cert.Steps.main_arg39) = m ((c.tc : Thread Cert.Steps.nD Cert.Steps.τ).loc Cert.Steps.main_arg39))
      ∧ r.2.sem = fun _ => 0)

def quiescent_StepsIdeal [hStepsIdeal : Cert.StepsIdeal.Facts] : Prop :=
  ∀ (m : (ℓ : Loc Cert.StepsIdeal.nD Cert.StepsIdeal.τ Cert.StepsIdeal.sig) → Buf (Elt Ideal) ℓ) (g : Dev Cert.StepsIdeal.nD → PrngReg), Pre_StepsIdeal m →
    θ_run (Cert.StepsIdeal.defs (F := Ideal)) (onTc (τ := Cert.StepsIdeal.τ) (Cert.StepsIdeal.main (F := Ideal))) ⟨m, fun _ => 0, g⟩ (fun r => (∀ c : Dev Cert.StepsIdeal.nD,
      r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
      ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1)
      ∧ r.2.mem ((c.tc : Thread Cert.StepsIdeal.nD Cert.StepsIdeal.τ).loc Cert.StepsIdeal.main_arg2) = m ((c.tc : Thread Cert.StepsIdeal.nD Cert.StepsIdeal.τ).loc Cert.StepsIdeal.main_arg2)
      ∧ r.2.mem ((c.tc : Thread Cert.StepsIdeal.nD Cert.StepsIdeal.τ).loc Cert.StepsIdeal.main_arg3) = m ((c.tc : Thread Cert.StepsIdeal.nD Cert.StepsIdeal.τ).loc Cert.StepsIdeal.main_arg3)
      ∧ r.2.mem ((c.tc : Thread Cert.StepsIdeal.nD Cert.StepsIdeal.τ).loc Cert.StepsIdeal.main_arg4) = m ((c.tc : Thread Cert.StepsIdeal.nD Cert.StepsIdeal.τ).loc Cert.StepsIdeal.main_arg4)
      ∧ r.2.mem ((c.tc : Thread Cert.StepsIdeal.nD Cert.StepsIdeal.τ).loc Cert.StepsIdeal.main_arg5) = m ((c.tc : Thread Cert.StepsIdeal.nD Cert.StepsIdeal.τ).loc Cert.StepsIdeal.main_arg5)
      ∧ r.2.mem ((c.tc : Thread Cert.StepsIdeal.nD Cert.StepsIdeal.τ).loc Cert.StepsIdeal.main_arg6) = m ((c.tc : Thread Cert.StepsIdeal.nD Cert.StepsIdeal.τ).loc Cert.StepsIdeal.main_arg6)
      ∧ r.2.mem ((c.tc : Thread Cert.StepsIdeal.nD Cert.StepsIdeal.τ).loc Cert.StepsIdeal.main_arg7) = m ((c.tc : Thread Cert.StepsIdeal.nD Cert.StepsIdeal.τ).loc Cert.StepsIdeal.main_arg7)
      ∧ r.2.mem ((c.tc : Thread Cert.StepsIdeal.nD Cert.StepsIdeal.τ).loc Cert.StepsIdeal.main_arg8) = m ((c.tc : Thread Cert.StepsIdeal.nD Cert.StepsIdeal.τ).loc Cert.StepsIdeal.main_arg8)
      ∧ r.2.mem ((c.tc : Thread Cert.StepsIdeal.nD Cert.StepsIdeal.τ).loc Cert.StepsIdeal.main_arg9) = m ((c.tc : Thread Cert.StepsIdeal.nD Cert.StepsIdeal.τ).loc Cert.StepsIdeal.main_arg9)
      ∧ r.2.mem ((c.tc : Thread Cert.StepsIdeal.nD Cert.StepsIdeal.τ).loc Cert.StepsIdeal.main_arg10) = m ((c.tc : Thread Cert.StepsIdeal.nD Cert.StepsIdeal.τ).loc Cert.StepsIdeal.main_arg10)
      ∧ r.2.mem ((c.tc : Thread Cert.StepsIdeal.nD Cert.StepsIdeal.τ).loc Cert.StepsIdeal.main_arg11) = m ((c.tc : Thread Cert.StepsIdeal.nD Cert.StepsIdeal.τ).loc Cert.StepsIdeal.main_arg11)
      ∧ r.2.mem ((c.tc : Thread Cert.StepsIdeal.nD Cert.StepsIdeal.τ).loc Cert.StepsIdeal.main_arg12) = m ((c.tc : Thread Cert.StepsIdeal.nD Cert.StepsIdeal.τ).loc Cert.StepsIdeal.main_arg12)
      ∧ r.2.mem ((c.tc : Thread Cert.StepsIdeal.nD Cert.StepsIdeal.τ).loc Cert.StepsIdeal.main_arg13) = m ((c.tc : Thread Cert.StepsIdeal.nD Cert.StepsIdeal.τ).loc Cert.StepsIdeal.main_arg13)
      ∧ r.2.mem ((c.tc : Thread Cert.StepsIdeal.nD Cert.StepsIdeal.τ).loc Cert.StepsIdeal.main_arg14) = m ((c.tc : Thread Cert.StepsIdeal.nD Cert.StepsIdeal.τ).loc Cert.StepsIdeal.main_arg14)
      ∧ r.2.mem ((c.tc : Thread Cert.StepsIdeal.nD Cert.StepsIdeal.τ).loc Cert.StepsIdeal.main_arg15) = m ((c.tc : Thread Cert.StepsIdeal.nD Cert.StepsIdeal.τ).loc Cert.StepsIdeal.main_arg15)
      ∧ r.2.mem ((c.tc : Thread Cert.StepsIdeal.nD Cert.StepsIdeal.τ).loc Cert.StepsIdeal.main_arg16) = m ((c.tc : Thread Cert.StepsIdeal.nD Cert.StepsIdeal.τ).loc Cert.StepsIdeal.main_arg16)
      ∧ r.2.mem ((c.tc : Thread Cert.StepsIdeal.nD Cert.StepsIdeal.τ).loc Cert.StepsIdeal.main_arg17) = m ((c.tc : Thread Cert.StepsIdeal.nD Cert.StepsIdeal.τ).loc Cert.StepsIdeal.main_arg17)
      ∧ r.2.mem ((c.tc : Thread Cert.StepsIdeal.nD Cert.StepsIdeal.τ).loc Cert.StepsIdeal.main_arg18) = m ((c.tc : Thread Cert.StepsIdeal.nD Cert.StepsIdeal.τ).loc Cert.StepsIdeal.main_arg18)
      ∧ r.2.mem ((c.tc : Thread Cert.StepsIdeal.nD Cert.StepsIdeal.τ).loc Cert.StepsIdeal.main_arg19) = m ((c.tc : Thread Cert.StepsIdeal.nD Cert.StepsIdeal.τ).loc Cert.StepsIdeal.main_arg19)
      ∧ r.2.mem ((c.tc : Thread Cert.StepsIdeal.nD Cert.StepsIdeal.τ).loc Cert.StepsIdeal.main_arg20) = m ((c.tc : Thread Cert.StepsIdeal.nD Cert.StepsIdeal.τ).loc Cert.StepsIdeal.main_arg20)
      ∧ r.2.mem ((c.tc : Thread Cert.StepsIdeal.nD Cert.StepsIdeal.τ).loc Cert.StepsIdeal.main_arg21) = m ((c.tc : Thread Cert.StepsIdeal.nD Cert.StepsIdeal.τ).loc Cert.StepsIdeal.main_arg21)
      ∧ r.2.mem ((c.tc : Thread Cert.StepsIdeal.nD Cert.StepsIdeal.τ).loc Cert.StepsIdeal.main_arg22) = m ((c.tc : Thread Cert.StepsIdeal.nD Cert.StepsIdeal.τ).loc Cert.StepsIdeal.main_arg22)
      ∧ r.2.mem ((c.tc : Thread Cert.StepsIdeal.nD Cert.StepsIdeal.τ).loc Cert.StepsIdeal.main_arg23) = m ((c.tc : Thread Cert.StepsIdeal.nD Cert.StepsIdeal.τ).loc Cert.StepsIdeal.main_arg23)
      ∧ r.2.mem ((c.tc : Thread Cert.StepsIdeal.nD Cert.StepsIdeal.τ).loc Cert.StepsIdeal.main_arg24) = m ((c.tc : Thread Cert.StepsIdeal.nD Cert.StepsIdeal.τ).loc Cert.StepsIdeal.main_arg24)
      ∧ r.2.mem ((c.tc : Thread Cert.StepsIdeal.nD Cert.StepsIdeal.τ).loc Cert.StepsIdeal.main_arg25) = m ((c.tc : Thread Cert.StepsIdeal.nD Cert.StepsIdeal.τ).loc Cert.StepsIdeal.main_arg25)
      ∧ r.2.mem ((c.tc : Thread Cert.StepsIdeal.nD Cert.StepsIdeal.τ).loc Cert.StepsIdeal.main_arg26) = m ((c.tc : Thread Cert.StepsIdeal.nD Cert.StepsIdeal.τ).loc Cert.StepsIdeal.main_arg26)
      ∧ r.2.mem ((c.tc : Thread Cert.StepsIdeal.nD Cert.StepsIdeal.τ).loc Cert.StepsIdeal.main_arg27) = m ((c.tc : Thread Cert.StepsIdeal.nD Cert.StepsIdeal.τ).loc Cert.StepsIdeal.main_arg27)
      ∧ r.2.mem ((c.tc : Thread Cert.StepsIdeal.nD Cert.StepsIdeal.τ).loc Cert.StepsIdeal.main_arg28) = m ((c.tc : Thread Cert.StepsIdeal.nD Cert.StepsIdeal.τ).loc Cert.StepsIdeal.main_arg28)
      ∧ r.2.mem ((c.tc : Thread Cert.StepsIdeal.nD Cert.StepsIdeal.τ).loc Cert.StepsIdeal.main_arg29) = m ((c.tc : Thread Cert.StepsIdeal.nD Cert.StepsIdeal.τ).loc Cert.StepsIdeal.main_arg29)
      ∧ r.2.mem ((c.tc : Thread Cert.StepsIdeal.nD Cert.StepsIdeal.τ).loc Cert.StepsIdeal.main_arg30) = m ((c.tc : Thread Cert.StepsIdeal.nD Cert.StepsIdeal.τ).loc Cert.StepsIdeal.main_arg30)
      ∧ r.2.mem ((c.tc : Thread Cert.StepsIdeal.nD Cert.StepsIdeal.τ).loc Cert.StepsIdeal.main_arg31) = m ((c.tc : Thread Cert.StepsIdeal.nD Cert.StepsIdeal.τ).loc Cert.StepsIdeal.main_arg31)
      ∧ r.2.mem ((c.tc : Thread Cert.StepsIdeal.nD Cert.StepsIdeal.τ).loc Cert.StepsIdeal.main_arg32) = m ((c.tc : Thread Cert.StepsIdeal.nD Cert.StepsIdeal.τ).loc Cert.StepsIdeal.main_arg32)
      ∧ r.2.mem ((c.tc : Thread Cert.StepsIdeal.nD Cert.StepsIdeal.τ).loc Cert.StepsIdeal.main_arg33) = m ((c.tc : Thread Cert.StepsIdeal.nD Cert.StepsIdeal.τ).loc Cert.StepsIdeal.main_arg33)
      ∧ r.2.mem ((c.tc : Thread Cert.StepsIdeal.nD Cert.StepsIdeal.τ).loc Cert.StepsIdeal.main_arg34) = m ((c.tc : Thread Cert.StepsIdeal.nD Cert.StepsIdeal.τ).loc Cert.StepsIdeal.main_arg34)
      ∧ r.2.mem ((c.tc : Thread Cert.StepsIdeal.nD Cert.StepsIdeal.τ).loc Cert.StepsIdeal.main_arg35) = m ((c.tc : Thread Cert.StepsIdeal.nD Cert.StepsIdeal.τ).loc Cert.StepsIdeal.main_arg35)
      ∧ r.2.mem ((c.tc : Thread Cert.StepsIdeal.nD Cert.StepsIdeal.τ).loc Cert.StepsIdeal.main_arg36) = m ((c.tc : Thread Cert.StepsIdeal.nD Cert.StepsIdeal.τ).loc Cert.StepsIdeal.main_arg36)
      ∧ r.2.mem ((c.tc : Thread Cert.StepsIdeal.nD Cert.StepsIdeal.τ).loc Cert.StepsIdeal.main_arg37) = m ((c.tc : Thread Cert.StepsIdeal.nD Cert.StepsIdeal.τ).loc Cert.StepsIdeal.main_arg37)
      ∧ r.2.mem ((c.tc : Thread Cert.StepsIdeal.nD Cert.StepsIdeal.τ).loc Cert.StepsIdeal.main_arg38) = m ((c.tc : Thread Cert.StepsIdeal.nD Cert.StepsIdeal.τ).loc Cert.StepsIdeal.main_arg38)
      ∧ r.2.mem ((c.tc : Thread Cert.StepsIdeal.nD Cert.StepsIdeal.τ).loc Cert.StepsIdeal.main_arg39) = m ((c.tc : Thread Cert.StepsIdeal.nD Cert.StepsIdeal.τ).loc Cert.StepsIdeal.main_arg39))
      ∧ r.2.sem = fun _ => 0)

def quiescent_StepsRefIdeal [hStepsRefIdeal : Cert.StepsRefIdeal.Facts] : Prop :=
  ∀ (m : (ℓ : Loc Cert.StepsRefIdeal.nD Cert.StepsRefIdeal.τ Cert.StepsRefIdeal.sig) → Buf (Elt Ideal) ℓ) (g : Dev Cert.StepsRefIdeal.nD → PrngReg), Pre_StepsRefIdeal m →
    θ_run (Cert.StepsRefIdeal.defs (F := Ideal)) (onTc (τ := Cert.StepsRefIdeal.τ) (Cert.StepsRefIdeal.main (F := Ideal))) ⟨m, fun _ => 0, g⟩ (fun r => (∀ c : Dev Cert.StepsRefIdeal.nD,
      r.2.mem ((c.tc : Thread Cert.StepsRefIdeal.nD Cert.StepsRefIdeal.τ).loc Cert.StepsRefIdeal.main_arg0) = m ((c.tc : Thread Cert.StepsRefIdeal.nD Cert.StepsRefIdeal.τ).loc Cert.StepsRefIdeal.main_arg0)
      ∧ r.2.mem ((c.tc : Thread Cert.StepsRefIdeal.nD Cert.StepsRefIdeal.τ).loc Cert.StepsRefIdeal.main_arg1) = m ((c.tc : Thread Cert.StepsRefIdeal.nD Cert.StepsRefIdeal.τ).loc Cert.StepsRefIdeal.main_arg1)
      ∧ r.2.mem ((c.tc : Thread Cert.StepsRefIdeal.nD Cert.StepsRefIdeal.τ).loc Cert.StepsRefIdeal.main_arg2) = m ((c.tc : Thread Cert.StepsRefIdeal.nD Cert.StepsRefIdeal.τ).loc Cert.StepsRefIdeal.main_arg2)
      ∧ r.2.mem ((c.tc : Thread Cert.StepsRefIdeal.nD Cert.StepsRefIdeal.τ).loc Cert.StepsRefIdeal.main_arg3) = m ((c.tc : Thread Cert.StepsRefIdeal.nD Cert.StepsRefIdeal.τ).loc Cert.StepsRefIdeal.main_arg3)
      ∧ r.2.mem ((c.tc : Thread Cert.StepsRefIdeal.nD Cert.StepsRefIdeal.τ).loc Cert.StepsRefIdeal.main_arg4) = m ((c.tc : Thread Cert.StepsRefIdeal.nD Cert.StepsRefIdeal.τ).loc Cert.StepsRefIdeal.main_arg4)
      ∧ r.2.mem ((c.tc : Thread Cert.StepsRefIdeal.nD Cert.StepsRefIdeal.τ).loc Cert.StepsRefIdeal.main_arg5) = m ((c.tc : Thread Cert.StepsRefIdeal.nD Cert.StepsRefIdeal.τ).loc Cert.StepsRefIdeal.main_arg5)
      ∧ r.2.mem ((c.tc : Thread Cert.StepsRefIdeal.nD Cert.StepsRefIdeal.τ).loc Cert.StepsRefIdeal.main_arg6) = m ((c.tc : Thread Cert.StepsRefIdeal.nD Cert.StepsRefIdeal.τ).loc Cert.StepsRefIdeal.main_arg6)
      ∧ r.2.mem ((c.tc : Thread Cert.StepsRefIdeal.nD Cert.StepsRefIdeal.τ).loc Cert.StepsRefIdeal.main_arg7) = m ((c.tc : Thread Cert.StepsRefIdeal.nD Cert.StepsRefIdeal.τ).loc Cert.StepsRefIdeal.main_arg7)
      ∧ r.2.mem ((c.tc : Thread Cert.StepsRefIdeal.nD Cert.StepsRefIdeal.τ).loc Cert.StepsRefIdeal.main_arg8) = m ((c.tc : Thread Cert.StepsRefIdeal.nD Cert.StepsRefIdeal.τ).loc Cert.StepsRefIdeal.main_arg8)
      ∧ r.2.mem ((c.tc : Thread Cert.StepsRefIdeal.nD Cert.StepsRefIdeal.τ).loc Cert.StepsRefIdeal.main_arg9) = m ((c.tc : Thread Cert.StepsRefIdeal.nD Cert.StepsRefIdeal.τ).loc Cert.StepsRefIdeal.main_arg9)
      ∧ r.2.mem ((c.tc : Thread Cert.StepsRefIdeal.nD Cert.StepsRefIdeal.τ).loc Cert.StepsRefIdeal.main_arg10) = m ((c.tc : Thread Cert.StepsRefIdeal.nD Cert.StepsRefIdeal.τ).loc Cert.StepsRefIdeal.main_arg10)
      ∧ r.2.mem ((c.tc : Thread Cert.StepsRefIdeal.nD Cert.StepsRefIdeal.τ).loc Cert.StepsRefIdeal.main_arg11) = m ((c.tc : Thread Cert.StepsRefIdeal.nD Cert.StepsRefIdeal.τ).loc Cert.StepsRefIdeal.main_arg11)
      ∧ r.2.mem ((c.tc : Thread Cert.StepsRefIdeal.nD Cert.StepsRefIdeal.τ).loc Cert.StepsRefIdeal.main_arg12) = m ((c.tc : Thread Cert.StepsRefIdeal.nD Cert.StepsRefIdeal.τ).loc Cert.StepsRefIdeal.main_arg12)
      ∧ r.2.mem ((c.tc : Thread Cert.StepsRefIdeal.nD Cert.StepsRefIdeal.τ).loc Cert.StepsRefIdeal.main_arg13) = m ((c.tc : Thread Cert.StepsRefIdeal.nD Cert.StepsRefIdeal.τ).loc Cert.StepsRefIdeal.main_arg13)
      ∧ r.2.mem ((c.tc : Thread Cert.StepsRefIdeal.nD Cert.StepsRefIdeal.τ).loc Cert.StepsRefIdeal.main_arg14) = m ((c.tc : Thread Cert.StepsRefIdeal.nD Cert.StepsRefIdeal.τ).loc Cert.StepsRefIdeal.main_arg14)
      ∧ r.2.mem ((c.tc : Thread Cert.StepsRefIdeal.nD Cert.StepsRefIdeal.τ).loc Cert.StepsRefIdeal.main_arg15) = m ((c.tc : Thread Cert.StepsRefIdeal.nD Cert.StepsRefIdeal.τ).loc Cert.StepsRefIdeal.main_arg15)
      ∧ r.2.mem ((c.tc : Thread Cert.StepsRefIdeal.nD Cert.StepsRefIdeal.τ).loc Cert.StepsRefIdeal.main_arg16) = m ((c.tc : Thread Cert.StepsRefIdeal.nD Cert.StepsRefIdeal.τ).loc Cert.StepsRefIdeal.main_arg16)
      ∧ r.2.mem ((c.tc : Thread Cert.StepsRefIdeal.nD Cert.StepsRefIdeal.τ).loc Cert.StepsRefIdeal.main_arg17) = m ((c.tc : Thread Cert.StepsRefIdeal.nD Cert.StepsRefIdeal.τ).loc Cert.StepsRefIdeal.main_arg17)
      ∧ r.2.mem ((c.tc : Thread Cert.StepsRefIdeal.nD Cert.StepsRefIdeal.τ).loc Cert.StepsRefIdeal.main_arg18) = m ((c.tc : Thread Cert.StepsRefIdeal.nD Cert.StepsRefIdeal.τ).loc Cert.StepsRefIdeal.main_arg18)
      ∧ r.2.mem ((c.tc : Thread Cert.StepsRefIdeal.nD Cert.StepsRefIdeal.τ).loc Cert.StepsRefIdeal.main_arg19) = m ((c.tc : Thread Cert.StepsRefIdeal.nD Cert.StepsRefIdeal.τ).loc Cert.StepsRefIdeal.main_arg19)
      ∧ r.2.mem ((c.tc : Thread Cert.StepsRefIdeal.nD Cert.StepsRefIdeal.τ).loc Cert.StepsRefIdeal.main_arg20) = m ((c.tc : Thread Cert.StepsRefIdeal.nD Cert.StepsRefIdeal.τ).loc Cert.StepsRefIdeal.main_arg20)
      ∧ r.2.mem ((c.tc : Thread Cert.StepsRefIdeal.nD Cert.StepsRefIdeal.τ).loc Cert.StepsRefIdeal.main_arg21) = m ((c.tc : Thread Cert.StepsRefIdeal.nD Cert.StepsRefIdeal.τ).loc Cert.StepsRefIdeal.main_arg21)
      ∧ r.2.mem ((c.tc : Thread Cert.StepsRefIdeal.nD Cert.StepsRefIdeal.τ).loc Cert.StepsRefIdeal.main_arg22) = m ((c.tc : Thread Cert.StepsRefIdeal.nD Cert.StepsRefIdeal.τ).loc Cert.StepsRefIdeal.main_arg22)
      ∧ r.2.mem ((c.tc : Thread Cert.StepsRefIdeal.nD Cert.StepsRefIdeal.τ).loc Cert.StepsRefIdeal.main_arg23) = m ((c.tc : Thread Cert.StepsRefIdeal.nD Cert.StepsRefIdeal.τ).loc Cert.StepsRefIdeal.main_arg23)
      ∧ r.2.mem ((c.tc : Thread Cert.StepsRefIdeal.nD Cert.StepsRefIdeal.τ).loc Cert.StepsRefIdeal.main_arg24) = m ((c.tc : Thread Cert.StepsRefIdeal.nD Cert.StepsRefIdeal.τ).loc Cert.StepsRefIdeal.main_arg24)
      ∧ r.2.mem ((c.tc : Thread Cert.StepsRefIdeal.nD Cert.StepsRefIdeal.τ).loc Cert.StepsRefIdeal.main_arg25) = m ((c.tc : Thread Cert.StepsRefIdeal.nD Cert.StepsRefIdeal.τ).loc Cert.StepsRefIdeal.main_arg25)
      ∧ r.2.mem ((c.tc : Thread Cert.StepsRefIdeal.nD Cert.StepsRefIdeal.τ).loc Cert.StepsRefIdeal.main_arg26) = m ((c.tc : Thread Cert.StepsRefIdeal.nD Cert.StepsRefIdeal.τ).loc Cert.StepsRefIdeal.main_arg26)
      ∧ r.2.mem ((c.tc : Thread Cert.StepsRefIdeal.nD Cert.StepsRefIdeal.τ).loc Cert.StepsRefIdeal.main_arg27) = m ((c.tc : Thread Cert.StepsRefIdeal.nD Cert.StepsRefIdeal.τ).loc Cert.StepsRefIdeal.main_arg27)
      ∧ r.2.mem ((c.tc : Thread Cert.StepsRefIdeal.nD Cert.StepsRefIdeal.τ).loc Cert.StepsRefIdeal.main_arg28) = m ((c.tc : Thread Cert.StepsRefIdeal.nD Cert.StepsRefIdeal.τ).loc Cert.StepsRefIdeal.main_arg28)
      ∧ r.2.mem ((c.tc : Thread Cert.StepsRefIdeal.nD Cert.StepsRefIdeal.τ).loc Cert.StepsRefIdeal.main_arg29) = m ((c.tc : Thread Cert.StepsRefIdeal.nD Cert.StepsRefIdeal.τ).loc Cert.StepsRefIdeal.main_arg29)
      ∧ r.2.mem ((c.tc : Thread Cert.StepsRefIdeal.nD Cert.StepsRefIdeal.τ).loc Cert.StepsRefIdeal.main_arg30) = m ((c.tc : Thread Cert.StepsRefIdeal.nD Cert.StepsRefIdeal.τ).loc Cert.StepsRefIdeal.main_arg30)
      ∧ r.2.mem ((c.tc : Thread Cert.StepsRefIdeal.nD Cert.StepsRefIdeal.τ).loc Cert.StepsRefIdeal.main_arg31) = m ((c.tc : Thread Cert.StepsRefIdeal.nD Cert.StepsRefIdeal.τ).loc Cert.StepsRefIdeal.main_arg31)
      ∧ r.2.mem ((c.tc : Thread Cert.StepsRefIdeal.nD Cert.StepsRefIdeal.τ).loc Cert.StepsRefIdeal.main_arg32) = m ((c.tc : Thread Cert.StepsRefIdeal.nD Cert.StepsRefIdeal.τ).loc Cert.StepsRefIdeal.main_arg32)
      ∧ r.2.mem ((c.tc : Thread Cert.StepsRefIdeal.nD Cert.StepsRefIdeal.τ).loc Cert.StepsRefIdeal.main_arg33) = m ((c.tc : Thread Cert.StepsRefIdeal.nD Cert.StepsRefIdeal.τ).loc Cert.StepsRefIdeal.main_arg33)
      ∧ r.2.mem ((c.tc : Thread Cert.StepsRefIdeal.nD Cert.StepsRefIdeal.τ).loc Cert.StepsRefIdeal.main_arg34) = m ((c.tc : Thread Cert.StepsRefIdeal.nD Cert.StepsRefIdeal.τ).loc Cert.StepsRefIdeal.main_arg34)
      ∧ r.2.mem ((c.tc : Thread Cert.StepsRefIdeal.nD Cert.StepsRefIdeal.τ).loc Cert.StepsRefIdeal.main_arg35) = m ((c.tc : Thread Cert.StepsRefIdeal.nD Cert.StepsRefIdeal.τ).loc Cert.StepsRefIdeal.main_arg35)
      ∧ r.2.mem ((c.tc : Thread Cert.StepsRefIdeal.nD Cert.StepsRefIdeal.τ).loc Cert.StepsRefIdeal.main_arg36) = m ((c.tc : Thread Cert.StepsRefIdeal.nD Cert.StepsRefIdeal.τ).loc Cert.StepsRefIdeal.main_arg36)
      ∧ r.2.mem ((c.tc : Thread Cert.StepsRefIdeal.nD Cert.StepsRefIdeal.τ).loc Cert.StepsRefIdeal.main_arg37) = m ((c.tc : Thread Cert.StepsRefIdeal.nD Cert.StepsRefIdeal.τ).loc Cert.StepsRefIdeal.main_arg37)
      ∧ r.2.mem ((c.tc : Thread Cert.StepsRefIdeal.nD Cert.StepsRefIdeal.τ).loc Cert.StepsRefIdeal.main_arg38) = m ((c.tc : Thread Cert.StepsRefIdeal.nD Cert.StepsRefIdeal.τ).loc Cert.StepsRefIdeal.main_arg38)
      ∧ r.2.mem ((c.tc : Thread Cert.StepsRefIdeal.nD Cert.StepsRefIdeal.τ).loc Cert.StepsRefIdeal.main_arg39) = m ((c.tc : Thread Cert.StepsRefIdeal.nD Cert.StepsRefIdeal.τ).loc Cert.StepsRefIdeal.main_arg39))
      ∧ r.2.sem = fun _ => 0)

def quiescent_PartIn [hPartIn : Cert.PartIn.Facts] : Prop :=
  ∀ (m : (ℓ : Loc Cert.PartIn.nD Cert.PartIn.τ Cert.PartIn.sig) → Buf (Elt Bits) ℓ) (g : Dev Cert.PartIn.nD → PrngReg), Pre_PartIn m →
    θ_run (Cert.PartIn.defs (F := Bits)) (onTc (τ := Cert.PartIn.τ) (Cert.PartIn.main (F := Bits))) ⟨m, fun _ => 0, g⟩ (fun r => (∀ c : Dev Cert.PartIn.nD,
      r.2.mem ((c.tc : Thread Cert.PartIn.nD Cert.PartIn.τ).loc Cert.PartIn.main_arg0) = m ((c.tc : Thread Cert.PartIn.nD Cert.PartIn.τ).loc Cert.PartIn.main_arg0)
      ∧ r.2.mem ((c.tc : Thread Cert.PartIn.nD Cert.PartIn.τ).loc Cert.PartIn.main_arg1) = m ((c.tc : Thread Cert.PartIn.nD Cert.PartIn.τ).loc Cert.PartIn.main_arg1))
      ∧ r.2.sem = fun _ => 0)

def quiescent_PartInIdeal [hPartInIdeal : Cert.PartInIdeal.Facts] : Prop :=
  ∀ (m : (ℓ : Loc Cert.PartInIdeal.nD Cert.PartInIdeal.τ Cert.PartInIdeal.sig) → Buf (Elt Ideal) ℓ) (g : Dev Cert.PartInIdeal.nD → PrngReg), Pre_PartInIdeal m →
    θ_run (Cert.PartInIdeal.defs (F := Ideal)) (onTc (τ := Cert.PartInIdeal.τ) (Cert.PartInIdeal.main (F := Ideal))) ⟨m, fun _ => 0, g⟩ (fun r => (∀ c : Dev Cert.PartInIdeal.nD,
      r.2.mem ((c.tc : Thread Cert.PartInIdeal.nD Cert.PartInIdeal.τ).loc Cert.PartInIdeal.main_arg0) = m ((c.tc : Thread Cert.PartInIdeal.nD Cert.PartInIdeal.τ).loc Cert.PartInIdeal.main_arg0)
      ∧ r.2.mem ((c.tc : Thread Cert.PartInIdeal.nD Cert.PartInIdeal.τ).loc Cert.PartInIdeal.main_arg1) = m ((c.tc : Thread Cert.PartInIdeal.nD Cert.PartInIdeal.τ).loc Cert.PartInIdeal.main_arg1))
      ∧ r.2.sem = fun _ => 0)

def quiescent_PartInRefIdeal [hPartInRefIdeal : Cert.PartInRefIdeal.Facts] : Prop :=
  ∀ (m : (ℓ : Loc Cert.PartInRefIdeal.nD Cert.PartInRefIdeal.τ Cert.PartInRefIdeal.sig) → Buf (Elt Ideal) ℓ) (g : Dev Cert.PartInRefIdeal.nD → PrngReg), Pre_PartInRefIdeal m →
    θ_run (Cert.PartInRefIdeal.defs (F := Ideal)) (onTc (τ := Cert.PartInRefIdeal.τ) (Cert.PartInRefIdeal.main (F := Ideal))) ⟨m, fun _ => 0, g⟩ (fun r => (∀ c : Dev Cert.PartInRefIdeal.nD,
      r.2.mem ((c.tc : Thread Cert.PartInRefIdeal.nD Cert.PartInRefIdeal.τ).loc Cert.PartInRefIdeal.main_arg0) = m ((c.tc : Thread Cert.PartInRefIdeal.nD Cert.PartInRefIdeal.τ).loc Cert.PartInRefIdeal.main_arg0)
      ∧ r.2.mem ((c.tc : Thread Cert.PartInRefIdeal.nD Cert.PartInRefIdeal.τ).loc Cert.PartInRefIdeal.main_arg1) = m ((c.tc : Thread Cert.PartInRefIdeal.nD Cert.PartInRefIdeal.τ).loc Cert.PartInRefIdeal.main_arg1))
      ∧ r.2.sem = fun _ => 0)

def quiescent_PartOut [hPartOut : Cert.PartOut.Facts] : Prop :=
  ∀ (m : (ℓ : Loc Cert.PartOut.nD Cert.PartOut.τ Cert.PartOut.sig) → Buf (Elt Bits) ℓ) (g : Dev Cert.PartOut.nD → PrngReg), Pre_PartOut m →
    θ_run (Cert.PartOut.defs (F := Bits)) (onTc (τ := Cert.PartOut.τ) (Cert.PartOut.main (F := Bits))) ⟨m, fun _ => 0, g⟩ (fun r => (∀ c : Dev Cert.PartOut.nD,
      r.2.mem ((c.tc : Thread Cert.PartOut.nD Cert.PartOut.τ).loc Cert.PartOut.main_arg0) = m ((c.tc : Thread Cert.PartOut.nD Cert.PartOut.τ).loc Cert.PartOut.main_arg0)
      ∧ r.2.mem ((c.tc : Thread Cert.PartOut.nD Cert.PartOut.τ).loc Cert.PartOut.main_arg1) = m ((c.tc : Thread Cert.PartOut.nD Cert.PartOut.τ).loc Cert.PartOut.main_arg1))
      ∧ r.2.sem = fun _ => 0)

def quiescent_PartOutIdeal [hPartOutIdeal : Cert.PartOutIdeal.Facts] : Prop :=
  ∀ (m : (ℓ : Loc Cert.PartOutIdeal.nD Cert.PartOutIdeal.τ Cert.PartOutIdeal.sig) → Buf (Elt Ideal) ℓ) (g : Dev Cert.PartOutIdeal.nD → PrngReg), Pre_PartOutIdeal m →
    θ_run (Cert.PartOutIdeal.defs (F := Ideal)) (onTc (τ := Cert.PartOutIdeal.τ) (Cert.PartOutIdeal.main (F := Ideal))) ⟨m, fun _ => 0, g⟩ (fun r => (∀ c : Dev Cert.PartOutIdeal.nD,
      r.2.mem ((c.tc : Thread Cert.PartOutIdeal.nD Cert.PartOutIdeal.τ).loc Cert.PartOutIdeal.main_arg0) = m ((c.tc : Thread Cert.PartOutIdeal.nD Cert.PartOutIdeal.τ).loc Cert.PartOutIdeal.main_arg0)
      ∧ r.2.mem ((c.tc : Thread Cert.PartOutIdeal.nD Cert.PartOutIdeal.τ).loc Cert.PartOutIdeal.main_arg1) = m ((c.tc : Thread Cert.PartOutIdeal.nD Cert.PartOutIdeal.τ).loc Cert.PartOutIdeal.main_arg1))
      ∧ r.2.sem = fun _ => 0)

def quiescent_PartOutRefIdeal [hPartOutRefIdeal : Cert.PartOutRefIdeal.Facts] : Prop :=
  ∀ (m : (ℓ : Loc Cert.PartOutRefIdeal.nD Cert.PartOutRefIdeal.τ Cert.PartOutRefIdeal.sig) → Buf (Elt Ideal) ℓ) (g : Dev Cert.PartOutRefIdeal.nD → PrngReg), Pre_PartOutRefIdeal m →
    θ_run (Cert.PartOutRefIdeal.defs (F := Ideal)) (onTc (τ := Cert.PartOutRefIdeal.τ) (Cert.PartOutRefIdeal.main (F := Ideal))) ⟨m, fun _ => 0, g⟩ (fun r => (∀ c : Dev Cert.PartOutRefIdeal.nD,
      r.2.mem ((c.tc : Thread Cert.PartOutRefIdeal.nD Cert.PartOutRefIdeal.τ).loc Cert.PartOutRefIdeal.main_arg0) = m ((c.tc : Thread Cert.PartOutRefIdeal.nD Cert.PartOutRefIdeal.τ).loc Cert.PartOutRefIdeal.main_arg0)
      ∧ r.2.mem ((c.tc : Thread Cert.PartOutRefIdeal.nD Cert.PartOutRefIdeal.τ).loc Cert.PartOutRefIdeal.main_arg1) = m ((c.tc : Thread Cert.PartOutRefIdeal.nD Cert.PartOutRefIdeal.τ).loc Cert.PartOutRefIdeal.main_arg1))
      ∧ r.2.sem = fun _ => 0)

def quiescent_PartUp [hPartUp : Cert.PartUp.Facts] : Prop :=
  ∀ (m : (ℓ : Loc Cert.PartUp.nD Cert.PartUp.τ Cert.PartUp.sig) → Buf (Elt Bits) ℓ) (g : Dev Cert.PartUp.nD → PrngReg), Pre_PartUp m →
    θ_run (Cert.PartUp.defs (F := Bits)) (onTc (τ := Cert.PartUp.τ) (Cert.PartUp.main (F := Bits))) ⟨m, fun _ => 0, g⟩ (fun r => (∀ c : Dev Cert.PartUp.nD,
      r.2.mem ((c.tc : Thread Cert.PartUp.nD Cert.PartUp.τ).loc Cert.PartUp.main_arg0) = m ((c.tc : Thread Cert.PartUp.nD Cert.PartUp.τ).loc Cert.PartUp.main_arg0)
      ∧ r.2.mem ((c.tc : Thread Cert.PartUp.nD Cert.PartUp.τ).loc Cert.PartUp.main_arg1) = m ((c.tc : Thread Cert.PartUp.nD Cert.PartUp.τ).loc Cert.PartUp.main_arg1))
      ∧ r.2.sem = fun _ => 0)

def quiescent_PartUpIdeal [hPartUpIdeal : Cert.PartUpIdeal.Facts] : Prop :=
  ∀ (m : (ℓ : Loc Cert.PartUpIdeal.nD Cert.PartUpIdeal.τ Cert.PartUpIdeal.sig) → Buf (Elt Ideal) ℓ) (g : Dev Cert.PartUpIdeal.nD → PrngReg), Pre_PartUpIdeal m →
    θ_run (Cert.PartUpIdeal.defs (F := Ideal)) (onTc (τ := Cert.PartUpIdeal.τ) (Cert.PartUpIdeal.main (F := Ideal))) ⟨m, fun _ => 0, g⟩ (fun r => (∀ c : Dev Cert.PartUpIdeal.nD,
      r.2.mem ((c.tc : Thread Cert.PartUpIdeal.nD Cert.PartUpIdeal.τ).loc Cert.PartUpIdeal.main_arg0) = m ((c.tc : Thread Cert.PartUpIdeal.nD Cert.PartUpIdeal.τ).loc Cert.PartUpIdeal.main_arg0)
      ∧ r.2.mem ((c.tc : Thread Cert.PartUpIdeal.nD Cert.PartUpIdeal.τ).loc Cert.PartUpIdeal.main_arg1) = m ((c.tc : Thread Cert.PartUpIdeal.nD Cert.PartUpIdeal.τ).loc Cert.PartUpIdeal.main_arg1))
      ∧ r.2.sem = fun _ => 0)

def quiescent_PartUpRefIdeal [hPartUpRefIdeal : Cert.PartUpRefIdeal.Facts] : Prop :=
  ∀ (m : (ℓ : Loc Cert.PartUpRefIdeal.nD Cert.PartUpRefIdeal.τ Cert.PartUpRefIdeal.sig) → Buf (Elt Ideal) ℓ) (g : Dev Cert.PartUpRefIdeal.nD → PrngReg), Pre_PartUpRefIdeal m →
    θ_run (Cert.PartUpRefIdeal.defs (F := Ideal)) (onTc (τ := Cert.PartUpRefIdeal.τ) (Cert.PartUpRefIdeal.main (F := Ideal))) ⟨m, fun _ => 0, g⟩ (fun r => (∀ c : Dev Cert.PartUpRefIdeal.nD,
      r.2.mem ((c.tc : Thread Cert.PartUpRefIdeal.nD Cert.PartUpRefIdeal.τ).loc Cert.PartUpRefIdeal.main_arg0) = m ((c.tc : Thread Cert.PartUpRefIdeal.nD Cert.PartUpRefIdeal.τ).loc Cert.PartUpRefIdeal.main_arg0)
      ∧ r.2.mem ((c.tc : Thread Cert.PartUpRefIdeal.nD Cert.PartUpRefIdeal.τ).loc Cert.PartUpRefIdeal.main_arg1) = m ((c.tc : Thread Cert.PartUpRefIdeal.nD Cert.PartUpRefIdeal.τ).loc Cert.PartUpRefIdeal.main_arg1))
      ∧ r.2.sem = fun _ => 0)

def quiescent_PartDown [hPartDown : Cert.PartDown.Facts] : Prop :=
  ∀ (m : (ℓ : Loc Cert.PartDown.nD Cert.PartDown.τ Cert.PartDown.sig) → Buf (Elt Bits) ℓ) (g : Dev Cert.PartDown.nD → PrngReg), Pre_PartDown m →
    θ_run (Cert.PartDown.defs (F := Bits)) (onTc (τ := Cert.PartDown.τ) (Cert.PartDown.main (F := Bits))) ⟨m, fun _ => 0, g⟩ (fun r => (∀ c : Dev Cert.PartDown.nD,
      r.2.mem ((c.tc : Thread Cert.PartDown.nD Cert.PartDown.τ).loc Cert.PartDown.main_arg0) = m ((c.tc : Thread Cert.PartDown.nD Cert.PartDown.τ).loc Cert.PartDown.main_arg0)
      ∧ r.2.mem ((c.tc : Thread Cert.PartDown.nD Cert.PartDown.τ).loc Cert.PartDown.main_arg1) = m ((c.tc : Thread Cert.PartDown.nD Cert.PartDown.τ).loc Cert.PartDown.main_arg1))
      ∧ r.2.sem = fun _ => 0)

def quiescent_PartDownIdeal [hPartDownIdeal : Cert.PartDownIdeal.Facts] : Prop :=
  ∀ (m : (ℓ : Loc Cert.PartDownIdeal.nD Cert.PartDownIdeal.τ Cert.PartDownIdeal.sig) → Buf (Elt Ideal) ℓ) (g : Dev Cert.PartDownIdeal.nD → PrngReg), Pre_PartDownIdeal m →
    θ_run (Cert.PartDownIdeal.defs (F := Ideal)) (onTc (τ := Cert.PartDownIdeal.τ) (Cert.PartDownIdeal.main (F := Ideal))) ⟨m, fun _ => 0, g⟩ (fun r => (∀ c : Dev Cert.PartDownIdeal.nD,
      r.2.mem ((c.tc : Thread Cert.PartDownIdeal.nD Cert.PartDownIdeal.τ).loc Cert.PartDownIdeal.main_arg0) = m ((c.tc : Thread Cert.PartDownIdeal.nD Cert.PartDownIdeal.τ).loc Cert.PartDownIdeal.main_arg0)
      ∧ r.2.mem ((c.tc : Thread Cert.PartDownIdeal.nD Cert.PartDownIdeal.τ).loc Cert.PartDownIdeal.main_arg1) = m ((c.tc : Thread Cert.PartDownIdeal.nD Cert.PartDownIdeal.τ).loc Cert.PartDownIdeal.main_arg1))
      ∧ r.2.sem = fun _ => 0)

def quiescent_PartDownRefIdeal [hPartDownRefIdeal : Cert.PartDownRefIdeal.Facts] : Prop :=
  ∀ (m : (ℓ : Loc Cert.PartDownRefIdeal.nD Cert.PartDownRefIdeal.τ Cert.PartDownRefIdeal.sig) → Buf (Elt Ideal) ℓ) (g : Dev Cert.PartDownRefIdeal.nD → PrngReg), Pre_PartDownRefIdeal m →
    θ_run (Cert.PartDownRefIdeal.defs (F := Ideal)) (onTc (τ := Cert.PartDownRefIdeal.τ) (Cert.PartDownRefIdeal.main (F := Ideal))) ⟨m, fun _ => 0, g⟩ (fun r => (∀ c : Dev Cert.PartDownRefIdeal.nD,
      r.2.mem ((c.tc : Thread Cert.PartDownRefIdeal.nD Cert.PartDownRefIdeal.τ).loc Cert.PartDownRefIdeal.main_arg0) = m ((c.tc : Thread Cert.PartDownRefIdeal.nD Cert.PartDownRefIdeal.τ).loc Cert.PartDownRefIdeal.main_arg0)
      ∧ r.2.mem ((c.tc : Thread Cert.PartDownRefIdeal.nD Cert.PartDownRefIdeal.τ).loc Cert.PartDownRefIdeal.main_arg1) = m ((c.tc : Thread Cert.PartDownRefIdeal.nD Cert.PartDownRefIdeal.τ).loc Cert.PartDownRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)) (v2 : (c : Dev Cert.UpIdeal.nD) → Buf (Elt Ideal) ((c.tc : Thread Cert.UpIdeal.nD Cert.UpIdeal.τ).loc Cert.UpIdeal.main_v1_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_v1_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v40) = v0 c
          ∧ r.2.mem ((c.tc : Thread Cert.UpRefIdeal.nD Cert.UpRefIdeal.τ).loc Cert.UpRefIdeal.main_v41) = v1 c
          ∧ r.2.mem ((c.tc : Thread Cert.UpRefIdeal.nD Cert.UpRefIdeal.τ).loc Cert.UpRefIdeal.main_v42) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Wup_WupIdeal : Prop :=
  True

def algebraic_WupIdeal_WupRefIdeal [hWupIdeal : Cert.WupIdeal.Facts] [hWupRefIdeal : Cert.WupRefIdeal.Facts] : Prop :=
  ∀ (m : (ℓ : Loc Cert.WupIdeal.nD Cert.WupIdeal.τ Cert.WupIdeal.sig) → Buf (Elt Ideal) ℓ) (g : Dev Cert.WupIdeal.nD → PrngReg)
    (m' : (ℓ : Loc Cert.WupRefIdeal.nD Cert.WupRefIdeal.τ Cert.WupRefIdeal.sig) → Buf (Elt Ideal) ℓ) (g' : Dev Cert.WupRefIdeal.nD → PrngReg), Pre_WupIdeal m →
    (∀ c : Dev Cert.WupIdeal.nD,
      m' ((c.tc : Thread Cert.WupRefIdeal.nD Cert.WupRefIdeal.τ).loc Cert.WupRefIdeal.main_arg0) = m ((c.tc : Thread Cert.WupIdeal.nD Cert.WupIdeal.τ).loc Cert.WupIdeal.main_arg0)
      ∧ m' ((c.tc : Thread Cert.WupRefIdeal.nD Cert.WupRefIdeal.τ).loc Cert.WupRefIdeal.main_arg1) = m ((c.tc : Thread Cert.WupIdeal.nD Cert.WupIdeal.τ).loc Cert.WupIdeal.main_arg1)
      ∧ m' ((c.tc : Thread Cert.WupRefIdeal.nD Cert.WupRefIdeal.τ).loc Cert.WupRefIdeal.main_arg2) = m ((c.tc : Thread Cert.WupIdeal.nD Cert.WupIdeal.τ).loc Cert.WupIdeal.main_arg2)) →
    ∃ (v0 : (c : Dev Cert.WupIdeal.nD) → Buf (Elt Ideal) ((c.tc : Thread Cert.WupIdeal.nD Cert.WupIdeal.τ).loc Cert.WupIdeal.main_v15_0)) (v1 : (c : Dev Cert.WupIdeal.nD) → Buf (Elt Ideal) ((c.tc : Thread Cert.WupIdeal.nD Cert.WupIdeal.τ).loc Cert.WupIdeal.main_v15_1)),
      θ_run (Cert.WupIdeal.defs (F := Ideal)) (onTc (τ := Cert.WupIdeal.τ) (Cert.WupIdeal.main (F := Ideal))) ⟨m, fun _ => 0, g⟩ (fun r => ∀ c : Dev Cert.WupIdeal.nD,
          r.2.mem ((c.tc : Thread Cert.WupIdeal.nD Cert.WupIdeal.τ).loc Cert.WupIdeal.main_v15_0) = v0 c
          ∧ r.2.mem ((c.tc : Thread Cert.WupIdeal.nD Cert.WupIdeal.τ).loc Cert.WupIdeal.main_v15_1) = v1 c
          ∧ r.2.mem ((c.tc : Thread Cert.WupIdeal.nD Cert.WupIdeal.τ).loc Cert.WupIdeal.main_arg0) = m ((c.tc : Thread Cert.WupIdeal.nD Cert.WupIdeal.τ).loc Cert.WupIdeal.main_arg0)
          ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
          ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ θ_run (Cert.WupRefIdeal.defs (F := Ideal)) (onTc (τ := Cert.WupRefIdeal.τ) (Cert.WupRefIdeal.main (F := Ideal))) ⟨m', fun _ => 0, g'⟩ (fun r => ∀ c : Dev Cert.WupRefIdeal.nD,
          r.2.mem ((c.tc : Thread Cert.WupRefIdeal.nD Cert.WupRefIdeal.τ).loc Cert.WupRefIdeal.main_v16) = v0 c
          ∧ r.2.mem ((c.tc : Thread Cert.WupRefIdeal.nD Cert.WupRefIdeal.τ).loc Cert.WupRefIdeal.main_v17) = v1 c
          ∧ r.2.mem ((c.tc : Thread Cert.WupRefIdeal.nD Cert.WupRefIdeal.τ).loc Cert.WupRefIdeal.main_arg0) = m' ((c.tc : Thread Cert.WupRefIdeal.nD Cert.WupRefIdeal.τ).loc Cert.WupRefIdeal.main_arg0)
          ∧ r.2.mem ((c.tc : Thread Cert.WupRefIdeal.nD Cert.WupRefIdeal.τ).loc Cert.WupRefIdeal.main_arg1) = m' ((c.tc : Thread Cert.WupRefIdeal.nD Cert.WupRefIdeal.τ).loc Cert.WupRefIdeal.main_arg1)
          ∧ r.2.mem ((c.tc : Thread Cert.WupRefIdeal.nD Cert.WupRefIdeal.τ).loc Cert.WupRefIdeal.main_arg2) = m' ((c.tc : Thread Cert.WupRefIdeal.nD Cert.WupRefIdeal.τ).loc Cert.WupRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v40) = v0 c
          ∧ r.2.mem ((c.tc : Thread Cert.InRefIdeal.nD Cert.InRefIdeal.τ).loc Cert.InRefIdeal.main_v41) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v15_0)) (v1 : (c : Dev Cert.WinIdeal.nD) → Buf (Elt Ideal) ((c.tc : Thread Cert.WinIdeal.nD Cert.WinIdeal.τ).loc Cert.WinIdeal.main_v15_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v15_0) = v0 c
          ∧ r.2.mem ((c.tc : Thread Cert.WinIdeal.nD Cert.WinIdeal.τ).loc Cert.WinIdeal.main_v15_1) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v16) = v0 c
          ∧ r.2.mem ((c.tc : Thread Cert.WinRefIdeal.nD Cert.WinRefIdeal.τ).loc Cert.WinRefIdeal.main_v17) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v5_0)) (v1 : (c : Dev Cert.WdownIdeal.nD) → Buf (Elt Ideal) ((c.tc : Thread Cert.WdownIdeal.nD Cert.WdownIdeal.τ).loc Cert.WdownIdeal.main_v5_1)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v5_0) = v0 c
          ∧ r.2.mem ((c.tc : Thread Cert.WdownIdeal.nD Cert.WdownIdeal.τ).loc Cert.WdownIdeal.main_v5_1) = v1 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v5) = v0 c
          ∧ r.2.mem ((c.tc : Thread Cert.WdownRefIdeal.nD Cert.WdownRefIdeal.τ).loc Cert.WdownRefIdeal.main_v6) = v1 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)) →
    ∃ (v0 : (c : Dev Cert.WoutIdeal.nD) → Buf (Elt Ideal) ((c.tc : Thread Cert.WoutIdeal.nD Cert.WoutIdeal.τ).loc Cert.WoutIdeal.main_v2_0)) (v1 : (c : Dev Cert.WoutIdeal.nD) → Buf (Elt Ideal) ((c.tc : Thread Cert.WoutIdeal.nD Cert.WoutIdeal.τ).loc Cert.WoutIdeal.main_v2_1)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v2_0) = v0 c
          ∧ r.2.mem ((c.tc : Thread Cert.WoutIdeal.nD Cert.WoutIdeal.τ).loc Cert.WoutIdeal.main_v2_1) = v1 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v3) = v0 c
          ∧ r.2.mem ((c.tc : Thread Cert.WoutRefIdeal.nD Cert.WoutRefIdeal.τ).loc Cert.WoutRefIdeal.main_v4) = v1 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v4_0)) (v1 : (c : Dev Cert.MidIdeal.nD) → Buf (Elt Ideal) ((c.tc : Thread Cert.MidIdeal.nD Cert.MidIdeal.τ).loc Cert.MidIdeal.main_v4_1)) (v2 : (c : Dev Cert.MidIdeal.nD) → Buf (Elt Ideal) ((c.tc : Thread Cert.MidIdeal.nD Cert.MidIdeal.τ).loc Cert.MidIdeal.main_v4_2)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v4_0) = v0 c
          ∧ r.2.mem ((c.tc : Thread Cert.MidIdeal.nD Cert.MidIdeal.τ).loc Cert.MidIdeal.main_v4_1) = v1 c
          ∧ r.2.mem ((c.tc : Thread Cert.MidIdeal.nD Cert.MidIdeal.τ).loc Cert.MidIdeal.main_v4_2) = v2 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v2) = v0 c
          ∧ r.2.mem ((c.tc : Thread Cert.MidRefIdeal.nD Cert.MidRefIdeal.τ).loc Cert.MidRefIdeal.main_v17) = v1 c
          ∧ r.2.mem ((c.tc : Thread Cert.MidRefIdeal.nD Cert.MidRefIdeal.τ).loc Cert.MidRefIdeal.main_v18) = v2 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_Out_OutIdeal : Prop :=
  True

def algebraic_OutIdeal_OutRefIdeal_pre_finite_out [hOutIdeal : Cert.OutIdeal.Facts] [hOutRefIdeal : Cert.OutRefIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_out m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v9_0)) (v1 : (c : Dev Cert.OutIdeal.nD) → Buf (Elt Ideal) ((c.tc : Thread Cert.OutIdeal.nD Cert.OutIdeal.τ).loc Cert.OutIdeal.main_v9_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9_0) = v0 c
          ∧ r.2.mem ((c.tc : Thread Cert.OutIdeal.nD Cert.OutIdeal.τ).loc Cert.OutIdeal.main_v9_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v8) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Proj_ProjIdeal : Prop :=
  True

def algebraic_ProjIdeal_ProjRefIdeal_pre_finite_proj [hProjIdeal : Cert.ProjIdeal.Facts] [hProjRefIdeal : Cert.ProjRefIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_proj m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v34_0)) (v1 : (c : Dev Cert.ProjIdeal.nD) → Buf (Elt Ideal) ((c.tc : Thread Cert.ProjIdeal.nD Cert.ProjIdeal.τ).loc Cert.ProjIdeal.main_v34_1)) (v2 : (c : Dev Cert.ProjIdeal.nD) → Buf (Elt Ideal) ((c.tc : Thread Cert.ProjIdeal.nD Cert.ProjIdeal.τ).loc Cert.ProjIdeal.main_v34_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v34_0) = v0 c
          ∧ r.2.mem ((c.tc : Thread Cert.ProjIdeal.nD Cert.ProjIdeal.τ).loc Cert.ProjIdeal.main_v34_1) = v1 c
          ∧ r.2.mem ((c.tc : Thread Cert.ProjIdeal.nD Cert.ProjIdeal.τ).loc Cert.ProjIdeal.main_v34_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v47) = v1 c
          ∧ r.2.mem ((c.tc : Thread Cert.ProjRefIdeal.nD Cert.ProjRefIdeal.τ).loc Cert.ProjRefIdeal.main_v48) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Qb_QbIdeal : Prop :=
  True

def algebraic_QbIdeal_QbRefIdeal_pre_finite_qb [hQbIdeal : Cert.QbIdeal.Facts] [hQbRefIdeal : Cert.QbRefIdeal.Facts] [hPre_finite_qb : Cert.Pre_finite_qb.Facts] : Prop :=
  ∀ (m : (ℓ : Loc Cert.QbIdeal.nD Cert.QbIdeal.τ Cert.QbIdeal.sig) → Buf (Elt Ideal) ℓ) (g : Dev Cert.QbIdeal.nD → PrngReg)
    (m' : (ℓ : Loc Cert.QbRefIdeal.nD Cert.QbRefIdeal.τ Cert.QbRefIdeal.sig) → Buf (Elt Ideal) ℓ) (g' : Dev Cert.QbRefIdeal.nD → PrngReg), Pre_QbIdeal_finite_qb m →
    (∀ c : Dev Cert.QbIdeal.nD,
      m' ((c.tc : Thread Cert.QbRefIdeal.nD Cert.QbRefIdeal.τ).loc Cert.QbRefIdeal.main_arg0) = m ((c.tc : Thread Cert.QbIdeal.nD Cert.QbIdeal.τ).loc Cert.QbIdeal.main_arg0)
      ∧ m' ((c.tc : Thread Cert.QbRefIdeal.nD Cert.QbRefIdeal.τ).loc Cert.QbRefIdeal.main_arg1) = m ((c.tc : Thread Cert.QbIdeal.nD Cert.QbIdeal.τ).loc Cert.QbIdeal.main_arg1)
      ∧ m' ((c.tc : Thread Cert.QbRefIdeal.nD Cert.QbRefIdeal.τ).loc Cert.QbRefIdeal.main_arg2) = m ((c.tc : Thread Cert.QbIdeal.nD Cert.QbIdeal.τ).loc Cert.QbIdeal.main_arg2)
      ∧ m' ((c.tc : Thread Cert.QbRefIdeal.nD Cert.QbRefIdeal.τ).loc Cert.QbRefIdeal.main_arg3) = m ((c.tc : Thread Cert.QbIdeal.nD Cert.QbIdeal.τ).loc Cert.QbIdeal.main_arg3)) →
    ∃ (v0 : (c : Dev Cert.QbIdeal.nD) → Buf (Elt Ideal) ((c.tc : Thread Cert.QbIdeal.nD Cert.QbIdeal.τ).loc Cert.QbIdeal.main_v8_0)) (v1 : (c : Dev Cert.QbIdeal.nD) → Buf (Elt Ideal) ((c.tc : Thread Cert.QbIdeal.nD Cert.QbIdeal.τ).loc Cert.QbIdeal.main_v8_1)) (v2 : (c : Dev Cert.QbIdeal.nD) → Buf (Elt Ideal) ((c.tc : Thread Cert.QbIdeal.nD Cert.QbIdeal.τ).loc Cert.QbIdeal.main_v12)),
      θ_run (Cert.QbIdeal.defs (F := Ideal)) (onTc (τ := Cert.QbIdeal.τ) (Cert.QbIdeal.main (F := Ideal))) ⟨m, fun _ => 0, g⟩ (fun r => ∀ c : Dev Cert.QbIdeal.nD,
          r.2.mem ((c.tc : Thread Cert.QbIdeal.nD Cert.QbIdeal.τ).loc Cert.QbIdeal.main_v8_0) = v0 c
          ∧ r.2.mem ((c.tc : Thread Cert.QbIdeal.nD Cert.QbIdeal.τ).loc Cert.QbIdeal.main_v8_1) = v1 c
          ∧ r.2.mem ((c.tc : Thread Cert.QbIdeal.nD Cert.QbIdeal.τ).loc Cert.QbIdeal.main_v12) = v2 c
          ∧ r.2.mem ((c.tc : Thread Cert.QbIdeal.nD Cert.QbIdeal.τ).loc Cert.QbIdeal.main_arg0) = m ((c.tc : Thread Cert.QbIdeal.nD Cert.QbIdeal.τ).loc Cert.QbIdeal.main_arg0)
          ∧ r.2.mem ((c.tc : Thread Cert.QbIdeal.nD Cert.QbIdeal.τ).loc Cert.QbIdeal.main_arg1) = m ((c.tc : Thread Cert.QbIdeal.nD Cert.QbIdeal.τ).loc Cert.QbIdeal.main_arg1)
          ∧ r.2.mem ((c.tc : Thread Cert.QbIdeal.nD Cert.QbIdeal.τ).loc Cert.QbIdeal.main_arg2) = m ((c.tc : Thread Cert.QbIdeal.nD Cert.QbIdeal.τ).loc Cert.QbIdeal.main_arg2)
          ∧ r.2.mem ((c.tc : Thread Cert.QbIdeal.nD Cert.QbIdeal.τ).loc Cert.QbIdeal.main_arg3) = m ((c.tc : Thread Cert.QbIdeal.nD Cert.QbIdeal.τ).loc Cert.QbIdeal.main_arg3))
      ∧ θ_run (Cert.QbRefIdeal.defs (F := Ideal)) (onTc (τ := Cert.QbRefIdeal.τ) (Cert.QbRefIdeal.main (F := Ideal))) ⟨m', fun _ => 0, g'⟩ (fun r => ∀ c : Dev Cert.QbRefIdeal.nD,
          r.2.mem ((c.tc : Thread Cert.QbRefIdeal.nD Cert.QbRefIdeal.τ).loc Cert.QbRefIdeal.main_v46) = v0 c
          ∧ r.2.mem ((c.tc : Thread Cert.QbRefIdeal.nD Cert.QbRefIdeal.τ).loc Cert.QbRefIdeal.main_v41) = v1 c
          ∧ r.2.mem ((c.tc : Thread Cert.QbRefIdeal.nD Cert.QbRefIdeal.τ).loc Cert.QbRefIdeal.main_v51) = v2 c
          ∧ r.2.mem ((c.tc : Thread Cert.QbRefIdeal.nD Cert.QbRefIdeal.τ).loc Cert.QbRefIdeal.main_arg0) = m' ((c.tc : Thread Cert.QbRefIdeal.nD Cert.QbRefIdeal.τ).loc Cert.QbRefIdeal.main_arg0)
          ∧ r.2.mem ((c.tc : Thread Cert.QbRefIdeal.nD Cert.QbRefIdeal.τ).loc Cert.QbRefIdeal.main_arg1) = m' ((c.tc : Thread Cert.QbRefIdeal.nD Cert.QbRefIdeal.τ).loc Cert.QbRefIdeal.main_arg1)
          ∧ r.2.mem ((c.tc : Thread Cert.QbRefIdeal.nD Cert.QbRefIdeal.τ).loc Cert.QbRefIdeal.main_arg2) = m' ((c.tc : Thread Cert.QbRefIdeal.nD Cert.QbRefIdeal.τ).loc Cert.QbRefIdeal.main_arg2)
          ∧ r.2.mem ((c.tc : Thread Cert.QbRefIdeal.nD Cert.QbRefIdeal.τ).loc Cert.QbRefIdeal.main_arg3) = m' ((c.tc : Thread Cert.QbRefIdeal.nD Cert.QbRefIdeal.τ).loc Cert.QbRefIdeal.main_arg3))

def preserves_Kb_KbIdeal : Prop :=
  True

def algebraic_KbIdeal_KbRefIdeal_pre_finite_kb [hKbIdeal : Cert.KbIdeal.Facts] [hKbRefIdeal : Cert.KbRefIdeal.Facts] [hPre_finite_kb : Cert.Pre_finite_kb.Facts] : Prop :=
  ∀ (m : (ℓ : Loc Cert.KbIdeal.nD Cert.KbIdeal.τ Cert.KbIdeal.sig) → Buf (Elt Ideal) ℓ) (g : Dev Cert.KbIdeal.nD → PrngReg)
    (m' : (ℓ : Loc Cert.KbRefIdeal.nD Cert.KbRefIdeal.τ Cert.KbRefIdeal.sig) → Buf (Elt Ideal) ℓ) (g' : Dev Cert.KbRefIdeal.nD → PrngReg), Pre_KbIdeal_finite_kb m →
    (∀ c : Dev Cert.KbIdeal.nD,
      m' ((c.tc : Thread Cert.KbRefIdeal.nD Cert.KbRefIdeal.τ).loc Cert.KbRefIdeal.main_arg0) = m ((c.tc : Thread Cert.KbIdeal.nD Cert.KbIdeal.τ).loc Cert.KbIdeal.main_arg0)
      ∧ m' ((c.tc : Thread Cert.KbRefIdeal.nD Cert.KbRefIdeal.τ).loc Cert.KbRefIdeal.main_arg1) = m ((c.tc : Thread Cert.KbIdeal.nD Cert.KbIdeal.τ).loc Cert.KbIdeal.main_arg1)
      ∧ m' ((c.tc : Thread Cert.KbRefIdeal.nD Cert.KbRefIdeal.τ).loc Cert.KbRefIdeal.main_arg2) = m ((c.tc : Thread Cert.KbIdeal.nD Cert.KbIdeal.τ).loc Cert.KbIdeal.main_arg2)
      ∧ m' ((c.tc : Thread Cert.KbRefIdeal.nD Cert.KbRefIdeal.τ).loc Cert.KbRefIdeal.main_arg3) = m ((c.tc : Thread Cert.KbIdeal.nD Cert.KbIdeal.τ).loc Cert.KbIdeal.main_arg3)) →
    ∃ (v0 : (c : Dev Cert.KbIdeal.nD) → Buf (Elt Ideal) ((c.tc : Thread Cert.KbIdeal.nD Cert.KbIdeal.τ).loc Cert.KbIdeal.main_v8_0)) (v1 : (c : Dev Cert.KbIdeal.nD) → Buf (Elt Ideal) ((c.tc : Thread Cert.KbIdeal.nD Cert.KbIdeal.τ).loc Cert.KbIdeal.main_v8_1)) (v2 : (c : Dev Cert.KbIdeal.nD) → Buf (Elt Ideal) ((c.tc : Thread Cert.KbIdeal.nD Cert.KbIdeal.τ).loc Cert.KbIdeal.main_v10)),
      θ_run (Cert.KbIdeal.defs (F := Ideal)) (onTc (τ := Cert.KbIdeal.τ) (Cert.KbIdeal.main (F := Ideal))) ⟨m, fun _ => 0, g⟩ (fun r => ∀ c : Dev Cert.KbIdeal.nD,
          r.2.mem ((c.tc : Thread Cert.KbIdeal.nD Cert.KbIdeal.τ).loc Cert.KbIdeal.main_v8_0) = v0 c
          ∧ r.2.mem ((c.tc : Thread Cert.KbIdeal.nD Cert.KbIdeal.τ).loc Cert.KbIdeal.main_v8_1) = v1 c
          ∧ r.2.mem ((c.tc : Thread Cert.KbIdeal.nD Cert.KbIdeal.τ).loc Cert.KbIdeal.main_v10) = v2 c
          ∧ r.2.mem ((c.tc : Thread Cert.KbIdeal.nD Cert.KbIdeal.τ).loc Cert.KbIdeal.main_arg0) = m ((c.tc : Thread Cert.KbIdeal.nD Cert.KbIdeal.τ).loc Cert.KbIdeal.main_arg0)
          ∧ r.2.mem ((c.tc : Thread Cert.KbIdeal.nD Cert.KbIdeal.τ).loc Cert.KbIdeal.main_arg1) = m ((c.tc : Thread Cert.KbIdeal.nD Cert.KbIdeal.τ).loc Cert.KbIdeal.main_arg1)
          ∧ r.2.mem ((c.tc : Thread Cert.KbIdeal.nD Cert.KbIdeal.τ).loc Cert.KbIdeal.main_arg2) = m ((c.tc : Thread Cert.KbIdeal.nD Cert.KbIdeal.τ).loc Cert.KbIdeal.main_arg2)
          ∧ r.2.mem ((c.tc : Thread Cert.KbIdeal.nD Cert.KbIdeal.τ).loc Cert.KbIdeal.main_arg3) = m ((c.tc : Thread Cert.KbIdeal.nD Cert.KbIdeal.τ).loc Cert.KbIdeal.main_arg3))
      ∧ θ_run (Cert.KbRefIdeal.defs (F := Ideal)) (onTc (τ := Cert.KbRefIdeal.τ) (Cert.KbRefIdeal.main (F := Ideal))) ⟨m', fun _ => 0, g'⟩ (fun r => ∀ c : Dev Cert.KbRefIdeal.nD,
          r.2.mem ((c.tc : Thread Cert.KbRefIdeal.nD Cert.KbRefIdeal.τ).loc Cert.KbRefIdeal.main_v46) = v0 c
          ∧ r.2.mem ((c.tc : Thread Cert.KbRefIdeal.nD Cert.KbRefIdeal.τ).loc Cert.KbRefIdeal.main_v41) = v1 c
          ∧ r.2.mem ((c.tc : Thread Cert.KbRefIdeal.nD Cert.KbRefIdeal.τ).loc Cert.KbRefIdeal.main_v49) = v2 c
          ∧ r.2.mem ((c.tc : Thread Cert.KbRefIdeal.nD Cert.KbRefIdeal.τ).loc Cert.KbRefIdeal.main_arg0) = m' ((c.tc : Thread Cert.KbRefIdeal.nD Cert.KbRefIdeal.τ).loc Cert.KbRefIdeal.main_arg0)
          ∧ r.2.mem ((c.tc : Thread Cert.KbRefIdeal.nD Cert.KbRefIdeal.τ).loc Cert.KbRefIdeal.main_arg1) = m' ((c.tc : Thread Cert.KbRefIdeal.nD Cert.KbRefIdeal.τ).loc Cert.KbRefIdeal.main_arg1)
          ∧ r.2.mem ((c.tc : Thread Cert.KbRefIdeal.nD Cert.KbRefIdeal.τ).loc Cert.KbRefIdeal.main_arg2) = m' ((c.tc : Thread Cert.KbRefIdeal.nD Cert.KbRefIdeal.τ).loc Cert.KbRefIdeal.main_arg2)
          ∧ r.2.mem ((c.tc : Thread Cert.KbRefIdeal.nD Cert.KbRefIdeal.τ).loc Cert.KbRefIdeal.main_arg3) = m' ((c.tc : Thread Cert.KbRefIdeal.nD Cert.KbRefIdeal.τ).loc Cert.KbRefIdeal.main_arg3))

def preserves_Vb_VbIdeal : Prop :=
  True

def algebraic_VbIdeal_VbRefIdeal [hVbIdeal : Cert.VbIdeal.Facts] [hVbRefIdeal : Cert.VbRefIdeal.Facts] : Prop :=
  ∀ (m : (ℓ : Loc Cert.VbIdeal.nD Cert.VbIdeal.τ Cert.VbIdeal.sig) → Buf (Elt Ideal) ℓ) (g : Dev Cert.VbIdeal.nD → PrngReg)
    (m' : (ℓ : Loc Cert.VbRefIdeal.nD Cert.VbRefIdeal.τ Cert.VbRefIdeal.sig) → Buf (Elt Ideal) ℓ) (g' : Dev Cert.VbRefIdeal.nD → PrngReg), Pre_VbIdeal m →
    (∀ c : Dev Cert.VbIdeal.nD,
      m' ((c.tc : Thread Cert.VbRefIdeal.nD Cert.VbRefIdeal.τ).loc Cert.VbRefIdeal.main_arg0) = m ((c.tc : Thread Cert.VbIdeal.nD Cert.VbIdeal.τ).loc Cert.VbIdeal.main_arg0)
      ∧ m' ((c.tc : Thread Cert.VbRefIdeal.nD Cert.VbRefIdeal.τ).loc Cert.VbRefIdeal.main_arg1) = m ((c.tc : Thread Cert.VbIdeal.nD Cert.VbIdeal.τ).loc Cert.VbIdeal.main_arg1)) →
    ∃ (v0 : (c : Dev Cert.VbIdeal.nD) → Buf (Elt Ideal) ((c.tc : Thread Cert.VbIdeal.nD Cert.VbIdeal.τ).loc Cert.VbIdeal.main_v0)),
      θ_run (Cert.VbIdeal.defs (F := Ideal)) (onTc (τ := Cert.VbIdeal.τ) (Cert.VbIdeal.main (F := Ideal))) ⟨m, fun _ => 0, g⟩ (fun r => ∀ c : Dev Cert.VbIdeal.nD,
          r.2.mem ((c.tc : Thread Cert.VbIdeal.nD Cert.VbIdeal.τ).loc Cert.VbIdeal.main_v0) = v0 c
          ∧ r.2.mem ((c.tc : Thread Cert.VbIdeal.nD Cert.VbIdeal.τ).loc Cert.VbIdeal.main_arg0) = m ((c.tc : Thread Cert.VbIdeal.nD Cert.VbIdeal.τ).loc Cert.VbIdeal.main_arg0)
          ∧ r.2.mem ((c.tc : Thread Cert.VbIdeal.nD Cert.VbIdeal.τ).loc Cert.VbIdeal.main_arg1) = m ((c.tc : Thread Cert.VbIdeal.nD Cert.VbIdeal.τ).loc Cert.VbIdeal.main_arg1))
      ∧ θ_run (Cert.VbRefIdeal.defs (F := Ideal)) (onTc (τ := Cert.VbRefIdeal.τ) (Cert.VbRefIdeal.main (F := Ideal))) ⟨m', fun _ => 0, g'⟩ (fun r => ∀ c : Dev Cert.VbRefIdeal.nD,
          r.2.mem ((c.tc : Thread Cert.VbRefIdeal.nD Cert.VbRefIdeal.τ).loc Cert.VbRefIdeal.main_v2) = v0 c
          ∧ r.2.mem ((c.tc : Thread Cert.VbRefIdeal.nD Cert.VbRefIdeal.τ).loc Cert.VbRefIdeal.main_arg0) = m' ((c.tc : Thread Cert.VbRefIdeal.nD Cert.VbRefIdeal.τ).loc Cert.VbRefIdeal.main_arg0)
          ∧ r.2.mem ((c.tc : Thread Cert.VbRefIdeal.nD Cert.VbRefIdeal.τ).loc Cert.VbRefIdeal.main_arg1) = m' ((c.tc : Thread Cert.VbRefIdeal.nD Cert.VbRefIdeal.τ).loc Cert.VbRefIdeal.main_arg1))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v0)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v14) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v23) = v0 c
          ∧ r.2.mem ((c.tc : Thread Cert.SmallRefIdeal.nD Cert.SmallRefIdeal.τ).loc Cert.SmallRefIdeal.main_v4) = v1 c
          ∧ r.2.mem ((c.tc : Thread Cert.SmallRefIdeal.nD Cert.SmallRefIdeal.τ).loc Cert.SmallRefIdeal.main_v10) = v2 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_Vec_VecIdeal : Prop :=
  True

def algebraic_VecIdeal_VecRefIdeal [hVecIdeal : Cert.VecIdeal.Facts] [hVecRefIdeal : Cert.VecRefIdeal.Facts] : Prop :=
  ∀ (m : (ℓ : Loc Cert.VecIdeal.nD Cert.VecIdeal.τ Cert.VecIdeal.sig) → Buf (Elt Ideal) ℓ) (g : Dev Cert.VecIdeal.nD → PrngReg)
    (m' : (ℓ : Loc Cert.VecRefIdeal.nD Cert.VecRefIdeal.τ Cert.VecRefIdeal.sig) → Buf (Elt Ideal) ℓ) (g' : Dev Cert.VecRefIdeal.nD → PrngReg), Pre_VecIdeal m →
    (∀ c : Dev Cert.VecIdeal.nD,
      m' ((c.tc : Thread Cert.VecRefIdeal.nD Cert.VecRefIdeal.τ).loc Cert.VecRefIdeal.main_arg0) = m ((c.tc : Thread Cert.VecIdeal.nD Cert.VecIdeal.τ).loc Cert.VecIdeal.main_arg0)) →
    ∃ (v0 : (c : Dev Cert.VecIdeal.nD) → Buf (Elt Ideal) ((c.tc : Thread Cert.VecIdeal.nD Cert.VecIdeal.τ).loc Cert.VecIdeal.main_v0)),
      θ_run (Cert.VecIdeal.defs (F := Ideal)) (onTc (τ := Cert.VecIdeal.τ) (Cert.VecIdeal.main (F := Ideal))) ⟨m, fun _ => 0, g⟩ (fun r => ∀ c : Dev Cert.VecIdeal.nD,
          r.2.mem ((c.tc : Thread Cert.VecIdeal.nD Cert.VecIdeal.τ).loc Cert.VecIdeal.main_v0) = v0 c
          ∧ r.2.mem ((c.tc : Thread Cert.VecIdeal.nD Cert.VecIdeal.τ).loc Cert.VecIdeal.main_arg0) = m ((c.tc : Thread Cert.VecIdeal.nD Cert.VecIdeal.τ).loc Cert.VecIdeal.main_arg0))
      ∧ θ_run (Cert.VecRefIdeal.defs (F := Ideal)) (onTc (τ := Cert.VecRefIdeal.τ) (Cert.VecRefIdeal.main (F := Ideal))) ⟨m', fun _ => 0, g'⟩ (fun r => ∀ c : Dev Cert.VecRefIdeal.nD,
          r.2.mem ((c.tc : Thread Cert.VecRefIdeal.nD Cert.VecRefIdeal.τ).loc Cert.VecRefIdeal.main_v0) = v0 c
          ∧ r.2.mem ((c.tc : Thread Cert.VecRefIdeal.nD Cert.VecRefIdeal.τ).loc Cert.VecRefIdeal.main_arg0) = m' ((c.tc : Thread Cert.VecRefIdeal.nD Cert.VecRefIdeal.τ).loc Cert.VecRefIdeal.main_arg0))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)
      ∧ m' ((c.tc : Thread Cert.SumsRefIdeal.nD Cert.SumsRefIdeal.τ).loc Cert.SumsRefIdeal.main_arg1) = m ((c.tc : Thread Cert.SumsIdeal.nD Cert.SumsIdeal.τ).loc Cert.SumsIdeal.main_arg1)
      ∧ m' ((c.tc : Thread Cert.SumsRefIdeal.nD Cert.SumsRefIdeal.τ).loc Cert.SumsRefIdeal.main_arg2) = m ((c.tc : Thread Cert.SumsIdeal.nD Cert.SumsIdeal.τ).loc Cert.SumsIdeal.main_arg2)
      ∧ m' ((c.tc : Thread Cert.SumsRefIdeal.nD Cert.SumsRefIdeal.τ).loc Cert.SumsRefIdeal.main_arg3) = m ((c.tc : Thread Cert.SumsIdeal.nD Cert.SumsIdeal.τ).loc Cert.SumsIdeal.main_arg3)
      ∧ m' ((c.tc : Thread Cert.SumsRefIdeal.nD Cert.SumsRefIdeal.τ).loc Cert.SumsRefIdeal.main_arg4) = m ((c.tc : Thread Cert.SumsIdeal.nD Cert.SumsIdeal.τ).loc Cert.SumsIdeal.main_arg4)
      ∧ m' ((c.tc : Thread Cert.SumsRefIdeal.nD Cert.SumsRefIdeal.τ).loc Cert.SumsRefIdeal.main_arg5) = m ((c.tc : Thread Cert.SumsIdeal.nD Cert.SumsIdeal.τ).loc Cert.SumsIdeal.main_arg5)
      ∧ m' ((c.tc : Thread Cert.SumsRefIdeal.nD Cert.SumsRefIdeal.τ).loc Cert.SumsRefIdeal.main_arg6) = m ((c.tc : Thread Cert.SumsIdeal.nD Cert.SumsIdeal.τ).loc Cert.SumsIdeal.main_arg6)
      ∧ m' ((c.tc : Thread Cert.SumsRefIdeal.nD Cert.SumsRefIdeal.τ).loc Cert.SumsRefIdeal.main_arg7) = m ((c.tc : Thread Cert.SumsIdeal.nD Cert.SumsIdeal.τ).loc Cert.SumsIdeal.main_arg7)
      ∧ m' ((c.tc : Thread Cert.SumsRefIdeal.nD Cert.SumsRefIdeal.τ).loc Cert.SumsRefIdeal.main_arg8) = m ((c.tc : Thread Cert.SumsIdeal.nD Cert.SumsIdeal.τ).loc Cert.SumsIdeal.main_arg8)
      ∧ m' ((c.tc : Thread Cert.SumsRefIdeal.nD Cert.SumsRefIdeal.τ).loc Cert.SumsRefIdeal.main_arg9) = m ((c.tc : Thread Cert.SumsIdeal.nD Cert.SumsIdeal.τ).loc Cert.SumsIdeal.main_arg9)
      ∧ m' ((c.tc : Thread Cert.SumsRefIdeal.nD Cert.SumsRefIdeal.τ).loc Cert.SumsRefIdeal.main_arg10) = m ((c.tc : Thread Cert.SumsIdeal.nD Cert.SumsIdeal.τ).loc Cert.SumsIdeal.main_arg10)) →
    ∃ (v0 : (c : Dev Cert.SumsIdeal.nD) → Buf (Elt Ideal) ((c.tc : Thread Cert.SumsIdeal.nD Cert.SumsIdeal.τ).loc Cert.SumsIdeal.main_v7)) (v1 : (c : Dev Cert.SumsIdeal.nD) → Buf (Elt Ideal) ((c.tc : Thread Cert.SumsIdeal.nD Cert.SumsIdeal.τ).loc Cert.SumsIdeal.main_v8)) (v2 : (c : Dev Cert.SumsIdeal.nD) → Buf (Elt Ideal) ((c.tc : Thread Cert.SumsIdeal.nD Cert.SumsIdeal.τ).loc Cert.SumsIdeal.main_v9)) (v3 : (c : Dev Cert.SumsIdeal.nD) → Buf (Elt Ideal) ((c.tc : Thread Cert.SumsIdeal.nD Cert.SumsIdeal.τ).loc Cert.SumsIdeal.main_v10)) (v4 : (c : Dev Cert.SumsIdeal.nD) → Buf (Elt Ideal) ((c.tc : Thread Cert.SumsIdeal.nD Cert.SumsIdeal.τ).loc Cert.SumsIdeal.main_v11)) (v5 : (c : Dev Cert.SumsIdeal.nD) → Buf (Elt Ideal) ((c.tc : Thread Cert.SumsIdeal.nD Cert.SumsIdeal.τ).loc Cert.SumsIdeal.main_v12)) (v6 : (c : Dev Cert.SumsIdeal.nD) → Buf (Elt Ideal) ((c.tc : Thread Cert.SumsIdeal.nD Cert.SumsIdeal.τ).loc Cert.SumsIdeal.main_v13)) (v7 : (c : Dev Cert.SumsIdeal.nD) → Buf (Elt Ideal) ((c.tc : Thread Cert.SumsIdeal.nD Cert.SumsIdeal.τ).loc Cert.SumsIdeal.main_v14)) (v8 : (c : Dev Cert.SumsIdeal.nD) → Buf (Elt Ideal) ((c.tc : Thread Cert.SumsIdeal.nD Cert.SumsIdeal.τ).loc Cert.SumsIdeal.main_v16)) (v9 : (c : Dev Cert.SumsIdeal.nD) → Buf (Elt Ideal) ((c.tc : Thread Cert.SumsIdeal.nD Cert.SumsIdeal.τ).loc Cert.SumsIdeal.main_v18)) (v10 : (c : Dev Cert.SumsIdeal.nD) → Buf (Elt Ideal) ((c.tc : Thread Cert.SumsIdeal.nD Cert.SumsIdeal.τ).loc Cert.SumsIdeal.main_v19)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v7) = v0 c
          ∧ r.2.mem ((c.tc : Thread Cert.SumsIdeal.nD Cert.SumsIdeal.τ).loc Cert.SumsIdeal.main_v8) = v1 c
          ∧ r.2.mem ((c.tc : Thread Cert.SumsIdeal.nD Cert.SumsIdeal.τ).loc Cert.SumsIdeal.main_v9) = v2 c
          ∧ r.2.mem ((c.tc : Thread Cert.SumsIdeal.nD Cert.SumsIdeal.τ).loc Cert.SumsIdeal.main_v10) = v3 c
          ∧ r.2.mem ((c.tc : Thread Cert.SumsIdeal.nD Cert.SumsIdeal.τ).loc Cert.SumsIdeal.main_v11) = v4 c
          ∧ r.2.mem ((c.tc : Thread Cert.SumsIdeal.nD Cert.SumsIdeal.τ).loc Cert.SumsIdeal.main_v12) = v5 c
          ∧ r.2.mem ((c.tc : Thread Cert.SumsIdeal.nD Cert.SumsIdeal.τ).loc Cert.SumsIdeal.main_v13) = v6 c
          ∧ r.2.mem ((c.tc : Thread Cert.SumsIdeal.nD Cert.SumsIdeal.τ).loc Cert.SumsIdeal.main_v14) = v7 c
          ∧ r.2.mem ((c.tc : Thread Cert.SumsIdeal.nD Cert.SumsIdeal.τ).loc Cert.SumsIdeal.main_v16) = v8 c
          ∧ r.2.mem ((c.tc : Thread Cert.SumsIdeal.nD Cert.SumsIdeal.τ).loc Cert.SumsIdeal.main_v18) = v9 c
          ∧ r.2.mem ((c.tc : Thread Cert.SumsIdeal.nD Cert.SumsIdeal.τ).loc Cert.SumsIdeal.main_v19) = v10 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
          ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
          ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
          ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
          ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
          ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
          ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
          ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
          ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9)
          ∧ r.2.mem ((c.tc : Thread Cert.SumsIdeal.nD Cert.SumsIdeal.τ).loc Cert.SumsIdeal.main_arg10) = m ((c.tc : Thread Cert.SumsIdeal.nD Cert.SumsIdeal.τ).loc Cert.SumsIdeal.main_arg10))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_v1) = v1 c
          ∧ r.2.mem ((c.tc : Thread Cert.SumsRefIdeal.nD Cert.SumsRefIdeal.τ).loc Cert.SumsRefIdeal.main_v2) = v2 c
          ∧ r.2.mem ((c.tc : Thread Cert.SumsRefIdeal.nD Cert.SumsRefIdeal.τ).loc Cert.SumsRefIdeal.main_v3) = v3 c
          ∧ r.2.mem ((c.tc : Thread Cert.SumsRefIdeal.nD Cert.SumsRefIdeal.τ).loc Cert.SumsRefIdeal.main_v4) = v4 c
          ∧ r.2.mem ((c.tc : Thread Cert.SumsRefIdeal.nD Cert.SumsRefIdeal.τ).loc Cert.SumsRefIdeal.main_v5) = v5 c
          ∧ r.2.mem ((c.tc : Thread Cert.SumsRefIdeal.nD Cert.SumsRefIdeal.τ).loc Cert.SumsRefIdeal.main_v6) = v6 c
          ∧ r.2.mem ((c.tc : Thread Cert.SumsRefIdeal.nD Cert.SumsRefIdeal.τ).loc Cert.SumsRefIdeal.main_v7) = v7 c
          ∧ r.2.mem ((c.tc : Thread Cert.SumsRefIdeal.nD Cert.SumsRefIdeal.τ).loc Cert.SumsRefIdeal.main_v8) = v8 c
          ∧ r.2.mem ((c.tc : Thread Cert.SumsRefIdeal.nD Cert.SumsRefIdeal.τ).loc Cert.SumsRefIdeal.main_v9) = v9 c
          ∧ r.2.mem ((c.tc : Thread Cert.SumsRefIdeal.nD Cert.SumsRefIdeal.τ).loc Cert.SumsRefIdeal.main_v10) = v10 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0)
          ∧ r.2.mem ((c.tc : Thread Cert.SumsRefIdeal.nD Cert.SumsRefIdeal.τ).loc Cert.SumsRefIdeal.main_arg1) = m' ((c.tc : Thread Cert.SumsRefIdeal.nD Cert.SumsRefIdeal.τ).loc Cert.SumsRefIdeal.main_arg1)
          ∧ r.2.mem ((c.tc : Thread Cert.SumsRefIdeal.nD Cert.SumsRefIdeal.τ).loc Cert.SumsRefIdeal.main_arg2) = m' ((c.tc : Thread Cert.SumsRefIdeal.nD Cert.SumsRefIdeal.τ).loc Cert.SumsRefIdeal.main_arg2)
          ∧ r.2.mem ((c.tc : Thread Cert.SumsRefIdeal.nD Cert.SumsRefIdeal.τ).loc Cert.SumsRefIdeal.main_arg3) = m' ((c.tc : Thread Cert.SumsRefIdeal.nD Cert.SumsRefIdeal.τ).loc Cert.SumsRefIdeal.main_arg3)
          ∧ r.2.mem ((c.tc : Thread Cert.SumsRefIdeal.nD Cert.SumsRefIdeal.τ).loc Cert.SumsRefIdeal.main_arg4) = m' ((c.tc : Thread Cert.SumsRefIdeal.nD Cert.SumsRefIdeal.τ).loc Cert.SumsRefIdeal.main_arg4)
          ∧ r.2.mem ((c.tc : Thread Cert.SumsRefIdeal.nD Cert.SumsRefIdeal.τ).loc Cert.SumsRefIdeal.main_arg5) = m' ((c.tc : Thread Cert.SumsRefIdeal.nD Cert.SumsRefIdeal.τ).loc Cert.SumsRefIdeal.main_arg5)
          ∧ r.2.mem ((c.tc : Thread Cert.SumsRefIdeal.nD Cert.SumsRefIdeal.τ).loc Cert.SumsRefIdeal.main_arg6) = m' ((c.tc : Thread Cert.SumsRefIdeal.nD Cert.SumsRefIdeal.τ).loc Cert.SumsRefIdeal.main_arg6)
          ∧ r.2.mem ((c.tc : Thread Cert.SumsRefIdeal.nD Cert.SumsRefIdeal.τ).loc Cert.SumsRefIdeal.main_arg7) = m' ((c.tc : Thread Cert.SumsRefIdeal.nD Cert.SumsRefIdeal.τ).loc Cert.SumsRefIdeal.main_arg7)
          ∧ r.2.mem ((c.tc : Thread Cert.SumsRefIdeal.nD Cert.SumsRefIdeal.τ).loc Cert.SumsRefIdeal.main_arg8) = m' ((c.tc : Thread Cert.SumsRefIdeal.nD Cert.SumsRefIdeal.τ).loc Cert.SumsRefIdeal.main_arg8)
          ∧ r.2.mem ((c.tc : Thread Cert.SumsRefIdeal.nD Cert.SumsRefIdeal.τ).loc Cert.SumsRefIdeal.main_arg9) = m' ((c.tc : Thread Cert.SumsRefIdeal.nD Cert.SumsRefIdeal.τ).loc Cert.SumsRefIdeal.main_arg9)
          ∧ r.2.mem ((c.tc : Thread Cert.SumsRefIdeal.nD Cert.SumsRefIdeal.τ).loc Cert.SumsRefIdeal.main_arg10) = m' ((c.tc : Thread Cert.SumsRefIdeal.nD Cert.SumsRefIdeal.τ).loc Cert.SumsRefIdeal.main_arg10))

def preserves_Steps_StepsIdeal : Prop :=
  True

def algebraic_StepsIdeal_StepsRefIdeal [hStepsIdeal : Cert.StepsIdeal.Facts] [hStepsRefIdeal : Cert.StepsRefIdeal.Facts] : Prop :=
  ∀ (m : (ℓ : Loc Cert.StepsIdeal.nD Cert.StepsIdeal.τ Cert.StepsIdeal.sig) → Buf (Elt Ideal) ℓ) (g : Dev Cert.StepsIdeal.nD → PrngReg)
    (m' : (ℓ : Loc Cert.StepsRefIdeal.nD Cert.StepsRefIdeal.τ Cert.StepsRefIdeal.sig) → Buf (Elt Ideal) ℓ) (g' : Dev Cert.StepsRefIdeal.nD → PrngReg), Pre_StepsIdeal m →
    (∀ c : Dev Cert.StepsIdeal.nD,
      m' ((c.tc : Thread Cert.StepsRefIdeal.nD Cert.StepsRefIdeal.τ).loc Cert.StepsRefIdeal.main_arg0) = m ((c.tc : Thread Cert.StepsIdeal.nD Cert.StepsIdeal.τ).loc Cert.StepsIdeal.main_arg0)
      ∧ m' ((c.tc : Thread Cert.StepsRefIdeal.nD Cert.StepsRefIdeal.τ).loc Cert.StepsRefIdeal.main_arg1) = m ((c.tc : Thread Cert.StepsIdeal.nD Cert.StepsIdeal.τ).loc Cert.StepsIdeal.main_arg1)
      ∧ m' ((c.tc : Thread Cert.StepsRefIdeal.nD Cert.StepsRefIdeal.τ).loc Cert.StepsRefIdeal.main_arg2) = m ((c.tc : Thread Cert.StepsIdeal.nD Cert.StepsIdeal.τ).loc Cert.StepsIdeal.main_arg2)
      ∧ m' ((c.tc : Thread Cert.StepsRefIdeal.nD Cert.StepsRefIdeal.τ).loc Cert.StepsRefIdeal.main_arg3) = m ((c.tc : Thread Cert.StepsIdeal.nD Cert.StepsIdeal.τ).loc Cert.StepsIdeal.main_arg3)
      ∧ m' ((c.tc : Thread Cert.StepsRefIdeal.nD Cert.StepsRefIdeal.τ).loc Cert.StepsRefIdeal.main_arg4) = m ((c.tc : Thread Cert.StepsIdeal.nD Cert.StepsIdeal.τ).loc Cert.StepsIdeal.main_arg4)
      ∧ m' ((c.tc : Thread Cert.StepsRefIdeal.nD Cert.StepsRefIdeal.τ).loc Cert.StepsRefIdeal.main_arg5) = m ((c.tc : Thread Cert.StepsIdeal.nD Cert.StepsIdeal.τ).loc Cert.StepsIdeal.main_arg5)
      ∧ m' ((c.tc : Thread Cert.StepsRefIdeal.nD Cert.StepsRefIdeal.τ).loc Cert.StepsRefIdeal.main_arg6) = m ((c.tc : Thread Cert.StepsIdeal.nD Cert.StepsIdeal.τ).loc Cert.StepsIdeal.main_arg6)
      ∧ m' ((c.tc : Thread Cert.StepsRefIdeal.nD Cert.StepsRefIdeal.τ).loc Cert.StepsRefIdeal.main_arg7) = m ((c.tc : Thread Cert.StepsIdeal.nD Cert.StepsIdeal.τ).loc Cert.StepsIdeal.main_arg7)
      ∧ m' ((c.tc : Thread Cert.StepsRefIdeal.nD Cert.StepsRefIdeal.τ).loc Cert.StepsRefIdeal.main_arg8) = m ((c.tc : Thread Cert.StepsIdeal.nD Cert.StepsIdeal.τ).loc Cert.StepsIdeal.main_arg8)
      ∧ m' ((c.tc : Thread Cert.StepsRefIdeal.nD Cert.StepsRefIdeal.τ).loc Cert.StepsRefIdeal.main_arg9) = m ((c.tc : Thread Cert.StepsIdeal.nD Cert.StepsIdeal.τ).loc Cert.StepsIdeal.main_arg9)
      ∧ m' ((c.tc : Thread Cert.StepsRefIdeal.nD Cert.StepsRefIdeal.τ).loc Cert.StepsRefIdeal.main_arg10) = m ((c.tc : Thread Cert.StepsIdeal.nD Cert.StepsIdeal.τ).loc Cert.StepsIdeal.main_arg10)
      ∧ m' ((c.tc : Thread Cert.StepsRefIdeal.nD Cert.StepsRefIdeal.τ).loc Cert.StepsRefIdeal.main_arg11) = m ((c.tc : Thread Cert.StepsIdeal.nD Cert.StepsIdeal.τ).loc Cert.StepsIdeal.main_arg11)
      ∧ m' ((c.tc : Thread Cert.StepsRefIdeal.nD Cert.StepsRefIdeal.τ).loc Cert.StepsRefIdeal.main_arg12) = m ((c.tc : Thread Cert.StepsIdeal.nD Cert.StepsIdeal.τ).loc Cert.StepsIdeal.main_arg12)
      ∧ m' ((c.tc : Thread Cert.StepsRefIdeal.nD Cert.StepsRefIdeal.τ).loc Cert.StepsRefIdeal.main_arg13) = m ((c.tc : Thread Cert.StepsIdeal.nD Cert.StepsIdeal.τ).loc Cert.StepsIdeal.main_arg13)
      ∧ m' ((c.tc : Thread Cert.StepsRefIdeal.nD Cert.StepsRefIdeal.τ).loc Cert.StepsRefIdeal.main_arg14) = m ((c.tc : Thread Cert.StepsIdeal.nD Cert.StepsIdeal.τ).loc Cert.StepsIdeal.main_arg14)
      ∧ m' ((c.tc : Thread Cert.StepsRefIdeal.nD Cert.StepsRefIdeal.τ).loc Cert.StepsRefIdeal.main_arg15) = m ((c.tc : Thread Cert.StepsIdeal.nD Cert.StepsIdeal.τ).loc Cert.StepsIdeal.main_arg15)
      ∧ m' ((c.tc : Thread Cert.StepsRefIdeal.nD Cert.StepsRefIdeal.τ).loc Cert.StepsRefIdeal.main_arg16) = m ((c.tc : Thread Cert.StepsIdeal.nD Cert.StepsIdeal.τ).loc Cert.StepsIdeal.main_arg16)
      ∧ m' ((c.tc : Thread Cert.StepsRefIdeal.nD Cert.StepsRefIdeal.τ).loc Cert.StepsRefIdeal.main_arg17) = m ((c.tc : Thread Cert.StepsIdeal.nD Cert.StepsIdeal.τ).loc Cert.StepsIdeal.main_arg17)
      ∧ m' ((c.tc : Thread Cert.StepsRefIdeal.nD Cert.StepsRefIdeal.τ).loc Cert.StepsRefIdeal.main_arg18) = m ((c.tc : Thread Cert.StepsIdeal.nD Cert.StepsIdeal.τ).loc Cert.StepsIdeal.main_arg18)
      ∧ m' ((c.tc : Thread Cert.StepsRefIdeal.nD Cert.StepsRefIdeal.τ).loc Cert.StepsRefIdeal.main_arg19) = m ((c.tc : Thread Cert.StepsIdeal.nD Cert.StepsIdeal.τ).loc Cert.StepsIdeal.main_arg19)
      ∧ m' ((c.tc : Thread Cert.StepsRefIdeal.nD Cert.StepsRefIdeal.τ).loc Cert.StepsRefIdeal.main_arg20) = m ((c.tc : Thread Cert.StepsIdeal.nD Cert.StepsIdeal.τ).loc Cert.StepsIdeal.main_arg20)
      ∧ m' ((c.tc : Thread Cert.StepsRefIdeal.nD Cert.StepsRefIdeal.τ).loc Cert.StepsRefIdeal.main_arg21) = m ((c.tc : Thread Cert.StepsIdeal.nD Cert.StepsIdeal.τ).loc Cert.StepsIdeal.main_arg21)
      ∧ m' ((c.tc : Thread Cert.StepsRefIdeal.nD Cert.StepsRefIdeal.τ).loc Cert.StepsRefIdeal.main_arg22) = m ((c.tc : Thread Cert.StepsIdeal.nD Cert.StepsIdeal.τ).loc Cert.StepsIdeal.main_arg22)
      ∧ m' ((c.tc : Thread Cert.StepsRefIdeal.nD Cert.StepsRefIdeal.τ).loc Cert.StepsRefIdeal.main_arg23) = m ((c.tc : Thread Cert.StepsIdeal.nD Cert.StepsIdeal.τ).loc Cert.StepsIdeal.main_arg23)
      ∧ m' ((c.tc : Thread Cert.StepsRefIdeal.nD Cert.StepsRefIdeal.τ).loc Cert.StepsRefIdeal.main_arg24) = m ((c.tc : Thread Cert.StepsIdeal.nD Cert.StepsIdeal.τ).loc Cert.StepsIdeal.main_arg24)
      ∧ m' ((c.tc : Thread Cert.StepsRefIdeal.nD Cert.StepsRefIdeal.τ).loc Cert.StepsRefIdeal.main_arg25) = m ((c.tc : Thread Cert.StepsIdeal.nD Cert.StepsIdeal.τ).loc Cert.StepsIdeal.main_arg25)
      ∧ m' ((c.tc : Thread Cert.StepsRefIdeal.nD Cert.StepsRefIdeal.τ).loc Cert.StepsRefIdeal.main_arg26) = m ((c.tc : Thread Cert.StepsIdeal.nD Cert.StepsIdeal.τ).loc Cert.StepsIdeal.main_arg26)
      ∧ m' ((c.tc : Thread Cert.StepsRefIdeal.nD Cert.StepsRefIdeal.τ).loc Cert.StepsRefIdeal.main_arg27) = m ((c.tc : Thread Cert.StepsIdeal.nD Cert.StepsIdeal.τ).loc Cert.StepsIdeal.main_arg27)
      ∧ m' ((c.tc : Thread Cert.StepsRefIdeal.nD Cert.StepsRefIdeal.τ).loc Cert.StepsRefIdeal.main_arg28) = m ((c.tc : Thread Cert.StepsIdeal.nD Cert.StepsIdeal.τ).loc Cert.StepsIdeal.main_arg28)
      ∧ m' ((c.tc : Thread Cert.StepsRefIdeal.nD Cert.StepsRefIdeal.τ).loc Cert.StepsRefIdeal.main_arg29) = m ((c.tc : Thread Cert.StepsIdeal.nD Cert.StepsIdeal.τ).loc Cert.StepsIdeal.main_arg29)
      ∧ m' ((c.tc : Thread Cert.StepsRefIdeal.nD Cert.StepsRefIdeal.τ).loc Cert.StepsRefIdeal.main_arg30) = m ((c.tc : Thread Cert.StepsIdeal.nD Cert.StepsIdeal.τ).loc Cert.StepsIdeal.main_arg30)
      ∧ m' ((c.tc : Thread Cert.StepsRefIdeal.nD Cert.StepsRefIdeal.τ).loc Cert.StepsRefIdeal.main_arg31) = m ((c.tc : Thread Cert.StepsIdeal.nD Cert.StepsIdeal.τ).loc Cert.StepsIdeal.main_arg31)
      ∧ m' ((c.tc : Thread Cert.StepsRefIdeal.nD Cert.StepsRefIdeal.τ).loc Cert.StepsRefIdeal.main_arg32) = m ((c.tc : Thread Cert.StepsIdeal.nD Cert.StepsIdeal.τ).loc Cert.StepsIdeal.main_arg32)
      ∧ m' ((c.tc : Thread Cert.StepsRefIdeal.nD Cert.StepsRefIdeal.τ).loc Cert.StepsRefIdeal.main_arg33) = m ((c.tc : Thread Cert.StepsIdeal.nD Cert.StepsIdeal.τ).loc Cert.StepsIdeal.main_arg33)
      ∧ m' ((c.tc : Thread Cert.StepsRefIdeal.nD Cert.StepsRefIdeal.τ).loc Cert.StepsRefIdeal.main_arg34) = m ((c.tc : Thread Cert.StepsIdeal.nD Cert.StepsIdeal.τ).loc Cert.StepsIdeal.main_arg34)
      ∧ m' ((c.tc : Thread Cert.StepsRefIdeal.nD Cert.StepsRefIdeal.τ).loc Cert.StepsRefIdeal.main_arg35) = m ((c.tc : Thread Cert.StepsIdeal.nD Cert.StepsIdeal.τ).loc Cert.StepsIdeal.main_arg35)
      ∧ m' ((c.tc : Thread Cert.StepsRefIdeal.nD Cert.StepsRefIdeal.τ).loc Cert.StepsRefIdeal.main_arg36) = m ((c.tc : Thread Cert.StepsIdeal.nD Cert.StepsIdeal.τ).loc Cert.StepsIdeal.main_arg36)
      ∧ m' ((c.tc : Thread Cert.StepsRefIdeal.nD Cert.StepsRefIdeal.τ).loc Cert.StepsRefIdeal.main_arg37) = m ((c.tc : Thread Cert.StepsIdeal.nD Cert.StepsIdeal.τ).loc Cert.StepsIdeal.main_arg37)
      ∧ m' ((c.tc : Thread Cert.StepsRefIdeal.nD Cert.StepsRefIdeal.τ).loc Cert.StepsRefIdeal.main_arg38) = m ((c.tc : Thread Cert.StepsIdeal.nD Cert.StepsIdeal.τ).loc Cert.StepsIdeal.main_arg38)
      ∧ m' ((c.tc : Thread Cert.StepsRefIdeal.nD Cert.StepsRefIdeal.τ).loc Cert.StepsRefIdeal.main_arg39) = m ((c.tc : Thread Cert.StepsIdeal.nD Cert.StepsIdeal.τ).loc Cert.StepsIdeal.main_arg39)) →
    ∃ (v0 : (c : Dev Cert.StepsIdeal.nD) → Buf (Elt Ideal) ((c.tc : Thread Cert.StepsIdeal.nD Cert.StepsIdeal.τ).loc Cert.StepsIdeal.main_v22)) (v1 : (c : Dev Cert.StepsIdeal.nD) → Buf (Elt Ideal) ((c.tc : Thread Cert.StepsIdeal.nD Cert.StepsIdeal.τ).loc Cert.StepsIdeal.main_v23)) (v2 : (c : Dev Cert.StepsIdeal.nD) → Buf (Elt Ideal) ((c.tc : Thread Cert.StepsIdeal.nD Cert.StepsIdeal.τ).loc Cert.StepsIdeal.main_v24)) (v3 : (c : Dev Cert.StepsIdeal.nD) → Buf (Elt Ideal) ((c.tc : Thread Cert.StepsIdeal.nD Cert.StepsIdeal.τ).loc Cert.StepsIdeal.main_v25)) (v4 : (c : Dev Cert.StepsIdeal.nD) → Buf (Elt Ideal) ((c.tc : Thread Cert.StepsIdeal.nD Cert.StepsIdeal.τ).loc Cert.StepsIdeal.main_v26)) (v5 : (c : Dev Cert.StepsIdeal.nD) → Buf (Elt Ideal) ((c.tc : Thread Cert.StepsIdeal.nD Cert.StepsIdeal.τ).loc Cert.StepsIdeal.main_v27)) (v6 : (c : Dev Cert.StepsIdeal.nD) → Buf (Elt Ideal) ((c.tc : Thread Cert.StepsIdeal.nD Cert.StepsIdeal.τ).loc Cert.StepsIdeal.main_v28)) (v7 : (c : Dev Cert.StepsIdeal.nD) → Buf (Elt Ideal) ((c.tc : Thread Cert.StepsIdeal.nD Cert.StepsIdeal.τ).loc Cert.StepsIdeal.main_v29)) (v8 : (c : Dev Cert.StepsIdeal.nD) → Buf (Elt Ideal) ((c.tc : Thread Cert.StepsIdeal.nD Cert.StepsIdeal.τ).loc Cert.StepsIdeal.main_v31)) (v9 : (c : Dev Cert.StepsIdeal.nD) → Buf (Elt Ideal) ((c.tc : Thread Cert.StepsIdeal.nD Cert.StepsIdeal.τ).loc Cert.StepsIdeal.main_v33)) (v10 : (c : Dev Cert.StepsIdeal.nD) → Buf (Elt Ideal) ((c.tc : Thread Cert.StepsIdeal.nD Cert.StepsIdeal.τ).loc Cert.StepsIdeal.main_v35)) (v11 : (c : Dev Cert.StepsIdeal.nD) → Buf (Elt Ideal) ((c.tc : Thread Cert.StepsIdeal.nD Cert.StepsIdeal.τ).loc Cert.StepsIdeal.main_v36)) (v12 : (c : Dev Cert.StepsIdeal.nD) → Buf (Elt Ideal) ((c.tc : Thread Cert.StepsIdeal.nD Cert.StepsIdeal.τ).loc Cert.StepsIdeal.main_v37)) (v13 : (c : Dev Cert.StepsIdeal.nD) → Buf (Elt Ideal) ((c.tc : Thread Cert.StepsIdeal.nD Cert.StepsIdeal.τ).loc Cert.StepsIdeal.main_v38)) (v14 : (c : Dev Cert.StepsIdeal.nD) → Buf (Elt Ideal) ((c.tc : Thread Cert.StepsIdeal.nD Cert.StepsIdeal.τ).loc Cert.StepsIdeal.main_v39)) (v15 : (c : Dev Cert.StepsIdeal.nD) → Buf (Elt Ideal) ((c.tc : Thread Cert.StepsIdeal.nD Cert.StepsIdeal.τ).loc Cert.StepsIdeal.main_v40)) (v16 : (c : Dev Cert.StepsIdeal.nD) → Buf (Elt Ideal) ((c.tc : Thread Cert.StepsIdeal.nD Cert.StepsIdeal.τ).loc Cert.StepsIdeal.main_v41)) (v17 : (c : Dev Cert.StepsIdeal.nD) → Buf (Elt Ideal) ((c.tc : Thread Cert.StepsIdeal.nD Cert.StepsIdeal.τ).loc Cert.StepsIdeal.main_v42)) (v18 : (c : Dev Cert.StepsIdeal.nD) → Buf (Elt Ideal) ((c.tc : Thread Cert.StepsIdeal.nD Cert.StepsIdeal.τ).loc Cert.StepsIdeal.main_v44)) (v19 : (c : Dev Cert.StepsIdeal.nD) → Buf (Elt Ideal) ((c.tc : Thread Cert.StepsIdeal.nD Cert.StepsIdeal.τ).loc Cert.StepsIdeal.main_v46)) (v20 : (c : Dev Cert.StepsIdeal.nD) → Buf (Elt Ideal) ((c.tc : Thread Cert.StepsIdeal.nD Cert.StepsIdeal.τ).loc Cert.StepsIdeal.main_v48)) (v21 : (c : Dev Cert.StepsIdeal.nD) → Buf (Elt Ideal) ((c.tc : Thread Cert.StepsIdeal.nD Cert.StepsIdeal.τ).loc Cert.StepsIdeal.main_v49)) (v22 : (c : Dev Cert.StepsIdeal.nD) → Buf (Elt Ideal) ((c.tc : Thread Cert.StepsIdeal.nD Cert.StepsIdeal.τ).loc Cert.StepsIdeal.main_v50)) (v23 : (c : Dev Cert.StepsIdeal.nD) → Buf (Elt Ideal) ((c.tc : Thread Cert.StepsIdeal.nD Cert.StepsIdeal.τ).loc Cert.StepsIdeal.main_v51)) (v24 : (c : Dev Cert.StepsIdeal.nD) → Buf (Elt Ideal) ((c.tc : Thread Cert.StepsIdeal.nD Cert.StepsIdeal.τ).loc Cert.StepsIdeal.main_v52)) (v25 : (c : Dev Cert.StepsIdeal.nD) → Buf (Elt Ideal) ((c.tc : Thread Cert.StepsIdeal.nD Cert.StepsIdeal.τ).loc Cert.StepsIdeal.main_v53)) (v26 : (c : Dev Cert.StepsIdeal.nD) → Buf (Elt Ideal) ((c.tc : Thread Cert.StepsIdeal.nD Cert.StepsIdeal.τ).loc Cert.StepsIdeal.main_v54)) (v27 : (c : Dev Cert.StepsIdeal.nD) → Buf (Elt Ideal) ((c.tc : Thread Cert.StepsIdeal.nD Cert.StepsIdeal.τ).loc Cert.StepsIdeal.main_v55)) (v28 : (c : Dev Cert.StepsIdeal.nD) → Buf (Elt Ideal) ((c.tc : Thread Cert.StepsIdeal.nD Cert.StepsIdeal.τ).loc Cert.StepsIdeal.main_v57)) (v29 : (c : Dev Cert.StepsIdeal.nD) → Buf (Elt Ideal) ((c.tc : Thread Cert.StepsIdeal.nD Cert.StepsIdeal.τ).loc Cert.StepsIdeal.main_v59)),
      θ_run (Cert.StepsIdeal.defs (F := Ideal)) (onTc (τ := Cert.StepsIdeal.τ) (Cert.StepsIdeal.main (F := Ideal))) ⟨m, fun _ => 0, g⟩ (fun r => ∀ c : Dev Cert.StepsIdeal.nD,
          r.2.mem ((c.tc : Thread Cert.StepsIdeal.nD Cert.StepsIdeal.τ).loc Cert.StepsIdeal.main_v22) = v0 c
          ∧ r.2.mem ((c.tc : Thread Cert.StepsIdeal.nD Cert.StepsIdeal.τ).loc Cert.StepsIdeal.main_v23) = v1 c
          ∧ r.2.mem ((c.tc : Thread Cert.StepsIdeal.nD Cert.StepsIdeal.τ).loc Cert.StepsIdeal.main_v24) = v2 c
          ∧ r.2.mem ((c.tc : Thread Cert.StepsIdeal.nD Cert.StepsIdeal.τ).loc Cert.StepsIdeal.main_v25) = v3 c
          ∧ r.2.mem ((c.tc : Thread Cert.StepsIdeal.nD Cert.StepsIdeal.τ).loc Cert.StepsIdeal.main_v26) = v4 c
          ∧ r.2.mem ((c.tc : Thread Cert.StepsIdeal.nD Cert.StepsIdeal.τ).loc Cert.StepsIdeal.main_v27) = v5 c
          ∧ r.2.mem ((c.tc : Thread Cert.StepsIdeal.nD Cert.StepsIdeal.τ).loc Cert.StepsIdeal.main_v28) = v6 c
          ∧ r.2.mem ((c.tc : Thread Cert.StepsIdeal.nD Cert.StepsIdeal.τ).loc Cert.StepsIdeal.main_v29) = v7 c
          ∧ r.2.mem ((c.tc : Thread Cert.StepsIdeal.nD Cert.StepsIdeal.τ).loc Cert.StepsIdeal.main_v31) = v8 c
          ∧ r.2.mem ((c.tc : Thread Cert.StepsIdeal.nD Cert.StepsIdeal.τ).loc Cert.StepsIdeal.main_v33) = v9 c
          ∧ r.2.mem ((c.tc : Thread Cert.StepsIdeal.nD Cert.StepsIdeal.τ).loc Cert.StepsIdeal.main_v35) = v10 c
          ∧ r.2.mem ((c.tc : Thread Cert.StepsIdeal.nD Cert.StepsIdeal.τ).loc Cert.StepsIdeal.main_v36) = v11 c
          ∧ r.2.mem ((c.tc : Thread Cert.StepsIdeal.nD Cert.StepsIdeal.τ).loc Cert.StepsIdeal.main_v37) = v12 c
          ∧ r.2.mem ((c.tc : Thread Cert.StepsIdeal.nD Cert.StepsIdeal.τ).loc Cert.StepsIdeal.main_v38) = v13 c
          ∧ r.2.mem ((c.tc : Thread Cert.StepsIdeal.nD Cert.StepsIdeal.τ).loc Cert.StepsIdeal.main_v39) = v14 c
          ∧ r.2.mem ((c.tc : Thread Cert.StepsIdeal.nD Cert.StepsIdeal.τ).loc Cert.StepsIdeal.main_v40) = v15 c
          ∧ r.2.mem ((c.tc : Thread Cert.StepsIdeal.nD Cert.StepsIdeal.τ).loc Cert.StepsIdeal.main_v41) = v16 c
          ∧ r.2.mem ((c.tc : Thread Cert.StepsIdeal.nD Cert.StepsIdeal.τ).loc Cert.StepsIdeal.main_v42) = v17 c
          ∧ r.2.mem ((c.tc : Thread Cert.StepsIdeal.nD Cert.StepsIdeal.τ).loc Cert.StepsIdeal.main_v44) = v18 c
          ∧ r.2.mem ((c.tc : Thread Cert.StepsIdeal.nD Cert.StepsIdeal.τ).loc Cert.StepsIdeal.main_v46) = v19 c
          ∧ r.2.mem ((c.tc : Thread Cert.StepsIdeal.nD Cert.StepsIdeal.τ).loc Cert.StepsIdeal.main_v48) = v20 c
          ∧ r.2.mem ((c.tc : Thread Cert.StepsIdeal.nD Cert.StepsIdeal.τ).loc Cert.StepsIdeal.main_v49) = v21 c
          ∧ r.2.mem ((c.tc : Thread Cert.StepsIdeal.nD Cert.StepsIdeal.τ).loc Cert.StepsIdeal.main_v50) = v22 c
          ∧ r.2.mem ((c.tc : Thread Cert.StepsIdeal.nD Cert.StepsIdeal.τ).loc Cert.StepsIdeal.main_v51) = v23 c
          ∧ r.2.mem ((c.tc : Thread Cert.StepsIdeal.nD Cert.StepsIdeal.τ).loc Cert.StepsIdeal.main_v52) = v24 c
          ∧ r.2.mem ((c.tc : Thread Cert.StepsIdeal.nD Cert.StepsIdeal.τ).loc Cert.StepsIdeal.main_v53) = v25 c
          ∧ r.2.mem ((c.tc : Thread Cert.StepsIdeal.nD Cert.StepsIdeal.τ).loc Cert.StepsIdeal.main_v54) = v26 c
          ∧ r.2.mem ((c.tc : Thread Cert.StepsIdeal.nD Cert.StepsIdeal.τ).loc Cert.StepsIdeal.main_v55) = v27 c
          ∧ r.2.mem ((c.tc : Thread Cert.StepsIdeal.nD Cert.StepsIdeal.τ).loc Cert.StepsIdeal.main_v57) = v28 c
          ∧ r.2.mem ((c.tc : Thread Cert.StepsIdeal.nD Cert.StepsIdeal.τ).loc Cert.StepsIdeal.main_v59) = v29 c
          ∧ r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
          ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1)
          ∧ r.2.mem ((c.tc : Thread Cert.StepsIdeal.nD Cert.StepsIdeal.τ).loc Cert.StepsIdeal.main_arg2) = m ((c.tc : Thread Cert.StepsIdeal.nD Cert.StepsIdeal.τ).loc Cert.StepsIdeal.main_arg2)
          ∧ r.2.mem ((c.tc : Thread Cert.StepsIdeal.nD Cert.StepsIdeal.τ).loc Cert.StepsIdeal.main_arg3) = m ((c.tc : Thread Cert.StepsIdeal.nD Cert.StepsIdeal.τ).loc Cert.StepsIdeal.main_arg3)
          ∧ r.2.mem ((c.tc : Thread Cert.StepsIdeal.nD Cert.StepsIdeal.τ).loc Cert.StepsIdeal.main_arg4) = m ((c.tc : Thread Cert.StepsIdeal.nD Cert.StepsIdeal.τ).loc Cert.StepsIdeal.main_arg4)
          ∧ r.2.mem ((c.tc : Thread Cert.StepsIdeal.nD Cert.StepsIdeal.τ).loc Cert.StepsIdeal.main_arg5) = m ((c.tc : Thread Cert.StepsIdeal.nD Cert.StepsIdeal.τ).loc Cert.StepsIdeal.main_arg5)
          ∧ r.2.mem ((c.tc : Thread Cert.StepsIdeal.nD Cert.StepsIdeal.τ).loc Cert.StepsIdeal.main_arg6) = m ((c.tc : Thread Cert.StepsIdeal.nD Cert.StepsIdeal.τ).loc Cert.StepsIdeal.main_arg6)
          ∧ r.2.mem ((c.tc : Thread Cert.StepsIdeal.nD Cert.StepsIdeal.τ).loc Cert.StepsIdeal.main_arg7) = m ((c.tc : Thread Cert.StepsIdeal.nD Cert.StepsIdeal.τ).loc Cert.StepsIdeal.main_arg7)
          ∧ r.2.mem ((c.tc : Thread Cert.StepsIdeal.nD Cert.StepsIdeal.τ).loc Cert.StepsIdeal.main_arg8) = m ((c.tc : Thread Cert.StepsIdeal.nD Cert.StepsIdeal.τ).loc Cert.StepsIdeal.main_arg8)
          ∧ r.2.mem ((c.tc : Thread Cert.StepsIdeal.nD Cert.StepsIdeal.τ).loc Cert.StepsIdeal.main_arg9) = m ((c.tc : Thread Cert.StepsIdeal.nD Cert.StepsIdeal.τ).loc Cert.StepsIdeal.main_arg9)
          ∧ r.2.mem ((c.tc : Thread Cert.StepsIdeal.nD Cert.StepsIdeal.τ).loc Cert.StepsIdeal.main_arg10) = m ((c.tc : Thread Cert.StepsIdeal.nD Cert.StepsIdeal.τ).loc Cert.StepsIdeal.main_arg10)
          ∧ r.2.mem ((c.tc : Thread Cert.StepsIdeal.nD Cert.StepsIdeal.τ).loc Cert.StepsIdeal.main_arg11) = m ((c.tc : Thread Cert.StepsIdeal.nD Cert.StepsIdeal.τ).loc Cert.StepsIdeal.main_arg11)
          ∧ r.2.mem ((c.tc : Thread Cert.StepsIdeal.nD Cert.StepsIdeal.τ).loc Cert.StepsIdeal.main_arg12) = m ((c.tc : Thread Cert.StepsIdeal.nD Cert.StepsIdeal.τ).loc Cert.StepsIdeal.main_arg12)
          ∧ r.2.mem ((c.tc : Thread Cert.StepsIdeal.nD Cert.StepsIdeal.τ).loc Cert.StepsIdeal.main_arg13) = m ((c.tc : Thread Cert.StepsIdeal.nD Cert.StepsIdeal.τ).loc Cert.StepsIdeal.main_arg13)
          ∧ r.2.mem ((c.tc : Thread Cert.StepsIdeal.nD Cert.StepsIdeal.τ).loc Cert.StepsIdeal.main_arg14) = m ((c.tc : Thread Cert.StepsIdeal.nD Cert.StepsIdeal.τ).loc Cert.StepsIdeal.main_arg14)
          ∧ r.2.mem ((c.tc : Thread Cert.StepsIdeal.nD Cert.StepsIdeal.τ).loc Cert.StepsIdeal.main_arg15) = m ((c.tc : Thread Cert.StepsIdeal.nD Cert.StepsIdeal.τ).loc Cert.StepsIdeal.main_arg15)
          ∧ r.2.mem ((c.tc : Thread Cert.StepsIdeal.nD Cert.StepsIdeal.τ).loc Cert.StepsIdeal.main_arg16) = m ((c.tc : Thread Cert.StepsIdeal.nD Cert.StepsIdeal.τ).loc Cert.StepsIdeal.main_arg16)
          ∧ r.2.mem ((c.tc : Thread Cert.StepsIdeal.nD Cert.StepsIdeal.τ).loc Cert.StepsIdeal.main_arg17) = m ((c.tc : Thread Cert.StepsIdeal.nD Cert.StepsIdeal.τ).loc Cert.StepsIdeal.main_arg17)
          ∧ r.2.mem ((c.tc : Thread Cert.StepsIdeal.nD Cert.StepsIdeal.τ).loc Cert.StepsIdeal.main_arg18) = m ((c.tc : Thread Cert.StepsIdeal.nD Cert.StepsIdeal.τ).loc Cert.StepsIdeal.main_arg18)
          ∧ r.2.mem ((c.tc : Thread Cert.StepsIdeal.nD Cert.StepsIdeal.τ).loc Cert.StepsIdeal.main_arg19) = m ((c.tc : Thread Cert.StepsIdeal.nD Cert.StepsIdeal.τ).loc Cert.StepsIdeal.main_arg19)
          ∧ r.2.mem ((c.tc : Thread Cert.StepsIdeal.nD Cert.StepsIdeal.τ).loc Cert.StepsIdeal.main_arg20) = m ((c.tc : Thread Cert.StepsIdeal.nD Cert.StepsIdeal.τ).loc Cert.StepsIdeal.main_arg20)
          ∧ r.2.mem ((c.tc : Thread Cert.StepsIdeal.nD Cert.StepsIdeal.τ).loc Cert.StepsIdeal.main_arg21) = m ((c.tc : Thread Cert.StepsIdeal.nD Cert.StepsIdeal.τ).loc Cert.StepsIdeal.main_arg21)
          ∧ r.2.mem ((c.tc : Thread Cert.StepsIdeal.nD Cert.StepsIdeal.τ).loc Cert.StepsIdeal.main_arg22) = m ((c.tc : Thread Cert.StepsIdeal.nD Cert.StepsIdeal.τ).loc Cert.StepsIdeal.main_arg22)
          ∧ r.2.mem ((c.tc : Thread Cert.StepsIdeal.nD Cert.StepsIdeal.τ).loc Cert.StepsIdeal.main_arg23) = m ((c.tc : Thread Cert.StepsIdeal.nD Cert.StepsIdeal.τ).loc Cert.StepsIdeal.main_arg23)
          ∧ r.2.mem ((c.tc : Thread Cert.StepsIdeal.nD Cert.StepsIdeal.τ).loc Cert.StepsIdeal.main_arg24) = m ((c.tc : Thread Cert.StepsIdeal.nD Cert.StepsIdeal.τ).loc Cert.StepsIdeal.main_arg24)
          ∧ r.2.mem ((c.tc : Thread Cert.StepsIdeal.nD Cert.StepsIdeal.τ).loc Cert.StepsIdeal.main_arg25) = m ((c.tc : Thread Cert.StepsIdeal.nD Cert.StepsIdeal.τ).loc Cert.StepsIdeal.main_arg25)
          ∧ r.2.mem ((c.tc : Thread Cert.StepsIdeal.nD Cert.StepsIdeal.τ).loc Cert.StepsIdeal.main_arg26) = m ((c.tc : Thread Cert.StepsIdeal.nD Cert.StepsIdeal.τ).loc Cert.StepsIdeal.main_arg26)
          ∧ r.2.mem ((c.tc : Thread Cert.StepsIdeal.nD Cert.StepsIdeal.τ).loc Cert.StepsIdeal.main_arg27) = m ((c.tc : Thread Cert.StepsIdeal.nD Cert.StepsIdeal.τ).loc Cert.StepsIdeal.main_arg27)
          ∧ r.2.mem ((c.tc : Thread Cert.StepsIdeal.nD Cert.StepsIdeal.τ).loc Cert.StepsIdeal.main_arg28) = m ((c.tc : Thread Cert.StepsIdeal.nD Cert.StepsIdeal.τ).loc Cert.StepsIdeal.main_arg28)
          ∧ r.2.mem ((c.tc : Thread Cert.StepsIdeal.nD Cert.StepsIdeal.τ).loc Cert.StepsIdeal.main_arg29) = m ((c.tc : Thread Cert.StepsIdeal.nD Cert.StepsIdeal.τ).loc Cert.StepsIdeal.main_arg29)
          ∧ r.2.mem ((c.tc : Thread Cert.StepsIdeal.nD Cert.StepsIdeal.τ).loc Cert.StepsIdeal.main_arg30) = m ((c.tc : Thread Cert.StepsIdeal.nD Cert.StepsIdeal.τ).loc Cert.StepsIdeal.main_arg30)
          ∧ r.2.mem ((c.tc : Thread Cert.StepsIdeal.nD Cert.StepsIdeal.τ).loc Cert.StepsIdeal.main_arg31) = m ((c.tc : Thread Cert.StepsIdeal.nD Cert.StepsIdeal.τ).loc Cert.StepsIdeal.main_arg31)
          ∧ r.2.mem ((c.tc : Thread Cert.StepsIdeal.nD Cert.StepsIdeal.τ).loc Cert.StepsIdeal.main_arg32) = m ((c.tc : Thread Cert.StepsIdeal.nD Cert.StepsIdeal.τ).loc Cert.StepsIdeal.main_arg32)
          ∧ r.2.mem ((c.tc : Thread Cert.StepsIdeal.nD Cert.StepsIdeal.τ).loc Cert.StepsIdeal.main_arg33) = m ((c.tc : Thread Cert.StepsIdeal.nD Cert.StepsIdeal.τ).loc Cert.StepsIdeal.main_arg33)
          ∧ r.2.mem ((c.tc : Thread Cert.StepsIdeal.nD Cert.StepsIdeal.τ).loc Cert.StepsIdeal.main_arg34) = m ((c.tc : Thread Cert.StepsIdeal.nD Cert.StepsIdeal.τ).loc Cert.StepsIdeal.main_arg34)
          ∧ r.2.mem ((c.tc : Thread Cert.StepsIdeal.nD Cert.StepsIdeal.τ).loc Cert.StepsIdeal.main_arg35) = m ((c.tc : Thread Cert.StepsIdeal.nD Cert.StepsIdeal.τ).loc Cert.StepsIdeal.main_arg35)
          ∧ r.2.mem ((c.tc : Thread Cert.StepsIdeal.nD Cert.StepsIdeal.τ).loc Cert.StepsIdeal.main_arg36) = m ((c.tc : Thread Cert.StepsIdeal.nD Cert.StepsIdeal.τ).loc Cert.StepsIdeal.main_arg36)
          ∧ r.2.mem ((c.tc : Thread Cert.StepsIdeal.nD Cert.StepsIdeal.τ).loc Cert.StepsIdeal.main_arg37) = m ((c.tc : Thread Cert.StepsIdeal.nD Cert.StepsIdeal.τ).loc Cert.StepsIdeal.main_arg37)
          ∧ r.2.mem ((c.tc : Thread Cert.StepsIdeal.nD Cert.StepsIdeal.τ).loc Cert.StepsIdeal.main_arg38) = m ((c.tc : Thread Cert.StepsIdeal.nD Cert.StepsIdeal.τ).loc Cert.StepsIdeal.main_arg38)
          ∧ r.2.mem ((c.tc : Thread Cert.StepsIdeal.nD Cert.StepsIdeal.τ).loc Cert.StepsIdeal.main_arg39) = m ((c.tc : Thread Cert.StepsIdeal.nD Cert.StepsIdeal.τ).loc Cert.StepsIdeal.main_arg39))
      ∧ θ_run (Cert.StepsRefIdeal.defs (F := Ideal)) (onTc (τ := Cert.StepsRefIdeal.τ) (Cert.StepsRefIdeal.main (F := Ideal))) ⟨m', fun _ => 0, g'⟩ (fun r => ∀ c : Dev Cert.StepsRefIdeal.nD,
          r.2.mem ((c.tc : Thread Cert.StepsRefIdeal.nD Cert.StepsRefIdeal.τ).loc Cert.StepsRefIdeal.main_v23) = v0 c
          ∧ r.2.mem ((c.tc : Thread Cert.StepsRefIdeal.nD Cert.StepsRefIdeal.τ).loc Cert.StepsRefIdeal.main_v47) = v1 c
          ∧ r.2.mem ((c.tc : Thread Cert.StepsRefIdeal.nD Cert.StepsRefIdeal.τ).loc Cert.StepsRefIdeal.main_v71) = v2 c
          ∧ r.2.mem ((c.tc : Thread Cert.StepsRefIdeal.nD Cert.StepsRefIdeal.τ).loc Cert.StepsRefIdeal.main_v95) = v3 c
          ∧ r.2.mem ((c.tc : Thread Cert.StepsRefIdeal.nD Cert.StepsRefIdeal.τ).loc Cert.StepsRefIdeal.main_v119) = v4 c
          ∧ r.2.mem ((c.tc : Thread Cert.StepsRefIdeal.nD Cert.StepsRefIdeal.τ).loc Cert.StepsRefIdeal.main_v143) = v5 c
          ∧ r.2.mem ((c.tc : Thread Cert.StepsRefIdeal.nD Cert.StepsRefIdeal.τ).loc Cert.StepsRefIdeal.main_v167) = v6 c
          ∧ r.2.mem ((c.tc : Thread Cert.StepsRefIdeal.nD Cert.StepsRefIdeal.τ).loc Cert.StepsRefIdeal.main_v191) = v7 c
          ∧ r.2.mem ((c.tc : Thread Cert.StepsRefIdeal.nD Cert.StepsRefIdeal.τ).loc Cert.StepsRefIdeal.main_v215) = v8 c
          ∧ r.2.mem ((c.tc : Thread Cert.StepsRefIdeal.nD Cert.StepsRefIdeal.τ).loc Cert.StepsRefIdeal.main_v239) = v9 c
          ∧ r.2.mem ((c.tc : Thread Cert.StepsRefIdeal.nD Cert.StepsRefIdeal.τ).loc Cert.StepsRefIdeal.main_v4) = v10 c
          ∧ r.2.mem ((c.tc : Thread Cert.StepsRefIdeal.nD Cert.StepsRefIdeal.τ).loc Cert.StepsRefIdeal.main_v28) = v11 c
          ∧ r.2.mem ((c.tc : Thread Cert.StepsRefIdeal.nD Cert.StepsRefIdeal.τ).loc Cert.StepsRefIdeal.main_v52) = v12 c
          ∧ r.2.mem ((c.tc : Thread Cert.StepsRefIdeal.nD Cert.StepsRefIdeal.τ).loc Cert.StepsRefIdeal.main_v76) = v13 c
          ∧ r.2.mem ((c.tc : Thread Cert.StepsRefIdeal.nD Cert.StepsRefIdeal.τ).loc Cert.StepsRefIdeal.main_v100) = v14 c
          ∧ r.2.mem ((c.tc : Thread Cert.StepsRefIdeal.nD Cert.StepsRefIdeal.τ).loc Cert.StepsRefIdeal.main_v124) = v15 c
          ∧ r.2.mem ((c.tc : Thread Cert.StepsRefIdeal.nD Cert.StepsRefIdeal.τ).loc Cert.StepsRefIdeal.main_v148) = v16 c
          ∧ r.2.mem ((c.tc : Thread Cert.StepsRefIdeal.nD Cert.StepsRefIdeal.τ).loc Cert.StepsRefIdeal.main_v172) = v17 c
          ∧ r.2.mem ((c.tc : Thread Cert.StepsRefIdeal.nD Cert.StepsRefIdeal.τ).loc Cert.StepsRefIdeal.main_v196) = v18 c
          ∧ r.2.mem ((c.tc : Thread Cert.StepsRefIdeal.nD Cert.StepsRefIdeal.τ).loc Cert.StepsRefIdeal.main_v220) = v19 c
          ∧ r.2.mem ((c.tc : Thread Cert.StepsRefIdeal.nD Cert.StepsRefIdeal.τ).loc Cert.StepsRefIdeal.main_v10) = v20 c
          ∧ r.2.mem ((c.tc : Thread Cert.StepsRefIdeal.nD Cert.StepsRefIdeal.τ).loc Cert.StepsRefIdeal.main_v34) = v21 c
          ∧ r.2.mem ((c.tc : Thread Cert.StepsRefIdeal.nD Cert.StepsRefIdeal.τ).loc Cert.StepsRefIdeal.main_v58) = v22 c
          ∧ r.2.mem ((c.tc : Thread Cert.StepsRefIdeal.nD Cert.StepsRefIdeal.τ).loc Cert.StepsRefIdeal.main_v82) = v23 c
          ∧ r.2.mem ((c.tc : Thread Cert.StepsRefIdeal.nD Cert.StepsRefIdeal.τ).loc Cert.StepsRefIdeal.main_v106) = v24 c
          ∧ r.2.mem ((c.tc : Thread Cert.StepsRefIdeal.nD Cert.StepsRefIdeal.τ).loc Cert.StepsRefIdeal.main_v130) = v25 c
          ∧ r.2.mem ((c.tc : Thread Cert.StepsRefIdeal.nD Cert.StepsRefIdeal.τ).loc Cert.StepsRefIdeal.main_v154) = v26 c
          ∧ r.2.mem ((c.tc : Thread Cert.StepsRefIdeal.nD Cert.StepsRefIdeal.τ).loc Cert.StepsRefIdeal.main_v178) = v27 c
          ∧ r.2.mem ((c.tc : Thread Cert.StepsRefIdeal.nD Cert.StepsRefIdeal.τ).loc Cert.StepsRefIdeal.main_v202) = v28 c
          ∧ r.2.mem ((c.tc : Thread Cert.StepsRefIdeal.nD Cert.StepsRefIdeal.τ).loc Cert.StepsRefIdeal.main_v226) = v29 c
          ∧ r.2.mem ((c.tc : Thread Cert.StepsRefIdeal.nD Cert.StepsRefIdeal.τ).loc Cert.StepsRefIdeal.main_arg0) = m' ((c.tc : Thread Cert.StepsRefIdeal.nD Cert.StepsRefIdeal.τ).loc Cert.StepsRefIdeal.main_arg0)
          ∧ r.2.mem ((c.tc : Thread Cert.StepsRefIdeal.nD Cert.StepsRefIdeal.τ).loc Cert.StepsRefIdeal.main_arg1) = m' ((c.tc : Thread Cert.StepsRefIdeal.nD Cert.StepsRefIdeal.τ).loc Cert.StepsRefIdeal.main_arg1)
          ∧ r.2.mem ((c.tc : Thread Cert.StepsRefIdeal.nD Cert.StepsRefIdeal.τ).loc Cert.StepsRefIdeal.main_arg2) = m' ((c.tc : Thread Cert.StepsRefIdeal.nD Cert.StepsRefIdeal.τ).loc Cert.StepsRefIdeal.main_arg2)
          ∧ r.2.mem ((c.tc : Thread Cert.StepsRefIdeal.nD Cert.StepsRefIdeal.τ).loc Cert.StepsRefIdeal.main_arg3) = m' ((c.tc : Thread Cert.StepsRefIdeal.nD Cert.StepsRefIdeal.τ).loc Cert.StepsRefIdeal.main_arg3)
          ∧ r.2.mem ((c.tc : Thread Cert.StepsRefIdeal.nD Cert.StepsRefIdeal.τ).loc Cert.StepsRefIdeal.main_arg4) = m' ((c.tc : Thread Cert.StepsRefIdeal.nD Cert.StepsRefIdeal.τ).loc Cert.StepsRefIdeal.main_arg4)
          ∧ r.2.mem ((c.tc : Thread Cert.StepsRefIdeal.nD Cert.StepsRefIdeal.τ).loc Cert.StepsRefIdeal.main_arg5) = m' ((c.tc : Thread Cert.StepsRefIdeal.nD Cert.StepsRefIdeal.τ).loc Cert.StepsRefIdeal.main_arg5)
          ∧ r.2.mem ((c.tc : Thread Cert.StepsRefIdeal.nD Cert.StepsRefIdeal.τ).loc Cert.StepsRefIdeal.main_arg6) = m' ((c.tc : Thread Cert.StepsRefIdeal.nD Cert.StepsRefIdeal.τ).loc Cert.StepsRefIdeal.main_arg6)
          ∧ r.2.mem ((c.tc : Thread Cert.StepsRefIdeal.nD Cert.StepsRefIdeal.τ).loc Cert.StepsRefIdeal.main_arg7) = m' ((c.tc : Thread Cert.StepsRefIdeal.nD Cert.StepsRefIdeal.τ).loc Cert.StepsRefIdeal.main_arg7)
          ∧ r.2.mem ((c.tc : Thread Cert.StepsRefIdeal.nD Cert.StepsRefIdeal.τ).loc Cert.StepsRefIdeal.main_arg8) = m' ((c.tc : Thread Cert.StepsRefIdeal.nD Cert.StepsRefIdeal.τ).loc Cert.StepsRefIdeal.main_arg8)
          ∧ r.2.mem ((c.tc : Thread Cert.StepsRefIdeal.nD Cert.StepsRefIdeal.τ).loc Cert.StepsRefIdeal.main_arg9) = m' ((c.tc : Thread Cert.StepsRefIdeal.nD Cert.StepsRefIdeal.τ).loc Cert.StepsRefIdeal.main_arg9)
          ∧ r.2.mem ((c.tc : Thread Cert.StepsRefIdeal.nD Cert.StepsRefIdeal.τ).loc Cert.StepsRefIdeal.main_arg10) = m' ((c.tc : Thread Cert.StepsRefIdeal.nD Cert.StepsRefIdeal.τ).loc Cert.StepsRefIdeal.main_arg10)
          ∧ r.2.mem ((c.tc : Thread Cert.StepsRefIdeal.nD Cert.StepsRefIdeal.τ).loc Cert.StepsRefIdeal.main_arg11) = m' ((c.tc : Thread Cert.StepsRefIdeal.nD Cert.StepsRefIdeal.τ).loc Cert.StepsRefIdeal.main_arg11)
          ∧ r.2.mem ((c.tc : Thread Cert.StepsRefIdeal.nD Cert.StepsRefIdeal.τ).loc Cert.StepsRefIdeal.main_arg12) = m' ((c.tc : Thread Cert.StepsRefIdeal.nD Cert.StepsRefIdeal.τ).loc Cert.StepsRefIdeal.main_arg12)
          ∧ r.2.mem ((c.tc : Thread Cert.StepsRefIdeal.nD Cert.StepsRefIdeal.τ).loc Cert.StepsRefIdeal.main_arg13) = m' ((c.tc : Thread Cert.StepsRefIdeal.nD Cert.StepsRefIdeal.τ).loc Cert.StepsRefIdeal.main_arg13)
          ∧ r.2.mem ((c.tc : Thread Cert.StepsRefIdeal.nD Cert.StepsRefIdeal.τ).loc Cert.StepsRefIdeal.main_arg14) = m' ((c.tc : Thread Cert.StepsRefIdeal.nD Cert.StepsRefIdeal.τ).loc Cert.StepsRefIdeal.main_arg14)
          ∧ r.2.mem ((c.tc : Thread Cert.StepsRefIdeal.nD Cert.StepsRefIdeal.τ).loc Cert.StepsRefIdeal.main_arg15) = m' ((c.tc : Thread Cert.StepsRefIdeal.nD Cert.StepsRefIdeal.τ).loc Cert.StepsRefIdeal.main_arg15)
          ∧ r.2.mem ((c.tc : Thread Cert.StepsRefIdeal.nD Cert.StepsRefIdeal.τ).loc Cert.StepsRefIdeal.main_arg16) = m' ((c.tc : Thread Cert.StepsRefIdeal.nD Cert.StepsRefIdeal.τ).loc Cert.StepsRefIdeal.main_arg16)
          ∧ r.2.mem ((c.tc : Thread Cert.StepsRefIdeal.nD Cert.StepsRefIdeal.τ).loc Cert.StepsRefIdeal.main_arg17) = m' ((c.tc : Thread Cert.StepsRefIdeal.nD Cert.StepsRefIdeal.τ).loc Cert.StepsRefIdeal.main_arg17)
          ∧ r.2.mem ((c.tc : Thread Cert.StepsRefIdeal.nD Cert.StepsRefIdeal.τ).loc Cert.StepsRefIdeal.main_arg18) = m' ((c.tc : Thread Cert.StepsRefIdeal.nD Cert.StepsRefIdeal.τ).loc Cert.StepsRefIdeal.main_arg18)
          ∧ r.2.mem ((c.tc : Thread Cert.StepsRefIdeal.nD Cert.StepsRefIdeal.τ).loc Cert.StepsRefIdeal.main_arg19) = m' ((c.tc : Thread Cert.StepsRefIdeal.nD Cert.StepsRefIdeal.τ).loc Cert.StepsRefIdeal.main_arg19)
          ∧ r.2.mem ((c.tc : Thread Cert.StepsRefIdeal.nD Cert.StepsRefIdeal.τ).loc Cert.StepsRefIdeal.main_arg20) = m' ((c.tc : Thread Cert.StepsRefIdeal.nD Cert.StepsRefIdeal.τ).loc Cert.StepsRefIdeal.main_arg20)
          ∧ r.2.mem ((c.tc : Thread Cert.StepsRefIdeal.nD Cert.StepsRefIdeal.τ).loc Cert.StepsRefIdeal.main_arg21) = m' ((c.tc : Thread Cert.StepsRefIdeal.nD Cert.StepsRefIdeal.τ).loc Cert.StepsRefIdeal.main_arg21)
          ∧ r.2.mem ((c.tc : Thread Cert.StepsRefIdeal.nD Cert.StepsRefIdeal.τ).loc Cert.StepsRefIdeal.main_arg22) = m' ((c.tc : Thread Cert.StepsRefIdeal.nD Cert.StepsRefIdeal.τ).loc Cert.StepsRefIdeal.main_arg22)
          ∧ r.2.mem ((c.tc : Thread Cert.StepsRefIdeal.nD Cert.StepsRefIdeal.τ).loc Cert.StepsRefIdeal.main_arg23) = m' ((c.tc : Thread Cert.StepsRefIdeal.nD Cert.StepsRefIdeal.τ).loc Cert.StepsRefIdeal.main_arg23)
          ∧ r.2.mem ((c.tc : Thread Cert.StepsRefIdeal.nD Cert.StepsRefIdeal.τ).loc Cert.StepsRefIdeal.main_arg24) = m' ((c.tc : Thread Cert.StepsRefIdeal.nD Cert.StepsRefIdeal.τ).loc Cert.StepsRefIdeal.main_arg24)
          ∧ r.2.mem ((c.tc : Thread Cert.StepsRefIdeal.nD Cert.StepsRefIdeal.τ).loc Cert.StepsRefIdeal.main_arg25) = m' ((c.tc : Thread Cert.StepsRefIdeal.nD Cert.StepsRefIdeal.τ).loc Cert.StepsRefIdeal.main_arg25)
          ∧ r.2.mem ((c.tc : Thread Cert.StepsRefIdeal.nD Cert.StepsRefIdeal.τ).loc Cert.StepsRefIdeal.main_arg26) = m' ((c.tc : Thread Cert.StepsRefIdeal.nD Cert.StepsRefIdeal.τ).loc Cert.StepsRefIdeal.main_arg26)
          ∧ r.2.mem ((c.tc : Thread Cert.StepsRefIdeal.nD Cert.StepsRefIdeal.τ).loc Cert.StepsRefIdeal.main_arg27) = m' ((c.tc : Thread Cert.StepsRefIdeal.nD Cert.StepsRefIdeal.τ).loc Cert.StepsRefIdeal.main_arg27)
          ∧ r.2.mem ((c.tc : Thread Cert.StepsRefIdeal.nD Cert.StepsRefIdeal.τ).loc Cert.StepsRefIdeal.main_arg28) = m' ((c.tc : Thread Cert.StepsRefIdeal.nD Cert.StepsRefIdeal.τ).loc Cert.StepsRefIdeal.main_arg28)
          ∧ r.2.mem ((c.tc : Thread Cert.StepsRefIdeal.nD Cert.StepsRefIdeal.τ).loc Cert.StepsRefIdeal.main_arg29) = m' ((c.tc : Thread Cert.StepsRefIdeal.nD Cert.StepsRefIdeal.τ).loc Cert.StepsRefIdeal.main_arg29)
          ∧ r.2.mem ((c.tc : Thread Cert.StepsRefIdeal.nD Cert.StepsRefIdeal.τ).loc Cert.StepsRefIdeal.main_arg30) = m' ((c.tc : Thread Cert.StepsRefIdeal.nD Cert.StepsRefIdeal.τ).loc Cert.StepsRefIdeal.main_arg30)
          ∧ r.2.mem ((c.tc : Thread Cert.StepsRefIdeal.nD Cert.StepsRefIdeal.τ).loc Cert.StepsRefIdeal.main_arg31) = m' ((c.tc : Thread Cert.StepsRefIdeal.nD Cert.StepsRefIdeal.τ).loc Cert.StepsRefIdeal.main_arg31)
          ∧ r.2.mem ((c.tc : Thread Cert.StepsRefIdeal.nD Cert.StepsRefIdeal.τ).loc Cert.StepsRefIdeal.main_arg32) = m' ((c.tc : Thread Cert.StepsRefIdeal.nD Cert.StepsRefIdeal.τ).loc Cert.StepsRefIdeal.main_arg32)
          ∧ r.2.mem ((c.tc : Thread Cert.StepsRefIdeal.nD Cert.StepsRefIdeal.τ).loc Cert.StepsRefIdeal.main_arg33) = m' ((c.tc : Thread Cert.StepsRefIdeal.nD Cert.StepsRefIdeal.τ).loc Cert.StepsRefIdeal.main_arg33)
          ∧ r.2.mem ((c.tc : Thread Cert.StepsRefIdeal.nD Cert.StepsRefIdeal.τ).loc Cert.StepsRefIdeal.main_arg34) = m' ((c.tc : Thread Cert.StepsRefIdeal.nD Cert.StepsRefIdeal.τ).loc Cert.StepsRefIdeal.main_arg34)
          ∧ r.2.mem ((c.tc : Thread Cert.StepsRefIdeal.nD Cert.StepsRefIdeal.τ).loc Cert.StepsRefIdeal.main_arg35) = m' ((c.tc : Thread Cert.StepsRefIdeal.nD Cert.StepsRefIdeal.τ).loc Cert.StepsRefIdeal.main_arg35)
          ∧ r.2.mem ((c.tc : Thread Cert.StepsRefIdeal.nD Cert.StepsRefIdeal.τ).loc Cert.StepsRefIdeal.main_arg36) = m' ((c.tc : Thread Cert.StepsRefIdeal.nD Cert.StepsRefIdeal.τ).loc Cert.StepsRefIdeal.main_arg36)
          ∧ r.2.mem ((c.tc : Thread Cert.StepsRefIdeal.nD Cert.StepsRefIdeal.τ).loc Cert.StepsRefIdeal.main_arg37) = m' ((c.tc : Thread Cert.StepsRefIdeal.nD Cert.StepsRefIdeal.τ).loc Cert.StepsRefIdeal.main_arg37)
          ∧ r.2.mem ((c.tc : Thread Cert.StepsRefIdeal.nD Cert.StepsRefIdeal.τ).loc Cert.StepsRefIdeal.main_arg38) = m' ((c.tc : Thread Cert.StepsRefIdeal.nD Cert.StepsRefIdeal.τ).loc Cert.StepsRefIdeal.main_arg38)
          ∧ r.2.mem ((c.tc : Thread Cert.StepsRefIdeal.nD Cert.StepsRefIdeal.τ).loc Cert.StepsRefIdeal.main_arg39) = m' ((c.tc : Thread Cert.StepsRefIdeal.nD Cert.StepsRefIdeal.τ).loc Cert.StepsRefIdeal.main_arg39))

def preserves_PartIn_PartInIdeal : Prop :=
  True

def algebraic_PartInIdeal_PartInRefIdeal [hPartInIdeal : Cert.PartInIdeal.Facts] [hPartInRefIdeal : Cert.PartInRefIdeal.Facts] : Prop :=
  ∀ (m : (ℓ : Loc Cert.PartInIdeal.nD Cert.PartInIdeal.τ Cert.PartInIdeal.sig) → Buf (Elt Ideal) ℓ) (g : Dev Cert.PartInIdeal.nD → PrngReg)
    (m' : (ℓ : Loc Cert.PartInRefIdeal.nD Cert.PartInRefIdeal.τ Cert.PartInRefIdeal.sig) → Buf (Elt Ideal) ℓ) (g' : Dev Cert.PartInRefIdeal.nD → PrngReg), Pre_PartInIdeal m →
    (∀ c : Dev Cert.PartInIdeal.nD,
      m' ((c.tc : Thread Cert.PartInRefIdeal.nD Cert.PartInRefIdeal.τ).loc Cert.PartInRefIdeal.main_arg0) = m ((c.tc : Thread Cert.PartInIdeal.nD Cert.PartInIdeal.τ).loc Cert.PartInIdeal.main_arg0)
      ∧ m' ((c.tc : Thread Cert.PartInRefIdeal.nD Cert.PartInRefIdeal.τ).loc Cert.PartInRefIdeal.main_arg1) = m ((c.tc : Thread Cert.PartInIdeal.nD Cert.PartInIdeal.τ).loc Cert.PartInIdeal.main_arg1)) →
    ∃ (v0 : (c : Dev Cert.PartInIdeal.nD) → Buf (Elt Ideal) ((c.tc : Thread Cert.PartInIdeal.nD Cert.PartInIdeal.τ).loc Cert.PartInIdeal.main_v0)),
      θ_run (Cert.PartInIdeal.defs (F := Ideal)) (onTc (τ := Cert.PartInIdeal.τ) (Cert.PartInIdeal.main (F := Ideal))) ⟨m, fun _ => 0, g⟩ (fun r => ∀ c : Dev Cert.PartInIdeal.nD,
          r.2.mem ((c.tc : Thread Cert.PartInIdeal.nD Cert.PartInIdeal.τ).loc Cert.PartInIdeal.main_v0) = v0 c
          ∧ r.2.mem ((c.tc : Thread Cert.PartInIdeal.nD Cert.PartInIdeal.τ).loc Cert.PartInIdeal.main_arg0) = m ((c.tc : Thread Cert.PartInIdeal.nD Cert.PartInIdeal.τ).loc Cert.PartInIdeal.main_arg0)
          ∧ r.2.mem ((c.tc : Thread Cert.PartInIdeal.nD Cert.PartInIdeal.τ).loc Cert.PartInIdeal.main_arg1) = m ((c.tc : Thread Cert.PartInIdeal.nD Cert.PartInIdeal.τ).loc Cert.PartInIdeal.main_arg1))
      ∧ θ_run (Cert.PartInRefIdeal.defs (F := Ideal)) (onTc (τ := Cert.PartInRefIdeal.τ) (Cert.PartInRefIdeal.main (F := Ideal))) ⟨m', fun _ => 0, g'⟩ (fun r => ∀ c : Dev Cert.PartInRefIdeal.nD,
          r.2.mem ((c.tc : Thread Cert.PartInRefIdeal.nD Cert.PartInRefIdeal.τ).loc Cert.PartInRefIdeal.main_v2) = v0 c
          ∧ r.2.mem ((c.tc : Thread Cert.PartInRefIdeal.nD Cert.PartInRefIdeal.τ).loc Cert.PartInRefIdeal.main_arg0) = m' ((c.tc : Thread Cert.PartInRefIdeal.nD Cert.PartInRefIdeal.τ).loc Cert.PartInRefIdeal.main_arg0)
          ∧ r.2.mem ((c.tc : Thread Cert.PartInRefIdeal.nD Cert.PartInRefIdeal.τ).loc Cert.PartInRefIdeal.main_arg1) = m' ((c.tc : Thread Cert.PartInRefIdeal.nD Cert.PartInRefIdeal.τ).loc Cert.PartInRefIdeal.main_arg1))

def preserves_PartOut_PartOutIdeal : Prop :=
  True

def algebraic_PartOutIdeal_PartOutRefIdeal [hPartOutIdeal : Cert.PartOutIdeal.Facts] [hPartOutRefIdeal : Cert.PartOutRefIdeal.Facts] : Prop :=
  ∀ (m : (ℓ : Loc Cert.PartOutIdeal.nD Cert.PartOutIdeal.τ Cert.PartOutIdeal.sig) → Buf (Elt Ideal) ℓ) (g : Dev Cert.PartOutIdeal.nD → PrngReg)
    (m' : (ℓ : Loc Cert.PartOutRefIdeal.nD Cert.PartOutRefIdeal.τ Cert.PartOutRefIdeal.sig) → Buf (Elt Ideal) ℓ) (g' : Dev Cert.PartOutRefIdeal.nD → PrngReg), Pre_PartOutIdeal m →
    (∀ c : Dev Cert.PartOutIdeal.nD,
      m' ((c.tc : Thread Cert.PartOutRefIdeal.nD Cert.PartOutRefIdeal.τ).loc Cert.PartOutRefIdeal.main_arg0) = m ((c.tc : Thread Cert.PartOutIdeal.nD Cert.PartOutIdeal.τ).loc Cert.PartOutIdeal.main_arg0)
      ∧ m' ((c.tc : Thread Cert.PartOutRefIdeal.nD Cert.PartOutRefIdeal.τ).loc Cert.PartOutRefIdeal.main_arg1) = m ((c.tc : Thread Cert.PartOutIdeal.nD Cert.PartOutIdeal.τ).loc Cert.PartOutIdeal.main_arg1)) →
    ∃ (v0 : (c : Dev Cert.PartOutIdeal.nD) → Buf (Elt Ideal) ((c.tc : Thread Cert.PartOutIdeal.nD Cert.PartOutIdeal.τ).loc Cert.PartOutIdeal.main_v0)),
      θ_run (Cert.PartOutIdeal.defs (F := Ideal)) (onTc (τ := Cert.PartOutIdeal.τ) (Cert.PartOutIdeal.main (F := Ideal))) ⟨m, fun _ => 0, g⟩ (fun r => ∀ c : Dev Cert.PartOutIdeal.nD,
          r.2.mem ((c.tc : Thread Cert.PartOutIdeal.nD Cert.PartOutIdeal.τ).loc Cert.PartOutIdeal.main_v0) = v0 c
          ∧ r.2.mem ((c.tc : Thread Cert.PartOutIdeal.nD Cert.PartOutIdeal.τ).loc Cert.PartOutIdeal.main_arg0) = m ((c.tc : Thread Cert.PartOutIdeal.nD Cert.PartOutIdeal.τ).loc Cert.PartOutIdeal.main_arg0)
          ∧ r.2.mem ((c.tc : Thread Cert.PartOutIdeal.nD Cert.PartOutIdeal.τ).loc Cert.PartOutIdeal.main_arg1) = m ((c.tc : Thread Cert.PartOutIdeal.nD Cert.PartOutIdeal.τ).loc Cert.PartOutIdeal.main_arg1))
      ∧ θ_run (Cert.PartOutRefIdeal.defs (F := Ideal)) (onTc (τ := Cert.PartOutRefIdeal.τ) (Cert.PartOutRefIdeal.main (F := Ideal))) ⟨m', fun _ => 0, g'⟩ (fun r => ∀ c : Dev Cert.PartOutRefIdeal.nD,
          r.2.mem ((c.tc : Thread Cert.PartOutRefIdeal.nD Cert.PartOutRefIdeal.τ).loc Cert.PartOutRefIdeal.main_v2) = v0 c
          ∧ r.2.mem ((c.tc : Thread Cert.PartOutRefIdeal.nD Cert.PartOutRefIdeal.τ).loc Cert.PartOutRefIdeal.main_arg0) = m' ((c.tc : Thread Cert.PartOutRefIdeal.nD Cert.PartOutRefIdeal.τ).loc Cert.PartOutRefIdeal.main_arg0)
          ∧ r.2.mem ((c.tc : Thread Cert.PartOutRefIdeal.nD Cert.PartOutRefIdeal.τ).loc Cert.PartOutRefIdeal.main_arg1) = m' ((c.tc : Thread Cert.PartOutRefIdeal.nD Cert.PartOutRefIdeal.τ).loc Cert.PartOutRefIdeal.main_arg1))

def preserves_PartUp_PartUpIdeal : Prop :=
  True

def algebraic_PartUpIdeal_PartUpRefIdeal [hPartUpIdeal : Cert.PartUpIdeal.Facts] [hPartUpRefIdeal : Cert.PartUpRefIdeal.Facts] : Prop :=
  ∀ (m : (ℓ : Loc Cert.PartUpIdeal.nD Cert.PartUpIdeal.τ Cert.PartUpIdeal.sig) → Buf (Elt Ideal) ℓ) (g : Dev Cert.PartUpIdeal.nD → PrngReg)
    (m' : (ℓ : Loc Cert.PartUpRefIdeal.nD Cert.PartUpRefIdeal.τ Cert.PartUpRefIdeal.sig) → Buf (Elt Ideal) ℓ) (g' : Dev Cert.PartUpRefIdeal.nD → PrngReg), Pre_PartUpIdeal m →
    (∀ c : Dev Cert.PartUpIdeal.nD,
      m' ((c.tc : Thread Cert.PartUpRefIdeal.nD Cert.PartUpRefIdeal.τ).loc Cert.PartUpRefIdeal.main_arg0) = m ((c.tc : Thread Cert.PartUpIdeal.nD Cert.PartUpIdeal.τ).loc Cert.PartUpIdeal.main_arg0)
      ∧ m' ((c.tc : Thread Cert.PartUpRefIdeal.nD Cert.PartUpRefIdeal.τ).loc Cert.PartUpRefIdeal.main_arg1) = m ((c.tc : Thread Cert.PartUpIdeal.nD Cert.PartUpIdeal.τ).loc Cert.PartUpIdeal.main_arg1)) →
    ∃ (v0 : (c : Dev Cert.PartUpIdeal.nD) → Buf (Elt Ideal) ((c.tc : Thread Cert.PartUpIdeal.nD Cert.PartUpIdeal.τ).loc Cert.PartUpIdeal.main_v0)),
      θ_run (Cert.PartUpIdeal.defs (F := Ideal)) (onTc (τ := Cert.PartUpIdeal.τ) (Cert.PartUpIdeal.main (F := Ideal))) ⟨m, fun _ => 0, g⟩ (fun r => ∀ c : Dev Cert.PartUpIdeal.nD,
          r.2.mem ((c.tc : Thread Cert.PartUpIdeal.nD Cert.PartUpIdeal.τ).loc Cert.PartUpIdeal.main_v0) = v0 c
          ∧ r.2.mem ((c.tc : Thread Cert.PartUpIdeal.nD Cert.PartUpIdeal.τ).loc Cert.PartUpIdeal.main_arg0) = m ((c.tc : Thread Cert.PartUpIdeal.nD Cert.PartUpIdeal.τ).loc Cert.PartUpIdeal.main_arg0)
          ∧ r.2.mem ((c.tc : Thread Cert.PartUpIdeal.nD Cert.PartUpIdeal.τ).loc Cert.PartUpIdeal.main_arg1) = m ((c.tc : Thread Cert.PartUpIdeal.nD Cert.PartUpIdeal.τ).loc Cert.PartUpIdeal.main_arg1))
      ∧ θ_run (Cert.PartUpRefIdeal.defs (F := Ideal)) (onTc (τ := Cert.PartUpRefIdeal.τ) (Cert.PartUpRefIdeal.main (F := Ideal))) ⟨m', fun _ => 0, g'⟩ (fun r => ∀ c : Dev Cert.PartUpRefIdeal.nD,
          r.2.mem ((c.tc : Thread Cert.PartUpRefIdeal.nD Cert.PartUpRefIdeal.τ).loc Cert.PartUpRefIdeal.main_v2) = v0 c
          ∧ r.2.mem ((c.tc : Thread Cert.PartUpRefIdeal.nD Cert.PartUpRefIdeal.τ).loc Cert.PartUpRefIdeal.main_arg0) = m' ((c.tc : Thread Cert.PartUpRefIdeal.nD Cert.PartUpRefIdeal.τ).loc Cert.PartUpRefIdeal.main_arg0)
          ∧ r.2.mem ((c.tc : Thread Cert.PartUpRefIdeal.nD Cert.PartUpRefIdeal.τ).loc Cert.PartUpRefIdeal.main_arg1) = m' ((c.tc : Thread Cert.PartUpRefIdeal.nD Cert.PartUpRefIdeal.τ).loc Cert.PartUpRefIdeal.main_arg1))

def preserves_PartDown_PartDownIdeal : Prop :=
  True

def algebraic_PartDownIdeal_PartDownRefIdeal [hPartDownIdeal : Cert.PartDownIdeal.Facts] [hPartDownRefIdeal : Cert.PartDownRefIdeal.Facts] : Prop :=
  ∀ (m : (ℓ : Loc Cert.PartDownIdeal.nD Cert.PartDownIdeal.τ Cert.PartDownIdeal.sig) → Buf (Elt Ideal) ℓ) (g : Dev Cert.PartDownIdeal.nD → PrngReg)
    (m' : (ℓ : Loc Cert.PartDownRefIdeal.nD Cert.PartDownRefIdeal.τ Cert.PartDownRefIdeal.sig) → Buf (Elt Ideal) ℓ) (g' : Dev Cert.PartDownRefIdeal.nD → PrngReg), Pre_PartDownIdeal m →
    (∀ c : Dev Cert.PartDownIdeal.nD,
      m' ((c.tc : Thread Cert.PartDownRefIdeal.nD Cert.PartDownRefIdeal.τ).loc Cert.PartDownRefIdeal.main_arg0) = m ((c.tc : Thread Cert.PartDownIdeal.nD Cert.PartDownIdeal.τ).loc Cert.PartDownIdeal.main_arg0)
      ∧ m' ((c.tc : Thread Cert.PartDownRefIdeal.nD Cert.PartDownRefIdeal.τ).loc Cert.PartDownRefIdeal.main_arg1) = m ((c.tc : Thread Cert.PartDownIdeal.nD Cert.PartDownIdeal.τ).loc Cert.PartDownIdeal.main_arg1)) →
    ∃ (v0 : (c : Dev Cert.PartDownIdeal.nD) → Buf (Elt Ideal) ((c.tc : Thread Cert.PartDownIdeal.nD Cert.PartDownIdeal.τ).loc Cert.PartDownIdeal.main_v0)),
      θ_run (Cert.PartDownIdeal.defs (F := Ideal)) (onTc (τ := Cert.PartDownIdeal.τ) (Cert.PartDownIdeal.main (F := Ideal))) ⟨m, fun _ => 0, g⟩ (fun r => ∀ c : Dev Cert.PartDownIdeal.nD,
          r.2.mem ((c.tc : Thread Cert.PartDownIdeal.nD Cert.PartDownIdeal.τ).loc Cert.PartDownIdeal.main_v0) = v0 c
          ∧ r.2.mem ((c.tc : Thread Cert.PartDownIdeal.nD Cert.PartDownIdeal.τ).loc Cert.PartDownIdeal.main_arg0) = m ((c.tc : Thread Cert.PartDownIdeal.nD Cert.PartDownIdeal.τ).loc Cert.PartDownIdeal.main_arg0)
          ∧ r.2.mem ((c.tc : Thread Cert.PartDownIdeal.nD Cert.PartDownIdeal.τ).loc Cert.PartDownIdeal.main_arg1) = m ((c.tc : Thread Cert.PartDownIdeal.nD Cert.PartDownIdeal.τ).loc Cert.PartDownIdeal.main_arg1))
      ∧ θ_run (Cert.PartDownRefIdeal.defs (F := Ideal)) (onTc (τ := Cert.PartDownRefIdeal.τ) (Cert.PartDownRefIdeal.main (F := Ideal))) ⟨m', fun _ => 0, g'⟩ (fun r => ∀ c : Dev Cert.PartDownRefIdeal.nD,
          r.2.mem ((c.tc : Thread Cert.PartDownRefIdeal.nD Cert.PartDownRefIdeal.τ).loc Cert.PartDownRefIdeal.main_v2) = v0 c
          ∧ r.2.mem ((c.tc : Thread Cert.PartDownRefIdeal.nD Cert.PartDownRefIdeal.τ).loc Cert.PartDownRefIdeal.main_arg0) = m' ((c.tc : Thread Cert.PartDownRefIdeal.nD Cert.PartDownRefIdeal.τ).loc Cert.PartDownRefIdeal.main_arg0)
          ∧ r.2.mem ((c.tc : Thread Cert.PartDownRefIdeal.nD Cert.PartDownRefIdeal.τ).loc Cert.PartDownRefIdeal.main_arg1) = m' ((c.tc : Thread Cert.PartDownRefIdeal.nD Cert.PartDownRefIdeal.τ).loc Cert.PartDownRefIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hWup : Cert.Wup.Facts) (hWupIdeal : Cert.WupIdeal.Facts) (hWupRefIdeal : Cert.WupRefIdeal.Facts) (hIn : Cert.In.Facts) (hInIdeal : Cert.InIdeal.Facts) (hInRefIdeal : Cert.InRefIdeal.Facts) (hWin : Cert.Win.Facts) (hWinIdeal : Cert.WinIdeal.Facts) (hWinRefIdeal : Cert.WinRefIdeal.Facts) (hWdown : Cert.Wdown.Facts) (hWdownIdeal : Cert.WdownIdeal.Facts) (hWdownRefIdeal : Cert.WdownRefIdeal.Facts) (hWout : Cert.Wout.Facts) (hWoutIdeal : Cert.WoutIdeal.Facts) (hWoutRefIdeal : Cert.WoutRefIdeal.Facts) (hMid : Cert.Mid.Facts) (hMidIdeal : Cert.MidIdeal.Facts) (hMidRefIdeal : Cert.MidRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hQb : Cert.Qb.Facts) (hQbIdeal : Cert.QbIdeal.Facts) (hQbRefIdeal : Cert.QbRefIdeal.Facts) (hKb : Cert.Kb.Facts) (hKbIdeal : Cert.KbIdeal.Facts) (hKbRefIdeal : Cert.KbRefIdeal.Facts) (hVb : Cert.Vb.Facts) (hVbIdeal : Cert.VbIdeal.Facts) (hVbRefIdeal : Cert.VbRefIdeal.Facts) (hFirst : Cert.First.Facts) (hFirstIdeal : Cert.FirstIdeal.Facts) (hFirstRefIdeal : Cert.FirstRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hSmall : Cert.Small.Facts) (hSmallIdeal : Cert.SmallIdeal.Facts) (hSmallRefIdeal : Cert.SmallRefIdeal.Facts) (hVec : Cert.Vec.Facts) (hVecIdeal : Cert.VecIdeal.Facts) (hVecRefIdeal : Cert.VecRefIdeal.Facts) (hSums : Cert.Sums.Facts) (hSumsIdeal : Cert.SumsIdeal.Facts) (hSumsRefIdeal : Cert.SumsRefIdeal.Facts) (hSteps : Cert.Steps.Facts) (hStepsIdeal : Cert.StepsIdeal.Facts) (hStepsRefIdeal : Cert.StepsRefIdeal.Facts) (hPartIn : Cert.PartIn.Facts) (hPartInIdeal : Cert.PartInIdeal.Facts) (hPartInRefIdeal : Cert.PartInRefIdeal.Facts) (hPartOut : Cert.PartOut.Facts) (hPartOutIdeal : Cert.PartOutIdeal.Facts) (hPartOutRefIdeal : Cert.PartOutRefIdeal.Facts) (hPartUp : Cert.PartUp.Facts) (hPartUpIdeal : Cert.PartUpIdeal.Facts) (hPartUpRefIdeal : Cert.PartUpRefIdeal.Facts) (hPartDown : Cert.PartDown.Facts) (hPartDownIdeal : Cert.PartDownIdeal.Facts) (hPartDownRefIdeal : Cert.PartDownRefIdeal.Facts) (hPre_finite_out : Cert.Pre_finite_out.Facts) (hPre_finite_proj : Cert.Pre_finite_proj.Facts) (hPre_finite_qb : Cert.Pre_finite_qb.Facts) (hPre_finite_kb : Cert.Pre_finite_kb.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpRefIdeal (hUpRefIdeal := hUpRefIdeal)
    ∧ quiescent_Wup (hWup := hWup)
    ∧ quiescent_WupIdeal (hWupIdeal := hWupIdeal)
    ∧ quiescent_WupRefIdeal (hWupRefIdeal := hWupRefIdeal)
    ∧ quiescent_In (hIn := hIn)
    ∧ quiescent_InIdeal (hInIdeal := hInIdeal)
    ∧ quiescent_InRefIdeal (hInRefIdeal := hInRefIdeal)
    ∧ quiescent_Win (hWin := hWin)
    ∧ quiescent_WinIdeal (hWinIdeal := hWinIdeal)
    ∧ quiescent_WinRefIdeal (hWinRefIdeal := hWinRefIdeal)
    ∧ quiescent_Wdown (hWdown := hWdown)
    ∧ quiescent_WdownIdeal (hWdownIdeal := hWdownIdeal)
    ∧ quiescent_WdownRefIdeal (hWdownRefIdeal := hWdownRefIdeal)
    ∧ quiescent_Wout (hWout := hWout)
    ∧ quiescent_WoutIdeal (hWoutIdeal := hWoutIdeal)
    ∧ quiescent_WoutRefIdeal (hWoutRefIdeal := hWoutRefIdeal)
    ∧ quiescent_Mid (hMid := hMid)
    ∧ quiescent_MidIdeal (hMidIdeal := hMidIdeal)
    ∧ quiescent_MidRefIdeal (hMidRefIdeal := hMidRefIdeal)
    ∧ quiescent_Out (hOut := hOut)
    ∧ quiescent_OutIdeal (hOutIdeal := hOutIdeal)
    ∧ quiescent_OutIdeal_pre_finite_out (hOutIdeal := hOutIdeal) (hPre_finite_out := hPre_finite_out)
    ∧ quiescent_OutRefIdeal (hOutRefIdeal := hOutRefIdeal)
    ∧ quiescent_OutRefIdeal_pre_finite_out (hOutRefIdeal := hOutRefIdeal) (hPre_finite_out := hPre_finite_out)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ quiescent_Qb (hQb := hQb)
    ∧ quiescent_QbIdeal (hQbIdeal := hQbIdeal)
    ∧ quiescent_QbIdeal_pre_finite_qb (hQbIdeal := hQbIdeal) (hPre_finite_qb := hPre_finite_qb)
    ∧ quiescent_QbRefIdeal (hQbRefIdeal := hQbRefIdeal)
    ∧ quiescent_QbRefIdeal_pre_finite_qb (hQbRefIdeal := hQbRefIdeal) (hPre_finite_qb := hPre_finite_qb)
    ∧ quiescent_Kb (hKb := hKb)
    ∧ quiescent_KbIdeal (hKbIdeal := hKbIdeal)
    ∧ quiescent_KbIdeal_pre_finite_kb (hKbIdeal := hKbIdeal) (hPre_finite_kb := hPre_finite_kb)
    ∧ quiescent_KbRefIdeal (hKbRefIdeal := hKbRefIdeal)
    ∧ quiescent_KbRefIdeal_pre_finite_kb (hKbRefIdeal := hKbRefIdeal) (hPre_finite_kb := hPre_finite_kb)
    ∧ quiescent_Vb (hVb := hVb)
    ∧ quiescent_VbIdeal (hVbIdeal := hVbIdeal)
    ∧ quiescent_VbRefIdeal (hVbRefIdeal := hVbRefIdeal)
    ∧ quiescent_First (hFirst := hFirst)
    ∧ quiescent_FirstIdeal (hFirstIdeal := hFirstIdeal)
    ∧ quiescent_FirstRefIdeal (hFirstRefIdeal := hFirstRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_Small (hSmall := hSmall)
    ∧ quiescent_SmallIdeal (hSmallIdeal := hSmallIdeal)
    ∧ quiescent_SmallRefIdeal (hSmallRefIdeal := hSmallRefIdeal)
    ∧ quiescent_Vec (hVec := hVec)
    ∧ quiescent_VecIdeal (hVecIdeal := hVecIdeal)
    ∧ quiescent_VecRefIdeal (hVecRefIdeal := hVecRefIdeal)
    ∧ quiescent_Sums (hSums := hSums)
    ∧ quiescent_SumsIdeal (hSumsIdeal := hSumsIdeal)
    ∧ quiescent_SumsRefIdeal (hSumsRefIdeal := hSumsRefIdeal)
    ∧ quiescent_Steps (hSteps := hSteps)
    ∧ quiescent_StepsIdeal (hStepsIdeal := hStepsIdeal)
    ∧ quiescent_StepsRefIdeal (hStepsRefIdeal := hStepsRefIdeal)
    ∧ quiescent_PartIn (hPartIn := hPartIn)
    ∧ quiescent_PartInIdeal (hPartInIdeal := hPartInIdeal)
    ∧ quiescent_PartInRefIdeal (hPartInRefIdeal := hPartInRefIdeal)
    ∧ quiescent_PartOut (hPartOut := hPartOut)
    ∧ quiescent_PartOutIdeal (hPartOutIdeal := hPartOutIdeal)
    ∧ quiescent_PartOutRefIdeal (hPartOutRefIdeal := hPartOutRefIdeal)
    ∧ quiescent_PartUp (hPartUp := hPartUp)
    ∧ quiescent_PartUpIdeal (hPartUpIdeal := hPartUpIdeal)
    ∧ quiescent_PartUpRefIdeal (hPartUpRefIdeal := hPartUpRefIdeal)
    ∧ quiescent_PartDown (hPartDown := hPartDown)
    ∧ quiescent_PartDownIdeal (hPartDownIdeal := hPartDownIdeal)
    ∧ quiescent_PartDownRefIdeal (hPartDownRefIdeal := hPartDownRefIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpRefIdeal (hUpIdeal := hUpIdeal) (hUpRefIdeal := hUpRefIdeal)
    ∧ preserves_Wup_WupIdeal
    ∧ algebraic_WupIdeal_WupRefIdeal (hWupIdeal := hWupIdeal) (hWupRefIdeal := hWupRefIdeal)
    ∧ preserves_In_InIdeal
    ∧ algebraic_InIdeal_InRefIdeal (hInIdeal := hInIdeal) (hInRefIdeal := hInRefIdeal)
    ∧ preserves_Win_WinIdeal
    ∧ algebraic_WinIdeal_WinRefIdeal (hWinIdeal := hWinIdeal) (hWinRefIdeal := hWinRefIdeal)
    ∧ preserves_Wdown_WdownIdeal
    ∧ algebraic_WdownIdeal_WdownRefIdeal (hWdownIdeal := hWdownIdeal) (hWdownRefIdeal := hWdownRefIdeal)
    ∧ preserves_Wout_WoutIdeal
    ∧ algebraic_WoutIdeal_WoutRefIdeal (hWoutIdeal := hWoutIdeal) (hWoutRefIdeal := hWoutRefIdeal)
    ∧ preserves_Mid_MidIdeal
    ∧ algebraic_MidIdeal_MidRefIdeal (hMidIdeal := hMidIdeal) (hMidRefIdeal := hMidRefIdeal)
    ∧ preserves_Out_OutIdeal
    ∧ algebraic_OutIdeal_OutRefIdeal_pre_finite_out (hOutIdeal := hOutIdeal) (hOutRefIdeal := hOutRefIdeal) (hPre_finite_out := hPre_finite_out)
    ∧ preserves_Proj_ProjIdeal
    ∧ algebraic_ProjIdeal_ProjRefIdeal_pre_finite_proj (hProjIdeal := hProjIdeal) (hProjRefIdeal := hProjRefIdeal) (hPre_finite_proj := hPre_finite_proj)
    ∧ preserves_Qb_QbIdeal
    ∧ algebraic_QbIdeal_QbRefIdeal_pre_finite_qb (hQbIdeal := hQbIdeal) (hQbRefIdeal := hQbRefIdeal) (hPre_finite_qb := hPre_finite_qb)
    ∧ preserves_Kb_KbIdeal
    ∧ algebraic_KbIdeal_KbRefIdeal_pre_finite_kb (hKbIdeal := hKbIdeal) (hKbRefIdeal := hKbRefIdeal) (hPre_finite_kb := hPre_finite_kb)
    ∧ preserves_Vb_VbIdeal
    ∧ algebraic_VbIdeal_VbRefIdeal (hVbIdeal := hVbIdeal) (hVbRefIdeal := hVbRefIdeal)
    ∧ preserves_First_FirstIdeal
    ∧ algebraic_FirstIdeal_FirstRefIdeal (hFirstIdeal := hFirstIdeal) (hFirstRefIdeal := hFirstRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_Small_SmallIdeal
    ∧ algebraic_SmallIdeal_SmallRefIdeal (hSmallIdeal := hSmallIdeal) (hSmallRefIdeal := hSmallRefIdeal)
    ∧ preserves_Vec_VecIdeal
    ∧ algebraic_VecIdeal_VecRefIdeal (hVecIdeal := hVecIdeal) (hVecRefIdeal := hVecRefIdeal)
    ∧ preserves_Sums_SumsIdeal
    ∧ algebraic_SumsIdeal_SumsRefIdeal (hSumsIdeal := hSumsIdeal) (hSumsRefIdeal := hSumsRefIdeal)
    ∧ preserves_Steps_StepsIdeal
    ∧ algebraic_StepsIdeal_StepsRefIdeal (hStepsIdeal := hStepsIdeal) (hStepsRefIdeal := hStepsRefIdeal)
    ∧ preserves_PartIn_PartInIdeal
    ∧ algebraic_PartInIdeal_PartInRefIdeal (hPartInIdeal := hPartInIdeal) (hPartInRefIdeal := hPartInRefIdeal)
    ∧ preserves_PartOut_PartOutIdeal
    ∧ algebraic_PartOutIdeal_PartOutRefIdeal (hPartOutIdeal := hPartOutIdeal) (hPartOutRefIdeal := hPartOutRefIdeal)
    ∧ preserves_PartUp_PartUpIdeal
    ∧ algebraic_PartUpIdeal_PartUpRefIdeal (hPartUpIdeal := hPartUpIdeal) (hPartUpRefIdeal := hPartUpRefIdeal)
    ∧ preserves_PartDown_PartDownIdeal
    ∧ algebraic_PartDownIdeal_PartDownRefIdeal (hPartDownIdeal := hPartDownIdeal) (hPartDownRefIdeal := hPartDownRefIdeal)
-- ==== Pre_finite_kb.lean ====
abbrev S8192x512 : Shape := ⟨2, ![8192, 512]⟩
abbrev S8192x2560 : Shape := ⟨2, ![8192, 2560]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  slices_S8192x2560_S8192x512_0_1536 : S8192x2560.Slices ![0, 1536] S8192x512
  bcast_S_S1x512 : S_.BroadcastsInDim S1x512 (![] : Fin 0 → Fin S1x512.rank)

variable [Facts]

def fn {F : FTy → Type} [FloatOps F] (main_arg0 : FVec F S8192x512 .f32) (main_arg1 : FVec F S8192x2560 .f32) (main_arg2 : FVec F S1x512 .f32) (main_arg3 : FVec F S8192x2560 .bf16) : IVec S8192x512 1 × IVec S8192x512 1 × IVec S1x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := (extractStridedSlice S8192x512 ![0, 1536] · slices_S8192x2560_S8192x512_0_1536) main_arg1
  let main_v4 : FVec F S8192x512 .f32 := Host.absf main_v3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S1x512 .f32 := Host.absf main_arg2
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  (main_v2, main_v6, main_v9)
-- ==== Pre_finite_out.lean ====
abbrev S8192x1024 : Shape := ⟨2, ![8192, 1024]⟩
abbrev S1024x1024 : Shape := ⟨2, ![1024, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S8192x512 : S_.BroadcastsInDim S8192x512 (![] : Fin 0 → Fin S8192x512.rank)

variable [Facts]

def fn {F : FTy → Type} [FloatOps F] (main_arg0 : FVec F S8192x1024 .bf16) (main_arg1 : FVec F S1024x1024 .f32) (main_arg2 : FVec F S8192x512 .f32) : IVec S8192x1024 1 × IVec S1024x1024 1 × IVec S8192x512 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_finite_proj.lean ====
abbrev S8192x1024 : Shape := ⟨2, ![8192, 1024]⟩
abbrev S1x1024 : Shape := ⟨2, ![1, 1024]⟩
abbrev S1024x2560 : Shape := ⟨2, ![1024, 2560]⟩
abbrev S64 : Shape := ⟨1, ![64]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2560 : S_.BroadcastsInDim S1024x2560 (![] : Fin 0 → Fin S1024x2560.rank)

variable [Facts]

def fn {F : FTy → Type} [FloatOps F] (main_arg0 : FVec F S8192x1024 .f32) (main_arg1 : FVec F S1x1024 .f32) (main_arg2 : FVec F S1024x2560 .f32) (main_arg3 : FVec F S64 .f32) (main_arg4 : FVec F S64 .f32) : IVec S8192x1024 1 × IVec S1x1024 1 × IVec S1024x2560 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2560 .f32 := Host.absf main_arg2
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  (main_v2, main_v5, main_v8)
-- ==== Pre_finite_qb.lean ====
abbrev S8192x512 : Shape := ⟨2, ![8192, 512]⟩
abbrev S8192x2560 : Shape := ⟨2, ![8192, 2560]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  slices_S8192x2560_S8192x512_0_1024 : S8192x2560.Slices ![0, 1024] S8192x512
  bcast_S_S1x512 : S_.BroadcastsInDim S1x512 (![] : Fin 0 → Fin S1x512.rank)

variable [Facts]

def fn {F : FTy → Type} [FloatOps F] (main_arg0 : FVec F S8192x512 .f32) (main_arg1 : FVec F S8192x2560 .f32) (main_arg2 : FVec F S1x512 .f32) (main_arg3 : FVec F S8192x2560 .bf16) : IVec S8192x512 1 × IVec S8192x512 1 × IVec S1x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := (extractStridedSlice S8192x512 ![0, 1024] · slices_S8192x2560_S8192x512_0_1024) main_arg1
  let main_v4 : FVec F S8192x512 .f32 := Host.absf main_v3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S1x512 .f32 := Host.absf main_arg2
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  (main_v2, main_v6, main_v9)
-- ==== Kernel.lean ====
abbrev S8192x512 : Shape := ⟨2, ![8192, 512]⟩
abbrev S8192x2560 : Shape := ⟨2, ![8192, 2560]⟩
abbrev S8192x1024 : Shape := ⟨2, ![8192, 1024]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8 : Shape := ⟨1, ![8]⟩
abbrev S1x128x256 : Shape := ⟨3, ![1, 128, 256]⟩
abbrev S8x1x1 : Shape := ⟨3, ![8, 1, 1]⟩
abbrev S8x128x256 : Shape := ⟨3, ![8, 128, 256]⟩
abbrev S4x256x256 : Shape := ⟨3, ![4, 256, 256]⟩
abbrev S2048x128 : Shape := ⟨2, ![2048, 128]⟩
abbrev S128x128 : Shape := ⟨2, ![128, 128]⟩
abbrev S1x256x256 : Shape := ⟨3, ![1, 256, 256]⟩
abbrev S2176x128 : Shape := ⟨2, ![2176, 128]⟩
abbrev S256x128 : Shape := ⟨2, ![256, 128]⟩
abbrev S256x256 : Shape := ⟨2, ![256, 256]⟩
abbrev S256x1 : Shape := ⟨2, ![256, 1]⟩
abbrev S1x256x128 : Shape := ⟨3, ![1, 256, 128]⟩

abbrev nBuf : Space → Nat
  | .hbm => 54
  | .vmem => 47
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2560, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S128, .i32⟩
  | .hbm, ⟨10, _⟩ => ⟨S128x1, .i32⟩
  | .hbm, ⟨11, _⟩ => ⟨S256, .i32⟩
  | .hbm, ⟨12, _⟩ => ⟨S1x256, .i32⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S128x256, .i32⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S128x256, .i1⟩
  | .hbm, ⟨26, _⟩ => ⟨S_, .i32⟩
  | .hbm, ⟨27, _⟩ => ⟨S128x256, .i32⟩
  | .hbm, ⟨28, _⟩ => ⟨S128x256, .i32⟩
  | .hbm, ⟨29, _⟩ => ⟨S128x256, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S1x128x256, .i1⟩
  | .hbm, ⟨39, _⟩ => ⟨S8x1x1, .f32⟩
  | .hbm, ⟨40, _⟩ => ⟨S8x1x1, .f32⟩
  | .hbm, ⟨41, _⟩ => ⟨S1x128x256, .f32⟩
  | .hbm, ⟨42, _⟩ => ⟨S8x128x256, .f32⟩
  | .hbm, ⟨43, _⟩ => ⟨S8x128x256, .f32⟩
  | .hbm, ⟨44, _⟩ => ⟨S8x128x256, .f32⟩
  | .hbm, ⟨45, _⟩ => ⟨S_, .f32⟩
  | .hbm, ⟨46, _⟩ => ⟨S_, .f32⟩
  | .hbm, ⟨47, _⟩ => ⟨S8x128x256, .i1⟩
  | .hbm, ⟨48, _⟩ => ⟨S8x128x256, .f32⟩
  | .hbm, ⟨49, _⟩ => ⟨S8x128x256, .f32⟩
  | .hbm, ⟨50, _⟩ => ⟨S4x256x256, .f32⟩
  | .hbm, ⟨51, _⟩ => ⟨S8192x512, .f32⟩
  | .hbm, ⟨52, _⟩ => ⟨S8192x512, .f32⟩
  | .hbm, ⟨53, _⟩ => ⟨S8192x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1x256x256, .f32⟩
  | .local _ .vmem, ⟨25, _⟩ => ⟨S1x256x256, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2176x128, .bf16⟩
  | .local _ .vmem, ⟨39, _⟩ => ⟨S2176x128, .bf16⟩
  | .local _ .vmem, ⟨40, _⟩ => ⟨S2176x128, .f32⟩
  | .local _ .vmem, ⟨41, _⟩ => ⟨S2176x128, .f32⟩
  | .local _ .vmem, ⟨42, _⟩ => ⟨S2176x128, .bf16⟩
  | .local _ .vmem, ⟨43, _⟩ => ⟨S2176x128, .bf16⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v30 : Ref sig .tc := ⟨.hbm, 49, rfl⟩
abbrev main_v31 : Ref sig .tc := ⟨.hbm, 50, rfl⟩
abbrev main_v32_0 : Ref sig .tc := ⟨.hbm, 51, rfl⟩
abbrev main_v32_1 : Ref sig .tc := ⟨.hbm, 52, rfl⟩
abbrev main_v32_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_scratch7 : Ref sig .tc := ⟨.vmem, 45, rfl⟩
abbrev cc0_scratch8 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c16_i32_0 : BitVec 32 := 16#32
  let v3 : BitVec 32 := Scalar.addi c16_i32_0 arg0
  let c0_i32_1 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c4_i32 : BitVec 32 := 4#32
  let v3 : BitVec 32 := Scalar.addi c4_i32 arg0
  let c0_i32 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x512 : Shape := ⟨2, ![8192, 512]⟩
abbrev S8192x2560 : Shape := ⟨2, ![8192, 2560]⟩
abbrev S8192x1024 : Shape := ⟨2, ![8192, 1024]⟩
abbrev S1x8192x8x64 : Shape := ⟨4, ![1, 8192, 8, 64]⟩
abbrev S1x8192x8x1 : Shape := ⟨4, ![1, 8192, 8, 1]⟩
abbrev S1x8192x8 : Shape := ⟨3, ![1, 8192, 8]⟩
abbrev S8 : Shape := ⟨1, ![8]⟩
abbrev S_ : Shape := ⟨0, ![]⟩
abbrev S1x64x128x1x8x64 : Shape := ⟨6, ![1, 64, 128, 1, 8, 64]⟩
abbrev S1x1x128x1x8x64 : Shape := ⟨6, ![1, 1, 128, 1, 8, 64]⟩
abbrev S1x63x128x1x8x64 : Shape := ⟨6, ![1, 63, 128, 1, 8, 64]⟩
abbrev S1x64x256x1x8x64 : Shape := ⟨6, ![1, 64, 256, 1, 8, 64]⟩
abbrev S1x64x1x8x128x256 : Shape := ⟨6, ![1, 64, 1, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S8x1x1 : Shape := ⟨3, ![8, 1, 1]⟩
abbrev S8x128x256 : Shape := ⟨3, ![8, 128, 256]⟩
abbrev S1x1x1x8x128x256 : Shape := ⟨6, ![1, 1, 1, 8, 128, 256]⟩
abbrev S1x64x1x1x128x256 : Shape := ⟨6, ![1, 64, 1, 1, 128, 256]⟩
abbrev S1x64x128x1x8 : Shape := ⟨5, ![1, 64, 128, 1, 8]⟩
abbrev S1x64x1x8x128 : Shape := ⟨5, ![1, 64, 1, 8, 128]⟩
abbrev S1x64x1x8x128x1 : Shape := ⟨6, ![1, 64, 1, 8, 128, 1]⟩
abbrev S1x64x1x8x64x128 : Shape := ⟨6, ![1, 64, 1, 8, 64, 128]⟩
abbrev S1x64x1x8x64x256 : Shape := ⟨6, ![1, 64, 1, 8, 64, 256]⟩
abbrev S1x64x1x8x256x64 : Shape := ⟨6, ![1, 64, 1, 8, 256, 64]⟩
abbrev S1x64x1x8x128x64 : Shape := ⟨6, ![1, 64, 1, 8, 128, 64]⟩

abbrev nBuf : Space → Nat
  | .hbm => 167
  | .vmem => 0
  | .smem => 0
  | _ => 0

abbrev hbmTy0_0 (i : Nat) : BufTy := match i % 128 with
  | 0 => ⟨S8192x512, .f32⟩
  | 1 => ⟨S8192x512, .f32⟩
  | 2 => ⟨S8192x2560, .f32⟩
  | 3 => ⟨S8192x1024, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S1x8192x8x64, .f32⟩
  | 12 => ⟨S1x8192x8x1, .f32⟩
  | 13 => ⟨S1x8192x8, .f32⟩
  | 14 => ⟨S1x8192x8x64, .f32⟩
  | 15 => ⟨S1x8192x8x1, .f32⟩
  | 16 => ⟨S1x8192x8, .f32⟩
  | 17 => ⟨S1x8192x8x64, .f32⟩
  | 18 => ⟨S1x8192x8x64, .f32⟩
  | 19 => ⟨S1x8192x8x64, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S1x64x128x1x8x64, .f32⟩
  | 34 => ⟨S1x64x128x1x8x64, .f32⟩
  | 35 => ⟨S1x1x128x1x8x64, .f32⟩
  | 36 => ⟨S_, .f32⟩
  | 37 => ⟨S1x1x128x1x8x64, .f32⟩
  | 38 => ⟨S1x63x128x1x8x64, .f32⟩
  | 39 => ⟨S1x64x128x1x8x64, .f32⟩
  | 40 => ⟨S_, .f32⟩
  | 41 => ⟨S1x1x128x1x8x64, .f32⟩
  | 42 => ⟨S1x64x256x1x8x64, .f32⟩
  | 43 => ⟨S1x64x128x1x8x64, .f32⟩
  | 44 => ⟨S1x1x128x1x8x64, .f32⟩
  | 45 => ⟨S_, .f32⟩
  | 46 => ⟨S1x1x128x1x8x64, .f32⟩
  | 47 => ⟨S1x63x128x1x8x64, .f32⟩
  | 48 => ⟨S1x64x128x1x8x64, .f32⟩
  | 49 => ⟨S_, .f32⟩
  | 50 => ⟨S1x1x128x1x8x64, .f32⟩
  | 51 => ⟨S1x64x256x1x8x64, .f32⟩
  | 52 => ⟨S1x64x1x8x128x256, .f32⟩
  | 53 => ⟨S128, .i32⟩
  | 54 => ⟨S128x1, .i32⟩
  | 55 => ⟨S256, .i32⟩
  | 56 => ⟨S1x256, .i32⟩
  | 57 => ⟨S_, .i32⟩
  | 58 => ⟨S128x1, .i32⟩
  | 59 => ⟨S128x1, .i32⟩
  | 60 => ⟨S128x256, .i32⟩
  | 61 => ⟨S128x256, .i32⟩
  | 62 => ⟨S128x256, .i32⟩
  | 63 => ⟨S_, .i32⟩
  | 64 => ⟨S128x256, .i32⟩
  | 65 => ⟨S128x256, .i1⟩
  | 66 => ⟨S_, .i32⟩
  | 67 => ⟨S128x256, .i32⟩
  | 68 => ⟨S128x256, .i1⟩
  | 69 => ⟨S128x256, .i1⟩
  | 70 => ⟨S64, .i32⟩
  | 71 => ⟨S64x1, .i32⟩
  | 72 => ⟨S_, .i32⟩
  | 73 => ⟨S64x1, .i32⟩
  | 74 => ⟨S64x1, .i32⟩
  | 75 => ⟨S_, .i32⟩
  | 76 => ⟨S64x1, .i32⟩
  | 77 => ⟨S64x1, .i32⟩
  | 78 => ⟨S256, .i32⟩
  | 79 => ⟨S1x256, .i32⟩
  | 80 => ⟨S64x256, .i32⟩
  | 81 => ⟨S64x256, .i32⟩
  | 82 => ⟨S64x256, .i32⟩
  | 83 => ⟨S_, .i32⟩
  | 84 => ⟨S64x256, .i32⟩
  | 85 => ⟨S64x256, .i1⟩
  | 86 => ⟨S1x128x256, .i1⟩
  | 87 => ⟨S64x1x256, .i1⟩
  | 88 => ⟨S64x128x256, .i1⟩
  | 89 => ⟨S64x128x256, .i1⟩
  | 90 => ⟨S64x128x256, .i1⟩
  | 91 => ⟨S_, .i32⟩
  | 92 => ⟨S128x256, .i32⟩
  | 93 => ⟨S128x256, .i32⟩
  | 94 => ⟨S128x256, .f32⟩
  | 95 => ⟨S8x1x1, .f32⟩
  | 96 => ⟨S8x1x1, .f32⟩
  | 97 => ⟨S1x128x256, .f32⟩
  | 98 => ⟨S8x128x256, .f32⟩
  | 99 => ⟨S8x128x256, .f32⟩
  | 100 => ⟨S8x128x256, .f32⟩
  | 101 => ⟨S1x1x1x8x128x256, .f32⟩
  | 102 => ⟨S1x64x1x8x128x256, .f32⟩
  | 103 => ⟨S1x64x1x8x128x256, .f32⟩
  | 104 => ⟨S1x64x1x1x128x256, .i1⟩
  | 105 => ⟨S_, .f32⟩
  | 106 => ⟨S_, .f32⟩
  | 107 => ⟨S1x64x1x8x128x256, .i1⟩
  | 108 => ⟨S1x64x1x8x128x256, .f32⟩
  | 109 => ⟨S1x64x1x8x128x256, .f32⟩
  | 110 => ⟨S_, .f32⟩
  | 111 => ⟨S1x64x1x8x128x256, .f32⟩
  | 112 => ⟨S1x64x128x1x8, .f32⟩
  | 113 => ⟨S1x64x1x8x128, .f32⟩
  | 114 => ⟨S1x64x1x8x128x1, .f32⟩
  | 115 => ⟨S1x64x1x8x128x256, .f32⟩
  | 116 => ⟨S1x64x1x8x128x256, .f32⟩
  | 117 => ⟨S1x64x1x8x128x256, .f32⟩
  | 118 => ⟨S1x64x1x8x64x128, .f32⟩
  | 119 => ⟨S1x64x128x1x8x64, .f32⟩
  | 120 => ⟨S_, .f32⟩
  | 121 => ⟨S1x64x1x8x128, .f32⟩
  | 122 => ⟨S1x64x128x1x8, .f32⟩
  | 123 => ⟨S1x8192x8, .f32⟩
  | 124 => ⟨S1x8192x8x64, .f32⟩
  | 125 => ⟨S1x8192x8x64, .f32⟩
  | 126 => ⟨S1x8192x8, .f32⟩
  | 127 => ⟨S1x64x128x1x8x64, .f32⟩
  | _ => ⟨S8192x512, .f32⟩

abbrev hbmTy0_1 (i : Nat) : BufTy := match i % 128 with
  | 0 => ⟨S1x64x128x1x8, .f32⟩
  | 1 => ⟨S1x64x1x8x128, .f32⟩
  | 2 => ⟨S1x64x1x8x128x256, .f32⟩
  | 3 => ⟨S1x64x1x8x64x128, .f32⟩
  | 4 => ⟨S1x64x1x8x128x256, .f32⟩
  | 5 => ⟨S1x64x1x8x128x256, .f32⟩
  | 6 => ⟨S1x64x1x8x64x256, .f32⟩
  | 7 => ⟨S1x64x256x1x8x64, .f32⟩
  | 8 => ⟨S1x64x1x8x128x256, .f32⟩
  | 9 => ⟨S_, .f32⟩
  | 10 => ⟨S1x64x1x8x128x256, .f32⟩
  | 11 => ⟨S1x64x1x8x128x256, .f32⟩
  | 12 => ⟨S1x64x1x8x256x64, .f32⟩
  | 13 => ⟨S1x64x256x1x8x64, .f32⟩
  | 14 => ⟨S1x64x1x8x128x64, .f32⟩
  | 15 => ⟨S1x64x128x1x8x64, .f32⟩
  | 16 => ⟨S1x64x128x1x8x64, .f32⟩
  | 17 => ⟨S1x64x128x1x8x64, .f32⟩
  | 18 => ⟨S1x1x128x1x8x64, .f32⟩
  | 19 => ⟨S1x63x128x1x8x64, .f32⟩
  | 20 => ⟨S_, .f32⟩
  | 21 => ⟨S1x64x128x1x8x64, .f32⟩
  | 22 => ⟨S1x64x128x1x8x64, .f32⟩
  | 23 => ⟨S1x8192x8x64, .f32⟩
  | 24 => ⟨S1x64x128x1x8x64, .f32⟩
  | 25 => ⟨S1x64x128x1x8x64, .f32⟩
  | 26 => ⟨S1x1x128x1x8x64, .f32⟩
  | 27 => ⟨S1x63x128x1x8x64, .f32⟩
  | 28 => ⟨S_, .f32⟩
  | 29 => ⟨S1x64x128x1x8x64, .f32⟩
  | 30 => ⟨S1x64x128x1x8x64, .f32⟩
  | 31 => ⟨S1x8192x8x64, .f32⟩
  | 32 => ⟨S1x8192x8x64, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_call0_v0 : Ref sig .tc := ⟨.hbm, 106, rfl⟩
abbrev main_v81_1 : Ref sig .tc := ⟨.hbm, 107, rfl⟩
abbrev main_call0_v2 : Ref sig .tc := ⟨.hbm, 108, rfl⟩
abbrev main_v81_0 : Ref sig .tc := ⟨.hbm, 109, rfl⟩
abbrev main_call0_cst : Ref sig .tc := ⟨.hbm, 110, rfl⟩
abbrev main_v81_2 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_14 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_call1_cst : Ref sig .tc := ⟨.hbm, 137, rfl⟩
abbrev main_call1_v0 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_15 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_16 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩

abbrev nD : Nat := 1
abbrev τ : Topo := Topo.v7x

variable {F : FTy → Type} [FloatOps F]
-- ==== Up.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x5632, .bf16⟩
  | .hbm, ⟨6, _⟩ => ⟨S8192x1024, .f32⟩
  | .hbm, ⟨7, _⟩ => ⟨S1x1024, .f32⟩
  | .hbm, ⟨8, _⟩ => ⟨S8192x1024, .bf16⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpRefIdeal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Wup.lean ====
abbrev S8192x1024 : Shape := ⟨2, ![8192, 1024]⟩
abbrev S1x1024 : Shape := ⟨2, ![1, 1024]⟩
abbrev S8192x5632 : Shape := ⟨2, ![8192, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 23
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x5632, .f32⟩
  | .hbm, ⟨22, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WupRefIdeal.lean ====
abbrev S8192x1024 : Shape := ⟨2, ![8192, 1024]⟩
abbrev S1x1024 : Shape := ⟨2, ![1, 1024]⟩
abbrev S8192x5632 : Shape := ⟨2, ![8192, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S5632x1024 : Shape := ⟨2, ![5632, 1024]⟩
abbrev S1024x5632 : Shape := ⟨2, ![1024, 5632]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S5632x1024, .f32⟩
  | .hbm, ⟨22, _⟩ => ⟨S1024x5632, .f32⟩
  | .hbm, ⟨23, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== In.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x2560, .bf16⟩
  | .hbm, ⟨6, _⟩ => ⟨S8192x1024, .f32⟩
  | .hbm, ⟨7, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InRefIdeal.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2560, .f32⟩
  | .hbm, ⟨27, _⟩ => ⟨S8192x2560, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Win.lean ====
abbrev S8192x1024 : Shape := ⟨2, ![8192, 1024]⟩
abbrev S1x1024 : Shape := ⟨2, ![1, 1024]⟩
abbrev S8192x2560 : Shape := ⟨2, ![8192, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S2048x1024 : Shape := ⟨2, ![2048, 1024]⟩
abbrev S2048x640 : Shape := ⟨2, ![2048, 640]⟩
abbrev S1024x640 : Shape := ⟨2, ![1024, 640]⟩

abbrev nBuf : Space → Nat
  | .hbm => 23
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2560, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x2560, .f32⟩
  | .hbm, ⟨22, _⟩ => ⟨S1024x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .bf16⟩
  | .local _ .vmem, ⟨7, _⟩ => ⟨S1024x640, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WinRefIdeal.lean ====
abbrev S8192x1024 : Shape := ⟨2, ![8192, 1024]⟩
abbrev S1x1024 : Shape := ⟨2, ![1, 1024]⟩
abbrev S8192x2560 : Shape := ⟨2, ![8192, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2560x1024 : Shape := ⟨2, ![2560, 1024]⟩
abbrev S1024x2560 : Shape := ⟨2, ![1024, 2560]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2560, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2560, .f32⟩
  | .hbm, ⟨21, _⟩ => ⟨S2560x1024, .f32⟩
  | .hbm, ⟨22, _⟩ => ⟨S1024x2560, .f32⟩
  | .hbm, ⟨23, _⟩ => ⟨S1024x2560, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Wdown.lean ====
abbrev S8192x5632 : Shape := ⟨2, ![8192, 5632]⟩
abbrev S8192x1024 : Shape := ⟨2, ![8192, 1024]⟩
abbrev S8192x2816 : Shape := ⟨2, ![8192, 2816]⟩
abbrev S_ : Shape := ⟨0, ![]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 17
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .bf16⟩
  | .hbm, ⟨15, _⟩ => ⟨S2816x1024, .f32⟩
  | .hbm, ⟨16, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WdownRefIdeal.lean ====
abbrev S8192x5632 : Shape := ⟨2, ![8192, 5632]⟩
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S1024x2816, .f32⟩
  | .hbm, ⟨15, _⟩ => ⟨S2816x1024, .f32⟩
  | .hbm, ⟨16, _⟩ => ⟨S2816x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Wout.lean ====
abbrev S8192x512 : Shape := ⟨2, ![8192, 512]⟩
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S1024x1024, .f32⟩
  | .hbm, ⟨6, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== WoutRefIdeal.lean ====
abbrev S8192x512 : Shape := ⟨2, ![8192, 512]⟩
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mid.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1024x5632 : Shape := ⟨2, ![1024, 5632]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1024x5632, .f32⟩
  | .hbm, ⟨6, _⟩ => ⟨S8192x1024, .f32⟩
  | .hbm, ⟨7, _⟩ => ⟨S8192x1024, .bf16⟩
  | .hbm, ⟨8, _⟩ => ⟨S1024x1024, .bf16⟩
  | .hbm, ⟨9, _⟩ => ⟨S1024x5632, .bf16⟩
  | .hbm, ⟨10, _⟩ => ⟨S8192x1024, .f32⟩
  | .hbm, ⟨11, _⟩ => ⟨S8192x1024, .bf16⟩
  | .hbm, ⟨12, _⟩ => ⟨S8192x5632, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x5632, .f32⟩
  | .local _ .vmem, ⟨12, _⟩ => ⟨S512x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MidRefIdeal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1024x5632, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S8192x512 : Shape := ⟨2, ![8192, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S512x1024 : Shape := ⟨2, ![512, 1024]⟩

abbrev nBuf : Space → Nat
  | .hbm => 31
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x512, .f32⟩
  | .hbm, ⟨3, _⟩ => ⟨S1024x1024, .bf16⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S1x512, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S512x512, .bf16⟩
  | .hbm, ⟨29, _⟩ => ⟨S8192x1024, .f32⟩
  | .hbm, ⟨30, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S8192x1024 : Shape := ⟨2, ![8192, 1024]⟩
abbrev S1024x1024 : Shape := ⟨2, ![1024, 1024]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x512, .f32⟩
  | .hbm, ⟨3, _⟩ => ⟨S8192x1024, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x8x64, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S8192x8x64, .f32⟩
  | .hbm, ⟨12, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S1024x2560 : Shape := ⟨2, ![1024, 2560]⟩
abbrev S64 : Shape := ⟨1, ![64]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S8192x2560 : Shape := ⟨2, ![8192, 2560]⟩
abbrev S8192x512 : Shape := ⟨2, ![8192, 512]⟩
abbrev S512x1024 : Shape := ⟨2, ![512, 1024]⟩
abbrev S512x2560 : Shape := ⟨2, ![512, 2560]⟩
abbrev S1024x640 : Shape := ⟨2, ![1024, 640]⟩
abbrev S512x640 : Shape := ⟨2, ![512, 640]⟩

abbrev nBuf : Space → Nat
  | .hbm => 63
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S1x512, .f32⟩
  | .hbm, ⟨34, _⟩ => ⟨S1024x2560, .bf16⟩
  | .hbm, ⟨35, _⟩ => ⟨S512, .i32⟩
  | .hbm, ⟨36, _⟩ => ⟨S_, .i32⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S512, .i1⟩
  | .hbm, ⟨50, _⟩ => ⟨S_, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S512x1, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S512x512, .bf16⟩
  | .hbm, ⟨60, _⟩ => ⟨S8192x2560, .f32⟩
  | .hbm, ⟨61, _⟩ => ⟨S8192x512, .f32⟩
  | .hbm, ⟨62, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1024x2560, .bf16⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S512x2560, .f32⟩
  | .local _ .vmem, ⟨7, _⟩ => ⟨S512x2560, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v34_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S8192x1024 : Shape := ⟨2, ![8192, 1024]⟩
abbrev S1x1024 : Shape := ⟨2, ![1, 1024]⟩
abbrev S1024x2560 : Shape := ⟨2, ![1024, 2560]⟩
abbrev S64 : Shape := ⟨1, ![64]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x512 : Shape := ⟨2, ![8192, 512]⟩
abbrev S8192x8x64 : Shape := ⟨3, ![8192, 8, 64]⟩
abbrev S8192x8 : Shape := ⟨2, ![8192, 8]⟩
abbrev S8192x8x1 : Shape := ⟨3, ![8192, 8, 1]⟩
abbrev S1x1x64 : Shape := ⟨3, ![1, 1, 64]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2560, .f32⟩
  | .hbm, ⟨23, _⟩ => ⟨S8192x512, .f32⟩
  | .hbm, ⟨24, _⟩ => ⟨S8192x512, .f32⟩
  | .hbm, ⟨25, _⟩ => ⟨S8192x8x64, .f32⟩
  | .hbm, ⟨26, _⟩ => ⟨S8192x8x64, .f32⟩
  | .hbm, ⟨27, _⟩ => ⟨S_, .f32⟩
  | .hbm, ⟨28, _⟩ => ⟨S8192x8, .f32⟩
  | .hbm, ⟨29, _⟩ => ⟨S8192x8x1, .f32⟩
  | .hbm, ⟨30, _⟩ => ⟨S_, .f32⟩
  | .hbm, ⟨31, _⟩ => ⟨S8192x8x1, .f32⟩
  | .hbm, ⟨32, _⟩ => ⟨S8192x8x1, .f32⟩
  | .hbm, ⟨33, _⟩ => ⟨S_, .f32⟩
  | .hbm, ⟨34, _⟩ => ⟨S8192x8x1, .f32⟩
  | .hbm, ⟨35, _⟩ => ⟨S8192x8x1, .f32⟩
  | .hbm, ⟨36, _⟩ => ⟨S8192x8x1, .f32⟩
  | .hbm, ⟨37, _⟩ => ⟨S8192x8x64, .f32⟩
  | .hbm, ⟨38, _⟩ => ⟨S8192x8x64, .f32⟩
  | .hbm, ⟨39, _⟩ => ⟨S1x1x64, .f32⟩
  | .hbm, ⟨40, _⟩ => ⟨S8192x8x64, .f32⟩
  | .hbm, ⟨41, _⟩ => ⟨S8192x8x64, .f32⟩
  | .hbm, ⟨42, _⟩ => ⟨S_, .f32⟩
  | .hbm, ⟨43, _⟩ => ⟨S8192x8x64, .f32⟩
  | .hbm, ⟨44, _⟩ => ⟨S8192x8x64, .f32⟩
  | .hbm, ⟨45, _⟩ => ⟨S8192x8x64, .f32⟩
  | .hbm, ⟨46, _⟩ => ⟨S8192x8x64, .f32⟩
  | .hbm, ⟨47, _⟩ => ⟨S_, .f32⟩
  | .hbm, ⟨48, _⟩ => ⟨S8192x8, .f32⟩
  | .hbm, ⟨49, _⟩ => ⟨S8192x8x1, .f32⟩
  | .hbm, ⟨50, _⟩ => ⟨S_, .f32⟩
  | .hbm, ⟨51, _⟩ => ⟨S8192x8x1, .f32⟩
  | .hbm, ⟨52, _⟩ => ⟨S8192x8x1, .f32⟩
  | .hbm, ⟨53, _⟩ => ⟨S_, .f32⟩
  | .hbm, ⟨54, _⟩ => ⟨S8192x8x1, .f32⟩
  | .hbm, ⟨55, _⟩ => ⟨S8192x8x1, .f32⟩
  | .hbm, ⟨56, _⟩ => ⟨S8192x8x1, .f32⟩
  | .hbm, ⟨57, _⟩ => ⟨S8192x8x64, .f32⟩
  | .hbm, ⟨58, _⟩ => ⟨S8192x8x64, .f32⟩
  | .hbm, ⟨59, _⟩ => ⟨S1x1x64, .f32⟩
  | .hbm, ⟨60, _⟩ => ⟨S8192x8x64, .f32⟩
  | .hbm, ⟨61, _⟩ => ⟨S8192x8x64, .f32⟩
  | .hbm, ⟨62, _⟩ => ⟨S8192x512, .f32⟩
  | .hbm, ⟨63, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Qb.lean ====
abbrev S8192x512 : Shape := ⟨2, ![8192, 512]⟩
abbrev S8192x2560 : Shape := ⟨2, ![8192, 2560]⟩
abbrev S1x512 : Shape := ⟨2, ![1, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S8x64 : Shape := ⟨2, ![8, 64]⟩
abbrev S64 : Shape := ⟨1, ![64]⟩

abbrev nBuf : Space → Nat
  | .hbm => 37
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x2560, .f32⟩
  | .hbm, ⟨2, _⟩ => ⟨S1x512, .f32⟩
  | .hbm, ⟨3, _⟩ => ⟨S8192x2560, .bf16⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S1x512, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S512x512, .bf16⟩
  | .hbm, ⟨29, _⟩ => ⟨S8192x2560, .bf16⟩
  | .hbm, ⟨30, _⟩ => ⟨S1x512, .f32⟩
  | .hbm, ⟨31, _⟩ => ⟨S8x64, .f32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8_0 : Ref sig .tc := ⟨.hbm, 29, rfl⟩
abbrev main_v8_1 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== QbRefIdeal.lean ====
abbrev S8192x512 : Shape := ⟨2, ![8192, 512]⟩
abbrev S8192x2560 : Shape := ⟨2, ![8192, 2560]⟩
abbrev S1x512 : Shape := ⟨2, ![1, 512]⟩
abbrev S8192x8x64 : Shape := ⟨3, ![8192, 8, 64]⟩
abbrev S8x64 : Shape := ⟨2, ![8, 64]⟩
abbrev S_ : Shape := ⟨0, ![]⟩
abbrev S8192x8 : Shape := ⟨2, ![8192, 8]⟩
abbrev S8192x8x1 : Shape := ⟨3, ![8192, 8, 1]⟩
abbrev S1x8x64 : Shape := ⟨3, ![1, 8, 64]⟩
abbrev S8192x1024 : Shape := ⟨2, ![8192, 1024]⟩
abbrev S512 : Shape := ⟨1, ![512]⟩
abbrev S64 : Shape := ⟨1, ![64]⟩

abbrev nBuf : Space → Nat
  | .hbm => 67
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2560, .f32⟩
  | .hbm, ⟨2, _⟩ => ⟨S1x512, .f32⟩
  | .hbm, ⟨3, _⟩ => ⟨S8192x2560, .bf16⟩
  | .hbm, ⟨4, _⟩ => ⟨S8192x512, .f32⟩
  | .hbm, ⟨5, _⟩ => ⟨S8192x8x64, .f32⟩
  | .hbm, ⟨6, _⟩ => ⟨S8x64, .f32⟩
  | .hbm, ⟨7, _⟩ => ⟨S8192x8x64, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x64, .f32⟩
  | .hbm, ⟨23, _⟩ => ⟨S8192x8x64, .f32⟩
  | .hbm, ⟨24, _⟩ => ⟨S1x8x64, .f32⟩
  | .hbm, ⟨25, _⟩ => ⟨S8192x8x64, .f32⟩
  | .hbm, ⟨26, _⟩ => ⟨S8192x8x64, .f32⟩
  | .hbm, ⟨27, _⟩ => ⟨S8192x512, .f32⟩
  | .hbm, ⟨28, _⟩ => ⟨S8192x8x64, .f32⟩
  | .hbm, ⟨29, _⟩ => ⟨S8192x8x64, .f32⟩
  | .hbm, ⟨30, _⟩ => ⟨S_, .f32⟩
  | .hbm, ⟨31, _⟩ => ⟨S8x64, .f32⟩
  | .hbm, ⟨32, _⟩ => ⟨S1x8x64, .f32⟩
  | .hbm, ⟨33, _⟩ => ⟨S8192x8x64, .f32⟩
  | .hbm, ⟨34, _⟩ => ⟨S8192x8x64, .f32⟩
  | .hbm, ⟨35, _⟩ => ⟨S_, .f32⟩
  | .hbm, ⟨36, _⟩ => ⟨S8x64, .f32⟩
  | .hbm, ⟨37, _⟩ => ⟨S8192x8x64, .f32⟩
  | .hbm, ⟨38, _⟩ => ⟨S_, .f32⟩
  | .hbm, ⟨39, _⟩ => ⟨S8192x8, .f32⟩
  | .hbm, ⟨40, _⟩ => ⟨S8192x8x1, .f32⟩
  | .hbm, ⟨41, _⟩ => ⟨S8192x8x64, .f32⟩
  | .hbm, ⟨42, _⟩ => ⟨S8192x8x64, .f32⟩
  | .hbm, ⟨43, _⟩ => ⟨S8192x8x1, .f32⟩
  | .hbm, ⟨44, _⟩ => ⟨S_, .f32⟩
  | .hbm, ⟨45, _⟩ => ⟨S8192x8x1, .f32⟩
  | .hbm, ⟨46, _⟩ => ⟨S8192x8x1, .f32⟩
  | .hbm, ⟨47, _⟩ => ⟨S_, .f32⟩
  | .hbm, ⟨48, _⟩ => ⟨S8192x8, .f32⟩
  | .hbm, ⟨49, _⟩ => ⟨S8192x8x64, .f32⟩
  | .hbm, ⟨50, _⟩ => ⟨S8192x8x64, .f32⟩
  | .hbm, ⟨51, _⟩ => ⟨S8192x8x64, .f32⟩
  | .hbm, ⟨52, _⟩ => ⟨S8192x8x64, .f32⟩
  | .hbm, ⟨53, _⟩ => ⟨S8192x8x64, .f32⟩
  | .hbm, ⟨54, _⟩ => ⟨S1x512, .f32⟩
  | .hbm, ⟨55, _⟩ => ⟨S8192x512, .f32⟩
  | .hbm, ⟨56, _⟩ => ⟨S8192x1024, .bf16⟩
  | .hbm, ⟨57, _⟩ => ⟨S8192x512, .bf16⟩
  | .hbm, ⟨58, _⟩ => ⟨S8192x1024, .bf16⟩
  | .hbm, ⟨59, _⟩ => ⟨S8192x2560, .bf16⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S8x64, .f32⟩
  | .hbm, ⟨65, _⟩ => ⟨S_, .f32⟩
  | .hbm, ⟨66, _⟩ => ⟨S64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kb.lean ====
abbrev S8192x512 : Shape := ⟨2, ![8192, 512]⟩
abbrev S8192x2560 : Shape := ⟨2, ![8192, 2560]⟩
abbrev S1x512 : Shape := ⟨2, ![1, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S8x64 : Shape := ⟨2, ![8, 64]⟩
abbrev S64 : Shape := ⟨1, ![64]⟩

abbrev nBuf : Space → Nat
  | .hbm => 34
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x2560, .f32⟩
  | .hbm, ⟨2, _⟩ => ⟨S1x512, .f32⟩
  | .hbm, ⟨3, _⟩ => ⟨S8192x2560, .bf16⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S1x512, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S512x512, .bf16⟩
  | .hbm, ⟨29, _⟩ => ⟨S8192x2560, .bf16⟩
  | .hbm, ⟨30, _⟩ => ⟨S1x512, .f32⟩
  | .hbm, ⟨31, _⟩ => ⟨S8x64, .f32⟩
  | .hbm, ⟨32, _⟩ => ⟨S_, .f32⟩
  | .hbm, ⟨33, _⟩ => ⟨S64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8_0 : Ref sig .tc := ⟨.hbm, 29, rfl⟩
abbrev main_v8_1 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KbRefIdeal.lean ====
abbrev S8192x512 : Shape := ⟨2, ![8192, 512]⟩
abbrev S8192x2560 : Shape := ⟨2, ![8192, 2560]⟩
abbrev S1x512 : Shape := ⟨2, ![1, 512]⟩
abbrev S8192x8x64 : Shape := ⟨3, ![8192, 8, 64]⟩
abbrev S8x64 : Shape := ⟨2, ![8, 64]⟩
abbrev S_ : Shape := ⟨0, ![]⟩
abbrev S8192x8 : Shape := ⟨2, ![8192, 8]⟩
abbrev S8192x8x1 : Shape := ⟨3, ![8192, 8, 1]⟩
abbrev S1x8x64 : Shape := ⟨3, ![1, 8, 64]⟩
abbrev S8192x1536 : Shape := ⟨2, ![8192, 1536]⟩
abbrev S512 : Shape := ⟨1, ![512]⟩
abbrev S64 : Shape := ⟨1, ![64]⟩

abbrev nBuf : Space → Nat
  | .hbm => 64
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2560, .f32⟩
  | .hbm, ⟨2, _⟩ => ⟨S1x512, .f32⟩
  | .hbm, ⟨3, _⟩ => ⟨S8192x2560, .bf16⟩
  | .hbm, ⟨4, _⟩ => ⟨S8192x512, .f32⟩
  | .hbm, ⟨5, _⟩ => ⟨S8192x8x64, .f32⟩
  | .hbm, ⟨6, _⟩ => ⟨S8x64, .f32⟩
  | .hbm, ⟨7, _⟩ => ⟨S8192x8x64, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x64, .f32⟩
  | .hbm, ⟨23, _⟩ => ⟨S8192x8x64, .f32⟩
  | .hbm, ⟨24, _⟩ => ⟨S1x8x64, .f32⟩
  | .hbm, ⟨25, _⟩ => ⟨S8192x8x64, .f32⟩
  | .hbm, ⟨26, _⟩ => ⟨S8192x8x64, .f32⟩
  | .hbm, ⟨27, _⟩ => ⟨S8192x512, .f32⟩
  | .hbm, ⟨28, _⟩ => ⟨S8192x8x64, .f32⟩
  | .hbm, ⟨29, _⟩ => ⟨S8192x8x64, .f32⟩
  | .hbm, ⟨30, _⟩ => ⟨S_, .f32⟩
  | .hbm, ⟨31, _⟩ => ⟨S8x64, .f32⟩
  | .hbm, ⟨32, _⟩ => ⟨S1x8x64, .f32⟩
  | .hbm, ⟨33, _⟩ => ⟨S8192x8x64, .f32⟩
  | .hbm, ⟨34, _⟩ => ⟨S8192x8x64, .f32⟩
  | .hbm, ⟨35, _⟩ => ⟨S_, .f32⟩
  | .hbm, ⟨36, _⟩ => ⟨S8x64, .f32⟩
  | .hbm, ⟨37, _⟩ => ⟨S8192x8x64, .f32⟩
  | .hbm, ⟨38, _⟩ => ⟨S_, .f32⟩
  | .hbm, ⟨39, _⟩ => ⟨S8192x8, .f32⟩
  | .hbm, ⟨40, _⟩ => ⟨S8192x8x1, .f32⟩
  | .hbm, ⟨41, _⟩ => ⟨S8192x8x64, .f32⟩
  | .hbm, ⟨42, _⟩ => ⟨S8192x8x64, .f32⟩
  | .hbm, ⟨43, _⟩ => ⟨S8192x8x1, .f32⟩
  | .hbm, ⟨44, _⟩ => ⟨S_, .f32⟩
  | .hbm, ⟨45, _⟩ => ⟨S8192x8x1, .f32⟩
  | .hbm, ⟨46, _⟩ => ⟨S8192x8x1, .f32⟩
  | .hbm, ⟨47, _⟩ => ⟨S_, .f32⟩
  | .hbm, ⟨48, _⟩ => ⟨S8192x8, .f32⟩
  | .hbm, ⟨49, _⟩ => ⟨S8192x8x64, .f32⟩
  | .hbm, ⟨50, _⟩ => ⟨S8192x8x64, .f32⟩
  | .hbm, ⟨51, _⟩ => ⟨S8192x8x64, .f32⟩
  | .hbm, ⟨52, _⟩ => ⟨S8192x8x64, .f32⟩
  | .hbm, ⟨53, _⟩ => ⟨S8192x8x64, .f32⟩
  | .hbm, ⟨54, _⟩ => ⟨S1x512, .f32⟩
  | .hbm, ⟨55, _⟩ => ⟨S8192x512, .f32⟩
  | .hbm, ⟨56, _⟩ => ⟨S8192x1536, .bf16⟩
  | .hbm, ⟨57, _⟩ => ⟨S8192x512, .bf16⟩
  | .hbm, ⟨58, _⟩ => ⟨S8192x512, .bf16⟩
  | .hbm, ⟨59, _⟩ => ⟨S8192x2560, .bf16⟩
  | .hbm, ⟨60, _⟩ => ⟨S512, .f32⟩
  | .hbm, ⟨61, _⟩ => ⟨S8x64, .f32⟩
  | .hbm, ⟨62, _⟩ => ⟨S_, .f32⟩
  | .hbm, ⟨63, _⟩ => ⟨S64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Vb.lean ====
abbrev S8192x512 : Shape := ⟨2, ![8192, 512]⟩
abbrev S8192x2560 : Shape := ⟨2, ![8192, 2560]⟩
abbrev S512x512 : Shape := ⟨2, ![512, 512]⟩

abbrev nBuf : Space → Nat
  | .hbm => 3
  | .vmem => 4
  | .smem => 0
  | _ => 0

abbrev bufTy : (tb : Table) → Fin (tcTables nBuf tb) → BufTy
  | .hbm, ⟨0, _⟩ => ⟨S8192x512, .f32⟩
  | .hbm, ⟨1, _⟩ => ⟨S8192x2560, .bf16⟩
  | .hbm, ⟨2, _⟩ => ⟨S8192x2560, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== VbRefIdeal.lean ====
abbrev S8192x512 : Shape := ⟨2, ![8192, 512]⟩
abbrev S8192x2560 : Shape := ⟨2, ![8192, 2560]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2560, .bf16⟩
  | .hbm, ⟨2, _⟩ => ⟨S8192x2048, .bf16⟩
  | .hbm, ⟨3, _⟩ => ⟨S8192x512, .bf16⟩
  | .hbm, ⟨4, _⟩ => ⟨S8192x2560, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== First.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== AdamIn.lean ====
abbrev S1024x640 : Shape := ⟨2, ![1024, 640]⟩
abbrev S256x640 : Shape := ⟨2, ![256, 640]⟩

abbrev nBuf : Space → Nat
  | .hbm => 9
  | .vmem => 18
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S256x640, .f32⟩
  | .local _ .vmem, ⟨17, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1024x640 : Shape := ⟨2, ![1024, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S_, .f32⟩
  | .hbm, ⟨11, _⟩ => ⟨S1024x640, .f32⟩
  | .hbm, ⟨12, _⟩ => ⟨S1024x640, .f32⟩
  | .hbm, ⟨13, _⟩ => ⟨S1024x640, .f32⟩
  | .hbm, ⟨14, _⟩ => ⟨S_, .f32⟩
  | .hbm, ⟨15, _⟩ => ⟨S1024x640, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S1024x1408 : Shape := ⟨2, ![1024, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S_, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S_, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S_, .f32⟩
  | .hbm, ⟨19, _⟩ => ⟨S1024x1408, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S_, .f32⟩
  | .hbm, ⟨26, _⟩ => ⟨S1024x1408, .f32⟩
  | .hbm, ⟨27, _⟩ => ⟨S1024x1408, .f32⟩
  | .hbm, ⟨28, _⟩ => ⟨S1024x1408, .f32⟩
  | .hbm, ⟨29, _⟩ => ⟨S_, .f32⟩
  | .hbm, ⟨30, _⟩ => ⟨S1024x1408, .f32⟩
  | .hbm, ⟨31, _⟩ => ⟨S1024x1408, .f32⟩
  | .hbm, ⟨32, _⟩ => ⟨S1024x1408, .f32⟩
  | .hbm, ⟨33, _⟩ => ⟨S_, .f32⟩
  | .hbm, ⟨34, _⟩ => ⟨S1024x1408, .f32⟩
  | .hbm, ⟨35, _⟩ => ⟨S1024x1408, .f32⟩
  | .hbm, ⟨36, _⟩ => ⟨S1024x1408, .f32⟩
  | .hbm, ⟨37, _⟩ => ⟨S_, .f32⟩
  | .hbm, ⟨38, _⟩ => ⟨S1024x1408, .f32⟩
  | .hbm, ⟨39, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S704x1024 : Shape := ⟨2, ![704, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Small.lean ====
abbrev S24x1024 : Shape := ⟨2, ![24, 1024]⟩

abbrev nBuf : Space → Nat
  | .hbm => 7
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== SmallRefIdeal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Vec.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .local _ .vmem, ⟨0, _⟩ => ⟨S8x48x1024, .f32⟩
  | .local _ .vmem, ⟨1, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== VecRefIdeal.lean ====
abbrev S8x48x1024 : Shape := ⟨3, ![8, 48, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Sums.lean ====
abbrev S8x1024 : Shape := ⟨2, ![8, 1024]⟩
abbrev S8x512 : Shape := ⟨2, ![8, 512]⟩
abbrev S8x64 : Shape := ⟨2, ![8, 64]⟩
abbrev S8x5632 : Shape := ⟨2, ![8, 5632]⟩
abbrev S8x31x512 : Shape := ⟨3, ![8, 31, 512]⟩
abbrev S8x3x5632 : Shape := ⟨3, ![8, 3, 5632]⟩
abbrev S8x1 : Shape := ⟨2, ![8, 1]⟩
abbrev S8x15872 : Shape := ⟨2, ![8, 15872]⟩
abbrev S8x16896 : Shape := ⟨2, ![8, 16896]⟩
abbrev S8x42113 : Shape := ⟨2, ![8, 42113]⟩
abbrev S_ : Shape := ⟨0, ![]⟩
abbrev S8x49152 : Shape := ⟨2, ![8, 49152]⟩
abbrev S8x48x1024 : Shape := ⟨3, ![8, 48, 1024]⟩
abbrev S48x1024 : Shape := ⟨2, ![48, 1024]⟩
abbrev S1x48x1024 : Shape := ⟨3, ![1, 48, 1024]⟩
abbrev S49152 : Shape := ⟨1, ![49152]⟩
abbrev S1024 : Shape := ⟨1, ![1024]⟩
abbrev S512 : Shape := ⟨1, ![512]⟩
abbrev S64 : Shape := ⟨1, ![64]⟩
abbrev S5632 : Shape := ⟨1, ![5632]⟩
abbrev S15872 : Shape := ⟨1, ![15872]⟩
abbrev S31x512 : Shape := ⟨2, ![31, 512]⟩
abbrev S16896 : Shape := ⟨1, ![16896]⟩
abbrev S3x5632 : Shape := ⟨2, ![3, 5632]⟩
abbrev S1 : Shape := ⟨1, ![1]⟩

abbrev nBuf : Space → Nat
  | .hbm => 33
  | .vmem => 2
  | .smem => 0
  | _ => 0

abbrev bufTy : (tb : Table) → Fin (tcTables nBuf tb) → BufTy
  | .hbm, ⟨0, _⟩ => ⟨S8x1024, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S8x64, .f32⟩
  | .hbm, ⟨5, _⟩ => ⟨S8x64, .f32⟩
  | .hbm, ⟨6, _⟩ => ⟨S8x1024, .f32⟩
  | .hbm, ⟨7, _⟩ => ⟨S8x5632, .f32⟩
  | .hbm, ⟨8, _⟩ => ⟨S8x31x512, .f32⟩
  | .hbm, ⟨9, _⟩ => ⟨S8x3x5632, .f32⟩
  | .hbm, ⟨10, _⟩ => ⟨S8x1, .f32⟩
  | .hbm, ⟨11, _⟩ => ⟨S8x15872, .f32⟩
  | .hbm, ⟨12, _⟩ => ⟨S8x16896, .f32⟩
  | .hbm, ⟨13, _⟩ => ⟨S8x42113, .f32⟩
  | .hbm, ⟨14, _⟩ => ⟨S_, .i32⟩
  | .hbm, ⟨15, _⟩ => ⟨S_, .f32⟩
  | .hbm, ⟨16, _⟩ => ⟨S8x49152, .f32⟩
  | .hbm, ⟨17, _⟩ => ⟨S8x48x1024, .f32⟩
  | .hbm, ⟨18, _⟩ => ⟨S48x1024, .f32⟩
  | .hbm, ⟨19, _⟩ => ⟨S49152, .f32⟩
  | .hbm, ⟨20, _⟩ => ⟨S1024, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S64, .f32⟩
  | .hbm, ⟨25, _⟩ => ⟨S64, .f32⟩
  | .hbm, ⟨26, _⟩ => ⟨S1024, .f32⟩
  | .hbm, ⟨27, _⟩ => ⟨S5632, .f32⟩
  | .hbm, ⟨28, _⟩ => ⟨S15872, .f32⟩
  | .hbm, ⟨29, _⟩ => ⟨S31x512, .f32⟩
  | .hbm, ⟨30, _⟩ => ⟨S16896, .f32⟩
  | .hbm, ⟨31, _⟩ => ⟨S3x5632, .f32⟩
  | .hbm, ⟨32, _⟩ => ⟨S1, .f32⟩
  | .local _ .vmem, ⟨0, _⟩ => ⟨S8x48x1024, .f32⟩
  | .local _ .vmem, ⟨1, _⟩ => ⟨S48x1024, .f32⟩
  | _, _ => ⟨S8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumsRefIdeal.lean ====
abbrev S8x1024 : Shape := ⟨2, ![8, 1024]⟩
abbrev S8x512 : Shape := ⟨2, ![8, 512]⟩
abbrev S8x64 : Shape := ⟨2, ![8, 64]⟩
abbrev S8x5632 : Shape := ⟨2, ![8, 5632]⟩
abbrev S8x31x512 : Shape := ⟨3, ![8, 31, 512]⟩
abbrev S8x3x5632 : Shape := ⟨3, ![8, 3, 5632]⟩
abbrev S8x1 : Shape := ⟨2, ![8, 1]⟩
abbrev S_ : Shape := ⟨0, ![]⟩
abbrev S1024 : Shape := ⟨1, ![1024]⟩
abbrev S512 : Shape := ⟨1, ![512]⟩
abbrev S64 : Shape := ⟨1, ![64]⟩
abbrev S5632 : Shape := ⟨1, ![5632]⟩
abbrev S31x512 : Shape := ⟨2, ![31, 512]⟩
abbrev S3x5632 : Shape := ⟨2, ![3, 5632]⟩
abbrev S1 : Shape := ⟨1, ![1]⟩

abbrev nBuf : Space → Nat
  | .hbm => 33
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S8x64, .f32⟩
  | .hbm, ⟨5, _⟩ => ⟨S8x64, .f32⟩
  | .hbm, ⟨6, _⟩ => ⟨S8x1024, .f32⟩
  | .hbm, ⟨7, _⟩ => ⟨S8x5632, .f32⟩
  | .hbm, ⟨8, _⟩ => ⟨S8x31x512, .f32⟩
  | .hbm, ⟨9, _⟩ => ⟨S8x3x5632, .f32⟩
  | .hbm, ⟨10, _⟩ => ⟨S8x1, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S5632, .f32⟩
  | .hbm, ⟨27, _⟩ => ⟨S_, .f32⟩
  | .hbm, ⟨28, _⟩ => ⟨S31x512, .f32⟩
  | .hbm, ⟨29, _⟩ => ⟨S_, .f32⟩
  | .hbm, ⟨30, _⟩ => ⟨S3x5632, .f32⟩
  | .hbm, ⟨31, _⟩ => ⟨S_, .f32⟩
  | .hbm, ⟨32, _⟩ => ⟨S1, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_cst_3 : Ref sig .tc := ⟨.hbm, 19, rfl⟩
abbrev main_v4 : Ref sig .tc := ⟨.hbm, 20, rfl⟩
abbrev main_cst_4 : Ref sig .tc := ⟨.hbm, 21, rfl⟩
abbrev main_v5 : Ref sig .tc := ⟨.hbm, 22, rfl⟩
abbrev main_cst_5 : Ref sig .tc := ⟨.hbm, 23, rfl⟩
abbrev main_v6 : Ref sig .tc := ⟨.hbm, 24, rfl⟩
abbrev main_cst_6 : Ref sig .tc := ⟨.hbm, 25, rfl⟩
abbrev main_v7 : Ref sig .tc := ⟨.hbm, 26, rfl⟩
abbrev main_cst_7 : Ref sig .tc := ⟨.hbm, 27, rfl⟩
abbrev main_v8 : Ref sig .tc := ⟨.hbm, 28, rfl⟩
abbrev main_cst_8 : Ref sig .tc := ⟨.hbm, 29, rfl⟩
abbrev main_v9 : Ref sig .tc := ⟨.hbm, 30, rfl⟩
abbrev main_cst_9 : Ref sig .tc := ⟨.hbm, 31, rfl⟩
abbrev main_v10 : Ref sig .tc := ⟨.hbm, 32, rfl⟩

abbrev nD : Nat := 1
abbrev τ : Topo := Topo.v7x

variable {F : FTy → Type} [FloatOps F]
-- ==== Steps.lean ====
abbrev S1024 : Shape := ⟨1, ![1024]⟩
abbrev S512 : Shape := ⟨1, ![512]⟩
abbrev S64 : Shape := ⟨1, ![64]⟩
abbrev S5632 : Shape := ⟨1, ![5632]⟩
abbrev S31x128 : Shape := ⟨2, ![31, 128]⟩
abbrev S3x1408 : Shape := ⟨2, ![3, 1408]⟩
abbrev S3968 : Shape := ⟨1, ![3968]⟩
abbrev S4224 : Shape := ⟨1, ![4224]⟩
abbrev S17536 : Shape := ⟨1, ![17536]⟩
abbrev S_ : Shape := ⟨0, ![]⟩
abbrev S24576 : Shape := ⟨1, ![24576]⟩
abbrev S24x1024 : Shape := ⟨2, ![24, 1024]⟩

abbrev nBuf : Space → Nat
  | .hbm => 110
  | .vmem => 7
  | .smem => 0
  | _ => 0

abbrev bufTy : (tb : Table) → Fin (tcTables nBuf tb) → BufTy
  | .hbm, ⟨0, _⟩ => ⟨S1024, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S64, .f32⟩
  | .hbm, ⟨5, _⟩ => ⟨S64, .f32⟩
  | .hbm, ⟨6, _⟩ => ⟨S1024, .f32⟩
  | .hbm, ⟨7, _⟩ => ⟨S5632, .f32⟩
  | .hbm, ⟨8, _⟩ => ⟨S31x128, .f32⟩
  | .hbm, ⟨9, _⟩ => ⟨S3x1408, .f32⟩
  | .hbm, ⟨10, _⟩ => ⟨S1024, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S64, .f32⟩
  | .hbm, ⟨15, _⟩ => ⟨S64, .f32⟩
  | .hbm, ⟨16, _⟩ => ⟨S1024, .f32⟩
  | .hbm, ⟨17, _⟩ => ⟨S5632, .f32⟩
  | .hbm, ⟨18, _⟩ => ⟨S31x128, .f32⟩
  | .hbm, ⟨19, _⟩ => ⟨S3x1408, .f32⟩
  | .hbm, ⟨20, _⟩ => ⟨S1024, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S64, .f32⟩
  | .hbm, ⟨25, _⟩ => ⟨S64, .f32⟩
  | .hbm, ⟨26, _⟩ => ⟨S1024, .f32⟩
  | .hbm, ⟨27, _⟩ => ⟨S5632, .f32⟩
  | .hbm, ⟨28, _⟩ => ⟨S31x128, .f32⟩
  | .hbm, ⟨29, _⟩ => ⟨S3x1408, .f32⟩
  | .hbm, ⟨30, _⟩ => ⟨S1024, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S64, .f32⟩
  | .hbm, ⟨35, _⟩ => ⟨S64, .f32⟩
  | .hbm, ⟨36, _⟩ => ⟨S1024, .f32⟩
  | .hbm, ⟨37, _⟩ => ⟨S5632, .f32⟩
  | .hbm, ⟨38, _⟩ => ⟨S31x128, .f32⟩
  | .hbm, ⟨39, _⟩ => ⟨S3x1408, .f32⟩
  | .hbm, ⟨40, _⟩ => ⟨S3968, .f32⟩
  | .hbm, ⟨41, _⟩ => ⟨S4224, .f32⟩
  | .hbm, ⟨42, _⟩ => ⟨S17536, .f32⟩
  | .hbm, ⟨43, _⟩ => ⟨S_, .i32⟩
  | .hbm, ⟨44, _⟩ => ⟨S_, .f32⟩
  | .hbm, ⟨45, _⟩ => ⟨S24576, .f32⟩
  | .hbm, ⟨46, _⟩ => ⟨S24x1024, .f32⟩
  | .hbm, ⟨47, _⟩ => ⟨S3968, .f32⟩
  | .hbm, ⟨48, _⟩ => ⟨S4224, .f32⟩
  | .hbm, ⟨49, _⟩ => ⟨S17536, .f32⟩
  | .hbm, ⟨50, _⟩ => ⟨S_, .i32⟩
  | .hbm, ⟨51, _⟩ => ⟨S_, .f32⟩
  | .hbm, ⟨52, _⟩ => ⟨S24576, .f32⟩
  | .hbm, ⟨53, _⟩ => ⟨S24x1024, .f32⟩
  | .hbm, ⟨54, _⟩ => ⟨S3968, .f32⟩
  | .hbm, ⟨55, _⟩ => ⟨S4224, .f32⟩
  | .hbm, ⟨56, _⟩ => ⟨S17536, .f32⟩
  | .hbm, ⟨57, _⟩ => ⟨S_, .i32⟩
  | .hbm, ⟨58, _⟩ => ⟨S_, .f32⟩
  | .hbm, ⟨59, _⟩ => ⟨S24576, .f32⟩
  | .hbm, ⟨60, _⟩ => ⟨S24x1024, .f32⟩
  | .hbm, ⟨61, _⟩ => ⟨S3968, .f32⟩
  | .hbm, ⟨62, _⟩ => ⟨S4224, .f32⟩
  | .hbm, ⟨63, _⟩ => ⟨S17536, .f32⟩
  | .hbm, ⟨64, _⟩ => ⟨S_, .i32⟩
  | .hbm, ⟨65, _⟩ => ⟨S_, .f32⟩
  | .hbm, ⟨66, _⟩ => ⟨S24576, .f32⟩
  | .hbm, ⟨67, _⟩ => ⟨S24x1024, .f32⟩
  | .hbm, ⟨68, _⟩ => ⟨S24x1024, .f32⟩
  | .hbm, ⟨69, _⟩ => ⟨S24x1024, .f32⟩
  | .hbm, ⟨70, _⟩ => ⟨S24x1024, .f32⟩
  | .hbm, ⟨71, _⟩ => ⟨S24576, .f32⟩
  | .hbm, ⟨72, _⟩ => ⟨S1024, .f32⟩
  | .hbm, ⟨73, _⟩ => ⟨S512, .f32⟩
  | .hbm, ⟨74, _⟩ => ⟨S512, .f32⟩
  | .hbm, ⟨75, _⟩ => ⟨S512, .f32⟩
  | .hbm, ⟨76, _⟩ => ⟨S64, .f32⟩
  | .hbm, ⟨77, _⟩ => ⟨S64, .f32⟩
  | .hbm, ⟨78, _⟩ => ⟨S1024, .f32⟩
  | .hbm, ⟨79, _⟩ => ⟨S5632, .f32⟩
  | .hbm, ⟨80, _⟩ => ⟨S3968, .f32⟩
  | .hbm, ⟨81, _⟩ => ⟨S31x128, .f32⟩
  | .hbm, ⟨82, _⟩ => ⟨S4224, .f32⟩
  | .hbm, ⟨83, _⟩ => ⟨S3x1408, .f32⟩
  | .hbm, ⟨84, _⟩ => ⟨S24576, .f32⟩
  | .hbm, ⟨85, _⟩ => ⟨S1024, .f32⟩
  | .hbm, ⟨86, _⟩ => ⟨S512, .f32⟩
  | .hbm, ⟨87, _⟩ => ⟨S512, .f32⟩
  | .hbm, ⟨88, _⟩ => ⟨S512, .f32⟩
  | .hbm, ⟨89, _⟩ => ⟨S64, .f32⟩
  | .hbm, ⟨90, _⟩ => ⟨S64, .f32⟩
  | .hbm, ⟨91, _⟩ => ⟨S1024, .f32⟩
  | .hbm, ⟨92, _⟩ => ⟨S5632, .f32⟩
  | .hbm, ⟨93, _⟩ => ⟨S3968, .f32⟩
  | .hbm, ⟨94, _⟩ => ⟨S31x128, .f32⟩
  | .hbm, ⟨95, _⟩ => ⟨S4224, .f32⟩
  | .hbm, ⟨96, _⟩ => ⟨S3x1408, .f32⟩
  | .hbm, ⟨97, _⟩ => ⟨S24576, .f32⟩
  | .hbm, ⟨98, _⟩ => ⟨S1024, .f32⟩
  | .hbm, ⟨99, _⟩ => ⟨S512, .f32⟩
  | .hbm, ⟨100, _⟩ => ⟨S512, .f32⟩
  | .hbm, ⟨101, _⟩ => ⟨S512, .f32⟩
  | .hbm, ⟨102, _⟩ => ⟨S64, .f32⟩
  | .hbm, ⟨103, _⟩ => ⟨S64, .f32⟩
  | .hbm, ⟨104, _⟩ => ⟨S1024, .f32⟩
  | .hbm, ⟨105, _⟩ => ⟨S5632, .f32⟩
  | .hbm, ⟨106, _⟩ => ⟨S3968, .f32⟩
  | .hbm, ⟨107, _⟩ => ⟨S31x128, .f32⟩
  | .hbm, ⟨108, _⟩ => ⟨S4224, .f32⟩
  | .hbm, ⟨109, _⟩ => ⟨S3x1408, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_c : Ref sig .tc := ⟨.hbm, 43, rfl⟩
abbrev main_call0_v0 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_c_0 : Ref sig .tc := ⟨.hbm, 50, rfl⟩
abbrev main_call1_v0 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_1 : Ref sig .tc := ⟨.hbm, 57, rfl⟩
abbrev main_call2_v0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_c_2 : Ref sig .tc := ⟨.hbm, 64, rfl⟩
abbrev main_call3_v0 : Ref sig .tc := ⟨.hbm, 65, rfl⟩
abbrev main_v18 : Ref sig .tc := ⟨.hbm, 66, rfl⟩
abbrev main_v19 : Ref sig .tc := ⟨.hbm, 67, rfl⟩
abbrev main_v20_0 : Ref sig .tc := ⟨.hbm, 68, rfl⟩
abbrev main_v20_1 : Ref sig .tc := ⟨.hbm, 69, rfl⟩
abbrev main_v20_2 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== StepsRefIdeal.lean ====
abbrev S1024 : Shape := ⟨1, ![1024]⟩
abbrev S512 : Shape := ⟨1, ![512]⟩
abbrev S64 : Shape := ⟨1, ![64]⟩
abbrev S5632 : Shape := ⟨1, ![5632]⟩
abbrev S31x128 : Shape := ⟨2, ![31, 128]⟩
abbrev S3x1408 : Shape := ⟨2, ![3, 1408]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S1024, .f32⟩
  | 1 => ⟨S512, .f32⟩
  | 2 => ⟨S512, .f32⟩
  | 3 => ⟨S512, .f32⟩
  | 4 => ⟨S64, .f32⟩
  | 5 => ⟨S64, .f32⟩
  | 6 => ⟨S1024, .f32⟩
  | 7 => ⟨S5632, .f32⟩
  | 8 => ⟨S31x128, .f32⟩
  | 9 => ⟨S3x1408, .f32⟩
  | 10 => ⟨S1024, .f32⟩
  | 11 => ⟨S512, .f32⟩
  | 12 => ⟨S512, .f32⟩
  | 13 => ⟨S512, .f32⟩
  | 14 => ⟨S64, .f32⟩
  | 15 => ⟨S64, .f32⟩
  | 16 => ⟨S1024, .f32⟩
  | 17 => ⟨S5632, .f32⟩
  | 18 => ⟨S31x128, .f32⟩
  | 19 => ⟨S3x1408, .f32⟩
  | 20 => ⟨S1024, .f32⟩
  | 21 => ⟨S512, .f32⟩
  | 22 => ⟨S512, .f32⟩
  | 23 => ⟨S512, .f32⟩
  | 24 => ⟨S64, .f32⟩
  | 25 => ⟨S64, .f32⟩
  | 26 => ⟨S1024, .f32⟩
  | 27 => ⟨S5632, .f32⟩
  | 28 => ⟨S31x128, .f32⟩
  | 29 => ⟨S3x1408, .f32⟩
  | 30 => ⟨S1024, .f32⟩
  | 31 => ⟨S512, .f32⟩
  | 32 => ⟨S512, .f32⟩
  | 33 => ⟨S512, .f32⟩
  | 34 => ⟨S64, .f32⟩
  | 35 => ⟨S64, .f32⟩
  | 36 => ⟨S1024, .f32⟩
  | 37 => ⟨S5632, .f32⟩
  | 38 => ⟨S31x128, .f32⟩
  | 39 => ⟨S3x1408, .f32⟩
  | 40 => ⟨S_, .f32⟩
  | 41 => ⟨S1024, .f32⟩
  | 42 => ⟨S1024, .f32⟩
  | 43 => ⟨S_, .f32⟩
  | 44 => ⟨S1024, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S_, .f32⟩
  | 74 => ⟨S512, .f32⟩
  | 75 => ⟨S512, .f32⟩
  | 76 => ⟨S_, .f32⟩
  | 77 => ⟨S512, .f32⟩
  | 78 => ⟨S512, .f32⟩
  | 79 => ⟨S512, .f32⟩
  | 80 => ⟨S_, .f32⟩
  | 81 => ⟨S512, .f32⟩
  | 82 => ⟨S512, .f32⟩
  | 83 => ⟨S512, .f32⟩
  | 84 => ⟨S_, .f32⟩
  | 85 => ⟨S512, .f32⟩
  | 86 => ⟨S512, .f32⟩
  | 87 => ⟨S512, .f32⟩
  | 88 => ⟨S_, .f32⟩
  | 89 => ⟨S512, .f32⟩
  | 90 => ⟨S512, .f32⟩
  | 91 => ⟨S_, .f32⟩
  | 92 => ⟨S512, .f32⟩
  | 93 => ⟨S512, .f32⟩
  | 94 => ⟨S512, .f32⟩
  | 95 => ⟨S_, .f32⟩
  | 96 => ⟨S512, .f32⟩
  | 97 => ⟨S512, .f32⟩
  | 98 => ⟨S512, .f32⟩
  | 99 => ⟨S_, .f32⟩
  | 100 => ⟨S512, .f32⟩
  | 101 => ⟨S512, .f32⟩
  | 102 => ⟨S512, .f32⟩
  | 103 => ⟨S_, .f32⟩
  | 104 => ⟨S512, .f32⟩
  | 105 => ⟨S512, .f32⟩
  | 106 => ⟨S_, .f32⟩
  | 107 => ⟨S512, .f32⟩
  | 108 => ⟨S512, .f32⟩
  | 109 => ⟨S_, .f32⟩
  | 110 => ⟨S512, .f32⟩
  | 111 => ⟨S512, .f32⟩
  | 112 => ⟨S512, .f32⟩
  | 113 => ⟨S_, .f32⟩
  | 114 => ⟨S512, .f32⟩
  | 115 => ⟨S512, .f32⟩
  | 116 => ⟨S512, .f32⟩
  | 117 => ⟨S_, .f32⟩
  | 118 => ⟨S512, .f32⟩
  | 119 => ⟨S512, .f32⟩
  | 120 => ⟨S512, .f32⟩
  | 121 => ⟨S_, .f32⟩
  | 122 => ⟨S512, .f32⟩
  | 123 => ⟨S512, .f32⟩
  | 124 => ⟨S_, .f32⟩
  | 125 => ⟨S512, .f32⟩
  | 126 => ⟨S512, .f32⟩
  | 127 => ⟨S512, .f32⟩
  | _ => ⟨S1024, .f32⟩

abbrev hbmTy0_1 (i : Nat) : BufTy := match i % 128 with
  | 0 => ⟨S_, .f32⟩
  | 1 => ⟨S512, .f32⟩
  | 2 => ⟨S512, .f32⟩
  | 3 => ⟨S512, .f32⟩
  | 4 => ⟨S_, .f32⟩
  | 5 => ⟨S512, .f32⟩
  | 6 => ⟨S512, .f32⟩
  | 7 => ⟨S512, .f32⟩
  | 8 => ⟨S_, .f32⟩
  | 9 => ⟨S512, .f32⟩
  | 10 => ⟨S512, .f32⟩
  | 11 => ⟨S_, .f32⟩
  | 12 => ⟨S512, .f32⟩
  | 13 => ⟨S512, .f32⟩
  | 14 => ⟨S_, .f32⟩
  | 15 => ⟨S512, .f32⟩
  | 16 => ⟨S512, .f32⟩
  | 17 => ⟨S512, .f32⟩
  | 18 => ⟨S_, .f32⟩
  | 19 => ⟨S512, .f32⟩
  | 20 => ⟨S512, .f32⟩
  | 21 => ⟨S512, .f32⟩
  | 22 => ⟨S_, .f32⟩
  | 23 => ⟨S512, .f32⟩
  | 24 => ⟨S512, .f32⟩
  | 25 => ⟨S512, .f32⟩
  | 26 => ⟨S_, .f32⟩
  | 27 => ⟨S512, .f32⟩
  | 28 => ⟨S512, .f32⟩
  | 29 => ⟨S_, .f32⟩
  | 30 => ⟨S512, .f32⟩
  | 31 => ⟨S512, .f32⟩
  | 32 => ⟨S512, .f32⟩
  | 33 => ⟨S_, .f32⟩
  | 34 => ⟨S512, .f32⟩
  | 35 => ⟨S512, .f32⟩
  | 36 => ⟨S512, .f32⟩
  | 37 => ⟨S_, .f32⟩
  | 38 => ⟨S512, .f32⟩
  | 39 => ⟨S512, .f32⟩
  | 40 => ⟨S512, .f32⟩
  | 41 => ⟨S_, .f32⟩
  | 42 => ⟨S512, .f32⟩
  | 43 => ⟨S512, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S64, .f32⟩
  | 51 => ⟨S_, .f32⟩
  | 52 => ⟨S64, .f32⟩
  | 53 => ⟨S64, .f32⟩
  | 54 => ⟨S64, .f32⟩
  | 55 => ⟨S_, .f32⟩
  | 56 => ⟨S64, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S64, .f32⟩
  | 66 => ⟨S_, .f32⟩
  | 67 => ⟨S64, .f32⟩
  | 68 => ⟨S64, .f32⟩
  | 69 => ⟨S64, .f32⟩
  | 70 => ⟨S_, .f32⟩
  | 71 => ⟨S64, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S_, .f32⟩
  | 81 => ⟨S64, .f32⟩
  | 82 => ⟨S64, .f32⟩
  | 83 => ⟨S64, .f32⟩
  | 84 => ⟨S_, .f32⟩
  | 85 => ⟨S64, .f32⟩
  | 86 => ⟨S64, .f32⟩
  | 87 => ⟨S64, .f32⟩
  | 88 => ⟨S_, .f32⟩
  | 89 => ⟨S64, .f32⟩
  | 90 => ⟨S64, .f32⟩
  | 91 => ⟨S64, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S_, .f32⟩
  | 104 => ⟨S64, .f32⟩
  | 105 => ⟨S64, .f32⟩
  | 106 => ⟨S64, .f32⟩
  | 107 => ⟨S_, .f32⟩
  | 108 => ⟨S64, .f32⟩
  | 109 => ⟨S64, .f32⟩
  | 110 => ⟨S_, .f32⟩
  | 111 => ⟨S1024, .f32⟩
  | 112 => ⟨S1024, .f32⟩
  | 113 => ⟨S_, .f32⟩
  | 114 => ⟨S1024, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S_, .f32⟩
  | 126 => ⟨S1024, .f32⟩
  | 127 => ⟨S1024, .f32⟩
  | _ => ⟨S1024, .f32⟩

abbrev hbmTy0_2 (i : Nat) : BufTy := match i % 128 with
  | 0 => ⟨S_, .f32⟩
  | 1 => ⟨S1024, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S_, .f32⟩
  | 13 => ⟨S1024, .f32⟩
  | 14 => ⟨S1024, .f32⟩
  | 15 => ⟨S_, .f32⟩
  | 16 => ⟨S5632, .f32⟩
  | 17 => ⟨S5632, .f32⟩
  | 18 => ⟨S_, .f32⟩
  | 19 => ⟨S5632, .f32⟩
  | 20 => ⟨S5632, .f32⟩
  | 21 => ⟨S5632, .f32⟩
  | 22 => ⟨S_, .f32⟩
  | 23 => ⟨S5632, .f32⟩
  | 24 => ⟨S5632, .f32⟩
  | 25 => ⟨S5632, .f32⟩
  | 26 => ⟨S_, .f32⟩
  | 27 => ⟨S5632, .f32⟩
  | 28 => ⟨S5632, .f32⟩
  | 29 => ⟨S5632, .f32⟩
  | 30 => ⟨S_, .f32⟩
  | 31 => ⟨S5632, .f32⟩
  | 32 => ⟨S5632, .f32⟩
  | 33 => ⟨S_, .f32⟩
  | 34 => ⟨S5632, .f32⟩
  | 35 => ⟨S5632, .f32⟩
  | 36 => ⟨S5632, .f32⟩
  | 37 => ⟨S_, .f32⟩
  | 38 => ⟨S5632, .f32⟩
  | 39 => ⟨S5632, .f32⟩
  | 40 => ⟨S5632, .f32⟩
  | 41 => ⟨S_, .f32⟩
  | 42 => ⟨S5632, .f32⟩
  | 43 => ⟨S5632, .f32⟩
  | 44 => ⟨S5632, .f32⟩
  | 45 => ⟨S_, .f32⟩
  | 46 => ⟨S5632, .f32⟩
  | 47 => ⟨S5632, .f32⟩
  | 48 => ⟨S_, .f32⟩
  | 49 => ⟨S31x128, .f32⟩
  | 50 => ⟨S31x128, .f32⟩
  | 51 => ⟨S_, .f32⟩
  | 52 => ⟨S31x128, .f32⟩
  | 53 => ⟨S31x128, .f32⟩
  | 54 => ⟨S31x128, .f32⟩
  | 55 => ⟨S_, .f32⟩
  | 56 => ⟨S31x128, .f32⟩
  | 57 => ⟨S31x128, .f32⟩
  | 58 => ⟨S31x128, .f32⟩
  | 59 => ⟨S_, .f32⟩
  | 60 => ⟨S31x128, .f32⟩
  | 61 => ⟨S31x128, .f32⟩
  | 62 => ⟨S31x128, .f32⟩
  | 63 => ⟨S_, .f32⟩
  | 64 => ⟨S31x128, .f32⟩
  | 65 => ⟨S31x128, .f32⟩
  | 66 => ⟨S_, .f32⟩
  | 67 => ⟨S31x128, .f32⟩
  | 68 => ⟨S31x128, .f32⟩
  | 69 => ⟨S31x128, .f32⟩
  | 70 => ⟨S_, .f32⟩
  | 71 => ⟨S31x128, .f32⟩
  | 72 => ⟨S31x128, .f32⟩
  | 73 => ⟨S31x128, .f32⟩
  | 74 => ⟨S_, .f32⟩
  | 75 => ⟨S31x128, .f32⟩
  | 76 => ⟨S31x128, .f32⟩
  | 77 => ⟨S31x128, .f32⟩
  | 78 => ⟨S_, .f32⟩
  | 79 => ⟨S31x128, .f32⟩
  | 80 => ⟨S31x128, .f32⟩
  | 81 => ⟨S_, .f32⟩
  | 82 => ⟨S3x1408, .f32⟩
  | 83 => ⟨S3x1408, .f32⟩
  | 84 => ⟨S_, .f32⟩
  | 85 => ⟨S3x1408, .f32⟩
  | 86 => ⟨S3x1408, .f32⟩
  | 87 => ⟨S3x1408, .f32⟩
  | 88 => ⟨S_, .f32⟩
  | 89 => ⟨S3x1408, .f32⟩
  | 90 => ⟨S3x1408, .f32⟩
  | 91 => ⟨S3x1408, .f32⟩
  | 92 => ⟨S_, .f32⟩
  | 93 => ⟨S3x1408, .f32⟩
  | 94 => ⟨S3x1408, .f32⟩
  | 95 => ⟨S3x1408, .f32⟩
  | 96 => ⟨S_, .f32⟩
  | 97 => ⟨S3x1408, .f32⟩
  | 98 => ⟨S3x1408, .f32⟩
  | 99 => ⟨S_, .f32⟩
  | 100 => ⟨S3x1408, .f32⟩
  | 101 => ⟨S3x1408, .f32⟩
  | 102 => ⟨S3x1408, .f32⟩
  | 103 => ⟨S_, .f32⟩
  | 104 => ⟨S3x1408, .f32⟩
  | 105 => ⟨S3x1408, .f32⟩
  | 106 => ⟨S3x1408, .f32⟩
  | 107 => ⟨S_, .f32⟩
  | 108 => ⟨S3x1408, .f32⟩
  | 109 => ⟨S3x1408, .f32⟩
  | 110 => ⟨S3x1408, .f32⟩
  | 111 => ⟨S_, .f32⟩
  | 112 => ⟨S3x1408, .f32⟩
  | 113 => ⟨S3x1408, .f32⟩
  | _ => ⟨S1024, .f32⟩

abbrev hbmTy (i : Nat) : BufTy := match i / 128 with
  | 0 => hbmTy0_0 i
  | 1 => hbmTy0_1 i
  | 2 => hbmTy0_2 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== PartIn.lean ====
abbrev S1024x640 : Shape := ⟨2, ![1024, 640]⟩
abbrev S3x1024x640 : Shape := ⟨3, ![3, 1024, 640]⟩
abbrev S256x640 : Shape := ⟨2, ![256, 640]⟩
abbrev S3x256x640 : Shape := ⟨3, ![3, 256, 640]⟩
abbrev S1x256x640 : Shape := ⟨3, ![1, 256, 640]⟩

abbrev nBuf : Space → Nat
  | .hbm => 3
  | .vmem => 6
  | .smem => 0
  | _ => 0

abbrev bufTy : (tb : Table) → Fin (tcTables nBuf tb) → BufTy
  | .hbm, ⟨0, _⟩ => ⟨S1024x640, .f32⟩
  | .hbm, ⟨1, _⟩ => ⟨S3x1024x640, .bf16⟩
  | .hbm, ⟨2, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S3x256x640, .bf16⟩
  | .local _ .vmem, ⟨3, _⟩ => ⟨S3x256x640, .bf16⟩
  | .local _ .vmem, ⟨4, _⟩ => ⟨S256x640, .f32⟩
  | .local _ .vmem, ⟨5, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PartInRefIdeal.lean ====
abbrev S1024x640 : Shape := ⟨2, ![1024, 640]⟩
abbrev S3x1024x640 : Shape := ⟨3, ![3, 1024, 640]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S3x1024x640, .bf16⟩
  | .hbm, ⟨2, _⟩ => ⟨S3x1024x640, .f32⟩
  | .hbm, ⟨3, _⟩ => ⟨S_, .f32⟩
  | .hbm, ⟨4, _⟩ => ⟨S1024x640, .f32⟩
  | .hbm, ⟨5, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PartOut.lean ====
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S256x1024, .f32⟩
  | .local _ .vmem, ⟨0, _⟩ => ⟨S256x1024, .f32⟩
  | .local _ .vmem, ⟨1, _⟩ => ⟨S3x256x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== PartOutRefIdeal.lean ====
abbrev S256x1024 : Shape := ⟨2, ![256, 1024]⟩
abbrev S3x256x1024 : Shape := ⟨3, ![3, 256, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S3x256x1024, .f32⟩
  | .hbm, ⟨3, _⟩ => ⟨S_, .f32⟩
  | .hbm, ⟨4, _⟩ => ⟨S256x1024, .f32⟩
  | .hbm, ⟨5, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PartUp.lean ====
abbrev S1024x1408 : Shape := ⟨2, ![1024, 1408]⟩
abbrev S3x1024x1408 : Shape := ⟨3, ![3, 1024, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S1024x1408, .f32⟩
  | .hbm, ⟨1, _⟩ => ⟨S3x1024x1408, .bf16⟩
  | .hbm, ⟨2, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PartUpRefIdeal.lean ====
abbrev S1024x1408 : Shape := ⟨2, ![1024, 1408]⟩
abbrev S3x1024x1408 : Shape := ⟨3, ![3, 1024, 1408]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S3x1024x1408, .bf16⟩
  | .hbm, ⟨2, _⟩ => ⟨S3x1024x1408, .f32⟩
  | .hbm, ⟨3, _⟩ => ⟨S_, .f32⟩
  | .hbm, ⟨4, _⟩ => ⟨S1024x1408, .f32⟩
  | .hbm, ⟨5, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PartDown.lean ====
abbrev S704x1024 : Shape := ⟨2, ![704, 1024]⟩
abbrev S3x704x1024 : Shape := ⟨3, ![3, 704, 1024]⟩
abbrev S64x1024 : Shape := ⟨2, ![64, 1024]⟩
abbrev S3x64x1024 : Shape := ⟨3, ![3, 64, 1024]⟩
abbrev S1x64x1024 : Shape := ⟨3, ![1, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S3x64x1024, .bf16⟩
  | .local _ .vmem, ⟨3, _⟩ => ⟨S3x64x1024, .bf16⟩
  | .local _ .vmem, ⟨4, _⟩ => ⟨S64x1024, .f32⟩
  | .local _ .vmem, ⟨5, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PartDownRefIdeal.lean ====
abbrev S704x1024 : Shape := ⟨2, ![704, 1024]⟩
abbrev S3x704x1024 : Shape := ⟨3, ![3, 704, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S3x704x1024, .f32⟩
  | .hbm, ⟨3, _⟩ => ⟨S_, .f32⟩
  | .hbm, ⟨4, _⟩ => ⟨S704x1024, .f32⟩
  | .hbm, ⟨5, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Attn.Steps.lean ====
/- One grid point of the attention gradient, written as a recursion over its blocks of 128 queries.

   The run of the body stores the query-side streams (2048 rows of the window and 128 of the next block) and the
   key-side streams (128 rows of the block before and 2048 of the window) in scratch buffers, and then treats one
   block of 128 queries after the other: the block's scores against 256 keys, their weights, the gradient of the
   scores, and the three products. The keys' and the values' products are added to two running buffers. The
   definitions of this file spell the run once for every block number. -/
module

public import proofs.«01_k».proof.Proof.Gen.KernelIdeal.Skeleton

@[expose] public section

set_option maxRecDepth 16384

noncomputable section

namespace Cert.KernelIdeal.Step

open Idealize.ShloMosaic Idealize.ShloMosaic.TcCoe Cert.KernelIdeal Cert.KernelIdeal.Gen

variable {F : FTy → Type} [FloatOps F] [Named F]

/-- The values that a point's loads of its input blocks return. -/
structure Blocks (F : FTy → Type) where
  q : Vec F S2048x128 .f32
  k : Vec F S2048x128 .f32
  v : Vec F S2048x128 .f32
  do_ : Vec F S2048x128 .f32
  lg : Vec F S2048x128 .f32
  dl : Vec F S2048x128 .f32
  kh : Vec F S128x128 .f32
  vh : Vec F S128x128 .f32
  qx : Vec F S128x128 .f32
  dox : Vec F S128x128 .f32
  lgx : Vec F S128x128 .f32
  dlx : Vec F S128x128 .f32
  bias : Vec F S1x256x256 .f32
  biasL : Vec F S1x256x128 .f32
  /-- whether the block before the window is missing -/
  inv : BitVec 1

/-- The scratch buffers' views. -/
structure Refs where
  q : View sig .tc .vmem S2176x128 .bf16
  do_ : View sig .tc .vmem S2176x128 .bf16
  lg : View sig .tc .vmem S2176x128 .f32
  dl : View sig .tc .vmem S2176x128 .f32
  k : View sig .tc .vmem S2176x128 .bf16
  v : View sig .tc .vmem S2176x128 .bf16
  dk : View sig .tc .vmem S2048x128 .f32
  dv : View sig .tc .vmem S2048x128 .f32

theorem inbRows {m k : ℕ} (o : ℕ) (h : o + k ≤ m) :
    ∀ a : Fin 2, (![o, 0] : Fin 2 → ℕ) a + (![k, 128] : Fin 2 → ℕ) a ≤ (![m, 128] : Fin 2 → ℕ) a := by
  intro a; fin_cases a
  · exact h
  · exact Nat.le_refl _

/-- Rows `o … o + 127` of a stream. -/
abbrev strRows (o : ℕ) (h : o + 128 ≤ 2176) : Rect S2176x128 := Rect.unit ![o, 0] S128x128.size (inbRows o h)
/-- Rows `o … o + 255` of a stream. -/
abbrev strRows2 (o : ℕ) (h : o + 256 ≤ 2176) : Rect S2176x128 := Rect.unit ![o, 0] S256x128.size (inbRows o h)
/-- The 2048 rows of a stream from `o`. -/
abbrev strRows16 (o : ℕ) (h : o + 2048 ≤ 2176) : Rect S2176x128 := Rect.unit ![o, 0] S2048x128.size (inbRows o h)
/-- Rows `o … o + 127` of a result. -/
abbrev outRows (o : ℕ) (h : o + 128 ≤ 2048) : Rect S2048x128 := Rect.unit ![o, 0] S128x128.size (inbRows o h)
/-- Rows `o … o + 255` of a result. -/
abbrev outRows2 (o : ℕ) (h : o + 256 ≤ 2048) : Rect S2048x128 := Rect.unit ![o, 0] S256x128.size (inbRows o h)
/-- All rows of a result. -/
abbrev outAll : Rect S2048x128 := Rect.unit ![0, 0] S2048x128.size (inbRows 0 (by decide))

/-- A bfloat16 stream: the window's 2048 rows, then the next block's 128. -/
def streamB (a : Vec F S2048x128 .f32) (nx : Vec F S128x128 .f32) : List (View.Piece (Elt F) S2176x128 .bf16) :=
  [⟨strRows 2048 (by decide), shapeCast S128x128 (truncf .bf16 nx bitsLt_bf16_f32) shapeCasts_S128x128_S128x128⟩,
   ⟨strRows16 0 (by decide), shapeCast S2048x128 (truncf .bf16 a bitsLt_bf16_f32) shapeCasts_S2048x128_S2048x128⟩]

/-- A float32 stream: the window's 2048 rows, then the next block's 128. -/
def streamF (a : Vec F S2048x128 .f32) (nx : Vec F S128x128 .f32) : List (View.Piece (Elt F) S2176x128 .f32) :=
  [⟨strRows 2048 (by decide), shapeCast S128x128 nx shapeCasts_S128x128_S128x128⟩,
   ⟨strRows16 0 (by decide), shapeCast S2048x128 a shapeCasts_S2048x128_S2048x128⟩]

/-- A stream of keys or values: the 128 rows of the block before, then the window's 2048. -/
def keysB (halo : Vec F S128x128 .f32) (a : Vec F S2048x128 .f32) : List (View.Piece (Elt F) S2176x128 .bf16) :=
  [⟨strRows16 128 (by decide), shapeCast S2048x128 (truncf .bf16 a bitsLt_bf16_f32) shapeCasts_S2048x128_S2048x128⟩,
   ⟨strRows 0 (by decide), shapeCast S128x128 (truncf .bf16 halo bitsLt_bf16_f32) shapeCasts_S128x128_S128x128⟩]

/-- Two heads side by side in 128 lanes, stacked in 256 rows: rows 0 … 127 keep the first head's lanes, rows
    128 … 255 the second's; the other lanes are zero. -/
def stack (a : Vec F S128x128 .bf16) : FVec F S256x128 .bf16 :=
  concatenate S256x128 0
    [⟨S128x128, select (cmpi .slt (iota .tc S128x128 32 [1] iota_S128x128_d1_w32) (broadcast S128x128 64#32)) a
        (broadcast S128x128 (Scalar.ofBits .bf16 0x0000#16))⟩,
     ⟨S128x128, select (cmpi .sge (iota .tc S128x128 32 [1] iota_S128x128_d1_w32) (broadcast S128x128 64#32)) a
        (broadcast S128x128 (Scalar.ofBits .bf16 0x0000#16))⟩]
    concatenates_S128x128_S128x128_S256x128_d0

/-- A row statistic of the two heads, one column of 256 rows: lane 0 is the first head's, lane 64 the second's. -/
def col (a : Vec F S128x128 .f32) : FVec F S256x1 .f32 :=
  concatenate S256x1 0
    [⟨S128x1, extractStridedSlice S128x1 ![0, 0] a slices_S128x128_o0_0_S128x1⟩,
     ⟨S128x1, extractStridedSlice S128x1 ![0, 64] a slices_S128x128_o0_64_S128x1⟩]
    concatenates_S128x1_S128x1_S256x1_d0

/-- Scores of a block's stacked queries against 256 keys, with the bias. -/
def score (q : Vec F S128x128 .bf16) (k : Vec F S256x128 .bf16) (bias : Vec F S1x256x256 .f32) : FVec F S256x256 .f32 :=
  addf (matmul dot_S256x128_S256x128_S256x256_1_1_0_0_n_n none (stack q) k (constant S256x256 .f32 0x00000000#32))
    (shapeCast S256x256 bias shapeCasts_S1x256x256_S256x256)

/-- The same scores where the block before is missing (`inv`): its 128 columns are masked. -/
def masked (inv : BitVec 1) (s : FVec F S256x256 .f32) : FVec F S256x256 .f32 :=
  select (andi (cmpi .slt (iota .tc S256x256 32 [1] iota_S256x256_d1_w32) (broadcast S256x256 128#32))
      (broadcast S256x256 inv))
    (broadcast S256x256 (Named.named κ "mask" 0xF149F2CA#32)) s

/-- Weights: the exponential of the scores less the row's log-denominator. -/
def prob (s : FVec F S256x256 .f32) (lg : Vec F S128x128 .f32) : FVec F S256x256 .f32 :=
  exp (subf s (broadcastTo S256x256 (col lg) broadcasts_S256x1_S256x256))

/-- The gradient of the scores. -/
def dscore (p : FVec F S256x256 .f32) (d : Vec F S128x128 .bf16) (v : Vec F S256x128 .bf16) (dl : Vec F S128x128 .f32) :
    FVec F S256x256 .bf16 :=
  truncf .bf16 (mulf p (subf
    (matmul dot_S256x128_S256x128_S256x256_1_1_0_0_n_n none (stack d) v (constant S256x256 .f32 0x00000000#32))
    (broadcastTo S256x256 (col dl) broadcasts_S256x1_S256x256))) bitsLt_bf16_f32

/-- The queries' gradient: the score gradients times the keys, the two heads put side by side again. -/
def dqOf (ds : FVec F S256x256 .bf16) (k : Vec F S256x128 .bf16) : FVec F S128x128 .f32 :=
  select (cmpi .slt (iota .tc S128x128 32 [1] iota_S128x128_d1_w32) (broadcast S128x128 64#32))
    (extractStridedSlice S128x128 ![0, 0]
      (matmul dot_S256x256_S256x128_S256x128_1_0_0_1_n_n none ds k (constant S256x128 .f32 0x00000000#32))
      slices_S256x128_o0_0_S128x128)
    (extractStridedSlice S128x128 ![128, 0]
      (matmul dot_S256x256_S256x128_S256x128_1_0_0_1_n_n none ds k (constant S256x128 .f32 0x00000000#32))
      slices_S256x128_o128_0_S128x128)

/-- What a block of queries adds at its 256 keys: a transposed product with the stacked rows. -/
def tn (w : FVec F S256x256 .bf16) (a : Vec F S128x128 .bf16) : FVec F S256x128 .f32 :=
  matmul dot_S256x256_S256x128_S256x128_0_0_1_1_n_n none w (stack a) (constant S256x128 .f32 0x00000000#32)

/-- Weights of the next block's queries against the window's last 128 keys. -/
def probL (q : Vec F S128x128 .bf16) (k : Vec F S128x128 .bf16) (bias : Vec F S1x256x128 .f32) (lg : Vec F S128x128 .f32) :
    FVec F S256x128 .f32 :=
  exp (subf (addf (matmul dot_S256x128_S128x128_S256x128_1_1_0_0_n_n none (stack q) k (constant S256x128 .f32 0x00000000#32))
      (shapeCast S256x128 bias shapeCasts_S1x256x128_S256x128))
    (broadcastTo S256x128 (col lg) broadcasts_S256x1_S256x128))

/-- The gradient of those scores. -/
def dscoreL (p : FVec F S256x128 .f32) (d : Vec F S128x128 .bf16) (v : Vec F S128x128 .bf16) (dl : Vec F S128x128 .f32) :
    FVec F S256x128 .bf16 :=
  truncf .bf16 (mulf p (subf
    (matmul dot_S256x128_S128x128_S256x128_1_1_0_0_n_n none (stack d) v (constant S256x128 .f32 0x00000000#32))
    (broadcastTo S256x128 (col dl) broadcasts_S256x1_S256x128))) bitsLt_bf16_f32

/-- What the next block's queries add at the window's last 128 keys. -/
def tnL (w : FVec F S256x128 .bf16) (a : Vec F S128x128 .bf16) : FVec F S128x128 .f32 :=
  matmul dot_S256x128_S256x128_S128x128_0_0_1_1_n_n none w (stack a) (constant S128x128 .f32 0x00000000#32)

section point

variable (R : Refs) (X : Blocks F)

/-- Block `b`'s queries, output gradients, log-denominators and row terms, read back from the streams. -/
def qAt (b : ℕ) (hb : 128 * b + 128 ≤ 2176) : Vec F S128x128 .bf16 :=
  R.q.readCov (streamB X.q X.qx) (strRows (128 * b) hb).toLoadRect
@[inherit_doc qAt] def doAt (b : ℕ) (hb : 128 * b + 128 ≤ 2176) : Vec F S128x128 .bf16 :=
  R.do_.readCov (streamB X.do_ X.dox) (strRows (128 * b) hb).toLoadRect
@[inherit_doc qAt] def lgAt (b : ℕ) (hb : 128 * b + 128 ≤ 2176) : Vec F S128x128 .f32 :=
  R.lg.readCov (streamF X.lg X.lgx) (strRows (128 * b) hb).toLoadRect
@[inherit_doc qAt] def dlAt (b : ℕ) (hb : 128 * b + 128 ≤ 2176) : Vec F S128x128 .f32 :=
  R.dl.readCov (streamF X.dl X.dlx) (strRows (128 * b) hb).toLoadRect
/-- The 256 keys and values that block `b` meets. -/
def kAt (b : ℕ) (hb : 128 * b + 256 ≤ 2176) : Vec F S256x128 .bf16 :=
  R.k.readCov (keysB X.kh X.k) (strRows2 (128 * b) hb).toLoadRect
@[inherit_doc kAt] def vAt (b : ℕ) (hb : 128 * b + 256 ≤ 2176) : Vec F S256x128 .bf16 :=
  R.v.readCov (keysB X.vh X.v) (strRows2 (128 * b) hb).toLoadRect

/-- Block `b`'s weights; those of the window's first block are masked where the block before is missing. -/
def pAt : (b : ℕ) → (hb : 128 * b + 256 ≤ 2176) → FVec F S256x256 .f32
  | 0, hb => prob (masked X.inv (score (qAt R X 0 (by omega)) (kAt R X 0 hb) X.bias)) (lgAt R X 0 (by omega))
  | b + 1, hb => prob (score (qAt R X (b + 1) (by omega)) (kAt R X (b + 1) hb) X.bias) (lgAt R X (b + 1) (by omega))

/-- Block `b`'s score gradients. -/
def dsAt (b : ℕ) (hb : 128 * b + 256 ≤ 2176) : FVec F S256x256 .bf16 :=
  dscore (pAt R X b hb) (doAt R X b (by omega)) (vAt R X b hb) (dlAt R X b (by omega))

/-- The stores of the queries' gradient, the last first. -/
def dqPieces : (n : ℕ) → n ≤ 16 → List (View.Piece (Elt F) S2048x128 .f32)
  | 0, _ => []
  | b + 1, hn => ⟨outRows (128 * b) (by omega), shapeCast S128x128 (dqOf (dsAt R X b (by omega)) (kAt R X b (by omega)))
      shapeCasts_S128x128_S128x128⟩ :: dqPieces b (by omega)

/-- The stores of a running buffer whose block `b` adds `u b` (the first block its second half only), the last first. -/
def accPieces (v : View sig .tc .vmem S2048x128 .f32) (u : (b : ℕ) → 128 * b + 256 ≤ 2176 → FVec F S256x128 .f32) :
    (n : ℕ) → n ≤ 16 → List (View.Piece (Elt F) S2048x128 .f32)
  | 0, _ => [⟨outAll, shapeCast S2048x128 (broadcast S2048x128 (Scalar.ofBits .f32 0x00000000#32)) shapeCasts_S2048x128_S2048x128⟩]
  | 1, _ => ⟨outRows 0 (by decide), shapeCast S128x128
      (addf (v.readCov (accPieces v u 0 (by omega)) (outRows 0 (by decide)).toLoadRect)
        (extractStridedSlice S128x128 ![128, 0] (u 0 (by decide)) slices_S256x128_o128_0_S128x128)) shapeCasts_S128x128_S128x128⟩ ::
      accPieces v u 0 (by omega)
  | b + 2, hn => ⟨outRows2 (128 * b) (by omega), shapeCast S256x128
      (addf (v.readCov (accPieces v u (b + 1) (by omega)) (outRows2 (128 * b) (by omega)).toLoadRect) (u (b + 1) (by omega)))
      shapeCasts_S256x128_S256x128⟩ :: accPieces v u (b + 1) (by omega)

/-- The last store of a running buffer where there is a next block: `w` is added at the window's last 128 rows. -/
def accLast (v : View sig .tc .vmem S2048x128 .f32) (L : List (View.Piece (Elt F) S2048x128 .f32)) (w : FVec F S128x128 .f32) :
    List (View.Piece (Elt F) S2048x128 .f32) :=
  ⟨outRows 1920 (by decide), shapeCast S128x128 (addf (v.readCov L (outRows 1920 (by decide)).toLoadRect) w)
    shapeCasts_S128x128_S128x128⟩ :: L

/-- The stores of the keys' gradient, without the next block. -/
def dkPieces : List (View.Piece (Elt F) S2048x128 .f32) :=
  accPieces R.dk (fun b hb => tn (dsAt R X b hb) (qAt R X b (by omega))) 16 (by decide)
/-- The stores of the values' gradient, without the next block. -/
def dvPieces : List (View.Piece (Elt F) S2048x128 .f32) :=
  accPieces R.dv (fun b hb => tn (truncf .bf16 (pAt R X b hb) bitsLt_bf16_f32) (doAt R X b (by omega))) 16 (by decide)

/-- The window's last 128 keys and values. -/
def kLast : Vec F S128x128 .bf16 := R.k.readCov (keysB X.kh X.k) (strRows 2048 (by decide)).toLoadRect
@[inherit_doc kLast] def vLast : Vec F S128x128 .bf16 := R.v.readCov (keysB X.vh X.v) (strRows 2048 (by decide)).toLoadRect
/-- The next block's weights. -/
def pLast : FVec F S256x128 .f32 := probL (qAt R X 16 (by decide)) (kLast R X) X.biasL (lgAt R X 16 (by decide))
/-- The next block's score gradients. -/
def dsLast : FVec F S256x128 .bf16 := dscoreL (pLast R X) (doAt R X 16 (by decide)) (vLast R X) (dlAt R X 16 (by decide))
/-- The stores of the keys' gradient, with the next block. -/
def dkPiecesL : List (View.Piece (Elt F) S2048x128 .f32) :=
  accLast R.dk (dkPieces R X) (tnL (dsLast R X) (qAt R X 16 (by decide)))
/-- The stores of the values' gradient, with the next block. -/
def dvPiecesL : List (View.Piece (Elt F) S2048x128 .f32) :=
  accLast R.dv (dvPieces R X) (tnL (truncf .bf16 (pLast R X) bitsLt_bf16_f32) (doAt R X 16 (by decide)))

end point

end Cert.KernelIdeal.Step
-- ==== Proof.Attn.Point.lean ====
/- The values that a grid point loads, and the views of its scratch buffers. -/
module

public import proofs.«01_k».proof.Proof.Gen.KernelIdeal.Frame.Runs
public import proofs.«01_k».proof.Proof.Attn.Steps

@[expose] public section

set_option maxRecDepth 16384

noncomputable section

namespace Cert.KernelIdeal.Step

open Idealize.ShloMosaic Idealize.ShloMosaic.TcCoe Cert.KernelIdeal Cert.KernelIdeal.Gen

variable {F : FTy → Type} [FloatOps F] [Named F]

/-- What a load at rectangle `r` of a buffer that holds `x` returns, as the run spells it. -/
def got {s : Shape} {e : EltTy} (arg : Memref sig .tc .vmem s e) (h : arg.IsWhole) (x : Vec F s e) (r : Rect s) :
    r.shape.Idx → Elt F e := View.readAt (Elt F) arg.view r.toLoadRect (h.unread x)

theorem got_eq {s : Shape} {e : EltTy} (arg : Memref sig .tc .vmem s e) (h : arg.IsWhole) (x : Vec F s e) (r : Rect s) :
    got arg h x r = View.ld x r := by
  show View.ld (arg.view.read (Elt F) (h.unread x)) r = _
  rw [h.read_unread]

variable
  (c : Dev nD) (i : grid0.Coords) (arg2 : Memref sig .tc .vmem S2048x128 .f32) (harg2 : arg2.IsWhole) (arg3 : Memref sig
  .tc .vmem S2048x128 .f32) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S2048x128 .f32)
  (harg6 : arg6.IsWhole) (arg7 : Memref sig .tc .vmem S2048x128 .f32) (harg7 : arg7.IsWhole) (arg8 : Memref sig .tc
  .vmem S128x128 .f32) (harg8 : arg8.IsWhole) (arg9 : Memref sig .tc .vmem S128x128 .f32) (harg9 : arg9.IsWhole) (arg10
  : Memref sig .tc .vmem S128x128 .f32) (harg10 : arg10.IsWhole) (arg11 : Memref sig .tc .vmem S128x128 .f32) (harg11 :
  arg11.IsWhole) (arg12 : Memref sig .tc .vmem S128x128 .f32) (harg12 : arg12.IsWhole) (arg13 : Memref sig .tc .vmem
  S128x128 .f32) (harg13 : arg13.IsWhole) (arg14 : Memref sig .tc .vmem S1x256x256 .f32) (harg14 : arg14.IsWhole) (arg15
  : Memref sig .tc .vmem S2048x128 .f32) (harg15 : arg15.IsWhole) (arg16 : Memref sig .tc .vmem S2048x128 .f32) (harg16
  : arg16.IsWhole) (arg17 : Memref sig .tc .vmem S2048x128 .f32) (harg17 : arg17.IsWhole) (arg18 : Memref sig .tc .vmem
  S2048x128 .f32) (harg18 : arg18.IsWhole) (arg19 : Memref sig .tc .vmem S2048x128 .f32) (harg19 : arg19.IsWhole) (arg20
  : Memref sig .tc .vmem S2048x128 .f32) (harg20 : arg20.IsWhole) (arg21 : Memref sig .tc .vmem S2176x128 .bf16) (harg21
  : arg21.IsWhole) (arg22 : Memref sig .tc .vmem S2176x128 .bf16) (harg22 : arg22.IsWhole) (arg23 : Memref sig .tc .vmem
  S2176x128 .f32) (harg23 : arg23.IsWhole) (arg24 : Memref sig .tc .vmem S2176x128 .f32) (harg24 : arg24.IsWhole) (arg25
  : Memref sig .tc .vmem S2176x128 .bf16) (harg25 : arg25.IsWhole) (arg26 : Memref sig .tc .vmem S2176x128 .bf16)
  (harg26 : arg26.IsWhole) (arg27 : Memref sig .tc .vmem S2048x128 .f32) (harg27 : arg27.IsWhole) (arg28 : Memref sig
  .tc .vmem S2048x128 .f32) (harg28 : arg28.IsWhole) (arg29 : Memref sig .tc .vmem S2048x128 .f32) (harg29 :
  arg29.IsWhole)
  (x0 : Vec F S2048x128 .f32) (x1 : Vec F S2048x128 .f32) (x2 : Vec F S2048x128 .f32) (x3 : Vec F S2048x128 .f32) (x4 :
  Vec F S2048x128 .f32) (x5 : Vec F S2048x128 .f32) (x6 : Vec F S128x128 .f32) (x7 : Vec F S128x128 .f32) (x8 : Vec F
  S128x128 .f32) (x9 : Vec F S128x128 .f32) (x10 : Vec F S128x128 .f32) (x11 : Vec F S128x128 .f32) (x12 : Vec F
  S1x256x256 .f32) (x13 : Vec F S2048x128 .f32) (x14 : Vec F S2048x128 .f32) (x15 : Vec F S2048x128 .f32)

/-- The point's loads. -/
def blocksOf : Blocks F where
  q := got arg2 harg2 x0 outAll
  k := got arg3 harg3 x1 outAll
  v := got arg4 harg4 x2 outAll
  do_ := got arg5 harg5 x3 outAll
  lg := got arg6 harg6 x4 outAll
  dl := got arg7 harg7 x5 outAll
  kh := got arg8 harg8 x6 (Rect.unit ![0, 0] S128x128.size inb_S128x128_S128x128_0_0)
  vh := got arg9 harg9 x7 (Rect.unit ![0, 0] S128x128.size inb_S128x128_S128x128_0_0)
  qx := got arg10 harg10 x8 (Rect.unit ![0, 0] S128x128.size inb_S128x128_S128x128_0_0)
  dox := got arg11 harg11 x9 (Rect.unit ![0, 0] S128x128.size inb_S128x128_S128x128_0_0)
  lgx := got arg12 harg12 x10 (Rect.unit ![0, 0] S128x128.size inb_S128x128_S128x128_0_0)
  dlx := got arg13 harg13 x11 (Rect.unit ![0, 0] S128x128.size inb_S128x128_S128x128_0_0)
  bias := got arg14 harg14 x12 (Rect.unit ![0, 0, 0] S1x256x256.size inb_S1x256x256_S1x256x256_0_0_0)
  biasL := got arg14 harg14 x12 (Rect.unit ![0, 0, 0] S1x256x128.size inb_S1x256x256_S1x256x128_0_0_0)
  inv := Scalar.cmpi .eq (BitVec.ofNat 32 (i 1).val) 0#32

/-- The scratch buffers' views. -/
def refsOf : Refs where
  q := arg21.view
  do_ := arg22.view
  lg := arg23.view
  dl := arg24.view
  k := arg25.view
  v := arg26.view
  dk := arg28.view
  dv := arg29.view

end Cert.KernelIdeal.Step
-- ==== Proof.Attn.RunA.lean ====
/- The pieces that the generated run of a grid point leaves are the recursion's (Steps.lean), by unfolding:
   a point whose window has a block after it. -/
module

public import proofs.«01_k».proof.Proof.Gen.KernelIdeal.Frame.RunA
public import proofs.«01_k».proof.Proof.Attn.Point

@[expose] public section

set_option maxRecDepth 16384

noncomputable section

namespace Cert.KernelIdeal.Step

open Idealize.ShloMosaic Idealize.ShloMosaic.TcCoe Cert.KernelIdeal Cert.KernelIdeal.Gen

variable {F : FTy → Type} [FloatOps F] [Named F]

variable
  (c : Dev nD) (i : grid0.Coords) (arg2 : Memref sig .tc .vmem S2048x128 .f32) (harg2 : arg2.IsWhole) (arg3 : Memref sig
  .tc .vmem S2048x128 .f32) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S2048x128 .f32)
  (harg6 : arg6.IsWhole) (arg7 : Memref sig .tc .vmem S2048x128 .f32) (harg7 : arg7.IsWhole) (arg8 : Memref sig .tc
  .vmem S128x128 .f32) (harg8 : arg8.IsWhole) (arg9 : Memref sig .tc .vmem S128x128 .f32) (harg9 : arg9.IsWhole) (arg10
  : Memref sig .tc .vmem S128x128 .f32) (harg10 : arg10.IsWhole) (arg11 : Memref sig .tc .vmem S128x128 .f32) (harg11 :
  arg11.IsWhole) (arg12 : Memref sig .tc .vmem S128x128 .f32) (harg12 : arg12.IsWhole) (arg13 : Memref sig .tc .vmem
  S128x128 .f32) (harg13 : arg13.IsWhole) (arg14 : Memref sig .tc .vmem S1x256x256 .f32) (harg14 : arg14.IsWhole) (arg15
  : Memref sig .tc .vmem S2048x128 .f32) (harg15 : arg15.IsWhole) (arg16 : Memref sig .tc .vmem S2048x128 .f32) (harg16
  : arg16.IsWhole) (arg17 : Memref sig .tc .vmem S2048x128 .f32) (harg17 : arg17.IsWhole) (arg18 : Memref sig .tc .vmem
  S2048x128 .f32) (harg18 : arg18.IsWhole) (arg19 : Memref sig .tc .vmem S2048x128 .f32) (harg19 : arg19.IsWhole) (arg20
  : Memref sig .tc .vmem S2048x128 .f32) (harg20 : arg20.IsWhole) (arg21 : Memref sig .tc .vmem S2176x128 .bf16) (harg21
  : arg21.IsWhole) (arg22 : Memref sig .tc .vmem S2176x128 .bf16) (harg22 : arg22.IsWhole) (arg23 : Memref sig .tc .vmem
  S2176x128 .f32) (harg23 : arg23.IsWhole) (arg24 : Memref sig .tc .vmem S2176x128 .f32) (harg24 : arg24.IsWhole) (arg25
  : Memref sig .tc .vmem S2176x128 .bf16) (harg25 : arg25.IsWhole) (arg26 : Memref sig .tc .vmem S2176x128 .bf16)
  (harg26 : arg26.IsWhole) (arg27 : Memref sig .tc .vmem S2048x128 .f32) (harg27 : arg27.IsWhole) (arg28 : Memref sig
  .tc .vmem S2048x128 .f32) (harg28 : arg28.IsWhole) (arg29 : Memref sig .tc .vmem S2048x128 .f32) (harg29 :
  arg29.IsWhole)
  (x0 : Vec F S2048x128 .f32) (x1 : Vec F S2048x128 .f32) (x2 : Vec F S2048x128 .f32) (x3 : Vec F S2048x128 .f32) (x4 :
  Vec F S2048x128 .f32) (x5 : Vec F S2048x128 .f32) (x6 : Vec F S128x128 .f32) (x7 : Vec F S128x128 .f32) (x8 : Vec F
  S128x128 .f32) (x9 : Vec F S128x128 .f32) (x10 : Vec F S128x128 .f32) (x11 : Vec F S128x128 .f32) (x12 : Vec F
  S1x256x256 .f32) (x13 : Vec F S2048x128 .f32) (x14 : Vec F S2048x128 .f32) (x15 : Vec F S2048x128 .f32)

/-- The store of the queries' gradient. -/
theorem runA_dq (hc0 : cond0_0 i) :
    (kernelRun0_A c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 arg26 harg26
      arg27 harg27 arg28 harg28 arg29 harg29 hc0 x0 x1 x2 x3 x4 x5 x6 x7 x8 x9 x10 x11 x12 x13 x14 x15).1 =
      [⟨outAll, addf (arg27.view.readCov (dqPieces (refsOf arg21 arg22 arg23 arg24 arg25 arg26 arg28 arg29)
      (blocksOf i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 x9 x10 x11 x12) 16 (by decide)) outAll.toLoadRect)
        (got arg15 harg15 x13 outAll)⟩] := by
  sl_kernel_rfl

/-- The store of the keys' gradient. -/
theorem runA_dk (hc0 : cond0_0 i) :
    (kernelRun0_A c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 arg26 harg26
      arg27 harg27 arg28 harg28 arg29 harg29 hc0 x0 x1 x2 x3 x4 x5 x6 x7 x8 x9 x10 x11 x12 x13 x14 x15).2.1 =
      [⟨outAll, addf (arg28.view.readCov (dkPiecesL (refsOf arg21 arg22 arg23 arg24 arg25 arg26 arg28 arg29)
      (blocksOf i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 x9 x10 x11 x12)) outAll.toLoadRect)
        (got arg16 harg16 x14 outAll)⟩] := by
  sl_kernel_rfl

/-- The store of the values' gradient. -/
theorem runA_dv (hc0 : cond0_0 i) :
    (kernelRun0_A c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 arg26 harg26
      arg27 harg27 arg28 harg28 arg29 harg29 hc0 x0 x1 x2 x3 x4 x5 x6 x7 x8 x9 x10 x11 x12 x13 x14 x15).2.2.1 =
      [⟨outAll, addf (arg29.view.readCov (dvPiecesL (refsOf arg21 arg22 arg23 arg24 arg25 arg26 arg28 arg29)
      (blocksOf i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 x9 x10 x11 x12)) outAll.toLoadRect)
        (got arg17 harg17 x15 outAll)⟩] := by
  sl_kernel_rfl

end Cert.KernelIdeal.Step
-- ==== Proof.Attn.RunB.lean ====
/- The pieces that the generated run of a grid point leaves are the recursion's (Steps.lean), by unfolding:
   a point whose window is the last. -/
module

public import proofs.«01_k».proof.Proof.Gen.KernelIdeal.Frame.RunB
public import proofs.«01_k».proof.Proof.Attn.Point

@[expose] public section

set_option maxRecDepth 16384

noncomputable section

namespace Cert.KernelIdeal.Step

open Idealize.ShloMosaic Idealize.ShloMosaic.TcCoe Cert.KernelIdeal Cert.KernelIdeal.Gen

variable {F : FTy → Type} [FloatOps F] [Named F]

variable
  (c : Dev nD) (i : grid0.Coords) (arg2 : Memref sig .tc .vmem S2048x128 .f32) (harg2 : arg2.IsWhole) (arg3 : Memref sig
  .tc .vmem S2048x128 .f32) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S2048x128 .f32)
  (harg6 : arg6.IsWhole) (arg7 : Memref sig .tc .vmem S2048x128 .f32) (harg7 : arg7.IsWhole) (arg8 : Memref sig .tc
  .vmem S128x128 .f32) (harg8 : arg8.IsWhole) (arg9 : Memref sig .tc .vmem S128x128 .f32) (harg9 : arg9.IsWhole) (arg10
  : Memref sig .tc .vmem S128x128 .f32) (harg10 : arg10.IsWhole) (arg11 : Memref sig .tc .vmem S128x128 .f32) (harg11 :
  arg11.IsWhole) (arg12 : Memref sig .tc .vmem S128x128 .f32) (harg12 : arg12.IsWhole) (arg13 : Memref sig .tc .vmem
  S128x128 .f32) (harg13 : arg13.IsWhole) (arg14 : Memref sig .tc .vmem S1x256x256 .f32) (harg14 : arg14.IsWhole) (arg15
  : Memref sig .tc .vmem S2048x128 .f32) (harg15 : arg15.IsWhole) (arg16 : Memref sig .tc .vmem S2048x128 .f32) (harg16
  : arg16.IsWhole) (arg17 : Memref sig .tc .vmem S2048x128 .f32) (harg17 : arg17.IsWhole) (arg18 : Memref sig .tc .vmem
  S2048x128 .f32) (harg18 : arg18.IsWhole) (arg19 : Memref sig .tc .vmem S2048x128 .f32) (harg19 : arg19.IsWhole) (arg20
  : Memref sig .tc .vmem S2048x128 .f32) (harg20 : arg20.IsWhole) (arg21 : Memref sig .tc .vmem S2176x128 .bf16) (harg21
  : arg21.IsWhole) (arg22 : Memref sig .tc .vmem S2176x128 .bf16) (harg22 : arg22.IsWhole) (arg23 : Memref sig .tc .vmem
  S2176x128 .f32) (harg23 : arg23.IsWhole) (arg24 : Memref sig .tc .vmem S2176x128 .f32) (harg24 : arg24.IsWhole) (arg25
  : Memref sig .tc .vmem S2176x128 .bf16) (harg25 : arg25.IsWhole) (arg26 : Memref sig .tc .vmem S2176x128 .bf16)
  (harg26 : arg26.IsWhole) (arg27 : Memref sig .tc .vmem S2048x128 .f32) (harg27 : arg27.IsWhole) (arg28 : Memref sig
  .tc .vmem S2048x128 .f32) (harg28 : arg28.IsWhole) (arg29 : Memref sig .tc .vmem S2048x128 .f32) (harg29 :
  arg29.IsWhole)
  (x0 : Vec F S2048x128 .f32) (x1 : Vec F S2048x128 .f32) (x2 : Vec F S2048x128 .f32) (x3 : Vec F S2048x128 .f32) (x4 :
  Vec F S2048x128 .f32) (x5 : Vec F S2048x128 .f32) (x6 : Vec F S128x128 .f32) (x7 : Vec F S128x128 .f32) (x8 : Vec F
  S128x128 .f32) (x9 : Vec F S128x128 .f32) (x10 : Vec F S128x128 .f32) (x11 : Vec F S128x128 .f32) (x12 : Vec F
  S1x256x256 .f32) (x13 : Vec F S2048x128 .f32) (x14 : Vec F S2048x128 .f32) (x15 : Vec F S2048x128 .f32)

/-- The store of the queries' gradient. -/
theorem runB_dq (hc0 : ¬ cond0_0 i) :
    (kernelRun0_B c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 arg26 harg26
      arg27 harg27 arg28 harg28 arg29 harg29 hc0 x0 x1 x2 x3 x4 x5 x6 x7 x8 x9 x10 x11 x12 x13 x14 x15).1 =
      [⟨outAll, addf (arg27.view.readCov (dqPieces (refsOf arg21 arg22 arg23 arg24 arg25 arg26 arg28 arg29)
      (blocksOf i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 x9 x10 x11 x12) 16 (by decide)) outAll.toLoadRect)
        (got arg15 harg15 x13 outAll)⟩] := by
  sl_kernel_rfl

/-- The store of the keys' gradient. -/
theorem runB_dk (hc0 : ¬ cond0_0 i) :
    (kernelRun0_B c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 arg26 harg26
      arg27 harg27 arg28 harg28 arg29 harg29 hc0 x0 x1 x2 x3 x4 x5 x6 x7 x8 x9 x10 x11 x12 x13 x14 x15).2.1 =
      [⟨outAll, addf (arg28.view.readCov (dkPieces (refsOf arg21 arg22 arg23 arg24 arg25 arg26 arg28 arg29)
      (blocksOf i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 x9 x10 x11 x12)) outAll.toLoadRect)
        (got arg16 harg16 x14 outAll)⟩] := by
  sl_kernel_rfl

/-- The store of the values' gradient. -/
theorem runB_dv (hc0 : ¬ cond0_0 i) :
    (kernelRun0_B c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 arg26 harg26
      arg27 harg27 arg28 harg28 arg29 harg29 hc0 x0 x1 x2 x3 x4 x5 x6 x7 x8 x9 x10 x11 x12 x13 x14 x15).2.2.1 =
      [⟨outAll, addf (arg29.view.readCov (dvPieces (refsOf arg21 arg22 arg23 arg24 arg25 arg26 arg28 arg29)
      (blocksOf i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 x9 x10 x11 x12)) outAll.toLoadRect)
        (got arg17 harg17 x15 outAll)⟩] := by
  sl_kernel_rfl

end Cert.KernelIdeal.Step
-- ==== Proof.Attn.Unit.lean ====
/- One block's vector operations, read at an index over the extended reals. Two heads of 64 lanes stand side by side
   in 128 lanes; row `ρ` of the 256 stacked rows is row `ρ % 128` of the head in lane half `ρ / 128`. -/
module

public import proofs.«01_k».proof.Proof.Attn.Steps
public import Idealize.ShloMosaic.Lib.Pointwise

@[expose] public section

set_option maxRecDepth 16384

noncomputable section

namespace Cert.KernelIdeal.Step

open Idealize.ShloMosaic Idealize.ShloMosaic.TcCoe Cert.KernelIdeal Cert.KernelIdeal.Gen

/-- The lane test of the lower half. -/
theorem lane_lo {α : Type} (l : Fin 128) (x y : α) :
    Scalar.select (IntOp.cmpi .slt (BitVec.ofNat 32 l.val) 64#32) x y = if l.val / 64 = 0 then x else y := by
  have h : (IntOp.cmpi .slt (BitVec.ofNat 32 l.val) 64#32 : BitVec 1) = if l.val / 64 = 0 then 1#1 else 0#1 := by
    revert l; decide +kernel
  rw [h]; split <;> rfl

/-- The lane test of the upper half. -/
theorem lane_hi {α : Type} (l : Fin 128) (x y : α) :
    Scalar.select (IntOp.cmpi .sge (BitVec.ofNat 32 l.val) 64#32) x y = if l.val / 64 = 1 then x else y := by
  have h : (IntOp.cmpi .sge (BitVec.ofNat 32 l.val) 64#32 : BitVec 1) = if l.val / 64 = 1 then 1#1 else 0#1 := by
    revert l; decide +kernel
  rw [h]; split <;> rfl

theorem stack_apply (a : Vec Ideal S128x128 .bf16) (ρ : Fin 256) (l : Fin 128) :
    stack a (ix2 ρ l) = if ρ.val / 128 = l.val / 64 then a (ix2 ⟨ρ.val % 128, by omega⟩ l) else (0 : EReal) := by
  unfold stack
  pointwise
  by_cases h : ρ.val < 128
  · rw [dif_pos h]
    refine (lane_lo l _ _).trans ?_
    have h1 : ρ.val / 128 = 0 := by omega
    have h2 : ρ.val % 128 = ρ.val := by omega
    simp only [h1, h2, eq_comm]
  · rw [dif_neg h]
    refine (lane_hi l _ _).trans ?_
    have h1 : ρ.val / 128 = 1 := by omega
    have h2 : ρ.val % 128 = ρ.val - 128 := by omega
    simp only [h1, h2, eq_comm]

theorem col_apply (a : Vec Ideal S128x128 .f32) (ρ : Fin 256) :
    col a (ix2 ρ 0) = a (ix2 ⟨ρ.val % 128, by omega⟩ ⟨64 * (ρ.val / 128), by omega⟩) := by
  unfold col
  pointwise
  by_cases h : ρ.val < 128
  · rw [dif_pos h]
    have h1 : ρ.val / 128 = 0 := by omega
    have h2 : ρ.val % 128 = ρ.val := by omega
    simp only [h1, h2]; rfl
  · rw [dif_neg h]
    have h1 : ρ.val / 128 = 1 := by omega
    have h2 : ρ.val % 128 = ρ.val - 128 := by omega
    simp only [h1, h2]; rfl

/-- A sum over 128 lanes whose terms vanish outside lane half `c`. -/
theorem sum_lanes (c : ℕ) (hc : c < 2) (f : Fin 128 → EReal) (g : Fin 128 → EReal) :
    (∑ l : Fin 128, (if c = l.val / 64 then f l else 0) * g l) =
      ∑ e : Fin 64, f ⟨64 * c + e.val, by omega⟩ * g ⟨64 * c + e.val, by omega⟩ := by
  rw [Fin.sum_univ_two_halves 64 64 rfl]
  obtain rfl | rfl : c = 0 ∨ c = 1 := by omega
  · rw [Finset.sum_eq_zero (s := Finset.univ) (f := fun i : Fin 64 => _ * g ⟨64 + i.val, _⟩), add_zero]
    · refine Finset.sum_congr rfl fun e _ => ?_
      have h : (0 : ℕ) = e.val / 64 := by omega
      simp only [← h, if_true, Nat.mul_zero, Nat.zero_add]
    · intro e _
      have h : ¬ (0 : ℕ) = (64 + e.val) / 64 := by omega
      simp only [h, if_false, zero_mul]
  · rw [Finset.sum_eq_zero (s := Finset.univ) (f := fun i : Fin 64 => _ * g ⟨i.val, _⟩), zero_add]
    · refine Finset.sum_congr rfl fun e _ => ?_
      have h : (1 : ℕ) = (64 + e.val) / 64 := by omega
      simp only [← h, if_true, Nat.mul_one]
    · intro e _
      have h : ¬ (1 : ℕ) = e.val / 64 := by omega
      simp only [h, if_false, zero_mul]

/-- A sum over 256 stacked rows whose terms vanish outside half `c`. -/
theorem sum_rows (c : ℕ) (hc : c < 2) (w : Fin 256 → EReal) (f : Fin 128 → EReal) :
    (∑ ρ : Fin 256, w ρ * (if ρ.val / 128 = c then f ⟨ρ.val % 128, by omega⟩ else 0)) =
      ∑ i : Fin 128, w ⟨128 * c + i.val, by omega⟩ * f i := by
  rw [Fin.sum_univ_two_halves 128 128 rfl]
  obtain rfl | rfl : c = 0 ∨ c = 1 := by omega
  · rw [Finset.sum_eq_zero (s := Finset.univ) (f := fun i : Fin 128 => w ⟨128 + i.val, _⟩ * _), add_zero]
    · refine Finset.sum_congr rfl fun i _ => ?_
      have h : i.val / 128 = 0 := by omega
      have h2 : i.val % 128 = i.val := by omega
      simp only [h, h2, if_true, Nat.mul_zero, Nat.zero_add]
    · intro i _
      have h : ¬ (128 + i.val) / 128 = 0 := by omega
      simp only [h, if_false, mul_zero]
  · rw [Finset.sum_eq_zero (s := Finset.univ) (f := fun i : Fin 128 => w ⟨i.val, _⟩ * _), zero_add]
    · refine Finset.sum_congr rfl fun i _ => ?_
      have h : (128 + i.val) / 128 = 1 := by omega
      have h2 : (128 + i.val) % 128 = i.val := by omega
      simp only [h, h2, if_true, Nat.mul_one]
    · intro i _
      have h : ¬ i.val / 128 = 1 := by omega
      simp only [h, if_false, mul_zero]

theorem score_apply (q : Vec Ideal S128x128 .bf16) (k : Vec Ideal S256x128 .bf16) (b : Vec Ideal S1x256x256 .f32) (ρ j : Fin 256) :
    score q k b (ix2 ρ j) = (∑ e : Fin 64, q (ix2 ⟨ρ.val % 128, by omega⟩ ⟨64 * (ρ.val / 128) + e.val, by omega⟩) *
      k (ix2 j ⟨64 * (ρ.val / 128) + e.val, by omega⟩)) + b (ix3 0 ρ j) := by
  unfold score
  pointwise
  simp only [stack_apply]
  rw [sum_lanes _ (by omega)]

theorem masked_apply (inv : BitVec 1) (s : FVec Ideal S256x256 .f32) (ρ j : Fin 256) :
    masked inv s (ix2 ρ j) = if j.val < 128 ∧ inv = 1#1 then ⊥ else s (ix2 ρ j) := by
  have h : (IntOp.cmpi .slt (BitVec.ofNat 32 j.val) 128#32 : BitVec 1) = if j.val < 128 then 1#1 else 0#1 := by
    revert j; decide +kernel
  unfold masked
  pointwise
  rw [h]
  rcases BitVec.eq_zero_or_eq_one inv with rfl | rfl <;> by_cases hj : j.val < 128 <;> simp [hj] <;> rfl

theorem prob_apply (s : FVec Ideal S256x256 .f32) (lg : Vec Ideal S128x128 .f32) (ρ j : Fin 256) :
    prob s lg (ix2 ρ j) = Ideal.exp (s (ix2 ρ j) - lg (ix2 ⟨ρ.val % 128, by omega⟩ ⟨64 * (ρ.val / 128), by omega⟩)) := by
  unfold prob
  pointwise
  rw [col_apply]

theorem dscore_apply (p : FVec Ideal S256x256 .f32) (d : Vec Ideal S128x128 .bf16) (v : Vec Ideal S256x128 .bf16)
    (dl : Vec Ideal S128x128 .f32) (ρ j : Fin 256) :
    dscore p d v dl (ix2 ρ j) = p (ix2 ρ j) * ((∑ e : Fin 64, d (ix2 ⟨ρ.val % 128, by omega⟩ ⟨64 * (ρ.val / 128) + e.val, by omega⟩) *
      v (ix2 j ⟨64 * (ρ.val / 128) + e.val, by omega⟩)) - dl (ix2 ⟨ρ.val % 128, by omega⟩ ⟨64 * (ρ.val / 128), by omega⟩)) := by
  unfold dscore
  pointwise
  simp only [stack_apply, col_apply]
  rw [sum_lanes _ (by omega)]

theorem dqOf_apply (ds : FVec Ideal S256x256 .bf16) (k : Vec Ideal S256x128 .bf16) (i l : Fin 128) :
    dqOf ds k (ix2 i l) = ∑ j : Fin 256, ds (ix2 ⟨128 * (l.val / 64) + i.val, by omega⟩ j) * k (ix2 j l) := by
  unfold dqOf
  pointwise
  rw [lane_lo]
  by_cases h : l.val / 64 = 0
  · simp only [h, if_true, Nat.mul_zero, Nat.zero_add]
  · have h1 : l.val / 64 = 1 := by omega
    simp only [h1, Nat.one_ne_zero, if_false, Nat.mul_one]

theorem tn_apply (w : FVec Ideal S256x256 .bf16) (a : Vec Ideal S128x128 .bf16) (j : Fin 256) (l : Fin 128) :
    tn w a (ix2 j l) = ∑ i : Fin 128, w (ix2 ⟨128 * (l.val / 64) + i.val, by omega⟩ j) * a (ix2 i l) := by
  unfold tn
  pointwise
  simp only [stack_apply]
  rw [sum_rows (l.val / 64) (by omega) (fun ρ => w (ix2 ρ j)) (fun i => a (ix2 i l))]

theorem probL_apply (q : Vec Ideal S128x128 .bf16) (k : Vec Ideal S128x128 .bf16) (b : Vec Ideal S1x256x128 .f32)
    (lg : Vec Ideal S128x128 .f32) (ρ : Fin 256) (j : Fin 128) :
    probL q k b lg (ix2 ρ j) = Ideal.exp ((∑ e : Fin 64, q (ix2 ⟨ρ.val % 128, by omega⟩ ⟨64 * (ρ.val / 128) + e.val, by omega⟩) *
      k (ix2 j ⟨64 * (ρ.val / 128) + e.val, by omega⟩)) + b (ix3 0 ρ j) -
        lg (ix2 ⟨ρ.val % 128, by omega⟩ ⟨64 * (ρ.val / 128), by omega⟩)) := by
  unfold probL
  pointwise
  simp only [stack_apply, col_apply]
  rw [sum_lanes _ (by omega)]

theorem dscoreL_apply (p : FVec Ideal S256x128 .f32) (d : Vec Ideal S128x128 .bf16) (v : Vec Ideal S128x128 .bf16)
    (dl : Vec Ideal S128x128 .f32) (ρ : Fin 256) (j : Fin 128) :
    dscoreL p d v dl (ix2 ρ j) = p (ix2 ρ j) * ((∑ e : Fin 64, d (ix2 ⟨ρ.val % 128, by omega⟩ ⟨64 * (ρ.val / 128) + e.val, by omega⟩) *
      v (ix2 j ⟨64 * (ρ.val / 128) + e.val, by omega⟩)) - dl (ix2 ⟨ρ.val % 128, by omega⟩ ⟨64 * (ρ.val / 128), by omega⟩)) := by
  unfold dscoreL
  pointwise
  simp only [stack_apply, col_apply]
  rw [sum_lanes _ (by omega)]

theorem tnL_apply (w : FVec Ideal S256x128 .bf16) (a : Vec Ideal S128x128 .bf16) (j l : Fin 128) :
    tnL w a (ix2 j l) = ∑ i : Fin 128, w (ix2 ⟨128 * (l.val / 64) + i.val, by omega⟩ j) * a (ix2 i l) := by
  unfold tnL
  pointwise
  simp only [stack_apply]
  rw [sum_rows (l.val / 64) (by omega) (fun ρ => w (ix2 ρ j)) (fun i => a (ix2 i l))]

end Cert.KernelIdeal.Step
-- ==== Proof.Attn.Rows.lean ====
/- What the scratch buffers hold: a buffer of 128 lanes that is written in runs of rows, read at a row and a lane. -/
module

public import proofs.«01_k».proof.Proof.Attn.Unit
public import Idealize.ShloMosaic.Lib.Pipeline.FrameBody

@[expose] public section

set_option maxRecDepth 16384

noncomputable section

namespace Cert.KernelIdeal.Step

open Idealize.ShloMosaic Idealize.ShloMosaic.TcCoe Cert.KernelIdeal Cert.KernelIdeal.Gen

section canon

variable {m k o : ℕ} {e : EltTy} (inb : ∀ a : Fin 2, (![o, 0] : Fin 2 → ℕ) a + (![k, 128] : Fin 2 → ℕ) a ≤ (![m, 128] : Fin 2 → ℕ) a)
  (w : (Rect.unit (s := ⟨2, ![m, 128]⟩) ![o, 0] ![k, 128] inb).shape.Idx → Elt Ideal e) (L : List (View.Piece (Elt Ideal) ⟨2, ![m, 128]⟩ e))

theorem emb_rows (i : Fin k) (l : Fin 128) (y : Fin m) (h : y.val = o + i.val) :
    (Rect.unit (s := ⟨2, ![m, 128]⟩) ![o, 0] ![k, 128] inb).emb (ix2 i l) = ix2 y l := by
  funext a
  fin_cases a
  · apply Fin.ext; show o + 1 * i.val = y.val; omega
  · apply Fin.ext; show 0 + 1 * l.val = l.val; omega

/-- Under the last store the buffer holds what was stored; -/
theorem canon_rows_in (i : Fin k) (l : Fin 128) (y : Fin m) (h : y.val = o + i.val) :
    View.canon (⟨Rect.unit (s := ⟨2, ![m, 128]⟩) ![o, 0] ![k, 128] inb, w⟩ :: L) (ix2 y l) = w (ix2 i l) := by
  rw [← emb_rows inb i l y h]
  exact View.canon_cons_emb _ w L _

/-- elsewhere, what the earlier stores left. -/
theorem canon_rows_out (l : Fin 128) (y : Fin m) (h : y.val < o ∨ o + k ≤ y.val) :
    View.canon (⟨Rect.unit (s := ⟨2, ![m, 128]⟩) ![o, 0] ![k, 128] inb, w⟩ :: L) (ix2 y l) = View.canon L (ix2 y l) := by
  refine View.canon_cons_of_not_mem _ L fun hm => ?_
  have h0 : o ≤ y.val ∧ y.val < o + k := (Rect.mem_set_unit (inb := inb)).mp hm 0
  omega

end canon

/-- A run of rows read back from a buffer. -/
theorem readCov_rows {m k o : ℕ} {e : EltTy} (v : View sig .tc .vmem ⟨2, ![m, 128]⟩ e)
    (inb : ∀ a : Fin 2, (![o, 0] : Fin 2 → ℕ) a + (![k, 128] : Fin 2 → ℕ) a ≤ (![m, 128] : Fin 2 → ℕ) a)
    (L : List (View.Piece (Elt Ideal) ⟨2, ![m, 128]⟩ e)) (i : Fin k) (l : Fin 128) (y : Fin m) (h : y.val = o + i.val) :
    v.readCov L (Rect.unit (s := ⟨2, ![m, 128]⟩) ![o, 0] ![k, 128] inb).toLoadRect (ix2 i l) = View.canon L (ix2 y l) := by
  rw [View.readCov_eq_canon']
  exact congrArg (View.canon L) (emb_rows inb i l y h)

/-- A bfloat16 stream at a row of the window; -/
theorem streamB_lo (a : Vec Ideal S2048x128 .f32) (nx : Vec Ideal S128x128 .f32) (y : Fin 2176) (l : Fin 128) (h : y.val < 2048) :
    View.canon (streamB a nx) (ix2 y l) = a (ix2 ⟨y.val, h⟩ l) := by
  refine (canon_rows_out _ _ _ l y (Or.inl h)).trans ((canon_rows_in _ _ _ ⟨y.val, h⟩ l y (by simp)).trans ?_)
  pointwise

/-- at a row of the next block. -/
theorem streamB_hi (a : Vec Ideal S2048x128 .f32) (nx : Vec Ideal S128x128 .f32) (y : Fin 2176) (l : Fin 128) (h : 2048 ≤ y.val) :
    View.canon (streamB a nx) (ix2 y l) = nx (ix2 ⟨y.val - 2048, by omega⟩ l) := by
  refine (canon_rows_in _ _ _ ⟨y.val - 2048, by omega⟩ l y (by show y.val = 2048 + (y.val - 2048); omega)).trans ?_
  pointwise

/-- A float32 stream at a row of the window; -/
theorem streamF_lo (a : Vec Ideal S2048x128 .f32) (nx : Vec Ideal S128x128 .f32) (y : Fin 2176) (l : Fin 128) (h : y.val < 2048) :
    View.canon (streamF a nx) (ix2 y l) = a (ix2 ⟨y.val, h⟩ l) := by
  refine (canon_rows_out _ _ _ l y (Or.inl h)).trans ((canon_rows_in _ _ _ ⟨y.val, h⟩ l y (by simp)).trans ?_)
  pointwise

/-- at a row of the next block. -/
theorem streamF_hi (a : Vec Ideal S2048x128 .f32) (nx : Vec Ideal S128x128 .f32) (y : Fin 2176) (l : Fin 128) (h : 2048 ≤ y.val) :
    View.canon (streamF a nx) (ix2 y l) = nx (ix2 ⟨y.val - 2048, by omega⟩ l) := by
  refine (canon_rows_in _ _ _ ⟨y.val - 2048, by omega⟩ l y (by show y.val = 2048 + (y.val - 2048); omega)).trans ?_
  pointwise

/-- A key stream at a row of the window; -/
theorem keysB_hi (kh : Vec Ideal S128x128 .f32) (a : Vec Ideal S2048x128 .f32) (y : Fin 2176) (l : Fin 128) (h : 128 ≤ y.val) :
    View.canon (keysB kh a) (ix2 y l) = a (ix2 ⟨y.val - 128, by omega⟩ l) := by
  refine (canon_rows_in _ _ _ ⟨y.val - 128, by omega⟩ l y (by show y.val = 128 + (y.val - 128); omega)).trans ?_
  pointwise

/-- at a row of the block before. -/
theorem keysB_lo (kh : Vec Ideal S128x128 .f32) (a : Vec Ideal S2048x128 .f32) (y : Fin 2176) (l : Fin 128) (h : y.val < 128) :
    View.canon (keysB kh a) (ix2 y l) = kh (ix2 ⟨y.val, h⟩ l) := by
  refine (canon_rows_out _ _ _ l y (Or.inl h)).trans ((canon_rows_in _ _ _ ⟨y.val, h⟩ l y (by simp)).trans ?_)
  pointwise

/-- What a running buffer holds after `n` blocks, when block `b` adds `U b`. -/
theorem acc_apply (v : View sig .tc .vmem S2048x128 .f32) (u : (b : ℕ) → 128 * b + 256 ≤ 2176 → FVec Ideal S256x128 .f32)
    (U : ℕ → ℕ → ℕ → EReal) (hu : ∀ b hb (k : Fin 256) (l : Fin 128), u b hb (ix2 k l) = U b k.val l.val) :
    ∀ (n : ℕ) (hn : n ≤ 16) (y : Fin 2048) (l : Fin 128),
      View.canon (accPieces v u n hn) (ix2 y l) =
        if y.val / 128 + 1 < n then U (y.val / 128) (128 + y.val % 128) l.val + U (y.val / 128 + 1) (y.val % 128) l.val
        else if y.val / 128 < n then U (y.val / 128) (128 + y.val % 128) l.val else (0 : EReal)
  | 0, hn, y, l => by
    rw [if_neg (by omega), if_neg (by omega)]
    refine (canon_rows_in _ _ _ y l y (by simp)).trans ?_
    pointwise
  | 1, hn, y, l => by
    rw [if_neg (by omega)]
    by_cases h : y.val < 128
    · rw [if_pos (by omega)]
      refine (canon_rows_in _ _ _ ⟨y.val, h⟩ l y (by simp)).trans ?_
      pointwise
      rw [readCov_rows v _ _ ⟨y.val, h⟩ l y (by simp), acc_apply v u U hu 0 (by omega) y l, if_neg (by omega), if_neg (by omega),
        zero_add, hu]
      have h1 : y.val / 128 = 0 := by omega
      have h2 : y.val % 128 = y.val := by omega
      rw [h1, h2]
    · rw [if_neg (by omega)]
      refine (canon_rows_out _ _ _ l y (Or.inr (by omega))).trans ?_
      rw [acc_apply v u U hu 0 (by omega) y l, if_neg (by omega), if_neg (by omega)]
  | b + 2, hn, y, l => by
    by_cases h : 128 * b ≤ y.val ∧ y.val < 128 * b + 256
    · refine (canon_rows_in _ _ _ ⟨y.val - 128 * b, by omega⟩ l y (by show y.val = 128 * b + (y.val - 128 * b); omega)).trans ?_
      pointwise
      rw [readCov_rows v _ _ ⟨y.val - 128 * b, by omega⟩ l y (by show y.val = 128 * b + (y.val - 128 * b); omega),
        acc_apply v u U hu (b + 1) (by omega) y l, hu]
      by_cases h1 : y.val < 128 * b + 128
      · have e1 : y.val / 128 = b := by omega
        have e2 : y.val - 128 * b = y.val % 128 := by omega
        rw [e1, if_neg (by omega), if_pos (by omega), if_pos (by omega)]
        simp only [e2]
      · have e1 : y.val / 128 = b + 1 := by omega
        have e2 : y.val - 128 * b = 128 + y.val % 128 := by omega
        rw [e1, if_neg (by omega), if_neg (by omega), if_neg (by omega), if_pos (by omega), zero_add]
        simp only [e2]
    · refine (canon_rows_out _ _ _ l y (by omega)).trans ?_
      rw [acc_apply v u U hu (b + 1) (by omega) y l]
      by_cases h1 : y.val < 128 * b
      · rw [if_pos (by omega), if_pos (by omega)]
      · rw [if_neg (by omega), if_neg (by omega), if_neg (by omega), if_neg (by omega)]

/-- The same with the next block's part `W` added at the window's last 128 rows. -/
theorem accLast_apply (v : View sig .tc .vmem S2048x128 .f32) (L : List (View.Piece (Elt Ideal) S2048x128 .f32)) (w : FVec Ideal S128x128 .f32)
    (y : Fin 2048) (l : Fin 128) :
    View.canon (accLast v L w) (ix2 y l) =
      if h : 1920 ≤ y.val then (View.canon L (ix2 y l) + w (ix2 ⟨y.val - 1920, by omega⟩ l) : EReal) else View.canon L (ix2 y l) := by
  by_cases h : 1920 ≤ y.val
  · rw [dif_pos h]
    refine (canon_rows_in _ _ _ ⟨y.val - 1920, by omega⟩ l y (by show y.val = 1920 + (y.val - 1920); omega)).trans ?_
    pointwise
    rw [readCov_rows v _ _ ⟨y.val - 1920, by omega⟩ l y (by show y.val = 1920 + (y.val - 1920); omega)]
  · rw [dif_neg h]
    exact canon_rows_out _ _ _ l y (by omega)

/-- What the queries' gradient buffer holds after `n` blocks. -/
theorem dqPieces_apply (R : Refs) (X : Blocks Ideal) : ∀ (n : ℕ) (hn : n ≤ 16) (y : Fin 2048) (l : Fin 128) (h : y.val < 128 * n),
    View.canon (dqPieces R X n hn) (ix2 y l) =
      dqOf (dsAt R X (y.val / 128) (by omega)) (kAt R X (y.val / 128) (by omega)) (ix2 ⟨y.val % 128, by omega⟩ l)
  | 0, hn, y, l, h => by omega
  | b + 1, hn, y, l, h => by
    by_cases h1 : y.val < 128 * b
    · refine (canon_rows_out _ _ _ l y (Or.inl h1)).trans (dqPieces_apply R X b (by omega) y l h1)
    · refine (canon_rows_in _ _ _ ⟨y.val - 128 * b, by omega⟩ l y (by show y.val = 128 * b + (y.val - 128 * b); omega)).trans ?_
      pointwise
      have e1 : y.val / 128 = b := by omega
      have e2 : y.val - 128 * b = y.val % 128 := by omega
      simp only [e2]
      subst e1
      rfl

end Cert.KernelIdeal.Step
-- ==== Proof.Attn.Spec.lean ====
/- The attention gradient of one banded pattern, as functions of a row and a lane. Rows come in blocks of 128; the
   queries of block `g` meet 256 keys, those of the block before and their own, and head `h` has lanes `64 h … 64 h + 63`. -/
module

public import Idealize.ShloMosaic.Lib.Pointwise

@[expose] public section

noncomputable section

namespace Cert.Attn

open Idealize.ShloMosaic

/-- The arrays, by row and lane, and the scores' bias by head, query and key of a block. -/
structure Rows where
  q : ℕ → ℕ → EReal
  k : ℕ → ℕ → EReal
  v : ℕ → ℕ → EReal
  d : ℕ → ℕ → EReal
  lg : ℕ → ℕ → EReal
  dl : ℕ → ℕ → EReal
  β : ℕ → ℕ → ℕ → EReal

/-- A matrix as a function of a row and a lane, zero outside. -/
def nat2 {m n : ℕ} (a : (⟨2, ![m, n]⟩ : Shape).Idx → EReal) (t l : ℕ) : EReal :=
  if h : t < m ∧ l < n then a (ix2 ⟨t, h.1⟩ ⟨l, h.2⟩) else 0

theorem nat2_eq {m n : ℕ} (a : (⟨2, ![m, n]⟩ : Shape).Idx → EReal) {t l : ℕ} (i : Fin m) (j : Fin n) (hi : t = i.val) (hj : l = j.val) :
    nat2 a t l = a (ix2 i j) := by
  subst hi hj
  exact dif_pos ⟨i.isLt, j.isLt⟩

variable (G : Rows)

/-- The weight of key `k` of the 256 for query `i` of block `g`; block 0 has no block before it. -/
def P (h g i k : ℕ) : EReal :=
  if g = 0 ∧ k < 128 then 0
  else Ideal.exp ((∑ e : Fin 64, G.q (128 * g + i) (64 * h + e.val) * G.k (128 * g + k - 128) (64 * h + e.val)) + G.β h i k
    - G.lg (128 * g + i) (64 * h))

/-- The gradient of that score. -/
def C (h g i k : ℕ) : EReal :=
  P G h g i k * ((∑ e : Fin 64, G.d (128 * g + i) (64 * h + e.val) * G.v (128 * g + k - 128) (64 * h + e.val))
    - G.dl (128 * g + i) (64 * h))

/-- The queries' gradient at row `t`, lane `l`. -/
def dq (t l : ℕ) : EReal := ∑ k : Fin 256, C G (l / 64) (t / 128) (t % 128) k.val * G.k (128 * (t / 128) + k.val - 128) l

/-- The keys' gradient: the queries of the row's own block, and those of the next. -/
def dk (t l : ℕ) : EReal :=
  (∑ i : Fin 128, C G (l / 64) (t / 128) i.val (128 + t % 128) * G.q (128 * (t / 128) + i.val) l)
    + if t / 128 + 1 < 64 then ∑ i : Fin 128, C G (l / 64) (t / 128 + 1) i.val (t % 128) * G.q (128 * (t / 128 + 1) + i.val) l else 0

/-- The values' gradient likewise. -/
def dv (t l : ℕ) : EReal :=
  (∑ i : Fin 128, P G (l / 64) (t / 128) i.val (128 + t % 128) * G.d (128 * (t / 128) + i.val) l)
    + if t / 128 + 1 < 64 then ∑ i : Fin 128, P G (l / 64) (t / 128 + 1) i.val (t % 128) * G.d (128 * (t / 128 + 1) + i.val) l else 0

end Cert.Attn
-- ==== Proof.Attn.Window.lean ====
/- A grid point's window of 2048 rows, for one pair of heads: when its input blocks are the arrays' (Spec.lean), its
   three results are the gradients' rows of the window. -/
module

public import proofs.«01_k».proof.Proof.Attn.Rows
public import proofs.«01_k».proof.Proof.Attn.Spec

@[expose] public section

set_option maxRecDepth 16384

noncomputable section

namespace Cert.KernelIdeal.Step

open Idealize.ShloMosaic Idealize.ShloMosaic.TcCoe Cert.KernelIdeal Cert.KernelIdeal.Gen

/-- The blocks of window `n`, heads `2 cb` and `2 cb + 1`, are those of the arrays `G`. -/
structure Holds (X : Blocks Ideal) (G : Attn.Rows) (cb n : ℕ) : Prop where
  hn : n < 4
  q : ∀ (r : Fin 2048) (l : Fin 128), X.q (ix2 r l) = G.q (2048 * n + r.val) (128 * cb + l.val)
  k : ∀ (r : Fin 2048) (l : Fin 128), X.k (ix2 r l) = G.k (2048 * n + r.val) (128 * cb + l.val)
  v : ∀ (r : Fin 2048) (l : Fin 128), X.v (ix2 r l) = G.v (2048 * n + r.val) (128 * cb + l.val)
  do_ : ∀ (r : Fin 2048) (l : Fin 128), X.do_ (ix2 r l) = G.d (2048 * n + r.val) (128 * cb + l.val)
  lg : ∀ (r : Fin 2048) (l : Fin 128), X.lg (ix2 r l) = G.lg (2048 * n + r.val) (128 * cb + l.val)
  dl : ∀ (r : Fin 2048) (l : Fin 128), X.dl (ix2 r l) = G.dl (2048 * n + r.val) (128 * cb + l.val)
  kh : 0 < n → ∀ r l : Fin 128, X.kh (ix2 r l) = G.k (2048 * n + r.val - 128) (128 * cb + l.val)
  vh : 0 < n → ∀ r l : Fin 128, X.vh (ix2 r l) = G.v (2048 * n + r.val - 128) (128 * cb + l.val)
  qx : n < 3 → ∀ r l : Fin 128, X.qx (ix2 r l) = G.q (2048 * n + 2048 + r.val) (128 * cb + l.val)
  dox : n < 3 → ∀ r l : Fin 128, X.dox (ix2 r l) = G.d (2048 * n + 2048 + r.val) (128 * cb + l.val)
  lgx : n < 3 → ∀ r l : Fin 128, X.lgx (ix2 r l) = G.lg (2048 * n + 2048 + r.val) (128 * cb + l.val)
  dlx : n < 3 → ∀ r l : Fin 128, X.dlx (ix2 r l) = G.dl (2048 * n + 2048 + r.val) (128 * cb + l.val)
  bias : ∀ ρ k : Fin 256, X.bias (ix3 0 ρ k) = G.β (2 * cb + ρ.val / 128) (ρ.val % 128) k.val
  biasL : ∀ (ρ : Fin 256) (k : Fin 128), X.biasL (ix3 0 ρ k) = G.β (2 * cb + ρ.val / 128) (ρ.val % 128) k.val
  inv : X.inv = 1#1 ↔ n = 0

section

variable {R : Refs} {X : Blocks Ideal} {G : Attn.Rows} {cb n : ℕ} (hX : Holds X G cb n)
include hX

/-- Block `b` of the window's streams, and the next window's first block. -/
theorem qAt_eq (b : ℕ) (hb) (h : b < 16 ∨ n < 3) (i l : Fin 128) :
    qAt R X b hb (ix2 i l) = G.q (128 * (16 * n + b) + i.val) (128 * cb + l.val) := by
  refine (readCov_rows _ _ _ i l ⟨128 * b + i.val, by omega⟩ rfl).trans ?_
  by_cases hb' : b < 16
  · rw [streamB_lo _ _ _ _ (by show 128 * b + i.val < 2048; omega), hX.q]
    congr 1; show 2048 * n + (128 * b + i.val) = _; omega
  · rw [streamB_hi _ _ _ _ (by show 2048 ≤ 128 * b + i.val; omega), hX.qx (by omega)]
    congr 1; show 2048 * n + 2048 + (128 * b + i.val - 2048) = _; omega

@[inherit_doc qAt_eq] theorem doAt_eq (b : ℕ) (hb) (h : b < 16 ∨ n < 3) (i l : Fin 128) :
    doAt R X b hb (ix2 i l) = G.d (128 * (16 * n + b) + i.val) (128 * cb + l.val) := by
  refine (readCov_rows _ _ _ i l ⟨128 * b + i.val, by omega⟩ rfl).trans ?_
  by_cases hb' : b < 16
  · rw [streamB_lo _ _ _ _ (by show 128 * b + i.val < 2048; omega), hX.do_]
    congr 1; show 2048 * n + (128 * b + i.val) = _; omega
  · rw [streamB_hi _ _ _ _ (by show 2048 ≤ 128 * b + i.val; omega), hX.dox (by omega)]
    congr 1; show 2048 * n + 2048 + (128 * b + i.val - 2048) = _; omega

@[inherit_doc qAt_eq] theorem lgAt_eq (b : ℕ) (hb) (h : b < 16 ∨ n < 3) (i l : Fin 128) :
    lgAt R X b hb (ix2 i l) = G.lg (128 * (16 * n + b) + i.val) (128 * cb + l.val) := by
  refine (readCov_rows _ _ _ i l ⟨128 * b + i.val, by omega⟩ rfl).trans ?_
  by_cases hb' : b < 16
  · rw [streamF_lo _ _ _ _ (by show 128 * b + i.val < 2048; omega), hX.lg]
    congr 1; show 2048 * n + (128 * b + i.val) = _; omega
  · rw [streamF_hi _ _ _ _ (by show 2048 ≤ 128 * b + i.val; omega), hX.lgx (by omega)]
    congr 1; show 2048 * n + 2048 + (128 * b + i.val - 2048) = _; omega

@[inherit_doc qAt_eq] theorem dlAt_eq (b : ℕ) (hb) (h : b < 16 ∨ n < 3) (i l : Fin 128) :
    dlAt R X b hb (ix2 i l) = G.dl (128 * (16 * n + b) + i.val) (128 * cb + l.val) := by
  refine (readCov_rows _ _ _ i l ⟨128 * b + i.val, by omega⟩ rfl).trans ?_
  by_cases hb' : b < 16
  · rw [streamF_lo _ _ _ _ (by show 128 * b + i.val < 2048; omega), hX.dl]
    congr 1; show 2048 * n + (128 * b + i.val) = _; omega
  · rw [streamF_hi _ _ _ _ (by show 2048 ≤ 128 * b + i.val; omega), hX.dlx (by omega)]
    congr 1; show 2048 * n + 2048 + (128 * b + i.val - 2048) = _; omega

/-- A row of the key stream; the block before exists but for window 0. -/
theorem keys_eq (y : Fin 2176) (l : Fin 128) (h : 128 ≤ y.val ∨ 0 < n) :
    View.canon (keysB X.kh X.k) (ix2 y l) = G.k (2048 * n + y.val - 128) (128 * cb + l.val) := by
  by_cases hy : 128 ≤ y.val
  · rw [keysB_hi _ _ _ _ hy, hX.k]
    congr 1; show 2048 * n + (y.val - 128) = _; omega
  · rw [keysB_lo _ _ _ _ (by omega), hX.kh (by omega)]

@[inherit_doc keys_eq] theorem vals_eq (y : Fin 2176) (l : Fin 128) (h : 128 ≤ y.val ∨ 0 < n) :
    View.canon (keysB X.vh X.v) (ix2 y l) = G.v (2048 * n + y.val - 128) (128 * cb + l.val) := by
  by_cases hy : 128 ≤ y.val
  · rw [keysB_hi _ _ _ _ hy, hX.v]
    congr 1; show 2048 * n + (y.val - 128) = _; omega
  · rw [keysB_lo _ _ _ _ (by omega), hX.vh (by omega)]

theorem kAt_eq (b : ℕ) (hb) (k : Fin 256) (l : Fin 128) (h : ¬ (16 * n + b = 0 ∧ k.val < 128)) :
    kAt R X b hb (ix2 k l) = G.k (128 * (16 * n + b) + k.val - 128) (128 * cb + l.val) := by
  refine (readCov_rows _ _ _ k l ⟨128 * b + k.val, by omega⟩ rfl).trans ?_
  rw [keys_eq hX _ _ (by show 128 ≤ 128 * b + k.val ∨ _; omega)]
  congr 1; show 2048 * n + (128 * b + k.val) - 128 = _; omega

theorem vAt_eq (b : ℕ) (hb) (k : Fin 256) (l : Fin 128) (h : ¬ (16 * n + b = 0 ∧ k.val < 128)) :
    vAt R X b hb (ix2 k l) = G.v (128 * (16 * n + b) + k.val - 128) (128 * cb + l.val) := by
  refine (readCov_rows _ _ _ k l ⟨128 * b + k.val, by omega⟩ rfl).trans ?_
  rw [vals_eq hX _ _ (by show 128 ≤ 128 * b + k.val ∨ _; omega)]
  congr 1; show 2048 * n + (128 * b + k.val) - 128 = _; omega

/-- The scores of a block that has keys there. -/
theorem score_eq (b : ℕ) (hb : 128 * b + 256 ≤ 2176) (ρ k : Fin 256) (h : ¬ (16 * n + b = 0 ∧ k.val < 128)) :
    score (qAt R X b (by omega)) (kAt R X b hb) X.bias (ix2 ρ k) =
      (∑ e : Fin 64, G.q (128 * (16 * n + b) + ρ.val % 128) (64 * (2 * cb + ρ.val / 128) + e.val) *
        G.k (128 * (16 * n + b) + k.val - 128) (64 * (2 * cb + ρ.val / 128) + e.val)) + G.β (2 * cb + ρ.val / 128) (ρ.val % 128) k.val := by
  rw [score_apply, hX.bias]
  congr 1
  refine Finset.sum_congr rfl fun e _ => ?_
  rw [qAt_eq hX b _ (by omega), kAt_eq hX b _ _ _ h]
  have e1 : 128 * cb + (64 * (ρ.val / 128) + e.val) = 64 * (2 * cb + ρ.val / 128) + e.val := by omega
  simp only [e1]

theorem pAt_eq (b : ℕ) (hb : 128 * b + 256 ≤ 2176) (ρ k : Fin 256) :
    pAt R X b hb (ix2 ρ k) = Attn.P G (2 * cb + ρ.val / 128) (16 * n + b) (ρ.val % 128) k.val := by
  have e2 : 128 * cb + 64 * (ρ.val / 128) = 64 * (2 * cb + ρ.val / 128) := by omega
  rcases b with _ | b
  · show prob (masked X.inv (score (qAt R X 0 _) (kAt R X 0 hb) X.bias)) (lgAt R X 0 _) (ix2 ρ k) = _
    unfold Attn.P
    rw [prob_apply, masked_apply, lgAt_eq hX 0 _ (by omega)]
    by_cases h : 16 * n + 0 = 0 ∧ k.val < 128
    · rw [if_pos h, if_pos ⟨h.2, hX.inv.mpr (by omega)⟩, EReal.bot_sub, Ideal.exp_bot]
    · rw [if_neg h, if_neg (fun h' => h ⟨by have := hX.inv.mp h'.2; omega, h'.1⟩), score_eq hX 0 hb ρ k h]
      simp only [e2]
  · show prob (score (qAt R X (b + 1) _) (kAt R X (b + 1) hb) X.bias) (lgAt R X (b + 1) _) (ix2 ρ k) = _
    unfold Attn.P
    rw [prob_apply, lgAt_eq hX (b + 1) _ (by omega), if_neg (by omega), score_eq hX (b + 1) hb ρ k (by omega)]
    simp only [e2]

theorem dsAt_eq (b : ℕ) (hb : 128 * b + 256 ≤ 2176) (ρ k : Fin 256) :
    dsAt R X b hb (ix2 ρ k) = Attn.C G (2 * cb + ρ.val / 128) (16 * n + b) (ρ.val % 128) k.val := by
  unfold dsAt
  rw [dscore_apply, pAt_eq hX]
  by_cases h : 16 * n + b = 0 ∧ k.val < 128
  · unfold Attn.C Attn.P
    rw [if_pos h, zero_mul, zero_mul]
  · unfold Attn.C
    have e2 : 128 * cb + 64 * (ρ.val / 128) = 64 * (2 * cb + ρ.val / 128) := by omega
    rw [dlAt_eq hX b _ (by omega)]
    simp only [e2]
    congr 2
    refine Finset.sum_congr rfl fun e _ => ?_
    rw [doAt_eq hX b _ (by omega), vAt_eq hX b _ _ _ h]
    have e1 : 128 * cb + (64 * (ρ.val / 128) + e.val) = 64 * (2 * cb + ρ.val / 128) + e.val := by omega
    simp only [e1]

/-- The queries' gradient. -/
theorem dq_eq (y : Fin 2048) (l : Fin 128) :
    View.canon (dqPieces R X 16 (by decide)) (ix2 y l) = Attn.dq G (2048 * n + y.val) (128 * cb + l.val) := by
  rw [dqPieces_apply R X 16 _ y l (by omega), dqOf_apply]
  unfold Attn.dq
  have e1 : (2048 * n + y.val) / 128 = 16 * n + y.val / 128 := by omega
  have e2 : (2048 * n + y.val) % 128 = y.val % 128 := by omega
  have e3 : (128 * cb + l.val) / 64 = 2 * cb + l.val / 64 := by omega
  rw [e1, e2, e3]
  refine Finset.sum_congr rfl fun k _ => ?_
  rw [dsAt_eq hX]
  have e4 : (128 * (l.val / 64) + y.val % 128) / 128 = l.val / 64 := by omega
  have e5 : (128 * (l.val / 64) + y.val % 128) % 128 = y.val % 128 := by omega
  simp only [e4, e5]
  by_cases h : 16 * n + y.val / 128 = 0 ∧ k.val < 128
  · unfold Attn.C Attn.P
    rw [if_pos h, zero_mul, zero_mul, zero_mul]
  · rw [kAt_eq hX _ _ _ _ h]

theorem tn_ds_eq (b : ℕ) (hb : 128 * b + 256 ≤ 2176) (k : Fin 256) (l : Fin 128) :
    tn (dsAt R X b hb) (qAt R X b (by omega)) (ix2 k l) =
      ∑ i : Fin 128, Attn.C G (2 * cb + l.val / 64) (16 * n + b) i.val k.val * G.q (128 * (16 * n + b) + i.val) (128 * cb + l.val) := by
  rw [tn_apply]
  refine Finset.sum_congr rfl fun i _ => ?_
  rw [dsAt_eq hX, qAt_eq hX b _ (by omega)]
  have e4 : (128 * (l.val / 64) + i.val) / 128 = l.val / 64 := by omega
  have e5 : (128 * (l.val / 64) + i.val) % 128 = i.val := by omega
  simp only [e4, e5]

theorem tn_p_eq (b : ℕ) (hb : 128 * b + 256 ≤ 2176) (k : Fin 256) (l : Fin 128) :
    tn (truncf .bf16 (pAt R X b hb) bitsLt_bf16_f32) (doAt R X b (by omega)) (ix2 k l) =
      ∑ i : Fin 128, Attn.P G (2 * cb + l.val / 64) (16 * n + b) i.val k.val * G.d (128 * (16 * n + b) + i.val) (128 * cb + l.val) := by
  rw [tn_apply]
  refine Finset.sum_congr rfl fun i _ => ?_
  pointwise
  rw [pAt_eq hX, doAt_eq hX b _ (by omega)]
  have e4 : (128 * (l.val / 64) + i.val) / 128 = l.val / 64 := by omega
  have e5 : (128 * (l.val / 64) + i.val) % 128 = i.val := by omega
  simp only [e4, e5]

/-- The next window's weights against this window's last 128 keys. -/
theorem pLast_eq (h : n < 3) (ρ : Fin 256) (k : Fin 128) :
    pLast R X (ix2 ρ k) = Attn.P G (2 * cb + ρ.val / 128) (16 * n + 16) (ρ.val % 128) k.val := by
  have e2 : 128 * cb + 64 * (ρ.val / 128) = 64 * (2 * cb + ρ.val / 128) := by omega
  unfold pLast Attn.P
  rw [probL_apply, if_neg (by omega), lgAt_eq hX 16 _ (Or.inr h), hX.biasL]
  simp only [e2]
  congr 3
  refine Finset.sum_congr rfl fun e _ => ?_
  have e1 : 128 * cb + (64 * (ρ.val / 128) + e.val) = 64 * (2 * cb + ρ.val / 128) + e.val := by omega
  rw [qAt_eq hX 16 _ (Or.inr h)]
  unfold kLast
  rw [readCov_rows _ _ _ k _ ⟨2048 + k.val, by omega⟩ rfl, keys_eq hX _ _ (by show 128 ≤ 2048 + k.val ∨ _; omega)]
  have e3 : 2048 * n + (2048 + k.val) - 128 = 128 * (16 * n + 16) + k.val - 128 := by omega
  simp only [e1, e3]

theorem dsLast_eq (h : n < 3) (ρ : Fin 256) (k : Fin 128) :
    dsLast R X (ix2 ρ k) = Attn.C G (2 * cb + ρ.val / 128) (16 * n + 16) (ρ.val % 128) k.val := by
  have e2 : 128 * cb + 64 * (ρ.val / 128) = 64 * (2 * cb + ρ.val / 128) := by omega
  unfold dsLast Attn.C
  rw [dscoreL_apply, pLast_eq hX h, dlAt_eq hX 16 _ (Or.inr h)]
  simp only [e2]
  congr 2
  refine Finset.sum_congr rfl fun e _ => ?_
  have e1 : 128 * cb + (64 * (ρ.val / 128) + e.val) = 64 * (2 * cb + ρ.val / 128) + e.val := by omega
  rw [doAt_eq hX 16 _ (Or.inr h)]
  unfold vLast
  rw [readCov_rows _ _ _ k _ ⟨2048 + k.val, by omega⟩ rfl, vals_eq hX _ _ (by show 128 ≤ 2048 + k.val ∨ _; omega)]
  have e3 : 2048 * n + (2048 + k.val) - 128 = 128 * (16 * n + 16) + k.val - 128 := by omega
  simp only [e1, e3]

end

/-- The shape of both running sums: a block's own part and the next block's. -/
theorem acc_spec (U : ℕ → ℕ → ℕ → EReal) (y : Fin 2048) (l : Fin 128) :
    (if y.val / 128 + 1 < 16 then U (y.val / 128) (128 + y.val % 128) l.val + U (y.val / 128 + 1) (y.val % 128) l.val
      else if y.val / 128 < 16 then U (y.val / 128) (128 + y.val % 128) l.val else (0 : EReal)) =
    U (y.val / 128) (128 + y.val % 128) l.val + if y.val / 128 + 1 < 16 then U (y.val / 128 + 1) (y.val % 128) l.val else 0 := by
  by_cases h : y.val / 128 + 1 < 16
  · rw [if_pos h, if_pos h]
  · rw [if_neg h, if_neg h, if_pos (by omega), add_zero]

section

variable {R : Refs} {X : Blocks Ideal} {G : Attn.Rows} {cb n : ℕ} (hX : Holds X G cb n)
include hX

/-- The running sum of the keys' gradient after the window's blocks. -/
theorem dkPieces_eq (y : Fin 2048) (l : Fin 128) :
    View.canon (dkPieces R X) (ix2 y l) =
      (∑ i : Fin 128, Attn.C G (2 * cb + l.val / 64) (16 * n + y.val / 128) i.val (128 + y.val % 128) *
        G.q (128 * (16 * n + y.val / 128) + i.val) (128 * cb + l.val)) +
      if y.val / 128 + 1 < 16 then ∑ i : Fin 128, Attn.C G (2 * cb + l.val / 64) (16 * n + (y.val / 128 + 1)) i.val (y.val % 128) *
        G.q (128 * (16 * n + (y.val / 128 + 1)) + i.val) (128 * cb + l.val) else 0 :=
  (acc_apply R.dk _ (fun b k l => ∑ i : Fin 128, Attn.C G (2 * cb + l / 64) (16 * n + b) i.val k * G.q (128 * (16 * n + b) + i.val) (128 * cb + l))
    (fun b hb k l => tn_ds_eq hX b hb k l) 16 (by decide) y l).trans
    (acc_spec (fun b k l => ∑ i : Fin 128, Attn.C G (2 * cb + l / 64) (16 * n + b) i.val k * G.q (128 * (16 * n + b) + i.val) (128 * cb + l)) y l)

/-- The running sum of the values' gradient after the window's blocks. -/
theorem dvPieces_eq (y : Fin 2048) (l : Fin 128) :
    View.canon (dvPieces R X) (ix2 y l) =
      (∑ i : Fin 128, Attn.P G (2 * cb + l.val / 64) (16 * n + y.val / 128) i.val (128 + y.val % 128) *
        G.d (128 * (16 * n + y.val / 128) + i.val) (128 * cb + l.val)) +
      if y.val / 128 + 1 < 16 then ∑ i : Fin 128, Attn.P G (2 * cb + l.val / 64) (16 * n + (y.val / 128 + 1)) i.val (y.val % 128) *
        G.d (128 * (16 * n + (y.val / 128 + 1)) + i.val) (128 * cb + l.val) else 0 :=
  (acc_apply R.dv _ (fun b k l => ∑ i : Fin 128, Attn.P G (2 * cb + l / 64) (16 * n + b) i.val k * G.d (128 * (16 * n + b) + i.val) (128 * cb + l))
    (fun b hb k l => tn_p_eq hX b hb k l) 16 (by decide) y l).trans
    (acc_spec (fun b k l => ∑ i : Fin 128, Attn.P G (2 * cb + l / 64) (16 * n + b) i.val k * G.d (128 * (16 * n + b) + i.val) (128 * cb + l)) y l)

/-- The keys' gradient in the last window. -/
theorem dk_eq_last (h : n = 3) (y : Fin 2048) (l : Fin 128) :
    View.canon (dkPieces R X) (ix2 y l) = Attn.dk G (2048 * n + y.val) (128 * cb + l.val) := by
  rw [dkPieces_eq hX]
  unfold Attn.dk
  have e1 : (2048 * n + y.val) / 128 = 16 * n + y.val / 128 := by omega
  have e2 : (2048 * n + y.val) % 128 = y.val % 128 := by omega
  have e3 : (128 * cb + l.val) / 64 = 2 * cb + l.val / 64 := by omega
  rw [e1, e2, e3]
  congr 1
  by_cases hy : y.val / 128 + 1 < 16
  · rw [if_pos hy, if_pos (by omega)]; rfl
  · rw [if_neg hy, if_neg (by omega)]

/-- The values' gradient in the last window. -/
theorem dv_eq_last (h : n = 3) (y : Fin 2048) (l : Fin 128) :
    View.canon (dvPieces R X) (ix2 y l) = Attn.dv G (2048 * n + y.val) (128 * cb + l.val) := by
  rw [dvPieces_eq hX]
  unfold Attn.dv
  have e1 : (2048 * n + y.val) / 128 = 16 * n + y.val / 128 := by omega
  have e2 : (2048 * n + y.val) % 128 = y.val % 128 := by omega
  have e3 : (128 * cb + l.val) / 64 = 2 * cb + l.val / 64 := by omega
  rw [e1, e2, e3]
  congr 1
  by_cases hy : y.val / 128 + 1 < 16
  · rw [if_pos hy, if_pos (by omega)]; rfl
  · rw [if_neg hy, if_neg (by omega)]

/-- The keys' gradient in a window that has a next one. -/
theorem dk_eq (h : n < 3) (y : Fin 2048) (l : Fin 128) :
    View.canon (dkPiecesL R X) (ix2 y l) = Attn.dk G (2048 * n + y.val) (128 * cb + l.val) := by
  unfold dkPiecesL
  rw [accLast_apply]
  rw [dkPieces_eq hX]
  unfold Attn.dk
  have e1 : (2048 * n + y.val) / 128 = 16 * n + y.val / 128 := by omega
  have e2 : (2048 * n + y.val) % 128 = y.val % 128 := by omega
  have e3 : (128 * cb + l.val) / 64 = 2 * cb + l.val / 64 := by omega
  rw [e1, e2, e3]
  by_cases hy : 1920 ≤ y.val
  · rw [dif_pos hy, if_neg (by omega), if_pos (by omega), add_zero, tnL_apply]
    congr 1
    refine Finset.sum_congr rfl fun i _ => ?_
    rw [dsLast_eq hX h, qAt_eq hX 16 _ (Or.inr h)]
    have e4 : (128 * (l.val / 64) + i.val) / 128 = l.val / 64 := by omega
    have e5 : (128 * (l.val / 64) + i.val) % 128 = i.val := by omega
    have e6 : 16 * n + y.val / 128 + 1 = 16 * n + 16 := by omega
    have e7 : y.val - 1920 = y.val % 128 := by omega
    simp only [e4, e5, e6, e7]
  · rw [dif_neg hy, if_pos (by omega), if_pos (by omega)]; rfl

/-- The values' gradient in a window that has a next one. -/
theorem dv_eq (h : n < 3) (y : Fin 2048) (l : Fin 128) :
    View.canon (dvPiecesL R X) (ix2 y l) = Attn.dv G (2048 * n + y.val) (128 * cb + l.val) := by
  unfold dvPiecesL
  rw [accLast_apply]
  rw [dvPieces_eq hX]
  unfold Attn.dv
  have e1 : (2048 * n + y.val) / 128 = 16 * n + y.val / 128 := by omega
  have e2 : (2048 * n + y.val) % 128 = y.val % 128 := by omega
  have e3 : (128 * cb + l.val) / 64 = 2 * cb + l.val / 64 := by omega
  rw [e1, e2, e3]
  by_cases hy : 1920 ≤ y.val
  · rw [dif_pos hy, if_neg (by omega), if_pos (by omega), add_zero, tnL_apply]
    congr 1
    refine Finset.sum_congr rfl fun i _ => ?_
    pointwise
    rw [pLast_eq hX h, doAt_eq hX 16 _ (Or.inr h)]
    have e4 : (128 * (l.val / 64) + i.val) / 128 = l.val / 64 := by omega
    have e5 : (128 * (l.val / 64) + i.val) % 128 = i.val := by omega
    have e6 : 16 * n + y.val / 128 + 1 = 16 * n + 16 := by omega
    have e7 : y.val - 1920 = y.val % 128 := by omega
    simp only [e4, e5, e6, e7]
  · rw [dif_neg hy, if_pos (by omega), if_pos (by omega)]; rfl

end

end Cert.KernelIdeal.Step
-- ==== Proof.Attn.Table.lean ====
/- The bias of a score and the band of keys that a query sees, from the words that both programs compute them with. -/
module

public import proofs.«01_k».proof.Proof.Attn.Spec
public import Idealize.ShloMosaic.Lib.Affine
public import Idealize.ShloMosaic.Lib.IdealHost
public import Idealize.ShloMosaic.Lib.ValueIdx

@[expose] public section

noncomputable section

namespace Cert.Attn

open Idealize.ShloMosaic

/-- How far query `i` of a block lies behind key `k` of its 256, as a word. -/
abbrev behind (i k : ℕ) : BitVec 32 := IntOp.subi (IntOp.addi (BitVec.ofNat 32 i) 128#32) (BitVec.ofNat 32 k)

theorem toInt_ofInt_small {x : ℤ} (h : -32768 ≤ x) (h' : x < 32768) : (BitVec.ofInt 32 x).toInt = x := by
  rw [BitVec.toInt_ofInt]
  exact Int.bmod_eq_of_le (by norm_num; omega) (by norm_num; omega)

theorem ofInt_sub' (x y : ℤ) : BitVec.ofInt 32 (x - y) = BitVec.ofInt 32 x - BitVec.ofInt 32 y := by
  have h : BitVec.ofInt 32 x = BitVec.ofInt 32 (x - y) + BitVec.ofInt 32 y := by rw [← BitVec.ofInt_add, sub_add_cancel]
  rw [h, BitVec.add_sub_cancel]

theorem toInt_behind {i k : ℕ} (hi : i < 128) (hk : k < 256) : (behind i k).toInt = 128 + i - k := by
  have h : behind i k = BitVec.ofInt 32 (128 + i - k) := by
    show BitVec.ofNat 32 i + 128#32 - BitVec.ofNat 32 k = _
    rw [ofInt_sub', BitVec.ofInt_add, BitVec.ofInt_natCast, BitVec.ofInt_natCast, BitVec.add_comm]
    rfl
  rw [h]
  exact toInt_ofInt_small (by omega) (by omega)

/-- The band: a query sees the keys at most 128 behind it. -/
theorem band_iff {i k : ℕ} (hi : i < 128) (hk : k < 256) :
    IntOp.andi (IntOp.cmpi .sge (behind i k) 0#32) (IntOp.cmpi .sle (behind i k) 128#32) = 1#1 ↔ i ≤ k ∧ k ≤ i + 128 := by
  rw [IntOp.andi_eq_one, IntOp.cmpi_sge, IntOp.cmpi_sle, toInt_behind hi hk]
  have h0 : (0#32).toInt = 0 := by decide
  have h1 : (128#32).toInt = 128 := by decide
  rw [h0, h1]
  omega

/-- A key of block `g` lies at row 0 or later. -/
theorem inside_iff {g k : ℕ} (hg : g < 64) (hk : k < 256) :
    IntOp.cmpi .sge (IntOp.addi (IntOp.subi (IntOp.muli (BitVec.ofNat 32 g) 128#32) 128#32) (BitVec.ofNat 32 k)) 0#32 = 1#1
      ↔ ¬ (g = 0 ∧ k < 128) := by
  have h : IntOp.addi (IntOp.subi (IntOp.muli (BitVec.ofNat 32 g) 128#32) 128#32) (BitVec.ofNat 32 k) = BitVec.ofInt 32 (g * 128 - 128 + k) := by
    show BitVec.ofNat 32 g * 128#32 - 128#32 + BitVec.ofNat 32 k = _
    rw [BitVec.ofInt_add, ofInt_sub', BitVec.ofInt_mul, BitVec.ofInt_natCast, BitVec.ofInt_natCast]
    rfl
  rw [IntOp.cmpi_sge, h, toInt_ofInt_small (by omega) (by omega)]
  have h0 : (0#32).toInt = 0 := by decide
  rw [h0]
  omega

/-- The distance, as the bias takes it. -/
theorem dist_eq {i k : ℕ} (hi : i < 128) (hk : k < 256) :
    (FloatOps.sitofp (F := Ideal) .f32 (IntOp.muli (behind i k) 1#32) : EReal) = (((128 + i - k : ℤ) : ℝ) : EReal) := by
  have h : IntOp.muli (behind i k) 1#32 = behind i k := by
    show behind i k * 1#32 = _
    rw [BitVec.mul_one]
  rw [h]
  show (((behind i k).toInt : ℝ) : EReal) = _
  rw [toInt_behind hi hk]

/-- A head's slope, `2 ^ -(h + 1)`. -/
def slope (h : ℕ) : EReal := Ideal.pow (Ideal.ofBits .f32 0x40000000#32) (-(((h : ℝ) : EReal) + 1))

/-- The bias of head `h` between query `i` of a block and key `k` of its 256: less the slope times the distance, and
    `-∞` outside the band. -/
def beta (h i k : ℕ) : EReal :=
  if i ≤ k ∧ k ≤ i + 128 then -slope h * (((128 + i - k : ℤ) : ℝ) : EReal) else ⊥

theorem toInt_head {h : ℕ} (hh : h < 8) : (BitVec.ofNat 32 h).toInt = h := by
  rw [← BitVec.ofInt_natCast]
  exact toInt_ofInt_small (by omega) (by omega)

theorem neg_inf : Ideal.ofBits .f32 0xFF800000#32 = ⊥ := by simp [Ideal.ofBits, Ideal.ieee]
theorem neg_eight : Ideal.ofBits .f32 0xC1000000#32 = ((-8 : ℝ) : EReal) := by
  simp [Ideal.ofBits, Ideal.ieee]
  rw [← EReal.coe_mul]
  norm_num
theorem eight : Ideal.ofBits .f32 0x41000000#32 = ((8 : ℝ) : EReal) := by
  simp [Ideal.ofBits, Ideal.ieee]
  rw [← EReal.coe_mul]
  norm_num

/-- The slope as the table computes it, -/
theorem slope_table {h : ℕ} (hh : h < 8) :
    Ideal.pow (Ideal.ofBits .f32 0x40000000#32) (-(FloatOps.sitofp (F := Ideal) .f32 (BitVec.ofNat 32 h) + 1)) = slope h := by
  show Ideal.pow _ (-((((BitVec.ofNat 32 h).toInt : ℝ) : EReal) + 1)) = _
  rw [toInt_head hh]
  rfl

/-- and as `-8 (1 + h) / 8` gives it. -/
theorem slope_ref {h : ℕ} (hh : h < 8) :
    Ideal.pow (Ideal.ofBits .f32 0x40000000#32)
      (Ideal.div (Ideal.ofBits .f32 0xC1000000#32 * (1 + FloatOps.sitofp (F := Ideal) .f32 (BitVec.ofNat 32 h))) (Ideal.ofBits .f32 0x41000000#32)) = slope h := by
  show Ideal.pow _ (Ideal.div (_ * (1 + (((BitVec.ofNat 32 h).toInt : ℝ) : EReal))) _) = _
  rw [toInt_head hh, neg_eight, eight, Ideal.div_coe (by norm_num), slope]
  congr 1
  rw [← EReal.coe_one, ← EReal.coe_add, ← EReal.coe_add, ← EReal.coe_neg, ← EReal.coe_mul, ← EReal.coe_mul]
  congr 1
  push_cast
  ring

end Cert.Attn
-- ==== Proof.Attn.Blocks.lean ====
/- What each grid point's input blocks hold: rows and lanes of the arguments. -/
module

public import proofs.«01_k».proof.Proof.Gen.KernelIdeal.Frame.Runs
public import proofs.«01_k».proof.Proof.Attn.Table
public import Idealize.ShloMosaic.Lib.Pipeline.ValueKit
public import Idealize.ShloMosaic.Lib.Claim

@[expose] public section

set_option maxRecDepth 16384

noncomputable section

namespace Cert.KernelIdeal.Step

open Idealize.ShloMosaic Idealize.ShloMosaic.TcCoe Cert.KernelIdeal Cert.KernelIdeal.Gen

variable (m : (ℓ : Loc nD τ sig) → Buf (Elt Ideal) ℓ) (c : Dev nD)

/-- An argument as a function of a row and a lane. -/
abbrev arg0 : ℕ → ℕ → EReal := Attn.nat2 (m ((c : Thread nD τ).loc main_arg0))
@[inherit_doc arg0] abbrev arg1 : ℕ → ℕ → EReal := Attn.nat2 (m ((c : Thread nD τ).loc main_arg1))
@[inherit_doc arg0] abbrev arg2 : ℕ → ℕ → EReal := Attn.nat2 (m ((c : Thread nD τ).loc main_arg2))
@[inherit_doc arg0] abbrev arg3 : ℕ → ℕ → EReal := Attn.nat2 (m ((c : Thread nD τ).loc main_arg3))
@[inherit_doc arg0] abbrev arg4 : ℕ → ℕ → EReal := Attn.nat2 (m ((c : Thread nD τ).loc main_arg4))
@[inherit_doc arg0] abbrev arg5 : ℕ → ℕ → EReal := Attn.nat2 (m ((c : Thread nD τ).loc main_arg5))
@[inherit_doc arg0] abbrev arg6 : ℕ → ℕ → EReal := Attn.nat2 (m ((c : Thread nD τ).loc main_arg6))
@[inherit_doc arg0] abbrev arg7 : ℕ → ℕ → EReal := Attn.nat2 (m ((c : Thread nD τ).loc main_arg7))
@[inherit_doc arg0] abbrev arg8 : ℕ → ℕ → EReal := Attn.nat2 (m ((c : Thread nD τ).loc main_arg8))

/-! ## The windows of 2048 rows: point `t` has window `t % 4` and the two heads of `t / 4`. -/

theorem at0 (t : Fin cfg0.N) : win0_0.index t = ![t.val % 4, t.val / 4] := by
  revert t; exact (by decide +kernel : ∀ t : Fin grid0.N, win0_0.index t = ![t.val % 4, t.val / 4])

theorem iblk0 (t : Fin cfg0.N) (r : Fin 2048) (l : Fin 128) :
    iblk m c 0 t (ix2 r l) = arg0 m c (2048 * (t.val % 4) + r.val) ((128 * (t.val / 4) + l.val)) := by
  have ht : t.val < 16 := t.isLt
  refine Eq.trans ?_ (Attn.nat2_eq _ ⟨2048 * (t.val % 4) + r.val, by omega⟩ ⟨(128 * (t.val / 4) + l.val), by omega⟩ rfl rfl).symm
  blk_ext [iblk, V, at0 t]

theorem at1 (t : Fin cfg0.N) : win0_1.index t = ![t.val % 4, t.val / 4] := by
  revert t; exact (by decide +kernel : ∀ t : Fin grid0.N, win0_1.index t = ![t.val % 4, t.val / 4])

theorem iblk1 (t : Fin cfg0.N) (r : Fin 2048) (l : Fin 128) :
    iblk m c 1 t (ix2 r l) = arg1 m c (2048 * (t.val % 4) + r.val) ((128 * (t.val / 4) + l.val)) := by
  have ht : t.val < 16 := t.isLt
  refine Eq.trans ?_ (Attn.nat2_eq _ ⟨2048 * (t.val % 4) + r.val, by omega⟩ ⟨(128 * (t.val / 4) + l.val), by omega⟩ rfl rfl).symm
  blk_ext [iblk, V, at1 t]

theorem at2 (t : Fin cfg0.N) : win0_2.index t = ![t.val % 4, 16 + t.val / 4] := by
  revert t; exact (by decide +kernel : ∀ t : Fin grid0.N, win0_2.index t = ![t.val % 4, 16 + t.val / 4])

theorem iblk2 (t : Fin cfg0.N) (r : Fin 2048) (l : Fin 128) :
    iblk m c 2 t (ix2 r l) = arg2 m c (2048 * (t.val % 4) + r.val) (2048 + (128 * (t.val / 4) + l.val)) := by
  have ht : t.val < 16 := t.isLt
  refine Eq.trans ?_ (Attn.nat2_eq _ ⟨2048 * (t.val % 4) + r.val, by omega⟩ ⟨2048 + (128 * (t.val / 4) + l.val), by omega⟩ rfl rfl).symm
  blk_ext [iblk, V, at2 t]

theorem at3 (t : Fin cfg0.N) : win0_3.index t = ![t.val % 4, 4 + t.val / 4] := by
  revert t; exact (by decide +kernel : ∀ t : Fin grid0.N, win0_3.index t = ![t.val % 4, 4 + t.val / 4])

theorem iblk3 (t : Fin cfg0.N) (r : Fin 2048) (l : Fin 128) :
    iblk m c 3 t (ix2 r l) = arg3 m c (2048 * (t.val % 4) + r.val) (512 + (128 * (t.val / 4) + l.val)) := by
  have ht : t.val < 16 := t.isLt
  refine Eq.trans ?_ (Attn.nat2_eq _ ⟨2048 * (t.val % 4) + r.val, by omega⟩ ⟨512 + (128 * (t.val / 4) + l.val), by omega⟩ rfl rfl).symm
  blk_ext [iblk, V, at3 t]

theorem at4 (t : Fin cfg0.N) : win0_4.index t = ![t.val % 4, t.val / 4] := by
  revert t; exact (by decide +kernel : ∀ t : Fin grid0.N, win0_4.index t = ![t.val % 4, t.val / 4])

theorem iblk4 (t : Fin cfg0.N) (r : Fin 2048) (l : Fin 128) :
    iblk m c 4 t (ix2 r l) = arg4 m c (2048 * (t.val % 4) + r.val) ((128 * (t.val / 4) + l.val)) := by
  have ht : t.val < 16 := t.isLt
  refine Eq.trans ?_ (Attn.nat2_eq _ ⟨2048 * (t.val % 4) + r.val, by omega⟩ ⟨(128 * (t.val / 4) + l.val), by omega⟩ rfl rfl).symm
  blk_ext [iblk, V, at4 t]

theorem at5 (t : Fin cfg0.N) : win0_5.index t = ![t.val % 4, t.val / 4] := by
  revert t; exact (by decide +kernel : ∀ t : Fin grid0.N, win0_5.index t = ![t.val % 4, t.val / 4])

theorem iblk5 (t : Fin cfg0.N) (r : Fin 2048) (l : Fin 128) :
    iblk m c 5 t (ix2 r l) = arg5 m c (2048 * (t.val % 4) + r.val) ((128 * (t.val / 4) + l.val)) := by
  have ht : t.val < 16 := t.isLt
  refine Eq.trans ?_ (Attn.nat2_eq _ ⟨2048 * (t.val % 4) + r.val, by omega⟩ ⟨(128 * (t.val / 4) + l.val), by omega⟩ rfl rfl).symm
  blk_ext [iblk, V, at5 t]

theorem at13 (t : Fin cfg0.N) : win0_13.index t = ![t.val % 4, t.val / 4] := by
  revert t; exact (by decide +kernel : ∀ t : Fin grid0.N, win0_13.index t = ![t.val % 4, t.val / 4])

theorem iblk13 (t : Fin cfg0.N) (r : Fin 2048) (l : Fin 128) :
    iblk m c 13 t (ix2 r l) = arg6 m c (2048 * (t.val % 4) + r.val) ((128 * (t.val / 4) + l.val)) := by
  have ht : t.val < 16 := t.isLt
  refine Eq.trans ?_ (Attn.nat2_eq _ ⟨2048 * (t.val % 4) + r.val, by omega⟩ ⟨(128 * (t.val / 4) + l.val), by omega⟩ rfl rfl).symm
  blk_ext [iblk, V, at13 t]

theorem at14 (t : Fin cfg0.N) : win0_14.index t = ![t.val % 4, t.val / 4] := by
  revert t; exact (by decide +kernel : ∀ t : Fin grid0.N, win0_14.index t = ![t.val % 4, t.val / 4])

theorem iblk14 (t : Fin cfg0.N) (r : Fin 2048) (l : Fin 128) :
    iblk m c 14 t (ix2 r l) = arg7 m c (2048 * (t.val % 4) + r.val) ((128 * (t.val / 4) + l.val)) := by
  have ht : t.val < 16 := t.isLt
  refine Eq.trans ?_ (Attn.nat2_eq _ ⟨2048 * (t.val % 4) + r.val, by omega⟩ ⟨(128 * (t.val / 4) + l.val), by omega⟩ rfl rfl).symm
  blk_ext [iblk, V, at14 t]

theorem at15 (t : Fin cfg0.N) : win0_15.index t = ![t.val % 4, t.val / 4] := by
  revert t; exact (by decide +kernel : ∀ t : Fin grid0.N, win0_15.index t = ![t.val % 4, t.val / 4])

theorem iblk15 (t : Fin cfg0.N) (r : Fin 2048) (l : Fin 128) :
    iblk m c 15 t (ix2 r l) = arg8 m c (2048 * (t.val % 4) + r.val) ((128 * (t.val / 4) + l.val)) := by
  have ht : t.val < 16 := t.isLt
  refine Eq.trans ?_ (Attn.nat2_eq _ ⟨2048 * (t.val % 4) + r.val, by omega⟩ ⟨(128 * (t.val / 4) + l.val), by omega⟩ rfl rfl).symm
  blk_ext [iblk, V, at15 t]

/-! ## The 128 rows before a window, of the keys and values. -/

theorem at6 (t : Fin cfg0.N) : win0_6.index t = ![16 * (t.val % 4) - 1, t.val / 4] := by
  revert t; exact (by decide +kernel : ∀ t : Fin grid0.N, win0_6.index t = ![16 * (t.val % 4) - 1, t.val / 4])

theorem iblk6 (t : Fin cfg0.N) (h : 0 < t.val % 4) (r : Fin 128) (l : Fin 128) :
    iblk m c 6 t (ix2 r l) = arg1 m c (2048 * (t.val % 4) + r.val - 128) ((128 * (t.val / 4) + l.val)) := by
  have ht : t.val < 16 := t.isLt
  refine Eq.trans ?_ (Attn.nat2_eq _ ⟨2048 * (t.val % 4) + r.val - 128, by omega⟩ ⟨(128 * (t.val / 4) + l.val), by omega⟩ rfl rfl).symm
  blk_ext [iblk, V, at6 t]

theorem at7 (t : Fin cfg0.N) : win0_7.index t = ![16 * (t.val % 4) - 1, 16 + t.val / 4] := by
  revert t; exact (by decide +kernel : ∀ t : Fin grid0.N, win0_7.index t = ![16 * (t.val % 4) - 1, 16 + t.val / 4])

theorem iblk7 (t : Fin cfg0.N) (h : 0 < t.val % 4) (r : Fin 128) (l : Fin 128) :
    iblk m c 7 t (ix2 r l) = arg2 m c (2048 * (t.val % 4) + r.val - 128) (2048 + (128 * (t.val / 4) + l.val)) := by
  have ht : t.val < 16 := t.isLt
  refine Eq.trans ?_ (Attn.nat2_eq _ ⟨2048 * (t.val % 4) + r.val - 128, by omega⟩ ⟨2048 + (128 * (t.val / 4) + l.val), by omega⟩ rfl rfl).symm
  blk_ext [iblk, V, at7 t]

/-! ## The 128 rows after a window, of the queries, the output's gradient and the two statistics. -/

theorem at8 (t : Fin cfg0.N) : win0_8.index t = ![min (16 * (t.val % 4 + 1)) 63, t.val / 4] := by
  revert t; exact (by decide +kernel : ∀ t : Fin grid0.N, win0_8.index t = ![min (16 * (t.val % 4 + 1)) 63, t.val / 4])

theorem iblk8 (t : Fin cfg0.N) (h : t.val % 4 < 3) (r : Fin 128) (l : Fin 128) :
    iblk m c 8 t (ix2 r l) = arg0 m c (2048 * (t.val % 4) + 2048 + r.val) ((128 * (t.val / 4) + l.val)) := by
  have ht : t.val < 16 := t.isLt
  refine Eq.trans ?_ (Attn.nat2_eq _ ⟨2048 * (t.val % 4) + 2048 + r.val, by omega⟩ ⟨(128 * (t.val / 4) + l.val), by omega⟩ rfl rfl).symm
  blk_ext [iblk, V, at8 t]

theorem at9 (t : Fin cfg0.N) : win0_9.index t = ![min (16 * (t.val % 4 + 1)) 63, 4 + t.val / 4] := by
  revert t; exact (by decide +kernel : ∀ t : Fin grid0.N, win0_9.index t = ![min (16 * (t.val % 4 + 1)) 63, 4 + t.val / 4])

theorem iblk9 (t : Fin cfg0.N) (h : t.val % 4 < 3) (r : Fin 128) (l : Fin 128) :
    iblk m c 9 t (ix2 r l) = arg3 m c (2048 * (t.val % 4) + 2048 + r.val) (512 + (128 * (t.val / 4) + l.val)) := by
  have ht : t.val < 16 := t.isLt
  refine Eq.trans ?_ (Attn.nat2_eq _ ⟨2048 * (t.val % 4) + 2048 + r.val, by omega⟩ ⟨512 + (128 * (t.val / 4) + l.val), by omega⟩ rfl rfl).symm
  blk_ext [iblk, V, at9 t]

theorem at10 (t : Fin cfg0.N) : win0_10.index t = ![min (16 * (t.val % 4 + 1)) 63, t.val / 4] := by
  revert t; exact (by decide +kernel : ∀ t : Fin grid0.N, win0_10.index t = ![min (16 * (t.val % 4 + 1)) 63, t.val / 4])

theorem iblk10 (t : Fin cfg0.N) (h : t.val % 4 < 3) (r : Fin 128) (l : Fin 128) :
    iblk m c 10 t (ix2 r l) = arg4 m c (2048 * (t.val % 4) + 2048 + r.val) ((128 * (t.val / 4) + l.val)) := by
  have ht : t.val < 16 := t.isLt
  refine Eq.trans ?_ (Attn.nat2_eq _ ⟨2048 * (t.val % 4) + 2048 + r.val, by omega⟩ ⟨(128 * (t.val / 4) + l.val), by omega⟩ rfl rfl).symm
  blk_ext [iblk, V, at10 t]

theorem at11 (t : Fin cfg0.N) : win0_11.index t = ![min (16 * (t.val % 4 + 1)) 63, t.val / 4] := by
  revert t; exact (by decide +kernel : ∀ t : Fin grid0.N, win0_11.index t = ![min (16 * (t.val % 4 + 1)) 63, t.val / 4])

theorem iblk11 (t : Fin cfg0.N) (h : t.val % 4 < 3) (r : Fin 128) (l : Fin 128) :
    iblk m c 11 t (ix2 r l) = arg5 m c (2048 * (t.val % 4) + 2048 + r.val) ((128 * (t.val / 4) + l.val)) := by
  have ht : t.val < 16 := t.isLt
  refine Eq.trans ?_ (Attn.nat2_eq _ ⟨2048 * (t.val % 4) + 2048 + r.val, by omega⟩ ⟨(128 * (t.val / 4) + l.val), by omega⟩ rfl rfl).symm
  blk_ext [iblk, V, at11 t]

/-! ## The table of biases. -/

/-- How far query `i` of a block lies behind key `k` of its 256. -/
def delta : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- The table of biases that the host prepares, -/
def table {F : FTy → Type} [FloatOps F] : Vec F S8x128x256 .f32 :=
  select (broadcastInDim S8x128x256 ![0, 1, 2] bcast_S1x128x256_S8x128x256_0_1_2
      (broadcastInDim S1x128x256 ![1, 2] bcast_S128x256_S1x128x256_1_2
        (andi (cmpi .sge delta (broadcastInDim S128x256 ![] bcast_S_S128x256 (constantI S_ 32 0#32)))
          (cmpi .sle delta (broadcastInDim S128x256 ![] bcast_S_S128x256 (constantI S_ 32 128#32))))))
    (mulf (broadcastInDim S8x128x256 ![0, 1, 2] bcast_S8x1x1_S8x128x256_0_1_2
        (Host.negf (broadcastInDim S8x1x1 ![0] bcast_S8_S8x1x1_0
          (Host.powf (broadcastInDim S8 ![] bcast_S_S8 (constant S_ .f32 0x40000000#32))
            (Host.negf (addf (sitofp .f32 (iotaInDim S8 32 0)) (broadcastInDim S8 ![] bcast_S_S8 (constant S_ .f32 0x3F800000#32))))))))
      (broadcastInDim S8x128x256 ![0, 1, 2] bcast_S1x128x256_S8x128x256_0_1_2
        (broadcastInDim S1x128x256 ![1, 2] bcast_S128x256_S1x128x256_1_2
          (sitofp .f32 (muli delta (broadcastInDim S128x256 ![] bcast_S_S128x256 (constantI S_ 32 1#32)))))))
    (broadcastInDim S8x128x256 ![] bcast_S_S8x128x256 (constant S_ .f32 0xFF800000#32))

/-- and how the kernel finds it, two heads stacked. -/
theorem V_table {F : FTy → Type} [FloatOps F] (m : (ℓ : Loc nD τ sig) → Buf (Elt F) ℓ) : V m c main_v31 = shapeCast S4x256x256 table shapeCasts_S8x128x256_S4x256x256 := by
  simp only [V, hostOps0, hostOps0_1, hostOps0_2, List.flatten_cons, List.flatten_nil, List.append_nil, List.cons_append,
    List.nil_append]
  after_results
  rfl

theorem delta_apply (i : Fin 128) (k : Fin 256) : delta (ix2 i k) = Attn.behind i.val k.val := by
  unfold delta
  pointwise

theorem table_apply (h : Fin 8) (i : Fin 128) (k : Fin 256) :
    (table : Vec Ideal S8x128x256 .f32) (ix3 h i k) = Attn.beta h.val i.val k.val := by
  unfold table
  pointwise
  rw [Attn.slope_table h.isLt, delta_apply, Attn.dist_eq i.isLt k.isLt, Attn.beta, Attn.neg_inf]
  by_cases hb : i.val ≤ k.val ∧ k.val ≤ i.val + 128
  · rw [(Attn.band_iff i.isLt k.isLt).mpr hb, ValueIdx.select_one, if_pos hb]
  · rw [ValueIdx.eq_zero_of_ne_one (fun h => hb ((Attn.band_iff i.isLt k.isLt).mp h)), ValueIdx.select_zero, if_neg hb]

theorem at12 (t : Fin cfg0.N) : win0_12.index t = ![t.val / 4, 0, 0] := by
  revert t; exact (by decide +kernel : ∀ t : Fin grid0.N, win0_12.index t = ![t.val / 4, 0, 0])

theorem iblk12 (t : Fin cfg0.N) (ρ k : Fin 256) :
    iblk m c 12 t (ix3 0 ρ k) = Attn.beta (2 * (t.val / 4) + ρ.val / 128) (ρ.val % 128) k.val := by
  have ht : t.val < 16 := t.isLt
  have hV : (V m c main_v31 : Vec Ideal S4x256x256 .f32) (ix3 ⟨t.val / 4, by omega⟩ ρ k)
      = Attn.beta (2 * (t.val / 4) + ρ.val / 128) (ρ.val % 128) k.val := by
    rw [V_table]
    pointwise
    rw [table_apply]
    simp only [Nat.mul_comm]
  rw [← hV]
  blk_ext [iblk, at12 t]

end Cert.KernelIdeal.Step
-- ==== Proof.Attn.Arrays.lean ====
/- The three results' final contents: the gradients of Spec.lean at the arguments, plus the gradients handed in. -/
module

public import proofs.«01_k».proof.Proof.Gen.KernelIdeal.Value
public import proofs.«01_k».proof.Proof.Attn.RunA
public import proofs.«01_k».proof.Proof.Attn.RunB
public import proofs.«01_k».proof.Proof.Attn.Window
public import proofs.«01_k».proof.Proof.Attn.Blocks

@[expose] public section

set_option maxRecDepth 16384

noncomputable section

namespace Cert.KernelIdeal.Step

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- The arguments as functions of a row and a lane: the values are columns 2048 on of the projection, the output's
    gradient columns 512 on of its array. -/
def rows : Attn.Rows where
  q := arg0 m c
  k := arg1 m c
  v t l := arg2 m c t (2048 + l)
  d t l := arg3 m c t (512 + l)
  lg := arg4 m c
  dl := arg5 m c
  β := Attn.beta

/-- What point `t` loads. -/
def ptBlocks (t : Fin cfg0.N) : Blocks Ideal :=
  blocksOf (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The point's scratch buffers. -/
abbrev ptRefs : Refs := refsOf scM0_0 scM0_1 scM0_2 scM0_3 scM0_4 scM0_5 scM0_7 scM0_8

theorem ld_window (x : Vec Ideal S2048x128 .f32) (r : Fin 2048) (l : Fin 128) : View.ld x outAll (ix2 r l) = x (ix2 r l) := by
  pointwise

theorem ld_halo (x : Vec Ideal S128x128 .f32) (r l : Fin 128) :
    View.ld x (Rect.unit ![0, 0] S128x128.size inb_S128x128_S128x128_0_0) (ix2 r l) = x (ix2 r l) := by
  pointwise

theorem ld_bias (x : Vec Ideal S1x256x256 .f32) (ρ k : Fin 256) :
    View.ld x (Rect.unit ![0, 0, 0] S1x256x256.size inb_S1x256x256_S1x256x256_0_0_0) (ix3 0 ρ k) = x (ix3 0 ρ k) := by
  pointwise

theorem ld_biasL (x : Vec Ideal S1x256x256 .f32) (ρ : Fin 256) (k : Fin 128) :
    View.ld x (Rect.unit ![0, 0, 0] S1x256x128.size inb_S1x256x256_S1x256x128_0_0_0) (ix3 0 ρ k) = x (ix3 0 ρ ⟨k.val, by omega⟩) := by
  pointwise

theorem inv_iff (t : Fin cfg0.N) : Scalar.cmpi .eq (BitVec.ofNat 32 (grid0.coords t 1).val) 0#32 = 1#1 ↔ t.val % 4 = 0 := by
  revert t
  exact (by decide +kernel : ∀ t : Fin grid0.N, Scalar.cmpi .eq (BitVec.ofNat 32 (grid0.coords t 1).val) 0#32 = 1#1 ↔ t.val % 4 = 0)

/-- A store of a whole window. -/
theorem canon_all (x : Vec Ideal S2048x128 .f32) (y : S2048x128.Idx) : View.canon (Val := Elt Ideal) (e := .f32) [⟨outAll, x⟩] y = x y :=
  congrFun (View.canon_cons_unit_lit inb_S2048x128_S2048x128_0_0 x [] (by decide)) y

/-- They are the arguments' rows and lanes. -/
theorem holds (t : Fin cfg0.N) : Holds (ptBlocks m c t) (rows m c) (t.val / 4) (t.val % 4) where
  hn := Nat.mod_lt _ (by decide)
  q r l := by
    show got _ _ _ _ _ = _
    rw [got_eq, ld_window, iblk0]
    rfl
  k r l := by
    show got _ _ _ _ _ = _
    rw [got_eq, ld_window, iblk1]
    rfl
  v r l := by
    show got _ _ _ _ _ = _
    rw [got_eq, ld_window, iblk2]
    rfl
  do_ r l := by
    show got _ _ _ _ _ = _
    rw [got_eq, ld_window, iblk3]
    rfl
  lg r l := by
    show got _ _ _ _ _ = _
    rw [got_eq, ld_window, iblk4]
    rfl
  dl r l := by
    show got _ _ _ _ _ = _
    rw [got_eq, ld_window, iblk5]
    rfl
  kh h r l := by
    show got _ _ _ _ _ = _
    rw [got_eq, ld_halo, iblk6 m c t h]
    rfl
  vh h r l := by
    show got _ _ _ _ _ = _
    rw [got_eq, ld_halo, iblk7 m c t h]
    rfl
  qx h r l := by
    show got _ _ _ _ _ = _
    rw [got_eq, ld_halo, iblk8 m c t h]
    rfl
  dox h r l := by
    show got _ _ _ _ _ = _
    rw [got_eq, ld_halo, iblk9 m c t h]
    rfl
  lgx h r l := by
    show got _ _ _ _ _ = _
    rw [got_eq, ld_halo, iblk10 m c t h]
    rfl
  dlx h r l := by
    show got _ _ _ _ _ = _
    rw [got_eq, ld_halo, iblk11 m c t h]
    rfl
  bias ρ k := by
    show got _ _ _ _ _ = _
    rw [got_eq, ld_bias, iblk12]
    rfl
  biasL ρ k := by
    show got _ _ _ _ _ = _
    rw [got_eq, ld_biasL, iblk12]
    rfl
  inv := inv_iff t

/-- The queries' gradient that point `t` writes. -/
theorem flushed_dq_A (t : Fin cfg0.N) (h0 : t.val % 4 ≤ 2) (r : Fin 2048) (l : Fin 128) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r l) =
      Attn.dq (rows m c) (2048 * (t.val % 4) + r.val) (128 * (t.val / 4) + l.val)
        + arg6 m c (2048 * (t.val % 4) + r.val) (128 * (t.val / 4) + l.val) := by
  unfold out0_A_16
  rw [runA_dq, View.read_writes_junk_eq_canon]
  refine (canon_all _ _).trans ?_
  refine congrArg₂ (· + ·) ?_ ?_
  · refine (readCov_rows _ _ _ r l r (Nat.zero_add _).symm).trans ?_
    exact dq_eq (holds m c t) r l
  · rw [got_eq, ld_window, iblk13]

/-- The queries' gradient that point `t` writes, at a last window. -/
theorem flushed_dq_B (t : Fin cfg0.N) (h0 : ¬t.val % 4 ≤ 2) (r : Fin 2048) (l : Fin 128) :
    out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r l) =
      Attn.dq (rows m c) (2048 * (t.val % 4) + r.val) (128 * (t.val / 4) + l.val)
        + arg6 m c (2048 * (t.val % 4) + r.val) (128 * (t.val / 4) + l.val) := by
  unfold out0_B_16
  rw [runB_dq, View.read_writes_junk_eq_canon]
  refine (canon_all _ _).trans ?_
  refine congrArg₂ (· + ·) ?_ ?_
  · refine (readCov_rows _ _ _ r l r (Nat.zero_add _).symm).trans ?_
    exact dq_eq (holds m c t) r l
  · rw [got_eq, ld_window, iblk13]

theorem at16 (t : Fin cfg0.N) : win0_16.index t = ![t.val % 4, t.val / 4] := by
  revert t; exact (by decide +kernel : ∀ t : Fin grid0.N, win0_16.index t = ![t.val % 4, t.val / 4])

/-- The array of the queries' gradient after the last point. -/
theorem final_dq (t : Fin 8192) (l : Fin 512) :
    (dats m 0 c).arrAt 16 cfg0.N (ix2 t l) = Attn.dq (rows m c) t.val l.val + arg6 m c t.val l.val := by
  have h : (dats m 0 c).arrAt 16 cfg0.N = fun x => Attn.dq (rows m c) (x 0).val (x 1).val + arg6 m c (x 0).val (x 1).val := by
    refine (dats m 0 c).arrAt_eq_of_covers 16 _ (by decide +kernel) fun t hf y => ?_
    have e0 : (((cfg0.win 16).blk t).view.emb y 0).val = 2048 * (t.val % 4) + ((cfg0.win 16).xinj (grid0.coords t) y 0).val := by
      have hx : ((cfg0.win 16).xinj (grid0.coords t) y 0).val = (y 0).val := rfl
      blk_simp [at16 t]
      omega
    have e1 : (((cfg0.win 16).blk t).view.emb y 1).val = 128 * (t.val / 4) + ((cfg0.win 16).xinj (grid0.coords t) y 1).val := by
      have hx : ((cfg0.win 16).xinj (grid0.coords t) y 1).val = (y 1).val := rfl
      blk_simp [at16 t]
      omega
    have ez : ((cfg0.win 16).xinj (grid0.coords t) y : S2048x128.Idx)
        = ix2 ((cfg0.win 16).xinj (grid0.coords t) y 0) ((cfg0.win 16).xinj (grid0.coords t) y 1) := by
      funext a
      match a with
      | 0 => rfl
      | 1 => rfl
    rw [e0, e1]
    by_cases h0 : t.val % 4 ≤ 2
    · refine (congrFun (flushed16_A m c t h0) y).trans ?_
      rw [(cfg0.win 16).cut_apply, ez]
      exact flushed_dq_A m c t h0 _ _
    · refine (congrFun (flushed16_B m c t h0) y).trans ?_
      rw [(cfg0.win 16).cut_apply, ez]
      exact flushed_dq_B m c t h0 _ _
  rw [h]
  rfl

/-- The keys' gradient that point `t` writes. -/
theorem flushed_dk_A (t : Fin cfg0.N) (h0 : t.val % 4 ≤ 2) (r : Fin 2048) (l : Fin 128) :
    out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r l) =
      Attn.dk (rows m c) (2048 * (t.val % 4) + r.val) (128 * (t.val / 4) + l.val)
        + arg7 m c (2048 * (t.val % 4) + r.val) (128 * (t.val / 4) + l.val) := by
  unfold out0_A_17
  rw [runA_dk, View.read_writes_junk_eq_canon]
  refine (canon_all _ _).trans ?_
  refine congrArg₂ (· + ·) ?_ ?_
  · refine (readCov_rows _ _ _ r l r (Nat.zero_add _).symm).trans ?_
    exact dk_eq (holds m c t) (by omega) r l
  · rw [got_eq, ld_window, iblk14]

/-- The keys' gradient that point `t` writes, at a last window. -/
theorem flushed_dk_B (t : Fin cfg0.N) (h0 : ¬t.val % 4 ≤ 2) (r : Fin 2048) (l : Fin 128) :
    out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r l) =
      Attn.dk (rows m c) (2048 * (t.val % 4) + r.val) (128 * (t.val / 4) + l.val)
        + arg7 m c (2048 * (t.val % 4) + r.val) (128 * (t.val / 4) + l.val) := by
  unfold out0_B_17
  rw [runB_dk, View.read_writes_junk_eq_canon]
  refine (canon_all _ _).trans ?_
  refine congrArg₂ (· + ·) ?_ ?_
  · refine (readCov_rows _ _ _ r l r (Nat.zero_add _).symm).trans ?_
    exact dk_eq_last (holds m c t) (by omega) r l
  · rw [got_eq, ld_window, iblk14]

theorem at17 (t : Fin cfg0.N) : win0_17.index t = ![t.val % 4, t.val / 4] := by
  revert t; exact (by decide +kernel : ∀ t : Fin grid0.N, win0_17.index t = ![t.val % 4, t.val / 4])

/-- The array of the keys' gradient after the last point. -/
theorem final_dk (t : Fin 8192) (l : Fin 512) :
    (dats m 0 c).arrAt 17 cfg0.N (ix2 t l) = Attn.dk (rows m c) t.val l.val + arg7 m c t.val l.val := by
  have h : (dats m 0 c).arrAt 17 cfg0.N = fun x => Attn.dk (rows m c) (x 0).val (x 1).val + arg7 m c (x 0).val (x 1).val := by
    refine (dats m 0 c).arrAt_eq_of_covers 17 _ (by decide +kernel) fun t hf y => ?_
    have e0 : (((cfg0.win 17).blk t).view.emb y 0).val = 2048 * (t.val % 4) + ((cfg0.win 17).xinj (grid0.coords t) y 0).val := by
      have hx : ((cfg0.win 17).xinj (grid0.coords t) y 0).val = (y 0).val := rfl
      blk_simp [at17 t]
      omega
    have e1 : (((cfg0.win 17).blk t).view.emb y 1).val = 128 * (t.val / 4) + ((cfg0.win 17).xinj (grid0.coords t) y 1).val := by
      have hx : ((cfg0.win 17).xinj (grid0.coords t) y 1).val = (y 1).val := rfl
      blk_simp [at17 t]
      omega
    have ez : ((cfg0.win 17).xinj (grid0.coords t) y : S2048x128.Idx)
        = ix2 ((cfg0.win 17).xinj (grid0.coords t) y 0) ((cfg0.win 17).xinj (grid0.coords t) y 1) := by
      funext a
      match a with
      | 0 => rfl
      | 1 => rfl
    rw [e0, e1]
    by_cases h0 : t.val % 4 ≤ 2
    · refine (congrFun (flushed17_A m c t h0) y).trans ?_
      rw [(cfg0.win 17).cut_apply, ez]
      exact flushed_dk_A m c t h0 _ _
    · refine (congrFun (flushed17_B m c t h0) y).trans ?_
      rw [(cfg0.win 17).cut_apply, ez]
      exact flushed_dk_B m c t h0 _ _
  rw [h]
  rfl

/-- The values' gradient that point `t` writes. -/
theorem flushed_dv_A (t : Fin cfg0.N) (h0 : t.val % 4 ≤ 2) (r : Fin 2048) (l : Fin 128) :
    out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r l) =
      Attn.dv (rows m c) (2048 * (t.val % 4) + r.val) (128 * (t.val / 4) + l.val)
        + arg8 m c (2048 * (t.val % 4) + r.val) (128 * (t.val / 4) + l.val) := by
  unfold out0_A_18
  rw [runA_dv, View.read_writes_junk_eq_canon]
  refine (canon_all _ _).trans ?_
  refine congrArg₂ (· + ·) ?_ ?_
  · refine (readCov_rows _ _ _ r l r (Nat.zero_add _).symm).trans ?_
    exact dv_eq (holds m c t) (by omega) r l
  · rw [got_eq, ld_window, iblk15]

/-- The values' gradient that point `t` writes, at a last window. -/
theorem flushed_dv_B (t : Fin cfg0.N) (h0 : ¬t.val % 4 ≤ 2) (r : Fin 2048) (l : Fin 128) :
    out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r l) =
      Attn.dv (rows m c) (2048 * (t.val % 4) + r.val) (128 * (t.val / 4) + l.val)
        + arg8 m c (2048 * (t.val % 4) + r.val) (128 * (t.val / 4) + l.val) := by
  unfold out0_B_18
  rw [runB_dv, View.read_writes_junk_eq_canon]
  refine (canon_all _ _).trans ?_
  refine congrArg₂ (· + ·) ?_ ?_
  · refine (readCov_rows _ _ _ r l r (Nat.zero_add _).symm).trans ?_
    exact dv_eq_last (holds m c t) (by omega) r l
  · rw [got_eq, ld_window, iblk15]

theorem at18 (t : Fin cfg0.N) : win0_18.index t = ![t.val % 4, t.val / 4] := by
  revert t; exact (by decide +kernel : ∀ t : Fin grid0.N, win0_18.index t = ![t.val % 4, t.val / 4])

/-- The array of the values' gradient after the last point. -/
theorem final_dv (t : Fin 8192) (l : Fin 512) :
    (dats m 0 c).arrAt 18 cfg0.N (ix2 t l) = Attn.dv (rows m c) t.val l.val + arg8 m c t.val l.val := by
  have h : (dats m 0 c).arrAt 18 cfg0.N = fun x => Attn.dv (rows m c) (x 0).val (x 1).val + arg8 m c (x 0).val (x 1).val := by
    refine (dats m 0 c).arrAt_eq_of_covers 18 _ (by decide +kernel) fun t hf y => ?_
    have e0 : (((cfg0.win 18).blk t).view.emb y 0).val = 2048 * (t.val % 4) + ((cfg0.win 18).xinj (grid0.coords t) y 0).val := by
      have hx : ((cfg0.win 18).xinj (grid0.coords t) y 0).val = (y 0).val := rfl
      blk_simp [at18 t]
      omega
    have e1 : (((cfg0.win 18).blk t).view.emb y 1).val = 128 * (t.val / 4) + ((cfg0.win 18).xinj (grid0.coords t) y 1).val := by
      have hx : ((cfg0.win 18).xinj (grid0.coords t) y 1).val = (y 1).val := rfl
      blk_simp [at18 t]
      omega
    have ez : ((cfg0.win 18).xinj (grid0.coords t) y : S2048x128.Idx)
        = ix2 ((cfg0.win 18).xinj (grid0.coords t) y 0) ((cfg0.win 18).xinj (grid0.coords t) y 1) := by
      funext a
      match a with
      | 0 => rfl
      | 1 => rfl
    rw [e0, e1]
    by_cases h0 : t.val % 4 ≤ 2
    · refine (congrFun (flushed18_A m c t h0) y).trans ?_
      rw [(cfg0.win 18).cut_apply, ez]
      exact flushed_dv_A m c t h0 _ _
    · refine (congrFun (flushed18_B m c t h0) y).trans ?_
      rw [(cfg0.win 18).cut_apply, ez]
      exact flushed_dv_B m c t h0 _ _
  rw [h]
  rfl

end Cert.KernelIdeal.Step
-- ==== Proof.Attn.RefTerms.lean ====
/- The reference's three results in stages: the streams of blocks, the keys with the block before in front, the
   mask, the weights, the gradient of the scores, and the three products. -/
module

public import proofs.«01_k».proof.Proof.Gen.ReferenceIdeal.Run

@[expose] public section

set_option maxRecDepth 16384

noncomputable section

namespace Cert.ReferenceIdeal.Terms

open Idealize.ShloMosaic Idealize.ShloMosaic.TcCoe Cert.ReferenceIdeal Cert.ReferenceIdeal.Gen Cert.ReferenceIdeal.Value

variable {F : FTy → Type} [FloatOps F]

/-- Rows of eight heads, in blocks of 128 rows. -/
def str (a : Vec F S8192x512 .f32) : Vec F S1x64x128x1x8x64 .f32 :=
  shapeCast _ (shapeCast S1x8192x8x64 a shapeCasts_S8192x512_S1x8192x8x64) shapeCasts_S1x8192x8x64_S1x64x128x1x8x64

/-- Each block's keys (or values) with the block before in front; the first block has zeros there. -/
def keys (a : Vec F S8192x512 .f32) : Vec F S1x64x256x1x8x64 .f32 :=
  concatenate S1x64x256x1x8x64 2
    [⟨S1x64x128x1x8x64, (concatenate S1x64x128x1x8x64 1
      [⟨S1x1x128x1x8x64, (broadcastInDim S1x1x128x1x8x64 ![] bcast_S_S1x1x128x1x8x64 (constant S_ .f32 0x00000000#32))⟩,
       ⟨S1x63x128x1x8x64, (extractStridedSlice S1x63x128x1x8x64 ![0, 0, 0, 0, 0, 0] (str a) slices_S1x64x128x1x8x64_S1x63x128x1x8x64_0_0_0_0_0_0)⟩]
      concatenates_S1x1x128x1x8x64_S1x63x128x1x8x64_S1x64x128x1x8x64_d1)⟩,
     ⟨S1x64x128x1x8x64, str a⟩] concatenates_S1x64x128x1x8x64_S1x64x128x1x8x64_S1x64x256x1x8x64_d2

/-- A head's row statistic, from its first lane. -/
def stat1 (a : Vec F S8192x512 .f32) : Vec F S1x8192x8 .f32 :=
  shapeCast _ (extractStridedSlice S1x8192x8x1 ![0, 0, 0, 0] (shapeCast S1x8192x8x64 a shapeCasts_S8192x512_S1x8192x8x64)
    slices_S1x8192x8x64_S1x8192x8x1_0_0_0_0) shapeCasts_S1x8192x8x1_S1x8192x8

/-- A row statistic in blocks. -/
def statB (a : Vec F S1x8192x8 .f32) : Vec F S1x64x1x8x128 .f32 :=
  transpose S1x64x1x8x128 [0, 1, 3, 4, 2] (shapeCast _ a shapeCasts_S1x8192x8_S1x64x128x1x8) transposes_S1x64x128x1x8_S1x64x1x8x128_0_1_3_4_2

/-- How far query `i` of a block lies behind key `k` of its 256. -/
def delta : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Which keys a query sees: those at most 128 behind it, from row 0 on. -/
def mask : IVec S1x64x1x8x128x256 1 :=
  broadcastInDim S1x64x1x8x128x256 ![0, 1, 2, 3, 4, 5] bcast_S1x64x1x1x128x256_S1x64x1x8x128x256_0_1_2_3_4_5 (broadcastInDim S1x64x1x1x128x256 ![1, 4, 5] bcast_S64x128x256_S1x64x1x1x128x256_1_4_5 (andi (broadcastInDim S64x128x256 ![0, 1, 2] bcast_S1x128x256_S64x128x256_0_1_2 (broadcastInDim S1x128x256 ![1, 2] bcast_S128x256_S1x128x256_1_2 (andi (cmpi .sge delta (broadcastInDim S128x256 ![] bcast_S_S128x256 (constantI S_ 32 0#32))) (cmpi .sle delta (broadcastInDim S128x256 ![] bcast_S_S128x256 (constantI S_ 32 128#32)))))) (broadcastInDim S64x128x256 ![0, 1, 2] bcast_S64x1x256_S64x128x256_0_1_2 (broadcastInDim S64x1x256 ![0, 2] bcast_S64x256_S64x1x256_0_2 (cmpi .sge (addi (broadcastInDim S64x256 ![0, 1] bcast_S64x1_S64x256_0_1 (subi (muli (broadcastInDim S64x1 ![0] bcast_S64_S64x1_0 (iotaInDim S64 32 0)) (broadcastInDim S64x1 ![] bcast_S_S64x1 (constantI S_ 32 128#32))) (broadcastInDim S64x1 ![] bcast_S_S64x1 (constantI S_ 32 128#32)))) (broadcastInDim S64x256 ![0, 1] bcast_S1x256_S64x256_0_1 (broadcastInDim S1x256 ![1] bcast_S256_S1x256_1 (iotaInDim S256 32 0)))) (broadcastInDim S64x256 ![] bcast_S_S64x256 (constantI S_ 32 0#32)))))))

/-- The heads' slopes, `2 ^ (-8 (h + 1) / 8)`. -/
def slope : Vec F S8 .f32 :=
  Host.powf (broadcastInDim S8 ![] bcast_S_S8 (constant S_ .f32 0x40000000#32)) (Host.divf (mulf (broadcastInDim S8 ![] bcast_S_S8 (constant S_ .f32 0xC1000000#32)) (addf (broadcastInDim S8 ![] bcast_S_S8 (constant S_ .f32 0x3F800000#32)) (sitofp .f32 (iotaInDim S8 32 0)))) (broadcastInDim S8 ![] bcast_S_S8 (constant S_ .f32 0x41000000#32)))

/-- The bias of a head's scores: less its slope times the distance. -/
def bias : Vec F S8x128x256 .f32 :=
  mulf (broadcastInDim S8x128x256 ![0, 1, 2] bcast_S8x1x1_S8x128x256_0_1_2 (Host.negf (broadcastInDim S8x1x1 ![0] bcast_S8_S8x1x1_0 slope))) (broadcastInDim S8x128x256 ![0, 1, 2] bcast_S1x128x256_S8x128x256_0_1_2 (broadcastInDim S1x128x256 ![1, 2] bcast_S128x256_S1x128x256_1_2 (sitofp .f32 (muli delta (broadcastInDim S128x256 ![] bcast_S_S128x256 (constantI S_ 32 1#32))))))

/-- The weights. -/
def prob (q k lg : Vec F S8192x512 .f32) : Vec F S1x64x1x8x128x256 .f32 :=
  Host.exp (subf (select mask (addf (Host.dotGeneral dot_S1x64x128x1x8x64_S1x64x256x1x8x64_S1x64x1x8x128x256_5_5_2_2_0134_0134 none (str q) (keys k)) (broadcastInDim S1x64x1x8x128x256 ![0, 1, 2, 3, 4, 5] bcast_S1x1x1x8x128x256_S1x64x1x8x128x256_0_1_2_3_4_5 (broadcastInDim S1x1x1x8x128x256 ![3, 4, 5] bcast_S8x128x256_S1x1x1x8x128x256_3_4_5 bias))) (broadcastInDim S1x64x1x8x128x256 ![] bcast_S_S1x64x1x8x128x256 (id (constant S_ .f32 0xFF800000#32)))) (broadcastInDim S1x64x1x8x128x256 ![0, 1, 2, 3, 4, 5] bcast_S1x64x1x8x128x1_S1x64x1x8x128x256_0_1_2_3_4_5 (broadcastInDim S1x64x1x8x128x1 ![0, 1, 2, 3, 4] bcast_S1x64x1x8x128_S1x64x1x8x128x1_0_1_2_3_4 (statB (stat1 lg)))))

/-- The output gradients' half of `dcat`. -/
def dOf (dc : Vec F S8192x1024 .f32) : Vec F S8192x512 .f32 := extractStridedSlice S8192x512 ![0, 512] dc slices_S8192x1024_S8192x512_0_512
/-- The values' columns of the projection. -/
def vOf (pr : Vec F S8192x2560 .f32) : Vec F S8192x512 .f32 := extractStridedSlice S8192x512 ![0, 2048] pr slices_S8192x2560_S8192x512_0_2048

/-- The output gradients' streams, transposed. -/
def doT (d : Vec F S8192x512 .f32) : Vec F S1x64x1x8x64x128 .f32 :=
  transpose S1x64x1x8x64x128 [0, 1, 3, 4, 5, 2] (str d) transposes_S1x64x128x1x8x64_S1x64x1x8x64x128_0_1_3_4_5_2

/-- The gradient of the scores. -/
def dscore (q k v d lg dl : Vec F S8192x512 .f32) : Vec F S1x64x1x8x128x256 .f32 :=
  select mask (mulf (addf (broadcastInDim S1x64x1x8x128x256 ![0, 1, 2, 3, 4] bcast_S1x64x1x8x128_S1x64x1x8x128x256_0_1_2_3_4 (statB (Host.negf (stat1 dl)))) (Host.dotGeneral dot_S1x64x1x8x64x128_S1x64x256x1x8x64_S1x64x1x8x128x256_4_5_5_2_0123_0134 none (doT d) (keys v))) (prob q k lg)) (broadcastInDim S1x64x1x8x128x256 ![] bcast_S_S1x64x1x8x128x256 (constant S_ .f32 0x00000000#32))

/-- Rows of blocks, put back as rows of eight heads. -/
def back (a : Vec F S1x64x128x1x8x64 .f32) : Vec F S8192x512 .f32 :=
  shapeCast _ (shapeCast S1x8192x8x64 a shapeCasts_S1x64x128x1x8x64_S1x8192x8x64) shapeCasts_S1x8192x8x64_S8192x512

/-- The queries' gradient. -/
def dq (w : Vec F S1x64x1x8x128x256 .f32) (k : Vec F S8192x512 .f32) : Vec F S1x64x128x1x8x64 .f32 :=
  transpose S1x64x128x1x8x64 [0, 1, 4, 2, 3, 5] (Host.dotGeneral dot_S1x64x1x8x128x256_S1x64x256x1x8x64_S1x64x1x8x128x64_5_2_4_5_0123_0134 none w (keys k)) transposes_S1x64x1x8x128x64_S1x64x128x1x8x64_0_1_4_2_3_5

/-- The gradient at the 256 keys of each block, added up at the keys: a block's own half and the next block's first half. -/
def fold (a : Vec F S1x64x256x1x8x64 .f32) : Vec F S1x64x128x1x8x64 .f32 :=
  addf (extractStridedSlice S1x64x128x1x8x64 ![0, 0, 128, 0, 0, 0] a slices_S1x64x256x1x8x64_S1x64x128x1x8x64_0_0_128_0_0_0)
    (pad S1x64x128x1x8x64 ![0, 0, 0, 0, 0, 0] ![0, 1, 0, 0, 0, 0] ![0, 0, 0, 0, 0, 0] (extractStridedSlice S1x63x128x1x8x64 ![0, 1, 0, 0, 0, 0] (extractStridedSlice S1x64x128x1x8x64 ![0, 0, 0, 0, 0, 0] a slices_S1x64x256x1x8x64_S1x64x128x1x8x64_0_0_0_0_0_0) slices_S1x64x128x1x8x64_S1x63x128x1x8x64_0_1_0_0_0_0) (constant S_ .f32 0x00000000#32) pads_S1x63x128x1x8x64_S1x64x128x1x8x64_000_010_000_000_000_000 h_S_)

/-- The keys' gradient, at each block's 256 keys. -/
def dk (w : Vec F S1x64x1x8x128x256 .f32) (q : Vec F S8192x512 .f32) : Vec F S1x64x256x1x8x64 .f32 :=
  transpose S1x64x256x1x8x64 [0, 1, 4, 2, 3, 5] (Host.dotGeneral dot_S1x64x1x8x128x256_S1x64x128x1x8x64_S1x64x1x8x256x64_4_2_5_5_0123_0134 none w (str q)) transposes_S1x64x1x8x256x64_S1x64x256x1x8x64_0_1_4_2_3_5

/-- The values' gradient, at each block's 256 keys. -/
def dv (p : Vec F S1x64x1x8x128x256 .f32) (d : Vec F S8192x512 .f32) : Vec F S1x64x256x1x8x64 .f32 :=
  transpose S1x64x256x1x8x64 [0, 1, 5, 2, 3, 4] (Host.dotGeneral dot_S1x64x1x8x64x128_S1x64x1x8x128x256_S1x64x1x8x64x256_5_4_4_5_0123_0123 none (doT d) p) transposes_S1x64x1x8x64x256_S1x64x256x1x8x64_0_1_5_2_3_4

variable (m : (ℓ : Loc nD τ sig) → Buf (Elt F) ℓ) (c : Dev nD)

/-- The arguments. -/
abbrev aQ : Vec F S8192x512 .f32 := m ((c.tc : Thread nD τ).loc main_arg0)
abbrev aK : Vec F S8192x512 .f32 := m ((c.tc : Thread nD τ).loc main_arg1)
abbrev aP : Vec F S8192x2560 .f32 := m ((c.tc : Thread nD τ).loc main_arg2)
abbrev aD : Vec F S8192x1024 .f32 := m ((c.tc : Thread nD τ).loc main_arg3)
abbrev aLg : Vec F S8192x512 .f32 := m ((c.tc : Thread nD τ).loc main_arg4)
abbrev aDl : Vec F S8192x512 .f32 := m ((c.tc : Thread nD τ).loc main_arg5)
abbrev aSq : Vec F S8192x512 .f32 := m ((c.tc : Thread nD τ).loc main_arg6)
abbrev aSk : Vec F S8192x512 .f32 := m ((c.tc : Thread nD τ).loc main_arg7)
abbrev aSv : Vec F S8192x512 .f32 := m ((c.tc : Thread nD τ).loc main_arg8)

theorem out0_eq : res_out0 m c = addf (back (dq (dscore (aQ m c) (aK m c) (vOf (aP m c)) (dOf (aD m c)) (aLg m c) (aDl m c)) (aK m c))) (aSq m c) := by
  with_unfolding_all rfl

theorem out1_eq : res_out1 m c = addf (back (fold (dk (dscore (aQ m c) (aK m c) (vOf (aP m c)) (dOf (aD m c)) (aLg m c) (aDl m c)) (aQ m c)))) (aSk m c) := by
  with_unfolding_all rfl

theorem out2_eq : res_out2 m c = addf (back (fold (dv (prob (aQ m c) (aK m c) (aLg m c)) (dOf (aD m c))))) (aSv m c) := by
  with_unfolding_all rfl

end Cert.ReferenceIdeal.Terms
-- ==== Proof.Attn.RefValues.lean ====
/- The reference's three results, element by element: `Attn.dq`, `Attn.dk` and `Attn.dv` of the arguments, plus the
   gradients handed in. -/
module

public import proofs.«01_k».proof.Proof.Attn.RefTerms
public import proofs.«01_k».proof.Proof.Attn.Table

@[expose] public section

set_option maxRecDepth 16384

noncomputable section

namespace Cert.ReferenceIdeal.Terms

open Idealize.ShloMosaic Idealize.ShloMosaic.TcCoe Cert.ReferenceIdeal Cert.ReferenceIdeal.Gen Cert.ReferenceIdeal.Value

theorem delta_apply (i : Fin 128) (k : Fin 256) : delta (ix2 i k) = Attn.behind i.val k.val := by
  unfold delta
  pointwise

theorem slope_apply (h : Fin 8) : (slope : Vec Ideal S8 .f32) (ix1 h) = Attn.slope h.val := by
  unfold slope
  pointwise
  exact Attn.slope_ref h.isLt

theorem bias_apply (h : Fin 8) (i : Fin 128) (k : Fin 256) :
    (bias : Vec Ideal S8x128x256 .f32) (ix3 h i k) = -Attn.slope h.val * (((128 + i.val - k.val : ℤ) : ℝ) : EReal) := by
  unfold bias
  pointwise
  rw [slope_apply, delta_apply, Attn.dist_eq i.isLt k.isLt]

theorem mask_iff (g : Fin 64) (h : Fin 8) (i : Fin 128) (k : Fin 256) :
    mask (ix6 0 g 0 h i k) = 1#1 ↔ (i.val ≤ k.val ∧ k.val ≤ i.val + 128) ∧ ¬ (g.val = 0 ∧ k.val < 128) := by
  unfold mask
  pointwise
  rw [delta_apply, IntOp.andi_eq_one, Attn.band_iff i.isLt k.isLt, Attn.inside_iff g.isLt k.isLt]

theorem str_apply (a : Vec Ideal S8192x512 .f32) (g : Fin 64) (h : Fin 8) (i : Fin 128) (j : Fin 64) :
    str a (ix6 0 g i 0 h j) = a (ix2 ⟨128 * g.val + i.val, by omega⟩ ⟨64 * h.val + j.val, by omega⟩) := by
  unfold str
  pointwise
  congr 2 <;> apply Fin.ext <;> simp only <;> omega

/-- A block's 256 keys: the block before, then its own. -/
theorem keys_apply (a : Vec Ideal S8192x512 .f32) (g : Fin 64) (h : Fin 8) (k : Fin 256) (j : Fin 64) (hg : ¬ (g.val = 0 ∧ k.val < 128)) :
    keys a (ix6 0 g k 0 h j) = a (ix2 ⟨128 * g.val + k.val - 128, by omega⟩ ⟨64 * h.val + j.val, by omega⟩) := by
  unfold keys
  pointwise
  by_cases hk : k.val < 128
  · rw [dif_pos hk, dif_neg (by omega)]
    rw [str_apply]
    congr 2; apply Fin.ext; simp only; omega
  · rw [dif_neg hk, str_apply]
    congr 2; apply Fin.ext; simp only; omega

/-- A row's statistic. -/
theorem stat_apply (a : Vec Ideal S8192x512 .f32) (g : Fin 64) (h : Fin 8) (i : Fin 128) :
    statB (stat1 a) (ix5 0 g 0 h i) = a (ix2 ⟨128 * g.val + i.val, by omega⟩ ⟨64 * h.val, by omega⟩) := by
  unfold statB stat1
  pointwise
  congr 2 <;> apply Fin.ext <;> simp only <;> omega

theorem statN_apply (a : Vec Ideal S8192x512 .f32) (g : Fin 64) (h : Fin 8) (i : Fin 128) :
    statB (Host.negf (stat1 a)) (ix5 0 g 0 h i) = -a (ix2 ⟨128 * g.val + i.val, by omega⟩ ⟨64 * h.val, by omega⟩) := by
  unfold statB stat1
  pointwise
  congr 3 <;> apply Fin.ext <;> simp only <;> omega

theorem doT_apply (a : Vec Ideal S8192x512 .f32) (g : Fin 64) (h : Fin 8) (e : Fin 64) (i : Fin 128) :
    doT a (ix6 0 g 0 h e i) = a (ix2 ⟨128 * g.val + i.val, by omega⟩ ⟨64 * h.val + e.val, by omega⟩) := by
  unfold doT
  pointwise
  exact str_apply a g h i e

/-- The arguments as functions of a row and a lane. -/
def rows (q k v d lg dl : Vec Ideal S8192x512 .f32) : Attn.Rows where
  q := Attn.nat2 q
  k := Attn.nat2 k
  v := Attn.nat2 v
  d := Attn.nat2 d
  lg := Attn.nat2 lg
  dl := Attn.nat2 dl
  β := Attn.beta

variable (q k v d lg dl : Vec Ideal S8192x512 .f32)

/-- The weights. -/
theorem prob_eq (g : Fin 64) (h : Fin 8) (i : Fin 128) (j : Fin 256) :
    prob q k lg (ix6 0 g 0 h i j) = Attn.P (rows q k v d lg dl) h.val g.val i.val j.val := by
  unfold prob
  pointwise
  rw [stat_apply, bias_apply, Attn.P]
  simp only [rows]
  rw [Attn.nat2_eq lg ⟨128 * g.val + i.val, by omega⟩ ⟨64 * h.val, by omega⟩ rfl rfl]
  by_cases hm : mask (ix6 0 g 0 h i j) = 1#1
  · have hm' := (mask_iff g h i j).mp hm
    rw [hm, ValueIdx.select_one, if_neg hm'.2, Attn.beta, if_pos hm'.1]
    congr 3
    refine Finset.sum_congr rfl fun e _ => ?_
    rw [str_apply, keys_apply _ _ _ _ _ hm'.2, Attn.nat2_eq q ⟨128 * g.val + i.val, by omega⟩ ⟨64 * h.val + e.val, by omega⟩ rfl rfl,
      Attn.nat2_eq k ⟨128 * g.val + j.val - 128, by omega⟩ ⟨64 * h.val + e.val, by omega⟩ rfl rfl]
  · rw [ValueIdx.eq_zero_of_ne_one hm, ValueIdx.select_zero]
    have h0 : id (constant (F := Ideal) S_ FTy.f32 4286578688#32) ix0 = (⊥ : EReal) := Attn.neg_inf
    rw [h0, EReal.bot_sub, Ideal.exp_bot]
    have hm' := (not_congr (mask_iff g h i j)).mp hm
    by_cases h1 : g.val = 0 ∧ j.val < 128
    · rw [if_pos h1]
    · rw [if_neg h1, Attn.beta, if_neg (fun h2 => hm' ⟨h2, h1⟩), EReal.add_bot, EReal.bot_sub, Ideal.exp_bot]

/-- The gradient of the scores. -/
theorem dscore_eq (g : Fin 64) (h : Fin 8) (i : Fin 128) (j : Fin 256) :
    dscore q k v d lg dl (ix6 0 g 0 h i j) = Attn.C (rows q k v d lg dl) h.val g.val i.val j.val := by
  unfold dscore
  pointwise
  rw [statN_apply, prob_eq q k v d lg dl, Attn.C]
  by_cases hm : mask (ix6 0 g 0 h i j) = 1#1
  · have hm' := (mask_iff g h i j).mp hm
    rw [hm, ValueIdx.select_one, mul_comm, sub_eq_add_neg, add_comm]
    congr 2
    · refine Finset.sum_congr rfl fun e _ => ?_
      rw [doT_apply, keys_apply _ _ _ _ _ hm'.2]
      simp only [rows]
      rw [Attn.nat2_eq d ⟨128 * g.val + i.val, by omega⟩ ⟨64 * h.val + e.val, by omega⟩ rfl rfl,
        Attn.nat2_eq v ⟨128 * g.val + j.val - 128, by omega⟩ ⟨64 * h.val + e.val, by omega⟩ rfl rfl]
    · simp only [rows]
      rw [Attn.nat2_eq dl ⟨128 * g.val + i.val, by omega⟩ ⟨64 * h.val, by omega⟩ rfl rfl]
  · have hp : Attn.P (rows q k v d lg dl) h.val g.val i.val j.val = 0 := by
      have hm' := (not_congr (mask_iff g h i j)).mp hm
      rw [Attn.P]
      by_cases h1 : g.val = 0 ∧ j.val < 128
      · rw [if_pos h1]
      · rw [if_neg h1]
        simp only [rows]
        rw [Attn.beta, if_neg (fun h2 => hm' ⟨h2, h1⟩), EReal.add_bot, EReal.bot_sub, Ideal.exp_bot]
    rw [ValueIdx.eq_zero_of_ne_one hm, ValueIdx.select_zero, hp, zero_mul]

theorem back_apply (a : Vec Ideal S1x64x128x1x8x64 .f32) (t : Fin 8192) (l : Fin 512) :
    back a (ix2 t l) = a (ix6 0 ⟨t.val / 128, by omega⟩ ⟨t.val % 128, by omega⟩ 0 ⟨l.val / 64, by omega⟩ ⟨l.val % 64, by omega⟩) := by
  unfold back
  pointwise

theorem dq_apply (w : Vec Ideal S1x64x1x8x128x256 .f32) (g : Fin 64) (h : Fin 8) (i : Fin 128) (e : Fin 64) :
    dq w k (ix6 0 g i 0 h e) = ∑ x : Fin 256, w (ix6 0 g 0 h i x) * keys k (ix6 0 g x 0 h e) := by
  unfold dq
  pointwise

theorem fold_apply (w : Vec Ideal S1x64x256x1x8x64 .f32) (g : Fin 64) (h : Fin 8) (i : Fin 128) (e : Fin 64) :
    fold w (ix6 0 g i 0 h e) = w (ix6 0 g ⟨128 + i.val, by omega⟩ 0 h e)
      + if hg : g.val < 63 then w (ix6 0 ⟨1 + g.val, by omega⟩ ⟨i.val, by omega⟩ 0 h e) else 0 := by
  unfold fold
  pointwise

theorem dk_apply (w : Vec Ideal S1x64x1x8x128x256 .f32) (g : Fin 64) (h : Fin 8) (k : Fin 256) (e : Fin 64) :
    dk w q (ix6 0 g k 0 h e) = ∑ x : Fin 128, w (ix6 0 g 0 h x k) * str q (ix6 0 g x 0 h e) := by
  unfold dk
  pointwise

theorem dv_apply (w : Vec Ideal S1x64x1x8x128x256 .f32) (g : Fin 64) (h : Fin 8) (k : Fin 256) (e : Fin 64) :
    dv w d (ix6 0 g k 0 h e) = ∑ x : Fin 128, doT d (ix6 0 g 0 h e x) * w (ix6 0 g 0 h x k) := by
  unfold dv
  pointwise

/-- A lane's head and its place in the head. -/
theorem lane (l : Fin 512) : 64 * (l.val / 64) + l.val % 64 = l.val := Nat.div_add_mod ..

/-- The queries' gradient. -/
theorem dq_value (t : Fin 8192) (l : Fin 512) :
    back (dq (dscore q k v d lg dl) k) (ix2 t l) = Attn.dq (rows q k v d lg dl) t.val l.val := by
  rw [back_apply, dq_apply, Attn.dq]
  refine Finset.sum_congr rfl fun x _ => ?_
  rw [dscore_eq]
  by_cases hg : t.val / 128 = 0 ∧ x.val < 128
  · have hC : Attn.C (rows q k v d lg dl) (l.val / 64) (t.val / 128) (t.val % 128) x.val = 0 := by
      rw [Attn.C, Attn.P, if_pos hg, zero_mul]
    rw [hC, zero_mul, zero_mul]
  · rw [keys_apply k _ _ _ _ hg]
    congr 1
    exact (Attn.nat2_eq k _ _ rfl (lane l).symm).symm

/-- The keys' gradient. -/
theorem dk_value (t : Fin 8192) (l : Fin 512) :
    back (fold (dk (dscore q k v d lg dl) q)) (ix2 t l) = Attn.dk (rows q k v d lg dl) t.val l.val := by
  rw [back_apply, fold_apply, Attn.dk, dk_apply]
  congr 1
  · refine Finset.sum_congr rfl fun x _ => ?_
    rw [dscore_eq, str_apply]
    congr 1
    exact (Attn.nat2_eq q _ _ rfl (lane l).symm).symm
  · by_cases hg : t.val / 128 < 63
    · rw [dif_pos hg, if_pos (by omega), dk_apply]
      refine Finset.sum_congr rfl fun x _ => ?_
      rw [dscore_eq, str_apply]
      have h1 : t.val / 128 + 1 = 1 + t.val / 128 := Nat.add_comm ..
      rw [h1]
      congr 1
      exact (Attn.nat2_eq q _ _ rfl (lane l).symm).symm
    · rw [dif_neg hg, if_neg (by omega)]

/-- The values' gradient. -/
theorem dv_value (t : Fin 8192) (l : Fin 512) :
    back (fold (dv (prob q k lg) d)) (ix2 t l) = Attn.dv (rows q k v d lg dl) t.val l.val := by
  rw [back_apply, fold_apply, Attn.dv, dv_apply]
  congr 1
  · refine Finset.sum_congr rfl fun x _ => ?_
    rw [prob_eq q k v d lg dl, doT_apply, mul_comm]
    congr 1
    exact (Attn.nat2_eq d _ _ rfl (lane l).symm).symm
  · by_cases hg : t.val / 128 < 63
    · rw [dif_pos hg, if_pos (by omega), dv_apply]
      refine Finset.sum_congr rfl fun x _ => ?_
      rw [prob_eq q k v d lg dl, doT_apply, mul_comm]
      have h1 : t.val / 128 + 1 = 1 + t.val / 128 := Nat.add_comm ..
      rw [h1]
      congr 1
      exact (Attn.nat2_eq d _ _ rfl (lane l).symm).symm
    · rw [dif_neg hg, if_neg (by omega)]

end Cert.ReferenceIdeal.Terms
-- ==== Proof.Attn.Equation.lean ====
/- The two programs' results are equal: both are the gradients of Spec.lean at the arguments, plus the gradients
   handed in. -/
module

public import proofs.«01_k».proof.Proof.Attn.Arrays
public import proofs.«01_k».proof.Proof.Attn.RefValues

@[expose] public section

set_option maxRecDepth 16384

noncomputable section

namespace Cert.Attn

open Idealize.ShloMosaic Idealize.ShloMosaic.TcCoe

variable (m : (ℓ : Loc KernelIdeal.nD KernelIdeal.τ KernelIdeal.sig) → Buf (Elt Ideal) ℓ) (c : Dev KernelIdeal.nD)
  (m' : (ℓ : Loc ReferenceIdeal.nD ReferenceIdeal.τ ReferenceIdeal.sig) → Buf (Elt Ideal) ℓ)

open ReferenceIdeal.Terms in
/-- The arguments of the two programs are equal. -/
structure Agree : Prop where
  q : aQ m' c = m ((c.tc : Thread KernelIdeal.nD KernelIdeal.τ).loc KernelIdeal.main_arg0)
  k : aK m' c = m ((c.tc : Thread KernelIdeal.nD KernelIdeal.τ).loc KernelIdeal.main_arg1)
  p : aP m' c = m ((c.tc : Thread KernelIdeal.nD KernelIdeal.τ).loc KernelIdeal.main_arg2)
  d : aD m' c = m ((c.tc : Thread KernelIdeal.nD KernelIdeal.τ).loc KernelIdeal.main_arg3)
  lg : aLg m' c = m ((c.tc : Thread KernelIdeal.nD KernelIdeal.τ).loc KernelIdeal.main_arg4)
  dl : aDl m' c = m ((c.tc : Thread KernelIdeal.nD KernelIdeal.τ).loc KernelIdeal.main_arg5)
  sq : aSq m' c = m ((c.tc : Thread KernelIdeal.nD KernelIdeal.τ).loc KernelIdeal.main_arg6)
  sk : aSk m' c = m ((c.tc : Thread KernelIdeal.nD KernelIdeal.τ).loc KernelIdeal.main_arg7)
  sv : aSv m' c = m ((c.tc : Thread KernelIdeal.nD KernelIdeal.τ).loc KernelIdeal.main_arg8)

open ReferenceIdeal.Terms

/-- The reference's functions of a row and a lane, at its arguments. -/
abbrev refRows : Rows := ReferenceIdeal.Terms.rows (aQ m' c) (aK m' c) (vOf (aP m' c)) (dOf (aD m' c)) (aLg m' c) (aDl m' c)

theorem vOf_apply (a : Vec Ideal ReferenceIdeal.S8192x2560 .f32) (t : Fin 8192) (l : Fin 512) : vOf a (ix2 t l) = a (ix2 t ⟨2048 + l.val, by omega⟩) := by
  unfold vOf
  pointwise

theorem dOf_apply (a : Vec Ideal ReferenceIdeal.S8192x1024 .f32) (t : Fin 8192) (l : Fin 512) : dOf a (ix2 t l) = a (ix2 t ⟨512 + l.val, by omega⟩) := by
  unfold dOf
  pointwise

/-- Columns of a matrix, as a function of a row and a lane, where the lane is one of theirs. -/
theorem nat2_cols {n : ℕ} (a : (⟨2, ![8192, n]⟩ : Shape).Idx → EReal) (b : (⟨2, ![8192, 512]⟩ : Shape).Idx → EReal) (o : ℕ) (ho : o + 512 ≤ n)
    (h : ∀ (t : Fin 8192) (l : Fin 512), b (ix2 t l) = a (ix2 t ⟨o + l.val, by omega⟩)) (t l : ℕ) (hl : l < 512) :
    nat2 b t l = nat2 a t (o + l) := by
  by_cases ht : t < 8192
  · rw [nat2_eq b ⟨t, ht⟩ ⟨l, hl⟩ rfl rfl, nat2_eq a ⟨t, ht⟩ ⟨o + l, by omega⟩ rfl rfl, h]
  · rw [nat2, nat2, dif_neg (fun h => ht h.1), dif_neg (fun h => ht h.1)]

variable {m c m'} (h : Agree m c m')
include h

theorem v_eq (t l : ℕ) (hl : l < 512) : (refRows c m').v t l = (KernelIdeal.Step.rows m c).v t l :=
  (nat2_cols _ _ 2048 (by decide) (vOf_apply _) t l hl).trans (by rw [h.p]; rfl)

theorem d_eq (t l : ℕ) (hl : l < 512) : (refRows c m').d t l = (KernelIdeal.Step.rows m c).d t l :=
  (nat2_cols _ _ 512 (by decide) (dOf_apply _) t l hl).trans (by rw [h.d]; rfl)

theorem P_eq (hd g i k : ℕ) : P (refRows c m') hd g i k = P (KernelIdeal.Step.rows m c) hd g i k := by
  unfold P
  show (if _ then _ else Ideal.exp ((∑ e : Fin 64, nat2 (aQ m' c) _ _ * nat2 (aK m' c) _ _) + _ - nat2 (aLg m' c) _ _)) = _
  rw [h.q, h.k, h.lg]
  rfl

theorem C_eq (hd g i k : ℕ) (hh : hd < 8) : C (refRows c m') hd g i k = C (KernelIdeal.Step.rows m c) hd g i k := by
  unfold C
  rw [P_eq h]
  congr 2
  · exact Finset.sum_congr rfl fun e _ => by rw [v_eq h _ _ (by omega), d_eq h _ _ (by omega)]
  · show nat2 (aDl m' c) _ _ = _
    rw [h.dl]
    rfl

theorem q_eq (t l : ℕ) : (refRows c m').q t l = (KernelIdeal.Step.rows m c).q t l := by
  show nat2 (aQ m' c) _ _ = _
  rw [h.q]
  rfl

theorem k_eq (t l : ℕ) : (refRows c m').k t l = (KernelIdeal.Step.rows m c).k t l := by
  show nat2 (aK m' c) _ _ = _
  rw [h.k]
  rfl

/-- The queries' gradient at an element. -/
theorem dq_at (t : Fin 8192) (l : Fin 512) :
    dq (KernelIdeal.Step.rows m c) t.val l.val + KernelIdeal.Step.arg6 m c t.val l.val =
      back (ReferenceIdeal.Terms.dq (dscore (aQ m' c) (aK m' c) (vOf (aP m' c)) (dOf (aD m' c)) (aLg m' c) (aDl m' c)) (aK m' c)) (ix2 t l) + aSq m' c (ix2 t l) := by
  rw [dq_value, h.sq]
  refine congrArg₂ (· + ·) ?_ (nat2_eq _ t l rfl rfl)
  have hl := l.isLt
  exact Finset.sum_congr rfl fun k _ => by rw [C_eq h _ _ _ _ (by omega), k_eq h]

/-- The keys' gradient. -/
theorem dk_at (t : Fin 8192) (l : Fin 512) :
    dk (KernelIdeal.Step.rows m c) t.val l.val + KernelIdeal.Step.arg7 m c t.val l.val =
      back (fold (ReferenceIdeal.Terms.dk (dscore (aQ m' c) (aK m' c) (vOf (aP m' c)) (dOf (aD m' c)) (aLg m' c) (aDl m' c)) (aQ m' c))) (ix2 t l) + aSk m' c (ix2 t l) := by
  rw [dk_value, h.sk]
  refine congrArg₂ (· + ·) ?_ (nat2_eq _ t l rfl rfl)
  have hl := l.isLt
  unfold dk
  simp only [C_eq h _ _ _ _ (show l.val / 64 < 8 by omega), q_eq h]

/-- The values' gradient. -/
theorem dv_at (t : Fin 8192) (l : Fin 512) :
    dv (KernelIdeal.Step.rows m c) t.val l.val + KernelIdeal.Step.arg8 m c t.val l.val =
      back (fold (ReferenceIdeal.Terms.dv (prob (aQ m' c) (aK m' c) (aLg m' c)) (dOf (aD m' c)))) (ix2 t l) + aSv m' c (ix2 t l) := by
  rw [dv_value (aQ m' c) (aK m' c) (vOf (aP m' c)) (dOf (aD m' c)) (aLg m' c) (aDl m' c), h.sv]
  refine congrArg₂ (· + ·) ?_ (nat2_eq _ t l rfl rfl)
  have hl := l.isLt
  unfold dv
  simp only [P_eq h, d_eq h _ _ hl]

omit h in
/-- Two matrices are equal when their elements are. -/
theorem matrix_ext (f g : Vec Ideal KernelIdeal.S8192x512 .f32) (h : ∀ (t : Fin 8192) (l : Fin 512), f (ix2 t l) = g (ix2 t l)) : f = g := by
  funext x
  rw [eq_ix2 x]
  exact h (x 0) (x 1)

/-- The queries' gradients: the array the kernel ends with is the reference's result. -/
theorem dq_eq : (KernelIdeal.Gen.dats m 0 c).arrAt 16 KernelIdeal.cfg0.N = ReferenceIdeal.Value.res_out0 m' c := by
  rw [out0_eq]
  refine matrix_ext _ _ fun t l => ?_
  rw [ValueIdx.addf_apply]
  exact (KernelIdeal.Step.final_dq m c t l).trans (dq_at h t l)

/-- The keys' gradients: the array the kernel ends with is the reference's result. -/
theorem dk_eq : (KernelIdeal.Gen.dats m 0 c).arrAt 17 KernelIdeal.cfg0.N = ReferenceIdeal.Value.res_out1 m' c := by
  rw [out1_eq]
  refine matrix_ext _ _ fun t l => ?_
  rw [ValueIdx.addf_apply]
  exact (KernelIdeal.Step.final_dk m c t l).trans (dk_at h t l)

/-- The values' gradients: the array the kernel ends with is the reference's result. -/
theorem dv_eq : (KernelIdeal.Gen.dats m 0 c).arrAt 18 KernelIdeal.cfg0.N = ReferenceIdeal.Value.res_out2 m' c := by
  rw [out2_eq]
  refine matrix_ext _ _ fun t l => ?_
  rw [ValueIdx.addf_apply]
  exact (KernelIdeal.Step.final_dv m c t l).trans (dv_at h t l)

end Cert.Attn
-- ==== Proof.Blocks.lean ====
/- Sums over rows taken block by block, and matrices read by row and column. -/
module

public import Idealize.ShloMosaic.Lib.Pipeline.ValueKit
public import proofs.«01_k».proof.Proof.Attn.Spec

@[expose] public section

noncomputable section

namespace Cert.Rows

open Idealize.ShloMosaic

/-- The sum of `f` over rows `0` to `n - 1`. -/
def upTo (f : ℕ → EReal) (n : ℕ) : EReal := ∑ r ∈ Finset.range n, f r

theorem upTo_zero (f : ℕ → EReal) : upTo f 0 = 0 := by rw [upTo, Finset.range_zero, Finset.sum_empty]

/-- One more block of `b` rows. -/
theorem upTo_block (f : ℕ → EReal) (k b : ℕ) :
    upTo f (b * (k + 1)) = upTo f (b * k) + ∑ r : Fin b, f (b * k + r.val) := by
  rw [upTo, upTo, Nat.mul_succ, Finset.sum_range_add, Fin.sum_univ_eq_sum_range (fun r => f (b * k + r))]

/-- All rows. -/
theorem upTo_all (f : ℕ → EReal) (n : ℕ) : upTo f n = ∑ r : Fin n, f r.val :=
  (Fin.sum_univ_eq_sum_range f n).symm

/-- Two matrices are equal when their elements are. -/
theorem matrix_ext {a b : ℕ} (f g : (⟨2, ![a, b]⟩ : Shape).Idx → EReal) (h : ∀ (i : Fin a) (j : Fin b), f (ix2 i j) = g (ix2 i j)) : f = g := by
  funext x
  rw [eq_ix2 x]
  exact h (x 0) (x 1)

end Cert.Rows

end
-- ==== Proof.Tiles.lean ====
/- An array whose blocks are known is known, and a sum taken block by block is the sum of all rows.
   Both are stated for any pipeline and any blocks. -/
module

public import Idealize.ShloMosaic.Lib.Pipeline.ValueKit
public import proofs.«01_k».proof.Proof.Blocks

@[expose] public section

noncomputable section

namespace Cert.Tiles

open Idealize Idealize.SL.RA Idealize.ShloMosaic Idealize.ShloMosaic.TcCoe Idealize.ShloMosaic.Pipeline

section Array

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

/-- What a point writes back, at an element of the array. -/
theorem written (w : Fin cfg.W) (g : (Fin (cfg.win w).shape.rank → ℕ) → Val (cfg.win w).elt)
    (off : Fin cfg.N → Fin (cfg.win w).shape.rank → ℕ → ℕ)
    (hoff : ∀ t a n, (cfg.win w).index t a * (cfg.win w).size a + n = off t a n)
    (hG : ∀ t, (cfg.win w).flush t = true → ∀ z : (cfg.win w).block.Idx, dat.after w t z = g fun a => off t a (z a).val)
    (t : Fin cfg.N) (hf : (cfg.win w).flush t = true) (y : ((cfg.win w).xblock (cfg.grid.coords t)).Idx)
    (x : (cfg.win w).shape.Idx) (hx : (cfg.win w).arr.view.emb x = ((cfg.win w).blk t).view.emb y) :
    _root_.cast (congrArg Val (cfg.win w).arr.view.elt_eq) (_root_.cast (congrArg Val ((cfg.win w).blk t).view.elt_eq.symm)
      (dat.after w t ((cfg.win w).xinj (cfg.grid.coords t) y))) = g fun a => (x a).val := by
  have hk : (cfg.win w).kind = .blocked := (cfg.win w).kind_out (by unfold Window.flush at hf; exact (Bool.and_eq_true_iff.mp hf).1)
  obtain rfl : x = ((cfg.win w).rect t).emb y := (cfg.win w).arr.view.emb.injective hx
  rw [cast_cast, cast_eq, hG t hf]
  refine congrArg g (funext fun a => ?_)
  rw [(cfg.win w).rect_emb_val t y a hk, hoff]

/-- An output array at an element: `g` of the element's place, if every block that is written back holds `g` of the places
    of its elements, and these blocks cover the array. `off t a n` is the place of a block's `n`-th element on axis `a`. -/
theorem array (w : Fin cfg.W) (g : (Fin (cfg.win w).shape.rank → ℕ) → Val (cfg.win w).elt)
    (off : Fin cfg.N → Fin (cfg.win w).shape.rank → ℕ → ℕ) (hcov : (cfg.win w).Covers)
    (hoff : ∀ t a n, (cfg.win w).index t a * (cfg.win w).size a + n = off t a n)
    (hG : ∀ t, (cfg.win w).flush t = true → ∀ z : (cfg.win w).block.Idx, dat.after w t z = g fun a => off t a (z a).val)
    (x : (cfg.win w).shape.Idx) (harr : (cfg.win w).arr.IsWhole := by first | exact Memref.isWhole_whole _ | assumption) :
    (cfg.win w).arr.view.read Val (dat.arrAt w cfg.N) x = g fun a => (x a).val := by
  rw [View.read_apply]
  refine dat.arrAt_forall_of_covers w (fun i v => ∀ x : (cfg.win w).shape.Idx, (cfg.win w).arr.view.emb x = i →
    _root_.cast (congrArg Val (cfg.win w).arr.view.elt_eq) v = g fun a => (x a).val) hcov (fun t hf y x hx => ?_) _ harr x rfl
  exact written dat w g off hoff hG t hf y x hx

/-- The same of an array stored in place, if the blocks that are written back cover the part of it where `Q` holds of an element's
    block, and if it holds `g` elsewhere before the first point. -/
theorem array_into (w : Fin cfg.W) (g : (Fin (cfg.win w).shape.rank → ℕ) → Val (cfg.win w).elt)
    (off : Fin cfg.N → Fin (cfg.win w).shape.rank → ℕ → ℕ) (Q : (Fin (cfg.win w).shape.rank → ℕ) → Prop) (hcov : (cfg.win w).CoversWhere Q)
    (hoff : ∀ t a n, (cfg.win w).index t a * (cfg.win w).size a + n = off t a n)
    (hG : ∀ t, (cfg.win w).flush t = true → ∀ z : (cfg.win w).block.Idx, dat.after w t z = g fun a => off t a (z a).val)
    (hA : ∀ x : (cfg.win w).shape.Idx, ¬Q ((cfg.win w).cell x) → (cfg.win w).arr.view.read Val (dat.A w) x = g fun a => (x a).val)
    (x : (cfg.win w).shape.Idx) (harr : (cfg.win w).arr.IsWhole := by first | exact Memref.isWhole_whole _ | assumption) :
    (cfg.win w).arr.view.read Val (dat.arrAt w cfg.N) x = g fun a => (x a).val := by
  rw [View.read_apply]
  refine dat.arrAt_forall_of_coversWhere w (fun i v => ∀ x : (cfg.win w).shape.Idx, (cfg.win w).arr.view.emb x = i →
    _root_.cast (congrArg Val (cfg.win w).arr.view.elt_eq) v = g fun a => (x a).val) Q hcov (fun t hf y x hx => ?_) (fun j hj x hx => ?_)
    _ harr x rfl
  · exact written dat w g off hoff hG t hf y x hx
  · obtain rfl : x = j := (cfg.win w).arr.view.emb.injective hx
    exact (View.read_apply ..).symm.trans (hA x hj)

end Array

/-! ## The places of a block's elements in a matrix -/

section Places

/-- The block of rows `p`, -/
abbrev rows (b p : ℕ) : Fin 2 → ℕ → ℕ := ![fun n => b * p + n, fun n => n]
/-- and the block of columns `p`. -/
abbrev columns (b p : ℕ) : Fin 2 → ℕ → ℕ := ![fun n => n, fun n => b * p + n]

/-- A block's elements lie there, if its index is known. -/
theorem rows_at {e : Fin 2 → ℕ} {p : ℕ} (b d : ℕ) (h : e = ![p, 0]) (a : Fin 2) (n : ℕ) : e a * (![b, d] a) + n = rows b p a n := by
  subst h
  revert a
  exact Fin.forall_fin_two.mpr ⟨congrArg (· + n) (Nat.mul_comm p b), (congrArg (· + n) (Nat.zero_mul d)).trans (Nat.zero_add n)⟩

@[inherit_doc rows_at]
theorem columns_at {e : Fin 2 → ℕ} {p : ℕ} (b d : ℕ) (h : e = ![0, p]) (a : Fin 2) (n : ℕ) : e a * (![d, b] a) + n = columns b p a n := by
  subst h
  revert a
  exact Fin.forall_fin_two.mpr ⟨(congrArg (· + n) (Nat.zero_mul d)).trans (Nat.zero_add n), congrArg (· + n) (Nat.mul_comm p b)⟩

/-- The block of rows `p` and columns `q`, -/
abbrev tile (b d p q : ℕ) : Fin 2 → ℕ → ℕ := ![fun n => b * p + n, fun n => d * q + n]

/-- and its elements' places. -/
theorem tile_at {e : Fin 2 → ℕ} {p q : ℕ} (b d : ℕ) (h : e = ![p, q]) (a : Fin 2) (n : ℕ) : e a * (![b, d] a) + n = tile b d p q a n := by
  subst h
  revert a
  exact Fin.forall_fin_two.mpr ⟨congrArg (· + n) (Nat.mul_comm p b), congrArg (· + n) (Nat.mul_comm q d)⟩

/-- The block that is the matrix. -/
theorem whole_at {e : Fin 2 → ℕ} (b d : ℕ) (h : e = ![0, 0]) (a : Fin 2) (n : ℕ) : e a * (![b, d] a) + n = n := by
  subst h
  revert a
  exact Fin.forall_fin_two.mpr ⟨(congrArg (· + n) (Nat.zero_mul b)).trans (Nat.zero_add n), (congrArg (· + n) (Nat.zero_mul d)).trans (Nat.zero_add n)⟩

/-- An index of a matrix of one row. -/
theorem one_row {d : ℕ} (z : (⟨2, ![1, d]⟩ : Shape).Idx) : z = ix2 0 (z 1) :=
  (eq_ix2 z).trans (congrArg (fun a => ix2 a (z 1)) (Subsingleton.elim (α := Fin 1) _ _))

end Places

section Rounds

open Cert.Rows

/-- A running sum over rounds of `q` blocks of `b` rows each: it begins again at zero with each round. -/
theorem rounds {N q b : ℕ} (hq : 0 < q) (f : ℕ → ℕ → EReal) (o : ∀ n, n < N → EReal)
    (first : ∀ n (h : n < N), n % q = 0 → o n h = 0 + ∑ r : Fin b, f (n / q) (b * (n % q) + r.val))
    (next : ∀ n (h : n + 1 < N), (n + 1) % q ≠ 0 →
      o (n + 1) h = o n (Nat.lt_of_succ_lt h) + ∑ r : Fin b, f ((n + 1) / q) (b * ((n + 1) % q) + r.val))
    (n : ℕ) (h : n < N) : o n h = upTo (f (n / q)) (b * (n % q + 1)) := by
  induction n with
  | zero => rw [first 0 h (Nat.zero_mod q), upTo_block, Nat.zero_mod, Nat.mul_zero, upTo_zero]
  | succ n ih =>
    by_cases h0 : (n + 1) % q = 0
    · rw [first _ h h0, upTo_block, h0, Nat.mul_zero, upTo_zero]
    · have hd : (n + 1) / q = n / q := by
        rw [Nat.succ_div, if_neg fun hd => h0 (Nat.mod_eq_zero_of_dvd hd), Nat.add_zero]
      have hm : (n + 1) % q = n % q + 1 := by
        have h1 := Nat.div_add_mod (n + 1) q
        have h2 := Nat.div_add_mod n q
        rw [hd] at h1
        omega
      rw [next n h h0, ih, hd, hm, upTo_block _ (n % q + 1)]

/-- A running sum of one round. -/
theorem running {N b : ℕ} (f : ℕ → EReal) (o : ∀ n, n < N → EReal)
    (first : ∀ h : 0 < N, o 0 h = 0 + ∑ r : Fin b, f (b * 0 + r.val))
    (next : ∀ n (h : n + 1 < N), o (n + 1) h = o n (Nat.lt_of_succ_lt h) + ∑ r : Fin b, f (b * (n + 1) + r.val))
    (n : ℕ) (h : n < N) : o n h = upTo f (b * (n + 1)) := by
  induction n with
  | zero => rw [first h, upTo_block, Nat.mul_zero, upTo_zero]
  | succ n ih => rw [next n h, ih, upTo_block _ (n + 1)]

/-- After the last point it is the sum of all rows. -/
theorem running_all {N b k : ℕ} (f : ℕ → EReal) (o : ∀ n, n < N → EReal)
    (first : ∀ h : 0 < N, o 0 h = 0 + ∑ r : Fin b, f (b * 0 + r.val))
    (next : ∀ n (h : n + 1 < N), o (n + 1) h = o n (Nat.lt_of_succ_lt h) + ∑ r : Fin b, f (b * (n + 1) + r.val))
    (n : ℕ) (h : n < N) (hn : b * (n + 1) = k) : o n h = ∑ r : Fin k, f r.val := by
  rw [running f o first next n h, hn, upTo_all]

end Rounds

end Cert.Tiles

end
-- ==== Proof.Norm.lean ====
/- The backward pass of a root mean square normalisation, over the extended reals: the form with the cube of the
   reciprocal root and the form that differentiation gives are equal, at infinite elements too. -/
module

public import Idealize.ShloMosaic.Lib.Pipeline.ValueKit

@[expose] public section

noncomputable section

namespace Cert.Norm

open Idealize.ShloMosaic

/-- The constants, as the programs give them. -/
abbrev width : EReal := Ideal.ofBits .f32 0x44800000#32
@[inherit_doc width] abbrev eps : EReal := Ideal.ofBits .f32 0x358637BD#32
@[inherit_doc width] abbrev minusHalf : EReal := Ideal.ofBits .f32 0xBF000000#32

theorem width_eq : width = ((1024 : ℝ) : EReal) := by
  simp [Ideal.ofBits, Ideal.ieee]
  rw [← EReal.coe_mul]
  norm_num

theorem minusHalf_eq : minusHalf = ((-(1 / 2) : ℝ) : EReal) := by
  simp [Ideal.ofBits, Ideal.ieee]
  rw [← EReal.coe_mul]
  norm_num

theorem eps_pos : ∃ e : ℝ, 0 < e ∧ eps = (e : EReal) := by
  refine ⟨8796093 * (2 ^ 43)⁻¹, by positivity, ?_⟩
  simp [Ideal.ofBits, Ideal.ieee]

variable {n : ℕ} (x : Fin n → EReal)

/-- The mean square plus the small constant, -/
def square : EReal := Ideal.div (∑ k, x k * x k) width + eps

/-- and the reciprocal of its root. -/
def root : EReal := Ideal.rsqrt (square x)

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem self_mul_nonneg (a : EReal) : 0 ≤ a * a := by
  induction a with
  | bot => simp
  | top => simp
  | coe r => rw [← EReal.coe_mul]; exact_mod_cast mul_self_nonneg r

/-- With finite elements the square is a positive real; with an infinite one it is infinite. -/
theorem square_cases : (∃ s : ℝ, 0 < s ∧ square x = (s : EReal) ∧ ∀ k, ∃ y : ℝ, x k = (y : EReal)) ∨ square x = ⊤ := by
  obtain ⟨e, he, hee⟩ := eps_pos
  by_cases h : ∀ k, x k ≠ ⊤ ∧ x k ≠ ⊥
  · left
    have hx : ∀ k, x k = ((x k).toReal : EReal) := fun k => (EReal.coe_toReal (h k).1 (h k).2).symm
    refine ⟨(∑ k, (x k).toReal * (x k).toReal) * (1 / 1024) + e, ?_, ?_, fun k => ⟨_, hx k⟩⟩
    · have : 0 ≤ ∑ k, (x k).toReal * (x k).toReal := Finset.sum_nonneg fun k _ => mul_self_nonneg _
      positivity
    · rw [square, hee, width_eq, Ideal.div_coe (by norm_num), EReal.coe_add, EReal.coe_mul, ← coe_sum]
      refine congrArg (· * _ + _) (Finset.sum_congr rfl fun k _ => ?_)
      rw [EReal.coe_mul, ← hx k]
  · right
    obtain ⟨k, hk⟩ := not_forall.mp h
    have hkk : x k * x k = ⊤ := by
      by_cases ht : x k = ⊤
      · rw [ht]; rfl
      · rw [not_not.mp fun hb => hk ⟨ht, hb⟩]; rfl
    have hs : (∑ k, x k * x k) = ⊤ := by
      classical
      rw [← Finset.add_sum_erase _ _ (Finset.mem_univ k), hkk]
      refine EReal.top_add_of_ne_bot fun hb => ?_
      have : 0 ≤ ∑ j ∈ Finset.univ.erase k, x j * x j := Finset.sum_nonneg fun j _ => self_mul_nonneg _
      rw [hb] at this
      exact absurd this (by simp)
    rw [square, hs, hee, width_eq, Ideal.div_coe (by norm_num), EReal.top_mul_coe_of_pos (by norm_num), EReal.top_add_coe]

/-- Twice a value is its sum with itself. -/
theorem add_self (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_mul, ← EReal.coe_add, two_mul]

/-- What the mean of the scaled gradient contributes, in the form that differentiation gives, is added twice, once for each
    factor of the square; together that is the cube's form. `s` is the mean square, `w` the width. -/
theorem twice_pull_of {w : ℝ} (hw : w ≠ 0) {s a : EReal} (S : EReal)
    (h : (∃ r : ℝ, 0 < r ∧ s = (r : EReal) ∧ ∃ y : ℝ, a = (y : EReal)) ∨ s = ⊤) :
    a * Ideal.div (S * (minusHalf * Ideal.div (Ideal.rsqrt s) s)) (w : EReal)
        + Ideal.div (S * (minusHalf * Ideal.div (Ideal.rsqrt s) s)) (w : EReal) * a
      = -(a * (Ideal.rsqrt s * Ideal.rsqrt s * Ideal.rsqrt s) * Ideal.div S (w : EReal)) := by
  rw [mul_comm (Ideal.div (S * _) _) a, add_self, minusHalf_eq]
  rcases h with ⟨s, hs, rfl, y, rfl⟩ | rfl
  · have hr : Ideal.rsqrt (s : EReal) = (((Real.sqrt s)⁻¹ : ℝ) : EReal) := by
      show (if s < 0 then (⊥ : EReal) else if s = 0 then ⊤ else (((Real.sqrt s)⁻¹ : ℝ) : EReal)) = _
      rw [if_neg (by linarith), if_neg (by linarith)]
    rw [hr, Ideal.div_coe hs.ne', Ideal.div_coe hw, Ideal.div_coe hw]
    have hq : (Real.sqrt s)⁻¹ * (1 / s) = (Real.sqrt s)⁻¹ * (Real.sqrt s)⁻¹ * (Real.sqrt s)⁻¹ := by
      have h1 : (Real.sqrt s)⁻¹ * (Real.sqrt s)⁻¹ = 1 / s := by
        rw [← mul_inv, Real.mul_self_sqrt hs.le, one_div]
      rw [h1, mul_comm]
    rw [← EReal.coe_mul (Real.sqrt s)⁻¹ (1 / s), hq]
    generalize (Real.sqrt s)⁻¹ = r
    have e1 : ∀ a b c d e : EReal, a * (b * (S * (c * d) * e)) = a * b * c * d * e * S := fun a b c d e => by ac_rfl
    have e2 : ∀ a b c : EReal, a * b * (S * c) = a * b * c * S := fun a b c => by ac_rfl
    rw [e1, e2, ← EReal.neg_mul]
    simp only [← EReal.coe_mul, ← EReal.coe_neg]
    congr 2
    ring
  · have hr : Ideal.rsqrt ⊤ = 0 := rfl
    rw [hr, Ideal.div_coe hw, Ideal.div_coe hw]
    simp [Ideal.div]

/-- That contribution, for a row `x`. -/
def pull (S : EReal) : EReal := Ideal.div (S * (minusHalf * Ideal.div (root x) (square x))) width

theorem twice_pull (S : EReal) (k : Fin n) :
    x k * pull x S + pull x S * x k = -(x k * (root x * root x * root x) * Ideal.div S width) := by
  rw [pull, width_eq]
  refine twice_pull_of (by norm_num) S ?_
  rcases square_cases x with ⟨s, hs, hsq, hfin⟩ | htop
  · exact .inl ⟨s, hs, hsq, hfin k⟩
  · exact .inr htop

/-- The gradient of the normalised rows' input: the two forms are equal. -/
theorem input_grad (b d : EReal) (t : Fin n → EReal) (k : Fin n) :
    b + root x * d - x k * (root x * root x * root x) * Ideal.div (∑ j, t j * x j) width
      = b + d * root x + x k * pull x (∑ j, x j * t j) + pull x (∑ j, x j * t j) * x k := by
  rw [add_assoc _ (x k * _), twice_pull, sub_eq_add_neg, mul_comm d]
  simp only [mul_comm (x _) (t _)]

end Cert.Norm

end
-- ==== Proof.NormRows.lean ====
/- What the backward pass of a normalised product computes, row by row. -/
module

public import proofs.«01_k».proof.Proof.Norm
public import proofs.«01_k».proof.Proof.Blocks

@[expose] public section

noncomputable section

namespace Cert.Norm

/-- The arguments by row and column: the gradient of the product's result, the weight, the rows that were
    normalised, the gradient that reaches them by the other path, and the normalisation's own weights. -/
structure Args where
  dz : ℕ → ℕ → EReal
  w : ℕ → ℕ → EReal
  x : ℕ → ℕ → EReal
  base : ℕ → ℕ → EReal
  gain : ℕ → EReal

variable (G : Args) (depth : ℕ)

/-- The row that is normalised. -/
def Args.row (t : ℕ) (k : Fin 1024) : EReal := G.x t k.val

/-- The gradient of the normalised rows: the product with the weight transposed. -/
def Args.dh (t j : ℕ) : EReal := ∑ k : Fin depth, G.dz t k.val * G.w j k.val

/-- The gradient of the rows. -/
def Args.dx (t j : ℕ) : EReal :=
  G.base t j + root (G.row t) * (G.dh depth t j * G.gain j)
    - G.x t j * (root (G.row t) * root (G.row t) * root (G.row t))
      * Idealize.ShloMosaic.Ideal.div (∑ k : Fin 1024, G.dh depth t k.val * G.gain k.val * G.row t k) width

/-- A row's part of the gradient of the normalisation's weights. -/
def Args.part (j t : ℕ) : EReal := G.dh depth t j * G.x t j * root (G.row t)

end Cert.Norm

end
-- ==== Proof.Up.Accumulate.lean ====
/- What each point of the backward pass leaves in its output blocks: the gradient of its 512 rows, and the sum so
   far of the gradient of the normalisation's weights. -/
module

public import proofs.«01_k».proof.Proof.Gen.UpIdeal.Frame
public import proofs.«01_k».proof.Proof.Gen.UpIdeal.Value
public import proofs.«01_k».proof.Proof.Tiles
public import proofs.«01_k».proof.Proof.NormRows
public import Idealize.ShloMosaic.Lib.Pipeline.ValueKit

@[expose] public section

set_option maxRecDepth 16384

noncomputable section

namespace Cert.UpIdeal.Step

open Idealize.ShloMosaic Idealize.ShloMosaic.TcCoe Cert.UpIdeal Cert.UpIdeal.Gen Cert.Rows

theorem hz : (![0, 0] : Fin 2 → Nat) = fun _ => 0 := funext fun a => by fin_cases a <;> rfl

section Cases

variable {F : FTy → Type} [FloatOps F] (c : Dev nD) (i : grid0.Coords)
  (a1 : Memref sig .tc .vmem S512x5632 .bf16) (h1 : a1.IsWhole) (a2 : Memref sig .tc .vmem S1024x5632 .bf16) (h2 : a2.IsWhole)
  (a3 : Memref sig .tc .vmem S512x1024 .f32) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S1x1024 .f32) (h7 : a7.IsWhole) (a8 : Memref sig .tc .vmem S512x1024 .bf16) (h8 : a8.IsWhole)
  (x0 : Vec F S512x5632 .bf16) (x1 : Vec F S1024x5632 .bf16) (x2 : Vec F S512x1024 .f32) (x3 : Vec F S512x1024 .f32)
  (x4 : Vec F S1x1024 .f32) (xo : Vec F S1x1024 .f32)

/-- The rows' gradient, at the first point -/
theorem dx_A (h0 : cond0_0 i) : out0_A_5 c i a1 h1 a2 h2 a3 h3 a4 h4 a5 h5 a6 h6 a7 h7 a8 h8 h0 x0 x1 x2 x3 x4 = k0_pay6 x2 x0 x1 x4 x3 := by
  unfold out0_A_5
  rw [View.read_writes_junk_eq_canon]
  unfold kernelRun0_A
  dsimp only
  sl_unfold_words
  rw [View.canon_unit_zero hz]
  simp only [View.readAt_eq_ld, h1.read_unread, h2.read_unread, h3.read_unread, h4.read_unread, h5.read_unread, View.ld_unit_zero (S := S512x5632) hz,
    View.ld_unit_zero (S := S1024x5632) hz, View.ld_unit_zero (S := S512x1024) hz, View.ld_unit_zero (S := S1x1024) hz]

/-- and at the others. -/
theorem dx_B (h0 : ¬cond0_0 i) : out0_B_5 c i a1 h1 a2 h2 a3 h3 a4 h4 a5 h5 a6 h6 a7 h7 a8 h8 h0 x0 x1 x2 x3 x4 xo = k0_pay6 x2 x0 x1 x4 x3 := by
  unfold out0_B_5
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, View.ld_unit_zero (S := S512x5632) hz,
    View.ld_unit_zero (S := S1024x5632) hz, View.ld_unit_zero (S := S512x1024) hz, View.ld_unit_zero (S := S1x1024) hz]

/-- Its narrow copy. -/
theorem copy_A (h0 : cond0_0 i) : out0_A_7 c i a1 h1 a2 h2 a3 h3 a4 h4 a5 h5 a6 h6 a7 h7 a8 h8 h0 x0 x1 x2 x3 x4
    = k0_pay2 (k0_pay6 x2 x0 x1 x4 x3) := by
  unfold out0_A_7
  rw [View.read_writes_junk_eq_canon]
  unfold kernelRun0_A
  dsimp only
  sl_unfold_words
  rw [View.canon_unit_zero hz, View.readCov_unit_zero (S := S512x1024) _ hz]
  simp only [View.readAt_eq_ld, h1.read_unread, h2.read_unread, h3.read_unread, h4.read_unread, h5.read_unread, View.ld_unit_zero (S := S512x5632) hz,
    View.ld_unit_zero (S := S1024x5632) hz, View.ld_unit_zero (S := S512x1024) hz, View.ld_unit_zero (S := S1x1024) hz]

@[inherit_doc copy_A]
theorem copy_B (h0 : ¬cond0_0 i) : out0_B_7 c i a1 h1 a2 h2 a3 h3 a4 h4 a5 h5 a6 h6 a7 h7 a8 h8 h0 x0 x1 x2 x3 x4 xo
    = k0_pay2 (k0_pay6 x2 x0 x1 x4 x3) := by
  unfold out0_B_7
  rw [View.read_writes_junk_eq_canon]
  unfold kernelRun0_B
  dsimp only
  sl_unfold_words
  rw [View.canon_unit_zero hz, View.readCov_unit_zero (S := S512x1024) _ hz]
  simp only [View.readAt_eq_ld, h1.read_unread, h2.read_unread, h3.read_unread, h4.read_unread, h5.read_unread, View.ld_unit_zero (S := S512x5632) hz,
    View.ld_unit_zero (S := S1024x5632) hz, View.ld_unit_zero (S := S512x1024) hz, View.ld_unit_zero (S := S1x1024) hz]

/-- The weights' gradient: the first point stores zero and adds to it, -/
theorem gain_A (h0 : cond0_0 i) : out0_A_6 c i a1 h1 a2 h2 a3 h3 a4 h4 a5 h5 a6 h6 a7 h7 a8 h8 h0 x0 x1 x2 x3 x4
    = k0_pay1 x2 (k0_pay4 x0 x1) (k0_pay5 x2) k0_pay3 := by
  unfold out0_A_6
  rw [View.read_writes_junk_eq_canon]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S512x5632) hz,
    View.ld_unit_zero (S := S1024x5632) hz, View.ld_unit_zero (S := S512x1024) hz]

/-- the others to what the point before left. -/
theorem gain_B (h0 : ¬cond0_0 i) : out0_B_6 c i a1 h1 a2 h2 a3 h3 a4 h4 a5 h5 a6 h6 a7 h7 a8 h8 h0 x0 x1 x2 x3 x4 xo
    = k0_pay1 x2 (k0_pay4 x0 x1) (k0_pay5 x2) xo := by
  unfold out0_B_6
  rw [View.read_writes_junk_eq_canon]
  unfold kernelRun0_B
  dsimp only
  sl_unfold_words
  rw [View.canon_unit_zero hz]
  simp only [View.readAt_eq_ld, h1.read_unread, h2.read_unread, h3.read_unread, h7.read_unread, View.ld_unit_zero (S := S512x5632) hz,
    View.ld_unit_zero (S := S1024x5632) hz, View.ld_unit_zero (S := S512x1024) hz, View.ld_unit_zero (S := S1x1024) hz]

end Cases

section Values

variable (x : Vec Ideal S512x1024 .f32) (z : Vec Ideal S512x5632 .bf16) (w : Vec Ideal S1024x5632 .bf16)

theorem pay5_apply (i : Fin 512) : k0_pay5 x (ix2 i 0) = Norm.root (fun k : Fin 1024 => x (ix2 i k)) := by
  unfold k0_pay5
  pointwise
  rfl

theorem pay4_apply (i : Fin 512) (j : Fin 1024) : k0_pay4 z w (ix2 i j) = ∑ k : Fin 5632, z (ix2 i k) * w (ix2 j k) := by
  unfold k0_pay4
  pointwise

theorem pay6_apply (g : Vec Ideal S1x1024 .f32) (b : Vec Ideal S512x1024 .f32) (i : Fin 512) (j : Fin 1024) :
    k0_pay6 x z w g b (ix2 i j) = b (ix2 i j) + k0_pay5 x (ix2 i 0) * (k0_pay4 z w (ix2 i j) * g (ix2 0 j))
      - x (ix2 i j) * (k0_pay5 x (ix2 i 0) * k0_pay5 x (ix2 i 0) * k0_pay5 x (ix2 i 0))
        * Ideal.div (∑ k : Fin 1024, k0_pay4 z w (ix2 i k) * g (ix2 0 k) * x (ix2 i k)) Norm.width := by
  unfold k0_pay6
  pointwise

theorem pay1_apply (y : FVec Ideal S512x1024 .f32) (r : FVec Ideal S512x1 .f32) (g : Vec Ideal S1x1024 .f32) (j : Fin 1024) :
    k0_pay1 x y r g (ix2 0 j) = g (ix2 0 j) + ∑ i : Fin 512, y (ix2 i j) * x (ix2 i j) * r (ix2 i 0) := by
  unfold k0_pay1
  pointwise

/-- A point adds its rows' parts to the weights' gradient. -/
theorem add_rows (A : Norm.Args) (depth n : ℕ) {x y : FVec Ideal S512x1024 .f32} {r : FVec Ideal S512x1 .f32}
    (hx : ∀ i j, x (ix2 i j) = A.x (n + i.val) j.val) (hy : ∀ i j, y (ix2 i j) = A.dh depth (n + i.val) j.val)
    (hr : ∀ i, r (ix2 i 0) = Norm.root (A.row (n + i.val))) (g : Vec Ideal S1x1024 .f32) (j : Fin 1024) :
    k0_pay1 x y r g (ix2 0 j) = g (ix2 0 j) + ∑ i : Fin 512, A.part depth j.val (n + i.val) := by
  refine (pay1_apply _ _ _ _ j).trans (congrArg₂ (· + ·) rfl (Finset.sum_congr rfl fun i _ => ?_))
  rw [hx, hy, hr]
  rfl

theorem pay2_apply (i : Fin 512) (j : Fin 1024) : k0_pay2 x (ix2 i j) = x (ix2 i j) := by
  unfold k0_pay2
  pointwise

theorem pay3_apply (j : Fin 1024) : (k0_pay3 (F := Ideal)) (ix2 0 j) = 0 := by
  unfold k0_pay3
  pointwise

end Values

variable (m : (ℓ : Loc nD τ sig) → Buf (Elt Ideal) ℓ) (c : Dev nD)

/-- The arguments by row and column. -/
def args : Norm.Args where
  dz := Attn.nat2 (m ((c : Thread nD τ).loc main_arg0))
  w := Attn.nat2 (m ((c : Thread nD τ).loc main_arg1))
  x := Attn.nat2 (m ((c : Thread nD τ).loc main_arg2))
  base := Attn.nat2 (m ((c : Thread nD τ).loc main_arg3))
  gain := Attn.nat2 (m ((c : Thread nD τ).loc main_arg4)) 0

/-! ## What the points load -/

theorem at0 (t : Fin cfg0.N) : win0_0.index t = ![t.val, 0] := by
  revert t; exact (by decide +kernel : ∀ t : Fin grid0.N, win0_0.index t = ![t.val, 0])

theorem at1 (t : Fin cfg0.N) : win0_1.index t = ![0, 0] := by
  revert t; exact (by decide +kernel : ∀ t : Fin grid0.N, win0_1.index t = ![0, 0])

theorem at2 (t : Fin cfg0.N) : win0_2.index t = ![t.val, 0] := by
  revert t; exact (by decide +kernel : ∀ t : Fin grid0.N, win0_2.index t = ![t.val, 0])

theorem at3 (t : Fin cfg0.N) : win0_3.index t = ![t.val, 0] := by
  revert t; exact (by decide +kernel : ∀ t : Fin grid0.N, win0_3.index t = ![t.val, 0])

theorem at4 (t : Fin cfg0.N) : win0_4.index t = ![0, 0] := by
  revert t; exact (by decide +kernel : ∀ t : Fin grid0.N, win0_4.index t = ![0, 0])

theorem iblk0 (t : Fin cfg0.N) (i : Fin 512) (k : Fin 5632) : iblk m c 0 t (ix2 i k) = (args m c).dz (512 * t.val + i.val) k.val := by
  have ht : t.val < 16 := t.isLt
  refine Eq.trans ?_ (Attn.nat2_eq _ ⟨512 * t.val + i.val, by omega⟩ k rfl rfl).symm
  rw [← V_main_arg0 m c]
  blk_ext [iblk, at0 t]

/-- The weight is cast on the host. -/
theorem V_weight {F : FTy → Type} [FloatOps F] (m : (ℓ : Loc nD τ sig) → Buf (Elt F) ℓ) (c : Dev nD) :
    V m c main_v0 = truncf .bf16 (m ((c : Thread nD τ).loc main_arg1)) bitsLt_bf16_f32 := by
  simp only [V]
  after_results

theorem iblk1 (t : Fin cfg0.N) (j : Fin 1024) (k : Fin 5632) : iblk m c 1 t (ix2 j k) = (args m c).w j.val k.val := by
  refine Eq.trans ?_ (Attn.nat2_eq _ j k rfl rfl).symm
  have h : (m ((c : Thread nD τ).loc main_arg1)) (ix2 j k) = V m c main_v0 (ix2 j k) := by rw [V_weight]; rfl
  rw [h]
  blk_ext [iblk, at1 t]

theorem iblk2 (t : Fin cfg0.N) (i : Fin 512) (k : Fin 1024) : iblk m c 2 t (ix2 i k) = (args m c).x (512 * t.val + i.val) k.val := by
  have ht : t.val < 16 := t.isLt
  refine Eq.trans ?_ (Attn.nat2_eq _ ⟨512 * t.val + i.val, by omega⟩ k rfl rfl).symm
  rw [← V_main_arg2 m c]
  blk_ext [iblk, at2 t]

theorem iblk3 (t : Fin cfg0.N) (i : Fin 512) (k : Fin 1024) : iblk m c 3 t (ix2 i k) = (args m c).base (512 * t.val + i.val) k.val := by
  have ht : t.val < 16 := t.isLt
  refine Eq.trans ?_ (Attn.nat2_eq _ ⟨512 * t.val + i.val, by omega⟩ k rfl rfl).symm
  rw [← V_main_arg3 m c]
  blk_ext [iblk, at3 t]

theorem iblk4 (t : Fin cfg0.N) (k : Fin 1024) : iblk m c 4 t (ix2 0 k) = (args m c).gain k.val := by
  refine Eq.trans ?_ (Attn.nat2_eq (m := 1) (t := 0) (m ((c : Thread nD τ).loc main_arg4)) 0 k rfl rfl).symm
  rw [← V_main_arg4 m c]
  blk_ext [iblk, at4 t]

/-! ## What they leave -/

theorem root_at (t : Fin cfg0.N) (i : Fin 512) : k0_pay5 (iblk m c 2 t) (ix2 i 0) = Norm.root ((args m c).row (512 * t.val + i.val)) := by
  refine (pay5_apply _ i).trans (congrArg Norm.root (funext fun k => ?_))
  exact iblk2 m c t i k

theorem dh_at (t : Fin cfg0.N) (i : Fin 512) (j : Fin 1024) :
    k0_pay4 (iblk m c 0 t) (iblk m c 1 t) (ix2 i j) = (args m c).dh 5632 (512 * t.val + i.val) j.val := by
  refine (pay4_apply _ _ i j).trans (Finset.sum_congr rfl fun k _ => ?_)
  exact congrArg₂ (· * ·) (iblk0 m c t i k) (iblk1 m c t j k)

/-- The rows' gradient at a point. -/
theorem dx_at (t : Fin cfg0.N) (i : Fin 512) (j : Fin 1024) :
    k0_pay6 (iblk m c 2 t) (iblk m c 0 t) (iblk m c 1 t) (iblk m c 4 t) (iblk m c 3 t) (ix2 i j)
      = (args m c).dx 5632 (512 * t.val + i.val) j.val := by
  refine (pay6_apply _ _ _ _ _ i j).trans ?_
  simp only [root_at, dh_at, iblk2, iblk3, iblk4]
  rfl

theorem add_block (t : Fin cfg0.N) (xo : Vec Ideal S1x1024 .f32) (j : Fin 1024) :
    k0_pay1 (iblk m c 2 t) (k0_pay4 (iblk m c 0 t) (iblk m c 1 t)) (k0_pay5 (iblk m c 2 t)) xo (ix2 0 j)
      = xo (ix2 0 j) + ∑ r : Fin 512, (args m c).part 5632 j.val (512 * t.val + r.val) :=
  add_rows (args m c) 5632 _ (iblk2 m c t) (dh_at m c t) (root_at m c t) xo j

theorem rows_of (t : Fin cfg0.N) (i : Fin 512) (j : Fin 1024) :
    (outsAt0 m c t.val t.isLt).1 (ix2 i j) = (args m c).dx 5632 (512 * t.val + i.val) j.val := by
  by_cases h0 : t.val % 16 = 0
  · rw [outsAt0_A m c t h0, dx_A]
    exact dx_at m c t i j
  · rw [outsAt0_B m c t h0, dx_B]
    exact dx_at m c t i j

theorem copy_of (t : Fin cfg0.N) (i : Fin 512) (j : Fin 1024) :
    (outsAt0 m c t.val t.isLt).2.2 (ix2 i j) = (args m c).dx 5632 (512 * t.val + i.val) j.val := by
  by_cases h0 : t.val % 16 = 0
  · rw [outsAt0_A m c t h0, copy_A]
    exact (pay2_apply _ i j).trans (dx_at m c t i j)
  · rw [outsAt0_B m c t h0, copy_B]
    exact (pay2_apply _ i j).trans (dx_at m c t i j)

/-- The weights' gradient after the last point. -/
theorem sum_all (j : Fin 1024) (n : ℕ) (h : n < cfg0.N) (hn : n + 1 = 16) :
    (outsAt0 m c n h).2.1 (ix2 0 j) = ∑ t : Fin 8192, (args m c).part 5632 j.val t.val := by
  refine Tiles.running_all ((args m c).part 5632 j.val) (fun n h => (outsAt0 m c n h).2.1 (ix2 0 j)) (fun h => ?_) (fun n h => ?_) n h (congrArg (512 * ·) hn)
  · rw [outsAt0_A m c ⟨0, h⟩ rfl, gain_A]
    exact (add_block m c ⟨0, h⟩ _ j).trans (congrArg₂ (· + ·) (pay3_apply j) rfl)
  · have hn : n + 1 < 16 := h
    rw [outsAt0_B m c ⟨n + 1, h⟩ (by dsimp only; omega), gain_B]
    exact add_block m c ⟨n + 1, h⟩ _ j

end Cert.UpIdeal.Step

end
-- ==== Proof.Up.Arrays.lean ====
/- The arrays of the backward pass after the last point. -/
module

public import proofs.«01_k».proof.Proof.Up.Accumulate

@[expose] public section

set_option maxRecDepth 16384

noncomputable section

namespace Cert.UpIdeal.Step

open Idealize.ShloMosaic Idealize.ShloMosaic.TcCoe Cert.UpIdeal Cert.UpIdeal.Gen Cert.Rows

variable (m : (ℓ : Loc nD τ sig) → Buf (Elt Ideal) ℓ) (c : Dev nD)

theorem at5 (t : Fin cfg0.N) : win0_5.index t = ![t.val, 0] := by
  revert t; exact (by decide +kernel : ∀ t : Fin grid0.N, win0_5.index t = ![t.val, 0])

theorem at6 (t : Fin cfg0.N) : win0_6.index t = ![0, 0] := by
  revert t; exact (by decide +kernel : ∀ t : Fin grid0.N, win0_6.index t = ![0, 0])

theorem at7 (t : Fin cfg0.N) : win0_7.index t = ![t.val, 0] := by
  revert t; exact (by decide +kernel : ∀ t : Fin grid0.N, win0_7.index t = ![t.val, 0])

/-- The rows' gradient. -/
theorem final_dx (i : Fin 8192) (j : Fin 1024) : (dats m 0 c).arrAt 5 cfg0.N (ix2 i j) = (args m c).dx 5632 i.val j.val := by
  refine Tiles.array (dats m 0 c) 5 (fun p => (args m c).dx 5632 (p 0) (p 1)) (fun t => Tiles.rows 512 t.val) (by decide +kernel)
    (fun t a n => ?_) (fun t _ z => ?_) (ix2 i j)
  · exact Tiles.rows_at 512 1024 (at5 t) a n
  · rw [after0_5]
    exact (congrArg _ (eq_ix2 (n0 := 512) (n1 := 1024) z)).trans (rows_of m c t _ _)

/-- Its narrow copy. -/
theorem final_copy (i : Fin 8192) (j : Fin 1024) : (dats m 0 c).arrAt 7 cfg0.N (ix2 i j) = (args m c).dx 5632 i.val j.val := by
  refine Tiles.array (dats m 0 c) 7 (fun p => (args m c).dx 5632 (p 0) (p 1)) (fun t => Tiles.rows 512 t.val) (by decide +kernel)
    (fun t a n => ?_) (fun t _ z => ?_) (ix2 i j)
  · exact Tiles.rows_at 512 1024 (at7 t) a n
  · rw [after0_7]
    exact (congrArg _ (eq_ix2 (n0 := 512) (n1 := 1024) z)).trans (copy_of m c t _ _)

/-- The gradient of the normalisation's weights, written at the last point. -/
theorem final_gain (j : Fin 1024) : (dats m 0 c).arrAt 6 cfg0.N (ix2 0 j) = ∑ t : Fin 8192, (args m c).part 5632 j.val t.val := by
  refine Tiles.array (dats m 0 c) 6 (fun p => (∑ t : Fin 8192, (args m c).part 5632 (p 1) t.val : EReal)) (fun _ _ n => n) (by decide +kernel)
    (fun t a n => ?_) (fun t hf z => ?_) (ix2 0 j)
  · exact Tiles.whole_at 1 1024 (at6 t) a n
  · have ht : t.val = 15 := by have := (flush0_6 t).mp hf; have : t.val < 16 := t.isLt; omega
    rw [after0_6]
    exact (congrArg _ (Tiles.one_row z)).trans (sum_all m c _ t.val t.isLt (congrArg (· + 1) ht))

end Cert.UpIdeal.Step

end
-- ==== Proof.Normal.lean ====
/- The normalisation of 8192 rows of 1024, at an element: each row divided by the root of its mean square. -/
module

public import proofs.«01_k».proof.Proof.Gen.FirstRefIdeal.Run
public import proofs.«01_k».proof.Proof.Norm
public import proofs.«01_k».proof.Proof.Blocks
public import Idealize.ShloMosaic.Lib.Pipeline.ValueKit

@[expose] public section

noncomputable section

namespace Cert.Normal

open Idealize.ShloMosaic Idealize.ShloMosaic.TcCoe Cert.FirstRefIdeal Cert.FirstRefIdeal.Gen

section Terms

variable {F : FTy → Type} [FloatOps F]

/-- The mean square plus the small constant. -/
def square (x : FVec F S8192x1024 .f32) : FVec F S8192x1 .f32 :=
  addf (Host.divf (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))

/-- The rows of `x` divided by the root of their mean square, times the weights `g`. -/
def rows (x : Vec F S8192x1024 .f32) (g : Vec F S1x1024 .f32) : Vec F S8192x1024 .f32 :=
  mulf (mulf x (broadcastInDim S8192x1024 ![0, 1] bcast_S8192x1_S8192x1024_0_1 (Host.rsqrt (square x))))
    (broadcastInDim S8192x1024 ![0, 1] bcast_S1x1024_S8192x1024_0_1
      (broadcastInDim S1x1024 ![1] bcast_S1024_S1x1024_1 (shapeCast S1024 g shapeCasts_S1x1024_S1024)))

end Terms

variable (x : Vec Ideal S8192x1024 .f32) (g : Vec Ideal S1x1024 .f32)

theorem square_apply (i : Fin 8192) : square (F := Ideal) x (ix2 i 0) = Norm.square fun k : Fin 1024 => x (ix2 i k) := by
  unfold square
  pointwise
  rfl

theorem rows_apply (i : Fin 8192) (j : Fin 1024) :
    rows (F := Ideal) x g (ix2 i j) = x (ix2 i j) * Norm.root (fun k : Fin 1024 => x (ix2 i k)) * g (ix2 0 j) := by
  unfold rows
  pointwise
  rw [square_apply]
  rfl

/-- The same, of the arguments by row and column. -/
theorem rows_nat (i : Fin 8192) (j : Fin 1024) : rows (F := Ideal) x g (ix2 i j)
    = Attn.nat2 x i.val j.val * Norm.root (fun k : Fin 1024 => Attn.nat2 x i.val k.val) * Attn.nat2 g 0 j.val := by
  have hx : ∀ k : Fin 1024, Attn.nat2 x i.val k.val = x (ix2 i k) := fun k => Attn.nat2_eq x i k rfl rfl
  rw [rows_apply, funext hx, hx, Attn.nat2_eq (m := 1) (t := 0) g 0 j rfl rfl]

end Cert.Normal

end
-- ==== Proof.Up.Reference.lean ====
/- The reference's backward pass of a normalised product, at an element. -/
module

public import proofs.«01_k».proof.Proof.Gen.UpRefIdeal.Run
public import proofs.«01_k».proof.Proof.NormRows
public import proofs.«01_k».proof.Proof.Normal
public import Idealize.ShloMosaic.Lib.Pipeline.ValueKit

@[expose] public section

set_option maxRecDepth 16384

noncomputable section

namespace Cert.UpRefIdeal.Terms

open Cert.Normal (square square_apply)
open Idealize.ShloMosaic Idealize.ShloMosaic.TcCoe Cert.UpRefIdeal Cert.UpRefIdeal.Gen

section Terms

variable {F : FTy → Type} [FloatOps F] (y x b : FVec F S8192x1024 .f32) (g : FVec F S1x1024 .f32)

/-- The reciprocal of the root of the mean square, along the rows. -/
def root : FVec F S8192x1024 .f32 := broadcastInDim S8192x1024 ![0, 1] bcast_S8192x1_S8192x1024_0_1 (Host.rsqrt (square x))

/-- The product with the weight transposed, times the normalisation's weights. -/
def scaled : FVec F S8192x1024 .f32 :=
  mulf y (broadcastInDim S8192x1024 ![0, 1] bcast_S1x1024_S8192x1024_0_1
    (broadcastInDim S1x1024 ![1] bcast_S1024_S1x1024_1 (shapeCast S1024 g shapeCasts_S1x1024_S1024)))

/-- The gradient of the mean square, over the width. -/
def pull : FVec F S8192x1024 .f32 :=
  broadcastInDim S8192x1024 ![0] bcast_S8192_S8192x1024_0 (Host.reduceAdd (Host.divf (mulf (shapeCast S8192x1
      (Host.reduceAdd (mulf x (scaled y g)) (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (square x)) (square x))))
    (broadcastInDim S8192x1 ![] bcast_S_S8192x1 (constant S_ .f32 0x44800000#32)))
    (constant S_ .f32 0x00000000#32) reducesTo_S8192x1_S8192_d1 h_S_)

/-- The rows' gradient. -/
def dx : FVec F S8192x1024 .f32 :=
  addf (addf (addf b (mulf (scaled y g) (root x))) (mulf x (pull y x g))) (mulf (pull y x g) x)

/-- The gradient of the normalisation's weights. -/
def gain : FVec F S1x1024 .f32 :=
  broadcastInDim S1x1024 ![1] bcast_S1024_S1x1024_1 (Host.reduceAdd (shapeCast S1x1024 (Host.reduceAdd (mulf (mulf x (root x)) y)
    (constant S_ .f32 0x00000000#32) reducesTo_S8192x1024_S1024_d0 h_S_) shapeCasts_S1024_S1x1024)
    (constant S_ .f32 0x00000000#32) reducesTo_S1x1024_S1024_d0 h_S_)

/-- The product of this call. -/
def dh (z : Vec F S8192x5632 .bf16) (w : Vec F S1024x5632 .f32) : FVec F S8192x1024 .f32 :=
  Host.dotGeneral dot_S8192x5632_S1024x5632_S8192x1024_1_1_0_0_n_n none (extf .f32 z bitsLt_bf16_f32) w

end Terms

section Results

variable {F : FTy → Type} [FloatOps F] (m : (ℓ : Loc nD τ sig) → Buf (Elt F) ℓ) (c : Dev nD)

/-- The reference's results, by these names. -/
theorem out0_eq : Value.res_out0 m c = dx (dh (m ((c.tc : Thread nD τ).loc main_arg0)) (m ((c.tc : Thread nD τ).loc main_arg1)))
    (m ((c.tc : Thread nD τ).loc main_arg2)) (m ((c.tc : Thread nD τ).loc main_arg3)) (m ((c.tc : Thread nD τ).loc main_arg4)) := by
  unfold Value.res_out0 Value.res_main_v40
  rfl

@[inherit_doc out0_eq]
theorem out2_eq : Value.res_out2 m c = truncf .bf16 (dx (dh (m ((c.tc : Thread nD τ).loc main_arg0)) (m ((c.tc : Thread nD τ).loc main_arg1)))
    (m ((c.tc : Thread nD τ).loc main_arg2)) (m ((c.tc : Thread nD τ).loc main_arg3)) (m ((c.tc : Thread nD τ).loc main_arg4))) bitsLt_bf16_f32 := by
  unfold Value.res_out2 Value.res_main_v42
  rfl

end Results

/-! ## Their values, for any product -/

section Values

variable (A : Norm.Args) (depth : ℕ) (y x b : FVec Ideal S8192x1024 .f32) (g : FVec Ideal S1x1024 .f32)

/-- The product and the arguments, by row and column. -/
structure Reads : Prop where
  dh (i : Fin 8192) (j : Fin 1024) : y (ix2 i j) = A.dh depth i.val j.val
  row (i : Fin 8192) : (fun k => x (ix2 i k)) = A.row i.val
  base (i : Fin 8192) (j : Fin 1024) : b (ix2 i j) = A.base i.val j.val
  gain (j : Fin 1024) : g (ix2 0 j) = A.gain j.val

variable {A depth y x b g} (h : Reads A depth y x b g)

include h

theorem Reads.root (i : Fin 8192) (j : Fin 1024) : root x (ix2 i j) = Norm.root (A.row i.val) := by
  unfold Terms.root
  pointwise
  rw [square_apply, h.row]
  rfl

theorem Reads.scaled (i : Fin 8192) (j : Fin 1024) : scaled y g (ix2 i j) = A.dh depth i.val j.val * A.gain j.val := by
  unfold Terms.scaled
  pointwise
  rw [h.dh, h.gain]

theorem Reads.pull (i : Fin 8192) (j : Fin 1024) : pull y x g (ix2 i j)
    = Norm.pull (A.row i.val) (∑ k : Fin 1024, A.row i.val k * (A.dh depth i.val k.val * A.gain k.val)) := by
  unfold Terms.pull
  pointwise
  refine (Fin.sum_univ_one _).trans ?_
  simp only [h.scaled, square_apply, Fin.isValue, ← h.row]
  rfl

theorem dx_apply (i : Fin 8192) (j : Fin 1024) : dx y x b g (ix2 i j) = A.dx depth i.val j.val := by
  have hx := congrFun (h.row i) j
  unfold dx
  pointwise
  rw [h.scaled, h.root, h.pull, h.base]
  refine (congrArg₂ (· + ·) (congrArg₂ (· + ·) rfl (congrArg₂ (· * ·) hx rfl)) (congrArg₂ (· * ·) rfl hx)).trans ?_
  exact (Norm.input_grad _ _ _ _ j).symm

theorem gain_apply (j : Fin 1024) : Terms.gain y x (ix2 0 j) = ∑ t : Fin 8192, A.part depth j.val t.val := by
  unfold Terms.gain
  pointwise
  refine (Fin.sum_univ_one _).trans (Finset.sum_congr rfl fun t _ => ?_)
  rw [h.dh, h.root, Norm.Args.part, mul_comm _ (A.dh _ _ _), ← mul_assoc]
  exact congrArg₂ (· * ·) (congrArg₂ (· * ·) rfl (congrFun (h.row t) j)) rfl

end Values

/-! ## This call's product -/

/-- The arguments by row and column. -/
def args (z : Vec Ideal S8192x5632 .bf16) (w : Vec Ideal S1024x5632 .f32) (x b : Vec Ideal S8192x1024 .f32) (g : Vec Ideal S1x1024 .f32) :
    Norm.Args where
  dz := Attn.nat2 z
  w := Attn.nat2 w
  x := Attn.nat2 x
  base := Attn.nat2 b
  gain := Attn.nat2 g 0

theorem reads (z : Vec Ideal S8192x5632 .bf16) (w : Vec Ideal S1024x5632 .f32) (x b : Vec Ideal S8192x1024 .f32) (g : Vec Ideal S1x1024 .f32) :
    Reads (args z w x b g) 5632 (dh z w) x b g where
  dh i j := by
    unfold dh
    pointwise
    exact Finset.sum_congr rfl fun k _ => congrArg₂ (· * ·) (Attn.nat2_eq _ i k rfl rfl).symm (Attn.nat2_eq _ j k rfl rfl).symm
  row i := funext fun k => (Attn.nat2_eq x i k rfl rfl).symm
  base i j := (Attn.nat2_eq b i j rfl rfl).symm
  gain j := (Attn.nat2_eq (m := 1) (t := 0) g 0 j rfl rfl).symm

end Cert.UpRefIdeal.Terms

end
-- ==== Proof.Up.Equation.lean ====
/- The backward pass of a normalised product: the two programs' results are equal. -/
module

public import proofs.«01_k».proof.Defs
public import proofs.«01_k».proof.Proof.Up.Arrays
public import proofs.«01_k».proof.Proof.Up.Reference
public import Idealize.ShloMosaic.Lib.Quiescent

@[expose] public section

set_option maxRecDepth 16384

noncomputable section

namespace Cert.BackwardUp

open Idealize.ShloMosaic Idealize.ShloMosaic.TcCoe Idealize.SL.Sem Cert.UpIdeal Cert.Rows

/-- Over the extended reals the kernel's two gradients and the narrow copy are the reference's. -/
theorem algebraic : Cert.algebraic_UpIdeal_UpRefIdeal := by
  intro m g m' g' _ hagree
  refine ⟨fun c => (Gen.dats m 0 c).arrAt 5 cfg0.N, fun c => (Gen.dats m 0 c).arrAt 6 cfg0.N,
    fun c => (Gen.dats m 0 c).arrAt 7 cfg0.N, Value.run_blocks m g, ?_⟩
  refine (θ_run UpRefIdeal.defs _ _).mono (fun r h c => ?_) (UpRefIdeal.Value.run m' g')
  obtain ⟨h0, h1, h2, h3, h4⟩ := hagree c
  obtain ⟨r0, r1, r2, rest⟩ := h c
  replace r0 := r0.trans (UpRefIdeal.Terms.out0_eq m' c)
  replace r1 : _ = UpRefIdeal.Terms.gain (UpRefIdeal.Terms.dh (m' ((c.tc : Thread UpRefIdeal.nD UpRefIdeal.τ).loc UpRefIdeal.main_arg0))
    (m' ((c.tc : Thread UpRefIdeal.nD UpRefIdeal.τ).loc UpRefIdeal.main_arg1)))
    (m' ((c.tc : Thread UpRefIdeal.nD UpRefIdeal.τ).loc UpRefIdeal.main_arg2)) := r1
  replace r2 := r2.trans (UpRefIdeal.Terms.out2_eq m' c)
  have reads := UpRefIdeal.Terms.reads (m ((c : Thread nD τ).loc main_arg0)) (m ((c : Thread nD τ).loc main_arg1))
    (m ((c : Thread nD τ).loc main_arg2)) (m ((c : Thread nD τ).loc main_arg3)) (m ((c : Thread nD τ).loc main_arg4))
  rw [h0, h1, h2] at r1
  rw [h0, h1, h2, h3, h4] at r0 r2
  refine ⟨r0.trans ?_, r1.trans ?_, r2.trans ?_, rest⟩
  · refine matrix_ext _ _ fun i j => ?_
    exact (UpRefIdeal.Terms.dx_apply reads i j).trans (Step.final_dx m c i j).symm
  · refine matrix_ext _ _ fun i j => ?_
    rw [Subsingleton.elim i 0]
    exact (UpRefIdeal.Terms.gain_apply reads j).trans (Step.final_gain m c j).symm
  · refine matrix_ext _ _ fun i j => ?_
    exact (UpRefIdeal.Terms.dx_apply reads i j).trans (Step.final_copy m c i j).symm

/-- The reference runs, leaves its arguments and ends with every counter at zero. -/
theorem frame_reference : Cert.quiescent_UpRefIdeal := fun m g _ =>
  (θ_run UpRefIdeal.defs _ _).mono (fun r h => ⟨fun c => (h c).2.2.2, sem_eq_zero_of_no_sems (by decide) r.2⟩)
    (UpRefIdeal.Value.run m g)

end Cert.BackwardUp

end
-- ==== Proof.Wup.Accumulate.lean ====
/- The gradient of a weight as the kernel accumulates it: after the point at row block `k`, the block of the result
   that is being built holds the sum over the rows of blocks `0` to `k`. -/
module

public import proofs.«01_k».proof.Proof.Gen.WupIdeal.Frame
public import proofs.«01_k».proof.Proof.Gen.WupIdeal.Value
public import proofs.«01_k».proof.Proof.Tiles
public import Idealize.ShloMosaic.Lib.Pipeline.ValueKit

@[expose] public section

set_option maxRecDepth 16384

noncomputable section

namespace Cert.WupIdeal.Step

open Idealize.ShloMosaic Idealize.ShloMosaic.TcCoe Cert.WupIdeal Cert.WupIdeal.Gen Cert.Rows

theorem hz : (![0, 0] : Fin 2 → Nat) = fun _ => 0 := funext fun a => by fin_cases a <;> rfl

section Cases

variable {F : FTy → Type} [FloatOps F] (c : Dev nD) (i : grid0.Coords)
  (a3 : Memref sig .tc .vmem S2048x1024 .bf16) (h3 : a3.IsWhole) (a4 : Memref sig .tc .vmem S2048x1408 .bf16) (h4 : a4.IsWhole)
  (a5 : Memref sig .tc .vmem S1024x1408 .f32) (h5 : a5.IsWhole) (a6 : Memref sig .tc .vmem S1024x1408 .bf16) (h6 : a6.IsWhole)
  (x0 : Vec F S2048x1024 .bf16) (x1 : Vec F S2048x1408 .bf16) (xo : Vec F S1024x1408 .f32)

/-- The first row block: zero is stored, read back and added to. -/
theorem out_A (h0 : cond0_0 i) (h1 : ¬cond0_1 i) : out0_A_2 c i a3 h3 a4 h4 a5 h5 a6 h6 h0 h1 x0 x1 = k0_pay2 k0_pay1 x0 x1 := by
  unfold out0_A_2
  rw [View.read_writes_junk_eq_canon]
  unfold kernelRun0_A
  dsimp only
  sl_unfold_words
  rw [View.canon_cons_unit_zero (S := S1024x1408) hz, View.readCov_unit_zero (S := S1024x1408) _ hz]
  simp only [View.readAt_eq_ld, h3.read_unread, h4.read_unread, View.ld_unit_zero (S := S2048x1024) hz,
    View.ld_unit_zero (S := S2048x1408) hz]

/-- A further row block: what the point before left is added to. -/
theorem out_B (h0 : ¬cond0_0 i) (h1 : ¬cond0_1 i) : out0_B_2 c i a3 h3 a4 h4 a5 h5 a6 h6 h0 h1 x0 x1 xo = k0_pay2 xo x0 x1 := by
  unfold out0_B_2
  rw [View.read_writes_junk_eq_canon]
  unfold kernelRun0_B
  dsimp only
  rw [View.canon_unit_zero hz]
  simp only [View.readAt_eq_ld, h3.read_unread, h4.read_unread, h5.read_unread, View.ld_unit_zero (S := S2048x1024) hz,
    View.ld_unit_zero (S := S2048x1408) hz, View.ld_unit_zero (S := S1024x1408) hz]

/-- The last row block: likewise, -/
theorem out_C (h0 : ¬cond0_0 i) (h1 : cond0_1 i) : out0_C_2 c i a3 h3 a4 h4 a5 h5 a6 h6 h0 h1 x0 x1 xo = k0_pay2 xo x0 x1 := by
  unfold out0_C_2
  rw [View.read_writes_junk_eq_canon]
  unfold kernelRun0_C
  dsimp only
  sl_unfold_words
  rw [View.canon_unit_zero hz]
  simp only [View.readAt_eq_ld, h3.read_unread, h4.read_unread, h5.read_unread, View.ld_unit_zero (S := S2048x1024) hz,
    View.ld_unit_zero (S := S2048x1408) hz, View.ld_unit_zero (S := S1024x1408) hz]

/-- and the narrow copy is that sum. -/
theorem copy_C (h0 : ¬cond0_0 i) (h1 : cond0_1 i) :
    out0_C_3 c i a3 h3 a4 h4 a5 h5 a6 h6 h0 h1 x0 x1 xo = k0_pay3 (k0_pay2 xo x0 x1) := by
  unfold out0_C_3
  rw [View.read_writes_junk_eq_canon]
  unfold kernelRun0_C
  dsimp only
  sl_unfold_words
  rw [View.canon_unit_zero hz, View.readCov_unit_zero (S := S1024x1408) _ hz]
  simp only [View.readAt_eq_ld, h3.read_unread, h4.read_unread, h5.read_unread, View.ld_unit_zero (S := S2048x1024) hz,
    View.ld_unit_zero (S := S2048x1408) hz, View.ld_unit_zero (S := S1024x1408) hz]

end Cases

/-- One point's addition. -/
theorem pay2_apply (xo : Vec Ideal S1024x1408 .f32) (x0 : Vec Ideal S2048x1024 .bf16) (x1 : Vec Ideal S2048x1408 .bf16)
    (i : Fin 1024) (j : Fin 1408) :
    k0_pay2 xo x0 x1 (ix2 i j) = xo (ix2 i j) + ∑ r : Fin 2048, x0 (ix2 r i) * x1 (ix2 r j) := by
  unfold k0_pay2
  pointwise

theorem pay1_apply (i : Fin 1024) (j : Fin 1408) : (k0_pay1 (F := Ideal)) (ix2 i j) = 0 := by
  unfold k0_pay1
  pointwise

theorem pay3_apply (x : Vec Ideal S1024x1408 .f32) (i : Fin 1024) (j : Fin 1408) : k0_pay3 x (ix2 i j) = x (ix2 i j) := by
  unfold k0_pay3
  pointwise

variable (m : (ℓ : Loc nD τ sig) → Buf (Elt Ideal) ℓ) (c : Dev nD)

/-- The normalised rows that the host prepares, -/
abbrev hidden : ℕ → ℕ → EReal := Attn.nat2 (V m c main_v14)
/-- and the gradient of the product's result. -/
abbrev grad : ℕ → ℕ → EReal := Attn.nat2 (m ((c : Thread nD τ).loc main_arg2))

/-- A row's part of the weight's gradient. -/
abbrev term (i j : ℕ) (r : ℕ) : EReal := hidden m c r i * grad m c r j

theorem at0 (t : Fin cfg0.N) : win0_0.index t = ![t.val % 4, 0] := by
  revert t; exact (by decide +kernel : ∀ t : Fin grid0.N, win0_0.index t = ![t.val % 4, 0])

theorem iblk0 (t : Fin cfg0.N) (r : Fin 2048) (i : Fin 1024) :
    iblk m c 0 t (ix2 r i) = hidden m c (2048 * (t.val % 4) + r.val) i.val := by
  have ht : t.val < 16 := t.isLt
  refine Eq.trans ?_ (Attn.nat2_eq _ ⟨2048 * (t.val % 4) + r.val, by omega⟩ i rfl rfl).symm
  blk_ext [iblk, at0 t]

theorem at1 (t : Fin cfg0.N) : win0_1.index t = ![t.val % 4, t.val / 4] := by
  revert t; exact (by decide +kernel : ∀ t : Fin grid0.N, win0_1.index t = ![t.val % 4, t.val / 4])

theorem iblk1 (t : Fin cfg0.N) (r : Fin 2048) (j : Fin 1408) :
    iblk m c 1 t (ix2 r j) = grad m c (2048 * (t.val % 4) + r.val) (1408 * (t.val / 4) + j.val) := by
  have ht : t.val < 16 := t.isLt
  refine Eq.trans ?_ (Attn.nat2_eq _ ⟨2048 * (t.val % 4) + r.val, by omega⟩ ⟨1408 * (t.val / 4) + j.val, by omega⟩ rfl rfl).symm
  rw [← V_main_arg2 m c]
  blk_ext [iblk, at1 t]

/-- A point adds its block's rows. -/
theorem add_block (t : Fin cfg0.N) (xo : Vec Ideal S1024x1408 .f32) (i : Fin 1024) (j : Fin 1408) :
    k0_pay2 xo (iblk m c 0 t) (iblk m c 1 t) (ix2 i j)
      = xo (ix2 i j) + ∑ r : Fin 2048, term m c i.val (1408 * (t.val / 4) + j.val) (2048 * (t.val % 4) + r.val) := by
  rw [pay2_apply]
  simp only [iblk0, iblk1]

/-- What the block holds after each point. -/
theorem partial_sum (i : Fin 1024) (j : Fin 1408) (n : ℕ) (h : n < cfg0.N) :
    (outsAt0 m c n h).1 (ix2 i j) = upTo (term m c i.val (1408 * (n / 4) + j.val)) (2048 * (n % 4 + 1)) := by
  refine Tiles.rounds (by decide) (fun k => term m c i.val (1408 * k + j.val)) (fun n h => (outsAt0 m c n h).1 (ix2 i j))
    (fun n h h0 => ?_) (fun n h h0 => ?_) n h
  · rw [outsAt0_A m c ⟨n, h⟩ h0 (by dsimp only; omega), out_A]
    exact (add_block m c ⟨n, h⟩ _ i j).trans (congrArg₂ (· + ·) (pay1_apply i j) rfl)
  · by_cases h1 : (n + 1) % 4 = 3
    · rw [outsAt0_C m c ⟨n + 1, h⟩ h0 h1, out_C]
      exact add_block m c ⟨n + 1, h⟩ _ i j
    · rw [outsAt0_B m c ⟨n + 1, h⟩ h0 h1, out_B]
      exact add_block m c ⟨n + 1, h⟩ _ i j

/-- At a last row block the narrow copy holds the same. -/
theorem copy_sum (t : Fin cfg0.N) (h1 : t.val % 4 = 3) (i : Fin 1024) (j : Fin 1408) :
    (outsAt0 m c t.val t.isLt).2 (ix2 i j) = (outsAt0 m c t.val t.isLt).1 (ix2 i j) := by
  have h0 : ¬t.val % 4 = 0 := by omega
  rw [outsAt0_C m c t h0 h1, out_C, copy_C]
  exact pay3_apply _ i j

end Cert.WupIdeal.Step

end
-- ==== Proof.Wup.Arrays.lean ====
/- The arrays that hold the gradient of a weight after the last point, and the rows the host prepares. -/
module

public import proofs.«01_k».proof.Proof.Wup.Accumulate
public import proofs.«01_k».proof.Proof.Normal

@[expose] public section

set_option maxRecDepth 16384

noncomputable section

namespace Cert.WupIdeal.Step

open Idealize.ShloMosaic Idealize.ShloMosaic.TcCoe Cert.WupIdeal Cert.WupIdeal.Gen Cert.Rows

variable (m : (ℓ : Loc nD τ sig) → Buf (Elt Ideal) ℓ) (c : Dev nD)

/-- What the host prepares. -/
theorem V_hidden {F : FTy → Type} [FloatOps F] (m : (ℓ : Loc nD τ sig) → Buf (Elt F) ℓ) (c : Dev nD) :
    V m c main_v14 = truncf .bf16 (Normal.rows (m ((c : Thread nD τ).loc main_arg0)) (m ((c : Thread nD τ).loc main_arg1))) bitsLt_bf16_f32 := by
  simp only [V]
  after_results
  rfl

theorem hidden_eq (r : Fin 8192) (i : Fin 1024) :
    hidden m c r.val i.val = Normal.rows (F := Ideal) (m ((c : Thread nD τ).loc main_arg0)) (m ((c : Thread nD τ).loc main_arg1)) (ix2 r i) := by
  refine (Attn.nat2_eq _ r i rfl rfl).trans ?_
  rw [V_hidden m c]
  rfl

/-- The gradient of the weight. -/
def total (i j : ℕ) : EReal := ∑ r : Fin 8192, hidden m c r.val i * grad m c r.val j

theorem sum_all (t : Fin cfg0.N) (h : t.val % 4 = 3) (i : Fin 1024) (j : Fin 1408) :
    (outsAt0 m c t.val t.isLt).1 (ix2 i j) = total m c i.val (1408 * (t.val / 4) + j.val) := by
  rw [partial_sum, h, upTo_all]
  rfl

theorem at2 (t : Fin cfg0.N) : win0_2.index t = ![0, t.val / 4] := by
  revert t; exact (by decide +kernel : ∀ t : Fin grid0.N, win0_2.index t = ![0, t.val / 4])

theorem at3 (t : Fin cfg0.N) : win0_3.index t = ![0, t.val / 4] := by
  revert t; exact (by decide +kernel : ∀ t : Fin grid0.N, win0_3.index t = ![0, t.val / 4])

theorem final_grad (i : Fin 1024) (j : Fin 5632) : (dats m 0 c).arrAt 2 cfg0.N (ix2 i j) = total m c i.val j.val := by
  refine Tiles.array (dats m 0 c) 2 (fun p => total m c (p 0) (p 1)) (fun t => Tiles.columns 1408 (t.val / 4)) (by decide +kernel) (fun t a n => ?_) (fun t hf z => ?_) (ix2 i j)
  · exact Tiles.columns_at 1408 1024 (at2 t) a n
  · rw [after0_2]
    exact (congrArg _ (eq_ix2 (n0 := 1024) (n1 := 1408) z)).trans (sum_all m c t ((flush0_2 t).mp hf) _ _)

/-- The narrow copy. -/
theorem final_copy (i : Fin 1024) (j : Fin 5632) : (dats m 0 c).arrAt 3 cfg0.N (ix2 i j) = total m c i.val j.val := by
  refine Tiles.array (dats m 0 c) 3 (fun p => total m c (p 0) (p 1)) (fun t => Tiles.columns 1408 (t.val / 4)) (by decide +kernel) (fun t a n => ?_) (fun t hf z => ?_) (ix2 i j)
  · exact Tiles.columns_at 1408 1024 (at3 t) a n
  · rw [after0_3]
    have h3 := (flush0_3 t).mp hf
    exact (congrArg _ (eq_ix2 (n0 := 1024) (n1 := 1408) z)).trans ((copy_sum m c t h3 _ _).trans (sum_all m c t h3 _ _))

end Cert.WupIdeal.Step

end
-- ==== Proof.Wup.Equation.lean ====
/- The gradient of a weight: the two programs' results are equal. -/
module

public import proofs.«01_k».proof.Defs
public import proofs.«01_k».proof.Proof.Wup.Arrays
public import proofs.«01_k».proof.Proof.Gen.WupRefIdeal.Run
public import Idealize.ShloMosaic.Lib.Quiescent

@[expose] public section

set_option maxRecDepth 16384

noncomputable section

namespace Cert.WeightUp

open Idealize.ShloMosaic Idealize.ShloMosaic.TcCoe Idealize.SL.Sem Cert.WupIdeal Cert.Rows

/-- The reference's product, -/
def product {F : FTy → Type} [FloatOps F] (h : Vec F WupRefIdeal.S8192x1024 .f32) (z : Vec F WupRefIdeal.S8192x5632 .bf16) :
    Vec F WupRefIdeal.S1024x5632 .f32 :=
  transpose WupRefIdeal.S1024x5632 [1, 0] (Host.dotGeneral WupRefIdeal.dot_S8192x5632_S8192x1024_S5632x1024_0_0_1_1_n_n none
    (extf .f32 z WupRefIdeal.Facts₀.bitsLt_bf16_f32) h) WupRefIdeal.Facts₀.transposes_S5632x1024_S1024x5632_1_0

/-- and its value at an element. -/
theorem product_apply (h : Vec Ideal WupRefIdeal.S8192x1024 .f32) (z : Vec Ideal WupRefIdeal.S8192x5632 .bf16) (i : Fin 1024) (j : Fin 5632) :
    product h z (ix2 i j) = ∑ r : Fin 8192, h (ix2 r i) * z (ix2 r j) := by
  unfold product
  pointwise
  exact Finset.sum_congr rfl fun r _ => mul_comm _ _

variable (m : (ℓ : Loc nD τ sig) → Buf (Elt Ideal) ℓ) (c : Dev nD)

/-- The kernel's sum, over the arguments. -/
theorem total_eq (i : Fin 1024) (j : Fin 5632) : Step.total m c i.val j.val = ∑ r : Fin 8192,
    Normal.rows (F := Ideal) (m ((c : Thread nD τ).loc main_arg0)) (m ((c : Thread nD τ).loc main_arg1)) (ix2 r i)
      * m ((c : Thread nD τ).loc main_arg2) (ix2 r j) :=
  Finset.sum_congr rfl fun r _ => congrArg₂ (· * ·) (Step.hidden_eq m c r i) (Attn.nat2_eq _ r j rfl rfl)

/-- Over the extended reals the kernel's gradient of the weight and its narrow copy are the reference's. -/
theorem algebraic : Cert.algebraic_WupIdeal_WupRefIdeal := by
  intro m g m' g' _ hagree
  refine ⟨fun c => (Gen.dats m 0 c).arrAt 2 cfg0.N, fun c => (Gen.dats m 0 c).arrAt 3 cfg0.N, Value.run_blocks m g, ?_⟩
  refine (θ_run WupRefIdeal.defs _ _).mono (fun r h c => ?_) (WupRefIdeal.Value.run m' g')
  obtain ⟨h0, h1, h2⟩ := hagree c
  obtain ⟨r0, r1, rest⟩ := h c
  rw [h0, h1, h2] at r0 r1
  refine ⟨r0.trans ?_, r1.trans ?_, rest⟩
  · refine matrix_ext _ _ fun i j => ?_
    exact ((product_apply (Normal.rows _ _) _ i j).trans (total_eq m c i j).symm).trans (Step.final_grad m c i j).symm
  · refine matrix_ext _ _ fun i j => ?_
    exact ((product_apply (Normal.rows _ _) _ i j).trans (total_eq m c i j).symm).trans (Step.final_copy m c i j).symm

/-- The reference runs, leaves its arguments and ends with every counter at zero. -/
theorem frame_reference : Cert.quiescent_WupRefIdeal := fun m g _ =>
  (θ_run WupRefIdeal.defs _ _).mono (fun r h => ⟨fun c => (h c).2.2, sem_eq_zero_of_no_sems (by decide) r.2⟩)
    (WupRefIdeal.Value.run m g)

end Cert.WeightUp

end
-- ==== Proof.In.Accumulate.lean ====
/- What each point of the backward pass leaves in its output blocks: the gradient of its 512 rows, and the sum so
   far of the gradient of the normalisation's weights. -/
module

public import proofs.«01_k».proof.Proof.Gen.InIdeal.Frame
public import proofs.«01_k».proof.Proof.Gen.InIdeal.Value
public import proofs.«01_k».proof.Proof.Up.Accumulate
public import Idealize.ShloMosaic.Lib.Pipeline.ValueKit

@[expose] public section

set_option maxRecDepth 16384

noncomputable section

namespace Cert.InIdeal.Step

open Idealize.ShloMosaic Idealize.ShloMosaic.TcCoe Cert.InIdeal Cert.InIdeal.Gen Cert.Rows

theorem hz : (![0, 0] : Fin 2 → Nat) = fun _ => 0 := funext fun a => by fin_cases a <;> rfl

section Cases

variable {F : FTy → Type} [FloatOps F] (c : Dev nD) (i : grid0.Coords)
  (a1 : Memref sig .tc .vmem S512x2560 .bf16) (h1 : a1.IsWhole) (a2 : Memref sig .tc .vmem S1024x2560 .bf16) (h2 : a2.IsWhole)
  (a3 : Memref sig .tc .vmem S512x1024 .f32) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S1x1024 .f32) (h7 : a7.IsWhole)
  (x0 : Vec F S512x2560 .bf16) (x1 : Vec F S1024x2560 .bf16) (x2 : Vec F S512x1024 .f32) (x3 : Vec F S512x1024 .f32)
  (x4 : Vec F S1x1024 .f32) (xo : Vec F S1x1024 .f32)

/-- The rows' gradient, at the first point -/
theorem dx_A (h0 : cond0_0 i) : out0_A_5 c i a1 h1 a2 h2 a3 h3 a4 h4 a5 h5 a6 h6 a7 h7 h0 x0 x1 x2 x3 x4 = k0_pay5 x2 x0 x1 x4 x3 := by
  unfold out0_A_5
  rw [View.read_writes_junk_eq_canon]
  unfold kernelRun0_A
  dsimp only
  sl_unfold_words
  rw [View.canon_unit_zero hz]
  simp only [View.readAt_eq_ld, h1.read_unread, h2.read_unread, h3.read_unread, h4.read_unread, h5.read_unread, View.ld_unit_zero (S := S512x2560) hz,
    View.ld_unit_zero (S := S1024x2560) hz, View.ld_unit_zero (S := S512x1024) hz, View.ld_unit_zero (S := S1x1024) hz]

/-- and at the others. -/
theorem dx_B (h0 : ¬cond0_0 i) : out0_B_5 c i a1 h1 a2 h2 a3 h3 a4 h4 a5 h5 a6 h6 a7 h7 h0 x0 x1 x2 x3 x4 xo = k0_pay5 x2 x0 x1 x4 x3 := by
  unfold out0_B_5
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, View.ld_unit_zero (S := S512x2560) hz,
    View.ld_unit_zero (S := S1024x2560) hz, View.ld_unit_zero (S := S512x1024) hz, View.ld_unit_zero (S := S1x1024) hz]

/-- The weights' gradient: the first point stores zero and adds to it, -/
theorem gain_A (h0 : cond0_0 i) : out0_A_6 c i a1 h1 a2 h2 a3 h3 a4 h4 a5 h5 a6 h6 a7 h7 h0 x0 x1 x2 x3 x4
    = k0_pay1 x2 (k0_pay3 x0 x1) (k0_pay4 x2) k0_pay2 := by
  unfold out0_A_6
  rw [View.read_writes_junk_eq_canon]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S512x2560) hz,
    View.ld_unit_zero (S := S1024x2560) hz, View.ld_unit_zero (S := S512x1024) hz]

/-- the others to what the point before left. -/
theorem gain_B (h0 : ¬cond0_0 i) : out0_B_6 c i a1 h1 a2 h2 a3 h3 a4 h4 a5 h5 a6 h6 a7 h7 h0 x0 x1 x2 x3 x4 xo
    = k0_pay1 x2 (k0_pay3 x0 x1) (k0_pay4 x2) xo := by
  unfold out0_B_6
  rw [View.read_writes_junk_eq_canon]
  unfold kernelRun0_B
  dsimp only
  sl_unfold_words
  rw [View.canon_unit_zero hz]
  simp only [View.readAt_eq_ld, h1.read_unread, h2.read_unread, h3.read_unread, h7.read_unread, View.ld_unit_zero (S := S512x2560) hz,
    View.ld_unit_zero (S := S1024x2560) hz, View.ld_unit_zero (S := S512x1024) hz, View.ld_unit_zero (S := S1x1024) hz]

end Cases

section Values

variable (x : Vec Ideal S512x1024 .f32) (z : Vec Ideal S512x2560 .bf16) (w : Vec Ideal S1024x2560 .bf16)

theorem pay4_apply (i : Fin 512) : k0_pay4 x (ix2 i 0) = Norm.root (fun k : Fin 1024 => x (ix2 i k)) := by
  unfold k0_pay4
  pointwise
  rfl

theorem pay3_apply (i : Fin 512) (j : Fin 1024) : k0_pay3 z w (ix2 i j) = ∑ k : Fin 2560, z (ix2 i k) * w (ix2 j k) := by
  unfold k0_pay3
  pointwise

theorem pay5_apply (g : Vec Ideal S1x1024 .f32) (b : Vec Ideal S512x1024 .f32) (i : Fin 512) (j : Fin 1024) :
    k0_pay5 x z w g b (ix2 i j) = b (ix2 i j) + k0_pay4 x (ix2 i 0) * (k0_pay3 z w (ix2 i j) * g (ix2 0 j))
      - x (ix2 i j) * (k0_pay4 x (ix2 i 0) * k0_pay4 x (ix2 i 0) * k0_pay4 x (ix2 i 0))
        * Ideal.div (∑ k : Fin 1024, k0_pay3 z w (ix2 i k) * g (ix2 0 k) * x (ix2 i k)) Norm.width := by
  unfold k0_pay5
  pointwise

theorem pay1_apply (y : FVec Ideal S512x1024 .f32) (r : FVec Ideal S512x1 .f32) (g : Vec Ideal S1x1024 .f32) (j : Fin 1024) :
    k0_pay1 x y r g (ix2 0 j) = g (ix2 0 j) + ∑ i : Fin 512, y (ix2 i j) * x (ix2 i j) * r (ix2 i 0) := by
  unfold k0_pay1
  pointwise

theorem pay2_apply (j : Fin 1024) : (k0_pay2 (F := Ideal)) (ix2 0 j) = 0 := by
  unfold k0_pay2
  pointwise

end Values

variable (m : (ℓ : Loc nD τ sig) → Buf (Elt Ideal) ℓ) (c : Dev nD)

/-- The arguments by row and column. -/
def args : Norm.Args where
  dz := Attn.nat2 (m ((c : Thread nD τ).loc main_arg0))
  w := Attn.nat2 (m ((c : Thread nD τ).loc main_arg1))
  x := Attn.nat2 (m ((c : Thread nD τ).loc main_arg2))
  base := Attn.nat2 (m ((c : Thread nD τ).loc main_arg3))
  gain := Attn.nat2 (m ((c : Thread nD τ).loc main_arg4)) 0

/-! ## What the points load -/

theorem at0 (t : Fin cfg0.N) : win0_0.index t = ![t.val, 0] := by
  revert t; exact (by decide +kernel : ∀ t : Fin grid0.N, win0_0.index t = ![t.val, 0])

theorem at1 (t : Fin cfg0.N) : win0_1.index t = ![0, 0] := by
  revert t; exact (by decide +kernel : ∀ t : Fin grid0.N, win0_1.index t = ![0, 0])

theorem at2 (t : Fin cfg0.N) : win0_2.index t = ![t.val, 0] := by
  revert t; exact (by decide +kernel : ∀ t : Fin grid0.N, win0_2.index t = ![t.val, 0])

theorem at3 (t : Fin cfg0.N) : win0_3.index t = ![t.val, 0] := by
  revert t; exact (by decide +kernel : ∀ t : Fin grid0.N, win0_3.index t = ![t.val, 0])

theorem at4 (t : Fin cfg0.N) : win0_4.index t = ![0, 0] := by
  revert t; exact (by decide +kernel : ∀ t : Fin grid0.N, win0_4.index t = ![0, 0])

theorem iblk0 (t : Fin cfg0.N) (i : Fin 512) (k : Fin 2560) : iblk m c 0 t (ix2 i k) = (args m c).dz (512 * t.val + i.val) k.val := by
  have ht : t.val < 16 := t.isLt
  refine Eq.trans ?_ (Attn.nat2_eq _ ⟨512 * t.val + i.val, by omega⟩ k rfl rfl).symm
  rw [← V_main_arg0 m c]
  blk_ext [iblk, at0 t]

/-- The weight is cast on the host. -/
theorem V_weight {F : FTy → Type} [FloatOps F] (m : (ℓ : Loc nD τ sig) → Buf (Elt F) ℓ) (c : Dev nD) :
    V m c main_v0 = truncf .bf16 (m ((c : Thread nD τ).loc main_arg1)) bitsLt_bf16_f32 := by
  simp only [V]
  after_results

theorem iblk1 (t : Fin cfg0.N) (j : Fin 1024) (k : Fin 2560) : iblk m c 1 t (ix2 j k) = (args m c).w j.val k.val := by
  refine Eq.trans ?_ (Attn.nat2_eq _ j k rfl rfl).symm
  have h : (m ((c : Thread nD τ).loc main_arg1)) (ix2 j k) = V m c main_v0 (ix2 j k) := by rw [V_weight]; rfl
  rw [h]
  blk_ext [iblk, at1 t]

theorem iblk2 (t : Fin cfg0.N) (i : Fin 512) (k : Fin 1024) : iblk m c 2 t (ix2 i k) = (args m c).x (512 * t.val + i.val) k.val := by
  have ht : t.val < 16 := t.isLt
  refine Eq.trans ?_ (Attn.nat2_eq _ ⟨512 * t.val + i.val, by omega⟩ k rfl rfl).symm
  rw [← V_main_arg2 m c]
  blk_ext [iblk, at2 t]

theorem iblk3 (t : Fin cfg0.N) (i : Fin 512) (k : Fin 1024) : iblk m c 3 t (ix2 i k) = (args m c).base (512 * t.val + i.val) k.val := by
  have ht : t.val < 16 := t.isLt
  refine Eq.trans ?_ (Attn.nat2_eq _ ⟨512 * t.val + i.val, by omega⟩ k rfl rfl).symm
  rw [← V_main_arg3 m c]
  blk_ext [iblk, at3 t]

theorem iblk4 (t : Fin cfg0.N) (k : Fin 1024) : iblk m c 4 t (ix2 0 k) = (args m c).gain k.val := by
  refine Eq.trans ?_ (Attn.nat2_eq (m := 1) (t := 0) (m ((c : Thread nD τ).loc main_arg4)) 0 k rfl rfl).symm
  rw [← V_main_arg4 m c]
  blk_ext [iblk, at4 t]

/-! ## What they leave -/

theorem root_at (t : Fin cfg0.N) (i : Fin 512) : k0_pay4 (iblk m c 2 t) (ix2 i 0) = Norm.root ((args m c).row (512 * t.val + i.val)) := by
  refine (pay4_apply _ i).trans (congrArg Norm.root (funext fun k => ?_))
  exact iblk2 m c t i k

theorem dh_at (t : Fin cfg0.N) (i : Fin 512) (j : Fin 1024) :
    k0_pay3 (iblk m c 0 t) (iblk m c 1 t) (ix2 i j) = (args m c).dh 2560 (512 * t.val + i.val) j.val := by
  refine (pay3_apply _ _ i j).trans (Finset.sum_congr rfl fun k _ => ?_)
  exact congrArg₂ (· * ·) (iblk0 m c t i k) (iblk1 m c t j k)

/-- The rows' gradient at a point. -/
theorem dx_at (t : Fin cfg0.N) (i : Fin 512) (j : Fin 1024) :
    k0_pay5 (iblk m c 2 t) (iblk m c 0 t) (iblk m c 1 t) (iblk m c 4 t) (iblk m c 3 t) (ix2 i j)
      = (args m c).dx 2560 (512 * t.val + i.val) j.val := by
  refine (pay5_apply _ _ _ _ _ i j).trans ?_
  simp only [root_at, dh_at, iblk2, iblk3, iblk4]
  rfl

theorem rows_of (t : Fin cfg0.N) (i : Fin 512) (j : Fin 1024) :
    (outsAt0 m c t.val t.isLt).1 (ix2 i j) = (args m c).dx 2560 (512 * t.val + i.val) j.val := by
  by_cases h0 : t.val % 16 = 0
  · rw [outsAt0_A m c t h0, dx_A]
    exact dx_at m c t i j
  · rw [outsAt0_B m c t h0, dx_B]
    exact dx_at m c t i j

/-- The weights' gradient after the last point. -/
theorem sum_all (j : Fin 1024) (n : ℕ) (h : n < cfg0.N) (hn : n + 1 = 16) :
    (outsAt0 m c n h).2 (ix2 0 j) = ∑ t : Fin 8192, (args m c).part 2560 j.val t.val := by
  have add : ∀ (t : Fin cfg0.N) (xo : Vec Ideal S1x1024 .f32), _ := fun t xo =>
    UpIdeal.Step.add_rows (args m c) 2560 _ (iblk2 m c t) (dh_at m c t) (root_at m c t) xo j
  refine Tiles.running_all ((args m c).part 2560 j.val) (fun n h => (outsAt0 m c n h).2 (ix2 0 j)) (fun h => ?_) (fun n h => ?_) n h
    (congrArg (512 * ·) hn)
  · rw [outsAt0_A m c ⟨0, h⟩ rfl, gain_A]
    exact (add ⟨0, h⟩ _).trans (congrArg₂ (· + ·) (pay2_apply j) rfl)
  · have hn : n + 1 < 16 := h
    rw [outsAt0_B m c ⟨n + 1, h⟩ (by dsimp only; omega), gain_B]
    exact add ⟨n + 1, h⟩ _

end Cert.InIdeal.Step

end
-- ==== Proof.In.Arrays.lean ====
/- The arrays of the backward pass after the last point. -/
module

public import proofs.«01_k».proof.Proof.In.Accumulate

@[expose] public section

set_option maxRecDepth 16384

noncomputable section

namespace Cert.InIdeal.Step

open Idealize.ShloMosaic Idealize.ShloMosaic.TcCoe Cert.InIdeal Cert.InIdeal.Gen Cert.Rows

variable (m : (ℓ : Loc nD τ sig) → Buf (Elt Ideal) ℓ) (c : Dev nD)

theorem at5 (t : Fin cfg0.N) : win0_5.index t = ![t.val, 0] := by
  revert t; exact (by decide +kernel : ∀ t : Fin grid0.N, win0_5.index t = ![t.val, 0])

theorem at6 (t : Fin cfg0.N) : win0_6.index t = ![0, 0] := by
  revert t; exact (by decide +kernel : ∀ t : Fin grid0.N, win0_6.index t = ![0, 0])

/-- The rows' gradient. -/
theorem final_dx (i : Fin 8192) (j : Fin 1024) : (dats m 0 c).arrAt 5 cfg0.N (ix2 i j) = (args m c).dx 2560 i.val j.val := by
  refine Tiles.array (dats m 0 c) 5 (fun p => (args m c).dx 2560 (p 0) (p 1)) (fun t => Tiles.rows 512 t.val) (by decide +kernel)
    (fun t a n => ?_) (fun t _ z => ?_) (ix2 i j)
  · exact Tiles.rows_at 512 1024 (at5 t) a n
  · rw [after0_5]
    exact (congrArg _ (eq_ix2 (n0 := 512) (n1 := 1024) z)).trans (rows_of m c t _ _)

/-- The gradient of the normalisation's weights, written at the last point. -/
theorem final_gain (j : Fin 1024) : (dats m 0 c).arrAt 6 cfg0.N (ix2 0 j) = ∑ t : Fin 8192, (args m c).part 2560 j.val t.val := by
  refine Tiles.array (dats m 0 c) 6 (fun p => (∑ t : Fin 8192, (args m c).part 2560 (p 1) t.val : EReal)) (fun _ _ n => n)
    (by decide +kernel) (fun t a n => ?_) (fun t hf z => ?_) (ix2 0 j)
  · exact Tiles.whole_at 1 1024 (at6 t) a n
  · have ht : t.val = 15 := by have := (flush0_6 t).mp hf; have : t.val < 16 := t.isLt; omega
    rw [after0_6]
    exact (congrArg _ (Tiles.one_row z)).trans (sum_all m c _ t.val t.isLt (congrArg (· + 1) ht))

end Cert.InIdeal.Step

end
-- ==== Proof.In.Reference.lean ====
/- The reference's backward pass of the first normalised product: that of the second, with another product. -/
module

public import proofs.«01_k».proof.Proof.Gen.InRefIdeal.Run
public import proofs.«01_k».proof.Proof.Up.Reference

@[expose] public section

set_option maxRecDepth 16384

noncomputable section

namespace Cert.InRefIdeal.Terms

open Idealize.ShloMosaic Idealize.ShloMosaic.TcCoe Cert.InRefIdeal Cert.InRefIdeal.Gen
open Cert.UpRefIdeal.Terms (dx gain Reads)

/-- The product with the weight transposed. -/
def dh {F : FTy → Type} [FloatOps F] (z : Vec F S8192x2560 .bf16) (w : Vec F S1024x2560 .f32) : FVec F S8192x1024 .f32 :=
  Host.dotGeneral dot_S8192x2560_S1024x2560_S8192x1024_1_1_0_0_n_n none (extf .f32 z bitsLt_bf16_f32) w

/-- The reference's first result, by these names. -/
theorem out0_eq {F : FTy → Type} [FloatOps F] (m : (ℓ : Loc nD τ sig) → Buf (Elt F) ℓ) (c : Dev nD) : Value.res_out0 m c
    = dx (dh (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4)) := by
  unfold Value.res_out0 Value.res_main_v40
  rfl

variable (z : Vec Ideal S8192x2560 .bf16) (w : Vec Ideal S1024x2560 .f32) (x b : Vec Ideal S8192x1024 .f32)
  (g : Vec Ideal S1x1024 .f32)

/-- The arguments by row and column. -/
def args : Norm.Args where
  dz := Attn.nat2 z
  w := Attn.nat2 w
  x := Attn.nat2 x
  base := Attn.nat2 b
  gain := Attn.nat2 g 0

theorem reads : Reads (args z w x b g) 2560 (dh z w) x b g where
  dh i j := by
    unfold dh
    pointwise
    exact Finset.sum_congr rfl fun k _ => congrArg₂ (· * ·) (Attn.nat2_eq _ i k rfl rfl).symm (Attn.nat2_eq _ j k rfl rfl).symm
  row i := funext fun k => (Attn.nat2_eq x i k rfl rfl).symm
  base i j := (Attn.nat2_eq b i j rfl rfl).symm
  gain j := (Attn.nat2_eq (m := 1) (t := 0) g 0 j rfl rfl).symm

end Cert.InRefIdeal.Terms

end
-- ==== Proof.In.Equation.lean ====
/- The backward pass of a normalised product: the two programs' results are equal. -/
module

public import proofs.«01_k».proof.Defs
public import proofs.«01_k».proof.Proof.In.Arrays
public import proofs.«01_k».proof.Proof.In.Reference
public import Idealize.ShloMosaic.Lib.Quiescent

@[expose] public section

set_option maxRecDepth 16384

noncomputable section

namespace Cert.BackwardIn

open Idealize.ShloMosaic Idealize.ShloMosaic.TcCoe Idealize.SL.Sem Cert.InIdeal Cert.Rows

/-- Over the extended reals the kernel's two gradients are the reference's. -/
theorem algebraic : Cert.algebraic_InIdeal_InRefIdeal := by
  intro m g m' g' _ hagree
  refine ⟨fun c => (Gen.dats m 0 c).arrAt 5 cfg0.N, fun c => (Gen.dats m 0 c).arrAt 6 cfg0.N, Value.run_blocks m g, ?_⟩
  refine (θ_run InRefIdeal.defs _ _).mono (fun r h c => ?_) (InRefIdeal.Value.run m' g')
  obtain ⟨h0, h1, h2, h3, h4⟩ := hagree c
  obtain ⟨r0, r1, rest⟩ := h c
  replace r0 := r0.trans (InRefIdeal.Terms.out0_eq m' c)
  replace r1 : _ = UpRefIdeal.Terms.gain (InRefIdeal.Terms.dh (m' ((c.tc : Thread InRefIdeal.nD InRefIdeal.τ).loc InRefIdeal.main_arg0))
    (m' ((c.tc : Thread InRefIdeal.nD InRefIdeal.τ).loc InRefIdeal.main_arg1)))
    (m' ((c.tc : Thread InRefIdeal.nD InRefIdeal.τ).loc InRefIdeal.main_arg2)) := r1
  have reads := InRefIdeal.Terms.reads (m ((c : Thread nD τ).loc main_arg0)) (m ((c : Thread nD τ).loc main_arg1))
    (m ((c : Thread nD τ).loc main_arg2)) (m ((c : Thread nD τ).loc main_arg3)) (m ((c : Thread nD τ).loc main_arg4))
  rw [h0, h1, h2] at r1
  rw [h0, h1, h2, h3, h4] at r0
  refine ⟨r0.trans ?_, r1.trans ?_, rest⟩
  · refine matrix_ext _ _ fun i j => ?_
    exact (UpRefIdeal.Terms.dx_apply reads i j).trans (Step.final_dx m c i j).symm
  · refine matrix_ext _ _ fun i j => ?_
    rw [Subsingleton.elim i 0]
    exact (UpRefIdeal.Terms.gain_apply reads j).trans (Step.final_gain m c j).symm

/-- The reference runs, leaves its arguments and ends with every counter at zero. -/
theorem frame_reference : Cert.quiescent_InRefIdeal := fun m g _ =>
  (θ_run InRefIdeal.defs _ _).mono (fun r h => ⟨fun c => (h c).2.2, sem_eq_zero_of_no_sems (by decide) r.2⟩)
    (InRefIdeal.Value.run m g)

end Cert.BackwardIn

end
-- ==== Proof.Win.Accumulate.lean ====
/- The gradient of a weight as the kernel accumulates it: after the point at row block `k`, the block of the result
   that is being built holds the sum over the rows of blocks `0` to `k`. -/
module

public import proofs.«01_k».proof.Proof.Gen.WinIdeal.Frame
public import proofs.«01_k».proof.Proof.Gen.WinIdeal.Value
public import proofs.«01_k».proof.Proof.Tiles
public import Idealize.ShloMosaic.Lib.Pipeline.ValueKit

@[expose] public section

set_option maxRecDepth 16384

noncomputable section

namespace Cert.WinIdeal.Step

open Idealize.ShloMosaic Idealize.ShloMosaic.TcCoe Cert.WinIdeal Cert.WinIdeal.Gen Cert.Rows

theorem hz : (![0, 0] : Fin 2 → Nat) = fun _ => 0 := funext fun a => by fin_cases a <;> rfl

section Cases

variable {F : FTy → Type} [FloatOps F] (c : Dev nD) (i : grid0.Coords)
  (a3 : Memref sig .tc .vmem S2048x1024 .bf16) (h3 : a3.IsWhole) (a4 : Memref sig .tc .vmem S2048x640 .bf16) (h4 : a4.IsWhole)
  (a5 : Memref sig .tc .vmem S1024x640 .f32) (h5 : a5.IsWhole) (a6 : Memref sig .tc .vmem S1024x640 .bf16) (h6 : a6.IsWhole)
  (x0 : Vec F S2048x1024 .bf16) (x1 : Vec F S2048x640 .bf16) (xo : Vec F S1024x640 .f32)

/-- The first row block: zero is stored, read back and added to. -/
theorem out_A (h0 : cond0_0 i) (h1 : ¬cond0_1 i) : out0_A_2 c i a3 h3 a4 h4 a5 h5 a6 h6 h0 h1 x0 x1 = k0_pay2 k0_pay1 x0 x1 := by
  unfold out0_A_2
  rw [View.read_writes_junk_eq_canon]
  unfold kernelRun0_A
  dsimp only
  sl_unfold_words
  rw [View.canon_cons_unit_zero (S := S1024x640) hz, View.readCov_unit_zero (S := S1024x640) _ hz]
  simp only [View.readAt_eq_ld, h3.read_unread, h4.read_unread, View.ld_unit_zero (S := S2048x1024) hz,
    View.ld_unit_zero (S := S2048x640) hz]

/-- A further row block: what the point before left is added to. -/
theorem out_B (h0 : ¬cond0_0 i) (h1 : ¬cond0_1 i) : out0_B_2 c i a3 h3 a4 h4 a5 h5 a6 h6 h0 h1 x0 x1 xo = k0_pay2 xo x0 x1 := by
  unfold out0_B_2
  rw [View.read_writes_junk_eq_canon]
  unfold kernelRun0_B
  dsimp only
  rw [View.canon_unit_zero hz]
  simp only [View.readAt_eq_ld, h3.read_unread, h4.read_unread, h5.read_unread, View.ld_unit_zero (S := S2048x1024) hz,
    View.ld_unit_zero (S := S2048x640) hz, View.ld_unit_zero (S := S1024x640) hz]

/-- The last row block: likewise, -/
theorem out_C (h0 : ¬cond0_0 i) (h1 : cond0_1 i) : out0_C_2 c i a3 h3 a4 h4 a5 h5 a6 h6 h0 h1 x0 x1 xo = k0_pay2 xo x0 x1 := by
  unfold out0_C_2
  rw [View.read_writes_junk_eq_canon]
  unfold kernelRun0_C
  dsimp only
  sl_unfold_words
  rw [View.canon_unit_zero hz]
  simp only [View.readAt_eq_ld, h3.read_unread, h4.read_unread, h5.read_unread, View.ld_unit_zero (S := S2048x1024) hz,
    View.ld_unit_zero (S := S2048x640) hz, View.ld_unit_zero (S := S1024x640) hz]

/-- and the narrow copy is that sum. -/
theorem copy_C (h0 : ¬cond0_0 i) (h1 : cond0_1 i) :
    out0_C_3 c i a3 h3 a4 h4 a5 h5 a6 h6 h0 h1 x0 x1 xo = k0_pay3 (k0_pay2 xo x0 x1) := by
  unfold out0_C_3
  rw [View.read_writes_junk_eq_canon]
  unfold kernelRun0_C
  dsimp only
  sl_unfold_words
  rw [View.canon_unit_zero hz, View.readCov_unit_zero (S := S1024x640) _ hz]
  simp only [View.readAt_eq_ld, h3.read_unread, h4.read_unread, h5.read_unread, View.ld_unit_zero (S := S2048x1024) hz,
    View.ld_unit_zero (S := S2048x640) hz, View.ld_unit_zero (S := S1024x640) hz]

end Cases

/-- One point's addition. -/
theorem pay2_apply (xo : Vec Ideal S1024x640 .f32) (x0 : Vec Ideal S2048x1024 .bf16) (x1 : Vec Ideal S2048x640 .bf16)
    (i : Fin 1024) (j : Fin 640) :
    k0_pay2 xo x0 x1 (ix2 i j) = xo (ix2 i j) + ∑ r : Fin 2048, x0 (ix2 r i) * x1 (ix2 r j) := by
  unfold k0_pay2
  pointwise

theorem pay1_apply (i : Fin 1024) (j : Fin 640) : (k0_pay1 (F := Ideal)) (ix2 i j) = 0 := by
  unfold k0_pay1
  pointwise

theorem pay3_apply (x : Vec Ideal S1024x640 .f32) (i : Fin 1024) (j : Fin 640) : k0_pay3 x (ix2 i j) = x (ix2 i j) := by
  unfold k0_pay3
  pointwise

variable (m : (ℓ : Loc nD τ sig) → Buf (Elt Ideal) ℓ) (c : Dev nD)

/-- The normalised rows that the host prepares, -/
abbrev hidden : ℕ → ℕ → EReal := Attn.nat2 (V m c main_v14)
/-- and the gradient of the product's result. -/
abbrev grad : ℕ → ℕ → EReal := Attn.nat2 (m ((c : Thread nD τ).loc main_arg2))

/-- A row's part of the weight's gradient. -/
abbrev term (i j : ℕ) (r : ℕ) : EReal := hidden m c r i * grad m c r j

theorem at0 (t : Fin cfg0.N) : win0_0.index t = ![t.val % 4, 0] := by
  revert t; exact (by decide +kernel : ∀ t : Fin grid0.N, win0_0.index t = ![t.val % 4, 0])

theorem iblk0 (t : Fin cfg0.N) (r : Fin 2048) (i : Fin 1024) :
    iblk m c 0 t (ix2 r i) = hidden m c (2048 * (t.val % 4) + r.val) i.val := by
  have ht : t.val < 16 := t.isLt
  refine Eq.trans ?_ (Attn.nat2_eq _ ⟨2048 * (t.val % 4) + r.val, by omega⟩ i rfl rfl).symm
  blk_ext [iblk, at0 t]

theorem at1 (t : Fin cfg0.N) : win0_1.index t = ![t.val % 4, t.val / 4] := by
  revert t; exact (by decide +kernel : ∀ t : Fin grid0.N, win0_1.index t = ![t.val % 4, t.val / 4])

theorem iblk1 (t : Fin cfg0.N) (r : Fin 2048) (j : Fin 640) :
    iblk m c 1 t (ix2 r j) = grad m c (2048 * (t.val % 4) + r.val) (640 * (t.val / 4) + j.val) := by
  have ht : t.val < 16 := t.isLt
  refine Eq.trans ?_ (Attn.nat2_eq _ ⟨2048 * (t.val % 4) + r.val, by omega⟩ ⟨640 * (t.val / 4) + j.val, by omega⟩ rfl rfl).symm
  rw [← V_main_arg2 m c]
  blk_ext [iblk, at1 t]

/-- A point adds its block's rows. -/
theorem add_block (t : Fin cfg0.N) (xo : Vec Ideal S1024x640 .f32) (i : Fin 1024) (j : Fin 640) :
    k0_pay2 xo (iblk m c 0 t) (iblk m c 1 t) (ix2 i j)
      = xo (ix2 i j) + ∑ r : Fin 2048, term m c i.val (640 * (t.val / 4) + j.val) (2048 * (t.val % 4) + r.val) := by
  rw [pay2_apply]
  simp only [iblk0, iblk1]

/-- What the block holds after each point. -/
theorem partial_sum (i : Fin 1024) (j : Fin 640) (n : ℕ) (h : n < cfg0.N) :
    (outsAt0 m c n h).1 (ix2 i j) = upTo (term m c i.val (640 * (n / 4) + j.val)) (2048 * (n % 4 + 1)) := by
  refine Tiles.rounds (by decide) (fun k => term m c i.val (640 * k + j.val)) (fun n h => (outsAt0 m c n h).1 (ix2 i j))
    (fun n h h0 => ?_) (fun n h h0 => ?_) n h
  · rw [outsAt0_A m c ⟨n, h⟩ h0 (by dsimp only; omega), out_A]
    exact (add_block m c ⟨n, h⟩ _ i j).trans (congrArg₂ (· + ·) (pay1_apply i j) rfl)
  · by_cases h1 : (n + 1) % 4 = 3
    · rw [outsAt0_C m c ⟨n + 1, h⟩ h0 h1, out_C]
      exact add_block m c ⟨n + 1, h⟩ _ i j
    · rw [outsAt0_B m c ⟨n + 1, h⟩ h0 h1, out_B]
      exact add_block m c ⟨n + 1, h⟩ _ i j

/-- At a last row block the narrow copy holds the same. -/
theorem copy_sum (t : Fin cfg0.N) (h1 : t.val % 4 = 3) (i : Fin 1024) (j : Fin 640) :
    (outsAt0 m c t.val t.isLt).2 (ix2 i j) = (outsAt0 m c t.val t.isLt).1 (ix2 i j) := by
  have h0 : ¬t.val % 4 = 0 := by omega
  rw [outsAt0_C m c t h0 h1, out_C, copy_C]
  exact pay3_apply _ i j

end Cert.WinIdeal.Step

end
-- ==== Proof.Win.Arrays.lean ====
/- The arrays that hold the gradient of a weight after the last point, and the rows the host prepares. -/
module

public import proofs.«01_k».proof.Proof.Win.Accumulate
public import proofs.«01_k».proof.Proof.Normal

@[expose] public section

set_option maxRecDepth 16384

noncomputable section

namespace Cert.WinIdeal.Step

open Idealize.ShloMosaic Idealize.ShloMosaic.TcCoe Cert.WinIdeal Cert.WinIdeal.Gen Cert.Rows

variable (m : (ℓ : Loc nD τ sig) → Buf (Elt Ideal) ℓ) (c : Dev nD)

/-- What the host prepares. -/
theorem V_hidden {F : FTy → Type} [FloatOps F] (m : (ℓ : Loc nD τ sig) → Buf (Elt F) ℓ) (c : Dev nD) :
    V m c main_v14 = truncf .bf16 (Normal.rows (m ((c : Thread nD τ).loc main_arg0)) (m ((c : Thread nD τ).loc main_arg1))) bitsLt_bf16_f32 := by
  simp only [V]
  after_results
  rfl

theorem hidden_eq (r : Fin 8192) (i : Fin 1024) :
    hidden m c r.val i.val = Normal.rows (F := Ideal) (m ((c : Thread nD τ).loc main_arg0)) (m ((c : Thread nD τ).loc main_arg1)) (ix2 r i) := by
  refine (Attn.nat2_eq _ r i rfl rfl).trans ?_
  rw [V_hidden m c]
  rfl

/-- The gradient of the weight. -/
def total (i j : ℕ) : EReal := ∑ r : Fin 8192, hidden m c r.val i * grad m c r.val j

theorem sum_all (t : Fin cfg0.N) (h : t.val % 4 = 3) (i : Fin 1024) (j : Fin 640) :
    (outsAt0 m c t.val t.isLt).1 (ix2 i j) = total m c i.val (640 * (t.val / 4) + j.val) := by
  rw [partial_sum, h, upTo_all]
  rfl

theorem at2 (t : Fin cfg0.N) : win0_2.index t = ![0, t.val / 4] := by
  revert t; exact (by decide +kernel : ∀ t : Fin grid0.N, win0_2.index t = ![0, t.val / 4])

theorem at3 (t : Fin cfg0.N) : win0_3.index t = ![0, t.val / 4] := by
  revert t; exact (by decide +kernel : ∀ t : Fin grid0.N, win0_3.index t = ![0, t.val / 4])

theorem final_grad (i : Fin 1024) (j : Fin 2560) : (dats m 0 c).arrAt 2 cfg0.N (ix2 i j) = total m c i.val j.val := by
  refine Tiles.array (dats m 0 c) 2 (fun p => total m c (p 0) (p 1)) (fun t => Tiles.columns 640 (t.val / 4)) (by decide +kernel) (fun t a n => ?_) (fun t hf z => ?_) (ix2 i j)
  · exact Tiles.columns_at 640 1024 (at2 t) a n
  · rw [after0_2]
    exact (congrArg _ (eq_ix2 (n0 := 1024) (n1 := 640) z)).trans (sum_all m c t ((flush0_2 t).mp hf) _ _)

/-- The narrow copy. -/
theorem final_copy (i : Fin 1024) (j : Fin 2560) : (dats m 0 c).arrAt 3 cfg0.N (ix2 i j) = total m c i.val j.val := by
  refine Tiles.array (dats m 0 c) 3 (fun p => total m c (p 0) (p 1)) (fun t => Tiles.columns 640 (t.val / 4)) (by decide +kernel) (fun t a n => ?_) (fun t hf z => ?_) (ix2 i j)
  · exact Tiles.columns_at 640 1024 (at3 t) a n
  · rw [after0_3]
    have h3 := (flush0_3 t).mp hf
    exact (congrArg _ (eq_ix2 (n0 := 1024) (n1 := 640) z)).trans ((copy_sum m c t h3 _ _).trans (sum_all m c t h3 _ _))

end Cert.WinIdeal.Step

end
-- ==== Proof.Win.Equation.lean ====
/- The gradient of a weight: the two programs' results are equal. -/
module

public import proofs.«01_k».proof.Defs
public import proofs.«01_k».proof.Proof.Win.Arrays
public import proofs.«01_k».proof.Proof.Gen.WinRefIdeal.Run
public import Idealize.ShloMosaic.Lib.Quiescent

@[expose] public section

set_option maxRecDepth 16384

noncomputable section

namespace Cert.WeightIn

open Idealize.ShloMosaic Idealize.ShloMosaic.TcCoe Idealize.SL.Sem Cert.WinIdeal Cert.Rows

/-- The reference's product, -/
def product {F : FTy → Type} [FloatOps F] (h : Vec F WinRefIdeal.S8192x1024 .f32) (z : Vec F WinRefIdeal.S8192x2560 .bf16) :
    Vec F WinRefIdeal.S1024x2560 .f32 :=
  transpose WinRefIdeal.S1024x2560 [1, 0] (Host.dotGeneral WinRefIdeal.dot_S8192x2560_S8192x1024_S2560x1024_0_0_1_1_n_n none
    (extf .f32 z WinRefIdeal.Facts₀.bitsLt_bf16_f32) h) WinRefIdeal.Facts₀.transposes_S2560x1024_S1024x2560_1_0

/-- and its value at an element. -/
theorem product_apply (h : Vec Ideal WinRefIdeal.S8192x1024 .f32) (z : Vec Ideal WinRefIdeal.S8192x2560 .bf16) (i : Fin 1024) (j : Fin 2560) :
    product h z (ix2 i j) = ∑ r : Fin 8192, h (ix2 r i) * z (ix2 r j) := by
  unfold product
  pointwise
  exact Finset.sum_congr rfl fun r _ => mul_comm _ _

variable (m : (ℓ : Loc nD τ sig) → Buf (Elt Ideal) ℓ) (c : Dev nD)

/-- The kernel's sum, over the arguments. -/
theorem total_eq (i : Fin 1024) (j : Fin 2560) : Step.total m c i.val j.val = ∑ r : Fin 8192,
    Normal.rows (F := Ideal) (m ((c : Thread nD τ).loc main_arg0)) (m ((c : Thread nD τ).loc main_arg1)) (ix2 r i)
      * m ((c : Thread nD τ).loc main_arg2) (ix2 r j) :=
  Finset.sum_congr rfl fun r _ => congrArg₂ (· * ·) (Step.hidden_eq m c r i) (Attn.nat2_eq _ r j rfl rfl)

/-- Over the extended reals the kernel's gradient of the weight and its narrow copy are the reference's. -/
theorem algebraic : Cert.algebraic_WinIdeal_WinRefIdeal := by
  intro m g m' g' _ hagree
  refine ⟨fun c => (Gen.dats m 0 c).arrAt 2 cfg0.N, fun c => (Gen.dats m 0 c).arrAt 3 cfg0.N, Value.run_blocks m g, ?_⟩
  refine (θ_run WinRefIdeal.defs _ _).mono (fun r h c => ?_) (WinRefIdeal.Value.run m' g')
  obtain ⟨h0, h1, h2⟩ := hagree c
  obtain ⟨r0, r1, rest⟩ := h c
  rw [h0, h1, h2] at r0 r1
  refine ⟨r0.trans ?_, r1.trans ?_, rest⟩
  · refine matrix_ext _ _ fun i j => ?_
    exact ((product_apply (Normal.rows _ _) _ i j).trans (total_eq m c i j).symm).trans (Step.final_grad m c i j).symm
  · refine matrix_ext _ _ fun i j => ?_
    exact ((product_apply (Normal.rows _ _) _ i j).trans (total_eq m c i j).symm).trans (Step.final_copy m c i j).symm

/-- The reference runs, leaves its arguments and ends with every counter at zero. -/
theorem frame_reference : Cert.quiescent_WinRefIdeal := fun m g _ =>
  (θ_run WinRefIdeal.defs _ _).mono (fun r h => ⟨fun c => (h c).2.2, sem_eq_zero_of_no_sems (by decide) r.2⟩)
    (WinRefIdeal.Value.run m g)

end Cert.WeightIn

end
-- ==== Proof.Wdown.Accumulate.lean ====
/- The gradient of a weight as the kernel accumulates it: after the point at row block `k`, the block of the result
   that is being built holds the sum over the rows of blocks `0` to `k`. -/
module

public import proofs.«01_k».proof.Proof.Gen.WdownIdeal.Frame
public import proofs.«01_k».proof.Proof.Gen.WdownIdeal.Value
public import proofs.«01_k».proof.Proof.Tiles
public import Idealize.ShloMosaic.Lib.Pipeline.ValueKit

@[expose] public section

set_option maxRecDepth 16384

noncomputable section

namespace Cert.WdownIdeal.Step

open Idealize.ShloMosaic Idealize.ShloMosaic.TcCoe Cert.WdownIdeal Cert.WdownIdeal.Gen Cert.Rows

theorem hz : (![0, 0] : Fin 2 → Nat) = fun _ => 0 := funext fun a => by fin_cases a <;> rfl

section Cases

variable {F : FTy → Type} [FloatOps F] (c : Dev nD) (i : grid0.Coords)
  (a3 : Memref sig .tc .vmem S1024x1408 .bf16) (h3 : a3.IsWhole) (a4 : Memref sig .tc .vmem S1024x1024 .f32) (h4 : a4.IsWhole)
  (a5 : Memref sig .tc .vmem S1408x1024 .f32) (h5 : a5.IsWhole) (a6 : Memref sig .tc .vmem S1408x1024 .bf16) (h6 : a6.IsWhole)
  (x0 : Vec F S1024x1408 .bf16) (x1 : Vec F S1024x1024 .f32) (xo : Vec F S1408x1024 .f32)

/-- The first row block: zero is stored, read back and added to. -/
theorem out_A (h0 : cond0_0 i) (h1 : ¬cond0_1 i) : out0_A_2 c i a3 h3 a4 h4 a5 h5 a6 h6 h0 h1 x0 x1 = k0_pay2 k0_pay1 x0 x1 := by
  unfold out0_A_2
  rw [View.read_writes_junk_eq_canon]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1024x1408) hz,
    View.ld_unit_zero (S := S1024x1024) hz]

/-- A further row block: what the point before left is added to. -/
theorem out_B (h0 : ¬cond0_0 i) (h1 : ¬cond0_1 i) : out0_B_2 c i a3 h3 a4 h4 a5 h5 a6 h6 h0 h1 x0 x1 xo = k0_pay2 xo x0 x1 := by
  unfold out0_B_2
  rw [View.read_writes_junk_eq_canon]
  unfold kernelRun0_B
  dsimp only
  rw [View.canon_unit_zero hz]
  simp only [View.readAt_eq_ld, h3.read_unread, h4.read_unread, h5.read_unread, View.ld_unit_zero (S := S1024x1408) hz,
    View.ld_unit_zero (S := S1024x1024) hz, View.ld_unit_zero (S := S1408x1024) hz]

/-- The last row block: likewise, -/
theorem out_C (h0 : ¬cond0_0 i) (h1 : cond0_1 i) : out0_C_2 c i a3 h3 a4 h4 a5 h5 a6 h6 h0 h1 x0 x1 xo = k0_pay2 xo x0 x1 := by
  unfold out0_C_2
  rw [View.read_writes_junk_eq_canon]
  unfold kernelRun0_C
  dsimp only
  sl_unfold_words
  rw [View.canon_unit_zero hz]
  simp only [View.readAt_eq_ld, h3.read_unread, h4.read_unread, h5.read_unread, View.ld_unit_zero (S := S1024x1408) hz,
    View.ld_unit_zero (S := S1024x1024) hz, View.ld_unit_zero (S := S1408x1024) hz]

/-- and the narrow copy is that sum. -/
theorem copy_C (h0 : ¬cond0_0 i) (h1 : cond0_1 i) :
    out0_C_3 c i a3 h3 a4 h4 a5 h5 a6 h6 h0 h1 x0 x1 xo = k0_pay3 (k0_pay2 xo x0 x1) := by
  unfold out0_C_3
  rw [View.read_writes_junk_eq_canon]
  unfold kernelRun0_C
  dsimp only
  sl_unfold_words
  rw [View.canon_unit_zero hz, View.readCov_unit_zero (S := S1408x1024) _ hz]
  simp only [View.readAt_eq_ld, h3.read_unread, h4.read_unread, h5.read_unread, View.ld_unit_zero (S := S1024x1408) hz,
    View.ld_unit_zero (S := S1024x1024) hz, View.ld_unit_zero (S := S1408x1024) hz]

end Cases

/-- One point's addition. -/
theorem pay2_apply (xo : Vec Ideal S1408x1024 .f32) (x0 : Vec Ideal S1024x1408 .bf16) (x1 : Vec Ideal S1024x1024 .f32)
    (i : Fin 1408) (j : Fin 1024) :
    k0_pay2 xo x0 x1 (ix2 i j) = xo (ix2 i j) + ∑ r : Fin 1024, x0 (ix2 r i) * x1 (ix2 r j) := by
  unfold k0_pay2
  pointwise

theorem pay1_apply (i : Fin 1408) (j : Fin 1024) : (k0_pay1 (F := Ideal)) (ix2 i j) = 0 := by
  unfold k0_pay1
  pointwise

theorem pay3_apply (x : Vec Ideal S1408x1024 .f32) (i : Fin 1408) (j : Fin 1024) : k0_pay3 x (ix2 i j) = x (ix2 i j) := by
  unfold k0_pay3
  pointwise

variable (m : (ℓ : Loc nD τ sig) → Buf (Elt Ideal) ℓ) (c : Dev nD)

/-- The activation that the host prepares, -/
abbrev hidden : ℕ → ℕ → EReal := Attn.nat2 (V m c main_v4)
/-- and the gradient of the product's result. -/
abbrev grad : ℕ → ℕ → EReal := Attn.nat2 (m ((c : Thread nD τ).loc main_arg1))

/-- A row's part of the weight's gradient. -/
abbrev term (i j : ℕ) (r : ℕ) : EReal := hidden m c r i * grad m c r j

theorem at0 (t : Fin cfg0.N) : win0_0.index t = ![t.val % 8, t.val / 8] := by
  revert t; exact (by decide +kernel : ∀ t : Fin grid0.N, win0_0.index t = ![t.val % 8, t.val / 8])

theorem iblk0 (t : Fin cfg0.N) (r : Fin 1024) (i : Fin 1408) :
    iblk m c 0 t (ix2 r i) = hidden m c (1024 * (t.val % 8) + r.val) (1408 * (t.val / 8) + i.val) := by
  have ht : t.val < 16 := t.isLt
  refine Eq.trans ?_ (Attn.nat2_eq _ ⟨1024 * (t.val % 8) + r.val, by omega⟩ ⟨1408 * (t.val / 8) + i.val, by omega⟩ rfl rfl).symm
  blk_ext [iblk, at0 t]

theorem at1 (t : Fin cfg0.N) : win0_1.index t = ![t.val % 8, 0] := by
  revert t; exact (by decide +kernel : ∀ t : Fin grid0.N, win0_1.index t = ![t.val % 8, 0])

theorem iblk1 (t : Fin cfg0.N) (r : Fin 1024) (j : Fin 1024) :
    iblk m c 1 t (ix2 r j) = grad m c (1024 * (t.val % 8) + r.val) j.val := by
  have ht : t.val < 16 := t.isLt
  refine Eq.trans ?_ (Attn.nat2_eq _ ⟨1024 * (t.val % 8) + r.val, by omega⟩ j rfl rfl).symm
  rw [← V_main_arg1 m c]
  blk_ext [iblk, at1 t]

/-- A point adds its block's rows. -/
theorem add_block (t : Fin cfg0.N) (xo : Vec Ideal S1408x1024 .f32) (i : Fin 1408) (j : Fin 1024) :
    k0_pay2 xo (iblk m c 0 t) (iblk m c 1 t) (ix2 i j)
      = xo (ix2 i j) + ∑ r : Fin 1024, term m c (1408 * (t.val / 8) + i.val) j.val (1024 * (t.val % 8) + r.val) := by
  rw [pay2_apply]
  simp only [iblk0, iblk1]

/-- What the block holds after each point. -/
theorem partial_sum (i : Fin 1408) (j : Fin 1024) (n : ℕ) (h : n < cfg0.N) :
    (outsAt0 m c n h).1 (ix2 i j) = upTo (term m c (1408 * (n / 8) + i.val) j.val) (1024 * (n % 8 + 1)) := by
  refine Tiles.rounds (by decide) (fun k => term m c (1408 * k + i.val) j.val) (fun n h => (outsAt0 m c n h).1 (ix2 i j))
    (fun n h h0 => ?_) (fun n h h0 => ?_) n h
  · rw [outsAt0_A m c ⟨n, h⟩ h0 (by dsimp only; omega), out_A]
    exact (add_block m c ⟨n, h⟩ _ i j).trans (congrArg₂ (· + ·) (pay1_apply i j) rfl)
  · by_cases h1 : (n + 1) % 8 = 7
    · rw [outsAt0_C m c ⟨n + 1, h⟩ h0 h1, out_C]
      exact add_block m c ⟨n + 1, h⟩ _ i j
    · rw [outsAt0_B m c ⟨n + 1, h⟩ h0 h1, out_B]
      exact add_block m c ⟨n + 1, h⟩ _ i j

/-- At a last row block the narrow copy holds the same. -/
theorem copy_sum (t : Fin cfg0.N) (h1 : t.val % 8 = 7) (i : Fin 1408) (j : Fin 1024) :
    (outsAt0 m c t.val t.isLt).2 (ix2 i j) = (outsAt0 m c t.val t.isLt).1 (ix2 i j) := by
  have h0 : ¬t.val % 8 = 0 := by omega
  rw [outsAt0_C m c t h0 h1, out_C, copy_C]
  exact pay3_apply _ i j

end Cert.WdownIdeal.Step

end
-- ==== Proof.Wdown.Arrays.lean ====
/- The arrays that hold the gradient of a weight after the last point, and the rows the host prepares. -/
module

public import proofs.«01_k».proof.Proof.Wdown.Accumulate

@[expose] public section

set_option maxRecDepth 16384

noncomputable section

namespace Cert.WdownIdeal.Step

open Idealize.ShloMosaic Idealize.ShloMosaic.TcCoe Cert.WdownIdeal Cert.WdownIdeal.Gen Cert.Rows

/-- The gated activation: the second half of the columns times `x / (1 + exp(-x))` of the first half. -/
def gated {F : FTy → Type} [FloatOps F] (u : Vec F S8192x5632 .f32) : Vec F S8192x2816 .f32 :=
  mulf (mulf (extractStridedSlice S8192x2816 ![0, 0] u slices_S8192x5632_S8192x2816_0_0)
      (Host.divf (broadcastInDim S8192x2816 ![] bcast_S_S8192x2816 (constant S_ .f32 0x3F800000#32))
        (addf (broadcastInDim S8192x2816 ![] bcast_S_S8192x2816 (constant S_ .f32 0x3F800000#32))
          (Host.exp (Host.negf (extractStridedSlice S8192x2816 ![0, 0] u slices_S8192x5632_S8192x2816_0_0))))))
    (extractStridedSlice S8192x2816 ![0, 2816] u slices_S8192x5632_S8192x2816_0_2816)

variable (m : (ℓ : Loc nD τ sig) → Buf (Elt Ideal) ℓ) (c : Dev nD)

/-- What the host prepares. -/
theorem V_hidden {F : FTy → Type} [FloatOps F] (m : (ℓ : Loc nD τ sig) → Buf (Elt F) ℓ) (c : Dev nD) :
    V m c main_v4 = truncf .bf16 (gated (m ((c : Thread nD τ).loc main_arg0))) bitsLt_bf16_f32 := by
  unfold V
  simp only [hostOps0, hostOps0_1, hostOps0_2, List.flatten_cons, List.flatten_nil, List.append_nil, List.cons_append, List.nil_append,
    StableHlo.TRef.unary, StableHlo.TRef.binary, StableHlo.TRef.nullary, StableHlo.TRef.toBuf, StableHlo.TRef.ofBuf, cast_eq]
  after_results
  rfl

theorem hidden_eq (r : Fin 8192) (i : Fin 2816) :
    hidden m c r.val i.val = gated (m ((c : Thread nD τ).loc main_arg0)) (ix2 r i) := by
  refine (Attn.nat2_eq _ r i rfl rfl).trans ?_
  rw [V_hidden m c]
  rfl

/-- The gradient of the weight. -/
def total (i j : ℕ) : EReal := ∑ r : Fin 8192, hidden m c r.val i * grad m c r.val j

theorem sum_all (t : Fin cfg0.N) (h : t.val % 8 = 7) (i : Fin 1408) (j : Fin 1024) :
    (outsAt0 m c t.val t.isLt).1 (ix2 i j) = total m c (1408 * (t.val / 8) + i.val) j.val := by
  rw [partial_sum, h, upTo_all]
  rfl

theorem at2 (t : Fin cfg0.N) : win0_2.index t = ![t.val / 8, 0] := by
  revert t; exact (by decide +kernel : ∀ t : Fin grid0.N, win0_2.index t = ![t.val / 8, 0])

theorem at3 (t : Fin cfg0.N) : win0_3.index t = ![t.val / 8, 0] := by
  revert t; exact (by decide +kernel : ∀ t : Fin grid0.N, win0_3.index t = ![t.val / 8, 0])

theorem final_grad (i : Fin 2816) (j : Fin 1024) : (dats m 0 c).arrAt 2 cfg0.N (ix2 i j) = total m c i.val j.val := by
  refine Tiles.array (dats m 0 c) 2 (fun p => total m c (p 0) (p 1)) (fun t => Tiles.rows 1408 (t.val / 8)) (by decide +kernel) (fun t a n => ?_) (fun t hf z => ?_) (ix2 i j)
  · exact Tiles.rows_at 1408 1024 (at2 t) a n
  · rw [after0_2]
    exact (congrArg _ (eq_ix2 (n0 := 1408) (n1 := 1024) z)).trans (sum_all m c t ((flush0_2 t).mp hf) _ _)

/-- The narrow copy. -/
theorem final_copy (i : Fin 2816) (j : Fin 1024) : (dats m 0 c).arrAt 3 cfg0.N (ix2 i j) = total m c i.val j.val := by
  refine Tiles.array (dats m 0 c) 3 (fun p => total m c (p 0) (p 1)) (fun t => Tiles.rows 1408 (t.val / 8)) (by decide +kernel) (fun t a n => ?_) (fun t hf z => ?_) (ix2 i j)
  · exact Tiles.rows_at 1408 1024 (at3 t) a n
  · rw [after0_3]
    have h7 := (flush0_3 t).mp hf
    exact (congrArg _ (eq_ix2 (n0 := 1408) (n1 := 1024) z)).trans ((copy_sum m c t h7 _ _).trans (sum_all m c t h7 _ _))

end Cert.WdownIdeal.Step

end
-- ==== Proof.Wdown.Equation.lean ====
/- The gradient of a weight: the two programs' results are equal. -/
module

public import proofs.«01_k».proof.Defs
public import proofs.«01_k».proof.Proof.Wdown.Arrays
public import proofs.«01_k».proof.Proof.Gen.WdownRefIdeal.Run
public import Idealize.ShloMosaic.Lib.Quiescent

@[expose] public section

set_option maxRecDepth 16384

noncomputable section

namespace Cert.WeightDown

open Idealize.ShloMosaic Idealize.ShloMosaic.TcCoe Idealize.SL.Sem Cert.WdownIdeal Cert.Rows

/-- The reference's product, -/
def product {F : FTy → Type} [FloatOps F] (h : Vec F WdownRefIdeal.S8192x2816 .f32) (z : Vec F WdownRefIdeal.S8192x1024 .f32) :
    Vec F WdownRefIdeal.S2816x1024 .f32 :=
  transpose WdownRefIdeal.S2816x1024 [1, 0] (Host.dotGeneral WdownRefIdeal.dot_S8192x1024_S8192x2816_S1024x2816_0_0_1_1_n_n none
    z h) WdownRefIdeal.Facts₀.transposes_S1024x2816_S2816x1024_1_0

/-- and its value at an element. -/
theorem product_apply (h : Vec Ideal WdownRefIdeal.S8192x2816 .f32) (z : Vec Ideal WdownRefIdeal.S8192x1024 .f32) (i : Fin 2816) (j : Fin 1024) :
    product h z (ix2 i j) = ∑ r : Fin 8192, h (ix2 r i) * z (ix2 r j) := by
  unfold product
  pointwise
  exact Finset.sum_congr rfl fun r _ => mul_comm _ _

variable (m : (ℓ : Loc nD τ sig) → Buf (Elt Ideal) ℓ) (c : Dev nD)

/-- The kernel's sum, over the arguments. -/
theorem total_eq (i : Fin 2816) (j : Fin 1024) : Step.total m c i.val j.val = ∑ r : Fin 8192,
    Step.gated (m ((c : Thread nD τ).loc main_arg0)) (ix2 r i)
      * m ((c : Thread nD τ).loc main_arg1) (ix2 r j) :=
  Finset.sum_congr rfl fun r _ => congrArg₂ (· * ·) (Step.hidden_eq m c r i) (Attn.nat2_eq _ r j rfl rfl)

/-- Over the extended reals the kernel's gradient of the weight and its narrow copy are the reference's. -/
theorem algebraic : Cert.algebraic_WdownIdeal_WdownRefIdeal := by
  intro m g m' g' _ hagree
  refine ⟨fun c => (Gen.dats m 0 c).arrAt 2 cfg0.N, fun c => (Gen.dats m 0 c).arrAt 3 cfg0.N, Value.run_blocks m g, ?_⟩
  refine (θ_run WdownRefIdeal.defs _ _).mono (fun r h c => ?_) (WdownRefIdeal.Value.run m' g')
  obtain ⟨h0, h1⟩ := hagree c
  obtain ⟨r0, r1, rest⟩ := h c
  rw [h0, h1] at r0 r1
  refine ⟨r0.trans ?_, r1.trans ?_, rest⟩
  · refine matrix_ext _ _ fun i j => ?_
    exact ((product_apply (Step.gated _) _ i j).trans (total_eq m c i j).symm).trans (Step.final_grad m c i j).symm
  · refine matrix_ext _ _ fun i j => ?_
    exact ((product_apply (Step.gated _) _ i j).trans (total_eq m c i j).symm).trans (Step.final_copy m c i j).symm

/-- The reference runs, leaves its arguments and ends with every counter at zero. -/
theorem frame_reference : Cert.quiescent_WdownRefIdeal := fun m g _ =>
  (θ_run WdownRefIdeal.defs _ _).mono (fun r h => ⟨fun c => (h c).2.2, sem_eq_zero_of_no_sems (by decide) r.2⟩)
    (WdownRefIdeal.Value.run m g)

end Cert.WeightDown

end
-- ==== Proof.Wout.Accumulate.lean ====
/- The gradient of a weight as the kernel accumulates it: after the point at row block `k`, the block of the result
   that is being built holds the sum over the rows of blocks `0` to `k`. -/
module

public import proofs.«01_k».proof.Proof.Gen.WoutIdeal.Frame
public import proofs.«01_k».proof.Proof.Gen.WoutIdeal.Value
public import proofs.«01_k».proof.Proof.Tiles
public import Idealize.ShloMosaic.Lib.Pipeline.ValueKit

@[expose] public section

set_option maxRecDepth 16384

noncomputable section

namespace Cert.WoutIdeal.Step

open Idealize.ShloMosaic Idealize.ShloMosaic.TcCoe Cert.WoutIdeal Cert.WoutIdeal.Gen Cert.Rows

theorem hz : (![0, 0] : Fin 2 → Nat) = fun _ => 0 := funext fun a => by fin_cases a <;> rfl

section Cases

variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .bf16) (h6 : a6.IsWhole)
  (x0 : Vec F S2048x1024 .bf16) (x1 : Vec F S2048x1024 .bf16) (xo : Vec F S1024x1024 .f32)

/-- The first row block: zero is stored, read back and added to. -/
theorem out_A (h0 : cond0_0 i) (h1 : ¬cond0_1 i) : out0_A_2 c i a3 h3 a4 h4 a5 h5 a6 h6 h0 h1 x0 x1 = k0_pay2 k0_pay1 x0 x1 := by
  unfold out0_A_2
  rw [View.read_writes_junk_eq_canon]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz]

/-- A further row block: what the point before left is added to. -/
theorem out_B (h0 : ¬cond0_0 i) (h1 : ¬cond0_1 i) : out0_B_2 c i a3 h3 a4 h4 a5 h5 a6 h6 h0 h1 x0 x1 xo = k0_pay2 xo x0 x1 := by
  unfold out0_B_2
  rw [View.read_writes_junk_eq_canon]
  unfold kernelRun0_B
  dsimp only
  rw [View.canon_unit_zero hz]
  simp only [View.readAt_eq_ld, h3.read_unread, h4.read_unread, h5.read_unread, View.ld_unit_zero (S := S2048x1024) hz, View.ld_unit_zero (S := S1024x1024) hz]

/-- The last row block: likewise, -/
theorem out_C (h0 : ¬cond0_0 i) (h1 : cond0_1 i) : out0_C_2 c i a3 h3 a4 h4 a5 h5 a6 h6 h0 h1 x0 x1 xo = k0_pay2 xo x0 x1 := by
  unfold out0_C_2
  rw [View.read_writes_junk_eq_canon]
  unfold kernelRun0_C
  dsimp only
  sl_unfold_words
  rw [View.canon_unit_zero hz]
  simp only [View.readAt_eq_ld, h3.read_unread, h4.read_unread, h5.read_unread, View.ld_unit_zero (S := S2048x1024) hz, View.ld_unit_zero (S := S1024x1024) hz]

/-- and the narrow copy is that sum. -/
theorem copy_C (h0 : ¬cond0_0 i) (h1 : cond0_1 i) :
    out0_C_3 c i a3 h3 a4 h4 a5 h5 a6 h6 h0 h1 x0 x1 xo = k0_pay3 (k0_pay2 xo x0 x1) := by
  unfold out0_C_3
  rw [View.read_writes_junk_eq_canon]
  unfold kernelRun0_C
  dsimp only
  sl_unfold_words
  rw [View.canon_unit_zero hz, View.readCov_unit_zero (S := S1024x1024) _ hz]
  simp only [View.readAt_eq_ld, h3.read_unread, h4.read_unread, h5.read_unread, View.ld_unit_zero (S := S2048x1024) hz, View.ld_unit_zero (S := S1024x1024) hz]

end Cases

/-- One point's addition. -/
theorem pay2_apply (xo : Vec Ideal S1024x1024 .f32) (x0 : Vec Ideal S2048x1024 .bf16) (x1 : Vec Ideal S2048x1024 .bf16)
    (i : Fin 1024) (j : Fin 1024) :
    k0_pay2 xo x0 x1 (ix2 i j) = xo (ix2 i j) + ∑ r : Fin 2048, x0 (ix2 r i) * x1 (ix2 r j) := by
  unfold k0_pay2
  pointwise

theorem pay1_apply (i : Fin 1024) (j : Fin 1024) : (k0_pay1 (F := Ideal)) (ix2 i j) = 0 := by
  unfold k0_pay1
  pointwise

theorem pay3_apply (x : Vec Ideal S1024x1024 .f32) (i : Fin 1024) (j : Fin 1024) : k0_pay3 x (ix2 i j) = x (ix2 i j) := by
  unfold k0_pay3
  pointwise

variable (m : (ℓ : Loc nD τ sig) → Buf (Elt Ideal) ℓ) (c : Dev nD)

/-- The joined rows that the host prepares, -/
abbrev hidden : ℕ → ℕ → EReal := Attn.nat2 (V m c main_v1)
/-- and the gradient of the product's result. -/
abbrev grad : ℕ → ℕ → EReal := Attn.nat2 (m ((c : Thread nD τ).loc main_arg2))

/-- A row's part of the weight's gradient. -/
abbrev term (i j : ℕ) (r : ℕ) : EReal := hidden m c r i * grad m c r j

theorem at0 (t : Fin cfg0.N) : win0_0.index t = ![t.val % 4, 0] := by
  revert t; exact (by decide +kernel : ∀ t : Fin grid0.N, win0_0.index t = ![t.val % 4, 0])

theorem iblk0 (t : Fin cfg0.N) (r : Fin 2048) (i : Fin 1024) :
    iblk m c 0 t (ix2 r i) = hidden m c (2048 * (t.val % 4) + r.val) i.val := by
  have ht : t.val < 4 := t.isLt
  refine Eq.trans ?_ (Attn.nat2_eq _ ⟨2048 * (t.val % 4) + r.val, by omega⟩ i rfl rfl).symm
  blk_ext [iblk, at0 t]

theorem at1 (t : Fin cfg0.N) : win0_1.index t = ![t.val % 4, 0] := by
  revert t; exact (by decide +kernel : ∀ t : Fin grid0.N, win0_1.index t = ![t.val % 4, 0])

theorem iblk1 (t : Fin cfg0.N) (r : Fin 2048) (j : Fin 1024) :
    iblk m c 1 t (ix2 r j) = grad m c (2048 * (t.val % 4) + r.val) j.val := by
  have ht : t.val < 4 := t.isLt
  refine Eq.trans ?_ (Attn.nat2_eq _ ⟨2048 * (t.val % 4) + r.val, by omega⟩ j rfl rfl).symm
  rw [← V_main_arg2 m c]
  blk_ext [iblk, at1 t]

/-- A point adds its block's rows. -/
theorem add_block (t : Fin cfg0.N) (xo : Vec Ideal S1024x1024 .f32) (i j : Fin 1024) :
    k0_pay2 xo (iblk m c 0 t) (iblk m c 1 t) (ix2 i j)
      = xo (ix2 i j) + ∑ r : Fin 2048, term m c i.val j.val (2048 * (t.val % 4) + r.val) := by
  rw [pay2_apply]
  simp only [iblk0, iblk1]

/-- What the block holds after each point: there is one round. -/
theorem partial_sum (i j : Fin 1024) (n : ℕ) (h : n < cfg0.N) :
    (outsAt0 m c n h).1 (ix2 i j) = upTo (term m c i.val j.val) (2048 * (n % 4 + 1)) := by
  refine Tiles.rounds (by decide) (fun _ => term m c i.val j.val) (fun n h => (outsAt0 m c n h).1 (ix2 i j))
    (fun n h h0 => ?_) (fun n h h0 => ?_) n h
  · rw [outsAt0_A m c ⟨n, h⟩ h0 (by dsimp only; omega), out_A]
    exact (add_block m c ⟨n, h⟩ _ i j).trans (congrArg₂ (· + ·) (pay1_apply i j) rfl)
  · by_cases h1 : (n + 1) % 4 = 3
    · rw [outsAt0_C m c ⟨n + 1, h⟩ h0 h1, out_C]
      exact add_block m c ⟨n + 1, h⟩ _ i j
    · rw [outsAt0_B m c ⟨n + 1, h⟩ h0 h1, out_B]
      exact add_block m c ⟨n + 1, h⟩ _ i j

/-- At a last row block the narrow copy holds the same. -/
theorem copy_sum (t : Fin cfg0.N) (h1 : t.val % 4 = 3) (i : Fin 1024) (j : Fin 1024) :
    (outsAt0 m c t.val t.isLt).2 (ix2 i j) = (outsAt0 m c t.val t.isLt).1 (ix2 i j) := by
  have h0 : ¬t.val % 4 = 0 := by omega
  rw [outsAt0_C m c t h0 h1, out_C, copy_C]
  exact pay3_apply _ i j

end Cert.WoutIdeal.Step

end
-- ==== Proof.Wout.Arrays.lean ====
/- The arrays that hold the gradient of a weight after the last point, and the rows the host prepares. -/
module

public import proofs.«01_k».proof.Proof.Wout.Accumulate

@[expose] public section

set_option maxRecDepth 16384

noncomputable section

namespace Cert.WoutIdeal.Step

open Idealize.ShloMosaic Idealize.ShloMosaic.TcCoe Cert.WoutIdeal Cert.WoutIdeal.Gen Cert.Rows

/-- The two groups' rows side by side. -/
def joined {F : FTy → Type} [FloatOps F] (u o : Vec F S8192x512 .f32) : Vec F S8192x1024 .f32 :=
  concatenate S8192x1024 1 [⟨S8192x512, u⟩, ⟨S8192x512, o⟩] concatenates_S8192x512_S8192x512_S8192x1024_d1

variable (m : (ℓ : Loc nD τ sig) → Buf (Elt Ideal) ℓ) (c : Dev nD)

/-- What the host prepares. -/
theorem V_hidden {F : FTy → Type} [FloatOps F] (m : (ℓ : Loc nD τ sig) → Buf (Elt F) ℓ) (c : Dev nD) :
    V m c main_v1 = truncf .bf16 (joined (m ((c : Thread nD τ).loc main_arg0)) (m ((c : Thread nD τ).loc main_arg1))) bitsLt_bf16_f32 := by
  simp only [V]
  after_results
  rfl

theorem hidden_eq (r : Fin 8192) (i : Fin 1024) :
    hidden m c r.val i.val = joined (m ((c : Thread nD τ).loc main_arg0)) (m ((c : Thread nD τ).loc main_arg1)) (ix2 r i) := by
  refine (Attn.nat2_eq _ r i rfl rfl).trans ?_
  rw [V_hidden m c]
  rfl

/-- The gradient of the weight. -/
def total (i j : ℕ) : EReal := ∑ r : Fin 8192, hidden m c r.val i * grad m c r.val j

theorem sum_all (t : Fin cfg0.N) (h : t.val % 4 = 3) (i : Fin 1024) (j : Fin 1024) :
    (outsAt0 m c t.val t.isLt).1 (ix2 i j) = total m c i.val j.val := by
  rw [partial_sum, h, upTo_all]
  rfl

theorem at2 (t : Fin cfg0.N) : win0_2.index t = ![0, 0] := by
  revert t; exact (by decide +kernel : ∀ t : Fin grid0.N, win0_2.index t = ![0, 0])

theorem at3 (t : Fin cfg0.N) : win0_3.index t = ![0, 0] := by
  revert t; exact (by decide +kernel : ∀ t : Fin grid0.N, win0_3.index t = ![0, 0])

theorem final_grad (i j : Fin 1024) : (dats m 0 c).arrAt 2 cfg0.N (ix2 i j) = total m c i.val j.val := by
  refine Tiles.array (dats m 0 c) 2 (fun p => total m c (p 0) (p 1)) (fun _ _ n => n) (by decide +kernel) (fun t a n => ?_) (fun t hf z => ?_) (ix2 i j)
  · exact Tiles.whole_at 1024 1024 (at2 t) a n
  · rw [after0_2]
    exact (congrArg _ (eq_ix2 (n0 := 1024) (n1 := 1024) z)).trans (sum_all m c t ((flush0_2 t).mp hf) _ _)

/-- The narrow copy. -/
theorem final_copy (i j : Fin 1024) : (dats m 0 c).arrAt 3 cfg0.N (ix2 i j) = total m c i.val j.val := by
  refine Tiles.array (dats m 0 c) 3 (fun p => total m c (p 0) (p 1)) (fun _ _ n => n) (by decide +kernel) (fun t a n => ?_) (fun t hf z => ?_) (ix2 i j)
  · exact Tiles.whole_at 1024 1024 (at3 t) a n
  · rw [after0_3]
    have h3 := (flush0_3 t).mp hf
    exact (congrArg _ (eq_ix2 (n0 := 1024) (n1 := 1024) z)).trans ((copy_sum m c t h3 _ _).trans (sum_all m c t h3 _ _))

end Cert.WoutIdeal.Step

end
-- ==== Proof.Wout.Equation.lean ====
/- The gradient of a weight: the two programs' results are equal. -/
module

public import proofs.«01_k».proof.Defs
public import proofs.«01_k».proof.Proof.Wout.Arrays
public import proofs.«01_k».proof.Proof.Gen.WoutRefIdeal.Run
public import Idealize.ShloMosaic.Lib.Quiescent

@[expose] public section

set_option maxRecDepth 16384

noncomputable section

namespace Cert.WeightOut

open Idealize.ShloMosaic Idealize.ShloMosaic.TcCoe Idealize.SL.Sem Cert.WoutIdeal Cert.Rows

/-- The reference's product, -/
def product {F : FTy → Type} [FloatOps F] (h : Vec F WoutRefIdeal.S8192x1024 .f32) (z : Vec F WoutRefIdeal.S8192x1024 .bf16) :
    Vec F WoutRefIdeal.S1024x1024 .f32 :=
  transpose WoutRefIdeal.S1024x1024 [1, 0] (Host.dotGeneral WoutRefIdeal.dot_S8192x1024_S8192x1024_S1024x1024_0_0_1_1_n_n none
    (extf .f32 z WoutRefIdeal.Facts₀.bitsLt_bf16_f32) h) WoutRefIdeal.Facts₀.transposes_S1024x1024_S1024x1024_1_0

/-- and its value at an element. -/
theorem product_apply (h : Vec Ideal WoutRefIdeal.S8192x1024 .f32) (z : Vec Ideal WoutRefIdeal.S8192x1024 .bf16) (i : Fin 1024) (j : Fin 1024) :
    product h z (ix2 i j) = ∑ r : Fin 8192, h (ix2 r i) * z (ix2 r j) := by
  unfold product
  pointwise
  exact Finset.sum_congr rfl fun r _ => mul_comm _ _

variable (m : (ℓ : Loc nD τ sig) → Buf (Elt Ideal) ℓ) (c : Dev nD)

/-- The kernel's sum, over the arguments. -/
theorem total_eq (i : Fin 1024) (j : Fin 1024) : Step.total m c i.val j.val = ∑ r : Fin 8192,
    Step.joined (m ((c : Thread nD τ).loc main_arg0)) (m ((c : Thread nD τ).loc main_arg1)) (ix2 r i)
      * m ((c : Thread nD τ).loc main_arg2) (ix2 r j) :=
  Finset.sum_congr rfl fun r _ => congrArg₂ (· * ·) (Step.hidden_eq m c r i) (Attn.nat2_eq _ r j rfl rfl)

/-- Over the extended reals the kernel's gradient of the weight and its narrow copy are the reference's. -/
theorem algebraic : Cert.algebraic_WoutIdeal_WoutRefIdeal := by
  intro m g m' g' _ hagree
  refine ⟨fun c => (Gen.dats m 0 c).arrAt 2 cfg0.N, fun c => (Gen.dats m 0 c).arrAt 3 cfg0.N, Value.run_blocks m g, ?_⟩
  refine (θ_run WoutRefIdeal.defs _ _).mono (fun r h c => ?_) (WoutRefIdeal.Value.run m' g')
  obtain ⟨h0, h1, h2⟩ := hagree c
  obtain ⟨r0, r1, rest⟩ := h c
  rw [h0, h1, h2] at r0 r1
  refine ⟨r0.trans ?_, r1.trans ?_, rest⟩
  · refine matrix_ext _ _ fun i j => ?_
    exact ((product_apply (Step.joined _ _) _ i j).trans (total_eq m c i j).symm).trans (Step.final_grad m c i j).symm
  · refine matrix_ext _ _ fun i j => ?_
    exact ((product_apply (Step.joined _ _) _ i j).trans (total_eq m c i j).symm).trans (Step.final_copy m c i j).symm

/-- The reference runs, leaves its arguments and ends with every counter at zero. -/
theorem frame_reference : Cert.quiescent_WoutRefIdeal := fun m g _ =>
  (θ_run WoutRefIdeal.defs _ _).mono (fun r h => ⟨fun c => (h c).2.2, sem_eq_zero_of_no_sems (by decide) r.2⟩)
    (WoutRefIdeal.Value.run m g)

end Cert.WeightOut

end
-- ==== Proof.Mid.Spec.lean ====
/- The middle of a layer, row by row: the outputs of the two groups are multiplied by a weight and added to the
   layer's rows, the sums are normalised, and the normalised rows are multiplied by a second weight. -/
module

public import proofs.«01_k».proof.Proof.Norm
public import proofs.«01_k».proof.Proof.Blocks

@[expose] public section

noncomputable section

namespace Cert.Middle

/-- The arguments by row and column: the layer's rows, the groups' outputs side by side, the first weight, the
    normalisation's weights and the second weight. -/
structure Args where
  x : ℕ → ℕ → EReal
  cat : ℕ → ℕ → EReal
  w : ℕ → ℕ → EReal
  gain : ℕ → EReal
  up : ℕ → ℕ → EReal

variable (G : Args)

/-- The layer's middle. -/
def Args.mid (t j : ℕ) : EReal := G.x t j + ∑ k : Fin 1024, G.cat t k.val * G.w k.val j

/-- Its rows normalised. -/
def Args.hidden (t j : ℕ) : EReal := G.mid t j * Norm.root (fun k : Fin 1024 => G.mid t k.val) * G.gain j

/-- Their product with the second weight. -/
def Args.product (t j : ℕ) : EReal := ∑ k : Fin 1024, G.hidden t k.val * G.up k.val j

end Cert.Middle

end
-- ==== Proof.Mid.Block.lean ====
/- What a point leaves in its three output blocks: 512 rows of the layer's middle, the same rows normalised, and their
   product with the upward weight, which is stored in four runs of columns. -/
module

public import proofs.«01_k».proof.Proof.Gen.MidIdeal.Frame
public import proofs.«01_k».proof.Proof.Gen.MidIdeal.Value
public import proofs.«01_k».proof.Proof.Mid.Spec
public import Idealize.ShloMosaic.Lib.Pipeline.ValueKit
public import Idealize.ShloMosaic.Lib.Pipeline.ReadBack

@[expose] public section

set_option maxRecDepth 16384

noncomputable section

namespace Cert.MidIdeal.Step

open Idealize.ShloMosaic Idealize.ShloMosaic.TcCoe Cert.MidIdeal Cert.MidIdeal.Gen Cert.Rows

theorem hz : (![0, 0] : Fin 2 → Nat) = fun _ => 0 := funext fun a => by fin_cases a <;> rfl

section Values

variable (x : Vec Ideal S512x1024 .f32) (z : Vec Ideal S512x1024 .bf16) (w : Vec Ideal S1024x1024 .bf16) (g : Vec Ideal S1x1024 .f32)
  (u : Vec Ideal S1024x1408 .bf16)

theorem pay4_apply (i : Fin 512) (j : Fin 1024) :
    k0_pay4 x z w (ix2 i j) = x (ix2 i j) + ∑ k : Fin 1024, z (ix2 i k) * w (ix2 k j) := by
  unfold k0_pay4
  pointwise

theorem pay5_apply (i : Fin 512) (j : Fin 1024) :
    k0_pay5 x z w g (ix2 i j) = k0_pay4 x z w (ix2 i j) * Norm.root (fun k : Fin 1024 => k0_pay4 x z w (ix2 i k)) * g (ix2 0 j) := by
  unfold k0_pay5
  pointwise
  rfl

theorem pay6_apply (i : Fin 512) (j : Fin 1408) : k0_pay6 z u (ix2 i j) = ∑ k : Fin 1024, z (ix2 i k) * u (ix2 k j) := by
  unfold k0_pay6
  pointwise

theorem pay1_apply (i : Fin 512) (j : Fin 1408) : k0_pay1 (k0_pay7 z) u (ix2 i j) = ∑ k : Fin 1024, z (ix2 i k) * u (ix2 k j) := by
  unfold k0_pay1 k0_pay7
  pointwise

theorem pay2_apply (i : Fin 512) (j : Fin 1408) : k0_pay2 z u (ix2 i j) = ∑ k : Fin 1024, z (ix2 i k) * u (ix2 k j) := by
  unfold k0_pay2
  pointwise

theorem pay3_apply (i : Fin 512) (j : Fin 1408) : k0_pay3 z u (ix2 i j) = ∑ k : Fin 1024, z (ix2 i k) * u (ix2 k j) := by
  unfold k0_pay3
  pointwise

end Values

variable (c : Dev nD) (i : grid0.Coords)
  (a1 : Memref sig .tc .vmem S512x1024 .f32) (h1 : a1.IsWhole) (a2 : Memref sig .tc .vmem S512x1024 .bf16) (h2 : a2.IsWhole)
  (a3 : Memref sig .tc .vmem S1024x1024 .bf16) (h3 : a3.IsWhole) (a4 : Memref sig .tc .vmem S1x1024 .f32) (h4 : a4.IsWhole)
  (a5 : Memref sig .tc .vmem S1024x5632 .bf16) (h5 : a5.IsWhole) (a6 : Memref sig .tc .vmem S512x1024 .f32) (h6 : a6.IsWhole)
  (a7 : Memref sig .tc .vmem S512x1024 .bf16) (h7 : a7.IsWhole) (a8 : Memref sig .tc .vmem S512x5632 .f32) (h8 : a8.IsWhole)
  (x0 : Vec Ideal S512x1024 .f32) (x1 : Vec Ideal S512x1024 .bf16) (x2 : Vec Ideal S1024x1024 .bf16) (x3 : Vec Ideal S1x1024 .f32)
  (x4 : Vec Ideal S1024x5632 .bf16)

/-- The middle's rows. -/
theorem mid_A : out0_A_5 c i a1 h1 a2 h2 a3 h3 a4 h4 a5 h5 a6 h6 a7 h7 a8 h8 x0 x1 x2 x3 x4 = k0_pay4 x0 x1 x2 := by
  unfold out0_A_5
  rw [View.read_writes_junk_eq_canon]
  unfold kernelRun0_A
  dsimp only
  sl_unfold_words
  rw [View.canon_unit_zero hz]
  simp only [View.readAt_eq_ld, h1.read_unread, h2.read_unread, h3.read_unread, View.ld_unit_zero (S := S512x1024) hz,
    View.ld_unit_zero (S := S1024x1024) hz]

/-- The normalised rows. -/
theorem hidden_A : out0_A_6 c i a1 h1 a2 h2 a3 h3 a4 h4 a5 h5 a6 h6 a7 h7 a8 h8 x0 x1 x2 x3 x4 = k0_pay5 x0 x1 x2 x3 := by
  unfold out0_A_6
  rw [View.read_writes_junk_eq_canon]
  unfold kernelRun0_A
  dsimp only
  sl_unfold_words
  rw [View.canon_unit_zero hz]
  simp only [View.readAt_eq_ld, h1.read_unread, h2.read_unread, h3.read_unread, h4.read_unread, View.ld_unit_zero (S := S512x1024) hz,
    View.ld_unit_zero (S := S1024x1024) hz, View.ld_unit_zero (S := S1x1024) hz]

/-- A run of columns of the weight, at an element. -/
theorem columns {o : ℕ} (inb : ∀ a : Fin 2, (![0, o] : Fin 2 → ℕ) a + S1024x1408.size a ≤ S1024x5632.size a)
    (k : Fin 1024) (j : Fin 1408) (y : Fin 5632) (h : y.val = o + j.val) :
    View.ld x4 (Rect.unit (s := S1024x5632) ![0, o] S1024x1408.size inb) (ix2 k j) = x4 (ix2 k y) := by
  refine congrArg x4 (funext fun a => ?_)
  fin_cases a
  · apply Fin.ext; show 0 + 1 * k.val = k.val; omega
  · apply Fin.ext; show o + 1 * j.val = y.val; omega

/-- The product of a block of rows `z` with the weight, as one matrix. -/
def whole (z : Vec Ideal S512x1024 .bf16) : S512x5632.Idx → Elt Ideal .f32 :=
  fun y => ∑ k : Fin 1024, z (ix2 (y 0) k) * x4 (ix2 k (y 1))

/-- What is stored in a run of columns is that run of the matrix. -/
theorem run_of {o : ℕ} (z : Vec Ideal S512x1024 .bf16)
    (inb : ∀ a : Fin 2, (![0, o] : Fin 2 → ℕ) a + S1024x1408.size a ≤ S1024x5632.size a)
    (inb' : ∀ a : Fin 2, (![0, o] : Fin 2 → ℕ) a + S512x1408.size a ≤ S512x5632.size a)
    (w : Vec Ideal S512x1408 .f32)
    (hw : ∀ (i : Fin 512) (j : Fin 1408), w (ix2 i j) = ∑ k : Fin 1024, z (ix2 i k) * View.ld x4 (Rect.unit (s := S1024x5632) ![0, o] S1024x1408.size inb) (ix2 k j))
    (x : S512x1408.Idx) : w x = whole x4 z ((Rect.unit (s := S512x5632) ![0, o] S512x1408.size inb').emb x) := by
  obtain ⟨i, j, rfl⟩ : ∃ (i : Fin 512) (j : Fin 1408), x = ix2 i j := ⟨x 0, x 1, eq_ix2 x⟩
  refine (hw i j).trans (Finset.sum_congr rfl fun k _ => congrArg₂ (· * ·) (congrArg z ?_) (columns x4 inb k j _ ?_))
  · refine congrArg (fun a => ix2 a k) (Fin.ext ?_)
    show i.val = 0 + 1 * i.val
    omega
  · show o + 1 * j.val = o + j.val
    omega

/-- The product. -/
theorem product_A (y : S512x5632.Idx) :
    out0_A_7 c i a1 h1 a2 h2 a3 h3 a4 h4 a5 h5 a6 h6 a7 h7 a8 h8 x0 x1 x2 x3 x4 y = whole x4 (k0_pay5 x0 x1 x2 x3) y := by
  have hc := cover0_A_7 c i a1 h1 a2 h2 a3 h3 a4 h4 a5 h5 a6 h6 a7 h7 a8 h8 x0 x1 x2 x3 x4 y
  unfold out0_A_7
  rw [View.read_writes_junk_eq_canon]
  revert hc
  unfold kernelRun0_A
  dsimp only
  sl_unfold_words
  simp only [View.readCov_unit_zero (S := S512x1024) _ hz, View.readAt_eq_ld, h1.read_unread, h2.read_unread, h3.read_unread, h4.read_unread, h5.read_unread,
    View.ld_unit_zero (S := S512x1024) hz, View.ld_unit_zero (S := S1024x1024) hz, View.ld_unit_zero (S := S1x1024) hz]
  intro hc
  refine View.canon_append_of_piecesOf (whole x4 (k0_pay5 x0 x1 x2 x3)) [] [_, _, _, _] ⟨?_, ?_, ?_, ?_, trivial⟩ y hc
  · exact run_of x4 _ inb_S1024x5632_S1024x1408_0_4224 inb_S512x5632_S512x1408_0_4224 _ (pay3_apply _ _)
  · exact run_of x4 _ inb_S1024x5632_S1024x1408_0_2816 inb_S512x5632_S512x1408_0_2816 _ (pay2_apply _ _)
  · exact run_of x4 _ inb_S1024x5632_S1024x1408_0_1408 inb_S512x5632_S512x1408_0_1408 _ (pay1_apply _ _)
  · exact run_of x4 _ inb_S1024x5632_S1024x1408_0_0 inb_S512x5632_S512x1408_0_0 _ (pay6_apply _ _)

end Cert.MidIdeal.Step

end
-- ==== Proof.Mid.Arrays.lean ====
/- The arrays that hold the layer's middle, its normalised rows and their product after the last point. -/
module

public import proofs.«01_k».proof.Proof.Mid.Block
public import proofs.«01_k».proof.Proof.Tiles
public import proofs.«01_k».proof.Proof.Wout.Arrays

@[expose] public section

set_option maxRecDepth 16384

noncomputable section

namespace Cert.MidIdeal.Step

open Idealize.ShloMosaic Idealize.ShloMosaic.TcCoe Cert.MidIdeal Cert.MidIdeal.Gen Cert.Rows
open Cert.WoutIdeal.Step (joined)

section Host

variable {F : FTy → Type} [FloatOps F] (m : (ℓ : Loc nD τ sig) → Buf (Elt F) ℓ) (c : Dev nD)

/-! ## What the host prepares -/

theorem V_joined : V m c main_v1
    = truncf .bf16 (joined (m ((c : Thread nD τ).loc main_arg1)) (m ((c : Thread nD τ).loc main_arg2))) bitsLt_bf16_f32 := by
  simp only [V]
  after_results
  rfl

theorem V_weight : V m c main_v2 = truncf .bf16 (m ((c : Thread nD τ).loc main_arg3)) bitsLt_bf16_f32 := by
  simp only [V]
  after_results

theorem V_up : V m c main_v3 = truncf .bf16 (m ((c : Thread nD τ).loc main_arg5)) bitsLt_bf16_f32 := by
  simp only [V]
  after_results

end Host

variable (m : (ℓ : Loc nD τ sig) → Buf (Elt Ideal) ℓ) (c : Dev nD)

/-- The arguments by row and column. -/
def args : Middle.Args where
  x := Attn.nat2 (m ((c : Thread nD τ).loc main_arg0))
  cat := Attn.nat2 (joined (m ((c : Thread nD τ).loc main_arg1)) (m ((c : Thread nD τ).loc main_arg2)))
  w := Attn.nat2 (m ((c : Thread nD τ).loc main_arg3))
  gain := Attn.nat2 (m ((c : Thread nD τ).loc main_arg4)) 0
  up := Attn.nat2 (m ((c : Thread nD τ).loc main_arg5))

/-! ## What the points load -/

theorem at0 (t : Fin cfg0.N) : win0_0.index t = ![t.val, 0] := by
  revert t; exact (by decide +kernel : ∀ t : Fin grid0.N, win0_0.index t = ![t.val, 0])

theorem at1 (t : Fin cfg0.N) : win0_1.index t = ![t.val, 0] := by
  revert t; exact (by decide +kernel : ∀ t : Fin grid0.N, win0_1.index t = ![t.val, 0])

theorem at2 (t : Fin cfg0.N) : win0_2.index t = ![0, 0] := by
  revert t; exact (by decide +kernel : ∀ t : Fin grid0.N, win0_2.index t = ![0, 0])

theorem at3 (t : Fin cfg0.N) : win0_3.index t = ![0, 0] := by
  revert t; exact (by decide +kernel : ∀ t : Fin grid0.N, win0_3.index t = ![0, 0])

theorem at4 (t : Fin cfg0.N) : win0_4.index t = ![0, 0] := by
  revert t; exact (by decide +kernel : ∀ t : Fin grid0.N, win0_4.index t = ![0, 0])

theorem iblk0 (t : Fin cfg0.N) (i : Fin 512) (k : Fin 1024) : iblk m c 0 t (ix2 i k) = (args m c).x (512 * t.val + i.val) k.val := by
  have ht : t.val < 16 := t.isLt
  refine Eq.trans ?_ (Attn.nat2_eq _ ⟨512 * t.val + i.val, by omega⟩ k rfl rfl).symm
  rw [← V_main_arg0 m c]
  blk_ext [iblk, at0 t]

theorem iblk1 (t : Fin cfg0.N) (i : Fin 512) (k : Fin 1024) : iblk m c 1 t (ix2 i k) = (args m c).cat (512 * t.val + i.val) k.val := by
  have ht : t.val < 16 := t.isLt
  refine Eq.trans ?_ (Attn.nat2_eq _ ⟨512 * t.val + i.val, by omega⟩ k rfl rfl).symm
  have h : joined (m ((c : Thread nD τ).loc main_arg1)) (m ((c : Thread nD τ).loc main_arg2)) (ix2 ⟨512 * t.val + i.val, by omega⟩ k)
      = V m c main_v1 (ix2 ⟨512 * t.val + i.val, by omega⟩ k) := by rw [V_joined]; rfl
  rw [h]
  blk_ext [iblk, at1 t]

theorem iblk2 (t : Fin cfg0.N) (k : Fin 1024) (j : Fin 1024) : iblk m c 2 t (ix2 k j) = (args m c).w k.val j.val := by
  refine Eq.trans ?_ (Attn.nat2_eq _ k j rfl rfl).symm
  have h : (m ((c : Thread nD τ).loc main_arg3)) (ix2 k j) = V m c main_v2 (ix2 k j) := by rw [V_weight]; rfl
  rw [h]
  blk_ext [iblk, at2 t]

theorem iblk3 (t : Fin cfg0.N) (k : Fin 1024) : iblk m c 3 t (ix2 0 k) = (args m c).gain k.val := by
  refine Eq.trans ?_ (Attn.nat2_eq (m := 1) (t := 0) (m ((c : Thread nD τ).loc main_arg4)) 0 k rfl rfl).symm
  rw [← V_main_arg4 m c]
  blk_ext [iblk, at3 t]

theorem iblk4 (t : Fin cfg0.N) (k : Fin 1024) (j : Fin 5632) : iblk m c 4 t (ix2 k j) = (args m c).up k.val j.val := by
  refine Eq.trans ?_ (Attn.nat2_eq _ k j rfl rfl).symm
  have h : (m ((c : Thread nD τ).loc main_arg5)) (ix2 k j) = V m c main_v3 (ix2 k j) := by rw [V_up]; rfl
  rw [h]
  blk_ext [iblk, at4 t]

/-! ## What they leave -/

theorem mid_at (t : Fin cfg0.N) (i : Fin 512) (j : Fin 1024) :
    k0_pay4 (iblk m c 0 t) (iblk m c 1 t) (iblk m c 2 t) (ix2 i j) = (args m c).mid (512 * t.val + i.val) j.val := by
  refine (pay4_apply _ _ _ i j).trans (congrArg₂ (· + ·) (iblk0 m c t i j) (Finset.sum_congr rfl fun k _ => ?_))
  exact congrArg₂ (· * ·) (iblk1 m c t i k) (iblk2 m c t k j)

theorem hidden_at (t : Fin cfg0.N) (i : Fin 512) (j : Fin 1024) :
    k0_pay5 (iblk m c 0 t) (iblk m c 1 t) (iblk m c 2 t) (iblk m c 3 t) (ix2 i j) = (args m c).hidden (512 * t.val + i.val) j.val := by
  refine (pay5_apply _ _ _ _ i j).trans ?_
  simp only [mid_at]
  exact congrArg₂ (· * ·) rfl (iblk3 m c t j)

theorem product_at (t : Fin cfg0.N) (i : Fin 512) (j : Fin 5632) :
    whole (iblk m c 4 t) (k0_pay5 (iblk m c 0 t) (iblk m c 1 t) (iblk m c 2 t) (iblk m c 3 t)) (ix2 i j)
      = (args m c).product (512 * t.val + i.val) j.val :=
  Finset.sum_congr rfl fun k _ => congrArg₂ (· * ·) (hidden_at m c t i k) (iblk4 m c t k j)

/-! ## The arrays -/

theorem at5 (t : Fin cfg0.N) : win0_5.index t = ![t.val, 0] := by
  revert t; exact (by decide +kernel : ∀ t : Fin grid0.N, win0_5.index t = ![t.val, 0])

theorem at6 (t : Fin cfg0.N) : win0_6.index t = ![t.val, 0] := by
  revert t; exact (by decide +kernel : ∀ t : Fin grid0.N, win0_6.index t = ![t.val, 0])

theorem at7 (t : Fin cfg0.N) : win0_7.index t = ![t.val, 0] := by
  revert t; exact (by decide +kernel : ∀ t : Fin grid0.N, win0_7.index t = ![t.val, 0])

/-- The middle. -/
theorem final_mid (i : Fin 8192) (j : Fin 1024) : (dats m 0 c).arrAt 5 cfg0.N (ix2 i j) = (args m c).mid i.val j.val := by
  refine Tiles.array (dats m 0 c) 5 (fun p => (args m c).mid (p 0) (p 1)) (fun t => Tiles.rows 512 t.val) (by decide +kernel)
    (fun t => Tiles.rows_at 512 1024 (at5 t)) (fun t _ z => ?_) (ix2 i j)
  simp only [after0_5, outsAt0, mid_A]
  exact (congrArg _ (eq_ix2 (n0 := 512) (n1 := 1024) z)).trans (mid_at m c t _ _)

/-- Its normalised rows. -/
theorem final_hidden (i : Fin 8192) (j : Fin 1024) : (dats m 0 c).arrAt 6 cfg0.N (ix2 i j) = (args m c).hidden i.val j.val := by
  refine Tiles.array (dats m 0 c) 6 (fun p => (args m c).hidden (p 0) (p 1)) (fun t => Tiles.rows 512 t.val) (by decide +kernel)
    (fun t => Tiles.rows_at 512 1024 (at6 t)) (fun t _ z => ?_) (ix2 i j)
  simp only [after0_6, outsAt0, hidden_A]
  exact (congrArg _ (eq_ix2 (n0 := 512) (n1 := 1024) z)).trans (hidden_at m c t _ _)

/-- The product. -/
theorem final_product (i : Fin 8192) (j : Fin 5632) : (dats m 0 c).arrAt 7 cfg0.N (ix2 i j) = (args m c).product i.val j.val := by
  refine Tiles.array (dats m 0 c) 7 (fun p => (args m c).product (p 0) (p 1)) (fun t => Tiles.rows 512 t.val) (by decide +kernel)
    (fun t => Tiles.rows_at 512 5632 (at7 t)) (fun t _ z => ?_) (ix2 i j)
  simp only [after0_7, outsAt0]
  exact (product_A ..).trans ((congrArg _ (eq_ix2 (n0 := 512) (n1 := 5632) z)).trans (product_at m c t _ _))

end Cert.MidIdeal.Step

end
-- ==== Proof.Mid.Reference.lean ====
/- The reference's middle of a layer, its normalised rows and their product, at an element. -/
module

public import proofs.«01_k».proof.Proof.Gen.MidRefIdeal.Run
public import proofs.«01_k».proof.Proof.Mid.Spec
public import proofs.«01_k».proof.Proof.Normal
public import Idealize.ShloMosaic.Lib.Pipeline.ValueKit

@[expose] public section

set_option maxRecDepth 16384

noncomputable section

namespace Cert.MidRefIdeal.Terms

open Idealize.ShloMosaic Idealize.ShloMosaic.TcCoe Cert.MidRefIdeal Cert.MidRefIdeal.Gen Cert.Rows

section Terms

variable {F : FTy → Type} [FloatOps F] (x z : Vec F S8192x1024 .f32) (w : Vec F S1024x1024 .f32) (g : Vec F S1x1024 .f32)
  (u : Vec F S1024x5632 .f32)

/-- The middle: the rows plus the product of the joined outputs with the first weight. -/
def mid : FVec F S8192x1024 .f32 := addf x (Host.dotGeneral dot_S8192x1024_S1024x1024_S8192x1024_1_0_0_1_n_n none z w)

/-- The product with the second weight. -/
def product : FVec F S8192x5632 .f32 := Host.dotGeneral dot_S8192x1024_S1024x5632_S8192x5632_1_0_0_1_n_n none x u

end Terms

section Values

variable (x z : Vec Ideal S8192x1024 .f32) (w : Vec Ideal S1024x1024 .f32) (g : Vec Ideal S1x1024 .f32) (u : Vec Ideal S1024x5632 .f32)

/-- The arguments by row and column. -/
def args : Middle.Args where
  x := Attn.nat2 x
  cat := Attn.nat2 z
  w := Attn.nat2 w
  gain := Attn.nat2 g 0
  up := Attn.nat2 u

theorem mid_apply (i : Fin 8192) (j : Fin 1024) : mid x z w (ix2 i j) = (args x z w g u).mid i.val j.val := by
  unfold mid
  pointwise
  exact congrArg₂ (· + ·) (Attn.nat2_eq x i j rfl rfl).symm (Finset.sum_congr rfl fun k _ =>
    congrArg₂ (· * ·) (Attn.nat2_eq z i k rfl rfl).symm (Attn.nat2_eq w k j rfl rfl).symm)

theorem hidden_apply (i : Fin 8192) (j : Fin 1024) : Normal.rows (mid x z w) g (ix2 i j) = (args x z w g u).hidden i.val j.val := by
  rw [Normal.rows_apply]
  simp only [mid_apply x z w g u]
  exact congrArg₂ (· * ·) rfl (Attn.nat2_eq (m := 1) (t := 0) g 0 j rfl rfl).symm

theorem product_apply (i : Fin 8192) (j : Fin 5632) :
    product (Normal.rows (mid x z w) g) u (ix2 i j) = (args x z w g u).product i.val j.val := by
  unfold product
  pointwise
  exact Finset.sum_congr rfl fun k _ => congrArg₂ (· * ·) (hidden_apply x z w g u i k) (Attn.nat2_eq u k j rfl rfl).symm

end Values

end Cert.MidRefIdeal.Terms

end
-- ==== Proof.Mid.Equation.lean ====
/- The middle of a layer: the two programs' results are equal. -/
module

public import proofs.«01_k».proof.Defs
public import proofs.«01_k».proof.Proof.Mid.Arrays
public import proofs.«01_k».proof.Proof.Mid.Reference
public import Idealize.ShloMosaic.Lib.Quiescent

@[expose] public section

set_option maxRecDepth 16384

noncomputable section

namespace Cert.Middle

open Idealize.ShloMosaic Idealize.ShloMosaic.TcCoe Idealize.SL.Sem Cert.MidIdeal Cert.Rows

/-- Over the extended reals the kernel's middle, its normalised rows and their product are the reference's. -/
theorem algebraic : Cert.algebraic_MidIdeal_MidRefIdeal := by
  intro m g m' g' _ hagree
  refine ⟨fun c => (Gen.dats m 0 c).arrAt 5 cfg0.N, fun c => (Gen.dats m 0 c).arrAt 6 cfg0.N,
    fun c => (Gen.dats m 0 c).arrAt 7 cfg0.N, Value.run_blocks m g, ?_⟩
  refine (θ_run MidRefIdeal.defs _ _).mono (fun r h c => ?_) (MidRefIdeal.Value.run m' g')
  obtain ⟨h0, h1, h2, h3, h4, h5⟩ := hagree c
  obtain ⟨r0, r1, r2, rest⟩ := h c
  rw [h0, h1, h2, h3] at r0
  rw [h0, h1, h2, h3, h4] at r1
  rw [h0, h1, h2, h3, h4, h5] at r2
  refine ⟨r0.trans ?_, r1.trans ?_, r2.trans ?_, rest⟩
  · refine matrix_ext _ _ fun i j => ?_
    exact (MidRefIdeal.Terms.mid_apply _ (WoutIdeal.Step.joined _ _) _ (m ((c : Thread nD τ).loc main_arg4)) (m ((c : Thread nD τ).loc main_arg5)) i j).trans
      (Step.final_mid m c i j).symm
  · refine matrix_ext _ _ fun i j => ?_
    exact (MidRefIdeal.Terms.hidden_apply _ (WoutIdeal.Step.joined _ _) _ _ (m ((c : Thread nD τ).loc main_arg5)) i j).trans (Step.final_hidden m c i j).symm
  · refine matrix_ext _ _ fun i j => ?_
    exact (MidRefIdeal.Terms.product_apply _ (WoutIdeal.Step.joined _ _) _ _ _ i j).trans (Step.final_product m c i j).symm

/-- The reference runs, leaves its arguments and ends with every counter at zero. -/
theorem frame_reference : Cert.quiescent_MidRefIdeal := fun m g _ =>
  (θ_run MidRefIdeal.defs _ _).mono (fun r h => ⟨fun c => (h c).2.2.2, sem_eq_zero_of_no_sems (by decide) r.2⟩)
    (MidRefIdeal.Value.run m g)

end Cert.Middle

end
-- ==== Proof.Heads.lean ====
/- Sums over the 64 lanes of a head. A kernel takes them as two products with the matrix that is one where row and column
   lie in the same head: of the terms, and of what narrowing the terms loses, which over the extended reals is a finite
   term less itself. -/
module

public import proofs.«01_k».proof.Proof.Norm
public import proofs.«01_k».proof.Proof.Blocks

@[expose] public section

noncomputable section

namespace Cert.Heads

open Idealize.ShloMosaic

/-! ## Finite values -/

/-- A value is a real number. -/
def Finite (a : EReal) : Prop := ∃ r : ℝ, a = (r : EReal)

theorem Finite.mul {a b : EReal} (ha : Finite a) (hb : Finite b) : Finite (a * b) := by
  obtain ⟨r, rfl⟩ := ha
  obtain ⟨s, rfl⟩ := hb
  exact ⟨r * s, (EReal.coe_mul r s).symm⟩

theorem Finite.sum {ι : Type} [Fintype ι] {f : ι → EReal} (h : ∀ i, Finite (f i)) : Finite (∑ i, f i) := by
  choose r hr using h
  exact ⟨∑ i, r i, by rw [← Norm.coe_sum]; exact Finset.sum_congr rfl fun i _ => hr i⟩

theorem Finite.sub_self {a : EReal} (h : Finite a) : a - a = 0 := by
  obtain ⟨r, rfl⟩ := h
  rw [← EReal.coe_sub, _root_.sub_self, EReal.coe_zero]

theorem infinity : Ideal.ofBits .f32 0x7F800000#32 = ⊤ := by simp [Ideal.ofBits, Ideal.ieee]

theorem infinity' : Ideal.ofBits .bf16 0x7F80#16 = ⊤ := by simp [Ideal.ofBits, Ideal.ieee]

/-- A magnitude below infinity. -/
theorem finite_of_lt {a : EReal} (h : Ideal.cmp .olt (max a (-a)) ⊤ = 1#1) : Finite a := by
  have h' : max a (-a) < ⊤ := by
    by_contra hn
    simp [Ideal.cmp, hn] at h
  induction a with
  | bot => simp at h'
  | top => simp at h'
  | coe r => exact ⟨r, rfl⟩

/-- A vector as a function of a position, zero outside. -/
def vec {n : ℕ} (a : (⟨1, ![n]⟩ : Shape).Idx → EReal) (j : ℕ) : EReal := if h : j < n then a (ix1 ⟨j, h⟩) else 0

theorem vec_eq {n : ℕ} (a : (⟨1, ![n]⟩ : Shape).Idx → EReal) {l : ℕ} (j : Fin n) (hj : l = j.val) : vec a l = a (ix1 j) := by
  subst hj
  exact dif_pos j.isLt

/-! ## The matrix -/

/-- One where two lanes lie in the same head. -/
def same (k j : ℕ) : EReal := if k / 64 = j / 64 then 1 else 0

/-- A word's sign. -/
def sign (x : BitVec 32) : BitVec 32 := if x = 0 then 0 else if x.msb then -1 else 1

/-- The head of a lane, as the host's floor division gives it. -/
def headWord (x : BitVec 32) : BitVec 32 :=
  Scalar.select (IntOp.andi (IntOp.cmpi .ne (sign x) (sign 64#32)) (IntOp.cmpi .ne (IntOp.remsi .host x 64#32) 0#32))
    (IntOp.subi (IntOp.divsi .host x 64#32) 1#32) (IntOp.divsi .host x 64#32)

theorem headWord_eq (k : Fin 512) : headWord (BitVec.ofNat 32 k.val) = BitVec.ofNat 32 (k.val / 64) := by
  revert k; exact (by decide +kernel)

theorem same_word (k j : Fin 512) :
    (FloatOps.uitofp (F := Ideal) .bf16 (IntOp.cmpi .eq (headWord (BitVec.ofNat 32 k.val)) (headWord (BitVec.ofNat 32 j.val))) : EReal)
      = same k.val j.val := by
  rw [headWord_eq, headWord_eq]
  show (((IntOp.cmpi .eq (BitVec.ofNat 32 (k.val / 64)) (BitVec.ofNat 32 (j.val / 64))).toNat : ℝ) : EReal) = _
  have h : BitVec.ofNat 32 (k.val / 64) = BitVec.ofNat 32 (j.val / 64) ↔ k.val / 64 = j.val / 64 := by
    rw [← BitVec.toNat_inj, BitVec.toNat_ofNat, BitVec.toNat_ofNat, Nat.mod_eq_of_lt (by omega), Nat.mod_eq_of_lt (by omega)]
  by_cases hkj : k.val / 64 = j.val / 64
  · rw [same, if_pos hkj, hkj]
    simp [IntOp.cmpi]
  · rw [same, if_neg hkj]
    simp [IntOp.cmpi, h, hkj]

/-! ## The sums -/

/-- The sum of `f` over the lanes of the head that lane `j` lies in. -/
def sum (f : ℕ → EReal) (j : ℕ) : EReal := ∑ e : Fin 64, f (j / 64 * 64 + e.val)

theorem sum_same (f : ℕ → EReal) (j : Fin 512) : (∑ k : Fin 512, f k.val * same k.val j.val) = sum f j.val := by
  have hj : j.val / 64 < 8 := by omega
  rw [Fin.sum_univ_eq_sum_range (fun k => f k * same k j.val) 512, sum, Fin.sum_univ_eq_sum_range (fun e => f (j.val / 64 * 64 + e)) 64,
    ← Finset.sum_subset (s₁ := (Finset.range 64).image fun e => j.val / 64 * 64 + e)]
  · rw [Finset.sum_image fun a _ b _ h => by simpa using h]
    refine Finset.sum_congr rfl fun e he => ?_
    have he' := Finset.mem_range.mp he
    rw [same, if_pos (by omega), mul_one]
  · intro k hk
    obtain ⟨e, he, rfl⟩ := Finset.mem_image.mp hk
    have he' := Finset.mem_range.mp he
    exact Finset.mem_range.mpr (by omega)
  · intro k hk hn
    have hk' := Finset.mem_range.mp hk
    rw [same, if_neg, mul_zero]
    intro h
    exact hn (Finset.mem_image.mpr ⟨k % 64, Finset.mem_range.mpr (Nat.mod_lt _ (by norm_num)), by omega⟩)

/-- The two products together, for finite terms. -/
theorem sum_split (f : ℕ → EReal) (j : Fin 512) (h : ∀ k : Fin 512, Finite (f k.val)) :
    (∑ k : Fin 512, f k.val * same k.val j.val) + (∑ k : Fin 512, (f k.val - f k.val) * same k.val j.val) = sum f j.val := by
  have h0 : (∑ k : Fin 512, (f k.val - f k.val) * same k.val j.val) = 0 :=
    Finset.sum_eq_zero fun k _ => by rw [(h k).sub_self, zero_mul]
  rw [h0, add_zero, sum_same]

/-! ## The mean square of a head -/

/-- The number of a head's lanes, as the reference gives it, -/
abbrev width : EReal := Ideal.ofBits .f32 0x42800000#32
/-- and its reciprocal, as the kernel does. -/
abbrev part : EReal := Ideal.ofBits .f32 0x3C800000#32

theorem width_eq : width = ((64 : ℝ) : EReal) := by
  simp [Ideal.ofBits, Ideal.ieee]
  rw [← EReal.coe_mul]
  norm_num

theorem part_eq : part = ((1 / 64 : ℝ) : EReal) := by
  simp [Ideal.ofBits, Ideal.ieee]
  rw [← EReal.coe_mul]
  norm_num

theorem mul_part (a : EReal) : a * part = Ideal.div a width := by
  rw [part_eq, width_eq, Ideal.div_coe (by norm_num)]

/-- The mean square of the head that lane `j` lies in, plus the small constant, -/
def square (f : ℕ → EReal) (j : ℕ) : EReal := Ideal.div (sum (fun k => f k * f k) j) width + Norm.eps

/-- and the reciprocal of its root. -/
def root (f : ℕ → EReal) (j : ℕ) : EReal := Ideal.rsqrt (square f j)

/-- The mean square as the kernel takes it. -/
theorem square_split (f : ℕ → EReal) (j : Fin 512) (h : ∀ k : Fin 512, Finite (f k.val)) :
    ((∑ k : Fin 512, f k.val * f k.val * same k.val j.val)
      + ∑ k : Fin 512, (f k.val * f k.val - f k.val * f k.val) * same k.val j.val) * part + Norm.eps = square f j.val := by
  rw [sum_split (fun k => f k * f k) j fun k => (h k).mul (h k), mul_part]
  rfl

end Cert.Heads

end
-- ==== Proof.Out.Spec.lean ====
/- The backward pass of the output projection, row by row: the gradient of the groups' outputs, and its inner product
   with the second group's output, head by head. -/
module

public import proofs.«01_k».proof.Proof.Heads

@[expose] public section

noncomputable section

namespace Cert.BackwardOut

/-- The arguments by row and column: the layer's gradient, the weight and the second group's output. -/
structure Args where
  d : ℕ → ℕ → EReal
  w : ℕ → ℕ → EReal
  o : ℕ → ℕ → EReal

variable (G : Args)

/-- The gradient of the groups' outputs side by side. -/
def Args.cat (t j : ℕ) : EReal := ∑ k : Fin 1024, G.d t k.val * G.w j k.val

/-- The second group's gradient times its output, -/
def Args.term (t j : ℕ) : EReal := G.cat t (512 + j) * G.o t j

/-- summed over a head and given to each of its lanes. -/
def Args.delta (t j : ℕ) : EReal := Heads.sum (G.term t) j

end Cert.BackwardOut

end
-- ==== Proof.Out.Block.lean ====
/- What a point leaves in its two output blocks: 512 rows of the gradient of the groups' outputs, and the heads' inner
   products. -/
module

public import proofs.«01_k».proof.Proof.Gen.OutIdeal.Frame
public import proofs.«01_k».proof.Proof.Gen.OutIdeal.Value
public import proofs.«01_k».proof.Proof.Out.Spec
public import Idealize.ShloMosaic.Lib.Pipeline.ValueKit
public import Idealize.ShloMosaic.Lib.Pipeline.ReadBack

@[expose] public section

set_option maxRecDepth 16384

noncomputable section

namespace Cert.OutIdeal.Step

open Idealize.ShloMosaic Idealize.ShloMosaic.TcCoe Cert.OutIdeal Cert.OutIdeal.Gen Cert.Rows

theorem hz : (![0, 0] : Fin 2 → Nat) = fun _ => 0 := funext fun a => by fin_cases a <;> rfl

section Values

variable (d : Vec Ideal S512x1024 .bf16) (w : Vec Ideal S1024x1024 .bf16) (z o : Vec Ideal S512x512 .f32) (b : Vec Ideal S512x512 .bf16)

theorem pay1_apply (i : Fin 512) (j : Fin 1024) : k0_pay1 d w (ix2 i j) = ∑ k : Fin 1024, d (ix2 i k) * w (ix2 j k) := by
  unfold k0_pay1
  pointwise

theorem pay2_apply (i : Fin 512) (j : Fin 512) :
    k0_pay2 z o b (ix2 i j) = (∑ k : Fin 512, z (ix2 i k) * o (ix2 i k) * b (ix2 k j))
      + ∑ k : Fin 512, (z (ix2 i k) * o (ix2 i k) - z (ix2 i k) * o (ix2 i k)) * b (ix2 k j) := by
  unfold k0_pay2
  pointwise

end Values

variable (c : Dev nD) (i : grid0.Coords)
  (a1 : Memref sig .tc .vmem S512x1024 .bf16) (h1 : a1.IsWhole) (a2 : Memref sig .tc .vmem S1024x1024 .bf16) (h2 : a2.IsWhole)
  (a3 : Memref sig .tc .vmem S512x512 .f32) (h3 : a3.IsWhole) (a4 : Memref sig .tc .vmem S512x512 .bf16) (h4 : a4.IsWhole)
  (a5 : Memref sig .tc .vmem S512x1024 .f32) (h5 : a5.IsWhole) (a6 : Memref sig .tc .vmem S512x512 .f32) (h6 : a6.IsWhole)
  (x0 : Vec Ideal S512x1024 .bf16) (x1 : Vec Ideal S1024x1024 .bf16) (x2 : Vec Ideal S512x512 .f32) (x3 : Vec Ideal S512x512 .bf16)

/-- The gradient's rows. -/
theorem cat_A : out0_A_4 c i a1 h1 a2 h2 a3 h3 a4 h4 a5 h5 a6 h6 x0 x1 x2 x3 = k0_pay1 x0 x1 := by
  unfold out0_A_4
  rw [View.read_writes_junk_eq_canon]
  unfold kernelRun0_A
  dsimp only
  sl_unfold_words
  rw [View.canon_unit_zero hz]
  simp only [View.readAt_eq_ld, h1.read_unread, h2.read_unread, View.ld_unit_zero (S := S512x1024) hz, View.ld_unit_zero (S := S1024x1024) hz]

/-- The second group's columns of a block of rows. -/
def second (z : Vec Ideal S512x1024 .f32) : Vec Ideal S512x512 .f32 :=
  View.ld z (Rect.unit (s := S512x1024) ![0, 512] S512x512.size inb_S512x1024_S512x512_0_512)

theorem second_apply (z : Vec Ideal S512x1024 .f32) (i : Fin 512) (j : Fin 512) (y : Fin 1024) (h : y.val = 512 + j.val) :
    second z (ix2 i j) = z (ix2 i y) := by
  refine congrArg z (funext fun a => ?_)
  fin_cases a
  · apply Fin.ext; show 0 + 1 * i.val = i.val; omega
  · apply Fin.ext; show 512 + 1 * j.val = y.val; omega

/-- The heads' inner products. -/
theorem delta_A : out0_A_5 c i a1 h1 a2 h2 a3 h3 a4 h4 a5 h5 a6 h6 x0 x1 x2 x3 = k0_pay2 (second (k0_pay1 x0 x1)) x2 x3 := by
  unfold out0_A_5
  rw [View.read_writes_junk_eq_canon]
  unfold kernelRun0_A
  dsimp only
  sl_unfold_words
  rw [View.canon_unit_zero hz, View.readCov_fill _ _ _ _ _ (by decide)]
  simp only [View.readAt_eq_ld, h1.read_unread, h2.read_unread, h3.read_unread, h4.read_unread, View.ld_unit_zero (S := S512x1024) hz,
    View.ld_unit_zero (S := S1024x1024) hz, View.ld_unit_zero (S := S512x512) hz]
  rfl

end Cert.OutIdeal.Step

end
-- ==== Proof.Mask.lean ====
/- The matrix of heads that the host prepares, at an element: one where row and column lie in the same head. -/
module

public import proofs.«01_k».proof.Proof.Gen.QbIdeal.Frame
public import proofs.«01_k».proof.Proof.Heads
public import Idealize.ShloMosaic.Lib.Pipeline.ValueKit

@[expose] public section

noncomputable section

namespace Cert.Mask

open Idealize.ShloMosaic Idealize.ShloMosaic.TcCoe Cert.QbIdeal Cert.QbIdeal.Gen

/-- The head of each lane, by the host's floor division. -/
def heads : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

/-- The matrix that is one where row and column lie in the same head. -/
def mask {F : FTy → Type} [FloatOps F] : Vec F S512x512 .bf16 :=
  uitofp .bf16 (cmpi .eq (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads)))

theorem mask_apply (k j : Fin 512) : (mask (F := Ideal)) (ix2 k j) = Heads.same k.val j.val := by
  refine Eq.trans ?_ (Heads.same_word k j)
  unfold mask heads
  pointwise
  rfl

end Cert.Mask

end
-- ==== Proof.Out.Arrays.lean ====
/- The arrays that hold the gradient of the groups' outputs and the heads' inner products after the last point. -/
module

public import proofs.«01_k».proof.Proof.Out.Block
public import proofs.«01_k».proof.Proof.Mask
public import proofs.«01_k».proof.Proof.Tiles

@[expose] public section

set_option maxRecDepth 16384

noncomputable section

namespace Cert.OutIdeal.Step

open Idealize.ShloMosaic Idealize.ShloMosaic.TcCoe Cert.OutIdeal Cert.OutIdeal.Gen Cert.Rows
open Cert.Mask (mask mask_apply)

/-! ## What the host prepares -/

section Host

variable {F : FTy → Type} [FloatOps F] (m : (ℓ : Loc nD τ sig) → Buf (Elt F) ℓ) (c : Dev nD)

theorem V_weight : V m c main_v0 = truncf .bf16 (m ((c : Thread nD τ).loc main_arg1)) bitsLt_bf16_f32 := by
  simp only [V, hostOps0, hostOps0_1, hostOps0_2, List.flatten_cons, List.flatten_nil, List.append_nil, List.cons_append, List.nil_append]
  after_results

theorem V_mask : V m c main_v8 = mask := by
  simp only [V, hostOps0, hostOps0_1, hostOps0_2, List.flatten_cons, List.flatten_nil, List.append_nil, List.cons_append, List.nil_append]
  after_results
  rfl

end Host

variable (m : (ℓ : Loc nD τ sig) → Buf (Elt Ideal) ℓ) (c : Dev nD)

/-- The arguments by row and column. -/
def args : BackwardOut.Args where
  d := Attn.nat2 (m ((c : Thread nD τ).loc main_arg0))
  w := Attn.nat2 (m ((c : Thread nD τ).loc main_arg1))
  o := Attn.nat2 (m ((c : Thread nD τ).loc main_arg2))

/-! ## What the points load -/

theorem at0 (t : Fin cfg0.N) : win0_0.index t = ![t.val, 0] := by
  revert t; exact (by decide +kernel : ∀ t : Fin grid0.N, win0_0.index t = ![t.val, 0])

theorem at1 (t : Fin cfg0.N) : win0_1.index t = ![0, 0] := by
  revert t; exact (by decide +kernel : ∀ t : Fin grid0.N, win0_1.index t = ![0, 0])

theorem at2 (t : Fin cfg0.N) : win0_2.index t = ![t.val, 0] := by
  revert t; exact (by decide +kernel : ∀ t : Fin grid0.N, win0_2.index t = ![t.val, 0])

theorem at3 (t : Fin cfg0.N) : win0_3.index t = ![0, 0] := by
  revert t; exact (by decide +kernel : ∀ t : Fin grid0.N, win0_3.index t = ![0, 0])

theorem iblk0 (t : Fin cfg0.N) (i : Fin 512) (k : Fin 1024) : iblk m c 0 t (ix2 i k) = (args m c).d (512 * t.val + i.val) k.val := by
  have ht : t.val < 16 := t.isLt
  refine Eq.trans ?_ (Attn.nat2_eq _ ⟨512 * t.val + i.val, by omega⟩ k rfl rfl).symm
  rw [← V_main_arg0 m c]
  blk_ext [iblk, at0 t]

theorem iblk1 (t : Fin cfg0.N) (j k : Fin 1024) : iblk m c 1 t (ix2 j k) = (args m c).w j.val k.val := by
  refine Eq.trans ?_ (Attn.nat2_eq _ j k rfl rfl).symm
  have h : (m ((c : Thread nD τ).loc main_arg1)) (ix2 j k) = V m c main_v0 (ix2 j k) := by rw [V_weight]; rfl
  rw [h]
  blk_ext [iblk, at1 t]

theorem iblk2 (t : Fin cfg0.N) (i : Fin 512) (j : Fin 512) : iblk m c 2 t (ix2 i j) = (args m c).o (512 * t.val + i.val) j.val := by
  have ht : t.val < 16 := t.isLt
  refine Eq.trans ?_ (Attn.nat2_eq _ ⟨512 * t.val + i.val, by omega⟩ j rfl rfl).symm
  rw [← V_main_arg2 m c]
  blk_ext [iblk, at2 t]

theorem iblk3 (t : Fin cfg0.N) (k j : Fin 512) : iblk m c 3 t (ix2 k j) = Heads.same k.val j.val := by
  rw [← mask_apply, ← V_mask m c]
  blk_ext [iblk, at3 t]

/-! ## What they leave -/

theorem cat_at (t : Fin cfg0.N) (i : Fin 512) (j : Fin 1024) :
    k0_pay1 (iblk m c 0 t) (iblk m c 1 t) (ix2 i j) = (args m c).cat (512 * t.val + i.val) j.val :=
  (pay1_apply _ _ i j).trans (Finset.sum_congr rfl fun k _ => congrArg₂ (· * ·) (iblk0 m c t i k) (iblk1 m c t j k))

theorem term_at (t : Fin cfg0.N) (i : Fin 512) (k : Fin 512) :
    second (k0_pay1 (iblk m c 0 t) (iblk m c 1 t)) (ix2 i k) * iblk m c 2 t (ix2 i k) = (args m c).term (512 * t.val + i.val) k.val :=
  congrArg₂ (· * ·) ((second_apply _ i k ⟨512 + k.val, by omega⟩ rfl).trans (cat_at m c t i _)) (iblk2 m c t i k)

/-- Every element of the arguments is finite. -/
structure FiniteArgs : Prop where
  d : ∀ (i : Fin 8192) (k : Fin 1024), Heads.Finite ((args m c).d i.val k.val)
  w : ∀ j k : Fin 1024, Heads.Finite ((args m c).w j.val k.val)
  o : ∀ (i : Fin 8192) (j : Fin 512), Heads.Finite ((args m c).o i.val j.val)

variable {m c} in
theorem FiniteArgs.term (h : FiniteArgs m c) (i : Fin 8192) (k : Fin 512) : Heads.Finite ((args m c).term i.val k.val) :=
  Heads.Finite.mul (Heads.Finite.sum fun l => (h.d i l).mul (h.w ⟨512 + k.val, by omega⟩ l)) (h.o i k)

theorem delta_at (h : FiniteArgs m c) (t : Fin cfg0.N) (i : Fin 512) (j : Fin 512) :
    k0_pay2 (second (k0_pay1 (iblk m c 0 t) (iblk m c 1 t))) (iblk m c 2 t) (iblk m c 3 t) (ix2 i j)
      = (args m c).delta (512 * t.val + i.val) j.val := by
  have ht : t.val < 16 := t.isLt
  refine (pay2_apply _ _ _ i j).trans (Eq.trans ?_ (Heads.sum_split _ j fun k => h.term ⟨512 * t.val + i.val, by omega⟩ k))
  have hb : ∀ k : Fin 512, _ := fun k => iblk3 m c t k j
  have hk : ∀ k : Fin 512, _ := fun k => term_at m c t i k
  refine congrArg₂ (· + ·) (Finset.sum_congr rfl fun k _ => congrArg₂ (· * ·) (hk k) (hb k)) (Finset.sum_congr rfl fun k _ => ?_)
  exact congrArg₂ (· * ·) (congrArg₂ (· - ·) (hk k) (hk k)) (hb k)

/-! ## The arrays -/

theorem at4 (t : Fin cfg0.N) : win0_4.index t = ![t.val, 0] := by
  revert t; exact (by decide +kernel : ∀ t : Fin grid0.N, win0_4.index t = ![t.val, 0])

theorem at5 (t : Fin cfg0.N) : win0_5.index t = ![t.val, 0] := by
  revert t; exact (by decide +kernel : ∀ t : Fin grid0.N, win0_5.index t = ![t.val, 0])

/-- The gradient. -/
theorem final_cat (i : Fin 8192) (j : Fin 1024) : (dats m 0 c).arrAt 4 cfg0.N (ix2 i j) = (args m c).cat i.val j.val := by
  refine Tiles.array (dats m 0 c) 4 (fun p => (args m c).cat (p 0) (p 1)) (fun t => Tiles.rows 512 t.val) (by decide +kernel)
    (fun t => Tiles.rows_at 512 1024 (at4 t)) (fun t _ z => ?_) (ix2 i j)
  simp only [after0_4, outsAt0, cat_A]
  exact (congrArg _ (eq_ix2 (n0 := 512) (n1 := 1024) z)).trans (cat_at m c t _ _)

/-- The inner products. -/
theorem final_delta (hfin : FiniteArgs m c) (i : Fin 8192) (j : Fin 512) :
    (dats m 0 c).arrAt 5 cfg0.N (ix2 i j) = (args m c).delta i.val j.val := by
  refine Tiles.array (dats m 0 c) 5 (fun p => (args m c).delta (p 0) (p 1)) (fun t => Tiles.rows 512 t.val) (by decide +kernel)
    (fun t => Tiles.rows_at 512 512 (at5 t)) (fun t _ z => ?_) (ix2 i j)
  simp only [after0_5, outsAt0, delta_A]
  exact (congrArg _ (eq_ix2 (n0 := 512) (n1 := 512) z)).trans (delta_at m c hfin t _ _)

end Cert.OutIdeal.Step

end
-- ==== Proof.Out.Reference.lean ====
/- The reference's gradient of the groups' outputs and the heads' inner products, at an element. -/
module

public import proofs.«01_k».proof.Proof.Gen.OutRefIdeal.Run
public import proofs.«01_k».proof.Proof.Out.Spec
public import Idealize.ShloMosaic.Lib.Pipeline.ValueKit

@[expose] public section

set_option maxRecDepth 16384

noncomputable section

namespace Cert.OutRefIdeal.Terms

open Idealize.ShloMosaic Idealize.ShloMosaic.TcCoe Cert.OutRefIdeal Cert.OutRefIdeal.Gen Cert.Rows

section Terms

variable {F : FTy → Type} [FloatOps F] (d : Vec F S8192x1024 .bf16) (w : Vec F S1024x1024 .f32) (o : Vec F S8192x512 .f32)

/-- The gradient of the groups' outputs: the transpose of the projection. -/
def cat : FVec F S8192x1024 .f32 :=
  Host.dotGeneral dot_S8192x1024_S1024x1024_S8192x1024_1_1_0_0_n_n none (extf .f32 d bitsLt_bf16_f32) w

/-- The second group's columns of `z` times its output, summed over each head, given to each lane of the head. -/
def delta (z : Vec F S8192x1024 .f32) : FVec F S8192x512 .f32 :=
  shapeCast S8192x512 (broadcastInDim S8192x8x64 ![0, 1, 2] bcast_S8192x8x1_S8192x8x64_0_1_2
    (broadcastInDim S8192x8x1 ![0, 1] bcast_S8192x8_S8192x8x1_0_1
      (Host.reduceAdd (shapeCast S8192x8x64 (mulf (extractStridedSlice S8192x512 ![0, 512] z slices_S8192x1024_S8192x512_0_512) o)
        shapeCasts_S8192x512_S8192x8x64) (constant S_ .f32 0x00000000#32) reducesTo_S8192x8x64_S8192x8_d2 h_S_))) shapeCasts_S8192x8x64_S8192x512

end Terms

section Values

variable (d : Vec Ideal S8192x1024 .bf16) (w : Vec Ideal S1024x1024 .f32) (o : Vec Ideal S8192x512 .f32)

/-- The arguments by row and column. -/
def args : BackwardOut.Args where
  d := Attn.nat2 d
  w := Attn.nat2 w
  o := Attn.nat2 o

theorem cat_apply (i : Fin 8192) (j : Fin 1024) : cat d w (ix2 i j) = (args d w o).cat i.val j.val := by
  unfold cat
  pointwise
  exact Finset.sum_congr rfl fun k _ => congrArg₂ (· * ·) (Attn.nat2_eq d i k rfl rfl).symm (Attn.nat2_eq w j k rfl rfl).symm

theorem delta_apply (i : Fin 8192) (j : Fin 512) : delta o (cat d w) (ix2 i j) = (args d w o).delta i.val j.val := by
  unfold delta
  pointwise
  show _ = ∑ e : Fin 64, (args d w o).cat i.val (512 + (j.val / 64 * 64 + e.val)) * Attn.nat2 o i.val (j.val / 64 * 64 + e.val)
  refine Finset.sum_congr rfl fun e _ => congrArg₂ (· * ·) ?_ (Attn.nat2_eq o i _ rfl rfl).symm
  exact cat_apply d w o i ⟨512 + (j.val / 64 * 64 + e.val), by omega⟩

end Values

end Cert.OutRefIdeal.Terms

end
-- ==== Proof.Out.Equation.lean ====
/- The backward pass of the output projection: the two programs' results are equal on finite arguments. -/
module

public import proofs.«01_k».proof.Defs
public import proofs.«01_k».proof.Proof.Gen.Pre_finite_out
public import proofs.«01_k».proof.Proof.Out.Arrays
public import proofs.«01_k».proof.Proof.Out.Reference
public import Idealize.ShloMosaic.Lib.Quiescent

@[expose] public section

set_option maxRecDepth 16384

noncomputable section

namespace Cert.BackwardOut

open Idealize.ShloMosaic Idealize.ShloMosaic.TcCoe Idealize.SL.Sem Cert.OutIdeal Cert.Rows

/-- The precondition says that every element is finite. -/
theorem finite_args (m : (ℓ : Loc nD τ sig) → Buf (Elt Ideal) ℓ) (h : Cert.Pre_OutIdeal_finite_out m) (c : Dev nD) : Step.FiniteArgs m c := by
  obtain ⟨h0, h1, h2⟩ := h c
  refine ⟨fun i k => ?_, fun j k => ?_, fun i j => ?_⟩
  · refine (congrArg Heads.Finite (Attn.nat2_eq _ i k rfl rfl)).mpr (Heads.finite_of_lt ?_)
    rw [← Heads.infinity']
    exact congrFun h0 (ix2 i k)
  · refine (congrArg Heads.Finite (Attn.nat2_eq _ j k rfl rfl)).mpr (Heads.finite_of_lt ?_)
    rw [← Heads.infinity]
    exact congrFun h1 (ix2 j k)
  · refine (congrArg Heads.Finite (Attn.nat2_eq _ i j rfl rfl)).mpr (Heads.finite_of_lt ?_)
    rw [← Heads.infinity]
    exact congrFun h2 (ix2 i j)

/-- Over the extended reals the kernel's gradient and inner products are the reference's. -/
theorem algebraic : Cert.algebraic_OutIdeal_OutRefIdeal_pre_finite_out := by
  intro m g m' g' hpre hagree
  refine ⟨fun c => (Gen.dats m 0 c).arrAt 4 cfg0.N, fun c => (Gen.dats m 0 c).arrAt 5 cfg0.N, Value.run_blocks m g, ?_⟩
  refine (θ_run OutRefIdeal.defs _ _).mono (fun r h c => ?_) (OutRefIdeal.Value.run m' g')
  obtain ⟨h0, h1, h2⟩ := hagree c
  obtain ⟨r0, r1, rest⟩ := h c
  rw [h0, h1] at r0
  rw [h0, h1, h2] at r1
  refine ⟨r0.trans ?_, r1.trans ?_, rest⟩
  · refine matrix_ext _ _ fun i j => ?_
    exact (OutRefIdeal.Terms.cat_apply _ _ (m ((c : Thread nD τ).loc main_arg2)) i j).trans (Step.final_cat m c i j).symm
  · refine matrix_ext _ _ fun i j => ?_
    exact (OutRefIdeal.Terms.delta_apply _ _ _ i j).trans (Step.final_delta m c (finite_args m hpre c) i j).symm

/-- The reference runs, leaves its arguments and ends with every counter at zero. -/
theorem frame_reference : Cert.quiescent_OutRefIdeal := fun m g _ =>
  (θ_run OutRefIdeal.defs _ _).mono (fun r h => ⟨fun c => (h c).2.2, sem_eq_zero_of_no_sems (by decide) r.2⟩)
    (OutRefIdeal.Value.run m g)

end Cert.BackwardOut

end
-- ==== Proof.Proj.Spec.lean ====
/- The input projection of a layer, row by row: the layer's rows are normalised and multiplied by a weight, and the two
   parts of the product that hold queries and keys are normalised head by head. -/
module

public import proofs.«01_k».proof.Proof.Heads

@[expose] public section

noncomputable section

namespace Cert.Projection

open Idealize.ShloMosaic

/-- The arguments by row and column: the layer's rows, the normalisation's weights, the projection's weight and the
    weights of the queries' and the keys' normalisations. -/
structure Args where
  x : ℕ → ℕ → EReal
  gain : ℕ → EReal
  w : ℕ → ℕ → EReal
  gq : ℕ → EReal
  gk : ℕ → EReal

/-- What the queries are multiplied by. -/
abbrev scale : EReal := Ideal.ofBits .f32 0x3E000000#32

variable (G : Args)

/-- The rows normalised. -/
def Args.hidden (t j : ℕ) : EReal := G.x t j * Norm.root (fun k : Fin 1024 => G.x t k.val) * G.gain j

/-- Their product with the weight. -/
def Args.product (t j : ℕ) : EReal := ∑ k : Fin 1024, G.hidden t k.val * G.w k.val j

/-- The part of a row of the product that begins at column `o`, normalised head by head. -/
def Args.normed (o t j : ℕ) : EReal := G.product t (o + j) * Heads.root (fun k => G.product t (o + k)) j

/-- The queries and the keys. -/
def Args.q (t j : ℕ) : EReal := G.normed 1024 t j * G.gq (j % 64) * scale
@[inherit_doc Args.q] def Args.k (t j : ℕ) : EReal := G.normed 1536 t j * G.gk (j % 64)

/-- Finite rows and weights make a finite product. -/
theorem finite_product (t j : ℕ) (hx : ∀ k : Fin 1024, Heads.Finite (G.x t k.val)) (hg : ∀ k : Fin 1024, Heads.Finite (G.gain k.val))
    (hw : ∀ k : Fin 1024, Heads.Finite (G.w k.val j)) : Heads.Finite (G.product t j) := by
  have hr : Heads.Finite (Norm.root fun k : Fin 1024 => G.x t k.val) := by
    rcases Norm.square_cases (fun k : Fin 1024 => G.x t k.val) with ⟨s, hs, hsq, -⟩ | htop
    · refine ⟨(Real.sqrt s)⁻¹, ?_⟩
      rw [Norm.root, hsq]
      show (if s < 0 then (⊥ : EReal) else if s = 0 then ⊤ else (((Real.sqrt s)⁻¹ : ℝ) : EReal)) = _
      rw [if_neg (by linarith), if_neg (by linarith)]
    · exact ⟨0, by rw [Norm.root, htop]; rfl⟩
  exact Heads.Finite.sum fun k => (((hx k).mul hr).mul (hg k)).mul (hw k)

end Cert.Projection

end
-- ==== Proof.Proj.Block.lean ====
/- What a point leaves in its three output blocks: 512 rows of the product with the projection's weight, which is stored in
   four runs of columns, and the queries and keys, which are read back from it and normalised. -/
module

public import proofs.«01_k».proof.Proof.Gen.ProjIdeal.Frame
public import proofs.«01_k».proof.Proof.Gen.ProjIdeal.Value
public import proofs.«01_k».proof.Proof.Proj.Spec
public import Idealize.ShloMosaic.Lib.Pipeline.ValueKit
public import Idealize.ShloMosaic.Lib.Pipeline.ReadBack

@[expose] public section

set_option maxRecDepth 16384

noncomputable section

namespace Cert.ProjIdeal.Step

open Idealize.ShloMosaic Idealize.ShloMosaic.TcCoe Cert.ProjIdeal Cert.ProjIdeal.Gen Cert.Rows

theorem hz : (![0, 0] : Fin 2 → Nat) = fun _ => 0 := funext fun a => by fin_cases a <;> rfl

section Values

variable (z : Vec Ideal S512x1024 .bf16) (w : Vec Ideal S1024x640 .bf16) (p : Vec Ideal S512x512 .f32) (b : Vec Ideal S512x512 .bf16)
  (g : Vec Ideal S1x512 .f32)

theorem pay2_apply (i : Fin 512) (j : Fin 640) : k0_pay2 z w (ix2 i j) = ∑ k : Fin 1024, z (ix2 i k) * w (ix2 k j) := by
  unfold k0_pay2
  pointwise

theorem pay3_apply (i : Fin 512) (j : Fin 640) : k0_pay3 z w (ix2 i j) = ∑ k : Fin 1024, z (ix2 i k) * w (ix2 k j) := by
  unfold k0_pay3
  pointwise

theorem pay4_apply (i : Fin 512) (j : Fin 640) : k0_pay4 z w (ix2 i j) = ∑ k : Fin 1024, z (ix2 i k) * w (ix2 k j) := by
  unfold k0_pay4
  pointwise

theorem pay5_apply (i : Fin 512) (j : Fin 640) : k0_pay5 z w (ix2 i j) = ∑ k : Fin 1024, z (ix2 i k) * w (ix2 k j) := by
  unfold k0_pay5
  pointwise

/-- The sum of squares over a head, as the kernel takes it, over the number of lanes, plus the small constant. -/
def square (i j : Fin 512) : EReal :=
  ((∑ k : Fin 512, p (ix2 i k) * p (ix2 i k) * b (ix2 k j))
    + ∑ k : Fin 512, (p (ix2 i k) * p (ix2 i k) - p (ix2 i k) * p (ix2 i k)) * b (ix2 k j)) * Heads.part + Norm.eps

theorem pay6_apply (i j : Fin 512) : k0_pay6 p b g (ix2 i j) = p (ix2 i j) * Ideal.rsqrt (square p b i j) * g (ix2 0 j) := by
  unfold k0_pay6
  pointwise
  rfl

theorem pay7_apply (i j : Fin 512) : k0_pay1 (k0_pay7 p b) g (ix2 i j) = p (ix2 i j) * Ideal.rsqrt (square p b i j) * g (ix2 0 j) := by
  unfold k0_pay1 k0_pay7
  pointwise
  rfl

end Values

variable (c : Dev nD) (i : grid0.Coords)
  (a1 : Memref sig .tc .vmem S512x1024 .bf16) (h1 : a1.IsWhole) (a2 : Memref sig .tc .vmem S1024x2560 .bf16) (h2 : a2.IsWhole)
  (a3 : Memref sig .tc .vmem S1x512 .f32) (h3 : a3.IsWhole) (a4 : Memref sig .tc .vmem S1x512 .f32) (h4 : a4.IsWhole)
  (a5 : Memref sig .tc .vmem S512x512 .bf16) (h5 : a5.IsWhole) (a6 : Memref sig .tc .vmem S512x2560 .f32) (h6 : a6.IsWhole)
  (a7 : Memref sig .tc .vmem S512x512 .f32) (h7 : a7.IsWhole) (a8 : Memref sig .tc .vmem S512x512 .f32) (h8 : a8.IsWhole)
  (x0 : Vec Ideal S512x1024 .bf16) (x1 : Vec Ideal S1024x2560 .bf16) (x2 : Vec Ideal S1x512 .f32) (x3 : Vec Ideal S1x512 .f32)
  (x4 : Vec Ideal S512x512 .bf16)

/-- A run of columns of the weight, at an element. -/
theorem columns {o : ℕ} (inb : ∀ a : Fin 2, (![0, o] : Fin 2 → ℕ) a + S1024x640.size a ≤ S1024x2560.size a)
    (k : Fin 1024) (j : Fin 640) (y : Fin 2560) (h : y.val = o + j.val) :
    View.ld x1 (Rect.unit (s := S1024x2560) ![0, o] S1024x640.size inb) (ix2 k j) = x1 (ix2 k y) := by
  refine congrArg x1 (funext fun a => ?_)
  fin_cases a
  · apply Fin.ext; show 0 + 1 * k.val = k.val; omega
  · apply Fin.ext; show o + 1 * j.val = y.val; omega

/-- The product of the block of rows with the weight, as one matrix. -/
def whole : S512x2560.Idx → Elt Ideal .f32 := fun y => ∑ k : Fin 1024, x0 (ix2 (y 0) k) * x1 (ix2 k (y 1))

/-- What is stored in a run of columns is that run of the matrix. -/
theorem run_of {o : ℕ} (inb : ∀ a : Fin 2, (![0, o] : Fin 2 → ℕ) a + S1024x640.size a ≤ S1024x2560.size a)
    (inb' : ∀ a : Fin 2, (![0, o] : Fin 2 → ℕ) a + S512x640.size a ≤ S512x2560.size a)
    (w : Vec Ideal S512x640 .f32)
    (hw : ∀ (i : Fin 512) (j : Fin 640), w (ix2 i j) = ∑ k : Fin 1024, x0 (ix2 i k) * View.ld x1 (Rect.unit (s := S1024x2560) ![0, o] S1024x640.size inb) (ix2 k j))
    (x : S512x640.Idx) : w x = whole x0 x1 ((Rect.unit (s := S512x2560) ![0, o] S512x640.size inb').emb x) := by
  obtain ⟨i, j, rfl⟩ : ∃ (i : Fin 512) (j : Fin 640), x = ix2 i j := ⟨x 0, x 1, eq_ix2 x⟩
  refine (hw i j).trans (Finset.sum_congr rfl fun k _ => congrArg₂ (· * ·) (congrArg x0 ?_) (columns x1 inb k j _ ?_))
  · refine congrArg (fun a => ix2 a k) (Fin.ext ?_)
    show i.val = 0 + 1 * i.val
    omega
  · show o + 1 * j.val = o + j.val
    omega

/-- The four runs as they are stored, last first. -/
def runs : List (View.Piece (Elt Ideal) S512x2560 .f32) :=
  [⟨Rect.unit (s := S512x2560) ![0, 1920] S512x640.size inb_S512x2560_S512x640_0_1920,
      k0_pay5 x0 (View.ld x1 (Rect.unit (s := S1024x2560) ![0, 1920] S1024x640.size inb_S1024x2560_S1024x640_0_1920))⟩,
   ⟨Rect.unit (s := S512x2560) ![0, 1280] S512x640.size inb_S512x2560_S512x640_0_1280,
      k0_pay4 x0 (View.ld x1 (Rect.unit (s := S1024x2560) ![0, 1280] S1024x640.size inb_S1024x2560_S1024x640_0_1280))⟩,
   ⟨Rect.unit (s := S512x2560) ![0, 640] S512x640.size inb_S512x2560_S512x640_0_640,
      k0_pay3 x0 (View.ld x1 (Rect.unit (s := S1024x2560) ![0, 640] S1024x640.size inb_S1024x2560_S1024x640_0_640))⟩,
   ⟨Rect.unit (s := S512x2560) ![0, 0] S512x640.size inb_S512x2560_S512x640_0_0,
      k0_pay2 x0 (View.ld x1 (Rect.unit (s := S1024x2560) ![0, 0] S1024x640.size inb_S1024x2560_S1024x640_0_0))⟩]

/-- Every column lies in one of them. -/
theorem runs_cover (y : S512x2560.Idx) : ∃ p ∈ runs x0 x1, y ∈ p.1.set := by
  have hm : ∀ {o : ℕ} (inb : ∀ a : Fin 2, (![0, o] : Fin 2 → ℕ) a + S512x640.size a ≤ S512x2560.size a), o ≤ (y 1).val → (y 1).val < o + 640 →
      y ∈ (Rect.unit (s := S512x2560) ![0, o] S512x640.size inb).set := fun {o} inb h0 h1 => by
    refine (LoadRect.mem_set _).mpr fun a => ?_
    fin_cases a
    · exact ⟨(y 0).val, (y 0).isLt, by show (y 0).val = 0 + 1 * (y 0).val; omega⟩
    · exact ⟨(y 1).val - o, by show (y 1).val - o < 640; omega, by show (y 1).val = o + 1 * ((y 1).val - o); omega⟩
  have hy : (y 1).val < 2560 := (y 1).isLt
  by_cases h3 : 1920 ≤ (y 1).val
  · exact ⟨_, List.mem_cons_self, hm inb_S512x2560_S512x640_0_1920 h3 (by omega)⟩
  by_cases h2 : 1280 ≤ (y 1).val
  · exact ⟨_, List.mem_cons_of_mem _ List.mem_cons_self, hm inb_S512x2560_S512x640_0_1280 h2 (by omega)⟩
  by_cases h1 : 640 ≤ (y 1).val
  · exact ⟨_, List.mem_cons_of_mem _ (List.mem_cons_of_mem _ List.mem_cons_self), hm inb_S512x2560_S512x640_0_640 h1 (by omega)⟩
  · exact ⟨_, List.mem_cons_of_mem _ (List.mem_cons_of_mem _ (List.mem_cons_of_mem _ List.mem_cons_self)), hm inb_S512x2560_S512x640_0_0 (by omega) (by omega)⟩

/-- Together they are the matrix. -/
theorem canon_runs : View.canon (runs x0 x1) = whole x0 x1 := funext fun y => by
  refine View.canon_append_of_piecesOf (whole x0 x1) [] [_, _, _, _] ⟨?_, ?_, ?_, ?_, trivial⟩ y (runs_cover x0 x1 y)
  · exact run_of x0 x1 inb_S1024x2560_S1024x640_0_1920 inb_S512x2560_S512x640_0_1920 _ (pay5_apply _ _)
  · exact run_of x0 x1 inb_S1024x2560_S1024x640_0_1280 inb_S512x2560_S512x640_0_1280 _ (pay4_apply _ _)
  · exact run_of x0 x1 inb_S1024x2560_S1024x640_0_640 inb_S512x2560_S512x640_0_640 _ (pay3_apply _ _)
  · exact run_of x0 x1 inb_S1024x2560_S1024x640_0_0 inb_S512x2560_S512x640_0_0 _ (pay2_apply _ _)

/-- The product. -/
theorem product_A : out0_A_5 c i a1 h1 a2 h2 a3 h3 a4 h4 a5 h5 a6 h6 a7 h7 a8 h8 x0 x1 x2 x3 x4 = whole x0 x1 := by
  refine Eq.trans ?_ (canon_runs x0 x1)
  unfold out0_A_5
  rw [View.read_writes_junk_eq_canon]
  unfold kernelRun0_A
  dsimp only
  sl_unfold_words
  simp only [View.readAt_eq_ld, h1.read_unread, h2.read_unread, View.ld_unit_zero (S := S512x1024) hz]
  rfl

/-- 512 columns of the product. -/
def columnsOf (o : ℕ) (inb : ∀ a : Fin 2, (![0, o] : Fin 2 → ℕ) a + S512x512.size a ≤ S512x2560.size a) : Vec Ideal S512x512 .f32 :=
  View.ld (whole x0 x1) (Rect.unit (s := S512x2560) ![0, o] S512x512.size inb)

theorem columnsOf_apply (o : ℕ) (inb : ∀ a : Fin 2, (![0, o] : Fin 2 → ℕ) a + S512x512.size a ≤ S512x2560.size a) (i j : Fin 512)
    (y : Fin 2560) (h : y.val = o + j.val) : columnsOf x0 x1 o inb (ix2 i j) = whole x0 x1 (ix2 i y) := by
  refine congrArg (whole x0 x1) (funext fun a => ?_)
  fin_cases a
  · apply Fin.ext; show 0 + 1 * i.val = i.val; omega
  · apply Fin.ext; show o + 1 * j.val = y.val; omega

/-- The queries. -/
theorem q_A : out0_A_6 c i a1 h1 a2 h2 a3 h3 a4 h4 a5 h5 a6 h6 a7 h7 a8 h8 x0 x1 x2 x3 x4
    = k0_pay6 (columnsOf x0 x1 1024 inb_S512x2560_S512x512_0_1024) x4 x2 := by
  unfold columnsOf
  rw [← canon_runs x0 x1]
  unfold out0_A_6
  rw [View.read_writes_junk_eq_canon]
  unfold kernelRun0_A
  dsimp only
  sl_unfold_words
  rw [View.canon_unit_zero hz, View.readCov_eq_canon']
  simp only [View.readAt_eq_ld, h1.read_unread, h2.read_unread, h3.read_unread, h5.read_unread, View.ld_unit_zero (S := S512x1024) hz,
    View.ld_unit_zero (S := S512x512) hz, View.ld_unit_zero (S := S1x512) hz]
  rfl

/-- The keys. -/
theorem k_A : out0_A_7 c i a1 h1 a2 h2 a3 h3 a4 h4 a5 h5 a6 h6 a7 h7 a8 h8 x0 x1 x2 x3 x4
    = k0_pay1 (k0_pay7 (columnsOf x0 x1 1536 inb_S512x2560_S512x512_0_1536) x4) x3 := by
  unfold columnsOf
  rw [← canon_runs x0 x1]
  unfold out0_A_7
  rw [View.read_writes_junk_eq_canon]
  unfold kernelRun0_A
  dsimp only
  sl_unfold_words
  rw [View.canon_unit_zero hz, View.readCov_eq_canon']
  simp only [View.readAt_eq_ld, h1.read_unread, h2.read_unread, h4.read_unread, h5.read_unread, View.ld_unit_zero (S := S512x1024) hz,
    View.ld_unit_zero (S := S512x512) hz, View.ld_unit_zero (S := S1x512) hz]
  rfl

end Cert.ProjIdeal.Step

end
-- ==== Proof.Proj.Arrays.lean ====
/- The arrays that hold the product, the queries and the keys after the last point. -/
module

public import proofs.«01_k».proof.Proof.Proj.Block
public import proofs.«01_k».proof.Proof.Mask
public import proofs.«01_k».proof.Proof.Normal
public import proofs.«01_k».proof.Proof.Tiles

@[expose] public section

set_option maxRecDepth 16384

noncomputable section

namespace Cert.ProjIdeal.Step

open Idealize.ShloMosaic Idealize.ShloMosaic.TcCoe Cert.ProjIdeal Cert.ProjIdeal.Gen Cert.Rows
open Cert.Mask (mask mask_apply)

/-! ## What the host prepares -/

section Terms

variable {F : FTy → Type} [FloatOps F]

/-- The weights of a head's lanes, given to every head. -/
def tiled (g : Vec F S64 .f32) : Vec F S512 .f32 :=
  shapeCast S512 (broadcastInDim S8x64 ![0, 1] bcast_S1x64_S8x64_0_1 (shapeCast S1x64 g shapeCasts_S64_S1x64)) shapeCasts_S8x64_S512

/-- The queries' weights, times the scale, and the keys'. -/
def weightQ (g : Vec F S64 .f32) : Vec F S1x512 .f32 :=
  shapeCast S1x512 (mulf (tiled g) (broadcastInDim S512 ![] bcast_S_S512 (constant S_ .f32 0x3E000000#32))) shapeCasts_S512_S1x512
@[inherit_doc weightQ] def weightK (g : Vec F S64 .f32) : Vec F S1x512 .f32 := shapeCast S1x512 (tiled g) shapeCasts_S512_S1x512

variable (m : (ℓ : Loc nD τ sig) → Buf (Elt F) ℓ) (c : Dev nD)

theorem V_hidden : V m c main_v14
    = truncf .bf16 (Normal.rows (m ((c : Thread nD τ).loc main_arg0)) (m ((c : Thread nD τ).loc main_arg1))) bitsLt_bf16_f32 := by
  simp only [V, hostOps0, hostOps0_1, hostOps0_2, List.flatten_cons, List.flatten_nil, List.append_nil, List.cons_append, List.nil_append]
  after_results
  rfl

theorem V_weight : V m c main_v25 = truncf .bf16 (m ((c : Thread nD τ).loc main_arg2)) bitsLt_bf16_f32 := by
  simp only [V, hostOps0, hostOps0_1, hostOps0_2, List.flatten_cons, List.flatten_nil, List.append_nil, List.cons_append, List.nil_append]
  after_results

theorem V_weightQ : V m c main_v20 = weightQ (m ((c : Thread nD τ).loc main_arg3)) := by
  simp only [V, hostOps0, hostOps0_1, hostOps0_2, List.flatten_cons, List.flatten_nil, List.append_nil, List.cons_append, List.nil_append]
  after_results
  rfl

theorem V_weightK : V m c main_v24 = weightK (m ((c : Thread nD τ).loc main_arg4)) := by
  simp only [V, hostOps0, hostOps0_1, hostOps0_2, List.flatten_cons, List.flatten_nil, List.append_nil, List.cons_append, List.nil_append]
  after_results
  rfl

theorem V_mask : V m c main_v33 = mask := by
  simp only [V, hostOps0, hostOps0_1, hostOps0_2, List.flatten_cons, List.flatten_nil, List.append_nil, List.cons_append, List.nil_append]
  after_results
  rfl

end Terms

theorem weightK_apply (g : Vec Ideal S64 .f32) (j : Fin 512) : weightK g (ix2 0 j) = Heads.vec g (j.val % 64) := by
  unfold weightK tiled
  pointwise
  exact (Heads.vec_eq g ⟨j.val % 64, by omega⟩ rfl).symm

theorem weightQ_apply (g : Vec Ideal S64 .f32) (j : Fin 512) : weightQ g (ix2 0 j) = Heads.vec g (j.val % 64) * Projection.scale := by
  unfold weightQ tiled
  pointwise
  exact congrArg₂ (· * ·) (Heads.vec_eq g ⟨j.val % 64, by omega⟩ rfl).symm rfl

variable (m : (ℓ : Loc nD τ sig) → Buf (Elt Ideal) ℓ) (c : Dev nD)

/-- The arguments by row and column. -/
def args : Projection.Args where
  x := Attn.nat2 (m ((c : Thread nD τ).loc main_arg0))
  gain := Attn.nat2 (m ((c : Thread nD τ).loc main_arg1)) 0
  w := Attn.nat2 (m ((c : Thread nD τ).loc main_arg2))
  gq := Heads.vec (m ((c : Thread nD τ).loc main_arg3))
  gk := Heads.vec (m ((c : Thread nD τ).loc main_arg4))

/-! ## What the points load -/

theorem at0 (t : Fin cfg0.N) : win0_0.index t = ![t.val, 0] := by
  revert t; exact (by decide +kernel : ∀ t : Fin grid0.N, win0_0.index t = ![t.val, 0])

theorem at1 (t : Fin cfg0.N) : win0_1.index t = ![0, 0] := by
  revert t; exact (by decide +kernel : ∀ t : Fin grid0.N, win0_1.index t = ![0, 0])

theorem at2 (t : Fin cfg0.N) : win0_2.index t = ![0, 0] := by
  revert t; exact (by decide +kernel : ∀ t : Fin grid0.N, win0_2.index t = ![0, 0])

theorem at3 (t : Fin cfg0.N) : win0_3.index t = ![0, 0] := by
  revert t; exact (by decide +kernel : ∀ t : Fin grid0.N, win0_3.index t = ![0, 0])

theorem at4 (t : Fin cfg0.N) : win0_4.index t = ![0, 0] := by
  revert t; exact (by decide +kernel : ∀ t : Fin grid0.N, win0_4.index t = ![0, 0])

theorem iblk0 (t : Fin cfg0.N) (i : Fin 512) (k : Fin 1024) : iblk m c 0 t (ix2 i k) = (args m c).hidden (512 * t.val + i.val) k.val := by
  have ht : t.val < 16 := t.isLt
  have h : V m c main_v14 (ix2 ⟨512 * t.val + i.val, by omega⟩ k) = (args m c).hidden (512 * t.val + i.val) k.val := by
    rw [V_hidden]
    exact Normal.rows_nat _ _ ⟨512 * t.val + i.val, by omega⟩ k
  rw [← h]
  blk_ext [iblk, at0 t]

theorem iblk1 (t : Fin cfg0.N) (k : Fin 1024) (j : Fin 2560) : iblk m c 1 t (ix2 k j) = (args m c).w k.val j.val := by
  refine Eq.trans ?_ (Attn.nat2_eq _ k j rfl rfl).symm
  have h : (m ((c : Thread nD τ).loc main_arg2)) (ix2 k j) = V m c main_v25 (ix2 k j) := by rw [V_weight]; rfl
  rw [h]
  blk_ext [iblk, at1 t]

theorem iblk2 (t : Fin cfg0.N) (j : Fin 512) : iblk m c 2 t (ix2 0 j) = (args m c).gq (j.val % 64) * Projection.scale := by
  refine Eq.trans ?_ (weightQ_apply _ j)
  rw [← V_weightQ m c]
  blk_ext [iblk, at2 t]

theorem iblk3 (t : Fin cfg0.N) (j : Fin 512) : iblk m c 3 t (ix2 0 j) = (args m c).gk (j.val % 64) := by
  refine Eq.trans ?_ (weightK_apply _ j)
  rw [← V_weightK m c]
  blk_ext [iblk, at3 t]

theorem iblk4 (t : Fin cfg0.N) (k j : Fin 512) : iblk m c 4 t (ix2 k j) = Heads.same k.val j.val := by
  rw [← mask_apply, ← V_mask m c]
  blk_ext [iblk, at4 t]

/-! ## What they leave -/

theorem product_at (t : Fin cfg0.N) (i : Fin 512) (j : Fin 2560) :
    whole (iblk m c 0 t) (iblk m c 1 t) (ix2 i j) = (args m c).product (512 * t.val + i.val) j.val :=
  Finset.sum_congr rfl fun k _ => congrArg₂ (· * ·) (iblk0 m c t i k) (iblk1 m c t k j)

/-- Every element of the rows, of the normalisation's weights and of the projection's weight is finite. -/
structure FiniteArgs : Prop where
  x : ∀ (i : Fin 8192) (k : Fin 1024), Heads.Finite ((args m c).x i.val k.val)
  gain : ∀ k : Fin 1024, Heads.Finite ((args m c).gain k.val)
  w : ∀ (k : Fin 1024) (j : Fin 2560), Heads.Finite ((args m c).w k.val j.val)

variable {m c} in
theorem FiniteArgs.product (h : FiniteArgs m c) (i : Fin 8192) (j : Fin 2560) : Heads.Finite ((args m c).product i.val j.val) :=
  Projection.finite_product _ _ _ (h.x i) h.gain fun k => h.w k j

/-- The mean square that the kernel takes of 512 columns is the heads'. -/
theorem square_at (h : FiniteArgs m c) (t : Fin cfg0.N) (o : ℕ) (ho : o + 512 ≤ 2560)
    (inb : ∀ a : Fin 2, (![0, o] : Fin 2 → ℕ) a + S512x512.size a ≤ S512x2560.size a) (i j : Fin 512) :
    square (columnsOf (iblk m c 0 t) (iblk m c 1 t) o inb) (iblk m c 4 t) i j
      = Heads.square (fun k => (args m c).product (512 * t.val + i.val) (o + k)) j.val := by
  have ht : t.val < 16 := t.isLt
  have hb : ∀ k : Fin 512, _ := fun k => iblk4 m c t k j
  have hk : ∀ k : Fin 512, columnsOf (iblk m c 0 t) (iblk m c 1 t) o inb (ix2 i k) = (args m c).product (512 * t.val + i.val) (o + k.val) :=
    fun k => (columnsOf_apply _ _ o inb i k ⟨o + k.val, by omega⟩ rfl).trans (product_at m c t i _)
  have hkk : ∀ k : Fin 512, _ := fun k => congrArg₂ (fun a b : EReal => a * b) (hk k) (hk k)
  refine Eq.trans ?_ (Heads.square_split (fun k => (args m c).product (512 * t.val + i.val) (o + k)) j fun k =>
    h.product ⟨512 * t.val + i.val, by omega⟩ ⟨o + k.val, by omega⟩)
  refine congrArg (fun a : EReal => a * Heads.part + Norm.eps) (congrArg₂ (fun a b : EReal => a + b)
    (Finset.sum_congr rfl fun k _ => ?_) (Finset.sum_congr rfl fun k _ => ?_))
  · exact congrArg₂ (fun a b : EReal => a * b) (hkk k) (hb k)
  · exact congrArg₂ (fun a b : EReal => a * b) (congrArg₂ (fun a b : EReal => a - b) (hkk k) (hkk k)) (hb k)

theorem normed_at (h : FiniteArgs m c) (t : Fin cfg0.N) (o : ℕ) (ho : o + 512 ≤ 2560)
    (inb : ∀ a : Fin 2, (![0, o] : Fin 2 → ℕ) a + S512x512.size a ≤ S512x2560.size a) (i j : Fin 512) :
    (columnsOf (iblk m c 0 t) (iblk m c 1 t) o inb (ix2 i j) : EReal)
        * Ideal.rsqrt (square (columnsOf (iblk m c 0 t) (iblk m c 1 t) o inb) (iblk m c 4 t) i j)
      = (args m c).normed o (512 * t.val + i.val) j.val := by
  rw [square_at m c h t o ho inb i j]
  exact congrArg₂ (fun a b : EReal => a * b)
    ((columnsOf_apply _ _ o inb i j ⟨o + j.val, by omega⟩ rfl).trans (product_at m c t i _)) rfl

theorem q_at (h : FiniteArgs m c) (t : Fin cfg0.N) (i j : Fin 512) :
    k0_pay6 (columnsOf (iblk m c 0 t) (iblk m c 1 t) 1024 inb_S512x2560_S512x512_0_1024) (iblk m c 4 t) (iblk m c 2 t) (ix2 i j)
      = (args m c).q (512 * t.val + i.val) j.val := by
  refine (pay6_apply _ _ _ i j).trans ((congrArg₂ (fun a b : EReal => a * b)
    (normed_at m c h t 1024 (by norm_num) inb_S512x2560_S512x512_0_1024 i j) (iblk2 m c t j)).trans ?_)
  exact (mul_assoc _ _ _).symm

theorem k_at (h : FiniteArgs m c) (t : Fin cfg0.N) (i j : Fin 512) :
    k0_pay1 (k0_pay7 (columnsOf (iblk m c 0 t) (iblk m c 1 t) 1536 inb_S512x2560_S512x512_0_1536) (iblk m c 4 t)) (iblk m c 3 t) (ix2 i j)
      = (args m c).k (512 * t.val + i.val) j.val :=
  (pay7_apply _ _ _ i j).trans (congrArg₂ (fun a b : EReal => a * b)
    (normed_at m c h t 1536 (by norm_num) inb_S512x2560_S512x512_0_1536 i j) (iblk3 m c t j))

/-! ## The arrays -/

theorem at5 (t : Fin cfg0.N) : win0_5.index t = ![t.val, 0] := by
  revert t; exact (by decide +kernel : ∀ t : Fin grid0.N, win0_5.index t = ![t.val, 0])

theorem at6 (t : Fin cfg0.N) : win0_6.index t = ![t.val, 0] := by
  revert t; exact (by decide +kernel : ∀ t : Fin grid0.N, win0_6.index t = ![t.val, 0])

theorem at7 (t : Fin cfg0.N) : win0_7.index t = ![t.val, 0] := by
  revert t; exact (by decide +kernel : ∀ t : Fin grid0.N, win0_7.index t = ![t.val, 0])

/-- The product. -/
theorem final_product (i : Fin 8192) (j : Fin 2560) : (dats m 0 c).arrAt 5 cfg0.N (ix2 i j) = (args m c).product i.val j.val := by
  refine Tiles.array (dats m 0 c) 5 (fun p => (args m c).product (p 0) (p 1)) (fun t => Tiles.rows 512 t.val) (by decide +kernel)
    (fun t => Tiles.rows_at 512 2560 (at5 t)) (fun t _ z => ?_) (ix2 i j)
  simp only [after0_5, outsAt0, product_A]
  exact (congrArg _ (eq_ix2 (n0 := 512) (n1 := 2560) z)).trans (product_at m c t _ _)

/-- The queries. -/
theorem final_q (hfin : FiniteArgs m c) (i : Fin 8192) (j : Fin 512) : (dats m 0 c).arrAt 6 cfg0.N (ix2 i j) = (args m c).q i.val j.val := by
  refine Tiles.array (dats m 0 c) 6 (fun p => (args m c).q (p 0) (p 1)) (fun t => Tiles.rows 512 t.val) (by decide +kernel)
    (fun t => Tiles.rows_at 512 512 (at6 t)) (fun t _ z => ?_) (ix2 i j)
  simp only [after0_6, outsAt0, q_A]
  exact (congrArg _ (eq_ix2 (n0 := 512) (n1 := 512) z)).trans (q_at m c hfin t _ _)

/-- The keys. -/
theorem final_k (hfin : FiniteArgs m c) (i : Fin 8192) (j : Fin 512) : (dats m 0 c).arrAt 7 cfg0.N (ix2 i j) = (args m c).k i.val j.val := by
  refine Tiles.array (dats m 0 c) 7 (fun p => (args m c).k (p 0) (p 1)) (fun t => Tiles.rows 512 t.val) (by decide +kernel)
    (fun t => Tiles.rows_at 512 512 (at7 t)) (fun t _ z => ?_) (ix2 i j)
  simp only [after0_7, outsAt0, k_A]
  exact (congrArg _ (eq_ix2 (n0 := 512) (n1 := 512) z)).trans (k_at m c hfin t _ _)

end Cert.ProjIdeal.Step

end
-- ==== Proof.HeadNorm.lean ====
/- The backward pass of a normalisation head by head, lane by lane: the form with the cube of the reciprocal root, which the
   kernels compute, and the form that differentiation gives. -/
module

public import proofs.«01_k».proof.Proof.Heads

@[expose] public section

noncomputable section

namespace Cert.HeadNorm

open Idealize.ShloMosaic

/-- The arguments by row and column: the gradient of the normalised lanes, the array whose columns from `o` on were
    normalised, the normalisation's weights by lane, and the array that the result is stored in, at the same columns. -/
structure Args where
  d : ℕ → ℕ → EReal
  p : ℕ → ℕ → EReal
  gain : ℕ → EReal
  base : ℕ → ℕ → EReal

variable (G : Args) (o : ℕ)

/-- The lanes of row `t` that were normalised. -/
def Args.lane (t j : ℕ) : EReal := G.p t (o + j)

/-- The gradient times the weights. -/
def Args.scaled (t j : ℕ) : EReal := G.d t j * G.gain j

/-- The gradient of the lanes. -/
def Args.dx (t j : ℕ) : EReal :=
  Heads.root (G.lane o t) j * G.scaled t j
    - G.lane o t j * (Heads.root (G.lane o t) j * Heads.root (G.lane o t) j * Heads.root (G.lane o t) j)
      * Ideal.div (Heads.sum (fun k => G.scaled t k * G.lane o t k) j) Heads.width

/-- The array with the gradient stored in its columns. -/
def Args.out (t y : ℕ) : EReal := if o ≤ y ∧ y < o + 512 then G.dx o t (y - o) else G.base t y

/-- A row's part of the gradient of the weights. -/
def Args.part (j t : ℕ) : EReal := G.d t j * G.lane o t j * Heads.root (G.lane o t) j

theorem out_inside (t j : ℕ) (hj : j < 512) : G.out o t (o + j) = G.dx o t j := by
  rw [Args.out, if_pos ⟨by omega, by omega⟩, Nat.add_sub_cancel_left]

theorem out_outside (t j : ℕ) (hj : ¬(o ≤ j ∧ j < o + 512)) : G.out o t j = G.base t j := if_neg hj

/-- Over finite lanes the mean square is a positive real. -/
theorem square_pos (f : ℕ → EReal) (j : ℕ) (h : ∀ e : Fin 64, Heads.Finite (f (j / 64 * 64 + e.val))) :
    ∃ r : ℝ, 0 < r ∧ Heads.square f j = (r : EReal) := by
  obtain ⟨e, he, hee⟩ := Norm.eps_pos
  choose y hy using h
  refine ⟨(∑ k, y k * y k) * (1 / 64) + e, ?_, ?_⟩
  · have : 0 ≤ ∑ k, y k * y k := Finset.sum_nonneg fun k _ => mul_self_nonneg _
    positivity
  · rw [Heads.square, Heads.sum, hee, Heads.width_eq, Ideal.div_coe (by norm_num), EReal.coe_add, EReal.coe_mul, ← Norm.coe_sum]
    refine congrArg (· * _ + _) (Finset.sum_congr rfl fun k _ => ?_)
    rw [EReal.coe_mul, ← hy k]

/-- The gradient in the form that differentiation gives. -/
theorem dx_eq (t j : ℕ) (hj : j < 512) (h : ∀ k : Fin 512, Heads.Finite (G.lane o t k.val)) :
    G.scaled t j * Heads.root (G.lane o t) j
        + G.lane o t j * Ideal.div (Heads.sum (fun k => G.lane o t k * G.scaled t k) j
          * (Norm.minusHalf * Ideal.div (Heads.root (G.lane o t) j) (Heads.square (G.lane o t) j))) Heads.width
        + Ideal.div (Heads.sum (fun k => G.lane o t k * G.scaled t k) j
          * (Norm.minusHalf * Ideal.div (Heads.root (G.lane o t) j) (Heads.square (G.lane o t) j))) Heads.width * G.lane o t j
      = G.dx o t j := by
  obtain ⟨r, hr, hs⟩ := square_pos (G.lane o t) j fun e => h ⟨j / 64 * 64 + e.val, by omega⟩
  rw [add_assoc, Args.dx, sub_eq_add_neg, mul_comm (G.scaled t j), Heads.width_eq, Heads.root]
  simp only [mul_comm (G.scaled t _) (G.lane o t _)]
  exact congrArg _ (Norm.twice_pull_of (by norm_num) _ (.inl ⟨r, hr, hs, h ⟨j, hj⟩⟩))

/-! ## A block of a kernel -/

section Block

variable (d p : Fin 512 → Fin 512 → EReal) (b : Fin 512 → Fin 512 → EReal) (g : Fin 512 → EReal)

/-- The reciprocal root of a head's mean square, from the matrix `b` of heads, as the kernels take it. -/
def root (i j : Fin 512) : EReal :=
  Ideal.rsqrt (((∑ k, p i k * p i k * b k j) + ∑ k, (p i k * p i k - p i k * p i k) * b k j) * Heads.part + Norm.eps)

/-- The mean over a head of the scaled gradient times the lanes. -/
def mean (i j : Fin 512) : EReal :=
  ((∑ k, d i k * g k * p i k * b k j) + ∑ k, (d i k * g k * p i k - d i k * g k * p i k) * b k j) * Heads.part

/-- The gradient of the lanes. -/
def rows (i j : Fin 512) : EReal :=
  root p b i j * (d i j * g j) - p i j * (root p b i j * root p b i j * root p b i j) * mean d p b g i j

end Block

/-- What makes the kernel's sums those of the heads: finite gradients, lanes and weights, at every row below `n`. -/
structure FiniteArgs (n : ℕ) : Prop where
  d : ∀ t < n, ∀ k : Fin 512, Heads.Finite (G.d t k.val)
  lane : ∀ t < n, ∀ k : Fin 512, Heads.Finite (G.lane o t k.val)
  gain : ∀ k : Fin 512, Heads.Finite (G.gain k.val)

variable {G o} {n : ℕ} (h : FiniteArgs G o n) (u : ℕ) (hu : u + 512 ≤ n)
include h hu

/-- A block's reciprocal roots, when its elements are those of the rows from `u` on, -/
theorem root_eq (i j : Fin 512) :
    root (fun i k => G.lane o (u + i.val) k.val) (fun k j => Heads.same k.val j.val) i j = Heads.root (G.lane o (u + i.val)) j.val := by
  rw [Heads.root, ← Heads.square_split _ j (h.lane _ (by omega))]
  rfl

/-- and its rows' gradient. -/
theorem rows_eq (i j : Fin 512) :
    rows (fun i k => G.d (u + i.val) k.val) (fun i k => G.lane o (u + i.val) k.val) (fun k j => Heads.same k.val j.val)
      (fun k => G.gain k.val) i j = G.dx o (u + i.val) j.val := by
  have hi : u + i.val < n := by omega
  have hm : mean (fun i k => G.d (u + i.val) k.val) (fun i k => G.lane o (u + i.val) k.val) (fun k j => Heads.same k.val j.val)
      (fun k => G.gain k.val) i j = Ideal.div (Heads.sum (fun k => G.scaled (u + i.val) k * G.lane o (u + i.val) k) j.val) Heads.width := by
    rw [← Heads.mul_part, ← Heads.sum_split _ j fun k => ((h.d _ hi k).mul (h.gain k)).mul (h.lane _ hi k)]
    rfl
  rw [rows, hm, root_eq h u hu]
  rfl

end Cert.HeadNorm

end
-- ==== Proof.Qb.Reference.lean ====
/- The reference's backward pass of the queries' normalisation, at an element. -/
module

public import proofs.«01_k».proof.Proof.Gen.QbRefIdeal.Run
public import proofs.«01_k».proof.Proof.HeadNorm
public import Idealize.ShloMosaic.Lib.Pipeline.ValueKit

@[expose] public section

set_option maxRecDepth 16384

noncomputable section

namespace Cert.QbRefIdeal.Terms

open Idealize.ShloMosaic Idealize.ShloMosaic.TcCoe Cert.QbRefIdeal Cert.QbRefIdeal.Gen

section Terms

variable {F : FTy → Type} [FloatOps F] (d : Vec F S8192x512 .f32) (p : Vec F S8192x2560 .f32) (g : Vec F S1x512 .f32)
  (b : Vec F S8192x2560 .bf16)

/-- The normalised columns, by head, -/
def lanes : FVec F S8192x8x64 .f32 :=
  shapeCast S8192x8x64 (extractStridedSlice S8192x512 ![0, 1024] p slices_S8192x2560_S8192x512_0_1024) shapeCasts_S8192x512_S8192x8x64

/-- and the gradient of what they became. -/
def grads : FVec F S8192x8x64 .f32 := shapeCast S8192x8x64 d shapeCasts_S8192x512_S8192x8x64

/-- The mean square plus the small constant, -/
def square (v : FVec F S8192x8x64 .f32) : FVec F S8192x8x1 .f32 :=
  addf (Host.divf (broadcastInDim S8192x8x1 ![0, 1] bcast_S8192x8_S8192x8x1_0_1
      (Host.reduceAdd (mulf v v) (constant S_ .f32 0x00000000#32) reducesTo_S8192x8x64_S8192x8_d2 h_S_))
    (broadcastInDim S8192x8x1 ![] bcast_S_S8192x8x1 (constant S_ .f32 0x42800000#32)))
    (broadcastInDim S8192x8x1 ![] bcast_S_S8192x8x1 (constant S_ .f32 0x358637BD#32))

/-- and the reciprocal of its root, along the lanes. -/
def root (v : FVec F S8192x8x64 .f32) : FVec F S8192x8x64 .f32 :=
  broadcastInDim S8192x8x64 ![0, 1, 2] bcast_S8192x8x1_S8192x8x64_0_1_2 (Host.rsqrt (square v))

/-- The gradient times the weights. -/
def scaled : FVec F S8192x8x64 .f32 :=
  mulf (grads d) (broadcastInDim S8192x8x64 ![0, 1, 2] bcast_S1x8x64_S8192x8x64_0_1_2
    (broadcastInDim S1x8x64 ![1, 2] bcast_S8x64_S1x8x64_1_2 (shapeCast S8x64 g shapeCasts_S1x512_S8x64)))

/-- The gradient of the mean square, over the number of lanes. -/
def pull (v e : FVec F S8192x8x64 .f32) : FVec F S8192x8x64 .f32 :=
  broadcastInDim S8192x8x64 ![0, 1] bcast_S8192x8_S8192x8x64_0_1 (Host.reduceAdd (Host.divf (mulf (shapeCast S8192x8x1
      (Host.reduceAdd (mulf v e) (constant S_ .f32 0x00000000#32) reducesTo_S8192x8x64_S8192x8_d2 h_S_) shapeCasts_S8192x8_S8192x8x1)
      (mulf (broadcastInDim S8192x8x1 ![] bcast_S_S8192x8x1 (constant S_ .f32 0xBF000000#32)) (Host.divf (Host.rsqrt (square v)) (square v))))
    (broadcastInDim S8192x8x1 ![] bcast_S_S8192x8x1 (constant S_ .f32 0x42800000#32)))
    (constant S_ .f32 0x00000000#32) reducesTo_S8192x8x1_S8192x8_d2 h_S_)

/-- The gradient of the lanes. -/
def dx (v : FVec F S8192x8x64 .f32) : FVec F S8192x512 .f32 :=
  shapeCast S8192x512 (addf (addf (mulf (scaled d g) (root v)) (mulf v (pull v (scaled d g)))) (mulf (pull v (scaled d g)) v))
    shapeCasts_S8192x8x64_S8192x512

/-- The array with the gradient stored in its columns. -/
def out : FVec F S8192x2560 .bf16 :=
  concatenate S8192x2560 1 [⟨S8192x1024, extractStridedSlice S8192x1024 ![0, 0] b slices_S8192x2560_S8192x1024_0_0⟩,
    ⟨S8192x512, truncf .bf16 (dx d g (lanes p)) bitsLt_bf16_f32⟩,
    ⟨S8192x1024, extractStridedSlice S8192x1024 ![0, 1536] b slices_S8192x2560_S8192x1024_0_1536⟩]
    concatenates_S8192x1024_S8192x512_S8192x1024_S8192x2560_d1

/-- The gradient of the weights. -/
def gain (v : FVec F S8192x8x64 .f32) : FVec F S1x512 .f32 :=
  shapeCast S1x512 (Host.reduceAdd (shapeCast S1x8x64 (Host.reduceAdd (mulf (mulf v (root v)) (grads d))
    (constant S_ .f32 0x00000000#32) reducesTo_S8192x8x64_S8x64_d0 h_S_) shapeCasts_S8x64_S1x8x64)
    (constant S_ .f32 0x00000000#32) reducesTo_S1x8x64_S8x64_d0 h_S_) shapeCasts_S8x64_S1x512

end Terms

section Results

variable {F : FTy → Type} [FloatOps F] (m : (ℓ : Loc nD τ sig) → Buf (Elt F) ℓ) (c : Dev nD)

/-- The reference's first result, by these names. -/
theorem out0_eq : Value.res_out0 m c = out (m ((c.tc : Thread nD τ).loc main_arg0)) (m ((c.tc : Thread nD τ).loc main_arg1))
    (m ((c.tc : Thread nD τ).loc main_arg2)) (m ((c.tc : Thread nD τ).loc main_arg3)) := by
  unfold Value.res_out0 Value.res_main_v46
  rfl

end Results

/-! ## Lanes that are columns of a matrix -/

section Values

/-- The arguments by row and column. -/
def args (d : Vec Ideal S8192x512 .f32) (p : Vec Ideal S8192x2560 .f32) (g : Vec Ideal S1x512 .f32) (b : Vec Ideal S8192x2560 .bf16) :
    HeadNorm.Args where
  d := Attn.nat2 d
  p := Attn.nat2 p
  gain := Attn.nat2 g 0
  base := Attn.nat2 b

variable (d : Vec Ideal S8192x512 .f32) (p : Vec Ideal S8192x2560 .f32) (g : Vec Ideal S1x512 .f32) (b : Vec Ideal S8192x2560 .bf16)
  (o : ℕ) (v : FVec Ideal S8192x8x64 .f32)

/-- The lanes are the columns from `o` on. -/
def Reads : Prop := ∀ (i : Fin 8192) (h : Fin 8) (e : Fin 64), v (ix3 i h e) = (args d p g b).lane o i.val (h.val * 64 + e.val)

theorem grads_apply (i : Fin 8192) (h : Fin 8) (e : Fin 64) : grads d (ix3 i h e) = (args d p g b).d i.val (h.val * 64 + e.val) := by
  unfold grads
  pointwise
  exact (Attn.nat2_eq d i ⟨h.val * 64 + e.val, by omega⟩ rfl rfl).symm

theorem scaled_apply (i : Fin 8192) (h : Fin 8) (e : Fin 64) :
    scaled d g (ix3 i h e) = (args d p g b).scaled i.val (h.val * 64 + e.val) := by
  unfold scaled
  pointwise
  exact congrArg₂ (fun a b : EReal => a * b) (grads_apply d p g b i h e)
    (Attn.nat2_eq (m := 1) (t := 0) g 0 ⟨h.val * 64 + e.val, by omega⟩ rfl rfl).symm

variable {d p g b o v} (hv : Reads d p g b o v)
include hv

theorem square_apply (i : Fin 8192) (h : Fin 8) (e : Fin 64) :
    square v (ix3 i h 0) = Heads.square ((args d p g b).lane o i.val) (h.val * 64 + e.val) := by
  have hh : (h.val * 64 + e.val) / 64 = h.val := by omega
  rw [Heads.square, Heads.sum, hh]
  simp only [← hv i h]
  unfold square
  pointwise

theorem root_apply (i : Fin 8192) (h : Fin 8) (e : Fin 64) :
    root v (ix3 i h e) = Heads.root ((args d p g b).lane o i.val) (h.val * 64 + e.val) := by
  unfold root
  pointwise
  rw [square_apply hv i h e]
  rfl

theorem pull_apply (i : Fin 8192) (h : Fin 8) (e : Fin 64) : pull v (scaled d g) (ix3 i h e)
    = Ideal.div (Heads.sum (fun k => (args d p g b).lane o i.val k * (args d p g b).scaled i.val k) (h.val * 64 + e.val)
      * (Norm.minusHalf * Ideal.div (Heads.root ((args d p g b).lane o i.val) (h.val * 64 + e.val))
        (Heads.square ((args d p g b).lane o i.val) (h.val * 64 + e.val)))) Heads.width := by
  have hh : (h.val * 64 + e.val) / 64 = h.val := by omega
  rw [Heads.root, Heads.sum, hh]
  simp only [← square_apply hv, ← hv i h, ← scaled_apply]
  unfold pull
  pointwise
  refine (Fin.sum_univ_one _).trans ?_
  rfl

theorem dx_apply (hf : ∀ (i : Fin 8192) (k : Fin 512), Heads.Finite ((args d p g b).lane o i.val k.val)) (i : Fin 8192) (j : Fin 512) :
    dx d g v (ix2 i j) = (args d p g b).dx o i.val j.val := by
  have hj : j.val / 64 * 64 + j.val % 64 = j.val := by omega
  refine Eq.trans ?_ (HeadNorm.dx_eq _ o i.val j.val j.isLt (hf i))
  unfold dx
  pointwise
  rw [hv, scaled_apply d p g b, root_apply hv, pull_apply hv]
  simp only [hj]

theorem gain_apply (j : Fin 512) : gain d v (ix2 0 j) = ∑ t : Fin 8192, (args d p g b).part o j.val t.val := by
  have hj : j.val / 64 * 64 + j.val % 64 = j.val := by omega
  unfold gain
  pointwise
  refine (Fin.sum_univ_one _).trans (Finset.sum_congr rfl fun t _ => ?_)
  rw [hv, grads_apply d p g b, root_apply hv]
  simp only [hj]
  rw [HeadNorm.Args.part, mul_comm, ← mul_assoc]

end Values

/-! ## The queries -/

section Queries

variable (d : Vec Ideal S8192x512 .f32) (p : Vec Ideal S8192x2560 .f32) (g : Vec Ideal S1x512 .f32) (b : Vec Ideal S8192x2560 .bf16)

theorem reads : Reads d p g b 1024 (lanes p) := by
  intro i h e
  unfold lanes
  pointwise
  exact (Attn.nat2_eq p i ⟨1024 + (h.val * 64 + e.val), by omega⟩ rfl rfl).symm

theorem out_apply (hf : ∀ (i : Fin 8192) (k : Fin 512), Heads.Finite ((args d p g b).lane 1024 i.val k.val)) (i : Fin 8192) (y : Fin 2560) :
    out d p g b (ix2 i y) = (args d p g b).out 1024 i.val y.val := by
  unfold out
  pointwise
  by_cases h1 : y.val < 1024
  · rw [dif_pos h1]
    exact (Attn.nat2_eq b i y rfl rfl).symm.trans (if_neg (by omega)).symm
  · rw [dif_neg h1]
    by_cases h2 : y.val - 1024 < 512
    · rw [dif_pos h2]
      exact (dx_apply (reads d p g b) hf i ⟨_, h2⟩).trans (if_pos ⟨by omega, by omega⟩).symm
    · rw [dif_neg h2]
      exact (Attn.nat2_eq b i ⟨1536 + (y.val - 1024 - 512), by omega⟩ rfl (by dsimp only; omega)).symm.trans (if_neg (by omega)).symm

end Queries

end Cert.QbRefIdeal.Terms

end
-- ==== Proof.Proj.Reference.lean ====
/- The reference's product, queries and keys, at an element. -/
module

public import proofs.«01_k».proof.Proof.Gen.ProjRefIdeal.Run
public import proofs.«01_k».proof.Proof.Proj.Spec
public import proofs.«01_k».proof.Proof.Normal
public import proofs.«01_k».proof.Proof.Qb.Reference
public import Idealize.ShloMosaic.Lib.Pipeline.ValueKit

@[expose] public section

set_option maxRecDepth 16384

noncomputable section

namespace Cert.ProjRefIdeal.Terms

open Idealize.ShloMosaic Idealize.ShloMosaic.TcCoe Cert.ProjRefIdeal Cert.ProjRefIdeal.Gen Cert.Rows

section Terms

variable {F : FTy → Type} [FloatOps F] (x : Vec F S8192x1024 .f32) (g : Vec F S1x1024 .f32) (w : Vec F S1024x2560 .f32)
  (gq gk : Vec F S64 .f32)

/-- The product of the normalised rows with the weight. -/
def product : FVec F S8192x2560 .f32 := Host.dotGeneral dot_S8192x1024_S1024x2560_S8192x2560_1_0_0_1_n_n none (Normal.rows x g) w

/-- The columns of the product that hold the queries and the keys, by head. -/
def partQ (p : Vec F S8192x2560 .f32) : FVec F S8192x8x64 .f32 :=
  shapeCast S8192x8x64 (extractStridedSlice S8192x512 ![0, 1024] p slices_S8192x2560_S8192x512_0_1024) shapeCasts_S8192x512_S8192x8x64
@[inherit_doc partQ] def partK (p : Vec F S8192x2560 .f32) : FVec F S8192x8x64 .f32 :=
  shapeCast S8192x8x64 (extractStridedSlice S8192x512 ![0, 1536] p slices_S8192x2560_S8192x512_0_1536) shapeCasts_S8192x512_S8192x8x64

/-- Each head's lanes divided by the root of their mean square, times the weights `v`. -/
def normed (z : Vec F S8192x8x64 .f32) (v : Vec F S64 .f32) : FVec F S8192x8x64 .f32 :=
  mulf (mulf z (QbRefIdeal.Terms.root z))
    (broadcastInDim S8192x8x64 ![0, 1, 2] bcast_S1x1x64_S8192x8x64_0_1_2 (broadcastInDim S1x1x64 ![2] bcast_S64_S1x1x64_2 v))

/-- The queries and the keys. -/
def q (p : Vec F S8192x2560 .f32) : FVec F S8192x512 .f32 :=
  shapeCast S8192x512 (mulf (normed (partQ p) gq) (broadcastInDim S8192x8x64 ![] bcast_S_S8192x8x64 (constant S_ .f32 0x3E000000#32)))
    shapeCasts_S8192x8x64_S8192x512
@[inherit_doc q] def k (p : Vec F S8192x2560 .f32) : FVec F S8192x512 .f32 :=
  shapeCast S8192x512 (normed (partK p) gk) shapeCasts_S8192x8x64_S8192x512

end Terms

section Values

variable (x : Vec Ideal S8192x1024 .f32) (g : Vec Ideal S1x1024 .f32) (w : Vec Ideal S1024x2560 .f32) (gq gk : Vec Ideal S64 .f32)

/-- The arguments by row and column. -/
def args : Projection.Args where
  x := Attn.nat2 x
  gain := Attn.nat2 g 0
  w := Attn.nat2 w
  gq := Heads.vec gq
  gk := Heads.vec gk

theorem product_apply (i : Fin 8192) (j : Fin 2560) : product x g w (ix2 i j) = (args x g w gq gk).product i.val j.val := by
  unfold product
  pointwise
  exact Finset.sum_congr rfl fun k _ => congrArg₂ (· * ·) (Normal.rows_nat x g i k) (Attn.nat2_eq w k j rfl rfl).symm

theorem partQ_apply (i : Fin 8192) (h : Fin 8) (e : Fin 64) :
    partQ (product x g w) (ix3 i h e) = (args x g w gq gk).product i.val (1024 + (h.val * 64 + e.val)) := by
  unfold partQ
  pointwise
  exact product_apply x g w gq gk i ⟨1024 + (h.val * 64 + e.val), by omega⟩

theorem partK_apply (i : Fin 8192) (h : Fin 8) (e : Fin 64) :
    partK (product x g w) (ix3 i h e) = (args x g w gq gk).product i.val (1536 + (h.val * 64 + e.val)) := by
  unfold partK
  pointwise
  exact product_apply x g w gq gk i ⟨1536 + (h.val * 64 + e.val), by omega⟩

/-- A normalised lane, from the lanes of its head. -/
theorem normed_apply (z : Vec Ideal S8192x8x64 .f32) (v : Vec Ideal S64 .f32) (f : ℕ → EReal) (i : Fin 8192) (h : Fin 8) (e : Fin 64)
    (hz : ∀ l : Fin 64, z (ix3 i h l) = f (h.val * 64 + l.val)) :
    normed z v (ix3 i h e) = f (h.val * 64 + e.val) * Heads.root f (h.val * 64 + e.val) * v (ix1 e) := by
  have hh : (h.val * 64 + e.val) / 64 = h.val := by omega
  rw [Heads.root, Heads.square, Heads.sum, hh, ← hz e]
  simp only [← hz]
  unfold normed QbRefIdeal.Terms.root QbRefIdeal.Terms.square
  pointwise

theorem q_apply (i : Fin 8192) (j : Fin 512) : q gq (product x g w) (ix2 i j) = (args x g w gq gk).q i.val j.val := by
  unfold q
  pointwise
  rw [normed_apply _ _ (fun l => (args x g w gq gk).product i.val (1024 + l)) i _ _ fun l => partQ_apply x g w gq gk i _ l]
  have hj : j.val / 64 * 64 + j.val % 64 = j.val := by omega
  simp only [hj]
  exact congrArg₂ (fun a b : EReal => a * b) (congrArg₂ (fun a b : EReal => a * b) rfl (Heads.vec_eq gq ⟨j.val % 64, by omega⟩ rfl).symm) rfl

theorem k_apply (i : Fin 8192) (j : Fin 512) : k gk (product x g w) (ix2 i j) = (args x g w gq gk).k i.val j.val := by
  unfold k
  pointwise
  rw [normed_apply _ _ (fun l => (args x g w gq gk).product i.val (1536 + l)) i _ _ fun l => partK_apply x g w gq gk i _ l]
  have hj : j.val / 64 * 64 + j.val % 64 = j.val := by omega
  simp only [hj]
  exact congrArg₂ (fun a b : EReal => a * b) rfl (Heads.vec_eq gk ⟨j.val % 64, by omega⟩ rfl).symm

end Values

end Cert.ProjRefIdeal.Terms

end
-- ==== Proof.Proj.Equation.lean ====
/- The projection with its queries and keys: the two programs' results are equal on finite arguments. -/
module

public import proofs.«01_k».proof.Defs
public import proofs.«01_k».proof.Proof.Gen.Pre_finite_proj
public import proofs.«01_k».proof.Proof.Proj.Arrays
public import proofs.«01_k».proof.Proof.Proj.Reference
public import Idealize.ShloMosaic.Lib.Quiescent

@[expose] public section

set_option maxRecDepth 16384

noncomputable section

namespace Cert.Projection

open Idealize.ShloMosaic Idealize.ShloMosaic.TcCoe Idealize.SL.Sem Cert.ProjIdeal Cert.Rows

/-- The precondition says that the rows and the two weights of the product are finite. -/
theorem finite_args (m : (ℓ : Loc nD τ sig) → Buf (Elt Ideal) ℓ) (h : Cert.Pre_ProjIdeal_finite_proj m) (c : Dev nD) :
    Step.FiniteArgs m c := by
  obtain ⟨h0, h1, h2⟩ := h c
  refine ⟨fun i k => ?_, fun k => ?_, fun k j => ?_⟩
  · refine (congrArg Heads.Finite (Attn.nat2_eq _ i k rfl rfl)).mpr (Heads.finite_of_lt ?_)
    rw [← Heads.infinity]
    exact congrFun h0 (ix2 i k)
  · refine (congrArg Heads.Finite (Attn.nat2_eq (m := 1) (t := 0) _ 0 k rfl rfl)).mpr (Heads.finite_of_lt ?_)
    rw [← Heads.infinity]
    exact congrFun h1 (ix2 0 k)
  · refine (congrArg Heads.Finite (Attn.nat2_eq _ k j rfl rfl)).mpr (Heads.finite_of_lt ?_)
    rw [← Heads.infinity]
    exact congrFun h2 (ix2 k j)

/-- Over the extended reals the kernel's product, queries and keys are the reference's. -/
theorem algebraic : Cert.algebraic_ProjIdeal_ProjRefIdeal_pre_finite_proj := by
  intro m g m' g' hpre hagree
  refine ⟨fun c => (Gen.dats m 0 c).arrAt 5 cfg0.N, fun c => (Gen.dats m 0 c).arrAt 6 cfg0.N, fun c => (Gen.dats m 0 c).arrAt 7 cfg0.N,
    Value.run_blocks m g, ?_⟩
  refine (θ_run ProjRefIdeal.defs _ _).mono (fun r h c => ?_) (ProjRefIdeal.Value.run m' g')
  obtain ⟨h0, h1, h2, h3, h4⟩ := hagree c
  obtain ⟨r0, r1, r2, rest⟩ := h c
  rw [h0, h1, h2] at r0
  rw [h0, h1, h2, h3] at r1
  rw [h0, h1, h2, h4] at r2
  have hf := finite_args m hpre c
  refine ⟨r0.trans ?_, r1.trans ?_, r2.trans ?_, rest⟩
  · refine matrix_ext _ _ fun i j => ?_
    exact (ProjRefIdeal.Terms.product_apply _ _ _ (m ((c : Thread nD τ).loc main_arg3)) (m ((c : Thread nD τ).loc main_arg4)) i j).trans
      (Step.final_product m c i j).symm
  · refine matrix_ext _ _ fun i j => ?_
    exact (ProjRefIdeal.Terms.q_apply _ _ _ _ (m ((c : Thread nD τ).loc main_arg4)) i j).trans (Step.final_q m c hf i j).symm
  · refine matrix_ext _ _ fun i j => ?_
    exact (ProjRefIdeal.Terms.k_apply _ _ _ (m ((c : Thread nD τ).loc main_arg3)) _ i j).trans (Step.final_k m c hf i j).symm

/-- The reference runs, leaves its arguments and ends with every counter at zero. -/
theorem frame_reference : Cert.quiescent_ProjRefIdeal := fun m g _ =>
  (θ_run ProjRefIdeal.defs _ _).mono (fun r h => ⟨fun c => (h c).2.2.2, sem_eq_zero_of_no_sems (by decide) r.2⟩)
    (ProjRefIdeal.Value.run m g)

end Cert.Projection

end
-- ==== Proof.Qb.Block.lean ====
/- What each point of the queries' backward pass leaves in its output blocks: the gradient of its 512 rows, and the sum so
   far of the gradient of the normalisation's weights. -/
module

public import proofs.«01_k».proof.Proof.Gen.QbIdeal.Frame
public import proofs.«01_k».proof.Proof.HeadNorm
public import proofs.«01_k».proof.Proof.Tiles
public import Idealize.ShloMosaic.Lib.Pipeline.ValueKit

@[expose] public section

set_option maxRecDepth 16384

noncomputable section

namespace Cert.QbIdeal.Step

open Idealize.ShloMosaic Idealize.ShloMosaic.TcCoe Cert.QbIdeal Cert.QbIdeal.Gen Cert.Rows

theorem hz : (![0, 0] : Fin 2 → Nat) = fun _ => 0 := funext fun a => by fin_cases a <;> rfl

section Cases

variable {F : FTy → Type} [FloatOps F] (c : Dev nD) (i : grid0.Coords)
  (a1 : Memref sig .tc .vmem S512x512 .f32) (h1 : a1.IsWhole) (a2 : Memref sig .tc .vmem S512x512 .f32) (h2 : a2.IsWhole)
  (a3 : Memref sig .tc .vmem S1x512 .f32) (h3 : a3.IsWhole) (a4 : Memref sig .tc .vmem S512x512 .bf16) (h4 : a4.IsWhole)
  (a5 : Memref sig .tc .vmem S512x512 .bf16) (h5 : a5.IsWhole) (a6 : Memref sig .tc .vmem S1x512 .f32) (h6 : a6.IsWhole)
  (x0 x1 : Vec F S512x512 .f32) (x2 : Vec F S1x512 .f32) (x3 : Vec F S512x512 .bf16) (xo : Vec F S1x512 .f32)

/-- The rows' gradient, -/
def rows (d p : Vec F S512x512 .f32) (g : Vec F S1x512 .f32) (b : Vec F S512x512 .bf16) : FVec F S512x512 .bf16 :=
  k0_pay1 (k0_pay6 d p g b) (k0_pay7 d p b g) (k0_pay8 p b)

/-- at the first point -/
theorem rows_A (h0 : cond0_0 i) : out0_A_4 c i a1 h1 a2 h2 a3 h3 a4 h4 a5 h5 a6 h6 h0 x0 x1 x2 x3 = rows x0 x1 x2 x3 := by
  unfold out0_A_4
  rw [View.read_writes_junk_eq_canon]
  unfold kernelRun0_A
  dsimp only
  sl_unfold_words
  rw [View.canon_unit_zero hz]
  simp only [View.readAt_eq_ld, h1.read_unread, h2.read_unread, h3.read_unread, h4.read_unread, View.ld_unit_zero (S := S512x512) hz,
    View.ld_unit_zero (S := S1x512) hz]
  rfl

/-- and at the others. -/
theorem rows_B (h0 : ¬cond0_0 i) : out0_B_4 c i a1 h1 a2 h2 a3 h3 a4 h4 a5 h5 a6 h6 h0 x0 x1 x2 x3 xo = rows x0 x1 x2 x3 := by
  unfold out0_B_4
  rw [View.read_writes_junk_eq_canon]
  unfold kernelRun0_B
  dsimp only
  sl_unfold_words
  rw [View.canon_unit_zero hz]
  simp only [View.readAt_eq_ld, h1.read_unread, h2.read_unread, h3.read_unread, h4.read_unread, View.ld_unit_zero (S := S512x512) hz,
    View.ld_unit_zero (S := S1x512) hz]
  rfl

/-- The weights' gradient: the first point stores zero and adds to it, -/
theorem gain_A (h0 : cond0_0 i) : out0_A_5 c i a1 h1 a2 h2 a3 h3 a4 h4 a5 h5 a6 h6 h0 x0 x1 x2 x3
    = k0_pay2 x0 x1 (k0_pay4 x1 x3) k0_pay3 := by
  unfold out0_A_5
  rw [View.read_writes_junk_eq_canon]
  unfold kernelRun0_A
  dsimp only
  sl_unfold_words
  rw [View.canon_cons_unit_zero (S := S1x512) hz, View.readCov_unit_zero (S := S1x512) _ hz]
  simp only [View.readAt_eq_ld, h1.read_unread, h2.read_unread, h4.read_unread, View.ld_unit_zero (S := S512x512) hz]

/-- the others to what the point before left. -/
theorem gain_B (h0 : ¬cond0_0 i) : out0_B_5 c i a1 h1 a2 h2 a3 h3 a4 h4 a5 h5 a6 h6 h0 x0 x1 x2 x3 xo
    = k0_pay2 x0 x1 (k0_pay4 x1 x3) xo := by
  unfold out0_B_5
  rw [View.read_writes_junk_eq_canon]
  unfold kernelRun0_B
  dsimp only
  sl_unfold_words
  rw [View.canon_unit_zero hz]
  simp only [View.readAt_eq_ld, h1.read_unread, h2.read_unread, h4.read_unread, h6.read_unread, View.ld_unit_zero (S := S512x512) hz,
    View.ld_unit_zero (S := S1x512) hz]

end Cases

section Values

variable (d p : Vec Ideal S512x512 .f32) (g : Vec Ideal S1x512 .f32) (b : Vec Ideal S512x512 .bf16)

theorem pay4_apply (i j : Fin 512) : k0_pay4 p b (ix2 i j) = HeadNorm.root (fun i k => p (ix2 i k)) (fun k j => b (ix2 k j)) i j := by
  unfold k0_pay4
  pointwise
  rfl

theorem pay6_apply (i j : Fin 512) : k0_pay6 d p g b (ix2 i j)
    = HeadNorm.mean (fun i k => d (ix2 i k)) (fun i k => p (ix2 i k)) (fun k j => b (ix2 k j)) (fun k => g (ix2 0 k)) i j := by
  unfold k0_pay6 k0_pay5
  pointwise
  rfl

theorem rows_apply (i j : Fin 512) : rows d p g b (ix2 i j)
    = HeadNorm.rows (fun i k => d (ix2 i k)) (fun i k => p (ix2 i k)) (fun k j => b (ix2 k j)) (fun k => g (ix2 0 k)) i j := by
  unfold rows k0_pay1 k0_pay7 k0_pay8 k0_pay5
  pointwise
  rw [pay4_apply, pay6_apply]
  rfl

theorem pay2_apply (r : FVec Ideal S512x512 .f32) (j : Fin 512) :
    k0_pay2 d p r g (ix2 0 j) = g (ix2 0 j) + ∑ i : Fin 512, d (ix2 i j) * p (ix2 i j) * r (ix2 i j) := by
  unfold k0_pay2
  pointwise

/-- A point adds its rows' parts to the weights' gradient. -/
theorem add_rows (A : HeadNorm.Args) (o n : ℕ) {d p : Vec Ideal S512x512 .f32} {r : FVec Ideal S512x512 .f32}
    (hd : ∀ i j, d (ix2 i j) = A.d (n + i.val) j.val) (hp : ∀ i j, p (ix2 i j) = A.lane o (n + i.val) j.val)
    (hr : ∀ i j, r (ix2 i j) = Heads.root (A.lane o (n + i.val)) j.val) (g : Vec Ideal S1x512 .f32) (j : Fin 512) :
    k0_pay2 d p r g (ix2 0 j) = g (ix2 0 j) + ∑ i : Fin 512, A.part o j.val (n + i.val) := by
  refine (pay2_apply d p g r j).trans (congrArg₂ (· + ·) rfl (Finset.sum_congr rfl fun i _ => ?_))
  rw [hd, hp, hr]
  rfl

theorem pay3_apply (j : Fin 512) : (k0_pay3 (F := Ideal)) (ix2 0 j) = 0 := by
  unfold k0_pay3
  pointwise

end Values

end Cert.QbIdeal.Step

end
-- ==== Proof.Gains.lean ====
/- The gradients of the gains that every head shares: the sums over the heads of the lanes' gradients. -/
module

public import proofs.«01_k».proof.Proof.Gen.QbIdeal.Frame
public import proofs.«01_k».proof.Proof.Gen.QbRefIdeal.Run
public import proofs.«01_k».proof.Proof.Heads
public import Idealize.ShloMosaic.Lib.Pipeline.ValueKit

@[expose] public section

noncomputable section

namespace Cert.Gains

open Idealize.ShloMosaic Idealize.ShloMosaic.TcCoe Cert.QbIdeal Cert.QbIdeal.Gen

section Terms

variable {F : FTy → Type} [FloatOps F] (v : FVec F S1x512 .f32)

/-- The lanes summed over the heads. -/
def summed : FVec F S64 .f32 :=
  Host.reduceAdd (shapeCast S8x64 v shapeCasts_S1x512_S8x64) (constant S_ .f32 0x00000000#32) reducesTo_S8x64_S64_d0 h_S_

/-- The sum, scaled. -/
def scaledAfter : FVec F S64 .f32 := mulf (summed v) (broadcastInDim S64 ![] bcast_S_S64 (constant S_ .f32 0x3E000000#32))

/-- The lanes in one row, then by head, and summed. -/
def flatSummed : FVec F S64 .f32 :=
  Host.reduceAdd (shapeCast S8x64 (shapeCast S512 v QbRefIdeal.Gen.shapeCasts_S1x512_S512) QbRefIdeal.Gen.shapeCasts_S512_S8x64)
    (constant S_ .f32 0x00000000#32) reducesTo_S8x64_S64_d0 h_S_

/-- The sum of the scaled lanes. -/
def scaledBefore : FVec F S64 .f32 :=
  Host.reduceAdd (shapeCast S8x64 (mulf (shapeCast S512 v QbRefIdeal.Gen.shapeCasts_S1x512_S512)
      (broadcastInDim S512 ![] QbRefIdeal.Gen.bcast_S_S512 (constant S_ .f32 0x3E000000#32))) QbRefIdeal.Gen.shapeCasts_S512_S8x64)
    (constant S_ .f32 0x00000000#32) reducesTo_S8x64_S64_d0 h_S_

end Terms

/-- An eighth. -/
theorem eighth : Ideal.ofBits .f32 0x3E000000#32 = ((1 / 8 : ℝ) : EReal) := by
  simp [Ideal.ofBits, Ideal.ieee]
  rw [← EReal.coe_mul]
  norm_num

/-- A real number that is not negative multiplies a finite sum term by term. -/
theorem sum_mul {n : ℕ} (f : Fin n → EReal) {r : ℝ} (hr : 0 ≤ r) : (∑ h, f h) * (r : EReal) = ∑ h, f h * (r : EReal) := by
  induction n with
  | zero => simp
  | succ n ih =>
    rw [Fin.sum_univ_succ, Fin.sum_univ_succ, EReal.right_distrib_of_nonneg_of_ne_top (by exact_mod_cast hr) (EReal.coe_ne_top r), ih]

variable (v : FVec Ideal S1x512 .f32)

theorem vector_ext {a : ℕ} (f g : (⟨1, ![a]⟩ : Shape).Idx → EReal) (h : ∀ i : Fin a, f (ix1 i) = g (ix1 i)) : f = g :=
  funext fun k => by
    have hk : k = ix1 (k 0) := funext fun d => by fin_cases d; rfl
    rw [hk]
    exact h _

theorem summed_apply (e : Fin 64) : summed v (ix1 e) = ∑ h : Fin 8, v (ix2 0 ⟨h.val * 64 + e.val, by omega⟩) := by
  unfold summed
  pointwise

theorem flatSummed_eq : flatSummed v = summed v := by
  refine vector_ext _ _ fun e => (Eq.trans ?_ (summed_apply v e).symm)
  unfold flatSummed
  pointwise

theorem scaledBefore_eq : scaledBefore v = scaledAfter v := by
  refine vector_ext _ _ fun e => ?_
  have hs : scaledAfter v (ix1 e) = summed v (ix1 e) * Ideal.ofBits .f32 0x3E000000#32 := by
    unfold scaledAfter
    pointwise
  rw [hs, summed_apply, eighth, sum_mul _ (by norm_num), ← eighth]
  unfold scaledBefore
  pointwise

end Cert.Gains

end
-- ==== Proof.Qb.Arrays.lean ====
/- The arrays of the queries' backward pass after the last point. -/
module

public import proofs.«01_k».proof.Proof.Qb.Block
public import proofs.«01_k».proof.Proof.Mask
public import proofs.«01_k».proof.Proof.Gains

@[expose] public section

set_option maxRecDepth 16384

noncomputable section

namespace Cert.QbIdeal.Step

open Idealize.ShloMosaic Idealize.ShloMosaic.TcCoe Idealize.SL.Sem Cert.QbIdeal Cert.QbIdeal.Gen Cert.Rows
open Cert.Mask (mask mask_apply)

/-! ## What the host prepares -/

section Terms

variable {F : FTy → Type} [FloatOps F]

variable (m : (ℓ : Loc nD τ sig) → Buf (Elt F) ℓ) (c : Dev nD)

theorem V_mask : V m c main_v7 = mask := by
  simp only [V, V0, hostOps0, hostOps0_1, hostOps0_2, List.flatten_cons, List.flatten_nil, List.append_nil, List.cons_append, List.nil_append]
  after_results
  rfl

/-- The result's array begins as the argument. -/
theorem V_base : V m c main_v8_0 = m ((c : Thread nD τ).loc main_arg3) := by
  simp only [V, V0, hostOps0, hostOps0_1, hostOps0_2, List.flatten_cons, List.flatten_nil, List.append_nil, List.cons_append, List.nil_append]
  after_results
  rfl

/-- What the host makes of the gains' gradient after the call. -/
theorem sums : Pipeline.afterTail₀ cfgs (dats m) 0 (V0 m) [hostOps1] c main_v12 = Gains.scaledAfter ((dats m 0 c).arrAt 5 cfg0.N) := by
  unfold Pipeline.afterTail₀
  simp only [hostOps1, List.flatten_cons, List.flatten_nil, List.append_nil, List.cons_append, List.nil_append]
  after_results
  exact congrArg Gains.scaledAfter (Pipeline.withArrays_arr spec0 launch0.win.arr_inj c (V0 m c) _ 5)

/-- The program runs, ends with these results and leaves its arguments. -/
theorem run (g : Dev nD → PrngReg) : θ_run defs (onTc (τ := τ) (main (F := F))) ⟨m, fun _ => 0, g⟩ fun r => ∀ c : Dev nD,
    r.2.mem ((c.tc : Thread nD τ).loc main_v8_0) = (dats m 0 c).arrAt 4 cfg0.N
    ∧ r.2.mem ((c.tc : Thread nD τ).loc main_v8_1) = (dats m 0 c).arrAt 5 cfg0.N
    ∧ r.2.mem ((c.tc : Thread nD τ).loc main_v12) = Gains.scaledAfter ((dats m 0 c).arrAt 5 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h c).1 4, (h c).1 5,
      ((h c).2 main_v12 (Pipeline.mem_restRefs_of main_v12 (by decide) (by decide))).trans (sums m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m g)

end Terms

variable (m : (ℓ : Loc nD τ sig) → Buf (Elt Ideal) ℓ) (c : Dev nD)

/-- The arguments by row and column. -/
def args : HeadNorm.Args where
  d := Attn.nat2 (m ((c : Thread nD τ).loc main_arg0))
  p := Attn.nat2 (m ((c : Thread nD τ).loc main_arg1))
  gain := Attn.nat2 (m ((c : Thread nD τ).loc main_arg2)) 0
  base := Attn.nat2 (m ((c : Thread nD τ).loc main_arg3))

/-! ## What the points load -/

theorem at0 (t : Fin cfg0.N) : win0_0.index t = ![t.val, 0] := by
  revert t; exact (by decide +kernel : ∀ t : Fin grid0.N, win0_0.index t = ![t.val, 0])

theorem at1 (t : Fin cfg0.N) : win0_1.index t = ![t.val, 2] := by
  revert t; exact (by decide +kernel : ∀ t : Fin grid0.N, win0_1.index t = ![t.val, 2])

theorem at2 (t : Fin cfg0.N) : win0_2.index t = ![0, 0] := by
  revert t; exact (by decide +kernel : ∀ t : Fin grid0.N, win0_2.index t = ![0, 0])

theorem at3 (t : Fin cfg0.N) : win0_3.index t = ![0, 0] := by
  revert t; exact (by decide +kernel : ∀ t : Fin grid0.N, win0_3.index t = ![0, 0])

theorem at4 (t : Fin cfg0.N) : win0_4.index t = ![t.val, 2] := by
  revert t; exact (by decide +kernel : ∀ t : Fin grid0.N, win0_4.index t = ![t.val, 2])

theorem at5 (t : Fin cfg0.N) : win0_5.index t = ![0, 0] := by
  revert t; exact (by decide +kernel : ∀ t : Fin grid0.N, win0_5.index t = ![0, 0])

theorem iblk0 (t : Fin cfg0.N) (i k : Fin 512) : iblk m c 0 t (ix2 i k) = (args m c).d (512 * t.val + i.val) k.val := by
  have ht : t.val < 16 := t.isLt
  refine Eq.trans ?_ (Attn.nat2_eq _ ⟨512 * t.val + i.val, by omega⟩ k rfl rfl).symm
  rw [← V_main_arg0 m c]
  blk_ext [iblk, at0 t]

theorem iblk1 (t : Fin cfg0.N) (i k : Fin 512) : iblk m c 1 t (ix2 i k) = (args m c).lane 1024 (512 * t.val + i.val) k.val := by
  have ht : t.val < 16 := t.isLt
  refine Eq.trans ?_ (Attn.nat2_eq _ ⟨512 * t.val + i.val, by omega⟩ ⟨1024 + k.val, by omega⟩ rfl rfl).symm
  rw [← V_main_arg1 m c]
  blk_ext [iblk, at1 t]

theorem iblk2 (t : Fin cfg0.N) (k : Fin 512) : iblk m c 2 t (ix2 0 k) = (args m c).gain k.val := by
  refine Eq.trans ?_ (Attn.nat2_eq (m := 1) (t := 0) (m ((c : Thread nD τ).loc main_arg2)) 0 k rfl rfl).symm
  rw [← V_main_arg2 m c]
  blk_ext [iblk, at2 t]

theorem iblk3 (t : Fin cfg0.N) (k j : Fin 512) : iblk m c 3 t (ix2 k j) = Heads.same k.val j.val := by
  rw [← mask_apply, ← V_mask m c]
  blk_ext [iblk, at3 t]

/-! ## What they leave -/

variable (hfin : HeadNorm.FiniteArgs (args m c) 1024 8192)
include hfin

theorem root_at (t : Fin cfg0.N) (i j : Fin 512) :
    k0_pay4 (iblk m c 1 t) (iblk m c 3 t) (ix2 i j) = Heads.root ((args m c).lane 1024 (512 * t.val + i.val)) j.val := by
  have ht : t.val < 16 := t.isLt
  rw [pay4_apply, ← HeadNorm.root_eq hfin (512 * t.val) (by omega) i j]
  simp only [iblk1, iblk3]

/-- The rows' gradient at a point. -/
theorem rows_at (t : Fin cfg0.N) (i j : Fin 512) :
    rows (iblk m c 0 t) (iblk m c 1 t) (iblk m c 2 t) (iblk m c 3 t) (ix2 i j) = (args m c).dx 1024 (512 * t.val + i.val) j.val := by
  have ht : t.val < 16 := t.isLt
  rw [rows_apply, ← HeadNorm.rows_eq hfin (512 * t.val) (by omega) i j]
  simp only [iblk0, iblk1, iblk2, iblk3]

theorem rows_of (t : Fin cfg0.N) (i j : Fin 512) :
    (outsAt0 m c t.val t.isLt).1 (ix2 i j) = (args m c).dx 1024 (512 * t.val + i.val) j.val := by
  by_cases h0 : t.val % 16 = 0
  · rw [outsAt0_A m c t h0, rows_A]
    exact rows_at m c hfin t i j
  · rw [outsAt0_B m c t h0, rows_B]
    exact rows_at m c hfin t i j

/-- The weights' gradient after the last point. -/
theorem sum_all (j : Fin 512) (n : ℕ) (h : n < cfg0.N) (hn : n + 1 = 16) :
    (outsAt0 m c n h).2 (ix2 0 j) = ∑ t : Fin 8192, (args m c).part 1024 j.val t.val := by
  have add : ∀ t xo, _ := fun t xo => add_rows (args m c) 1024 _ (iblk0 m c t) (iblk1 m c t) (root_at m c hfin t) xo j
  refine Tiles.running_all ((args m c).part 1024 j.val) (fun n h => (outsAt0 m c n h).2 (ix2 0 j)) (fun h => ?_) (fun n h => ?_) n h (congrArg (512 * ·) hn)
  · rw [outsAt0_A m c ⟨0, h⟩ rfl, gain_A]
    exact (add ⟨0, h⟩ _).trans (congrArg₂ (· + ·) (pay3_apply j) rfl)
  · have hn : n + 1 < 16 := h
    rw [outsAt0_B m c ⟨n + 1, h⟩ (by dsimp only; omega), gain_B]
    exact add ⟨n + 1, h⟩ _

/-! ## The arrays -/

/-- The array with the rows' gradient stored in its columns. -/
theorem final_out (i : Fin 8192) (y : Fin 2560) : (dats m 0 c).arrAt 4 cfg0.N (ix2 i y) = (args m c).out 1024 i.val y.val := by
  refine Tiles.array_into (dats m 0 c) 4 (fun p => (args m c).out 1024 (p 0) (p 1)) (fun t => Tiles.tile 512 512 t.val 2)
    (fun β => β (1 : Fin 2) = 2) (by decide +kernel) (fun t a n => ?_) (fun t _ z => ?_) (fun x hx => ?_) (ix2 i y)
  · exact Tiles.tile_at 512 512 (at4 t) a n
  · rw [after0_4]
    exact ((congrArg _ (eq_ix2 (n0 := 512) (n1 := 512) z)).trans (rows_of m c hfin t _ _)).trans
      (HeadNorm.out_inside (args m c) 1024 _ _ (z 1).isLt).symm
  · have h1 : (x 1).val < 2560 := (x 1).isLt
    have hx : (x 1).val / 512 ≠ 2 := hx
    rw [A_eq]
    refine (congrFun (V_base m c) x).trans ?_
    exact ((congrArg _ (eq_ix2 (n0 := 8192) (n1 := 2560) x)).trans (Attn.nat2_eq _ (x 0) (x 1) rfl rfl).symm).trans
      (HeadNorm.out_outside (args m c) 1024 _ (x 1).val (by omega)).symm

/-- The gradient of the normalisation's weights, written at the last point. -/
theorem final_gain (j : Fin 512) : (dats m 0 c).arrAt 5 cfg0.N (ix2 0 j) = ∑ t : Fin 8192, (args m c).part 1024 j.val t.val := by
  refine Tiles.array (dats m 0 c) 5 (fun p => (∑ t : Fin 8192, (args m c).part 1024 (p 1) t.val : EReal)) (fun _ _ n => n)
    (by decide +kernel) (fun t a n => ?_) (fun t hf z => ?_) (ix2 0 j)
  · exact Tiles.whole_at 1 512 (at5 t) a n
  · have ht : t.val = 15 := by have := (flush0_5 t).mp hf; have : t.val < 16 := t.isLt; omega
    rw [after0_5]
    exact (congrArg _ (Tiles.one_row z)).trans (sum_all m c hfin _ t.val t.isLt (congrArg (· + 1) ht))

end Cert.QbIdeal.Step

end
-- ==== Proof.Qb.Equation.lean ====
/- The backward pass of the queries' normalisation: the two programs' results are equal on finite arguments. -/
module

public import proofs.«01_k».proof.Defs
public import proofs.«01_k».proof.Proof.Gen.Pre_finite_qb
public import proofs.«01_k».proof.Proof.Qb.Arrays
public import proofs.«01_k».proof.Proof.Qb.Reference
public import Idealize.ShloMosaic.Lib.Quiescent

@[expose] public section

set_option maxRecDepth 16384

noncomputable section

namespace Cert.QueryNorm

open Idealize.ShloMosaic Idealize.ShloMosaic.TcCoe Idealize.SL.Sem Cert.QbIdeal Cert.Rows

/-- The precondition says that the gradient, the normalised columns and the weights are finite. -/
theorem finite_args (m : (ℓ : Loc nD τ sig) → Buf (Elt Ideal) ℓ) (h : Cert.Pre_QbIdeal_finite_qb m) (c : Dev nD) :
    HeadNorm.FiniteArgs (Step.args m c) 1024 8192 := by
  obtain ⟨h0, h1, h2⟩ := h c
  refine ⟨fun t ht k => ?_, fun t ht k => ?_, fun k => ?_⟩
  · refine (congrArg Heads.Finite (Attn.nat2_eq _ ⟨t, ht⟩ k rfl rfl)).mpr (Heads.finite_of_lt ?_)
    rw [← Heads.infinity]
    exact congrFun h0 (ix2 ⟨t, ht⟩ k)
  · refine (congrArg Heads.Finite (Attn.nat2_eq _ ⟨t, ht⟩ ⟨1024 + k.val, by omega⟩ rfl rfl)).mpr (Heads.finite_of_lt ?_)
    rw [← Heads.infinity]
    refine Eq.trans ?_ (congrFun h1 (ix2 ⟨t, ht⟩ k))
    unfold Cert.Pre_finite_qb.fn
    pointwise
    rfl
  · refine (congrArg Heads.Finite (Attn.nat2_eq (m := 1) (t := 0) _ 0 k rfl rfl)).mpr (Heads.finite_of_lt ?_)
    rw [← Heads.infinity]
    exact congrFun h2 (ix2 0 k)

/-- Over the extended reals the kernel's results are the reference's. -/
theorem algebraic : Cert.algebraic_QbIdeal_QbRefIdeal_pre_finite_qb := by
  intro m g m' g' hpre hagree
  refine ⟨fun c => (Gen.dats m 0 c).arrAt 4 cfg0.N, fun c => (Gen.dats m 0 c).arrAt 5 cfg0.N,
    fun c => Gains.scaledAfter (F := Ideal) ((Gen.dats m 0 c).arrAt 5 cfg0.N), Step.run m g, ?_⟩
  refine (θ_run QbRefIdeal.defs _ _).mono (fun r h c => ?_) (QbRefIdeal.Value.run m' g')
  obtain ⟨h0, h1, h2, h3⟩ := hagree c
  obtain ⟨r0, r1, r2, rest⟩ := h c
  have hf := finite_args m hpre c
  have e1 : r.2.mem ((c.tc : Thread QbRefIdeal.nD QbRefIdeal.τ).loc QbRefIdeal.main_v41) = (Gen.dats m 0 c).arrAt 5 cfg0.N := by
    rw [h0, h1] at r1
    refine r1.trans (matrix_ext _ _ fun i j => ?_)
    obtain rfl : i = 0 := Subsingleton.elim _ _
    exact (QbRefIdeal.Terms.gain_apply (QbRefIdeal.Terms.reads _ _ (m ((c : Thread nD τ).loc main_arg2)) (m ((c : Thread nD τ).loc main_arg3)))
      j).trans (Step.final_gain m c hf j).symm
  refine ⟨r0.trans ((QbRefIdeal.Terms.out0_eq m' c).trans ?_), e1, ?_, rest⟩
  · rw [h0, h1, h2, h3]
    refine matrix_ext _ _ fun i j => ?_
    exact (QbRefIdeal.Terms.out_apply _ _ _ _ (fun i k => hf.lane i.val i.isLt k) i j).trans (Step.final_out m c hf i j).symm
  · exact (r2.trans (congrArg Gains.scaledBefore (r1.symm.trans e1))).trans (Gains.scaledBefore_eq _)

/-- The reference runs, leaves its arguments and ends with every counter at zero. -/
theorem frame_reference : Cert.quiescent_QbRefIdeal := fun m g _ =>
  (θ_run QbRefIdeal.defs _ _).mono (fun r h => ⟨fun c => (h c).2.2.2, sem_eq_zero_of_no_sems (by decide) r.2⟩)
    (QbRefIdeal.Value.run m g)

end Cert.QueryNorm

end
-- ==== Proof.Kb.Block.lean ====
/- What each point of the keys' backward pass leaves in its output blocks: the gradient of its 512 rows, and the sum so
   far of the gradient of the normalisation's weights. -/
module

public import proofs.«01_k».proof.Proof.Gen.KbIdeal.Frame
public import proofs.«01_k».proof.Proof.Qb.Block
public import Idealize.ShloMosaic.Lib.Pipeline.ValueKit

@[expose] public section

set_option maxRecDepth 16384

noncomputable section

namespace Cert.KbIdeal.Step

open Idealize.ShloMosaic Idealize.ShloMosaic.TcCoe Cert.KbIdeal Cert.KbIdeal.Gen Cert.Rows

theorem hz : (![0, 0] : Fin 2 → Nat) = fun _ => 0 := funext fun a => by fin_cases a <;> rfl

section Cases

variable {F : FTy → Type} [FloatOps F] (c : Dev nD) (i : grid0.Coords)
  (a1 : Memref sig .tc .vmem S512x512 .f32) (h1 : a1.IsWhole) (a2 : Memref sig .tc .vmem S512x512 .f32) (h2 : a2.IsWhole)
  (a3 : Memref sig .tc .vmem S1x512 .f32) (h3 : a3.IsWhole) (a4 : Memref sig .tc .vmem S512x512 .bf16) (h4 : a4.IsWhole)
  (a5 : Memref sig .tc .vmem S512x512 .bf16) (h5 : a5.IsWhole) (a6 : Memref sig .tc .vmem S1x512 .f32) (h6 : a6.IsWhole)
  (x0 x1 : Vec F S512x512 .f32) (x2 : Vec F S1x512 .f32) (x3 : Vec F S512x512 .bf16) (xo : Vec F S1x512 .f32)

/-- The rows' gradient, by the queries' term: at the first point -/
theorem rows_A (h0 : cond0_0 i) : out0_A_4 c i a1 h1 a2 h2 a3 h3 a4 h4 a5 h5 a6 h6 h0 x0 x1 x2 x3 = QbIdeal.Step.rows x0 x1 x2 x3 := by
  unfold out0_A_4
  rw [View.read_writes_junk_eq_canon]
  unfold kernelRun0_A
  dsimp only
  sl_unfold_words
  rw [View.canon_unit_zero hz]
  simp only [View.readAt_eq_ld, h1.read_unread, h2.read_unread, h3.read_unread, h4.read_unread, View.ld_unit_zero (S := S512x512) hz,
    View.ld_unit_zero (S := S1x512) hz]
  rfl

/-- and at the others. -/
theorem rows_B (h0 : ¬cond0_0 i) : out0_B_4 c i a1 h1 a2 h2 a3 h3 a4 h4 a5 h5 a6 h6 h0 x0 x1 x2 x3 xo = QbIdeal.Step.rows x0 x1 x2 x3 := by
  unfold out0_B_4
  rw [View.read_writes_junk_eq_canon]
  unfold kernelRun0_B
  dsimp only
  sl_unfold_words
  rw [View.canon_unit_zero hz]
  simp only [View.readAt_eq_ld, h1.read_unread, h2.read_unread, h3.read_unread, h4.read_unread, View.ld_unit_zero (S := S512x512) hz,
    View.ld_unit_zero (S := S1x512) hz]
  rfl

/-- The weights' gradient: the first point stores zero and adds to it, -/
theorem gain_A (h0 : cond0_0 i) : out0_A_5 c i a1 h1 a2 h2 a3 h3 a4 h4 a5 h5 a6 h6 h0 x0 x1 x2 x3
    = k0_pay2 x0 x1 (k0_pay4 x1 x3) k0_pay3 := by
  unfold out0_A_5
  rw [View.read_writes_junk_eq_canon]
  unfold kernelRun0_A
  dsimp only
  sl_unfold_words
  rw [View.canon_cons_unit_zero (S := S1x512) hz, View.readCov_unit_zero (S := S1x512) _ hz]
  simp only [View.readAt_eq_ld, h1.read_unread, h2.read_unread, h4.read_unread, View.ld_unit_zero (S := S512x512) hz]

/-- the others to what the point before left. -/
theorem gain_B (h0 : ¬cond0_0 i) : out0_B_5 c i a1 h1 a2 h2 a3 h3 a4 h4 a5 h5 a6 h6 h0 x0 x1 x2 x3 xo
    = k0_pay2 x0 x1 (k0_pay4 x1 x3) xo := by
  unfold out0_B_5
  rw [View.read_writes_junk_eq_canon]
  unfold kernelRun0_B
  dsimp only
  sl_unfold_words
  rw [View.canon_unit_zero hz]
  simp only [View.readAt_eq_ld, h1.read_unread, h2.read_unread, h4.read_unread, h6.read_unread, View.ld_unit_zero (S := S512x512) hz,
    View.ld_unit_zero (S := S1x512) hz]

end Cases

/-! ## The values: those of the queries' pass -/

section Values

variable (d p : Vec Ideal S512x512 .f32) (g : Vec Ideal S1x512 .f32) (b : Vec Ideal S512x512 .bf16)

theorem pay4_apply (i j : Fin 512) : k0_pay4 p b (ix2 i j) = HeadNorm.root (fun i k => p (ix2 i k)) (fun k j => b (ix2 k j)) i j :=
  QbIdeal.Step.pay4_apply p b i j

theorem pay2_apply (r : FVec Ideal S512x512 .f32) (j : Fin 512) :
    k0_pay2 d p r g (ix2 0 j) = g (ix2 0 j) + ∑ i : Fin 512, d (ix2 i j) * p (ix2 i j) * r (ix2 i j) :=
  QbIdeal.Step.pay2_apply d p g r j

theorem pay3_apply (j : Fin 512) : (k0_pay3 (F := Ideal)) (ix2 0 j) = 0 := QbIdeal.Step.pay3_apply j

end Values

end Cert.KbIdeal.Step

end
-- ==== Proof.Kb.Arrays.lean ====
/- The arrays of the keys' backward pass after the last point. -/
module

public import proofs.«01_k».proof.Proof.Kb.Block
public import proofs.«01_k».proof.Proof.Qb.Arrays

@[expose] public section

set_option maxRecDepth 16384

noncomputable section

namespace Cert.KbIdeal.Step

open Idealize.ShloMosaic Idealize.ShloMosaic.TcCoe Idealize.SL.Sem Cert.KbIdeal Cert.KbIdeal.Gen Cert.Rows

/-! ## What the host prepares -/

section Terms

variable {F : FTy → Type} [FloatOps F]

variable (m : (ℓ : Loc nD τ sig) → Buf (Elt F) ℓ) (c : Dev nD)

theorem V_mask : V m c main_v7 = Mask.mask := by
  simp only [V, V0, hostOps0, hostOps0_1, hostOps0_2, List.flatten_cons, List.flatten_nil, List.append_nil, List.cons_append, List.nil_append]
  after_results
  rfl

/-- The result's array begins as the argument. -/
theorem V_base : V m c main_v8_0 = m ((c : Thread nD τ).loc main_arg3) := by
  simp only [V, V0, hostOps0, hostOps0_1, hostOps0_2, List.flatten_cons, List.flatten_nil, List.append_nil, List.cons_append, List.nil_append]
  after_results
  rfl

/-- What the host makes of the gains' gradient after the call. -/
theorem sums : Pipeline.afterTail₀ cfgs (dats m) 0 (V0 m) [hostOps1] c main_v10 = Gains.summed ((dats m 0 c).arrAt 5 cfg0.N) := by
  unfold Pipeline.afterTail₀
  simp only [hostOps1, List.flatten_cons, List.flatten_nil, List.append_nil, List.cons_append, List.nil_append]
  after_results
  exact congrArg Gains.summed (Pipeline.withArrays_arr spec0 launch0.win.arr_inj c (V0 m c) _ 5)

/-- The program runs, ends with these results and leaves its arguments. -/
theorem run (g : Dev nD → PrngReg) : θ_run defs (onTc (τ := τ) (main (F := F))) ⟨m, fun _ => 0, g⟩ fun r => ∀ c : Dev nD,
    r.2.mem ((c.tc : Thread nD τ).loc main_v8_0) = (dats m 0 c).arrAt 4 cfg0.N
    ∧ r.2.mem ((c.tc : Thread nD τ).loc main_v8_1) = (dats m 0 c).arrAt 5 cfg0.N
    ∧ r.2.mem ((c.tc : Thread nD τ).loc main_v10) = Gains.summed ((dats m 0 c).arrAt 5 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h c).1 4, (h c).1 5,
      ((h c).2 main_v10 (Pipeline.mem_restRefs_of main_v10 (by decide) (by decide))).trans (sums m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m g)

end Terms

variable (m : (ℓ : Loc nD τ sig) → Buf (Elt Ideal) ℓ) (c : Dev nD)

/-- The arguments by row and column. -/
def args : HeadNorm.Args where
  d := Attn.nat2 (m ((c : Thread nD τ).loc main_arg0))
  p := Attn.nat2 (m ((c : Thread nD τ).loc main_arg1))
  gain := Attn.nat2 (m ((c : Thread nD τ).loc main_arg2)) 0
  base := Attn.nat2 (m ((c : Thread nD τ).loc main_arg3))

/-! ## What the points load -/

theorem at0 (t : Fin cfg0.N) : win0_0.index t = ![t.val, 0] := by
  revert t; exact (by decide +kernel : ∀ t : Fin grid0.N, win0_0.index t = ![t.val, 0])

theorem at1 (t : Fin cfg0.N) : win0_1.index t = ![t.val, 3] := by
  revert t; exact (by decide +kernel : ∀ t : Fin grid0.N, win0_1.index t = ![t.val, 3])

theorem at2 (t : Fin cfg0.N) : win0_2.index t = ![0, 0] := by
  revert t; exact (by decide +kernel : ∀ t : Fin grid0.N, win0_2.index t = ![0, 0])

theorem at3 (t : Fin cfg0.N) : win0_3.index t = ![0, 0] := by
  revert t; exact (by decide +kernel : ∀ t : Fin grid0.N, win0_3.index t = ![0, 0])

theorem at4 (t : Fin cfg0.N) : win0_4.index t = ![t.val, 3] := by
  revert t; exact (by decide +kernel : ∀ t : Fin grid0.N, win0_4.index t = ![t.val, 3])

theorem at5 (t : Fin cfg0.N) : win0_5.index t = ![0, 0] := by
  revert t; exact (by decide +kernel : ∀ t : Fin grid0.N, win0_5.index t = ![0, 0])

theorem iblk0 (t : Fin cfg0.N) (i k : Fin 512) : iblk m c 0 t (ix2 i k) = (args m c).d (512 * t.val + i.val) k.val := by
  have ht : t.val < 16 := t.isLt
  refine Eq.trans ?_ (Attn.nat2_eq _ ⟨512 * t.val + i.val, by omega⟩ k rfl rfl).symm
  rw [← V_main_arg0 m c]
  blk_ext [iblk, at0 t]

theorem iblk1 (t : Fin cfg0.N) (i k : Fin 512) : iblk m c 1 t (ix2 i k) = (args m c).lane 1536 (512 * t.val + i.val) k.val := by
  have ht : t.val < 16 := t.isLt
  refine Eq.trans ?_ (Attn.nat2_eq _ ⟨512 * t.val + i.val, by omega⟩ ⟨1536 + k.val, by omega⟩ rfl rfl).symm
  rw [← V_main_arg1 m c]
  blk_ext [iblk, at1 t]

theorem iblk2 (t : Fin cfg0.N) (k : Fin 512) : iblk m c 2 t (ix2 0 k) = (args m c).gain k.val := by
  refine Eq.trans ?_ (Attn.nat2_eq (m := 1) (t := 0) (m ((c : Thread nD τ).loc main_arg2)) 0 k rfl rfl).symm
  rw [← V_main_arg2 m c]
  blk_ext [iblk, at2 t]

theorem iblk3 (t : Fin cfg0.N) (k j : Fin 512) : iblk m c 3 t (ix2 k j) = Heads.same k.val j.val := by
  rw [← Mask.mask_apply, ← V_mask m c]
  blk_ext [iblk, at3 t]

/-! ## What they leave -/

variable (hfin : HeadNorm.FiniteArgs (args m c) 1536 8192)
include hfin

theorem root_at (t : Fin cfg0.N) (i j : Fin 512) :
    k0_pay4 (iblk m c 1 t) (iblk m c 3 t) (ix2 i j) = Heads.root ((args m c).lane 1536 (512 * t.val + i.val)) j.val := by
  have ht : t.val < 16 := t.isLt
  rw [pay4_apply, ← HeadNorm.root_eq hfin (512 * t.val) (by omega) i j]
  simp only [iblk1, iblk3]

/-- The rows' gradient at a point. -/
theorem rows_at (t : Fin cfg0.N) (i j : Fin 512) :
    QbIdeal.Step.rows (iblk m c 0 t) (iblk m c 1 t) (iblk m c 2 t) (iblk m c 3 t) (ix2 i j) = (args m c).dx 1536 (512 * t.val + i.val) j.val := by
  have ht : t.val < 16 := t.isLt
  rw [QbIdeal.Step.rows_apply, ← HeadNorm.rows_eq hfin (512 * t.val) (by omega) i j]
  simp only [iblk0, iblk1, iblk2, iblk3]

theorem rows_of (t : Fin cfg0.N) (i j : Fin 512) :
    (outsAt0 m c t.val t.isLt).1 (ix2 i j) = (args m c).dx 1536 (512 * t.val + i.val) j.val := by
  by_cases h0 : t.val % 16 = 0
  · rw [outsAt0_A m c t h0, rows_A]
    exact rows_at m c hfin t i j
  · rw [outsAt0_B m c t h0, rows_B]
    exact rows_at m c hfin t i j

/-- The weights' gradient after the last point. -/
theorem sum_all (j : Fin 512) (n : ℕ) (h : n < cfg0.N) (hn : n + 1 = 16) :
    (outsAt0 m c n h).2 (ix2 0 j) = ∑ t : Fin 8192, (args m c).part 1536 j.val t.val := by
  have add : ∀ (t : Fin cfg0.N) (xo : Vec Ideal S1x512 .f32), _ := fun t xo =>
    QbIdeal.Step.add_rows (args m c) 1536 _ (iblk0 m c t) (iblk1 m c t) (root_at m c hfin t) xo j
  refine Tiles.running_all ((args m c).part 1536 j.val) (fun n h => (outsAt0 m c n h).2 (ix2 0 j)) (fun h => ?_) (fun n h => ?_) n h
    (congrArg (512 * ·) hn)
  · rw [outsAt0_A m c ⟨0, h⟩ rfl, gain_A]
    exact (add ⟨0, h⟩ _).trans (congrArg₂ (· + ·) (pay3_apply j) rfl)
  · have hn : n + 1 < 16 := h
    rw [outsAt0_B m c ⟨n + 1, h⟩ (by dsimp only; omega), gain_B]
    exact add ⟨n + 1, h⟩ _

/-! ## The arrays -/

/-- The array with the rows' gradient stored in its columns. -/
theorem final_out (i : Fin 8192) (y : Fin 2560) : (dats m 0 c).arrAt 4 cfg0.N (ix2 i y) = (args m c).out 1536 i.val y.val := by
  refine Tiles.array_into (dats m 0 c) 4 (fun p => (args m c).out 1536 (p 0) (p 1)) (fun t => Tiles.tile 512 512 t.val 3)
    (fun β => β (1 : Fin 2) = 3) (by decide +kernel) (fun t a n => ?_) (fun t _ z => ?_) (fun x hx => ?_) (ix2 i y)
  · exact Tiles.tile_at 512 512 (at4 t) a n
  · rw [after0_4]
    exact ((congrArg _ (eq_ix2 (n0 := 512) (n1 := 512) z)).trans (rows_of m c hfin t _ _)).trans
      (HeadNorm.out_inside (args m c) 1536 _ _ (z 1).isLt).symm
  · have h1 : (x 1).val < 2560 := (x 1).isLt
    have hx : (x 1).val / 512 ≠ 3 := hx
    rw [A_eq]
    refine (congrFun (V_base m c) x).trans ?_
    exact ((congrArg _ (eq_ix2 (n0 := 8192) (n1 := 2560) x)).trans (Attn.nat2_eq _ (x 0) (x 1) rfl rfl).symm).trans
      (HeadNorm.out_outside (args m c) 1536 _ (x 1).val (by omega)).symm

/-- The gradient of the normalisation's weights, written at the last point. -/
theorem final_gain (j : Fin 512) : (dats m 0 c).arrAt 5 cfg0.N (ix2 0 j) = ∑ t : Fin 8192, (args m c).part 1536 j.val t.val := by
  refine Tiles.array (dats m 0 c) 5 (fun p => (∑ t : Fin 8192, (args m c).part 1536 (p 1) t.val : EReal)) (fun _ _ n => n)
    (by decide +kernel) (fun t a n => ?_) (fun t hf z => ?_) (ix2 0 j)
  · exact Tiles.whole_at 1 512 (at5 t) a n
  · have ht : t.val = 15 := by have := (flush0_5 t).mp hf; have : t.val < 16 := t.isLt; omega
    rw [after0_5]
    exact (congrArg _ (Tiles.one_row z)).trans (sum_all m c hfin _ t.val t.isLt (congrArg (· + 1) ht))

end Cert.KbIdeal.Step

end
-- ==== Proof.Kb.Reference.lean ====
/- The reference's backward pass of the keys' normalisation, at an element: that of the queries, at other columns. -/
module

public import proofs.«01_k».proof.Proof.Gen.KbRefIdeal.Run
public import proofs.«01_k».proof.Proof.Qb.Reference

@[expose] public section

set_option maxRecDepth 16384

noncomputable section

namespace Cert.KbRefIdeal.Terms

open Idealize.ShloMosaic Idealize.ShloMosaic.TcCoe Cert.KbRefIdeal Cert.KbRefIdeal.Gen
open Cert.QbRefIdeal.Terms (dx args Reads dx_apply)

section Terms

variable {F : FTy → Type} [FloatOps F] (d : Vec F S8192x512 .f32) (p : Vec F S8192x2560 .f32) (g : Vec F S1x512 .f32)
  (b : Vec F S8192x2560 .bf16)

/-- The normalised columns, by head. -/
def lanes : FVec F S8192x8x64 .f32 :=
  shapeCast S8192x8x64 (extractStridedSlice S8192x512 ![0, 1536] p slices_S8192x2560_S8192x512_0_1536) shapeCasts_S8192x512_S8192x8x64

/-- The array with the gradient stored in its columns. -/
def out : FVec F S8192x2560 .bf16 :=
  concatenate S8192x2560 1 [⟨S8192x1536, extractStridedSlice S8192x1536 ![0, 0] b slices_S8192x2560_S8192x1536_0_0⟩,
    ⟨S8192x512, truncf .bf16 (dx d g (lanes p)) bitsLt_bf16_f32⟩,
    ⟨S8192x512, extractStridedSlice S8192x512 ![0, 2048] b slices_S8192x2560_S8192x512_0_2048⟩]
    concatenates_S8192x1536_S8192x512_S8192x512_S8192x2560_d1

end Terms

section Results

variable {F : FTy → Type} [FloatOps F] (m : (ℓ : Loc nD τ sig) → Buf (Elt F) ℓ) (c : Dev nD)

/-- The reference's first result, by these names. -/
theorem out0_eq : Value.res_out0 m c = out (m ((c.tc : Thread nD τ).loc main_arg0)) (m ((c.tc : Thread nD τ).loc main_arg1))
    (m ((c.tc : Thread nD τ).loc main_arg2)) (m ((c.tc : Thread nD τ).loc main_arg3)) := by
  unfold Value.res_out0 Value.res_main_v46
  rfl

end Results

section Values

variable (d : Vec Ideal S8192x512 .f32) (p : Vec Ideal S8192x2560 .f32) (g : Vec Ideal S1x512 .f32) (b : Vec Ideal S8192x2560 .bf16)

theorem reads : Reads d p g b 1536 (lanes p) := by
  intro i h e
  unfold lanes
  pointwise
  exact (Attn.nat2_eq p i ⟨1536 + (h.val * 64 + e.val), by omega⟩ rfl rfl).symm

theorem out_apply (hf : ∀ (i : Fin 8192) (k : Fin 512), Heads.Finite ((args d p g b).lane 1536 i.val k.val)) (i : Fin 8192) (y : Fin 2560) :
    out d p g b (ix2 i y) = (args d p g b).out 1536 i.val y.val := by
  unfold out
  pointwise
  by_cases h1 : y.val < 1536
  · rw [dif_pos h1]
    exact (Attn.nat2_eq b i y rfl rfl).symm.trans (if_neg (by omega)).symm
  · rw [dif_neg h1]
    by_cases h2 : y.val - 1536 < 512
    · rw [dif_pos h2]
      exact (dx_apply (reads d p g b) hf i ⟨_, h2⟩).trans (if_pos ⟨by omega, by omega⟩).symm
    · rw [dif_neg h2]
      exact (Attn.nat2_eq b i ⟨2048 + (y.val - 1536 - 512), by omega⟩ rfl (by dsimp only; omega)).symm.trans (if_neg (by omega)).symm

end Values

end Cert.KbRefIdeal.Terms

end
-- ==== Proof.Kb.Equation.lean ====
/- The backward pass of the keys' normalisation: the two programs' results are equal on finite arguments. -/
module

public import proofs.«01_k».proof.Defs
public import proofs.«01_k».proof.Proof.Gen.Pre_finite_kb
public import proofs.«01_k».proof.Proof.Kb.Arrays
public import proofs.«01_k».proof.Proof.Kb.Reference
public import Idealize.ShloMosaic.Lib.Quiescent

@[expose] public section

set_option maxRecDepth 16384

noncomputable section

namespace Cert.KeyNorm

open Idealize.ShloMosaic Idealize.ShloMosaic.TcCoe Idealize.SL.Sem Cert.KbIdeal Cert.Rows

/-- The precondition says that the gradient, the normalised columns and the weights are finite. -/
theorem finite_args (m : (ℓ : Loc nD τ sig) → Buf (Elt Ideal) ℓ) (h : Cert.Pre_KbIdeal_finite_kb m) (c : Dev nD) :
    HeadNorm.FiniteArgs (Step.args m c) 1536 8192 := by
  obtain ⟨h0, h1, h2⟩ := h c
  refine ⟨fun t ht k => ?_, fun t ht k => ?_, fun k => ?_⟩
  · refine (congrArg Heads.Finite (Attn.nat2_eq _ ⟨t, ht⟩ k rfl rfl)).mpr (Heads.finite_of_lt ?_)
    rw [← Heads.infinity]
    exact congrFun h0 (ix2 ⟨t, ht⟩ k)
  · refine (congrArg Heads.Finite (Attn.nat2_eq _ ⟨t, ht⟩ ⟨1536 + k.val, by omega⟩ rfl rfl)).mpr (Heads.finite_of_lt ?_)
    rw [← Heads.infinity]
    refine Eq.trans ?_ (congrFun h1 (ix2 ⟨t, ht⟩ k))
    unfold Cert.Pre_finite_kb.fn
    pointwise
    rfl
  · refine (congrArg Heads.Finite (Attn.nat2_eq (m := 1) (t := 0) _ 0 k rfl rfl)).mpr (Heads.finite_of_lt ?_)
    rw [← Heads.infinity]
    exact congrFun h2 (ix2 0 k)

/-- Over the extended reals the kernel's results are the reference's. -/
theorem algebraic : Cert.algebraic_KbIdeal_KbRefIdeal_pre_finite_kb := by
  intro m g m' g' hpre hagree
  refine ⟨fun c => (Gen.dats m 0 c).arrAt 4 cfg0.N, fun c => (Gen.dats m 0 c).arrAt 5 cfg0.N,
    fun c => Gains.summed (F := Ideal) ((Gen.dats m 0 c).arrAt 5 cfg0.N), Step.run m g, ?_⟩
  refine (θ_run KbRefIdeal.defs _ _).mono (fun r h c => ?_) (KbRefIdeal.Value.run m' g')
  obtain ⟨h0, h1, h2, h3⟩ := hagree c
  obtain ⟨r0, r1, r2, rest⟩ := h c
  have hf := finite_args m hpre c
  have e1 : r.2.mem ((c.tc : Thread KbRefIdeal.nD KbRefIdeal.τ).loc KbRefIdeal.main_v41) = (Gen.dats m 0 c).arrAt 5 cfg0.N := by
    rw [h0, h1] at r1
    refine r1.trans (matrix_ext _ _ fun i j => ?_)
    obtain rfl : i = 0 := Subsingleton.elim _ _
    exact (QbRefIdeal.Terms.gain_apply (KbRefIdeal.Terms.reads _ _ (m ((c : Thread nD τ).loc main_arg2)) (m ((c : Thread nD τ).loc main_arg3)))
      j).trans (Step.final_gain m c hf j).symm
  refine ⟨r0.trans ((KbRefIdeal.Terms.out0_eq m' c).trans ?_), e1, ?_, rest⟩
  · rw [h0, h1, h2, h3]
    refine matrix_ext _ _ fun i j => ?_
    exact (KbRefIdeal.Terms.out_apply _ _ _ _ (fun i k => hf.lane i.val i.isLt k) i j).trans (Step.final_out m c hf i j).symm
  · exact (r2.trans (congrArg Gains.flatSummed (r1.symm.trans e1))).trans (Gains.flatSummed_eq _)

/-- The reference runs, leaves its arguments and ends with every counter at zero. -/
theorem frame_reference : Cert.quiescent_KbRefIdeal := fun m g _ =>
  (θ_run KbRefIdeal.defs _ _).mono (fun r h => ⟨fun c => (h c).2.2.2, sem_eq_zero_of_no_sems (by decide) r.2⟩)
    (KbRefIdeal.Value.run m g)

end Cert.KeyNorm

end
-- ==== Proof.Vb.lean ====
/- The values' columns of the projection's gradient: the two programs' results are equal. -/
module

public import proofs.«01_k».proof.Defs
public import proofs.«01_k».proof.Proof.Gen.VbIdeal.Value
public import proofs.«01_k».proof.Proof.Gen.VbRefIdeal.Run
public import proofs.«01_k».proof.Proof.Tiles
public import proofs.«01_k».proof.Proof.Blocks
public import Idealize.ShloMosaic.Lib.Pipeline.ReadBack
public import Idealize.ShloMosaic.Lib.Quiescent

@[expose] public section

set_option maxRecDepth 16384

noncomputable section

namespace Cert.ValueColumns

open Idealize.ShloMosaic Idealize.ShloMosaic.TcCoe Idealize.SL.Sem Cert.Rows

/-- The array `b` with `d` stored from column 2048 on. -/
def stored (d b : ℕ → ℕ → EReal) (i j : ℕ) : EReal := if j < 2048 then b i j else d i (j - 2048)

theorem stored_inside (d b : ℕ → ℕ → EReal) (i j : ℕ) : stored d b i (512 * 4 + j) = d i j := by
  rw [stored, if_neg (by omega), Nat.add_sub_cancel_left]

theorem stored_before (d b : ℕ → ℕ → EReal) (i j : ℕ) (h : j < 2048) : stored d b i j = b i j := if_pos h

/-! ## The kernel -/

section Kernel

open Cert.VbIdeal Cert.VbIdeal.Gen

section Terms

variable {F : FTy → Type} [FloatOps F] (m : (ℓ : Loc nD τ sig) → Buf (Elt F) ℓ) (c : Dev nD)

/-- The result's array begins as the argument. -/
theorem V_base : V m c main_v0 = m ((c : Thread nD τ).loc main_arg1) := by
  simp only [V, hostOps0]
  after_results
  rfl

theorem hz : (![0, 0] : Fin 2 → Nat) = fun _ => 0 := funext fun a => by fin_cases a <;> rfl

/-- A point casts its block. -/
theorem out_eq (i : grid0.Coords) (a1 : Memref sig .tc .vmem S512x512 .f32) (h1 : a1.IsWhole)
    (a3 : Memref sig .tc .vmem S512x512 .bf16) (h3 : a3.IsWhole) (x : Vec F S512x512 .f32) :
    out0_A_1 c i a1 h1 a3 h3 x = k0_pay1 x := by
  unfold out0_A_1
  rw [View.read_writes_junk_eq_canon]
  unfold kernelRun0_A
  dsimp only
  sl_unfold_words
  rw [View.canon_unit_zero hz]
  simp only [View.readAt_eq_ld, h1.read_unread, View.ld_unit_zero (S := S512x512) hz]

end Terms

variable (m : (ℓ : Loc nD τ sig) → Buf (Elt Ideal) ℓ) (c : Dev nD)

/-- The arguments by row and column. -/
def grad : ℕ → ℕ → EReal := Attn.nat2 (m ((c : Thread nD τ).loc main_arg0))
@[inherit_doc grad] def base : ℕ → ℕ → EReal := Attn.nat2 (m ((c : Thread nD τ).loc main_arg1))

theorem at0 (t : Fin cfg0.N) : win0_0.index t = ![t.val, 0] := by
  revert t; exact (by decide +kernel : ∀ t : Fin grid0.N, win0_0.index t = ![t.val, 0])

theorem at1 (t : Fin cfg0.N) : win0_1.index t = ![t.val, 4] := by
  revert t; exact (by decide +kernel : ∀ t : Fin grid0.N, win0_1.index t = ![t.val, 4])

theorem iblk0 (t : Fin cfg0.N) (i k : Fin 512) : iblk m c 0 t (ix2 i k) = grad m c (512 * t.val + i.val) k.val := by
  have ht : t.val < 16 := t.isLt
  refine Eq.trans ?_ (Attn.nat2_eq _ ⟨512 * t.val + i.val, by omega⟩ k rfl rfl).symm
  rw [← V_main_arg0 m c]
  blk_ext [iblk, at0 t]

/-- What a point leaves in its block. -/
theorem left (t : Fin cfg0.N) (i k : Fin 512) : outsAt0 m c t (ix2 i k) = grad m c (512 * t.val + i.val) k.val := by
  unfold outsAt0
  rw [out_eq]
  exact iblk0 m c t i k

/-- The array after the last point. -/
theorem final (i : Fin 8192) (j : Fin 2560) : (dats m 0 c).arrAt 1 cfg0.N (ix2 i j) = stored (grad m c) (base m c) i.val j.val := by
  refine Tiles.array_into (dats m 0 c) 1 (fun p => stored (grad m c) (base m c) (p 0) (p 1)) (fun t => Tiles.tile 512 512 t.val 4)
    (fun β => β (1 : Fin 2) = 4) (by decide +kernel) (fun t a n => ?_) (fun t _ z => ?_) (fun x hx => ?_) (ix2 i j)
  · exact Tiles.tile_at 512 512 (at1 t) a n
  · rw [after0_1]
    exact ((congrArg _ (eq_ix2 (n0 := 512) (n1 := 512) z)).trans (left m c t _ _)).trans (stored_inside ..).symm
  · have h1 : (x 1).val < 2560 := (x 1).isLt
    have hx : (x 1).val / 512 ≠ 4 := hx
    rw [A_eq]
    refine (congrFun (V_base m c) x).trans ?_
    exact ((congrArg _ (eq_ix2 (n0 := 8192) (n1 := 2560) x)).trans (Attn.nat2_eq _ (x 0) (x 1) rfl rfl).symm).trans
      (stored_before _ _ _ (x 1).val (by omega)).symm

end Kernel

/-! ## The reference -/

section Reference

open Cert.VbRefIdeal Cert.VbRefIdeal.Gen

/-- The reference's result, -/
def out {F : FTy → Type} [FloatOps F] (d : Vec F S8192x512 .f32) (b : Vec F S8192x2560 .bf16) : FVec F S8192x2560 .bf16 :=
  concatenate S8192x2560 1 [⟨S8192x2048, extractStridedSlice S8192x2048 ![0, 0] b slices_S8192x2560_S8192x2048_0_0⟩,
    ⟨S8192x512, truncf .bf16 d bitsLt_bf16_f32⟩] concatenates_S8192x2048_S8192x512_S8192x2560_d1

/-- and an element of it. -/
theorem out_apply (d : Vec Ideal S8192x512 .f32) (b : Vec Ideal S8192x2560 .bf16) (i : Fin 8192) (j : Fin 2560) :
    out d b (ix2 i j) = stored (Attn.nat2 d) (Attn.nat2 b) i.val j.val := by
  unfold out
  pointwise
  by_cases h : j.val < 2048
  · rw [dif_pos h]
    exact (Attn.nat2_eq b i j rfl rfl).symm.trans (stored_before _ _ _ _ h).symm
  · rw [dif_neg h]
    exact (Attn.nat2_eq d i ⟨j.val - 2048, by omega⟩ rfl rfl).symm.trans (if_neg h).symm

end Reference

/-! ## The equation -/

open Cert.VbIdeal

/-- Over the extended reals the kernel's array is the reference's. -/
theorem algebraic : Cert.algebraic_VbIdeal_VbRefIdeal := by
  intro m g m' g' _ hagree
  refine ⟨fun c => (Gen.dats m 0 c).arrAt 1 cfg0.N, Value.run_blocks m g, ?_⟩
  refine (θ_run VbRefIdeal.defs _ _).mono (fun r h c => ?_) (VbRefIdeal.Value.run m' g')
  obtain ⟨h0, h1⟩ := hagree c
  obtain ⟨r0, rest⟩ := h c
  rw [h0, h1] at r0
  refine ⟨r0.trans (matrix_ext _ _ fun i j => ?_), rest⟩
  exact (out_apply _ _ i j).trans (final m c i j).symm

/-- The reference runs, leaves its arguments and ends with every counter at zero. -/
theorem frame_reference : Cert.quiescent_VbRefIdeal := fun m g _ =>
  (θ_run VbRefIdeal.defs _ _).mono (fun r h => ⟨fun c => (h c).2, sem_eq_zero_of_no_sems (by decide) r.2⟩)
    (VbRefIdeal.Value.run m g)

end Cert.ValueColumns

end
-- ==== Proof.First.lean ====
/- The first normalisation of the forward pass: the two programs' results are equal. -/
module

public import proofs.«01_k».proof.Defs
public import proofs.«01_k».proof.Proof.Gen.FirstIdeal.Value
public import proofs.«01_k».proof.Proof.Gen.FirstRefIdeal.Run
public import proofs.«01_k».proof.Proof.Normal
public import proofs.«01_k».proof.Proof.Tiles
public import proofs.«01_k».proof.Proof.Blocks
public import Idealize.ShloMosaic.Lib.Pipeline.ReadBack
public import Idealize.ShloMosaic.Lib.Quiescent

@[expose] public section

set_option maxRecDepth 16384

noncomputable section

namespace Cert.FirstNorm

open Idealize.ShloMosaic Idealize.ShloMosaic.TcCoe Idealize.SL.Sem Cert.Rows

/-- A row's element times the reciprocal root of the row's mean square, times the gain. -/
def rows (x : ℕ → ℕ → EReal) (g : ℕ → EReal) (t j : ℕ) : EReal := x t j * Norm.root (fun k : Fin 1024 => x t k.val) * g j

/-! ## The kernel -/

section Kernel

open Cert.FirstIdeal Cert.FirstIdeal.Gen

variable (m : (ℓ : Loc nD τ sig) → Buf (Elt Ideal) ℓ) (c : Dev nD)

/-- The arguments by row and column. -/
def x : ℕ → ℕ → EReal := Attn.nat2 (m ((c : Thread nD τ).loc main_arg0))
@[inherit_doc x] def gain : ℕ → EReal := Attn.nat2 (m ((c : Thread nD τ).loc main_arg1)) 0

theorem hz : (![0, 0] : Fin 2 → Nat) = fun _ => 0 := funext fun a => by fin_cases a <;> rfl

theorem pay_apply (x : Vec Ideal S512x1024 .f32) (g : Vec Ideal S1x1024 .f32) (i : Fin 512) (j : Fin 1024) :
    k0_pay1 x g (ix2 i j) = x (ix2 i j) * Norm.root (fun k : Fin 1024 => x (ix2 i k)) * g (ix2 0 j) := by
  unfold k0_pay1
  pointwise
  rfl

theorem at0 (t : Fin cfg0.N) : win0_0.index t = ![t.val, 0] := by
  revert t; exact (by decide +kernel : ∀ t : Fin grid0.N, win0_0.index t = ![t.val, 0])

theorem at1 (t : Fin cfg0.N) : win0_1.index t = ![0, 0] := by
  revert t; exact (by decide +kernel : ∀ t : Fin grid0.N, win0_1.index t = ![0, 0])

theorem at2 (t : Fin cfg0.N) : win0_2.index t = ![t.val, 0] := by
  revert t; exact (by decide +kernel : ∀ t : Fin grid0.N, win0_2.index t = ![t.val, 0])

theorem iblk0 (t : Fin cfg0.N) (i : Fin 512) (k : Fin 1024) : iblk m c 0 t (ix2 i k) = x m c (512 * t.val + i.val) k.val := by
  have ht : t.val < 16 := t.isLt
  refine Eq.trans ?_ (Attn.nat2_eq _ ⟨512 * t.val + i.val, by omega⟩ k rfl rfl).symm
  rw [← V_main_arg0 m c]
  blk_ext [iblk, at0 t]

theorem iblk1 (t : Fin cfg0.N) (k : Fin 1024) : iblk m c 1 t (ix2 0 k) = gain m c k.val := by
  refine Eq.trans ?_ (Attn.nat2_eq (m := 1) (t := 0) (m ((c : Thread nD τ).loc main_arg1)) 0 k rfl rfl).symm
  rw [← V_main_arg1 m c]
  blk_ext [iblk, at1 t]

/-- What a point leaves in its block. -/
theorem left (t : Fin cfg0.N) (i : Fin 512) (j : Fin 1024) :
    out0_2 (iblk m c 0 t) (iblk m c 1 t) (ix2 i j) = rows (x m c) (gain m c) (512 * t.val + i.val) j.val := by
  unfold out0_2
  rw [View.canon_unit_zero hz, View.ld_unit_zero (S := S512x1024) hz, View.ld_unit_zero (S := S1x1024) hz, pay_apply]
  simp only [iblk0, iblk1]
  rfl

/-- The array after the last point. -/
theorem final (i : Fin 8192) (j : Fin 1024) : (dats m 0 c).arrAt 2 cfg0.N (ix2 i j) = rows (x m c) (gain m c) i.val j.val := by
  refine Tiles.array (dats m 0 c) 2 (fun p => rows (x m c) (gain m c) (p 0) (p 1)) (fun t => Tiles.rows 512 t.val) (by decide +kernel)
    (fun t a n => ?_) (fun t _ z => ?_) (ix2 i j)
  · exact Tiles.rows_at 512 1024 (at2 t) a n
  · rw [after0_2]
    exact (congrArg _ (eq_ix2 (n0 := 512) (n1 := 1024) z)).trans (left m c t _ _)

end Kernel

/-! ## The equation -/

open Cert.FirstIdeal

/-- Over the extended reals the kernel's normalised rows are the reference's. -/
theorem algebraic : Cert.algebraic_FirstIdeal_FirstRefIdeal := by
  intro m g m' g' _ hagree
  refine ⟨fun c => (Gen.dats m 0 c).arrAt 2 cfg0.N, Value.run_blocks m g, ?_⟩
  refine (θ_run FirstRefIdeal.defs _ _).mono (fun r h c => ?_) (FirstRefIdeal.Value.run m' g')
  obtain ⟨h0, h1⟩ := hagree c
  obtain ⟨r0, rest⟩ := h c
  rw [h0, h1] at r0
  refine ⟨r0.trans (matrix_ext _ _ fun i j => ?_), rest⟩
  exact (Normal.rows_nat _ _ i j).trans (final m c i j).symm

/-- The reference runs, leaves its arguments and ends with every counter at zero. -/
theorem frame_reference : Cert.quiescent_FirstRefIdeal := fun m g _ =>
  (θ_run FirstRefIdeal.defs _ _).mono (fun r h => ⟨fun c => (h c).2, sem_eq_zero_of_no_sems (by decide) r.2⟩)
    (FirstRefIdeal.Value.run m g)

end Cert.FirstNorm

end
-- ==== Proof.Optimiser.lean ====
/- The optimiser's steps of the four matrices and of the packed small parameters: the two programs' results are equal.
   The kernels' arrays after the last point are functions of the arguments element by element, and so are the references';
   the division and the square root are the same operations over the extended reals on the host and in the kernel. -/
module

public import proofs.«01_k».proof.Defs
public import proofs.«01_k».proof.Proof.Gen.AdamInIdeal.Value
public import proofs.«01_k».proof.Proof.Gen.AdamInRefIdeal.Run
public import proofs.«01_k».proof.Proof.Gen.AdamOutIdeal.Value
public import proofs.«01_k».proof.Proof.Gen.AdamOutRefIdeal.Run
public import proofs.«01_k».proof.Proof.Gen.AdamUpIdeal.Value
public import proofs.«01_k».proof.Proof.Gen.AdamUpRefIdeal.Run
public import proofs.«01_k».proof.Proof.Gen.AdamDownIdeal.Value
public import proofs.«01_k».proof.Proof.Gen.AdamDownRefIdeal.Run
public import proofs.«01_k».proof.Proof.Gen.SmallIdeal.Value
public import proofs.«01_k».proof.Proof.Gen.SmallRefIdeal.Run
public import Idealize.ShloMosaic.Lib.Quiescent

@[expose] public section

noncomputable section

namespace Cert.Optimiser

open Idealize.ShloMosaic Idealize.ShloMosaic.TcCoe Idealize.SL.Sem

/-- Four results that are functions of five arrays are the same functions of arrays equal to them. -/
theorem matrix {A : Type} {a a' b b' w w' p p' v v' r0 r1 r2 r3 : A} {K : Prop} (R2 R3 : A → A → A → A) (R0 : A → A → A)
    (R1 : A → A → A → A → A → A)
    (h : r0 = R0 a' b' ∧ r1 = R1 a' b' w' p' v' ∧ r2 = R2 a' b' p' ∧ r3 = R3 a' b' v' ∧ K)
    (e : a' = a ∧ b' = b ∧ w' = w ∧ p' = p ∧ v' = v) :
    r0 = R0 a b ∧ r1 = R1 a b w p v ∧ r2 = R2 a b p ∧ r3 = R3 a b v ∧ K := by
  obtain ⟨rfl, rfl, rfl, rfl, rfl⟩ := e
  exact h

open AdamInIdeal in
/-- The step of `w_in`. -/
theorem algebraic_in : Cert.algebraic_AdamInIdeal_AdamInRefIdeal := fun m g m' g' _ e =>
  ⟨_, _, _, _, Value.run m g, (θ_run AdamInRefIdeal.defs _ _).mono
    (fun r h c => matrix (A := Vec Ideal S1024x640 .f32) Value.G7 Value.G8 Value.G5 Value.G6 (h c) (e c)) (AdamInRefIdeal.Value.run m' g')⟩

theorem frame_in : Cert.quiescent_AdamInRefIdeal := fun m g _ =>
  (θ_run AdamInRefIdeal.defs _ _).mono (fun r h => ⟨fun c => (h c).2.2.2.2, sem_eq_zero_of_no_sems (by decide) r.2⟩)
    (AdamInRefIdeal.Value.run m g)

open AdamOutIdeal in
/-- The step of `w_out`. -/
theorem algebraic_out : Cert.algebraic_AdamOutIdeal_AdamOutRefIdeal := fun m g m' g' _ e =>
  ⟨_, _, _, _, Value.run m g, (θ_run AdamOutRefIdeal.defs _ _).mono
    (fun r h c => matrix (A := Vec Ideal S256x1024 .f32) Value.G7 Value.G8 Value.G5 Value.G6 (h c) (e c)) (AdamOutRefIdeal.Value.run m' g')⟩

theorem frame_out : Cert.quiescent_AdamOutRefIdeal := fun m g _ =>
  (θ_run AdamOutRefIdeal.defs _ _).mono (fun r h => ⟨fun c => (h c).2.2.2.2, sem_eq_zero_of_no_sems (by decide) r.2⟩)
    (AdamOutRefIdeal.Value.run m g)

open AdamUpIdeal in
/-- The step of `w_up`. -/
theorem algebraic_up : Cert.algebraic_AdamUpIdeal_AdamUpRefIdeal := fun m g m' g' _ e =>
  ⟨_, _, _, _, Value.run m g, (θ_run AdamUpRefIdeal.defs _ _).mono
    (fun r h c => matrix (A := Vec Ideal S1024x1408 .f32) Value.G7 Value.G8 Value.G5 Value.G6 (h c) (e c)) (AdamUpRefIdeal.Value.run m' g')⟩

theorem frame_up : Cert.quiescent_AdamUpRefIdeal := fun m g _ =>
  (θ_run AdamUpRefIdeal.defs _ _).mono (fun r h => ⟨fun c => (h c).2.2.2.2, sem_eq_zero_of_no_sems (by decide) r.2⟩)
    (AdamUpRefIdeal.Value.run m g)

open AdamDownIdeal in
/-- The step of `w_down`. -/
theorem algebraic_down : Cert.algebraic_AdamDownIdeal_AdamDownRefIdeal := fun m g m' g' _ e =>
  ⟨_, _, _, _, Value.run m g, (θ_run AdamDownRefIdeal.defs _ _).mono
    (fun r h c => matrix (A := Vec Ideal S704x1024 .f32) Value.G7 Value.G8 Value.G5 Value.G6 (h c) (e c)) (AdamDownRefIdeal.Value.run m' g')⟩

theorem frame_down : Cert.quiescent_AdamDownRefIdeal := fun m g _ =>
  (θ_run AdamDownRefIdeal.defs _ _).mono (fun r h => ⟨fun c => (h c).2.2.2.2, sem_eq_zero_of_no_sems (by decide) r.2⟩)
    (AdamDownRefIdeal.Value.run m g)

open SmallIdeal in
/-- The step of the packed small parameters. -/
theorem algebraic_small : Cert.algebraic_SmallIdeal_SmallRefIdeal := by
  intro m g m' g' _ e
  refine ⟨_, _, _, Value.run m g, (θ_run SmallRefIdeal.defs _ _).mono (fun r h c => ?_) (SmallRefIdeal.Value.run m' g')⟩
  obtain ⟨h0, h1, h2, h3⟩ := e c
  obtain ⟨r0, r1, r2, rest⟩ := h c
  rw [h0, h1, h2, h3] at r0
  rw [h1, h2] at r1
  rw [h1, h3] at r2
  exact ⟨r0.trans rfl, r1.trans rfl, r2.trans rfl, rest⟩

theorem frame_small : Cert.quiescent_SmallRefIdeal := fun m g _ =>
  (θ_run SmallRefIdeal.defs _ _).mono (fun r h => ⟨fun c => (h c).2.2.2, sem_eq_zero_of_no_sems (by decide) r.2⟩)
    (SmallRefIdeal.Value.run m g)

end Cert.Optimiser

end
-- ==== Proof.Vector.lean ====
/- The sum of the eight devices' packed gradients: the two programs' results are equal. -/
module

public import proofs.«01_k».proof.Defs
public import proofs.«01_k».proof.Proof.Gen.VecIdeal.Value
public import proofs.«01_k».proof.Proof.Gen.VecRefIdeal.Run
public import proofs.«01_k».proof.Proof.Blocks
public import Idealize.ShloMosaic.Lib.Pipeline.ReadBack
public import Idealize.ShloMosaic.Lib.Quiescent

@[expose] public section

set_option maxRecDepth 16384

noncomputable section

namespace Cert.Vector

open Idealize.ShloMosaic Idealize.ShloMosaic.TcCoe Idealize.SL.Sem Cert.VecIdeal Cert.VecIdeal.Gen

/-- The kernel's array is the sum over the first index. -/
theorem kernel_apply (x : Vec Ideal S8x48x1024 .f32) (i : Fin 48) (j : Fin 1024) :
    Value.G1 x (ix2 i j) = ∑ d : Fin 8, x (ix3 d i j) := by
  rw [Fin.sum_univ_eight, ← Value.out1_eq]
  unfold out0_1
  rw [Value.canon1_eq]
  unfold Value.E1
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_ <;> pointwise

theorem algebraic : Cert.algebraic_VecIdeal_VecRefIdeal := by
  intro m g m' g' _ hagree
  refine ⟨_, Value.run m g, ?_⟩
  refine (θ_run VecRefIdeal.defs _ _).mono (fun r h c => ?_) (VecRefIdeal.Value.run m' g')
  have h0 := hagree c
  obtain ⟨r0, rest⟩ := h c
  rw [h0] at r0
  refine ⟨r0.trans (Rows.matrix_ext _ _ fun i j => ?_), rest⟩
  refine Eq.trans ?_ (kernel_apply _ i j).symm
  pointwise

theorem frame_reference : Cert.quiescent_VecRefIdeal := fun m g _ =>
  (θ_run VecRefIdeal.defs _ _).mono (fun r h => ⟨fun c => (h c).2, sem_eq_zero_of_no_sems (by decide) r.2⟩)
    (VecRefIdeal.Value.run m g)

end Cert.Vector

end
-- ==== Proof.SmallSums.lean ====
/- The sum of the eight devices' packed gradients with its packing: each gradient that is unpacked is the sum of the eight
   devices' gradients that were packed. -/
module

public import proofs.«01_k».proof.Defs
public import proofs.«01_k».proof.Proof.Gen.SumsIdeal.Frame
public import proofs.«01_k».proof.Proof.Gen.SumsRefIdeal.Run
public import proofs.«01_k».proof.Proof.Blocks
public import proofs.«01_k».proof.Proof.Gains
public import Idealize.ShloMosaic.Lib.Pipeline.ValueKit
public import Idealize.ShloMosaic.Lib.Pipeline.ReadBack
public import Idealize.ShloMosaic.Lib.Quiescent

@[expose] public section

set_option maxRecDepth 16384

noncomputable section

namespace Cert.SmallSums

open Idealize.ShloMosaic Idealize.ShloMosaic.TcCoe Idealize.SL.Sem Cert.SumsIdeal Cert.SumsIdeal.Gen

/-! ## What the host packs -/

section Terms

variable {F : FTy → Type} [FloatOps F]

/-- Each device's gradients one after another. -/
def row (a0 : FVec F S8x1024 .f32) (a1 a2 a3 : FVec F S8x512 .f32) (a4 a5 : FVec F S8x64 .f32) (a6 : FVec F S8x1024 .f32)
    (a7 : FVec F S8x5632 .f32) (a8 : FVec F S8x15872 .f32) (a9 : FVec F S8x16896 .f32) (a10 : FVec F S8x1 .f32) : FVec F S8x42113 .f32 :=
  concatenate S8x42113 1 [⟨S8x1024, a0⟩, ⟨S8x512, a1⟩, ⟨S8x512, a2⟩, ⟨S8x512, a3⟩, ⟨S8x64, a4⟩, ⟨S8x64, a5⟩, ⟨S8x1024, a6⟩, ⟨S8x5632, a7⟩,
      ⟨S8x15872, a8⟩, ⟨S8x16896, a9⟩, ⟨S8x1, a10⟩]
    concatenates_S8x1024_S8x512_S8x512_S8x512_S8x64_S8x64_S8x1024_S8x5632_S8x15872_S8x16896_S8x1_S8x42113_d1

/-- Zeros after them. -/
def padded (x : FVec F S8x42113 .f32) : FVec F S8x49152 .f32 :=
  pad S8x49152 ![0, 0] ![0, 7039] ![0, 0] x (sitofp .f32 (constantI S_ 32 0#32)) pads_S8x42113_S8x49152_000_070390 h_S_

variable (m : (ℓ : Loc nD τ sig) → Buf (Elt F) ℓ) (c : Dev nD)

/-- The devices' rows, of the arguments. -/
def rows : FVec F S8x42113 .f32 :=
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
    (shapeCast S8x15872 (m ((c : Thread nD τ).loc main_arg8)) shapeCasts_S8x31x512_S8x15872)
    (shapeCast S8x16896 (m ((c : Thread nD τ).loc main_arg9)) shapeCasts_S8x3x5632_S8x16896) (m ((c : Thread nD τ).loc main_arg10))

theorem V_packed : V m c main_v4 = shapeCast S8x48x1024 (padded (rows m c)) shapeCasts_S8x49152_S8x48x1024 := by
  simp only [V, V0, hostOps0, hostOps0_1, hostOps0_2, List.flatten_cons, List.flatten_nil, List.append_nil, List.cons_append, List.nil_append]
  after_results
  rfl

end Terms

/-! ## The array of the call -/

/-- The stored value is the sum over the first index. -/
theorem stored_apply (x : Vec Ideal S8x48x1024 .f32) (i : Fin 48) (j : Fin 1024) : out0_1 x (ix2 i j) = ∑ d : Fin 8, x (ix3 d i j) := by
  have hz : (![0, 0] : Fin 2 → ℕ) = fun _ => 0 := funext fun a => by fin_cases a <;> rfl
  rw [Fin.sum_univ_eight]
  unfold out0_1
  rw [View.canon_unit_zero hz]
  unfold k0_pay1
  pointwise

variable (m : (ℓ : Loc nD τ sig) → Buf (Elt Ideal) ℓ) (c : Dev nD)

theorem place_in : ∀ t : Fin cfg0.N, ∀ a : Fin 3, win0_0.index t a = 0 := (by decide +kernel : ∀ t : Fin grid0.N, _)
theorem place_out : ∀ t : Fin cfg0.N, ∀ a : Fin 2, win0_1.index t a = 0 := (by decide +kernel : ∀ t : Fin grid0.N, _)

/-- The only block is the array. -/
theorem block_in (t : Fin cfg0.N) : iblk m c 0 t = V m c main_v4 := by
  funext j
  refine congrArg (V m c main_v4) (funext fun a => Fin.ext ?_)
  show win0_0.index t a * _ + 1 * (j a).val = (j a).val
  rw [place_in t a]
  omega

theorem emb_out (t : Fin cfg0.N) (j : S48x1024.Idx) : ((cfg0.win 1).blk t).view.emb j = j := by
  refine funext fun a => Fin.ext ?_
  show win0_1.index t a * _ + 1 * (j a).val = (j a).val
  rw [place_out t a]
  omega

theorem cut_out (t : Fin cfg0.N) (X : Vec Ideal S48x1024 .f32) :
    (cfg0.win 1).cut (grid0.coords t) X = ((cfg0.win 1).blk t).view.read (Elt Ideal) X := by
  funext j
  show X j = X (((cfg0.win 1).blk t).view.emb j)
  rw [emb_out]

theorem final : (dats m 0 c).arrAt 1 cfg0.N = out0_1 (V m c main_v4) := by
  refine (dats m 0 c).arrAt_eq_of_cover 1 (out0_1 (V m c main_v4)) (fun t _ => ?_) (fun i => ⟨⟨0, by decide⟩, flush0_1 _, ?_⟩)
  · show (cfg0.win 1).cut (grid0.coords t) ((dats m 0 c).after 1 t) = _
    rw [after0_1, block_in]
    exact cut_out t _
  · have h := ((cfg0.win 1).blk (⟨0, by decide⟩ : Fin cfg0.N)).view.emb_mem_set i
    rwa [emb_out] at h

/-- The call's array in one row. -/
def summed : FVec Ideal S49152 .f32 := shapeCast S49152 (out0_1 (V m c main_v4)) shapeCasts_S48x1024_S49152

theorem summed_apply (n : ℕ) (hn : n < 42113) : summed m c (ix1 ⟨n, by omega⟩) = ∑ d : Fin 8, rows m c (ix2 d ⟨n, hn⟩) := by
  have h : summed m c (ix1 ⟨n, by omega⟩) = out0_1 (V m c main_v4) (ix2 ⟨n / 1024, by omega⟩ ⟨n % 1024, by omega⟩) := by
    unfold summed
    pointwise
  rw [h, stored_apply, V_packed]
  refine Finset.sum_congr rfl fun d _ => ?_
  generalize rows m c = x
  unfold padded
  pointwise
  have e : n / 1024 * 1024 + n % 1024 = n := by omega
  rw [dif_pos (show n / 1024 * 1024 + n % 1024 < 42113 by omega)]
  exact congrArg x (congrArg (ix2 d) (Fin.ext e))

/-! ## What the host unpacks -/

/-- What the host leaves after the call. -/
theorem tail : Pipeline.afterTail₀ cfgs (dats m) 0 (V0 m) [hostOps1] c main_v7 = extractStridedSlice S1024 ![0] (summed m c) slices_S49152_S1024_0
    ∧ Pipeline.afterTail₀ cfgs (dats m) 0 (V0 m) [hostOps1] c main_v8 = extractStridedSlice S512 ![1024] (summed m c) slices_S49152_S512_1024
    ∧ Pipeline.afterTail₀ cfgs (dats m) 0 (V0 m) [hostOps1] c main_v9 = extractStridedSlice S512 ![1536] (summed m c) slices_S49152_S512_1536
    ∧ Pipeline.afterTail₀ cfgs (dats m) 0 (V0 m) [hostOps1] c main_v10 = extractStridedSlice S512 ![2048] (summed m c) slices_S49152_S512_2048
    ∧ Pipeline.afterTail₀ cfgs (dats m) 0 (V0 m) [hostOps1] c main_v11 = extractStridedSlice S64 ![2560] (summed m c) slices_S49152_S64_2560
    ∧ Pipeline.afterTail₀ cfgs (dats m) 0 (V0 m) [hostOps1] c main_v12 = extractStridedSlice S64 ![2624] (summed m c) slices_S49152_S64_2624
    ∧ Pipeline.afterTail₀ cfgs (dats m) 0 (V0 m) [hostOps1] c main_v13 = extractStridedSlice S1024 ![2688] (summed m c) slices_S49152_S1024_2688
    ∧ Pipeline.afterTail₀ cfgs (dats m) 0 (V0 m) [hostOps1] c main_v14 = extractStridedSlice S5632 ![3712] (summed m c) slices_S49152_S5632_3712
    ∧ Pipeline.afterTail₀ cfgs (dats m) 0 (V0 m) [hostOps1] c main_v16 = shapeCast S31x512 (extractStridedSlice S15872 ![9344] (summed m c) slices_S49152_S15872_9344) shapeCasts_S15872_S31x512
    ∧ Pipeline.afterTail₀ cfgs (dats m) 0 (V0 m) [hostOps1] c main_v18 = shapeCast S3x5632 (extractStridedSlice S16896 ![25216] (summed m c) slices_S49152_S16896_25216) shapeCasts_S16896_S3x5632
    ∧ Pipeline.afterTail₀ cfgs (dats m) 0 (V0 m) [hostOps1] c main_v19 = extractStridedSlice S1 ![42112] (summed m c) slices_S49152_S1_42112 := by
  have hw : Pipeline.withArrays (cfgs 0).spec c (V0 m c) (fun w => (dats m 0 c).arrAt w (cfgs 0).N) (Proc.devRef .tc main_v5)
      = out0_1 (V m c main_v4) := (Pipeline.withArrays_arr spec0 launch0.win.arr_inj c (V0 m c) _ 1).trans (final m c)
  unfold summed Pipeline.afterTail₀
  rw [← hw]
  generalize Pipeline.withArrays (cfgs 0).spec c (V0 m c) (fun w => (dats m 0 c).arrAt w (cfgs 0).N) = W
  simp only [hostOps1, List.flatten_cons, List.flatten_nil, List.append_nil, List.cons_append, List.nil_append]
  refine ⟨?_, ?_, ?_, ?_, ?_, ?_, ?_, ?_, ?_, ?_, ?_⟩ <;> after_results <;> rfl

theorem flat_rows (y : FVec Ideal S8x31x512 .f32) (d : Fin 8) (i : Fin 31) (j : Fin 512) :
    shapeCast S8x15872 y shapeCasts_S8x31x512_S8x15872 (ix2 d ⟨i.val * 512 + j.val, by omega⟩) = y (ix3 d i j) := by
  pointwise

theorem flat_taps (y : FVec Ideal S8x3x5632 .f32) (d : Fin 8) (i : Fin 3) (j : Fin 5632) :
    shapeCast S8x16896 y shapeCasts_S8x3x5632_S8x16896 (ix2 d ⟨i.val * 5632 + j.val, by omega⟩) = y (ix3 d i j) := by
  pointwise

section Parts

open Cert.SumsRefIdeal.Gen (reducesTo_S8x1024_S1024_d0 reducesTo_S8x512_S512_d0 reducesTo_S8x64_S64_d0 reducesTo_S8x5632_S5632_d0
  reducesTo_S8x31x512_S31x512_d0 reducesTo_S8x3x5632_S3x5632_d0 reducesTo_S8x1_S1_d0)

/-- What a sum starts from. -/
abbrev zero : FVec Ideal S_ .f32 := constant S_ .f32 0x00000000#32

/-- A device's row at an element: the piece that the place lies in. -/
theorem row_apply (a0 : FVec Ideal S8x1024 .f32) (a1 a2 a3 : FVec Ideal S8x512 .f32) (a4 a5 : FVec Ideal S8x64 .f32) (a6 : FVec Ideal S8x1024 .f32)
    (a7 : FVec Ideal S8x5632 .f32) (a8 : FVec Ideal S8x15872 .f32) (a9 : FVec Ideal S8x16896 .f32) (a10 : FVec Ideal S8x1 .f32)
    (d : Fin 8) (n : Fin 42113) : row a0 a1 a2 a3 a4 a5 a6 a7 a8 a9 a10 (ix2 d n) =
      if h : n.val < 1024 then a0 (ix2 d ⟨n.val, h⟩) else
      if h : n.val - 1024 < 512 then a1 (ix2 d ⟨n.val - 1024, h⟩) else
      if h : n.val - 1024 - 512 < 512 then a2 (ix2 d ⟨n.val - 1024 - 512, h⟩) else
      if h : n.val - 1024 - 512 - 512 < 512 then a3 (ix2 d ⟨n.val - 1024 - 512 - 512, h⟩) else
      if h : n.val - 1024 - 512 - 512 - 512 < 64 then a4 (ix2 d ⟨n.val - 1024 - 512 - 512 - 512, h⟩) else
      if h : n.val - 1024 - 512 - 512 - 512 - 64 < 64 then a5 (ix2 d ⟨n.val - 1024 - 512 - 512 - 512 - 64, h⟩) else
      if h : n.val - 1024 - 512 - 512 - 512 - 64 - 64 < 1024 then a6 (ix2 d ⟨n.val - 1024 - 512 - 512 - 512 - 64 - 64, h⟩) else
      if h : n.val - 1024 - 512 - 512 - 512 - 64 - 64 - 1024 < 5632 then a7 (ix2 d ⟨n.val - 1024 - 512 - 512 - 512 - 64 - 64 - 1024, h⟩) else
      if h : n.val - 1024 - 512 - 512 - 512 - 64 - 64 - 1024 - 5632 < 15872 then a8 (ix2 d ⟨n.val - 1024 - 512 - 512 - 512 - 64 - 64 - 1024 - 5632, h⟩) else
      if h : n.val - 1024 - 512 - 512 - 512 - 64 - 64 - 1024 - 5632 - 15872 < 16896 then a9 (ix2 d ⟨n.val - 1024 - 512 - 512 - 512 - 64 - 64 - 1024 - 5632 - 15872, h⟩) else
      a10 (ix2 d ⟨n.val - 1024 - 512 - 512 - 512 - 64 - 64 - 1024 - 5632 - 15872 - 16896, by omega⟩) := by
  unfold row
  pointwise

section Unpacked

variable {m c} {s : FVec Ideal S49152 .f32} (hs : ∀ (n : ℕ) (hn : n < 42113), s (ix1 ⟨n, by omega⟩) = ∑ d : Fin 8, rows m c (ix2 d ⟨n, hn⟩))
include hs

/-- The vectors. -/
theorem vectors : extractStridedSlice S1024 ![0] s slices_S49152_S1024_0 = Host.reduceAdd (m ((c : Thread nD τ).loc main_arg0)) zero reducesTo_S8x1024_S1024_d0 h_S_
    ∧ extractStridedSlice S512 ![1024] s slices_S49152_S512_1024 = Host.reduceAdd (m ((c : Thread nD τ).loc main_arg1)) zero reducesTo_S8x512_S512_d0 h_S_
    ∧ extractStridedSlice S512 ![1536] s slices_S49152_S512_1536 = Host.reduceAdd (m ((c : Thread nD τ).loc main_arg2)) zero reducesTo_S8x512_S512_d0 h_S_
    ∧ extractStridedSlice S512 ![2048] s slices_S49152_S512_2048 = Host.reduceAdd (m ((c : Thread nD τ).loc main_arg3)) zero reducesTo_S8x512_S512_d0 h_S_
    ∧ extractStridedSlice S64 ![2560] s slices_S49152_S64_2560 = Host.reduceAdd (m ((c : Thread nD τ).loc main_arg4)) zero reducesTo_S8x64_S64_d0 h_S_
    ∧ extractStridedSlice S64 ![2624] s slices_S49152_S64_2624 = Host.reduceAdd (m ((c : Thread nD τ).loc main_arg5)) zero reducesTo_S8x64_S64_d0 h_S_
    ∧ extractStridedSlice S1024 ![2688] s slices_S49152_S1024_2688 = Host.reduceAdd (m ((c : Thread nD τ).loc main_arg6)) zero reducesTo_S8x1024_S1024_d0 h_S_
    ∧ extractStridedSlice S5632 ![3712] s slices_S49152_S5632_3712 = Host.reduceAdd (m ((c : Thread nD τ).loc main_arg7)) zero reducesTo_S8x5632_S5632_d0 h_S_
    ∧ extractStridedSlice S1 ![42112] s slices_S49152_S1_42112 = Host.reduceAdd (m ((c : Thread nD τ).loc main_arg10)) zero reducesTo_S8x1_S1_d0 h_S_ := by
  refine ⟨?_, ?_, ?_, ?_, ?_, ?_, ?_, ?_, ?_⟩ <;>
  · refine Gains.vector_ext _ _ fun i => ?_
    pointwise
    rw [hs _ (by omega)]
    refine Finset.sum_congr rfl fun d _ => ?_
    unfold rows
    rw [row_apply]
    repeat rw [dif_neg (by dsimp only; omega)]
    try rw [dif_pos (by dsimp only; omega)]
    all_goals exact congrArg _ (congrArg (ix2 d) (Fin.ext (by dsimp only; omega)))

/-- The matrices. -/
theorem matrices : shapeCast S31x512 (extractStridedSlice S15872 ![9344] s slices_S49152_S15872_9344) shapeCasts_S15872_S31x512 = Host.reduceAdd (m ((c : Thread nD τ).loc main_arg8)) zero reducesTo_S8x31x512_S31x512_d0 h_S_
    ∧ shapeCast S3x5632 (extractStridedSlice S16896 ![25216] s slices_S49152_S16896_25216) shapeCasts_S16896_S3x5632 = Host.reduceAdd (m ((c : Thread nD τ).loc main_arg9)) zero reducesTo_S8x3x5632_S3x5632_d0 h_S_ := by
  constructor <;> refine Rows.matrix_ext _ _ fun i j => ?_ <;> pointwise <;> rw [hs _ (by omega)] <;> refine Finset.sum_congr rfl fun d _ => ?_ <;>
    unfold rows <;> rw [row_apply] <;> repeat rw [dif_neg (by dsimp only; omega)]
  all_goals rw [dif_pos (by dsimp only; omega)]
  · refine Eq.trans (congrArg _ (congrArg (ix2 d) (Fin.ext ?_))) (flat_rows _ d i j)
    dsimp only
    omega
  · refine Eq.trans (congrArg _ (congrArg (ix2 d) (Fin.ext ?_))) (flat_taps _ d i j)
    dsimp only
    omega

end Unpacked

/-- The program runs, ends with these sums and leaves its arguments. -/
theorem run (g : Dev nD → PrngReg) : θ_run defs (onTc (τ := τ) (main (F := Ideal))) ⟨m, fun _ => 0, g⟩ fun r => ∀ c : Dev nD,
    r.2.mem ((c.tc : Thread nD τ).loc main_v7) = Host.reduceAdd (m ((c : Thread nD τ).loc main_arg0)) zero reducesTo_S8x1024_S1024_d0 h_S_
    ∧ r.2.mem ((c.tc : Thread nD τ).loc main_v8) = Host.reduceAdd (m ((c : Thread nD τ).loc main_arg1)) zero reducesTo_S8x512_S512_d0 h_S_
    ∧ r.2.mem ((c.tc : Thread nD τ).loc main_v9) = Host.reduceAdd (m ((c : Thread nD τ).loc main_arg2)) zero reducesTo_S8x512_S512_d0 h_S_
    ∧ r.2.mem ((c.tc : Thread nD τ).loc main_v10) = Host.reduceAdd (m ((c : Thread nD τ).loc main_arg3)) zero reducesTo_S8x512_S512_d0 h_S_
    ∧ r.2.mem ((c.tc : Thread nD τ).loc main_v11) = Host.reduceAdd (m ((c : Thread nD τ).loc main_arg4)) zero reducesTo_S8x64_S64_d0 h_S_
    ∧ r.2.mem ((c.tc : Thread nD τ).loc main_v12) = Host.reduceAdd (m ((c : Thread nD τ).loc main_arg5)) zero reducesTo_S8x64_S64_d0 h_S_
    ∧ r.2.mem ((c.tc : Thread nD τ).loc main_v13) = Host.reduceAdd (m ((c : Thread nD τ).loc main_arg6)) zero reducesTo_S8x1024_S1024_d0 h_S_
    ∧ r.2.mem ((c.tc : Thread nD τ).loc main_v14) = Host.reduceAdd (m ((c : Thread nD τ).loc main_arg7)) zero reducesTo_S8x5632_S5632_d0 h_S_
    ∧ r.2.mem ((c.tc : Thread nD τ).loc main_v16) = Host.reduceAdd (m ((c : Thread nD τ).loc main_arg8)) zero reducesTo_S8x31x512_S31x512_d0 h_S_
    ∧ r.2.mem ((c.tc : Thread nD τ).loc main_v18) = Host.reduceAdd (m ((c : Thread nD τ).loc main_arg9)) zero reducesTo_S8x3x5632_S3x5632_d0 h_S_
    ∧ r.2.mem ((c.tc : Thread nD τ).loc main_v19) = Host.reduceAdd (m ((c : Thread nD τ).loc main_arg10)) zero reducesTo_S8x1_S1_d0 h_S_
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  refine (θ_run defs _ _).mono (fun r h c => ?_) (run_main m g)
  obtain ⟨t0, t1, t2, t3, t4, t5, t6, t7, t8, t9, t10⟩ := tail m c
  obtain ⟨e0, e1, e2, e3, e4, e5, e6, e7, e10⟩ := vectors (summed_apply m c)
  obtain ⟨e8, e9⟩ := matrices (summed_apply m c)
  have rest (b : Ref sig .tc) (hb) := (h c).2 b hb
  refine ⟨(rest main_v7 ?_).trans (t0.trans e0), (rest main_v8 ?_).trans (t1.trans e1), (rest main_v9 ?_).trans (t2.trans e2), (rest main_v10 ?_).trans (t3.trans e3), (rest main_v11 ?_).trans (t4.trans e4), (rest main_v12 ?_).trans (t5.trans e5), (rest main_v13 ?_).trans (t6.trans e6), (rest main_v14 ?_).trans (t7.trans e7), (rest main_v16 ?_).trans (t8.trans e8), (rest main_v18 ?_).trans (t9.trans e9), (rest main_v19 ?_).trans (t10.trans e10),
    (rest main_arg0 ?_).trans (W_main_arg0 m (dats m) c), (rest main_arg1 ?_).trans (W_main_arg1 m (dats m) c), (rest main_arg2 ?_).trans (W_main_arg2 m (dats m) c), (rest main_arg3 ?_).trans (W_main_arg3 m (dats m) c), (rest main_arg4 ?_).trans (W_main_arg4 m (dats m) c), (rest main_arg5 ?_).trans (W_main_arg5 m (dats m) c), (rest main_arg6 ?_).trans (W_main_arg6 m (dats m) c), (rest main_arg7 ?_).trans (W_main_arg7 m (dats m) c), (rest main_arg8 ?_).trans (W_main_arg8 m (dats m) c), (rest main_arg9 ?_).trans (W_main_arg9 m (dats m) c), (rest main_arg10 ?_).trans (W_main_arg10 m (dats m) c)⟩
  all_goals exact Pipeline.mem_restRefs_of _ (by decide) (by decide)

end Parts

theorem algebraic : Cert.algebraic_SumsIdeal_SumsRefIdeal := by
  intro m g m' g' _ hagree
  refine ⟨_, _, _, _, _, _, _, _, _, _, _, run m g, ?_⟩
  refine (θ_run SumsRefIdeal.defs _ _).mono (fun r h c => ?_) (SumsRefIdeal.Value.run m' g')
  obtain ⟨h0, h1, h2, h3, h4, h5, h6, h7, h8, h9, h10⟩ := hagree c
  have hr := h c
  rw [h0, h1, h2, h3, h4, h5, h6, h7, h8, h9, h10] at hr ⊢
  exact hr

theorem frame_reference : Cert.quiescent_SumsRefIdeal := fun m g _ =>
  (θ_run SumsRefIdeal.defs _ _).mono (fun r h => ⟨fun c => (h c).2.2.2.2.2.2.2.2.2.2.2, sem_eq_zero_of_no_sems (by decide) r.2⟩)
    (SumsRefIdeal.Value.run m g)

end Cert.SmallSums

end
-- ==== Proof.SmallSteps.lean ====
/- The optimiser's step of the ten small parameters with its packing: each parameter's step and new moments are those of its
   own gradient, value and moments. -/
module

public import proofs.«01_k».proof.Defs
public import proofs.«01_k».proof.Proof.Gen.StepsIdeal.Frame
public import proofs.«01_k».proof.Proof.Gen.StepsRefIdeal.Run
public import proofs.«01_k».proof.Proof.Blocks
public import proofs.«01_k».proof.Proof.Gains
public import Idealize.ShloMosaic.Lib.Pipeline.ValueKit
public import Idealize.ShloMosaic.Lib.Pipeline.ReadBack
public import Idealize.ShloMosaic.Lib.Quiescent

@[expose] public section

set_option maxRecDepth 16384

noncomputable section

namespace Cert.SmallSteps

open Idealize.ShloMosaic Idealize.ShloMosaic.TcCoe Idealize.SL.Sem Cert.StepsIdeal Cert.StepsIdeal.Gen

/-! ## What the host packs -/

/-- Ten arrays of the small parameters' shapes. -/
structure Ten (F : FTy → Type) where
  a0 : FVec F S1024 .f32
  a1 : FVec F S512 .f32
  a2 : FVec F S512 .f32
  a3 : FVec F S512 .f32
  a4 : FVec F S64 .f32
  a5 : FVec F S64 .f32
  a6 : FVec F S1024 .f32
  a7 : FVec F S5632 .f32
  a8 : FVec F S31x128 .f32
  a9 : FVec F S3x1408 .f32

section Terms

variable {F : FTy → Type} [FloatOps F]

/-- The arrays one after another. -/
def Ten.row (t : Ten F) : FVec F S17536 .f32 :=
  concatenate S17536 0 [⟨S1024, t.a0⟩, ⟨S512, t.a1⟩, ⟨S512, t.a2⟩, ⟨S512, t.a3⟩, ⟨S64, t.a4⟩, ⟨S64, t.a5⟩, ⟨S1024, t.a6⟩, ⟨S5632, t.a7⟩,
      ⟨S3968, shapeCast S3968 t.a8 shapeCasts_S31x128_S3968⟩, ⟨S4224, shapeCast S4224 t.a9 shapeCasts_S3x1408_S4224⟩]
    concatenates_S1024_S512_S512_S512_S64_S64_S1024_S5632_S3968_S4224_S17536_d0

/-- Zeros after them. -/
def padded (x : FVec F S17536 .f32) : FVec F S24576 .f32 :=
  pad S24576 ![0] ![7040] ![0] x (sitofp .f32 (constantI S_ 32 0#32)) pads_S17536_S24576_070400 h_S_

/-- The packed array. -/
def Ten.packed (t : Ten F) : FVec F S24x1024 .f32 := shapeCast S24x1024 (padded t.row) shapeCasts_S24576_S24x1024

/-- The arrays that a packed row holds. -/
def unpack (s : FVec F S24576 .f32) : Ten F where
  a0 := extractStridedSlice S1024 ![0] s slices_S24576_S1024_0
  a1 := extractStridedSlice S512 ![1024] s slices_S24576_S512_1024
  a2 := extractStridedSlice S512 ![1536] s slices_S24576_S512_1536
  a3 := extractStridedSlice S512 ![2048] s slices_S24576_S512_2048
  a4 := extractStridedSlice S64 ![2560] s slices_S24576_S64_2560
  a5 := extractStridedSlice S64 ![2624] s slices_S24576_S64_2624
  a6 := extractStridedSlice S1024 ![2688] s slices_S24576_S1024_2688
  a7 := extractStridedSlice S5632 ![3712] s slices_S24576_S5632_3712
  a8 := shapeCast S31x128 (extractStridedSlice S3968 ![9344] s slices_S24576_S3968_9344) shapeCasts_S3968_S31x128
  a9 := shapeCast S3x1408 (extractStridedSlice S4224 ![13312] s slices_S24576_S4224_13312) shapeCasts_S4224_S3x1408

variable (m : (ℓ : Loc nD τ sig) → Buf (Elt F) ℓ) (c : Dev nD)

/-- The parameters. -/
def params : Ten F where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)

/-- The gradients. -/
def grads : Ten F where
  a0 := m ((c : Thread nD τ).loc main_arg10)
  a1 := m ((c : Thread nD τ).loc main_arg11)
  a2 := m ((c : Thread nD τ).loc main_arg12)
  a3 := m ((c : Thread nD τ).loc main_arg13)
  a4 := m ((c : Thread nD τ).loc main_arg14)
  a5 := m ((c : Thread nD τ).loc main_arg15)
  a6 := m ((c : Thread nD τ).loc main_arg16)
  a7 := m ((c : Thread nD τ).loc main_arg17)
  a8 := m ((c : Thread nD τ).loc main_arg18)
  a9 := m ((c : Thread nD τ).loc main_arg19)

/-- The first moments. -/
def first : Ten F where
  a0 := m ((c : Thread nD τ).loc main_arg20)
  a1 := m ((c : Thread nD τ).loc main_arg21)
  a2 := m ((c : Thread nD τ).loc main_arg22)
  a3 := m ((c : Thread nD τ).loc main_arg23)
  a4 := m ((c : Thread nD τ).loc main_arg24)
  a5 := m ((c : Thread nD τ).loc main_arg25)
  a6 := m ((c : Thread nD τ).loc main_arg26)
  a7 := m ((c : Thread nD τ).loc main_arg27)
  a8 := m ((c : Thread nD τ).loc main_arg28)
  a9 := m ((c : Thread nD τ).loc main_arg29)

/-- The second moments. -/
def second : Ten F where
  a0 := m ((c : Thread nD τ).loc main_arg30)
  a1 := m ((c : Thread nD τ).loc main_arg31)
  a2 := m ((c : Thread nD τ).loc main_arg32)
  a3 := m ((c : Thread nD τ).loc main_arg33)
  a4 := m ((c : Thread nD τ).loc main_arg34)
  a5 := m ((c : Thread nD τ).loc main_arg35)
  a6 := m ((c : Thread nD τ).loc main_arg36)
  a7 := m ((c : Thread nD τ).loc main_arg37)
  a8 := m ((c : Thread nD τ).loc main_arg38)
  a9 := m ((c : Thread nD τ).loc main_arg39)

set_option maxHeartbeats 4000000 in
theorem V_packed : V m c main_v4 = (params m c).packed ∧ V m c main_v9 = (grads m c).packed ∧ V m c main_v14 = (first m c).packed
    ∧ V m c main_v19 = (second m c).packed := by
  simp only [V, V0, hostOps0, hostOps0_1, hostOps0_2, hostOps0_3, hostOps0_4, hostOps0_5, hostOps0_6, hostOps0_7, hostOps0_8,
    List.flatten_cons, List.flatten_nil, List.append_nil, List.cons_append, List.nil_append]
  refine ⟨?_, ?_, ?_, ?_⟩ <;> after_results <;> rfl

end Terms

/-! ## The array of the call -/

/-- A new first moment, of the gradient and the moment. -/
def moment (w g p v : EReal) : EReal := Ideal.ofBits .f32 0x3F666666#32 * p + Ideal.ofBits .f32 0x3DCCCCCD#32 * g

/-- A new second moment, of the gradient and the moment. -/
def square (w g p v : EReal) : EReal := Ideal.ofBits .f32 0x3F7FBE77#32 * v + Ideal.ofBits .f32 0x3A83126F#32 * (g * g)

/-- A step, of the parameter, the gradient and the moments. -/
def step (w g p v : EReal) : EReal :=
  Ideal.ofBits .f32 0xBA83126F#32 * (Ideal.div (Ideal.div (moment w g p v) (Ideal.ofBits .f32 0x3F26BD02#32))
      (Ideal.sqrt (Ideal.div (square w g p v) (Ideal.ofBits .f32 0x3C231ACC#32)) + Ideal.ofBits .f32 0x322BCC77#32)
    + Ideal.ofBits .f32 0x3C23D70A#32 * w)

/-- The stored values at an element. -/
theorem stored_apply (w g p v : Vec Ideal S24x1024 .f32) (i : Fin 24) (j : Fin 1024) :
    out0_4 w g p v (ix2 i j) = step (w (ix2 i j)) (g (ix2 i j)) (p (ix2 i j)) (v (ix2 i j))
    ∧ out0_5 w g p v (ix2 i j) = moment (w (ix2 i j)) (g (ix2 i j)) (p (ix2 i j)) (v (ix2 i j))
    ∧ out0_6 w g p v (ix2 i j) = square (w (ix2 i j)) (g (ix2 i j)) (p (ix2 i j)) (v (ix2 i j)) := by
  have hz : (![0, 0] : Fin 2 → ℕ) = fun _ => 0 := funext fun a => by fin_cases a <;> rfl
  unfold out0_4 out0_5 out0_6
  rw [View.canon_unit_zero hz, View.canon_unit_zero hz, View.canon_unit_zero hz]
  unfold k0_pay4 k0_pay3 k0_pay2 k0_pay1 step moment square
  refine ⟨?_, ?_, ?_⟩ <;> pointwise

variable (m : (ℓ : Loc nD τ sig) → Buf (Elt Ideal) ℓ) (c : Dev nD)

theorem place : ∀ t : Fin cfg0.N, ∀ a : Fin 2, win0_0.index t a = 0 ∧ win0_1.index t a = 0 ∧ win0_2.index t a = 0 ∧ win0_3.index t a = 0
    ∧ win0_4.index t a = 0 ∧ win0_5.index t a = 0 ∧ win0_6.index t a = 0 := (by decide +kernel : ∀ t : Fin grid0.N, _)

/-- A place in the only block is the place in the array. -/
theorem at_zero {n b x : ℕ} (h : n = 0) : n * b + 1 * x = x := by
  rw [h]
  omega

theorem block_0 (t : Fin cfg0.N) : iblk m c 0 t = V m c main_v4 := by
  funext j
  refine congrArg (V m c main_v4) (funext fun a => Fin.ext ?_)
  show win0_0.index t a * _ + 1 * (j a).val = (j a).val
  exact at_zero (place t a).1

theorem block_1 (t : Fin cfg0.N) : iblk m c 1 t = V m c main_v9 := by
  funext j
  refine congrArg (V m c main_v9) (funext fun a => Fin.ext ?_)
  show win0_1.index t a * _ + 1 * (j a).val = (j a).val
  exact at_zero (place t a).2.1

theorem block_2 (t : Fin cfg0.N) : iblk m c 2 t = V m c main_v14 := by
  funext j
  refine congrArg (V m c main_v14) (funext fun a => Fin.ext ?_)
  show win0_2.index t a * _ + 1 * (j a).val = (j a).val
  exact at_zero (place t a).2.2.1

theorem block_3 (t : Fin cfg0.N) : iblk m c 3 t = V m c main_v19 := by
  funext j
  refine congrArg (V m c main_v19) (funext fun a => Fin.ext ?_)
  show win0_3.index t a * _ + 1 * (j a).val = (j a).val
  exact at_zero (place t a).2.2.2.1

theorem emb (t : Fin cfg0.N) (j : S24x1024.Idx) : ((cfg0.win 4).blk t).view.emb j = j ∧ ((cfg0.win 5).blk t).view.emb j = j
    ∧ ((cfg0.win 6).blk t).view.emb j = j :=
  ⟨funext fun a => Fin.ext (at_zero (place t a).2.2.2.2.1), funext fun a => Fin.ext (at_zero (place t a).2.2.2.2.2.1),
    funext fun a => Fin.ext (at_zero (place t a).2.2.2.2.2.2)⟩

theorem cut (t : Fin cfg0.N) (X : Vec Ideal S24x1024 .f32) :
    (cfg0.win 4).cut (grid0.coords t) X = ((cfg0.win 4).blk t).view.read (Elt Ideal) X
    ∧ (cfg0.win 5).cut (grid0.coords t) X = ((cfg0.win 5).blk t).view.read (Elt Ideal) X
    ∧ (cfg0.win 6).cut (grid0.coords t) X = ((cfg0.win 6).blk t).view.read (Elt Ideal) X :=
  ⟨funext fun j => congrArg X (emb t j).1.symm, funext fun j => congrArg X (emb t j).2.1.symm, funext fun j => congrArg X (emb t j).2.2.symm⟩

theorem final_4 : (dats m 0 c).arrAt 4 cfg0.N = out0_4 (V m c main_v4) (V m c main_v9) (V m c main_v14) (V m c main_v19) := by
  refine (dats m 0 c).arrAt_eq_of_cover 4 _ (fun t _ => ?_) (fun i => ⟨⟨0, by decide⟩, flush0_4 _, ?_⟩)
  · show (cfg0.win 4).cut (grid0.coords t) ((dats m 0 c).after 4 t) = _
    rw [after0_4, block_0, block_1, block_2, block_3]
    exact (cut t _).1
  · have h := ((cfg0.win 4).blk (⟨0, by decide⟩ : Fin cfg0.N)).view.emb_mem_set i
    rwa [(emb _ i).1] at h

theorem final_5 : (dats m 0 c).arrAt 5 cfg0.N = out0_5 (V m c main_v4) (V m c main_v9) (V m c main_v14) (V m c main_v19) := by
  refine (dats m 0 c).arrAt_eq_of_cover 5 _ (fun t _ => ?_) (fun i => ⟨⟨0, by decide⟩, flush0_5 _, ?_⟩)
  · show (cfg0.win 5).cut (grid0.coords t) ((dats m 0 c).after 5 t) = _
    rw [after0_5, block_0, block_1, block_2, block_3]
    exact (cut t _).2.1
  · have h := ((cfg0.win 5).blk (⟨0, by decide⟩ : Fin cfg0.N)).view.emb_mem_set i
    rwa [(emb _ i).2.1] at h

theorem final_6 : (dats m 0 c).arrAt 6 cfg0.N = out0_6 (V m c main_v4) (V m c main_v9) (V m c main_v14) (V m c main_v19) := by
  refine (dats m 0 c).arrAt_eq_of_cover 6 _ (fun t _ => ?_) (fun i => ⟨⟨0, by decide⟩, flush0_6 _, ?_⟩)
  · show (cfg0.win 6).cut (grid0.coords t) ((dats m 0 c).after 6 t) = _
    rw [after0_6, block_0, block_1, block_2, block_3]
    exact (cut t _).2.2
  · have h := ((cfg0.win 6).blk (⟨0, by decide⟩ : Fin cfg0.N)).view.emb_mem_set i
    rwa [(emb _ i).2.2] at h

/-! ## What the host unpacks -/

/-- A function of four numbers, on each element of the arrays. -/
def each (E : EReal → EReal → EReal → EReal → EReal) (w g p v : Ten Ideal) : Ten Ideal where
  a0 := fun i => E (w.a0 i) (g.a0 i) (p.a0 i) (v.a0 i)
  a1 := fun i => E (w.a1 i) (g.a1 i) (p.a1 i) (v.a1 i)
  a2 := fun i => E (w.a2 i) (g.a2 i) (p.a2 i) (v.a2 i)
  a3 := fun i => E (w.a3 i) (g.a3 i) (p.a3 i) (v.a3 i)
  a4 := fun i => E (w.a4 i) (g.a4 i) (p.a4 i) (v.a4 i)
  a5 := fun i => E (w.a5 i) (g.a5 i) (p.a5 i) (v.a5 i)
  a6 := fun i => E (w.a6 i) (g.a6 i) (p.a6 i) (v.a6 i)
  a7 := fun i => E (w.a7 i) (g.a7 i) (p.a7 i) (v.a7 i)
  a8 := fun i => E (w.a8 i) (g.a8 i) (p.a8 i) (v.a8 i)
  a9 := fun i => E (w.a9 i) (g.a9 i) (p.a9 i) (v.a9 i)

/-- Arrays one after another at an element: the array that the place lies in. -/
theorem row_apply (a0 : FVec Ideal S1024 .f32) (a1 a2 a3 : FVec Ideal S512 .f32) (a4 a5 : FVec Ideal S64 .f32) (a6 : FVec Ideal S1024 .f32)
    (a7 : FVec Ideal S5632 .f32) (a8 : FVec Ideal S3968 .f32) (a9 : FVec Ideal S4224 .f32) (n : Fin 17536) :
    concatenate S17536 0 [⟨S1024, a0⟩, ⟨S512, a1⟩, ⟨S512, a2⟩, ⟨S512, a3⟩, ⟨S64, a4⟩, ⟨S64, a5⟩, ⟨S1024, a6⟩, ⟨S5632, a7⟩, ⟨S3968, a8⟩, ⟨S4224, a9⟩]
      concatenates_S1024_S512_S512_S512_S64_S64_S1024_S5632_S3968_S4224_S17536_d0 (ix1 n) =
      if h : n.val < 1024 then a0 (ix1 ⟨n.val, h⟩) else
      if h : n.val - 1024 < 512 then a1 (ix1 ⟨n.val - 1024, h⟩) else
      if h : n.val - 1024 - 512 < 512 then a2 (ix1 ⟨n.val - 1024 - 512, h⟩) else
      if h : n.val - 1024 - 512 - 512 < 512 then a3 (ix1 ⟨n.val - 1024 - 512 - 512, h⟩) else
      if h : n.val - 1024 - 512 - 512 - 512 < 64 then a4 (ix1 ⟨n.val - 1024 - 512 - 512 - 512, h⟩) else
      if h : n.val - 1024 - 512 - 512 - 512 - 64 < 64 then a5 (ix1 ⟨n.val - 1024 - 512 - 512 - 512 - 64, h⟩) else
      if h : n.val - 1024 - 512 - 512 - 512 - 64 - 64 < 1024 then a6 (ix1 ⟨n.val - 1024 - 512 - 512 - 512 - 64 - 64, h⟩) else
      if h : n.val - 1024 - 512 - 512 - 512 - 64 - 64 - 1024 < 5632 then a7 (ix1 ⟨n.val - 1024 - 512 - 512 - 512 - 64 - 64 - 1024, h⟩) else
      if h : n.val - 1024 - 512 - 512 - 512 - 64 - 64 - 1024 - 5632 < 3968 then a8 (ix1 ⟨n.val - 1024 - 512 - 512 - 512 - 64 - 64 - 1024 - 5632, h⟩) else
      a9 (ix1 ⟨n.val - 1024 - 512 - 512 - 512 - 64 - 64 - 1024 - 5632 - 3968, by omega⟩) := by
  pointwise

theorem flat_rows (y : FVec Ideal S31x128 .f32) (i : Fin 31) (j : Fin 128) :
    shapeCast S3968 y shapeCasts_S31x128_S3968 (ix1 ⟨i.val * 128 + j.val, by omega⟩) = y (ix2 i j) := by
  pointwise

theorem flat_taps (y : FVec Ideal S3x1408 .f32) (i : Fin 3) (j : Fin 1408) :
    shapeCast S4224 y shapeCasts_S3x1408_S4224 (ix1 ⟨i.val * 1408 + j.val, by omega⟩) = y (ix2 i j) := by
  pointwise

/-- A function of the packed elements, unpacked, is the function of the arrays' elements. -/
theorem unpack_eq (E : EReal → EReal → EReal → EReal → EReal) (w g p v : Ten Ideal) (s : FVec Ideal S24576 .f32)
    (hs : ∀ (n : ℕ) (hn : n < 17536), s (ix1 ⟨n, by omega⟩)
      = E (w.row (ix1 ⟨n, hn⟩)) (g.row (ix1 ⟨n, hn⟩)) (p.row (ix1 ⟨n, hn⟩)) (v.row (ix1 ⟨n, hn⟩))) : unpack s = each E w g p v := by
  unfold unpack each
  rw [Ten.mk.injEq]
  refine ⟨?_, ?_, ?_, ?_, ?_, ?_, ?_, ?_, ?_, ?_⟩
  iterate 8
    · refine Gains.vector_ext _ _ fun i => ?_
      pointwise
      rw [hs _ (by omega)]
      refine congr (congr (congr (congrArg E ?_) ?_) ?_) ?_ <;>
      · unfold Ten.row
        rw [row_apply]
        repeat rw [dif_neg (by dsimp only; omega)]
        rw [dif_pos (by dsimp only; omega)]
        all_goals exact congrArg _ (congrArg ix1 (Fin.ext (by dsimp only; omega)))
  · refine Rows.matrix_ext _ _ fun i j => ?_
    pointwise
    rw [hs _ (by omega)]
    refine congr (congr (congr (congrArg E ?_) ?_) ?_) ?_ <;>
    · unfold Ten.row
      rw [row_apply]
      repeat rw [dif_neg (by dsimp only; omega)]
      rw [dif_pos (by dsimp only; omega)]
      exact Eq.trans (congrArg _ (congrArg ix1 (Fin.ext (by dsimp only; omega)))) (flat_rows _ i j)
  · refine Rows.matrix_ext _ _ fun i j => ?_
    pointwise
    rw [hs _ (by omega)]
    refine congr (congr (congr (congrArg E ?_) ?_) ?_) ?_ <;>
    · unfold Ten.row
      rw [row_apply]
      repeat rw [dif_neg (by dsimp only; omega)]
      exact Eq.trans (congrArg _ (congrArg ix1 (Fin.ext (by dsimp only; omega)))) (flat_taps _ i j)

/-- A packed array at the place of an element. -/
theorem packed_apply (t : Ten Ideal) (n : ℕ) (hn : n < 17536) :
    t.packed (ix2 ⟨n / 1024, by omega⟩ ⟨n % 1024, by omega⟩) = t.row (ix1 ⟨n, hn⟩) := by
  unfold Ten.packed
  generalize t.row = x
  unfold padded
  pointwise
  have e : n / 1024 * 1024 + n % 1024 = n := by omega
  rw [dif_pos (show n / 1024 * 1024 + n % 1024 < 17536 by omega)]
  exact congrArg x (congrArg ix1 (Fin.ext e))

theorem flat_apply (X : FVec Ideal S24x1024 .f32) (n : ℕ) (hn : n < 17536) :
    shapeCast S24576 X shapeCasts_S24x1024_S24576 (ix1 ⟨n, by omega⟩) = X (ix2 ⟨n / 1024, by omega⟩ ⟨n % 1024, by omega⟩) := by
  pointwise

theorem out_4 : unpack (shapeCast S24576 (out0_4 (V m c main_v4) (V m c main_v9) (V m c main_v14) (V m c main_v19)) shapeCasts_S24x1024_S24576)
    = each step (params m c) (grads m c) (first m c) (second m c) := by
  obtain ⟨e0, e1, e2, e3⟩ := V_packed m c
  refine unpack_eq _ _ _ _ _ _ fun n hn => ?_
  rw [flat_apply _ n hn, (stored_apply _ _ _ _ _ _).1, e0, e1, e2, e3, packed_apply, packed_apply, packed_apply, packed_apply]

theorem out_5 : unpack (shapeCast S24576 (out0_5 (V m c main_v4) (V m c main_v9) (V m c main_v14) (V m c main_v19)) shapeCasts_S24x1024_S24576)
    = each moment (params m c) (grads m c) (first m c) (second m c) := by
  obtain ⟨e0, e1, e2, e3⟩ := V_packed m c
  refine unpack_eq _ _ _ _ _ _ fun n hn => ?_
  rw [flat_apply _ n hn, (stored_apply _ _ _ _ _ _).2.1, e0, e1, e2, e3, packed_apply, packed_apply, packed_apply, packed_apply]

theorem out_6 : unpack (shapeCast S24576 (out0_6 (V m c main_v4) (V m c main_v9) (V m c main_v14) (V m c main_v19)) shapeCasts_S24x1024_S24576)
    = each square (params m c) (grads m c) (first m c) (second m c) := by
  obtain ⟨e0, e1, e2, e3⟩ := V_packed m c
  refine unpack_eq _ _ _ _ _ _ fun n hn => ?_
  rw [flat_apply _ n hn, (stored_apply _ _ _ _ _ _).2.2, e0, e1, e2, e3, packed_apply, packed_apply, packed_apply, packed_apply]

theorem tail_4 : (⟨Pipeline.afterTail₀ cfgs (dats m) 0 (V0 m) [hostOps1] c main_v22, Pipeline.afterTail₀ cfgs (dats m) 0 (V0 m) [hostOps1] c main_v23, Pipeline.afterTail₀ cfgs (dats m) 0 (V0 m) [hostOps1] c main_v24, Pipeline.afterTail₀ cfgs (dats m) 0 (V0 m) [hostOps1] c main_v25, Pipeline.afterTail₀ cfgs (dats m) 0 (V0 m) [hostOps1] c main_v26, Pipeline.afterTail₀ cfgs (dats m) 0 (V0 m) [hostOps1] c main_v27, Pipeline.afterTail₀ cfgs (dats m) 0 (V0 m) [hostOps1] c main_v28, Pipeline.afterTail₀ cfgs (dats m) 0 (V0 m) [hostOps1] c main_v29, Pipeline.afterTail₀ cfgs (dats m) 0 (V0 m) [hostOps1] c main_v31, Pipeline.afterTail₀ cfgs (dats m) 0 (V0 m) [hostOps1] c main_v33⟩ : Ten Ideal)
    = unpack (shapeCast S24576 (out0_4 (V m c main_v4) (V m c main_v9) (V m c main_v14) (V m c main_v19)) shapeCasts_S24x1024_S24576) := by
  have hw : Pipeline.withArrays (cfgs 0).spec c (V0 m c) (fun w => (dats m 0 c).arrAt w (cfgs 0).N) (Proc.devRef .tc main_v20_0)
      = out0_4 (V m c main_v4) (V m c main_v9) (V m c main_v14) (V m c main_v19) :=
    (Pipeline.withArrays_arr spec0 launch0.win.arr_inj c (V0 m c) _ 4).trans (final_4 m c)
  unfold unpack Pipeline.afterTail₀
  rw [← hw]
  generalize Pipeline.withArrays (cfgs 0).spec c (V0 m c) (fun w => (dats m 0 c).arrAt w (cfgs 0).N) = W
  simp only [hostOps1, List.flatten_cons, List.flatten_nil, List.append_nil, List.cons_append, List.nil_append]
  rw [Ten.mk.injEq]
  refine ⟨?_, ?_, ?_, ?_, ?_, ?_, ?_, ?_, ?_, ?_⟩ <;> after_results <;> rfl

theorem tail_5 : (⟨Pipeline.afterTail₀ cfgs (dats m) 0 (V0 m) [hostOps1] c main_v35, Pipeline.afterTail₀ cfgs (dats m) 0 (V0 m) [hostOps1] c main_v36, Pipeline.afterTail₀ cfgs (dats m) 0 (V0 m) [hostOps1] c main_v37, Pipeline.afterTail₀ cfgs (dats m) 0 (V0 m) [hostOps1] c main_v38, Pipeline.afterTail₀ cfgs (dats m) 0 (V0 m) [hostOps1] c main_v39, Pipeline.afterTail₀ cfgs (dats m) 0 (V0 m) [hostOps1] c main_v40, Pipeline.afterTail₀ cfgs (dats m) 0 (V0 m) [hostOps1] c main_v41, Pipeline.afterTail₀ cfgs (dats m) 0 (V0 m) [hostOps1] c main_v42, Pipeline.afterTail₀ cfgs (dats m) 0 (V0 m) [hostOps1] c main_v44, Pipeline.afterTail₀ cfgs (dats m) 0 (V0 m) [hostOps1] c main_v46⟩ : Ten Ideal)
    = unpack (shapeCast S24576 (out0_5 (V m c main_v4) (V m c main_v9) (V m c main_v14) (V m c main_v19)) shapeCasts_S24x1024_S24576) := by
  have hw : Pipeline.withArrays (cfgs 0).spec c (V0 m c) (fun w => (dats m 0 c).arrAt w (cfgs 0).N) (Proc.devRef .tc main_v20_1)
      = out0_5 (V m c main_v4) (V m c main_v9) (V m c main_v14) (V m c main_v19) :=
    (Pipeline.withArrays_arr spec0 launch0.win.arr_inj c (V0 m c) _ 5).trans (final_5 m c)
  unfold unpack Pipeline.afterTail₀
  rw [← hw]
  generalize Pipeline.withArrays (cfgs 0).spec c (V0 m c) (fun w => (dats m 0 c).arrAt w (cfgs 0).N) = W
  simp only [hostOps1, List.flatten_cons, List.flatten_nil, List.append_nil, List.cons_append, List.nil_append]
  rw [Ten.mk.injEq]
  refine ⟨?_, ?_, ?_, ?_, ?_, ?_, ?_, ?_, ?_, ?_⟩ <;> after_results <;> rfl

theorem tail_6 : (⟨Pipeline.afterTail₀ cfgs (dats m) 0 (V0 m) [hostOps1] c main_v48, Pipeline.afterTail₀ cfgs (dats m) 0 (V0 m) [hostOps1] c main_v49, Pipeline.afterTail₀ cfgs (dats m) 0 (V0 m) [hostOps1] c main_v50, Pipeline.afterTail₀ cfgs (dats m) 0 (V0 m) [hostOps1] c main_v51, Pipeline.afterTail₀ cfgs (dats m) 0 (V0 m) [hostOps1] c main_v52, Pipeline.afterTail₀ cfgs (dats m) 0 (V0 m) [hostOps1] c main_v53, Pipeline.afterTail₀ cfgs (dats m) 0 (V0 m) [hostOps1] c main_v54, Pipeline.afterTail₀ cfgs (dats m) 0 (V0 m) [hostOps1] c main_v55, Pipeline.afterTail₀ cfgs (dats m) 0 (V0 m) [hostOps1] c main_v57, Pipeline.afterTail₀ cfgs (dats m) 0 (V0 m) [hostOps1] c main_v59⟩ : Ten Ideal)
    = unpack (shapeCast S24576 (out0_6 (V m c main_v4) (V m c main_v9) (V m c main_v14) (V m c main_v19)) shapeCasts_S24x1024_S24576) := by
  have hw : Pipeline.withArrays (cfgs 0).spec c (V0 m c) (fun w => (dats m 0 c).arrAt w (cfgs 0).N) (Proc.devRef .tc main_v20_2)
      = out0_6 (V m c main_v4) (V m c main_v9) (V m c main_v14) (V m c main_v19) :=
    (Pipeline.withArrays_arr spec0 launch0.win.arr_inj c (V0 m c) _ 6).trans (final_6 m c)
  unfold unpack Pipeline.afterTail₀
  rw [← hw]
  generalize Pipeline.withArrays (cfgs 0).spec c (V0 m c) (fun w => (dats m 0 c).arrAt w (cfgs 0).N) = W
  simp only [hostOps1, List.flatten_cons, List.flatten_nil, List.append_nil, List.cons_append, List.nil_append]
  rw [Ten.mk.injEq]
  refine ⟨?_, ?_, ?_, ?_, ?_, ?_, ?_, ?_, ?_, ?_⟩ <;> after_results <;> rfl

set_option maxHeartbeats 4000000 in
/-- The program runs, ends with these steps and moments and leaves its arguments. -/
theorem run (g : Dev nD → PrngReg) : θ_run defs (onTc (τ := τ) (main (F := Ideal))) ⟨m, fun _ => 0, g⟩ fun r => ∀ c : Dev nD,
    r.2.mem ((c.tc : Thread nD τ).loc main_v22) = (each step (params m c) (grads m c) (first m c) (second m c)).a0
    ∧ r.2.mem ((c.tc : Thread nD τ).loc main_v23) = (each step (params m c) (grads m c) (first m c) (second m c)).a1
    ∧ r.2.mem ((c.tc : Thread nD τ).loc main_v24) = (each step (params m c) (grads m c) (first m c) (second m c)).a2
    ∧ r.2.mem ((c.tc : Thread nD τ).loc main_v25) = (each step (params m c) (grads m c) (first m c) (second m c)).a3
    ∧ r.2.mem ((c.tc : Thread nD τ).loc main_v26) = (each step (params m c) (grads m c) (first m c) (second m c)).a4
    ∧ r.2.mem ((c.tc : Thread nD τ).loc main_v27) = (each step (params m c) (grads m c) (first m c) (second m c)).a5
    ∧ r.2.mem ((c.tc : Thread nD τ).loc main_v28) = (each step (params m c) (grads m c) (first m c) (second m c)).a6
    ∧ r.2.mem ((c.tc : Thread nD τ).loc main_v29) = (each step (params m c) (grads m c) (first m c) (second m c)).a7
    ∧ r.2.mem ((c.tc : Thread nD τ).loc main_v31) = (each step (params m c) (grads m c) (first m c) (second m c)).a8
    ∧ r.2.mem ((c.tc : Thread nD τ).loc main_v33) = (each step (params m c) (grads m c) (first m c) (second m c)).a9
    ∧ r.2.mem ((c.tc : Thread nD τ).loc main_v35) = (each moment (params m c) (grads m c) (first m c) (second m c)).a0
    ∧ r.2.mem ((c.tc : Thread nD τ).loc main_v36) = (each moment (params m c) (grads m c) (first m c) (second m c)).a1
    ∧ r.2.mem ((c.tc : Thread nD τ).loc main_v37) = (each moment (params m c) (grads m c) (first m c) (second m c)).a2
    ∧ r.2.mem ((c.tc : Thread nD τ).loc main_v38) = (each moment (params m c) (grads m c) (first m c) (second m c)).a3
    ∧ r.2.mem ((c.tc : Thread nD τ).loc main_v39) = (each moment (params m c) (grads m c) (first m c) (second m c)).a4
    ∧ r.2.mem ((c.tc : Thread nD τ).loc main_v40) = (each moment (params m c) (grads m c) (first m c) (second m c)).a5
    ∧ r.2.mem ((c.tc : Thread nD τ).loc main_v41) = (each moment (params m c) (grads m c) (first m c) (second m c)).a6
    ∧ r.2.mem ((c.tc : Thread nD τ).loc main_v42) = (each moment (params m c) (grads m c) (first m c) (second m c)).a7
    ∧ r.2.mem ((c.tc : Thread nD τ).loc main_v44) = (each moment (params m c) (grads m c) (first m c) (second m c)).a8
    ∧ r.2.mem ((c.tc : Thread nD τ).loc main_v46) = (each moment (params m c) (grads m c) (first m c) (second m c)).a9
    ∧ r.2.mem ((c.tc : Thread nD τ).loc main_v48) = (each square (params m c) (grads m c) (first m c) (second m c)).a0
    ∧ r.2.mem ((c.tc : Thread nD τ).loc main_v49) = (each square (params m c) (grads m c) (first m c) (second m c)).a1
    ∧ r.2.mem ((c.tc : Thread nD τ).loc main_v50) = (each square (params m c) (grads m c) (first m c) (second m c)).a2
    ∧ r.2.mem ((c.tc : Thread nD τ).loc main_v51) = (each square (params m c) (grads m c) (first m c) (second m c)).a3
    ∧ r.2.mem ((c.tc : Thread nD τ).loc main_v52) = (each square (params m c) (grads m c) (first m c) (second m c)).a4
    ∧ r.2.mem ((c.tc : Thread nD τ).loc main_v53) = (each square (params m c) (grads m c) (first m c) (second m c)).a5
    ∧ r.2.mem ((c.tc : Thread nD τ).loc main_v54) = (each square (params m c) (grads m c) (first m c) (second m c)).a6
    ∧ r.2.mem ((c.tc : Thread nD τ).loc main_v55) = (each square (params m c) (grads m c) (first m c) (second m c)).a7
    ∧ r.2.mem ((c.tc : Thread nD τ).loc main_v57) = (each square (params m c) (grads m c) (first m c) (second m c)).a8
    ∧ r.2.mem ((c.tc : Thread nD τ).loc main_v59) = (each square (params m c) (grads m c) (first m c) (second m c)).a9
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31)
    ∧ r.2.mem ((c.tc : Thread nD τ).loc main_arg32) = m ((c.tc : Thread nD τ).loc main_arg32)
    ∧ r.2.mem ((c.tc : Thread nD τ).loc main_arg33) = m ((c.tc : Thread nD τ).loc main_arg33)
    ∧ r.2.mem ((c.tc : Thread nD τ).loc main_arg34) = m ((c.tc : Thread nD τ).loc main_arg34)
    ∧ r.2.mem ((c.tc : Thread nD τ).loc main_arg35) = m ((c.tc : Thread nD τ).loc main_arg35)
    ∧ r.2.mem ((c.tc : Thread nD τ).loc main_arg36) = m ((c.tc : Thread nD τ).loc main_arg36)
    ∧ r.2.mem ((c.tc : Thread nD τ).loc main_arg37) = m ((c.tc : Thread nD τ).loc main_arg37)
    ∧ r.2.mem ((c.tc : Thread nD τ).loc main_arg38) = m ((c.tc : Thread nD τ).loc main_arg38)
    ∧ r.2.mem ((c.tc : Thread nD τ).loc main_arg39) = m ((c.tc : Thread nD τ).loc main_arg39) := by
  refine (θ_run defs _ _).mono (fun r h c => ?_) (run_main m g)
  have t4 := (tail_4 m c).trans (out_4 m c)
  have t5 := (tail_5 m c).trans (out_5 m c)
  have t6 := (tail_6 m c).trans (out_6 m c)
  have rest (b : Ref sig .tc) (hb) := (h c).2 b hb
  refine ⟨(rest main_v22 ?_).trans (congrArg Ten.a0 t4),
    (rest main_v23 ?_).trans (congrArg Ten.a1 t4),
    (rest main_v24 ?_).trans (congrArg Ten.a2 t4),
    (rest main_v25 ?_).trans (congrArg Ten.a3 t4),
    (rest main_v26 ?_).trans (congrArg Ten.a4 t4),
    (rest main_v27 ?_).trans (congrArg Ten.a5 t4),
    (rest main_v28 ?_).trans (congrArg Ten.a6 t4),
    (rest main_v29 ?_).trans (congrArg Ten.a7 t4),
    (rest main_v31 ?_).trans (congrArg Ten.a8 t4),
    (rest main_v33 ?_).trans (congrArg Ten.a9 t4),
    (rest main_v35 ?_).trans (congrArg Ten.a0 t5),
    (rest main_v36 ?_).trans (congrArg Ten.a1 t5),
    (rest main_v37 ?_).trans (congrArg Ten.a2 t5),
    (rest main_v38 ?_).trans (congrArg Ten.a3 t5),
    (rest main_v39 ?_).trans (congrArg Ten.a4 t5),
    (rest main_v40 ?_).trans (congrArg Ten.a5 t5),
    (rest main_v41 ?_).trans (congrArg Ten.a6 t5),
    (rest main_v42 ?_).trans (congrArg Ten.a7 t5),
    (rest main_v44 ?_).trans (congrArg Ten.a8 t5),
    (rest main_v46 ?_).trans (congrArg Ten.a9 t5),
    (rest main_v48 ?_).trans (congrArg Ten.a0 t6),
    (rest main_v49 ?_).trans (congrArg Ten.a1 t6),
    (rest main_v50 ?_).trans (congrArg Ten.a2 t6),
    (rest main_v51 ?_).trans (congrArg Ten.a3 t6),
    (rest main_v52 ?_).trans (congrArg Ten.a4 t6),
    (rest main_v53 ?_).trans (congrArg Ten.a5 t6),
    (rest main_v54 ?_).trans (congrArg Ten.a6 t6),
    (rest main_v55 ?_).trans (congrArg Ten.a7 t6),
    (rest main_v57 ?_).trans (congrArg Ten.a8 t6),
    (rest main_v59 ?_).trans (congrArg Ten.a9 t6),
    (rest main_arg0 ?_).trans (W_main_arg0 m (dats m) c),
    (rest main_arg1 ?_).trans (W_main_arg1 m (dats m) c),
    (rest main_arg2 ?_).trans (W_main_arg2 m (dats m) c),
    (rest main_arg3 ?_).trans (W_main_arg3 m (dats m) c),
    (rest main_arg4 ?_).trans (W_main_arg4 m (dats m) c),
    (rest main_arg5 ?_).trans (W_main_arg5 m (dats m) c),
    (rest main_arg6 ?_).trans (W_main_arg6 m (dats m) c),
    (rest main_arg7 ?_).trans (W_main_arg7 m (dats m) c),
    (rest main_arg8 ?_).trans (W_main_arg8 m (dats m) c),
    (rest main_arg9 ?_).trans (W_main_arg9 m (dats m) c),
    (rest main_arg10 ?_).trans (W_main_arg10 m (dats m) c),
    (rest main_arg11 ?_).trans (W_main_arg11 m (dats m) c),
    (rest main_arg12 ?_).trans (W_main_arg12 m (dats m) c),
    (rest main_arg13 ?_).trans (W_main_arg13 m (dats m) c),
    (rest main_arg14 ?_).trans (W_main_arg14 m (dats m) c),
    (rest main_arg15 ?_).trans (W_main_arg15 m (dats m) c),
    (rest main_arg16 ?_).trans (W_main_arg16 m (dats m) c),
    (rest main_arg17 ?_).trans (W_main_arg17 m (dats m) c),
    (rest main_arg18 ?_).trans (W_main_arg18 m (dats m) c),
    (rest main_arg19 ?_).trans (W_main_arg19 m (dats m) c),
    (rest main_arg20 ?_).trans (W_main_arg20 m (dats m) c),
    (rest main_arg21 ?_).trans (W_main_arg21 m (dats m) c),
    (rest main_arg22 ?_).trans (W_main_arg22 m (dats m) c),
    (rest main_arg23 ?_).trans (W_main_arg23 m (dats m) c),
    (rest main_arg24 ?_).trans (W_main_arg24 m (dats m) c),
    (rest main_arg25 ?_).trans (W_main_arg25 m (dats m) c),
    (rest main_arg26 ?_).trans (W_main_arg26 m (dats m) c),
    (rest main_arg27 ?_).trans (W_main_arg27 m (dats m) c),
    (rest main_arg28 ?_).trans (W_main_arg28 m (dats m) c),
    (rest main_arg29 ?_).trans (W_main_arg29 m (dats m) c),
    (rest main_arg30 ?_).trans (W_main_arg30 m (dats m) c),
    (rest main_arg31 ?_).trans (W_main_arg31 m (dats m) c),
    (rest main_arg32 ?_).trans (W_main_arg32 m (dats m) c),
    (rest main_arg33 ?_).trans (W_main_arg33 m (dats m) c),
    (rest main_arg34 ?_).trans (W_main_arg34 m (dats m) c),
    (rest main_arg35 ?_).trans (W_main_arg35 m (dats m) c),
    (rest main_arg36 ?_).trans (W_main_arg36 m (dats m) c),
    (rest main_arg37 ?_).trans (W_main_arg37 m (dats m) c),
    (rest main_arg38 ?_).trans (W_main_arg38 m (dats m) c),
    (rest main_arg39 ?_).trans (W_main_arg39 m (dats m) c)⟩
  all_goals exact Pipeline.mem_restRefs_of _ (by decide) (by decide)

end Cert.SmallSteps

end
-- ==== Proof.SmallStepsEqual.lean ====
/- The optimiser's steps of the ten small parameters: the two programs' results are equal. -/
module

public import proofs.«01_k».proof.Proof.SmallSteps
public import proofs.«01_k».proof.Proof.Gen.StepsRefIdeal.Run

@[expose] public section

set_option maxRecDepth 16384

noncomputable section

namespace Cert.SmallSteps

open Idealize.ShloMosaic Idealize.ShloMosaic.TcCoe Idealize.SL.Sem Cert.StepsIdeal Cert.StepsIdeal.Gen

section Arrays

variable {S : Shape} (hb : S_.BroadcastsInDim S (![] : Fin 0 → Fin S.rank)) (w g p v : FVec Ideal S .f32)

/-- A number on every element. -/
abbrev all (b : BitVec 32) : FVec Ideal S .f32 := broadcastInDim S ![] hb (constant S_ .f32 b)

theorem moment_eq : addf (mulf (all hb 0x3F666666#32) p) (mulf (all hb 0x3DCCCCCD#32) g) = fun i => moment (w i) (g i) (p i) (v i) := by
  rfl

theorem square_eq : addf (mulf (all hb 0x3F7FBE77#32) v) (mulf (all hb 0x3A83126F#32) (mulf g g)) = fun i => square (w i) (g i) (p i) (v i) := by
  rfl

theorem step_eq : mulf (all hb 0xBA83126F#32) (addf (Host.divf (Host.divf (addf (mulf (all hb 0x3F666666#32) p) (mulf (all hb 0x3DCCCCCD#32) g)) (all hb 0x3F26BD02#32))
      (addf (Host.sqrt (Host.divf (addf (mulf (all hb 0x3F7FBE77#32) v) (mulf (all hb 0x3A83126F#32) (mulf g g))) (all hb 0x3C231ACC#32))) (all hb 0x322BCC77#32)))
    (mulf (all hb 0x3C23D70A#32) w)) = fun i => step (w i) (g i) (p i) (v i) := by
  rfl

variable {w g p v} {w' g' p' v' : FVec Ideal S .f32}

/-- Equal arrays give equal functions. -/
theorem same (E : EReal → EReal → EReal → EReal → EReal) (hw : w' = w) (hg : g' = g) (hp : p' = p) (hv : v' = v) :
    (fun i => E (w' i) (g' i) (p' i) (v' i)) = fun i => E (w i) (g i) (p i) (v i) := by
  rw [hw, hg, hp, hv]

end Arrays

open StepsRefIdeal.Gen (bcast_S_S1024 bcast_S_S512 bcast_S_S64 bcast_S_S5632 bcast_S_S31x128 bcast_S_S3x1408) in
theorem algebraic : Cert.algebraic_StepsIdeal_StepsRefIdeal := by
  intro m g m' g' _ hagree
  refine ⟨_, _, _, _, _, _, _, _, _, _, _, _, _, _, _, _, _, _, _, _, _, _, _, _, _, _, _, _, _, _, run m g, ?_⟩
  refine (θ_run StepsRefIdeal.defs _ _).mono (fun r h c => ?_) (StepsRefIdeal.Value.run m' g')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39⟩ := hagree c
  obtain ⟨r0, r1, r2, r3, r4, r5, r6, r7, r8, r9, r10, r11, r12, r13, r14, r15, r16, r17, r18, r19, r20, r21, r22, r23, r24, r25, r26, r27, r28, r29, rest⟩ := h c
  exact ⟨r0.trans ((step_eq bcast_S_S1024 _ _ _ _).trans (same step h0 h10 h20 h30)),
    r1.trans ((step_eq bcast_S_S512 _ _ _ _).trans (same step h1 h11 h21 h31)),
    r2.trans ((step_eq bcast_S_S512 _ _ _ _).trans (same step h2 h12 h22 h32)),
    r3.trans ((step_eq bcast_S_S512 _ _ _ _).trans (same step h3 h13 h23 h33)),
    r4.trans ((step_eq bcast_S_S64 _ _ _ _).trans (same step h4 h14 h24 h34)),
    r5.trans ((step_eq bcast_S_S64 _ _ _ _).trans (same step h5 h15 h25 h35)),
    r6.trans ((step_eq bcast_S_S1024 _ _ _ _).trans (same step h6 h16 h26 h36)),
    r7.trans ((step_eq bcast_S_S5632 _ _ _ _).trans (same step h7 h17 h27 h37)),
    r8.trans ((step_eq bcast_S_S31x128 _ _ _ _).trans (same step h8 h18 h28 h38)),
    r9.trans ((step_eq bcast_S_S3x1408 _ _ _ _).trans (same step h9 h19 h29 h39)),
    r10.trans ((moment_eq bcast_S_S1024 _ _ _ _).trans (same moment h0 h10 h20 h30)),
    r11.trans ((moment_eq bcast_S_S512 _ _ _ _).trans (same moment h1 h11 h21 h31)),
    r12.trans ((moment_eq bcast_S_S512 _ _ _ _).trans (same moment h2 h12 h22 h32)),
    r13.trans ((moment_eq bcast_S_S512 _ _ _ _).trans (same moment h3 h13 h23 h33)),
    r14.trans ((moment_eq bcast_S_S64 _ _ _ _).trans (same moment h4 h14 h24 h34)),
    r15.trans ((moment_eq bcast_S_S64 _ _ _ _).trans (same moment h5 h15 h25 h35)),
    r16.trans ((moment_eq bcast_S_S1024 _ _ _ _).trans (same moment h6 h16 h26 h36)),
    r17.trans ((moment_eq bcast_S_S5632 _ _ _ _).trans (same moment h7 h17 h27 h37)),
    r18.trans ((moment_eq bcast_S_S31x128 _ _ _ _).trans (same moment h8 h18 h28 h38)),
    r19.trans ((moment_eq bcast_S_S3x1408 _ _ _ _).trans (same moment h9 h19 h29 h39)),
    r20.trans ((square_eq bcast_S_S1024 _ _ _ _).trans (same square h0 h10 h20 h30)),
    r21.trans ((square_eq bcast_S_S512 _ _ _ _).trans (same square h1 h11 h21 h31)),
    r22.trans ((square_eq bcast_S_S512 _ _ _ _).trans (same square h2 h12 h22 h32)),
    r23.trans ((square_eq bcast_S_S512 _ _ _ _).trans (same square h3 h13 h23 h33)),
    r24.trans ((square_eq bcast_S_S64 _ _ _ _).trans (same square h4 h14 h24 h34)),
    r25.trans ((square_eq bcast_S_S64 _ _ _ _).trans (same square h5 h15 h25 h35)),
    r26.trans ((square_eq bcast_S_S1024 _ _ _ _).trans (same square h6 h16 h26 h36)),
    r27.trans ((square_eq bcast_S_S5632 _ _ _ _).trans (same square h7 h17 h27 h37)),
    r28.trans ((square_eq bcast_S_S31x128 _ _ _ _).trans (same square h8 h18 h28 h38)),
    r29.trans ((square_eq bcast_S_S3x1408 _ _ _ _).trans (same square h9 h19 h29 h39)), rest⟩

theorem frame_reference : Cert.quiescent_StepsRefIdeal := fun m g _ =>
  (θ_run StepsRefIdeal.defs _ _).mono (fun r h => ⟨fun c => (h c).2.2.2.2.2.2.2.2.2.2.2.2.2.2.2.2.2.2.2.2.2.2.2.2.2.2.2.2.2.2, sem_eq_zero_of_no_sems (by decide) r.2⟩)
    (StepsRefIdeal.Value.run m g)

end Cert.SmallSteps

end
-- ==== Proof.Sums.lean ====
/- A block plus the received blocks in turn, and the sum over the devices: plain sums over the first index. -/
module

public import Idealize.ShloMosaic.Lib.Pipeline.ValueKit

@[expose] public section

noncomputable section

namespace Cert.Sums

open Idealize.ShloMosaic

/-- An element plus the three received elements at its place. -/
def own3 {a b : ℕ} (x : (⟨2, ![a, b]⟩ : Shape).Idx → EReal) (y : (⟨3, ![3, a, b]⟩ : Shape).Idx → EReal)
    (i : Fin a) (j : Fin b) : EReal :=
  x (ix2 i j) + y (ix3 0 i j) + y (ix3 1 i j) + y (ix3 2 i j)

/-- The three added one after another are their sum added at once. -/
theorem own3_sum {a b : ℕ} (x : (⟨2, ![a, b]⟩ : Shape).Idx → EReal) (y : (⟨3, ![3, a, b]⟩ : Shape).Idx → EReal)
    (i : Fin a) (j : Fin b) : x (ix2 i j) + ∑ k : Fin 3, y (ix3 k i j) = own3 x y i j := by
  rw [Fin.sum_univ_three, own3, add_assoc, add_assoc, add_assoc]

end Cert.Sums

end
-- ==== Proof.Shards.lean ====
/- A shard of a matrix's gradient plus the three received shards: the two programs' results are equal.
   A point adds its rows of the three received shards to the device's own one after another; the reference adds their sum
   over the first index. The four calls differ in their shapes. -/
module

public import proofs.«01_k».proof.Defs
public import proofs.«01_k».proof.Proof.Gen.PartInIdeal.Value
public import proofs.«01_k».proof.Proof.Gen.PartInRefIdeal.Run
public import proofs.«01_k».proof.Proof.Gen.PartOutIdeal.Value
public import proofs.«01_k».proof.Proof.Gen.PartOutRefIdeal.Run
public import proofs.«01_k».proof.Proof.Gen.PartUpIdeal.Value
public import proofs.«01_k».proof.Proof.Gen.PartUpRefIdeal.Run
public import proofs.«01_k».proof.Proof.Gen.PartDownIdeal.Value
public import proofs.«01_k».proof.Proof.Gen.PartDownRefIdeal.Run
public import proofs.«01_k».proof.Proof.Sums
public import proofs.«01_k».proof.Proof.Blocks
public import Idealize.ShloMosaic.Lib.Pipeline.ReadBack
public import Idealize.ShloMosaic.Lib.Quiescent

@[expose] public section

set_option maxRecDepth 16384

noncomputable section

namespace Cert.Shards

open Idealize.ShloMosaic Idealize.ShloMosaic.TcCoe Idealize.SL.Sem

/-! ## `w_in` -/

section In

open Cert.PartInIdeal Cert.PartInIdeal.Gen

/-- The point's rows of the own shard, of the received ones and of the result. -/
theorem rows_in (t : Fin cfg0.N) :
    win0_0.index t = ![t.val, 0] ∧ win0_1.index t = ![0, t.val, 0] ∧ win0_2.index t = ![t.val, 0] := by
  revert t
  exact (by decide +kernel : ∀ t : Fin grid0.N,
    win0_0.index t = ![t.val, 0] ∧ win0_1.index t = ![0, t.val, 0] ∧ win0_2.index t = ![t.val, 0])

/-- The kernel's array after the last point. -/
theorem final_in (m : (ℓ : Loc nD τ sig) → Buf (Elt Ideal) ℓ) (c : Dev nD) : (dats m 0 c).arrAt 2 cfg0.N
    = fun y => Sums.own3 (m ((c : Thread nD τ).loc main_arg0)) (m ((c : Thread nD τ).loc main_arg1)) (y 0) (y 1) := by
  refine (dats m 0 c).arrAt_eq_of_covers 2 _ (by decide +kernel) fun t hf y => ?_
  obtain ⟨i0, i1, i2⟩ := rows_in t
  refine (congrFun (Value.flushed2 m c t) y).trans ?_
  rw [(cfg0.win 2).cut_apply]
  unfold out0_2
  rw [Value.canon2_eq]
  unfold Value.E2 Sums.own3
  refine congrArg₂ (· + ·) (congrArg₂ (· + ·) (congrArg₂ (· + ·) ?_ ?_) ?_) ?_
  · refine Eq.trans ?_ (congrFun (V_main_arg0 m c) _)
    refine (View.ld_apply _ _ _).trans ?_
    blk_ext [iblk, i0, i2, r0_0, Rect.idx_unit_val]
  all_goals
    refine Eq.trans ?_ (congrFun (V_main_arg1 m c) _)
    refine (View.ld_apply _ _ _).trans ?_
    blk_ext [iblk, i1, i2, r0_1, r0_2, r0_3, Rect.idx_unit_val]

theorem algebraic_in : Cert.algebraic_PartInIdeal_PartInRefIdeal := by
  intro m g m' g' _ hagree
  refine ⟨_, Value.run_blocks m g, (θ_run PartInRefIdeal.defs _ _).mono (fun r h c => ?_) (PartInRefIdeal.Value.run m' g')⟩
  obtain ⟨h0, h1⟩ := hagree c
  obtain ⟨r0, rest⟩ := h c
  rw [h0, h1] at r0
  refine ⟨r0.trans (Rows.matrix_ext _ _ fun i j => ?_), rest⟩
  refine Eq.trans ((?_ : _ = _).trans (Sums.own3_sum _ _ i j)) (congrFun (final_in m c) (ix2 i j)).symm
  pointwise

theorem frame_in : Cert.quiescent_PartInRefIdeal := fun m g _ =>
  (θ_run PartInRefIdeal.defs _ _).mono (fun r h => ⟨fun c => (h c).2, sem_eq_zero_of_no_sems (by decide) r.2⟩)
    (PartInRefIdeal.Value.run m g)

end In

/-! ## `w_out` -/

section Out

open Cert.PartOutIdeal Cert.PartOutIdeal.Gen

/-- The point's rows of the own shard, of the received ones and of the result. -/
theorem rows_out (t : Fin cfg0.N) :
    win0_0.index t = ![t.val, 0] ∧ win0_1.index t = ![0, t.val, 0] ∧ win0_2.index t = ![t.val, 0] := by
  revert t
  exact (by decide +kernel : ∀ t : Fin grid0.N,
    win0_0.index t = ![t.val, 0] ∧ win0_1.index t = ![0, t.val, 0] ∧ win0_2.index t = ![t.val, 0])

/-- The kernel's array after the last point. -/
theorem final_out (m : (ℓ : Loc nD τ sig) → Buf (Elt Ideal) ℓ) (c : Dev nD) : (dats m 0 c).arrAt 2 cfg0.N
    = fun y => Sums.own3 (m ((c : Thread nD τ).loc main_arg0)) (m ((c : Thread nD τ).loc main_arg1)) (y 0) (y 1) := by
  refine (dats m 0 c).arrAt_eq_of_covers 2 _ (by decide +kernel) fun t hf y => ?_
  obtain ⟨i0, i1, i2⟩ := rows_out t
  refine (congrFun (Value.flushed2 m c t) y).trans ?_
  rw [(cfg0.win 2).cut_apply]
  unfold out0_2
  rw [Value.canon2_eq]
  unfold Value.E2 Sums.own3
  refine congrArg₂ (· + ·) (congrArg₂ (· + ·) (congrArg₂ (· + ·) ?_ ?_) ?_) ?_
  · refine Eq.trans ?_ (congrFun (V_main_arg0 m c) _)
    refine (View.ld_apply _ _ _).trans ?_
    blk_ext [iblk, i0, i2, r0_0, Rect.idx_unit_val]
  all_goals
    refine Eq.trans ?_ (congrFun (V_main_arg1 m c) _)
    refine (View.ld_apply _ _ _).trans ?_
    blk_ext [iblk, i1, i2, r0_1, r0_2, r0_3, Rect.idx_unit_val]

theorem algebraic_out : Cert.algebraic_PartOutIdeal_PartOutRefIdeal := by
  intro m g m' g' _ hagree
  refine ⟨_, Value.run_blocks m g, (θ_run PartOutRefIdeal.defs _ _).mono (fun r h c => ?_) (PartOutRefIdeal.Value.run m' g')⟩
  obtain ⟨h0, h1⟩ := hagree c
  obtain ⟨r0, rest⟩ := h c
  rw [h0, h1] at r0
  refine ⟨r0.trans (Rows.matrix_ext _ _ fun i j => ?_), rest⟩
  refine Eq.trans ((?_ : _ = _).trans (Sums.own3_sum _ _ i j)) (congrFun (final_out m c) (ix2 i j)).symm
  pointwise

theorem frame_out : Cert.quiescent_PartOutRefIdeal := fun m g _ =>
  (θ_run PartOutRefIdeal.defs _ _).mono (fun r h => ⟨fun c => (h c).2, sem_eq_zero_of_no_sems (by decide) r.2⟩)
    (PartOutRefIdeal.Value.run m g)

end Out

/-! ## `w_up` -/

section Up

open Cert.PartUpIdeal Cert.PartUpIdeal.Gen

/-- The point's rows of the own shard, of the received ones and of the result. -/
theorem rows_up (t : Fin cfg0.N) :
    win0_0.index t = ![t.val, 0] ∧ win0_1.index t = ![0, t.val, 0] ∧ win0_2.index t = ![t.val, 0] := by
  revert t
  exact (by decide +kernel : ∀ t : Fin grid0.N,
    win0_0.index t = ![t.val, 0] ∧ win0_1.index t = ![0, t.val, 0] ∧ win0_2.index t = ![t.val, 0])

/-- The kernel's array after the last point. -/
theorem final_up (m : (ℓ : Loc nD τ sig) → Buf (Elt Ideal) ℓ) (c : Dev nD) : (dats m 0 c).arrAt 2 cfg0.N
    = fun y => Sums.own3 (m ((c : Thread nD τ).loc main_arg0)) (m ((c : Thread nD τ).loc main_arg1)) (y 0) (y 1) := by
  refine (dats m 0 c).arrAt_eq_of_covers 2 _ (by decide +kernel) fun t hf y => ?_
  obtain ⟨i0, i1, i2⟩ := rows_up t
  refine (congrFun (Value.flushed2 m c t) y).trans ?_
  rw [(cfg0.win 2).cut_apply]
  unfold out0_2
  rw [Value.canon2_eq]
  unfold Value.E2 Sums.own3
  refine congrArg₂ (· + ·) (congrArg₂ (· + ·) (congrArg₂ (· + ·) ?_ ?_) ?_) ?_
  · refine Eq.trans ?_ (congrFun (V_main_arg0 m c) _)
    refine (View.ld_apply _ _ _).trans ?_
    blk_ext [iblk, i0, i2, r0_0, Rect.idx_unit_val]
  all_goals
    refine Eq.trans ?_ (congrFun (V_main_arg1 m c) _)
    refine (View.ld_apply _ _ _).trans ?_
    blk_ext [iblk, i1, i2, r0_1, r0_2, r0_3, Rect.idx_unit_val]

theorem algebraic_up : Cert.algebraic_PartUpIdeal_PartUpRefIdeal := by
  intro m g m' g' _ hagree
  refine ⟨_, Value.run_blocks m g, (θ_run PartUpRefIdeal.defs _ _).mono (fun r h c => ?_) (PartUpRefIdeal.Value.run m' g')⟩
  obtain ⟨h0, h1⟩ := hagree c
  obtain ⟨r0, rest⟩ := h c
  rw [h0, h1] at r0
  refine ⟨r0.trans (Rows.matrix_ext _ _ fun i j => ?_), rest⟩
  refine Eq.trans ((?_ : _ = _).trans (Sums.own3_sum _ _ i j)) (congrFun (final_up m c) (ix2 i j)).symm
  pointwise

theorem frame_up : Cert.quiescent_PartUpRefIdeal := fun m g _ =>
  (θ_run PartUpRefIdeal.defs _ _).mono (fun r h => ⟨fun c => (h c).2, sem_eq_zero_of_no_sems (by decide) r.2⟩)
    (PartUpRefIdeal.Value.run m g)

end Up

/-! ## `w_down` -/

section Down

open Cert.PartDownIdeal Cert.PartDownIdeal.Gen

/-- The point's rows of the own shard, of the received ones and of the result. -/
theorem rows_down (t : Fin cfg0.N) :
    win0_0.index t = ![t.val, 0] ∧ win0_1.index t = ![0, t.val, 0] ∧ win0_2.index t = ![t.val, 0] := by
  revert t
  exact (by decide +kernel : ∀ t : Fin grid0.N,
    win0_0.index t = ![t.val, 0] ∧ win0_1.index t = ![0, t.val, 0] ∧ win0_2.index t = ![t.val, 0])

/-- The kernel's array after the last point. -/
theorem final_down (m : (ℓ : Loc nD τ sig) → Buf (Elt Ideal) ℓ) (c : Dev nD) : (dats m 0 c).arrAt 2 cfg0.N
    = fun y => Sums.own3 (m ((c : Thread nD τ).loc main_arg0)) (m ((c : Thread nD τ).loc main_arg1)) (y 0) (y 1) := by
  refine (dats m 0 c).arrAt_eq_of_covers 2 _ (by decide +kernel) fun t hf y => ?_
  obtain ⟨i0, i1, i2⟩ := rows_down t
  refine (congrFun (Value.flushed2 m c t) y).trans ?_
  rw [(cfg0.win 2).cut_apply]
  unfold out0_2
  rw [Value.canon2_eq]
  unfold Value.E2 Sums.own3
  refine congrArg₂ (· + ·) (congrArg₂ (· + ·) (congrArg₂ (· + ·) ?_ ?_) ?_) ?_
  · refine Eq.trans ?_ (congrFun (V_main_arg0 m c) _)
    refine (View.ld_apply _ _ _).trans ?_
    blk_ext [iblk, i0, i2, r0_0, Rect.idx_unit_val]
  all_goals
    refine Eq.trans ?_ (congrFun (V_main_arg1 m c) _)
    refine (View.ld_apply _ _ _).trans ?_
    blk_ext [iblk, i1, i2, r0_1, r0_2, r0_3, Rect.idx_unit_val]

theorem algebraic_down : Cert.algebraic_PartDownIdeal_PartDownRefIdeal := by
  intro m g m' g' _ hagree
  refine ⟨_, Value.run_blocks m g, (θ_run PartDownRefIdeal.defs _ _).mono (fun r h c => ?_) (PartDownRefIdeal.Value.run m' g')⟩
  obtain ⟨h0, h1⟩ := hagree c
  obtain ⟨r0, rest⟩ := h c
  rw [h0, h1] at r0
  refine ⟨r0.trans (Rows.matrix_ext _ _ fun i j => ?_), rest⟩
  refine Eq.trans ((?_ : _ = _).trans (Sums.own3_sum _ _ i j)) (congrFun (final_down m c) (ix2 i j)).symm
  pointwise

theorem frame_down : Cert.quiescent_PartDownRefIdeal := fun m g _ =>
  (θ_run PartDownRefIdeal.defs _ _).mono (fun r h => ⟨fun c => (h c).2, sem_eq_zero_of_no_sems (by decide) r.2⟩)
    (PartDownRefIdeal.Value.run m g)

end Down

end Cert.Shards

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Wup
public import proofs.«01_k».proof.Proof.Gen.Wup.Skeleton
public import proofs.«01_k».proof.Proof.Gen.Wup.Launch
public import proofs.«01_k».proof.Proof.Gen.Wup.Points
public import proofs.«01_k».proof.Proof.Gen.Wup.Frame
public import proofs.«01_k».proof.Proof.Gen.WupIdeal
public import proofs.«01_k».proof.Proof.Gen.WupIdeal.Skeleton
public import proofs.«01_k».proof.Proof.Gen.WupIdeal.Launch
public import proofs.«01_k».proof.Proof.Gen.WupIdeal.Points
public import proofs.«01_k».proof.Proof.Gen.WupIdeal.Frame
public import proofs.«01_k».proof.Proof.Gen.WupIdeal.Value
public import proofs.«01_k».proof.Proof.Gen.WupRefIdeal
public import proofs.«01_k».proof.Proof.Gen.WupRefIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.Wdown
public import proofs.«01_k».proof.Proof.Gen.Wdown.Skeleton
public import proofs.«01_k».proof.Proof.Gen.Wdown.Launch
public import proofs.«01_k».proof.Proof.Gen.Wdown.Points
public import proofs.«01_k».proof.Proof.Gen.Wdown.Frame
public import proofs.«01_k».proof.Proof.Gen.WdownIdeal
public import proofs.«01_k».proof.Proof.Gen.WdownIdeal.Skeleton
public import proofs.«01_k».proof.Proof.Gen.WdownIdeal.Launch
public import proofs.«01_k».proof.Proof.Gen.WdownIdeal.Points
public import proofs.«01_k».proof.Proof.Gen.WdownIdeal.Frame
public import proofs.«01_k».proof.Proof.Gen.WdownIdeal.Value
public import proofs.«01_k».proof.Proof.Gen.WdownRefIdeal
public import proofs.«01_k».proof.Proof.Gen.WdownRefIdeal.Run
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutIdeal.Value
public import proofs.«01_k».proof.Proof.Gen.WoutRefIdeal
public import proofs.«01_k».proof.Proof.Gen.WoutRefIdeal.Run
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidIdeal.Value
public import proofs.«01_k».proof.Proof.Gen.MidRefIdeal
public import proofs.«01_k».proof.Proof.Gen.MidRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Pre_finite_out
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Pre_finite_proj
public import proofs.«01_k».proof.Proof.Gen.Qb
public import proofs.«01_k».proof.Proof.Gen.Qb.Skeleton
public import proofs.«01_k».proof.Proof.Gen.Qb.Launch
public import proofs.«01_k».proof.Proof.Gen.Qb.Points
public import proofs.«01_k».proof.Proof.Gen.Qb.Frame
public import proofs.«01_k».proof.Proof.Gen.QbIdeal
public import proofs.«01_k».proof.Proof.Gen.QbIdeal.Skeleton
public import proofs.«01_k».proof.Proof.Gen.QbIdeal.Launch
public import proofs.«01_k».proof.Proof.Gen.QbIdeal.Points
public import proofs.«01_k».proof.Proof.Gen.QbIdeal.Frame
public import proofs.«01_k».proof.Proof.Gen.QbRefIdeal
public import proofs.«01_k».proof.Proof.Gen.QbRefIdeal.Run
public import proofs.«01_k».proof.Proof.Gen.Pre_finite_qb
public import proofs.«01_k».proof.Proof.Gen.Kb
public import proofs.«01_k».proof.Proof.Gen.Kb.Skeleton
public import proofs.«01_k».proof.Proof.Gen.Kb.Launch
public import proofs.«01_k».proof.Proof.Gen.Kb.Points
public import proofs.«01_k».proof.Proof.Gen.Kb.Frame
public import proofs.«01_k».proof.Proof.Gen.KbIdeal
public import proofs.«01_k».proof.Proof.Gen.KbIdeal.Skeleton
public import proofs.«01_k».proof.Proof.Gen.KbIdeal.Launch
public import proofs.«01_k».proof.Proof.Gen.KbIdeal.Points
public import proofs.«01_k».proof.Proof.Gen.KbIdeal.Frame
public import proofs.«01_k».proof.Proof.Gen.KbRefIdeal
public import proofs.«01_k».proof.Proof.Gen.KbRefIdeal.Run
public import proofs.«01_k».proof.Proof.Gen.Pre_finite_kb
public import proofs.«01_k».proof.Proof.Gen.Vb
public import proofs.«01_k».proof.Proof.Gen.Vb.Skeleton
public import proofs.«01_k».proof.Proof.Gen.Vb.Launch
public import proofs.«01_k».proof.Proof.Gen.Vb.Points
public import proofs.«01_k».proof.Proof.Gen.Vb.Frame
public import proofs.«01_k».proof.Proof.Gen.VbIdeal
public import proofs.«01_k».proof.Proof.Gen.VbIdeal.Skeleton
public import proofs.«01_k».proof.Proof.Gen.VbIdeal.Launch
public import proofs.«01_k».proof.Proof.Gen.VbIdeal.Points
public import proofs.«01_k».proof.Proof.Gen.VbIdeal.Frame
public import proofs.«01_k».proof.Proof.Gen.VbIdeal.Value
public import proofs.«01_k».proof.Proof.Gen.VbRefIdeal
public import proofs.«01_k».proof.Proof.Gen.VbRefIdeal.Run
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallIdeal.Value
public import proofs.«01_k».proof.Proof.Gen.SmallRefIdeal
public import proofs.«01_k».proof.Proof.Gen.SmallRefIdeal.Run
public import proofs.«01_k».proof.Proof.Gen.Vec
public import proofs.«01_k».proof.Proof.Gen.Vec.Skeleton
public import proofs.«01_k».proof.Proof.Gen.Vec.Launch
public import proofs.«01_k».proof.Proof.Gen.Vec.Points
public import proofs.«01_k».proof.Proof.Gen.Vec.Frame
public import proofs.«01_k».proof.Proof.Gen.VecIdeal
public import proofs.«01_k».proof.Proof.Gen.VecIdeal.Skeleton
public import proofs.«01_k».proof.Proof.Gen.VecIdeal.Launch
public import proofs.«01_k».proof.Proof.Gen.VecIdeal.Points
public import proofs.«01_k».proof.Proof.Gen.VecIdeal.Frame
public import proofs.«01_k».proof.Proof.Gen.VecIdeal.Value
public import proofs.«01_k».proof.Proof.Gen.VecRefIdeal
public import proofs.«01_k».proof.Proof.Gen.VecRefIdeal.Run
public import proofs.«01_k».proof.Proof.Gen.Sums
public import proofs.«01_k».proof.Proof.Gen.Sums.Skeleton
public import proofs.«01_k».proof.Proof.Gen.Sums.Launch
public import proofs.«01_k».proof.Proof.Gen.Sums.Points
public import proofs.«01_k».proof.Proof.Gen.Sums.Frame
public import proofs.«01_k».proof.Proof.Gen.SumsIdeal
public import proofs.«01_k».proof.Proof.Gen.SumsIdeal.Skeleton
public import proofs.«01_k».proof.Proof.Gen.SumsIdeal.Launch
public import proofs.«01_k».proof.Proof.Gen.SumsIdeal.Points
public import proofs.«01_k».proof.Proof.Gen.SumsIdeal.Frame
public import proofs.«01_k».proof.Proof.Gen.SumsRefIdeal
public import proofs.«01_k».proof.Proof.Gen.SumsRefIdeal.Run
public import proofs.«01_k».proof.Proof.Gen.Steps
public import proofs.«01_k».proof.Proof.Gen.Steps.Skeleton
public import proofs.«01_k».proof.Proof.Gen.Steps.Launch
public import proofs.«01_k».proof.Proof.Gen.Steps.Points
public import proofs.«01_k».proof.Proof.Gen.Steps.Frame
public import proofs.«01_k».proof.Proof.Gen.StepsIdeal
public import proofs.«01_k».proof.Proof.Gen.StepsIdeal.Skeleton
public import proofs.«01_k».proof.Proof.Gen.StepsIdeal.Launch
public import proofs.«01_k».proof.Proof.Gen.StepsIdeal.Points
public import proofs.«01_k».proof.Proof.Gen.StepsIdeal.Frame
public import proofs.«01_k».proof.Proof.Gen.StepsRefIdeal
public import proofs.«01_k».proof.Proof.Gen.StepsRefIdeal.Run
public import proofs.«01_k».proof.Proof.Gen.PartIn
public import proofs.«01_k».proof.Proof.Gen.PartIn.Skeleton
public import proofs.«01_k».proof.Proof.Gen.PartIn.Launch
public import proofs.«01_k».proof.Proof.Gen.PartIn.Points
public import proofs.«01_k».proof.Proof.Gen.PartIn.Frame
public import proofs.«01_k».proof.Proof.Gen.PartInIdeal
public import proofs.«01_k».proof.Proof.Gen.PartInIdeal.Skeleton
public import proofs.«01_k».proof.Proof.Gen.PartInIdeal.Launch
public import proofs.«01_k».proof.Proof.Gen.PartInIdeal.Points
public import proofs.«01_k».proof.Proof.Gen.PartInIdeal.Frame
public import proofs.«01_k».proof.Proof.Gen.PartInIdeal.Value
public import proofs.«01_k».proof.Proof.Gen.PartInRefIdeal
public import proofs.«01_k».proof.Proof.Gen.PartInRefIdeal.Run
public import proofs.«01_k».proof.Proof.Gen.PartOut
public import proofs.«01_k».proof.Proof.Gen.PartOut.Skeleton
public import proofs.«01_k».proof.Proof.Gen.PartOut.Launch
public import proofs.«01_k».proof.Proof.Gen.PartOut.Points
public import proofs.«01_k».proof.Proof.Gen.PartOut.Frame
public import proofs.«01_k».proof.Proof.Gen.PartOutIdeal
public import proofs.«01_k».proof.Proof.Gen.PartOutIdeal.Skeleton
public import proofs.«01_k».proof.Proof.Gen.PartOutIdeal.Launch
public import proofs.«01_k».proof.Proof.Gen.PartOutIdeal.Points
public import proofs.«01_k».proof.Proof.Gen.PartOutIdeal.Frame
public import proofs.«01_k».proof.Proof.Gen.PartOutIdeal.Value
public import proofs.«01_k».proof.Proof.Gen.PartOutRefIdeal
public import proofs.«01_k».proof.Proof.Gen.PartOutRefIdeal.Run
public import proofs.«01_k».proof.Proof.Gen.PartUp
public import proofs.«01_k».proof.Proof.Gen.PartUp.Skeleton
public import proofs.«01_k».proof.Proof.Gen.PartUp.Launch
public import proofs.«01_k».proof.Proof.Gen.PartUp.Points
public import proofs.«01_k».proof.Proof.Gen.PartUp.Frame
public import proofs.«01_k».proof.Proof.Gen.PartUpIdeal
public import proofs.«01_k».proof.Proof.Gen.PartUpIdeal.Skeleton
public import proofs.«01_k».proof.Proof.Gen.PartUpIdeal.Launch
public import proofs.«01_k».proof.Proof.Gen.PartUpIdeal.Points
public import proofs.«01_k».proof.Proof.Gen.PartUpIdeal.Frame
public import proofs.«01_k».proof.Proof.Gen.PartUpIdeal.Value
public import proofs.«01_k».proof.Proof.Gen.PartUpRefIdeal
public import proofs.«01_k».proof.Proof.Gen.PartUpRefIdeal.Run
public import proofs.«01_k».proof.Proof.Gen.PartDown
public import proofs.«01_k».proof.Proof.Gen.PartDown.Skeleton
public import proofs.«01_k».proof.Proof.Gen.PartDown.Launch
public import proofs.«01_k».proof.Proof.Gen.PartDown.Points
public import proofs.«01_k».proof.Proof.Gen.PartDown.Frame
public import proofs.«01_k».proof.Proof.Gen.PartDownIdeal
public import proofs.«01_k».proof.Proof.Gen.PartDownIdeal.Skeleton
public import proofs.«01_k».proof.Proof.Gen.PartDownIdeal.Launch
public import proofs.«01_k».proof.Proof.Gen.PartDownIdeal.Points
public import proofs.«01_k».proof.Proof.Gen.PartDownIdeal.Frame
public import proofs.«01_k».proof.Proof.Gen.PartDownIdeal.Value
public import proofs.«01_k».proof.Proof.Gen.PartDownRefIdeal
public import proofs.«01_k».proof.Proof.Gen.PartDownRefIdeal.Run
public import Idealize.ShloMosaic.Adequacy
public import Idealize.ShloMosaic.Init
public import Idealize.ShloMosaic.Lib.Quiescent
public import proofs.«01_k».proof.Proof.Attn.Equation
public import proofs.«01_k».proof.Proof.Up.Equation
public import proofs.«01_k».proof.Proof.Wup.Equation
public import proofs.«01_k».proof.Proof.In.Equation
public import proofs.«01_k».proof.Proof.Win.Equation
public import proofs.«01_k».proof.Proof.Wdown.Equation
public import proofs.«01_k».proof.Proof.Wout.Equation
public import proofs.«01_k».proof.Proof.Mid.Equation
public import proofs.«01_k».proof.Proof.Out.Equation
public import proofs.«01_k».proof.Proof.Proj.Equation
public import proofs.«01_k».proof.Proof.Qb.Equation
public import proofs.«01_k».proof.Proof.Kb.Equation
public import proofs.«01_k».proof.Proof.Vb
public import proofs.«01_k».proof.Proof.First
public import proofs.«01_k».proof.Proof.Optimiser
public import proofs.«01_k».proof.Proof.Vector
public import proofs.«01_k».proof.Proof.SmallSums
public import proofs.«01_k».proof.Proof.SmallStepsEqual
public import proofs.«01_k».proof.Proof.Shards

@[expose] public section

noncomputable section

namespace Cert.Proof

open Idealize.ShloMosaic Idealize.SL.Sem

/-- The kernel runs, leaves its arguments and ends with every counter at zero. -/
theorem frame_kernel : Cert.quiescent_Kernel := fun m g _ => Cert.Kernel.Gen.frame m g

/-- So does its reading over the extended reals. -/
theorem frame_ideal : Cert.quiescent_KernelIdeal := fun m g _ => Cert.KernelIdeal.Gen.frame m g

/-- So does the reference. -/
theorem frame_reference : Cert.quiescent_ReferenceIdeal := by
  intro m g _
  refine (θ_run Cert.ReferenceIdeal.defs _ _).mono (fun r h => ⟨fun c => ?_, sem_eq_zero_of_no_sems (by decide) r.2⟩)
    (Cert.ReferenceIdeal.Value.run m g)
  obtain ⟨_, _, _, rest⟩ := h c
  exact rest

/-- The mask's constant is named minus infinity. -/
theorem preserves : Cert.preserves_Kernel_KernelIdeal :=
  IdealRules.named_const.statement Cert.KernelIdeal.κ "mask" .f32 0xF149F2CA#32 ⊥ rfl

/-- Over the extended reals the kernel's three gradients are the reference's. -/
theorem algebraic : Cert.algebraic_KernelIdeal_ReferenceIdeal := by
  intro m g m' g' _ hagree
  have H : ∀ c, Attn.Agree m c m' := fun c => by
    obtain ⟨h0, h1, h2, h3, h4, h5, h6, h7, h8⟩ := hagree c
    exact ⟨h0, h1, h2, h3, h4, h5, h6, h7, h8⟩
  refine ⟨fun c => (Cert.KernelIdeal.Gen.dats m 0 c).arrAt 16 Cert.KernelIdeal.cfg0.N,
    fun c => (Cert.KernelIdeal.Gen.dats m 0 c).arrAt 17 Cert.KernelIdeal.cfg0.N,
    fun c => (Cert.KernelIdeal.Gen.dats m 0 c).arrAt 18 Cert.KernelIdeal.cfg0.N, ?_, ?_⟩
  · exact Cert.KernelIdeal.Value.run_blocks m g
  · refine (θ_run Cert.ReferenceIdeal.defs _ _).mono (fun r h c => ?_) (Cert.ReferenceIdeal.Value.run m' g')
    obtain ⟨r0, r1, r2, rest⟩ := h c
    exact ⟨r0.trans (Attn.dq_eq (H c)).symm, r1.trans (Attn.dk_eq (H c)).symm, r2.trans (Attn.dv_eq (H c)).symm, rest⟩

theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.Wup.Gen.facts, Cert.WupIdeal.Gen.facts, Cert.WupRefIdeal.Gen.facts,
    Cert.In.Gen.facts, Cert.InIdeal.Gen.facts, Cert.InRefIdeal.Gen.facts,
    Cert.Win.Gen.facts, Cert.WinIdeal.Gen.facts, Cert.WinRefIdeal.Gen.facts,
    Cert.Wdown.Gen.facts, Cert.WdownIdeal.Gen.facts, Cert.WdownRefIdeal.Gen.facts,
    Cert.Wout.Gen.facts, Cert.WoutIdeal.Gen.facts, Cert.WoutRefIdeal.Gen.facts,
    Cert.Mid.Gen.facts, Cert.MidIdeal.Gen.facts, Cert.MidRefIdeal.Gen.facts,
    Cert.Out.Gen.facts, Cert.OutIdeal.Gen.facts, Cert.OutRefIdeal.Gen.facts,
    Cert.Proj.Gen.facts, Cert.ProjIdeal.Gen.facts, Cert.ProjRefIdeal.Gen.facts,
    Cert.Qb.Gen.facts, Cert.QbIdeal.Gen.facts, Cert.QbRefIdeal.Gen.facts,
    Cert.Kb.Gen.facts, Cert.KbIdeal.Gen.facts, Cert.KbRefIdeal.Gen.facts,
    Cert.Vb.Gen.facts, Cert.VbIdeal.Gen.facts, Cert.VbRefIdeal.Gen.facts,
    Cert.First.Gen.facts, Cert.FirstIdeal.Gen.facts, Cert.FirstRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.Small.Gen.facts, Cert.SmallIdeal.Gen.facts, Cert.SmallRefIdeal.Gen.facts,
    Cert.Vec.Gen.facts, Cert.VecIdeal.Gen.facts, Cert.VecRefIdeal.Gen.facts,
    Cert.Sums.Gen.facts, Cert.SumsIdeal.Gen.facts, Cert.SumsRefIdeal.Gen.facts,
    Cert.Steps.Gen.facts, Cert.StepsIdeal.Gen.facts, Cert.StepsRefIdeal.Gen.facts,
    Cert.PartIn.Gen.facts, Cert.PartInIdeal.Gen.facts, Cert.PartInRefIdeal.Gen.facts,
    Cert.PartOut.Gen.facts, Cert.PartOutIdeal.Gen.facts, Cert.PartOutRefIdeal.Gen.facts,
    Cert.PartUp.Gen.facts, Cert.PartUpIdeal.Gen.facts, Cert.PartUpRefIdeal.Gen.facts,
    Cert.PartDown.Gen.facts, Cert.PartDownIdeal.Gen.facts, Cert.PartDownRefIdeal.Gen.facts,
    Cert.Pre_finite_out.Gen.facts, Cert.Pre_finite_proj.Gen.facts, Cert.Pre_finite_qb.Gen.facts, Cert.Pre_finite_kb.Gen.facts,
    frame_kernel, frame_ideal, frame_reference,
    fun m g _ => Cert.Up.Gen.frame m g, fun m g _ => Cert.UpIdeal.Gen.frame m g, Cert.BackwardUp.frame_reference,
    fun m g _ => Cert.Wup.Gen.frame m g, fun m g _ => Cert.WupIdeal.Gen.frame m g, Cert.WeightUp.frame_reference,
    fun m g _ => Cert.In.Gen.frame m g, fun m g _ => Cert.InIdeal.Gen.frame m g, Cert.BackwardIn.frame_reference,
    fun m g _ => Cert.Win.Gen.frame m g, fun m g _ => Cert.WinIdeal.Gen.frame m g, Cert.WeightIn.frame_reference,
    fun m g _ => Cert.Wdown.Gen.frame m g, fun m g _ => Cert.WdownIdeal.Gen.frame m g, Cert.WeightDown.frame_reference,
    fun m g _ => Cert.Wout.Gen.frame m g, fun m g _ => Cert.WoutIdeal.Gen.frame m g, Cert.WeightOut.frame_reference,
    fun m g _ => Cert.Mid.Gen.frame m g, fun m g _ => Cert.MidIdeal.Gen.frame m g, Cert.Middle.frame_reference,
    fun m g _ => Cert.Out.Gen.frame m g, fun m g _ => Cert.OutIdeal.Gen.frame m g, fun m g _ => Cert.OutIdeal.Gen.frame m g,
    Cert.BackwardOut.frame_reference, fun m g _ => Cert.BackwardOut.frame_reference m g trivial,
    fun m g _ => Cert.Proj.Gen.frame m g, fun m g _ => Cert.ProjIdeal.Gen.frame m g, fun m g _ => Cert.ProjIdeal.Gen.frame m g,
    Cert.Projection.frame_reference, fun m g _ => Cert.Projection.frame_reference m g trivial,
    fun m g _ => Cert.Qb.Gen.frame m g, fun m g _ => Cert.QbIdeal.Gen.frame m g, fun m g _ => Cert.QbIdeal.Gen.frame m g,
    Cert.QueryNorm.frame_reference, fun m g _ => Cert.QueryNorm.frame_reference m g trivial,
    fun m g _ => Cert.Kb.Gen.frame m g, fun m g _ => Cert.KbIdeal.Gen.frame m g, fun m g _ => Cert.KbIdeal.Gen.frame m g,
    Cert.KeyNorm.frame_reference, fun m g _ => Cert.KeyNorm.frame_reference m g trivial,
    fun m g _ => Cert.Vb.Gen.frame m g, fun m g _ => Cert.VbIdeal.Gen.frame m g, Cert.ValueColumns.frame_reference,
    fun m g _ => Cert.First.Gen.frame m g, fun m g _ => Cert.FirstIdeal.Gen.frame m g, Cert.FirstNorm.frame_reference,
    fun m g _ => Cert.AdamIn.Gen.frame m g, fun m g _ => Cert.AdamInIdeal.Gen.frame m g, Cert.Optimiser.frame_in,
    fun m g _ => Cert.AdamOut.Gen.frame m g, fun m g _ => Cert.AdamOutIdeal.Gen.frame m g, Cert.Optimiser.frame_out,
    fun m g _ => Cert.AdamUp.Gen.frame m g, fun m g _ => Cert.AdamUpIdeal.Gen.frame m g, Cert.Optimiser.frame_up,
    fun m g _ => Cert.AdamDown.Gen.frame m g, fun m g _ => Cert.AdamDownIdeal.Gen.frame m g, Cert.Optimiser.frame_down,
    fun m g _ => Cert.Small.Gen.frame m g, fun m g _ => Cert.SmallIdeal.Gen.frame m g, Cert.Optimiser.frame_small,
    fun m g _ => Cert.Vec.Gen.frame m g, fun m g _ => Cert.VecIdeal.Gen.frame m g, Cert.Vector.frame_reference,
    fun m g _ => Cert.Sums.Gen.frame m g, fun m g _ => Cert.SumsIdeal.Gen.frame m g, Cert.SmallSums.frame_reference,
    fun m g _ => Cert.Steps.Gen.frame m g, fun m g _ => Cert.StepsIdeal.Gen.frame m g, Cert.SmallSteps.frame_reference,
    fun m g _ => Cert.PartIn.Gen.frame m g, fun m g _ => Cert.PartInIdeal.Gen.frame m g, Cert.Shards.frame_in,
    fun m g _ => Cert.PartOut.Gen.frame m g, fun m g _ => Cert.PartOutIdeal.Gen.frame m g, Cert.Shards.frame_out,
    fun m g _ => Cert.PartUp.Gen.frame m g, fun m g _ => Cert.PartUpIdeal.Gen.frame m g, Cert.Shards.frame_up,
    fun m g _ => Cert.PartDown.Gen.frame m g, fun m g _ => Cert.PartDownIdeal.Gen.frame m g, Cert.Shards.frame_down,
    preserves, algebraic,
    trivial, Cert.BackwardUp.algebraic,
    trivial, Cert.WeightUp.algebraic,
    trivial, Cert.BackwardIn.algebraic,
    trivial, Cert.WeightIn.algebraic,
    trivial, Cert.WeightDown.algebraic,
    trivial, Cert.WeightOut.algebraic,
    trivial, Cert.Middle.algebraic,
    trivial, Cert.BackwardOut.algebraic,
    trivial, Cert.Projection.algebraic,
    trivial, Cert.QueryNorm.algebraic,
    trivial, Cert.KeyNorm.algebraic,
    trivial, Cert.ValueColumns.algebraic,
    trivial, Cert.FirstNorm.algebraic,
    trivial, Cert.Optimiser.algebraic_in,
    trivial, Cert.Optimiser.algebraic_out,
    trivial, Cert.Optimiser.algebraic_up,
    trivial, Cert.Optimiser.algebraic_down,
    trivial, Cert.Optimiser.algebraic_small,
    trivial, Cert.Vector.algebraic,
    trivial, Cert.SmallSums.algebraic,
    trivial, Cert.SmallSteps.algebraic,
    trivial, Cert.Shards.algebraic_in,
    trivial, Cert.Shards.algebraic_out,
    trivial, Cert.Shards.algebraic_up,
    trivial, Cert.Shards.algebraic_down⟩

end Cert.Proof

end
